-- ==== Defs.lean ====
def Pre_KA (m : (ℓ : Loc Cert.KA.nD Cert.KA.τ Cert.KA.sig) → Buf (Elt Bits) ℓ) : Prop :=
  True

def Pre_KAIdeal (m : (ℓ : Loc Cert.KAIdeal.nD Cert.KAIdeal.τ Cert.KAIdeal.sig) → Buf (Elt Ideal) ℓ) : Prop :=
  True

def Pre_KAIdeal_finite [hPre_finite : Cert.Pre_finite.Facts] (m : (ℓ : Loc Cert.KAIdeal.nD Cert.KAIdeal.τ Cert.KAIdeal.sig) → Buf (Elt Ideal) ℓ) : Prop :=
  ∀ c : Dev Cert.KAIdeal.nD,
    (Cert.Pre_finite.fn (F := Ideal) (m ((c.tc : Thread Cert.KAIdeal.nD Cert.KAIdeal.τ).loc Cert.KAIdeal.main_arg0))) = (fun _ => 1#1)

def Pre_RAIdeal (m : (ℓ : Loc Cert.RAIdeal.nD Cert.RAIdeal.τ Cert.RAIdeal.sig) → Buf (Elt Ideal) ℓ) : Prop :=
  True

def Pre_RAIdeal_finite [hPre_finite : Cert.Pre_finite.Facts] (m : (ℓ : Loc Cert.RAIdeal.nD Cert.RAIdeal.τ Cert.RAIdeal.sig) → Buf (Elt Ideal) ℓ) : Prop :=
  ∀ c : Dev Cert.RAIdeal.nD,
    (Cert.Pre_finite.fn (F := Ideal) (m ((c.tc : Thread Cert.RAIdeal.nD Cert.RAIdeal.τ).loc Cert.RAIdeal.main_arg0))) = (fun _ => 1#1)

def Pre_KC (m : (ℓ : Loc Cert.KC.nD Cert.KC.τ Cert.KC.sig) → Buf (Elt Bits) ℓ) : Prop :=
  True

def Pre_KCIdeal (m : (ℓ : Loc Cert.KCIdeal.nD Cert.KCIdeal.τ Cert.KCIdeal.sig) → Buf (Elt Ideal) ℓ) : Prop :=
  True

def Pre_KCIdeal_finite_mid [hPre_finite_mid : Cert.Pre_finite_mid.Facts] (m : (ℓ : Loc Cert.KCIdeal.nD Cert.KCIdeal.τ Cert.KCIdeal.sig) → Buf (Elt Ideal) ℓ) : Prop :=
  ∀ c : Dev Cert.KCIdeal.nD,
    (Cert.Pre_finite_mid.fn (F := Ideal) (m ((c.tc : Thread Cert.KCIdeal.nD Cert.KCIdeal.τ).loc Cert.KCIdeal.main_arg0))) = (fun _ => 1#1)

def Pre_RCIdeal (m : (ℓ : Loc Cert.RCIdeal.nD Cert.RCIdeal.τ Cert.RCIdeal.sig) → Buf (Elt Ideal) ℓ) : Prop :=
  True

def Pre_RCIdeal_finite_mid [hPre_finite_mid : Cert.Pre_finite_mid.Facts] (m : (ℓ : Loc Cert.RCIdeal.nD Cert.RCIdeal.τ Cert.RCIdeal.sig) → Buf (Elt Ideal) ℓ) : Prop :=
  ∀ c : Dev Cert.RCIdeal.nD,
    (Cert.Pre_finite_mid.fn (F := Ideal) (m ((c.tc : Thread Cert.RCIdeal.nD Cert.RCIdeal.τ).loc Cert.RCIdeal.main_arg0))) = (fun _ => 1#1)

def Pre_KD (m : (ℓ : Loc Cert.KD.nD Cert.KD.τ Cert.KD.sig) → Buf (Elt Bits) ℓ) : Prop :=
  True

def Pre_KDIdeal (m : (ℓ : Loc Cert.KDIdeal.nD Cert.KDIdeal.τ Cert.KDIdeal.sig) → Buf (Elt Ideal) ℓ) : Prop :=
  True

def Pre_KDIdeal_finite_small [hPre_finite_small : Cert.Pre_finite_small.Facts] (m : (ℓ : Loc Cert.KDIdeal.nD Cert.KDIdeal.τ Cert.KDIdeal.sig) → Buf (Elt Ideal) ℓ) : Prop :=
  ∀ c : Dev Cert.KDIdeal.nD,
    (Cert.Pre_finite_small.fn (F := Ideal) (m ((c.tc : Thread Cert.KDIdeal.nD Cert.KDIdeal.τ).loc Cert.KDIdeal.main_arg0))) = (fun _ => 1#1)

def Pre_RDIdeal (m : (ℓ : Loc Cert.RDIdeal.nD Cert.RDIdeal.τ Cert.RDIdeal.sig) → Buf (Elt Ideal) ℓ) : Prop :=
  True

def Pre_RDIdeal_finite_small [hPre_finite_small : Cert.Pre_finite_small.Facts] (m : (ℓ : Loc Cert.RDIdeal.nD Cert.RDIdeal.τ Cert.RDIdeal.sig) → Buf (Elt Ideal) ℓ) : Prop :=
  ∀ c : Dev Cert.RDIdeal.nD,
    (Cert.Pre_finite_small.fn (F := Ideal) (m ((c.tc : Thread Cert.RDIdeal.nD Cert.RDIdeal.τ).loc Cert.RDIdeal.main_arg0))) = (fun _ => 1#1)

def Pre_KB (m : (ℓ : Loc Cert.KB.nD Cert.KB.τ Cert.KB.sig) → Buf (Elt Bits) ℓ) : Prop :=
  True

def Pre_KBIdeal (m : (ℓ : Loc Cert.KBIdeal.nD Cert.KBIdeal.τ Cert.KBIdeal.sig) → Buf (Elt Ideal) ℓ) : Prop :=
  True

def Pre_RBIdeal (m : (ℓ : Loc Cert.RBIdeal.nD Cert.RBIdeal.τ Cert.RBIdeal.sig) → Buf (Elt Ideal) ℓ) : Prop :=
  True

def quiescent_KA [hKA : Cert.KA.Facts] : Prop :=
  ∀ (m : (ℓ : Loc Cert.KA.nD Cert.KA.τ Cert.KA.sig) → Buf (Elt Bits) ℓ) (g : Dev Cert.KA.nD → PrngReg), Pre_KA m →
    θ_run (Cert.KA.defs (F := Bits)) (onTc (τ := Cert.KA.τ) (Cert.KA.main (F := Bits))) ⟨m, fun _ => 0, g⟩ (fun r => (∀ c : Dev Cert.KA.nD,
      r.2.mem ((c.tc : Thread Cert.KA.nD Cert.KA.τ).loc Cert.KA.main_arg0) = m ((c.tc : Thread Cert.KA.nD Cert.KA.τ).loc Cert.KA.main_arg0))
      ∧ r.2.sem = fun _ => 0)

def quiescent_KAIdeal [hKAIdeal : Cert.KAIdeal.Facts] : Prop :=
  ∀ (m : (ℓ : Loc Cert.KAIdeal.nD Cert.KAIdeal.τ Cert.KAIdeal.sig) → Buf (Elt Ideal) ℓ) (g : Dev Cert.KAIdeal.nD → PrngReg), Pre_KAIdeal m →
    θ_run (Cert.KAIdeal.defs (F := Ideal)) (onTc (τ := Cert.KAIdeal.τ) (Cert.KAIdeal.main (F := Ideal))) ⟨m, fun _ => 0, g⟩ (fun r => (∀ c : Dev Cert.KAIdeal.nD,
      r.2.mem ((c.tc : Thread Cert.KAIdeal.nD Cert.KAIdeal.τ).loc Cert.KAIdeal.main_arg0) = m ((c.tc : Thread Cert.KAIdeal.nD Cert.KAIdeal.τ).loc Cert.KAIdeal.main_arg0))
      ∧ r.2.sem = fun _ => 0)

def quiescent_KAIdeal_pre_finite [hKAIdeal : Cert.KAIdeal.Facts] [hPre_finite : Cert.Pre_finite.Facts] : Prop :=
  ∀ (m : (ℓ : Loc Cert.KAIdeal.nD Cert.KAIdeal.τ Cert.KAIdeal.sig) → Buf (Elt Ideal) ℓ) (g : Dev Cert.KAIdeal.nD → PrngReg), Pre_KAIdeal_finite m →
    θ_run (Cert.KAIdeal.defs (F := Ideal)) (onTc (τ := Cert.KAIdeal.τ) (Cert.KAIdeal.main (F := Ideal))) ⟨m, fun _ => 0, g⟩ (fun r => (∀ c : Dev Cert.KAIdeal.nD,
      r.2.mem ((c.tc : Thread Cert.KAIdeal.nD Cert.KAIdeal.τ).loc Cert.KAIdeal.main_arg0) = m ((c.tc : Thread Cert.KAIdeal.nD Cert.KAIdeal.τ).loc Cert.KAIdeal.main_arg0))
      ∧ r.2.sem = fun _ => 0)

def quiescent_RAIdeal [hRAIdeal : Cert.RAIdeal.Facts] : Prop :=
  ∀ (m : (ℓ : Loc Cert.RAIdeal.nD Cert.RAIdeal.τ Cert.RAIdeal.sig) → Buf (Elt Ideal) ℓ) (g : Dev Cert.RAIdeal.nD → PrngReg), Pre_RAIdeal m →
    θ_run (Cert.RAIdeal.defs (F := Ideal)) (onTc (τ := Cert.RAIdeal.τ) (Cert.RAIdeal.main (F := Ideal))) ⟨m, fun _ => 0, g⟩ (fun r => (∀ c : Dev Cert.RAIdeal.nD,
      r.2.mem ((c.tc : Thread Cert.RAIdeal.nD Cert.RAIdeal.τ).loc Cert.RAIdeal.main_arg0) = m ((c.tc : Thread Cert.RAIdeal.nD Cert.RAIdeal.τ).loc Cert.RAIdeal.main_arg0))
      ∧ r.2.sem = fun _ => 0)

def quiescent_RAIdeal_pre_finite [hRAIdeal : Cert.RAIdeal.Facts] [hPre_finite : Cert.Pre_finite.Facts] : Prop :=
  ∀ (m : (ℓ : Loc Cert.RAIdeal.nD Cert.RAIdeal.τ Cert.RAIdeal.sig) → Buf (Elt Ideal) ℓ) (g : Dev Cert.RAIdeal.nD → PrngReg), Pre_RAIdeal_finite m →
    θ_run (Cert.RAIdeal.defs (F := Ideal)) (onTc (τ := Cert.RAIdeal.τ) (Cert.RAIdeal.main (F := Ideal))) ⟨m, fun _ => 0, g⟩ (fun r => (∀ c : Dev Cert.RAIdeal.nD,
      r.2.mem ((c.tc : Thread Cert.RAIdeal.nD Cert.RAIdeal.τ).loc Cert.RAIdeal.main_arg0) = m ((c.tc : Thread Cert.RAIdeal.nD Cert.RAIdeal.τ).loc Cert.RAIdeal.main_arg0))
      ∧ r.2.sem = fun _ => 0)

def quiescent_KC [hKC : Cert.KC.Facts] : Prop :=
  ∀ (m : (ℓ : Loc Cert.KC.nD Cert.KC.τ Cert.KC.sig) → Buf (Elt Bits) ℓ) (g : Dev Cert.KC.nD → PrngReg), Pre_KC m →
    θ_run (Cert.KC.defs (F := Bits)) (onTc (τ := Cert.KC.τ) (Cert.KC.main (F := Bits))) ⟨m, fun _ => 0, g⟩ (fun r => (∀ c : Dev Cert.KC.nD,
      r.2.mem ((c.tc : Thread Cert.KC.nD Cert.KC.τ).loc Cert.KC.main_arg0) = m ((c.tc : Thread Cert.KC.nD Cert.KC.τ).loc Cert.KC.main_arg0))
      ∧ r.2.sem = fun _ => 0)

def quiescent_KCIdeal [hKCIdeal : Cert.KCIdeal.Facts] : Prop :=
  ∀ (m : (ℓ : Loc Cert.KCIdeal.nD Cert.KCIdeal.τ Cert.KCIdeal.sig) → Buf (Elt Ideal) ℓ) (g : Dev Cert.KCIdeal.nD → PrngReg), Pre_KCIdeal m →
    θ_run (Cert.KCIdeal.defs (F := Ideal)) (onTc (τ := Cert.KCIdeal.τ) (Cert.KCIdeal.main (F := Ideal))) ⟨m, fun _ => 0, g⟩ (fun r => (∀ c : Dev Cert.KCIdeal.nD,
      r.2.mem ((c.tc : Thread Cert.KCIdeal.nD Cert.KCIdeal.τ).loc Cert.KCIdeal.main_arg0) = m ((c.tc : Thread Cert.KCIdeal.nD Cert.KCIdeal.τ).loc Cert.KCIdeal.main_arg0))
      ∧ r.2.sem = fun _ => 0)

def quiescent_KCIdeal_pre_finite_mid [hKCIdeal : Cert.KCIdeal.Facts] [hPre_finite_mid : Cert.Pre_finite_mid.Facts] : Prop :=
  ∀ (m : (ℓ : Loc Cert.KCIdeal.nD Cert.KCIdeal.τ Cert.KCIdeal.sig) → Buf (Elt Ideal) ℓ) (g : Dev Cert.KCIdeal.nD → PrngReg), Pre_KCIdeal_finite_mid m →
    θ_run (Cert.KCIdeal.defs (F := Ideal)) (onTc (τ := Cert.KCIdeal.τ) (Cert.KCIdeal.main (F := Ideal))) ⟨m, fun _ => 0, g⟩ (fun r => (∀ c : Dev Cert.KCIdeal.nD,
      r.2.mem ((c.tc : Thread Cert.KCIdeal.nD Cert.KCIdeal.τ).loc Cert.KCIdeal.main_arg0) = m ((c.tc : Thread Cert.KCIdeal.nD Cert.KCIdeal.τ).loc Cert.KCIdeal.main_arg0))
      ∧ r.2.sem = fun _ => 0)

def quiescent_RCIdeal [hRCIdeal : Cert.RCIdeal.Facts] : Prop :=
  ∀ (m : (ℓ : Loc Cert.RCIdeal.nD Cert.RCIdeal.τ Cert.RCIdeal.sig) → Buf (Elt Ideal) ℓ) (g : Dev Cert.RCIdeal.nD → PrngReg), Pre_RCIdeal m →
    θ_run (Cert.RCIdeal.defs (F := Ideal)) (onTc (τ := Cert.RCIdeal.τ) (Cert.RCIdeal.main (F := Ideal))) ⟨m, fun _ => 0, g⟩ (fun r => (∀ c : Dev Cert.RCIdeal.nD,
      r.2.mem ((c.tc : Thread Cert.RCIdeal.nD Cert.RCIdeal.τ).loc Cert.RCIdeal.main_arg0) = m ((c.tc : Thread Cert.RCIdeal.nD Cert.RCIdeal.τ).loc Cert.RCIdeal.main_arg0))
      ∧ r.2.sem = fun _ => 0)

def quiescent_RCIdeal_pre_finite_mid [hRCIdeal : Cert.RCIdeal.Facts] [hPre_finite_mid : Cert.Pre_finite_mid.Facts] : Prop :=
  ∀ (m : (ℓ : Loc Cert.RCIdeal.nD Cert.RCIdeal.τ Cert.RCIdeal.sig) → Buf (Elt Ideal) ℓ) (g : Dev Cert.RCIdeal.nD → PrngReg), Pre_RCIdeal_finite_mid m →
    θ_run (Cert.RCIdeal.defs (F := Ideal)) (onTc (τ := Cert.RCIdeal.τ) (Cert.RCIdeal.main (F := Ideal))) ⟨m, fun _ => 0, g⟩ (fun r => (∀ c : Dev Cert.RCIdeal.nD,
      r.2.mem ((c.tc : Thread Cert.RCIdeal.nD Cert.RCIdeal.τ).loc Cert.RCIdeal.main_arg0) = m ((c.tc : Thread Cert.RCIdeal.nD Cert.RCIdeal.τ).loc Cert.RCIdeal.main_arg0))
      ∧ r.2.sem = fun _ => 0)

def quiescent_KD [hKD : Cert.KD.Facts] : Prop :=
  ∀ (m : (ℓ : Loc Cert.KD.nD Cert.KD.τ Cert.KD.sig) → Buf (Elt Bits) ℓ) (g : Dev Cert.KD.nD → PrngReg), Pre_KD m →
    θ_run (Cert.KD.defs (F := Bits)) (onTc (τ := Cert.KD.τ) (Cert.KD.main (F := Bits))) ⟨m, fun _ => 0, g⟩ (fun r => (∀ c : Dev Cert.KD.nD,
      r.2.mem ((c.tc : Thread Cert.KD.nD Cert.KD.τ).loc Cert.KD.main_arg0) = m ((c.tc : Thread Cert.KD.nD Cert.KD.τ).loc Cert.KD.main_arg0))
      ∧ r.2.sem = fun _ => 0)

def quiescent_KDIdeal [hKDIdeal : Cert.KDIdeal.Facts] : Prop :=
  ∀ (m : (ℓ : Loc Cert.KDIdeal.nD Cert.KDIdeal.τ Cert.KDIdeal.sig) → Buf (Elt Ideal) ℓ) (g : Dev Cert.KDIdeal.nD → PrngReg), Pre_KDIdeal m →
    θ_run (Cert.KDIdeal.defs (F := Ideal)) (onTc (τ := Cert.KDIdeal.τ) (Cert.KDIdeal.main (F := Ideal))) ⟨m, fun _ => 0, g⟩ (fun r => (∀ c : Dev Cert.KDIdeal.nD,
      r.2.mem ((c.tc : Thread Cert.KDIdeal.nD Cert.KDIdeal.τ).loc Cert.KDIdeal.main_arg0) = m ((c.tc : Thread Cert.KDIdeal.nD Cert.KDIdeal.τ).loc Cert.KDIdeal.main_arg0))
      ∧ r.2.sem = fun _ => 0)

def quiescent_KDIdeal_pre_finite_small [hKDIdeal : Cert.KDIdeal.Facts] [hPre_finite_small : Cert.Pre_finite_small.Facts] : Prop :=
  ∀ (m : (ℓ : Loc Cert.KDIdeal.nD Cert.KDIdeal.τ Cert.KDIdeal.sig) → Buf (Elt Ideal) ℓ) (g : Dev Cert.KDIdeal.nD → PrngReg), Pre_KDIdeal_finite_small m →
    θ_run (Cert.KDIdeal.defs (F := Ideal)) (onTc (τ := Cert.KDIdeal.τ) (Cert.KDIdeal.main (F := Ideal))) ⟨m, fun _ => 0, g⟩ (fun r => (∀ c : Dev Cert.KDIdeal.nD,
      r.2.mem ((c.tc : Thread Cert.KDIdeal.nD Cert.KDIdeal.τ).loc Cert.KDIdeal.main_arg0) = m ((c.tc : Thread Cert.KDIdeal.nD Cert.KDIdeal.τ).loc Cert.KDIdeal.main_arg0))
      ∧ r.2.sem = fun _ => 0)

def quiescent_RDIdeal [hRDIdeal : Cert.RDIdeal.Facts] : Prop :=
  ∀ (m : (ℓ : Loc Cert.RDIdeal.nD Cert.RDIdeal.τ Cert.RDIdeal.sig) → Buf (Elt Ideal) ℓ) (g : Dev Cert.RDIdeal.nD → PrngReg), Pre_RDIdeal m →
    θ_run (Cert.RDIdeal.defs (F := Ideal)) (onTc (τ := Cert.RDIdeal.τ) (Cert.RDIdeal.main (F := Ideal))) ⟨m, fun _ => 0, g⟩ (fun r => (∀ c : Dev Cert.RDIdeal.nD,
      r.2.mem ((c.tc : Thread Cert.RDIdeal.nD Cert.RDIdeal.τ).loc Cert.RDIdeal.main_arg0) = m ((c.tc : Thread Cert.RDIdeal.nD Cert.RDIdeal.τ).loc Cert.RDIdeal.main_arg0))
      ∧ r.2.sem = fun _ => 0)

def quiescent_RDIdeal_pre_finite_small [hRDIdeal : Cert.RDIdeal.Facts] [hPre_finite_small : Cert.Pre_finite_small.Facts] : Prop :=
  ∀ (m : (ℓ : Loc Cert.RDIdeal.nD Cert.RDIdeal.τ Cert.RDIdeal.sig) → Buf (Elt Ideal) ℓ) (g : Dev Cert.RDIdeal.nD → PrngReg), Pre_RDIdeal_finite_small m →
    θ_run (Cert.RDIdeal.defs (F := Ideal)) (onTc (τ := Cert.RDIdeal.τ) (Cert.RDIdeal.main (F := Ideal))) ⟨m, fun _ => 0, g⟩ (fun r => (∀ c : Dev Cert.RDIdeal.nD,
      r.2.mem ((c.tc : Thread Cert.RDIdeal.nD Cert.RDIdeal.τ).loc Cert.RDIdeal.main_arg0) = m ((c.tc : Thread Cert.RDIdeal.nD Cert.RDIdeal.τ).loc Cert.RDIdeal.main_arg0))
      ∧ r.2.sem = fun _ => 0)

def quiescent_KB [hKB : Cert.KB.Facts] : Prop :=
  ∀ (m : (ℓ : Loc Cert.KB.nD Cert.KB.τ Cert.KB.sig) → Buf (Elt Bits) ℓ) (g : Dev Cert.KB.nD → PrngReg), Pre_KB m →
    θ_run (Cert.KB.defs (F := Bits)) (onTc (τ := Cert.KB.τ) (Cert.KB.main (F := Bits))) ⟨m, fun _ => 0, g⟩ (fun r => (∀ c : Dev Cert.KB.nD,
      r.2.mem ((c.tc : Thread Cert.KB.nD Cert.KB.τ).loc Cert.KB.main_arg0) = m ((c.tc : Thread Cert.KB.nD Cert.KB.τ).loc Cert.KB.main_arg0)
      ∧ r.2.mem ((c.tc : Thread Cert.KB.nD Cert.KB.τ).loc Cert.KB.main_arg1) = m ((c.tc : Thread Cert.KB.nD Cert.KB.τ).loc Cert.KB.main_arg1)
      ∧ r.2.mem ((c.tc : Thread Cert.KB.nD Cert.KB.τ).loc Cert.KB.main_arg2) = m ((c.tc : Thread Cert.KB.nD Cert.KB.τ).loc Cert.KB.main_arg2)
      ∧ r.2.mem ((c.tc : Thread Cert.KB.nD Cert.KB.τ).loc Cert.KB.main_arg3) = m ((c.tc : Thread Cert.KB.nD Cert.KB.τ).loc Cert.KB.main_arg3)
      ∧ r.2.mem ((c.tc : Thread Cert.KB.nD Cert.KB.τ).loc Cert.KB.main_arg4) = m ((c.tc : Thread Cert.KB.nD Cert.KB.τ).loc Cert.KB.main_arg4)
      ∧ r.2.mem ((c.tc : Thread Cert.KB.nD Cert.KB.τ).loc Cert.KB.main_arg5) = m ((c.tc : Thread Cert.KB.nD Cert.KB.τ).loc Cert.KB.main_arg5)
      ∧ r.2.mem ((c.tc : Thread Cert.KB.nD Cert.KB.τ).loc Cert.KB.main_arg6) = m ((c.tc : Thread Cert.KB.nD Cert.KB.τ).loc Cert.KB.main_arg6)
      ∧ r.2.mem ((c.tc : Thread Cert.KB.nD Cert.KB.τ).loc Cert.KB.main_arg7) = m ((c.tc : Thread Cert.KB.nD Cert.KB.τ).loc Cert.KB.main_arg7)
      ∧ r.2.mem ((c.tc : Thread Cert.KB.nD Cert.KB.τ).loc Cert.KB.main_arg8) = m ((c.tc : Thread Cert.KB.nD Cert.KB.τ).loc Cert.KB.main_arg8)
      ∧ r.2.mem ((c.tc : Thread Cert.KB.nD Cert.KB.τ).loc Cert.KB.main_arg9) = m ((c.tc : Thread Cert.KB.nD Cert.KB.τ).loc Cert.KB.main_arg9)
      ∧ r.2.mem ((c.tc : Thread Cert.KB.nD Cert.KB.τ).loc Cert.KB.main_arg10) = m ((c.tc : Thread Cert.KB.nD Cert.KB.τ).loc Cert.KB.main_arg10)
      ∧ r.2.mem ((c.tc : Thread Cert.KB.nD Cert.KB.τ).loc Cert.KB.main_arg11) = m ((c.tc : Thread Cert.KB.nD Cert.KB.τ).loc Cert.KB.main_arg11)
      ∧ r.2.mem ((c.tc : Thread Cert.KB.nD Cert.KB.τ).loc Cert.KB.main_arg12) = m ((c.tc : Thread Cert.KB.nD Cert.KB.τ).loc Cert.KB.main_arg12)
      ∧ r.2.mem ((c.tc : Thread Cert.KB.nD Cert.KB.τ).loc Cert.KB.main_arg13) = m ((c.tc : Thread Cert.KB.nD Cert.KB.τ).loc Cert.KB.main_arg13))
      ∧ r.2.sem = fun _ => 0)

def quiescent_KBIdeal [hKBIdeal : Cert.KBIdeal.Facts] : Prop :=
  ∀ (m : (ℓ : Loc Cert.KBIdeal.nD Cert.KBIdeal.τ Cert.KBIdeal.sig) → Buf (Elt Ideal) ℓ) (g : Dev Cert.KBIdeal.nD → PrngReg), Pre_KBIdeal m →
    θ_run (Cert.KBIdeal.defs (F := Ideal)) (onTc (τ := Cert.KBIdeal.τ) (Cert.KBIdeal.main (F := Ideal))) ⟨m, fun _ => 0, g⟩ (fun r => (∀ c : Dev Cert.KBIdeal.nD,
      r.2.mem ((c.tc : Thread Cert.KBIdeal.nD Cert.KBIdeal.τ).loc Cert.KBIdeal.main_arg0) = m ((c.tc : Thread Cert.KBIdeal.nD Cert.KBIdeal.τ).loc Cert.KBIdeal.main_arg0)
      ∧ r.2.mem ((c.tc : Thread Cert.KBIdeal.nD Cert.KBIdeal.τ).loc Cert.KBIdeal.main_arg1) = m ((c.tc : Thread Cert.KBIdeal.nD Cert.KBIdeal.τ).loc Cert.KBIdeal.main_arg1)
      ∧ r.2.mem ((c.tc : Thread Cert.KBIdeal.nD Cert.KBIdeal.τ).loc Cert.KBIdeal.main_arg2) = m ((c.tc : Thread Cert.KBIdeal.nD Cert.KBIdeal.τ).loc Cert.KBIdeal.main_arg2)
      ∧ r.2.mem ((c.tc : Thread Cert.KBIdeal.nD Cert.KBIdeal.τ).loc Cert.KBIdeal.main_arg3) = m ((c.tc : Thread Cert.KBIdeal.nD Cert.KBIdeal.τ).loc Cert.KBIdeal.main_arg3)
      ∧ r.2.mem ((c.tc : Thread Cert.KBIdeal.nD Cert.KBIdeal.τ).loc Cert.KBIdeal.main_arg4) = m ((c.tc : Thread Cert.KBIdeal.nD Cert.KBIdeal.τ).loc Cert.KBIdeal.main_arg4)
      ∧ r.2.mem ((c.tc : Thread Cert.KBIdeal.nD Cert.KBIdeal.τ).loc Cert.KBIdeal.main_arg5) = m ((c.tc : Thread Cert.KBIdeal.nD Cert.KBIdeal.τ).loc Cert.KBIdeal.main_arg5)
      ∧ r.2.mem ((c.tc : Thread Cert.KBIdeal.nD Cert.KBIdeal.τ).loc Cert.KBIdeal.main_arg6) = m ((c.tc : Thread Cert.KBIdeal.nD Cert.KBIdeal.τ).loc Cert.KBIdeal.main_arg6)
      ∧ r.2.mem ((c.tc : Thread Cert.KBIdeal.nD Cert.KBIdeal.τ).loc Cert.KBIdeal.main_arg7) = m ((c.tc : Thread Cert.KBIdeal.nD Cert.KBIdeal.τ).loc Cert.KBIdeal.main_arg7)
      ∧ r.2.mem ((c.tc : Thread Cert.KBIdeal.nD Cert.KBIdeal.τ).loc Cert.KBIdeal.main_arg8) = m ((c.tc : Thread Cert.KBIdeal.nD Cert.KBIdeal.τ).loc Cert.KBIdeal.main_arg8)
      ∧ r.2.mem ((c.tc : Thread Cert.KBIdeal.nD Cert.KBIdeal.τ).loc Cert.KBIdeal.main_arg9) = m ((c.tc : Thread Cert.KBIdeal.nD Cert.KBIdeal.τ).loc Cert.KBIdeal.main_arg9)
      ∧ r.2.mem ((c.tc : Thread Cert.KBIdeal.nD Cert.KBIdeal.τ).loc Cert.KBIdeal.main_arg10) = m ((c.tc : Thread Cert.KBIdeal.nD Cert.KBIdeal.τ).loc Cert.KBIdeal.main_arg10)
      ∧ r.2.mem ((c.tc : Thread Cert.KBIdeal.nD Cert.KBIdeal.τ).loc Cert.KBIdeal.main_arg11) = m ((c.tc : Thread Cert.KBIdeal.nD Cert.KBIdeal.τ).loc Cert.KBIdeal.main_arg11)
      ∧ r.2.mem ((c.tc : Thread Cert.KBIdeal.nD Cert.KBIdeal.τ).loc Cert.KBIdeal.main_arg12) = m ((c.tc : Thread Cert.KBIdeal.nD Cert.KBIdeal.τ).loc Cert.KBIdeal.main_arg12)
      ∧ r.2.mem ((c.tc : Thread Cert.KBIdeal.nD Cert.KBIdeal.τ).loc Cert.KBIdeal.main_arg13) = m ((c.tc : Thread Cert.KBIdeal.nD Cert.KBIdeal.τ).loc Cert.KBIdeal.main_arg13))
      ∧ r.2.sem = fun _ => 0)

def quiescent_RBIdeal [hRBIdeal : Cert.RBIdeal.Facts] : Prop :=
  ∀ (m : (ℓ : Loc Cert.RBIdeal.nD Cert.RBIdeal.τ Cert.RBIdeal.sig) → Buf (Elt Ideal) ℓ) (g : Dev Cert.RBIdeal.nD → PrngReg), Pre_RBIdeal m →
    θ_run (Cert.RBIdeal.defs (F := Ideal)) (onTc (τ := Cert.RBIdeal.τ) (Cert.RBIdeal.main (F := Ideal))) ⟨m, fun _ => 0, g⟩ (fun r => (∀ c : Dev Cert.RBIdeal.nD,
      r.2.mem ((c.tc : Thread Cert.RBIdeal.nD Cert.RBIdeal.τ).loc Cert.RBIdeal.main_arg0) = m ((c.tc : Thread Cert.RBIdeal.nD Cert.RBIdeal.τ).loc Cert.RBIdeal.main_arg0)
      ∧ r.2.mem ((c.tc : Thread Cert.RBIdeal.nD Cert.RBIdeal.τ).loc Cert.RBIdeal.main_arg1) = m ((c.tc : Thread Cert.RBIdeal.nD Cert.RBIdeal.τ).loc Cert.RBIdeal.main_arg1)
      ∧ r.2.mem ((c.tc : Thread Cert.RBIdeal.nD Cert.RBIdeal.τ).loc Cert.RBIdeal.main_arg2) = m ((c.tc : Thread Cert.RBIdeal.nD Cert.RBIdeal.τ).loc Cert.RBIdeal.main_arg2)
      ∧ r.2.mem ((c.tc : Thread Cert.RBIdeal.nD Cert.RBIdeal.τ).loc Cert.RBIdeal.main_arg3) = m ((c.tc : Thread Cert.RBIdeal.nD Cert.RBIdeal.τ).loc Cert.RBIdeal.main_arg3)
      ∧ r.2.mem ((c.tc : Thread Cert.RBIdeal.nD Cert.RBIdeal.τ).loc Cert.RBIdeal.main_arg4) = m ((c.tc : Thread Cert.RBIdeal.nD Cert.RBIdeal.τ).loc Cert.RBIdeal.main_arg4)
      ∧ r.2.mem ((c.tc : Thread Cert.RBIdeal.nD Cert.RBIdeal.τ).loc Cert.RBIdeal.main_arg5) = m ((c.tc : Thread Cert.RBIdeal.nD Cert.RBIdeal.τ).loc Cert.RBIdeal.main_arg5)
      ∧ r.2.mem ((c.tc : Thread Cert.RBIdeal.nD Cert.RBIdeal.τ).loc Cert.RBIdeal.main_arg6) = m ((c.tc : Thread Cert.RBIdeal.nD Cert.RBIdeal.τ).loc Cert.RBIdeal.main_arg6)
      ∧ r.2.mem ((c.tc : Thread Cert.RBIdeal.nD Cert.RBIdeal.τ).loc Cert.RBIdeal.main_arg7) = m ((c.tc : Thread Cert.RBIdeal.nD Cert.RBIdeal.τ).loc Cert.RBIdeal.main_arg7)
      ∧ r.2.mem ((c.tc : Thread Cert.RBIdeal.nD Cert.RBIdeal.τ).loc Cert.RBIdeal.main_arg8) = m ((c.tc : Thread Cert.RBIdeal.nD Cert.RBIdeal.τ).loc Cert.RBIdeal.main_arg8)
      ∧ r.2.mem ((c.tc : Thread Cert.RBIdeal.nD Cert.RBIdeal.τ).loc Cert.RBIdeal.main_arg9) = m ((c.tc : Thread Cert.RBIdeal.nD Cert.RBIdeal.τ).loc Cert.RBIdeal.main_arg9)
      ∧ r.2.mem ((c.tc : Thread Cert.RBIdeal.nD Cert.RBIdeal.τ).loc Cert.RBIdeal.main_arg10) = m ((c.tc : Thread Cert.RBIdeal.nD Cert.RBIdeal.τ).loc Cert.RBIdeal.main_arg10)
      ∧ r.2.mem ((c.tc : Thread Cert.RBIdeal.nD Cert.RBIdeal.τ).loc Cert.RBIdeal.main_arg11) = m ((c.tc : Thread Cert.RBIdeal.nD Cert.RBIdeal.τ).loc Cert.RBIdeal.main_arg11)
      ∧ r.2.mem ((c.tc : Thread Cert.RBIdeal.nD Cert.RBIdeal.τ).loc Cert.RBIdeal.main_arg12) = m ((c.tc : Thread Cert.RBIdeal.nD Cert.RBIdeal.τ).loc Cert.RBIdeal.main_arg12)
      ∧ r.2.mem ((c.tc : Thread Cert.RBIdeal.nD Cert.RBIdeal.τ).loc Cert.RBIdeal.main_arg13) = m ((c.tc : Thread Cert.RBIdeal.nD Cert.RBIdeal.τ).loc Cert.RBIdeal.main_arg13))
      ∧ r.2.sem = fun _ => 0)

def preserves_KA_KAIdeal : Prop :=
  IdealRules.named_const.Statement Cert.KAIdeal.κ "sixth_1" .f32 0x3E2AAAAB#32 ((1 / 6 : ℝ) : EReal)
  ∧ IdealRules.named_const.Statement Cert.KAIdeal.κ "sixth_2" .f32 0x3EAAAAAB#32 ((1 / 3 : ℝ) : EReal)
  ∧ IdealRules.named_const.Statement Cert.KAIdeal.κ "sixth_4" .f32 0x3F2AAAAB#32 ((2 / 3 : ℝ) : EReal)
  ∧ IdealRules.named_const.Statement Cert.KAIdeal.κ "sixth_5" .f32 0x3F555555#32 ((5 / 6 : ℝ) : EReal)
  ∧ IdealRules.named_const.Statement Cert.KAIdeal.κ "pick_2" .f32 0x3AAAAAAB#32 ((1 / 768 : ℝ) : EReal)
  ∧ IdealRules.named_const.Statement Cert.KAIdeal.κ "pick_4" .f32 0x3B2AAAAB#32 ((1 / 384 : ℝ) : EReal)
  ∧ IdealRules.named_const.Statement Cert.KAIdeal.κ "pick_5" .f32 0x3B555555#32 ((5 / 1536 : ℝ) : EReal)

def algebraic_KAIdeal_RAIdeal_on_interior_and_corner_KAIdeal_pre_finite [hKAIdeal : Cert.KAIdeal.Facts] [hRAIdeal : Cert.RAIdeal.Facts] [hPre_finite : Cert.Pre_finite.Facts] [hOn_interior_and_corner_KAIdeal : Cert.On_interior_and_corner_KAIdeal.Facts] : Prop :=
  ∀ (m : (ℓ : Loc Cert.KAIdeal.nD Cert.KAIdeal.τ Cert.KAIdeal.sig) → Buf (Elt Ideal) ℓ) (g : Dev Cert.KAIdeal.nD → PrngReg)
    (m' : (ℓ : Loc Cert.RAIdeal.nD Cert.RAIdeal.τ Cert.RAIdeal.sig) → Buf (Elt Ideal) ℓ) (g' : Dev Cert.RAIdeal.nD → PrngReg), Pre_KAIdeal_finite m →
    (∀ c : Dev Cert.KAIdeal.nD,
      m' ((c.tc : Thread Cert.RAIdeal.nD Cert.RAIdeal.τ).loc Cert.RAIdeal.main_arg0) = m ((c.tc : Thread Cert.KAIdeal.nD Cert.KAIdeal.τ).loc Cert.KAIdeal.main_arg0)) →
    ∃ (v0 : (c : Dev Cert.KAIdeal.nD) → Buf (Elt Ideal) ((c.tc : Thread Cert.KAIdeal.nD Cert.KAIdeal.τ).loc Cert.KAIdeal.main_v0_0)) (v1 : (c : Dev Cert.KAIdeal.nD) → Buf (Elt Ideal) ((c.tc : Thread Cert.KAIdeal.nD Cert.KAIdeal.τ).loc Cert.KAIdeal.main_v0_1)),
      θ_run (Cert.KAIdeal.defs (F := Ideal)) (onTc (τ := Cert.KAIdeal.τ) (Cert.KAIdeal.main (F := Ideal))) ⟨m, fun _ => 0, g⟩ (fun r => ∀ c : Dev Cert.KAIdeal.nD,
          (∀ i : (⟨2, ![256, 256]⟩ : Shape).Idx, (Cert.On_interior_and_corner_KAIdeal.fn (F := Ideal) (m ((c.tc : Thread Cert.KAIdeal.nD Cert.KAIdeal.τ).loc Cert.KAIdeal.main_arg0))).1 i = 1#1 → r.2.mem ((c.tc : Thread Cert.KAIdeal.nD Cert.KAIdeal.τ).loc Cert.KAIdeal.main_v0_0) i = v0 c i)
          ∧ (∀ i : (⟨2, ![1, 1]⟩ : Shape).Idx, (Cert.On_interior_and_corner_KAIdeal.fn (F := Ideal) (m ((c.tc : Thread Cert.KAIdeal.nD Cert.KAIdeal.τ).loc Cert.KAIdeal.main_arg0))).2 i = 1#1 → r.2.mem ((c.tc : Thread Cert.KAIdeal.nD Cert.KAIdeal.τ).loc Cert.KAIdeal.main_v0_1) i = v1 c i)
          ∧ r.2.mem ((c.tc : Thread Cert.KAIdeal.nD Cert.KAIdeal.τ).loc Cert.KAIdeal.main_arg0) = m ((c.tc : Thread Cert.KAIdeal.nD Cert.KAIdeal.τ).loc Cert.KAIdeal.main_arg0))
      ∧ θ_run (Cert.RAIdeal.defs (F := Ideal)) (onTc (τ := Cert.RAIdeal.τ) (Cert.RAIdeal.main (F := Ideal))) ⟨m', fun _ => 0, g'⟩ (fun r => ∀ c : Dev Cert.RAIdeal.nD,
          (∀ i : (⟨2, ![256, 256]⟩ : Shape).Idx, (Cert.On_interior_and_corner_KAIdeal.fn (F := Ideal) (m ((c.tc : Thread Cert.KAIdeal.nD Cert.KAIdeal.τ).loc Cert.KAIdeal.main_arg0))).1 i = 1#1 → r.2.mem ((c.tc : Thread Cert.RAIdeal.nD Cert.RAIdeal.τ).loc Cert.RAIdeal.main_v172) i = v0 c i)
          ∧ (∀ i : (⟨2, ![1, 1]⟩ : Shape).Idx, (Cert.On_interior_and_corner_KAIdeal.fn (F := Ideal) (m ((c.tc : Thread Cert.KAIdeal.nD Cert.KAIdeal.τ).loc Cert.KAIdeal.main_arg0))).2 i = 1#1 → r.2.mem ((c.tc : Thread Cert.RAIdeal.nD Cert.RAIdeal.τ).loc Cert.RAIdeal.main_v173) i = v1 c i)
          ∧ r.2.mem ((c.tc : Thread Cert.RAIdeal.nD Cert.RAIdeal.τ).loc Cert.RAIdeal.main_arg0) = m' ((c.tc : Thread Cert.RAIdeal.nD Cert.RAIdeal.τ).loc Cert.RAIdeal.main_arg0))

def preserves_KC_KCIdeal : Prop :=
  IdealRules.named_const.Statement Cert.KCIdeal.κ "sixth_1" .f32 0x3E2AAAAB#32 ((1 / 6 : ℝ) : EReal)
  ∧ IdealRules.named_const.Statement Cert.KCIdeal.κ "sixth_2" .f32 0x3EAAAAAB#32 ((1 / 3 : ℝ) : EReal)
  ∧ IdealRules.named_const.Statement Cert.KCIdeal.κ "sixth_4" .f32 0x3F2AAAAB#32 ((2 / 3 : ℝ) : EReal)
  ∧ IdealRules.named_const.Statement Cert.KCIdeal.κ "sixth_5" .f32 0x3F555555#32 ((5 / 6 : ℝ) : EReal)
  ∧ IdealRules.named_const.Statement Cert.KCIdeal.κ "pick_2" .f32 0x3AAAAAAB#32 ((1 / 768 : ℝ) : EReal)
  ∧ IdealRules.named_const.Statement Cert.KCIdeal.κ "pick_4" .f32 0x3B2AAAAB#32 ((1 / 384 : ℝ) : EReal)
  ∧ IdealRules.named_const.Statement Cert.KCIdeal.κ "pick_5" .f32 0x3B555555#32 ((5 / 1536 : ℝ) : EReal)

def algebraic_KCIdeal_RCIdeal_on_interior_and_corner_KCIdeal_pre_finite_mid [hKCIdeal : Cert.KCIdeal.Facts] [hRCIdeal : Cert.RCIdeal.Facts] [hPre_finite_mid : Cert.Pre_finite_mid.Facts] [hOn_interior_and_corner_KCIdeal : Cert.On_interior_and_corner_KCIdeal.Facts] : Prop :=
  ∀ (m : (ℓ : Loc Cert.KCIdeal.nD Cert.KCIdeal.τ Cert.KCIdeal.sig) → Buf (Elt Ideal) ℓ) (g : Dev Cert.KCIdeal.nD → PrngReg)
    (m' : (ℓ : Loc Cert.RCIdeal.nD Cert.RCIdeal.τ Cert.RCIdeal.sig) → Buf (Elt Ideal) ℓ) (g' : Dev Cert.RCIdeal.nD → PrngReg), Pre_KCIdeal_finite_mid m →
    (∀ c : Dev Cert.KCIdeal.nD,
      m' ((c.tc : Thread Cert.RCIdeal.nD Cert.RCIdeal.τ).loc Cert.RCIdeal.main_arg0) = m ((c.tc : Thread Cert.KCIdeal.nD Cert.KCIdeal.τ).loc Cert.KCIdeal.main_arg0)) →
    ∃ (v0 : (c : Dev Cert.KCIdeal.nD) → Buf (Elt Ideal) ((c.tc : Thread Cert.KCIdeal.nD Cert.KCIdeal.τ).loc Cert.KCIdeal.main_v0_0)) (v1 : (c : Dev Cert.KCIdeal.nD) → Buf (Elt Ideal) ((c.tc : Thread Cert.KCIdeal.nD Cert.KCIdeal.τ).loc Cert.KCIdeal.main_v0_1)),
      θ_run (Cert.KCIdeal.defs (F := Ideal)) (onTc (τ := Cert.KCIdeal.τ) (Cert.KCIdeal.main (F := Ideal))) ⟨m, fun _ => 0, g⟩ (fun r => ∀ c : Dev Cert.KCIdeal.nD,
          (∀ i : (⟨2, ![128, 128]⟩ : Shape).Idx, (Cert.On_interior_and_corner_KCIdeal.fn (F := Ideal) (m ((c.tc : Thread Cert.KCIdeal.nD Cert.KCIdeal.τ).loc Cert.KCIdeal.main_arg0))).1 i = 1#1 → r.2.mem ((c.tc : Thread Cert.KCIdeal.nD Cert.KCIdeal.τ).loc Cert.KCIdeal.main_v0_0) i = v0 c i)
          ∧ (∀ i : (⟨2, ![1, 1]⟩ : Shape).Idx, (Cert.On_interior_and_corner_KCIdeal.fn (F := Ideal) (m ((c.tc : Thread Cert.KCIdeal.nD Cert.KCIdeal.τ).loc Cert.KCIdeal.main_arg0))).2 i = 1#1 → r.2.mem ((c.tc : Thread Cert.KCIdeal.nD Cert.KCIdeal.τ).loc Cert.KCIdeal.main_v0_1) i = v1 c i)
          ∧ r.2.mem ((c.tc : Thread Cert.KCIdeal.nD Cert.KCIdeal.τ).loc Cert.KCIdeal.main_arg0) = m ((c.tc : Thread Cert.KCIdeal.nD Cert.KCIdeal.τ).loc Cert.KCIdeal.main_arg0))
      ∧ θ_run (Cert.RCIdeal.defs (F := Ideal)) (onTc (τ := Cert.RCIdeal.τ) (Cert.RCIdeal.main (F := Ideal))) ⟨m', fun _ => 0, g'⟩ (fun r => ∀ c : Dev Cert.RCIdeal.nD,
          (∀ i : (⟨2, ![128, 128]⟩ : Shape).Idx, (Cert.On_interior_and_corner_KCIdeal.fn (F := Ideal) (m ((c.tc : Thread Cert.KCIdeal.nD Cert.KCIdeal.τ).loc Cert.KCIdeal.main_arg0))).1 i = 1#1 → r.2.mem ((c.tc : Thread Cert.RCIdeal.nD Cert.RCIdeal.τ).loc Cert.RCIdeal.main_v172) i = v0 c i)
          ∧ (∀ i : (⟨2, ![1, 1]⟩ : Shape).Idx, (Cert.On_interior_and_corner_KCIdeal.fn (F := Ideal) (m ((c.tc : Thread Cert.KCIdeal.nD Cert.KCIdeal.τ).loc Cert.KCIdeal.main_arg0))).2 i = 1#1 → r.2.mem ((c.tc : Thread Cert.RCIdeal.nD Cert.RCIdeal.τ).loc Cert.RCIdeal.main_v173) i = v1 c i)
          ∧ r.2.mem ((c.tc : Thread Cert.RCIdeal.nD Cert.RCIdeal.τ).loc Cert.RCIdeal.main_arg0) = m' ((c.tc : Thread Cert.RCIdeal.nD Cert.RCIdeal.τ).loc Cert.RCIdeal.main_arg0))

def preserves_KD_KDIdeal : Prop :=
  IdealRules.named_const.Statement Cert.KDIdeal.κ "sixth_1" .f32 0x3E2AAAAB#32 ((1 / 6 : ℝ) : EReal)
  ∧ IdealRules.named_const.Statement Cert.KDIdeal.κ "sixth_2" .f32 0x3EAAAAAB#32 ((1 / 3 : ℝ) : EReal)
  ∧ IdealRules.named_const.Statement Cert.KDIdeal.κ "sixth_4" .f32 0x3F2AAAAB#32 ((2 / 3 : ℝ) : EReal)
  ∧ IdealRules.named_const.Statement Cert.KDIdeal.κ "sixth_5" .f32 0x3F555555#32 ((5 / 6 : ℝ) : EReal)
  ∧ IdealRules.named_const.Statement Cert.KDIdeal.κ "pick_2" .f32 0x3AAAAAAB#32 ((1 / 768 : ℝ) : EReal)
  ∧ IdealRules.named_const.Statement Cert.KDIdeal.κ "pick_4" .f32 0x3B2AAAAB#32 ((1 / 384 : ℝ) : EReal)
  ∧ IdealRules.named_const.Statement Cert.KDIdeal.κ "pick_5" .f32 0x3B555555#32 ((5 / 1536 : ℝ) : EReal)

def algebraic_KDIdeal_RDIdeal_on_interior_and_corner_KDIdeal_pre_finite_small [hKDIdeal : Cert.KDIdeal.Facts] [hRDIdeal : Cert.RDIdeal.Facts] [hPre_finite_small : Cert.Pre_finite_small.Facts] [hOn_interior_and_corner_KDIdeal : Cert.On_interior_and_corner_KDIdeal.Facts] : Prop :=
  ∀ (m : (ℓ : Loc Cert.KDIdeal.nD Cert.KDIdeal.τ Cert.KDIdeal.sig) → Buf (Elt Ideal) ℓ) (g : Dev Cert.KDIdeal.nD → PrngReg)
    (m' : (ℓ : Loc Cert.RDIdeal.nD Cert.RDIdeal.τ Cert.RDIdeal.sig) → Buf (Elt Ideal) ℓ) (g' : Dev Cert.RDIdeal.nD → PrngReg), Pre_KDIdeal_finite_small m →
    (∀ c : Dev Cert.KDIdeal.nD,
      m' ((c.tc : Thread Cert.RDIdeal.nD Cert.RDIdeal.τ).loc Cert.RDIdeal.main_arg0) = m ((c.tc : Thread Cert.KDIdeal.nD Cert.KDIdeal.τ).loc Cert.KDIdeal.main_arg0)) →
    ∃ (v0 : (c : Dev Cert.KDIdeal.nD) → Buf (Elt Ideal) ((c.tc : Thread Cert.KDIdeal.nD Cert.KDIdeal.τ).loc Cert.KDIdeal.main_v0_0)) (v1 : (c : Dev Cert.KDIdeal.nD) → Buf (Elt Ideal) ((c.tc : Thread Cert.KDIdeal.nD Cert.KDIdeal.τ).loc Cert.KDIdeal.main_v0_1)),
      θ_run (Cert.KDIdeal.defs (F := Ideal)) (onTc (τ := Cert.KDIdeal.τ) (Cert.KDIdeal.main (F := Ideal))) ⟨m, fun _ => 0, g⟩ (fun r => ∀ c : Dev Cert.KDIdeal.nD,
          (∀ i : (⟨2, ![64, 64]⟩ : Shape).Idx, (Cert.On_interior_and_corner_KDIdeal.fn (F := Ideal) (m ((c.tc : Thread Cert.KDIdeal.nD Cert.KDIdeal.τ).loc Cert.KDIdeal.main_arg0))).1 i = 1#1 → r.2.mem ((c.tc : Thread Cert.KDIdeal.nD Cert.KDIdeal.τ).loc Cert.KDIdeal.main_v0_0) i = v0 c i)
          ∧ (∀ i : (⟨2, ![1, 1]⟩ : Shape).Idx, (Cert.On_interior_and_corner_KDIdeal.fn (F := Ideal) (m ((c.tc : Thread Cert.KDIdeal.nD Cert.KDIdeal.τ).loc Cert.KDIdeal.main_arg0))).2 i = 1#1 → r.2.mem ((c.tc : Thread Cert.KDIdeal.nD Cert.KDIdeal.τ).loc Cert.KDIdeal.main_v0_1) i = v1 c i)
          ∧ r.2.mem ((c.tc : Thread Cert.KDIdeal.nD Cert.KDIdeal.τ).loc Cert.KDIdeal.main_arg0) = m ((c.tc : Thread Cert.KDIdeal.nD Cert.KDIdeal.τ).loc Cert.KDIdeal.main_arg0))
      ∧ θ_run (Cert.RDIdeal.defs (F := Ideal)) (onTc (τ := Cert.RDIdeal.τ) (Cert.RDIdeal.main (F := Ideal))) ⟨m', fun _ => 0, g'⟩ (fun r => ∀ c : Dev Cert.RDIdeal.nD,
          (∀ i : (⟨2, ![64, 64]⟩ : Shape).Idx, (Cert.On_interior_and_corner_KDIdeal.fn (F := Ideal) (m ((c.tc : Thread Cert.KDIdeal.nD Cert.KDIdeal.τ).loc Cert.KDIdeal.main_arg0))).1 i = 1#1 → r.2.mem ((c.tc : Thread Cert.RDIdeal.nD Cert.RDIdeal.τ).loc Cert.RDIdeal.main_v172) i = v0 c i)
          ∧ (∀ i : (⟨2, ![1, 1]⟩ : Shape).Idx, (Cert.On_interior_and_corner_KDIdeal.fn (F := Ideal) (m ((c.tc : Thread Cert.KDIdeal.nD Cert.KDIdeal.τ).loc Cert.KDIdeal.main_arg0))).2 i = 1#1 → r.2.mem ((c.tc : Thread Cert.RDIdeal.nD Cert.RDIdeal.τ).loc Cert.RDIdeal.main_v173) i = v1 c i)
          ∧ r.2.mem ((c.tc : Thread Cert.RDIdeal.nD Cert.RDIdeal.τ).loc Cert.RDIdeal.main_arg0) = m' ((c.tc : Thread Cert.RDIdeal.nD Cert.RDIdeal.τ).loc Cert.RDIdeal.main_arg0))

def preserves_KB_KBIdeal : Prop :=
  True

def algebraic_KBIdeal_RBIdeal [hKBIdeal : Cert.KBIdeal.Facts] [hRBIdeal : Cert.RBIdeal.Facts] : Prop :=
  ∀ (m : (ℓ : Loc Cert.KBIdeal.nD Cert.KBIdeal.τ Cert.KBIdeal.sig) → Buf (Elt Ideal) ℓ) (g : Dev Cert.KBIdeal.nD → PrngReg)
    (m' : (ℓ : Loc Cert.RBIdeal.nD Cert.RBIdeal.τ Cert.RBIdeal.sig) → Buf (Elt Ideal) ℓ) (g' : Dev Cert.RBIdeal.nD → PrngReg), Pre_KBIdeal m →
    (∀ c : Dev Cert.KBIdeal.nD,
      m' ((c.tc : Thread Cert.RBIdeal.nD Cert.RBIdeal.τ).loc Cert.RBIdeal.main_arg0) = m ((c.tc : Thread Cert.KBIdeal.nD Cert.KBIdeal.τ).loc Cert.KBIdeal.main_arg0)
      ∧ m' ((c.tc : Thread Cert.RBIdeal.nD Cert.RBIdeal.τ).loc Cert.RBIdeal.main_arg1) = m ((c.tc : Thread Cert.KBIdeal.nD Cert.KBIdeal.τ).loc Cert.KBIdeal.main_arg1)
      ∧ m' ((c.tc : Thread Cert.RBIdeal.nD Cert.RBIdeal.τ).loc Cert.RBIdeal.main_arg2) = m ((c.tc : Thread Cert.KBIdeal.nD Cert.KBIdeal.τ).loc Cert.KBIdeal.main_arg2)
      ∧ m' ((c.tc : Thread Cert.RBIdeal.nD Cert.RBIdeal.τ).loc Cert.RBIdeal.main_arg3) = m ((c.tc : Thread Cert.KBIdeal.nD Cert.KBIdeal.τ).loc Cert.KBIdeal.main_arg3)
      ∧ m' ((c.tc : Thread Cert.RBIdeal.nD Cert.RBIdeal.τ).loc Cert.RBIdeal.main_arg4) = m ((c.tc : Thread Cert.KBIdeal.nD Cert.KBIdeal.τ).loc Cert.KBIdeal.main_arg4)
      ∧ m' ((c.tc : Thread Cert.RBIdeal.nD Cert.RBIdeal.τ).loc Cert.RBIdeal.main_arg5) = m ((c.tc : Thread Cert.KBIdeal.nD Cert.KBIdeal.τ).loc Cert.KBIdeal.main_arg5)
      ∧ m' ((c.tc : Thread Cert.RBIdeal.nD Cert.RBIdeal.τ).loc Cert.RBIdeal.main_arg6) = m ((c.tc : Thread Cert.KBIdeal.nD Cert.KBIdeal.τ).loc Cert.KBIdeal.main_arg6)
      ∧ m' ((c.tc : Thread Cert.RBIdeal.nD Cert.RBIdeal.τ).loc Cert.RBIdeal.main_arg7) = m ((c.tc : Thread Cert.KBIdeal.nD Cert.KBIdeal.τ).loc Cert.KBIdeal.main_arg7)
      ∧ m' ((c.tc : Thread Cert.RBIdeal.nD Cert.RBIdeal.τ).loc Cert.RBIdeal.main_arg8) = m ((c.tc : Thread Cert.KBIdeal.nD Cert.KBIdeal.τ).loc Cert.KBIdeal.main_arg8)
      ∧ m' ((c.tc : Thread Cert.RBIdeal.nD Cert.RBIdeal.τ).loc Cert.RBIdeal.main_arg9) = m ((c.tc : Thread Cert.KBIdeal.nD Cert.KBIdeal.τ).loc Cert.KBIdeal.main_arg9)
      ∧ m' ((c.tc : Thread Cert.RBIdeal.nD Cert.RBIdeal.τ).loc Cert.RBIdeal.main_arg10) = m ((c.tc : Thread Cert.KBIdeal.nD Cert.KBIdeal.τ).loc Cert.KBIdeal.main_arg10)
      ∧ m' ((c.tc : Thread Cert.RBIdeal.nD Cert.RBIdeal.τ).loc Cert.RBIdeal.main_arg11) = m ((c.tc : Thread Cert.KBIdeal.nD Cert.KBIdeal.τ).loc Cert.KBIdeal.main_arg11)
      ∧ m' ((c.tc : Thread Cert.RBIdeal.nD Cert.RBIdeal.τ).loc Cert.RBIdeal.main_arg12) = m ((c.tc : Thread Cert.KBIdeal.nD Cert.KBIdeal.τ).loc Cert.KBIdeal.main_arg12)
      ∧ m' ((c.tc : Thread Cert.RBIdeal.nD Cert.RBIdeal.τ).loc Cert.RBIdeal.main_arg13) = m ((c.tc : Thread Cert.KBIdeal.nD Cert.KBIdeal.τ).loc Cert.KBIdeal.main_arg13)) →
    ∃ (v0 : (c : Dev Cert.KBIdeal.nD) → Buf (Elt Ideal) ((c.tc : Thread Cert.KBIdeal.nD Cert.KBIdeal.τ).loc Cert.KBIdeal.main_v0_0)) (v1 : (c : Dev Cert.KBIdeal.nD) → Buf (Elt Ideal) ((c.tc : Thread Cert.KBIdeal.nD Cert.KBIdeal.τ).loc Cert.KBIdeal.main_v0_1)),
      θ_run (Cert.KBIdeal.defs (F := Ideal)) (onTc (τ := Cert.KBIdeal.τ) (Cert.KBIdeal.main (F := Ideal))) ⟨m, fun _ => 0, g⟩ (fun r => ∀ c : Dev Cert.KBIdeal.nD,
          r.2.mem ((c.tc : Thread Cert.KBIdeal.nD Cert.KBIdeal.τ).loc Cert.KBIdeal.main_v0_0) = v0 c
          ∧ r.2.mem ((c.tc : Thread Cert.KBIdeal.nD Cert.KBIdeal.τ).loc Cert.KBIdeal.main_v0_1) = v1 c
          ∧ r.2.mem ((c.tc : Thread Cert.KBIdeal.nD Cert.KBIdeal.τ).loc Cert.KBIdeal.main_arg0) = m ((c.tc : Thread Cert.KBIdeal.nD Cert.KBIdeal.τ).loc Cert.KBIdeal.main_arg0)
          ∧ r.2.mem ((c.tc : Thread Cert.KBIdeal.nD Cert.KBIdeal.τ).loc Cert.KBIdeal.main_arg1) = m ((c.tc : Thread Cert.KBIdeal.nD Cert.KBIdeal.τ).loc Cert.KBIdeal.main_arg1)
          ∧ r.2.mem ((c.tc : Thread Cert.KBIdeal.nD Cert.KBIdeal.τ).loc Cert.KBIdeal.main_arg2) = m ((c.tc : Thread Cert.KBIdeal.nD Cert.KBIdeal.τ).loc Cert.KBIdeal.main_arg2)
          ∧ r.2.mem ((c.tc : Thread Cert.KBIdeal.nD Cert.KBIdeal.τ).loc Cert.KBIdeal.main_arg3) = m ((c.tc : Thread Cert.KBIdeal.nD Cert.KBIdeal.τ).loc Cert.KBIdeal.main_arg3)
          ∧ r.2.mem ((c.tc : Thread Cert.KBIdeal.nD Cert.KBIdeal.τ).loc Cert.KBIdeal.main_arg4) = m ((c.tc : Thread Cert.KBIdeal.nD Cert.KBIdeal.τ).loc Cert.KBIdeal.main_arg4)
          ∧ r.2.mem ((c.tc : Thread Cert.KBIdeal.nD Cert.KBIdeal.τ).loc Cert.KBIdeal.main_arg5) = m ((c.tc : Thread Cert.KBIdeal.nD Cert.KBIdeal.τ).loc Cert.KBIdeal.main_arg5)
          ∧ r.2.mem ((c.tc : Thread Cert.KBIdeal.nD Cert.KBIdeal.τ).loc Cert.KBIdeal.main_arg6) = m ((c.tc : Thread Cert.KBIdeal.nD Cert.KBIdeal.τ).loc Cert.KBIdeal.main_arg6)
          ∧ r.2.mem ((c.tc : Thread Cert.KBIdeal.nD Cert.KBIdeal.τ).loc Cert.KBIdeal.main_arg7) = m ((c.tc : Thread Cert.KBIdeal.nD Cert.KBIdeal.τ).loc Cert.KBIdeal.main_arg7)
          ∧ r.2.mem ((c.tc : Thread Cert.KBIdeal.nD Cert.KBIdeal.τ).loc Cert.KBIdeal.main_arg8) = m ((c.tc : Thread Cert.KBIdeal.nD Cert.KBIdeal.τ).loc Cert.KBIdeal.main_arg8)
          ∧ r.2.mem ((c.tc : Thread Cert.KBIdeal.nD Cert.KBIdeal.τ).loc Cert.KBIdeal.main_arg9) = m ((c.tc : Thread Cert.KBIdeal.nD Cert.KBIdeal.τ).loc Cert.KBIdeal.main_arg9)
          ∧ r.2.mem ((c.tc : Thread Cert.KBIdeal.nD Cert.KBIdeal.τ).loc Cert.KBIdeal.main_arg10) = m ((c.tc : Thread Cert.KBIdeal.nD Cert.KBIdeal.τ).loc Cert.KBIdeal.main_arg10)
          ∧ r.2.mem ((c.tc : Thread Cert.KBIdeal.nD Cert.KBIdeal.τ).loc Cert.KBIdeal.main_arg11) = m ((c.tc : Thread Cert.KBIdeal.nD Cert.KBIdeal.τ).loc Cert.KBIdeal.main_arg11)
          ∧ r.2.mem ((c.tc : Thread Cert.KBIdeal.nD Cert.KBIdeal.τ).loc Cert.KBIdeal.main_arg12) = m ((c.tc : Thread Cert.KBIdeal.nD Cert.KBIdeal.τ).loc Cert.KBIdeal.main_arg12)
          ∧ r.2.mem ((c.tc : Thread Cert.KBIdeal.nD Cert.KBIdeal.τ).loc Cert.KBIdeal.main_arg13) = m ((c.tc : Thread Cert.KBIdeal.nD Cert.KBIdeal.τ).loc Cert.KBIdeal.main_arg13))
      ∧ θ_run (Cert.RBIdeal.defs (F := Ideal)) (onTc (τ := Cert.RBIdeal.τ) (Cert.RBIdeal.main (F := Ideal))) ⟨m', fun _ => 0, g'⟩ (fun r => ∀ c : Dev Cert.RBIdeal.nD,
          r.2.mem ((c.tc : Thread Cert.RBIdeal.nD Cert.RBIdeal.τ).loc Cert.RBIdeal.main_v335) = v0 c
          ∧ r.2.mem ((c.tc : Thread Cert.RBIdeal.nD Cert.RBIdeal.τ).loc Cert.RBIdeal.main_v334) = v1 c
          ∧ r.2.mem ((c.tc : Thread Cert.RBIdeal.nD Cert.RBIdeal.τ).loc Cert.RBIdeal.main_arg0) = m' ((c.tc : Thread Cert.RBIdeal.nD Cert.RBIdeal.τ).loc Cert.RBIdeal.main_arg0)
          ∧ r.2.mem ((c.tc : Thread Cert.RBIdeal.nD Cert.RBIdeal.τ).loc Cert.RBIdeal.main_arg1) = m' ((c.tc : Thread Cert.RBIdeal.nD Cert.RBIdeal.τ).loc Cert.RBIdeal.main_arg1)
          ∧ r.2.mem ((c.tc : Thread Cert.RBIdeal.nD Cert.RBIdeal.τ).loc Cert.RBIdeal.main_arg2) = m' ((c.tc : Thread Cert.RBIdeal.nD Cert.RBIdeal.τ).loc Cert.RBIdeal.main_arg2)
          ∧ r.2.mem ((c.tc : Thread Cert.RBIdeal.nD Cert.RBIdeal.τ).loc Cert.RBIdeal.main_arg3) = m' ((c.tc : Thread Cert.RBIdeal.nD Cert.RBIdeal.τ).loc Cert.RBIdeal.main_arg3)
          ∧ r.2.mem ((c.tc : Thread Cert.RBIdeal.nD Cert.RBIdeal.τ).loc Cert.RBIdeal.main_arg4) = m' ((c.tc : Thread Cert.RBIdeal.nD Cert.RBIdeal.τ).loc Cert.RBIdeal.main_arg4)
          ∧ r.2.mem ((c.tc : Thread Cert.RBIdeal.nD Cert.RBIdeal.τ).loc Cert.RBIdeal.main_arg5) = m' ((c.tc : Thread Cert.RBIdeal.nD Cert.RBIdeal.τ).loc Cert.RBIdeal.main_arg5)
          ∧ r.2.mem ((c.tc : Thread Cert.RBIdeal.nD Cert.RBIdeal.τ).loc Cert.RBIdeal.main_arg6) = m' ((c.tc : Thread Cert.RBIdeal.nD Cert.RBIdeal.τ).loc Cert.RBIdeal.main_arg6)
          ∧ r.2.mem ((c.tc : Thread Cert.RBIdeal.nD Cert.RBIdeal.τ).loc Cert.RBIdeal.main_arg7) = m' ((c.tc : Thread Cert.RBIdeal.nD Cert.RBIdeal.τ).loc Cert.RBIdeal.main_arg7)
          ∧ r.2.mem ((c.tc : Thread Cert.RBIdeal.nD Cert.RBIdeal.τ).loc Cert.RBIdeal.main_arg8) = m' ((c.tc : Thread Cert.RBIdeal.nD Cert.RBIdeal.τ).loc Cert.RBIdeal.main_arg8)
          ∧ r.2.mem ((c.tc : Thread Cert.RBIdeal.nD Cert.RBIdeal.τ).loc Cert.RBIdeal.main_arg9) = m' ((c.tc : Thread Cert.RBIdeal.nD Cert.RBIdeal.τ).loc Cert.RBIdeal.main_arg9)
          ∧ r.2.mem ((c.tc : Thread Cert.RBIdeal.nD Cert.RBIdeal.τ).loc Cert.RBIdeal.main_arg10) = m' ((c.tc : Thread Cert.RBIdeal.nD Cert.RBIdeal.τ).loc Cert.RBIdeal.main_arg10)
          ∧ r.2.mem ((c.tc : Thread Cert.RBIdeal.nD Cert.RBIdeal.τ).loc Cert.RBIdeal.main_arg11) = m' ((c.tc : Thread Cert.RBIdeal.nD Cert.RBIdeal.τ).loc Cert.RBIdeal.main_arg11)
          ∧ r.2.mem ((c.tc : Thread Cert.RBIdeal.nD Cert.RBIdeal.τ).loc Cert.RBIdeal.main_arg12) = m' ((c.tc : Thread Cert.RBIdeal.nD Cert.RBIdeal.τ).loc Cert.RBIdeal.main_arg12)
          ∧ r.2.mem ((c.tc : Thread Cert.RBIdeal.nD Cert.RBIdeal.τ).loc Cert.RBIdeal.main_arg13) = m' ((c.tc : Thread Cert.RBIdeal.nD Cert.RBIdeal.τ).loc Cert.RBIdeal.main_arg13))

def Claim : Prop :=
  ∃ (hKA : Cert.KA.Facts) (hKAIdeal : Cert.KAIdeal.Facts) (hRAIdeal : Cert.RAIdeal.Facts) (hKC : Cert.KC.Facts) (hKCIdeal : Cert.KCIdeal.Facts) (hRCIdeal : Cert.RCIdeal.Facts) (hKD : Cert.KD.Facts) (hKDIdeal : Cert.KDIdeal.Facts) (hRDIdeal : Cert.RDIdeal.Facts) (hKB : Cert.KB.Facts) (hKBIdeal : Cert.KBIdeal.Facts) (hRBIdeal : Cert.RBIdeal.Facts) (hPre_finite : Cert.Pre_finite.Facts) (hPre_finite_mid : Cert.Pre_finite_mid.Facts) (hPre_finite_small : Cert.Pre_finite_small.Facts) (hOn_interior_and_corner_KAIdeal : Cert.On_interior_and_corner_KAIdeal.Facts) (hOn_interior_and_corner_KCIdeal : Cert.On_interior_and_corner_KCIdeal.Facts) (hOn_interior_and_corner_KDIdeal : Cert.On_interior_and_corner_KDIdeal.Facts),
    quiescent_KA (hKA := hKA)
    ∧ quiescent_KAIdeal (hKAIdeal := hKAIdeal)
    ∧ quiescent_KAIdeal_pre_finite (hKAIdeal := hKAIdeal) (hPre_finite := hPre_finite)
    ∧ quiescent_RAIdeal (hRAIdeal := hRAIdeal)
    ∧ quiescent_RAIdeal_pre_finite (hRAIdeal := hRAIdeal) (hPre_finite := hPre_finite)
    ∧ quiescent_KC (hKC := hKC)
    ∧ quiescent_KCIdeal (hKCIdeal := hKCIdeal)
    ∧ quiescent_KCIdeal_pre_finite_mid (hKCIdeal := hKCIdeal) (hPre_finite_mid := hPre_finite_mid)
    ∧ quiescent_RCIdeal (hRCIdeal := hRCIdeal)
    ∧ quiescent_RCIdeal_pre_finite_mid (hRCIdeal := hRCIdeal) (hPre_finite_mid := hPre_finite_mid)
    ∧ quiescent_KD (hKD := hKD)
    ∧ quiescent_KDIdeal (hKDIdeal := hKDIdeal)
    ∧ quiescent_KDIdeal_pre_finite_small (hKDIdeal := hKDIdeal) (hPre_finite_small := hPre_finite_small)
    ∧ quiescent_RDIdeal (hRDIdeal := hRDIdeal)
    ∧ quiescent_RDIdeal_pre_finite_small (hRDIdeal := hRDIdeal) (hPre_finite_small := hPre_finite_small)
    ∧ quiescent_KB (hKB := hKB)
    ∧ quiescent_KBIdeal (hKBIdeal := hKBIdeal)
    ∧ quiescent_RBIdeal (hRBIdeal := hRBIdeal)
    ∧ preserves_KA_KAIdeal
    ∧ algebraic_KAIdeal_RAIdeal_on_interior_and_corner_KAIdeal_pre_finite (hKAIdeal := hKAIdeal) (hRAIdeal := hRAIdeal) (hPre_finite := hPre_finite) (hOn_interior_and_corner_KAIdeal := hOn_interior_and_corner_KAIdeal)
    ∧ preserves_KC_KCIdeal
    ∧ algebraic_KCIdeal_RCIdeal_on_interior_and_corner_KCIdeal_pre_finite_mid (hKCIdeal := hKCIdeal) (hRCIdeal := hRCIdeal) (hPre_finite_mid := hPre_finite_mid) (hOn_interior_and_corner_KCIdeal := hOn_interior_and_corner_KCIdeal)
    ∧ preserves_KD_KDIdeal
    ∧ algebraic_KDIdeal_RDIdeal_on_interior_and_corner_KDIdeal_pre_finite_small (hKDIdeal := hKDIdeal) (hRDIdeal := hRDIdeal) (hPre_finite_small := hPre_finite_small) (hOn_interior_and_corner_KDIdeal := hOn_interior_and_corner_KDIdeal)
    ∧ preserves_KB_KBIdeal
    ∧ algebraic_KBIdeal_RBIdeal (hKBIdeal := hKBIdeal) (hRBIdeal := hRBIdeal)
-- ==== On_interior_and_corner_KAIdeal.lean ====
abbrev S96x256x256 : Shape := ⟨3, ![96, 256, 256]⟩
abbrev S256x256 : Shape := ⟨2, ![256, 256]⟩
abbrev S_ : Shape := ⟨0, ![]⟩
abbrev S1x1 : Shape := ⟨2, ![1, 1]⟩

class Facts : Prop where
  bcast_S_S256x256 : S_.BroadcastsInDim S256x256 (![] : Fin 0 → Fin S256x256.rank)
  bcast_S_S1x1 : S_.BroadcastsInDim S1x1 (![] : Fin 0 → Fin S1x1.rank)

variable [Facts]

def fn {F : FTy → Type} [FloatOps F] (main_arg0 : FVec F S96x256x256 .f32) : IVec S256x256 1 × IVec S1x1 1 :=
  let main_v0 : IVec S256x256 32 := iotaInDim S256x256 32 0
  let main_v1 : IVec S256x256 32 := iotaInDim S256x256 32 1
  let main_c : IVec S_ 32 := constantI S_ 32 0#32
  let main_v2 : IVec S256x256 32 := broadcastInDim S256x256 ![] bcast_S_S256x256 main_c
  let main_v3 : IVec S256x256 1 := cmpi .sgt main_v0 main_v2
  let main_c_0 : IVec S_ 32 := constantI S_ 32 255#32
  let main_v4 : IVec S256x256 32 := broadcastInDim S256x256 ![] bcast_S_S256x256 main_c_0
  let main_v5 : IVec S256x256 1 := cmpi .slt main_v0 main_v4
  let main_v6 : IVec S256x256 1 := andi main_v3 main_v5
  let main_c_1 : IVec S_ 32 := constantI S_ 32 0#32
  let main_v7 : IVec S256x256 32 := broadcastInDim S256x256 ![] bcast_S_S256x256 main_c_1
  let main_v8 : IVec S256x256 1 := cmpi .sgt main_v1 main_v7
  let main_v9 : IVec S256x256 1 := andi main_v6 main_v8
  let main_c_2 : IVec S_ 32 := constantI S_ 32 255#32
  let main_v10 : IVec S256x256 32 := broadcastInDim S256x256 ![] bcast_S_S256x256 main_c_2
  let main_v11 : IVec S256x256 1 := cmpi .slt main_v1 main_v10
  let main_v12 : IVec S256x256 1 := andi main_v9 main_v11
  let main_c_3 : IVec S_ 1 := constantI S_ 1 1#1
  let main_v13 : IVec S1x1 1 := broadcastInDim S1x1 ![] bcast_S_S1x1 main_c_3
  (main_v12, main_v13)
-- ==== On_interior_and_corner_KCIdeal.lean ====
abbrev S192x128x128 : Shape := ⟨3, ![192, 128, 128]⟩
abbrev S128x128 : Shape := ⟨2, ![128, 128]⟩
abbrev S_ : Shape := ⟨0, ![]⟩
abbrev S1x1 : Shape := ⟨2, ![1, 1]⟩

class Facts : Prop where
  bcast_S_S128x128 : S_.BroadcastsInDim S128x128 (![] : Fin 0 → Fin S128x128.rank)
  bcast_S_S1x1 : S_.BroadcastsInDim S1x1 (![] : Fin 0 → Fin S1x1.rank)

variable [Facts]

def fn {F : FTy → Type} [FloatOps F] (main_arg0 : FVec F S192x128x128 .f32) : IVec S128x128 1 × IVec S1x1 1 :=
  let main_v0 : IVec S128x128 32 := iotaInDim S128x128 32 0
  let main_v1 : IVec S128x128 32 := iotaInDim S128x128 32 1
  let main_c : IVec S_ 32 := constantI S_ 32 0#32
  let main_v2 : IVec S128x128 32 := broadcastInDim S128x128 ![] bcast_S_S128x128 main_c
  let main_v3 : IVec S128x128 1 := cmpi .sgt main_v0 main_v2
  let main_c_0 : IVec S_ 32 := constantI S_ 32 127#32
  let main_v4 : IVec S128x128 32 := broadcastInDim S128x128 ![] bcast_S_S128x128 main_c_0
  let main_v5 : IVec S128x128 1 := cmpi .slt main_v0 main_v4
  let main_v6 : IVec S128x128 1 := andi main_v3 main_v5
  let main_c_1 : IVec S_ 32 := constantI S_ 32 0#32
  let main_v7 : IVec S128x128 32 := broadcastInDim S128x128 ![] bcast_S_S128x128 main_c_1
  let main_v8 : IVec S128x128 1 := cmpi .sgt main_v1 main_v7
  let main_v9 : IVec S128x128 1 := andi main_v6 main_v8
  let main_c_2 : IVec S_ 32 := constantI S_ 32 127#32
  let main_v10 : IVec S128x128 32 := broadcastInDim S128x128 ![] bcast_S_S128x128 main_c_2
  let main_v11 : IVec S128x128 1 := cmpi .slt main_v1 main_v10
  let main_v12 : IVec S128x128 1 := andi main_v9 main_v11
  let main_c_3 : IVec S_ 1 := constantI S_ 1 1#1
  let main_v13 : IVec S1x1 1 := broadcastInDim S1x1 ![] bcast_S_S1x1 main_c_3
  (main_v12, main_v13)
-- ==== On_interior_and_corner_KDIdeal.lean ====
abbrev S384x64x64 : Shape := ⟨3, ![384, 64, 64]⟩
abbrev S64x64 : Shape := ⟨2, ![64, 64]⟩
abbrev S_ : Shape := ⟨0, ![]⟩
abbrev S1x1 : Shape := ⟨2, ![1, 1]⟩

class Facts : Prop where
  bcast_S_S64x64 : S_.BroadcastsInDim S64x64 (![] : Fin 0 → Fin S64x64.rank)
  bcast_S_S1x1 : S_.BroadcastsInDim S1x1 (![] : Fin 0 → Fin S1x1.rank)

variable [Facts]

def fn {F : FTy → Type} [FloatOps F] (main_arg0 : FVec F S384x64x64 .f32) : IVec S64x64 1 × IVec S1x1 1 :=
  let main_v0 : IVec S64x64 32 := iotaInDim S64x64 32 0
  let main_v1 : IVec S64x64 32 := iotaInDim S64x64 32 1
  let main_c : IVec S_ 32 := constantI S_ 32 0#32
  let main_v2 : IVec S64x64 32 := broadcastInDim S64x64 ![] bcast_S_S64x64 main_c
  let main_v3 : IVec S64x64 1 := cmpi .sgt main_v0 main_v2
  let main_c_0 : IVec S_ 32 := constantI S_ 32 63#32
  let main_v4 : IVec S64x64 32 := broadcastInDim S64x64 ![] bcast_S_S64x64 main_c_0
  let main_v5 : IVec S64x64 1 := cmpi .slt main_v0 main_v4
  let main_v6 : IVec S64x64 1 := andi main_v3 main_v5
  let main_c_1 : IVec S_ 32 := constantI S_ 32 0#32
  let main_v7 : IVec S64x64 32 := broadcastInDim S64x64 ![] bcast_S_S64x64 main_c_1
  let main_v8 : IVec S64x64 1 := cmpi .sgt main_v1 main_v7
  let main_v9 : IVec S64x64 1 := andi main_v6 main_v8
  let main_c_2 : IVec S_ 32 := constantI S_ 32 63#32
  let main_v10 : IVec S64x64 32 := broadcastInDim S64x64 ![] bcast_S_S64x64 main_c_2
  let main_v11 : IVec S64x64 1 := cmpi .slt main_v1 main_v10
  let main_v12 : IVec S64x64 1 := andi main_v9 main_v11
  let main_c_3 : IVec S_ 1 := constantI S_ 1 1#1
  let main_v13 : IVec S1x1 1 := broadcastInDim S1x1 ![] bcast_S_S1x1 main_c_3
  (main_v12, main_v13)
-- ==== Pre_finite.lean ====
abbrev S96x256x256 : Shape := ⟨3, ![96, 256, 256]⟩
abbrev S_ : Shape := ⟨0, ![]⟩

class Facts : Prop where
  bcast_S_S96x256x256 : S_.BroadcastsInDim S96x256x256 (![] : Fin 0 → Fin S96x256x256.rank)

variable [Facts]

def fn {F : FTy → Type} [FloatOps F] (main_arg0 : FVec F S96x256x256 .f32) : IVec S96x256x256 1 :=
  let main_v0 : FVec F S96x256x256 .f32 := Host.absf main_arg0
  let main_cst : FVec F S_ .f32 := constant S_ .f32 0x7F800000#32
  let main_v1 : FVec F S96x256x256 .f32 := broadcastInDim S96x256x256 ![] bcast_S_S96x256x256 main_cst
  let main_v2 : IVec S96x256x256 1 := cmpf .olt main_v0 main_v1
  main_v2
-- ==== Pre_finite_mid.lean ====
abbrev S192x128x128 : Shape := ⟨3, ![192, 128, 128]⟩
abbrev S_ : Shape := ⟨0, ![]⟩

class Facts : Prop where
  bcast_S_S192x128x128 : S_.BroadcastsInDim S192x128x128 (![] : Fin 0 → Fin S192x128x128.rank)

variable [Facts]

def fn {F : FTy → Type} [FloatOps F] (main_arg0 : FVec F S192x128x128 .f32) : IVec S192x128x128 1 :=
  let main_v0 : FVec F S192x128x128 .f32 := Host.absf main_arg0
  let main_cst : FVec F S_ .f32 := constant S_ .f32 0x7F800000#32
  let main_v1 : FVec F S192x128x128 .f32 := broadcastInDim S192x128x128 ![] bcast_S_S192x128x128 main_cst
  let main_v2 : IVec S192x128x128 1 := cmpf .olt main_v0 main_v1
  main_v2
-- ==== Pre_finite_small.lean ====
abbrev S384x64x64 : Shape := ⟨3, ![384, 64, 64]⟩
abbrev S_ : Shape := ⟨0, ![]⟩

class Facts : Prop where
  bcast_S_S384x64x64 : S_.BroadcastsInDim S384x64x64 (![] : Fin 0 → Fin S384x64x64.rank)

variable [Facts]

def fn {F : FTy → Type} [FloatOps F] (main_arg0 : FVec F S384x64x64 .f32) : IVec S384x64x64 1 :=
  let main_v0 : FVec F S384x64x64 .f32 := Host.absf main_arg0
  let main_cst : FVec F S_ .f32 := constant S_ .f32 0x7F800000#32
  let main_v1 : FVec F S384x64x64 .f32 := broadcastInDim S384x64x64 ![] bcast_S_S384x64x64 main_cst
  let main_v2 : IVec S384x64x64 1 := cmpf .olt main_v0 main_v1
  main_v2
-- ==== KA.lean ====
abbrev S96x256x256 : Shape := ⟨3, ![96, 256, 256]⟩
abbrev S256x256 : Shape := ⟨2, ![256, 256]⟩
abbrev S1x1 : Shape := ⟨2, ![1, 1]⟩
abbrev S16x256x256 : Shape := ⟨3, ![16, 256, 256]⟩
abbrev S1x256x256 : Shape := ⟨3, ![1, 256, 256]⟩
abbrev S16 : Shape := ⟨1, ![16]⟩
abbrev S16x1x1 : Shape := ⟨3, ![16, 1, 1]⟩
abbrev S1x16 : Shape := ⟨2, ![1, 16]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S96x256x256, .f32⟩
  | .hbm, ⟨1, _⟩ => ⟨S256x256, .f32⟩
  | .hbm, ⟨2, _⟩ => ⟨S1x1, .f32⟩
  | .local _ .vmem, ⟨0, _⟩ => ⟨S16x256x256, .f32⟩
  | .local _ .vmem, ⟨1, _⟩ => ⟨S16x256x256, .f32⟩
  | .local _ .vmem, ⟨2, _⟩ => ⟨S256x256, .f32⟩
  | .local _ .vmem, ⟨3, _⟩ => ⟨S1x1, .f32⟩
  | _, _ => ⟨S96x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32_256 : BitVec 32 := 0#32
  let v735 : BitVec 1 := Scalar.cmpi .eq arg0 c0_i32_256
  let v736 : BitVec 32 := Scalar.extui v735
  let c0_i32_257 : BitVec 32 := 0#32
  let v737 : BitVec 1 := Scalar.cmpi .ne v736 c0_i32_257
  v737

def k0_cond2 (i : grid0.Coords) : BitVec 1 :=
  let arg0 : BitVec 32 := BitVec.ofNat 32 (i 0).val
  let c0_i32_258 : BitVec 32 := 0#32
  let v738 : BitVec 1 := Scalar.cmpi .ne arg0 c0_i32_258
  let v739 : BitVec 32 := Scalar.extui v738
  let c0_i32_259 : BitVec 32 := 0#32
  let v740 : BitVec 1 := Scalar.cmpi .ne v739 c0_i32_259
  v740

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KAIdeal.lean ====
abbrev S96x256x256 : Shape := ⟨3, ![96, 256, 256]⟩
abbrev S256x256 : Shape := ⟨2, ![256, 256]⟩
abbrev S1x1 : Shape := ⟨2, ![1, 1]⟩
abbrev S16x256x256 : Shape := ⟨3, ![16, 256, 256]⟩
abbrev S1x256x256 : Shape := ⟨3, ![1, 256, 256]⟩
abbrev S16 : Shape := ⟨1, ![16]⟩
abbrev S16x1x1 : Shape := ⟨3, ![16, 1, 1]⟩
abbrev S1x16 : Shape := ⟨2, ![1, 16]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S96x256x256, .f32⟩
  | .hbm, ⟨1, _⟩ => ⟨S256x256, .f32⟩
  | .hbm, ⟨2, _⟩ => ⟨S1x1, .f32⟩
  | .local _ .vmem, ⟨0, _⟩ => ⟨S16x256x256, .f32⟩
  | .local _ .vmem, ⟨1, _⟩ => ⟨S16x256x256, .f32⟩
  | .local _ .vmem, ⟨2, _⟩ => ⟨S256x256, .f32⟩
  | .local _ .vmem, ⟨3, _⟩ => ⟨S1x1, .f32⟩
  | _, _ => ⟨S96x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F] [Named F]

def κ : String → Option EReal := fun
  | "pick_2" => some ((1 / 768 : ℝ) : EReal)
  | "pick_4" => some ((1 / 384 : ℝ) : EReal)
  | "pick_5" => some ((5 / 1536 : ℝ) : EReal)
  | "sixth_1" => some ((1 / 6 : ℝ) : EReal)
  | "sixth_2" => some ((1 / 3 : ℝ) : EReal)
  | "sixth_4" => some ((2 / 3 : ℝ) : EReal)
  | "sixth_5" => some ((5 / 6 : ℝ) : EReal)
  | _ => none

abbrev grid0 : Pipeline.Grid := ⟨1, ![6], ![false]⟩

def k0_cond1 (i : grid0.Coords) : BitVec 1 :=
  let arg0 : BitVec 32 := BitVec.ofNat 32 (i 0).val
  let c0_i32_256 : BitVec 32 := 0#32
  let v735 : BitVec 1 := Scalar.cmpi .eq arg0 c0_i32_256
  let v736 : BitVec 32 := Scalar.extui v735
  let c0_i32_257 : BitVec 32 := 0#32
  let v737 : BitVec 1 := Scalar.cmpi .ne v736 c0_i32_257
  v737

def k0_cond2 (i : grid0.Coords) : BitVec 1 :=
  let arg0 : BitVec 32 := BitVec.ofNat 32 (i 0).val
  let c0_i32_258 : BitVec 32 := 0#32
  let v738 : BitVec 1 := Scalar.cmpi .ne arg0 c0_i32_258
  let v739 : BitVec 32 := Scalar.extui v738
  let c0_i32_259 : BitVec 32 := 0#32
  let v740 : BitVec 1 := Scalar.cmpi .ne v739 c0_i32_259
  v740

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RAIdeal.lean ====
abbrev S96x256x256 : Shape := ⟨3, ![96, 256, 256]⟩
abbrev S_ : Shape := ⟨0, ![]⟩
abbrev S96 : Shape := ⟨1, ![96]⟩
abbrev S96x1x1 : Shape := ⟨3, ![96, 1, 1]⟩
abbrev S6 : Shape := ⟨1, ![6]⟩
abbrev S96x256x256x1 : Shape := ⟨4, ![96, 256, 256, 1]⟩
abbrev S1x1x1x6 : Shape := ⟨4, ![1, 1, 1, 6]⟩
abbrev S96x256x256x6 : Shape := ⟨4, ![96, 256, 256, 6]⟩
abbrev S96x6 : Shape := ⟨2, ![96, 6]⟩
abbrev S96x1 : Shape := ⟨2, ![96, 1]⟩
abbrev S96x1x1x6 : Shape := ⟨4, ![96, 1, 1, 6]⟩
abbrev S256x256 : Shape := ⟨2, ![256, 256]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S96x256x256, .f32⟩
  | 1 => ⟨S96x256x256, .i32⟩
  | 2 => ⟨S96x256x256, .i32⟩
  | 3 => ⟨S_, .i32⟩
  | 4 => ⟨S96x256x256, .i32⟩
  | 5 => ⟨S96x256x256, .i1⟩
  | 6 => ⟨S_, .i32⟩
  | 7 => ⟨S96x256x256, .i32⟩
  | 8 => ⟨S96x256x256, .i1⟩
  | 9 => ⟨S96x256x256, .i1⟩
  | 10 => ⟨S_, .i32⟩
  | 11 => ⟨S96x256x256, .i32⟩
  | 12 => ⟨S96x256x256, .i1⟩
  | 13 => ⟨S96x256x256, .i1⟩
  | 14 => ⟨S_, .i32⟩
  | 15 => ⟨S96x256x256, .i32⟩
  | 16 => ⟨S96x256x256, .i1⟩
  | 17 => ⟨S96x256x256, .i1⟩
  | 18 => ⟨S_, .f32⟩
  | 19 => ⟨S_, .f32⟩
  | 20 => ⟨S96x256x256, .f32⟩
  | 21 => ⟨S96x256x256, .f32⟩
  | 22 => ⟨S_, .f32⟩
  | 23 => ⟨S96, .f32⟩
  | 24 => ⟨S96x1x1, .f32⟩
  | 25 => ⟨S_, .f32⟩
  | 26 => ⟨S96, .f32⟩
  | 27 => ⟨S96x1x1, .f32⟩
  | 28 => ⟨S96x1x1, .f32⟩
  | 29 => ⟨S96x256x256, .f32⟩
  | 30 => ⟨S96x256x256, .f32⟩
  | 31 => ⟨S_, .f32⟩
  | 32 => ⟨S96x1x1, .f32⟩
  | 33 => ⟨S96x1x1, .i1⟩
  | 34 => ⟨S_, .f32⟩
  | 35 => ⟨S_, .f32⟩
  | 36 => ⟨S96x1x1, .f32⟩
  | 37 => ⟨S96x1x1, .f32⟩
  | 38 => ⟨S96x256x256, .f32⟩
  | 39 => ⟨S96x256x256, .f32⟩
  | 40 => ⟨S_, .f32⟩
  | 41 => ⟨S96x256x256, .f32⟩
  | 42 => ⟨S96x256x256, .f32⟩
  | 43 => ⟨S_, .f32⟩
  | 44 => ⟨S96x256x256, .f32⟩
  | 45 => ⟨S96x256x256, .f32⟩
  | 46 => ⟨S_, .f32⟩
  | 47 => ⟨S96x1x1, .f32⟩
  | 48 => ⟨S96x1x1, .i1⟩
  | 49 => ⟨S_, .f32⟩
  | 50 => ⟨S96x256x256, .f32⟩
  | 51 => ⟨S96x256x256, .i1⟩
  | 52 => ⟨S96x256x256, .f32⟩
  | 53 => ⟨S_, .f32⟩
  | 54 => ⟨S_, .f32⟩
  | 55 => ⟨S_, .f32⟩
  | 56 => ⟨S96x256x256, .f32⟩
  | 57 => ⟨S96x256x256, .f32⟩
  | 58 => ⟨S96x256x256, .f32⟩
  | 59 => ⟨S96x256x256, .i32⟩
  | 60 => ⟨S_, .i32⟩
  | 61 => ⟨S_, .i32⟩
  | 62 => ⟨S_, .i32⟩
  | 63 => ⟨S96x256x256, .i32⟩
  | 64 => ⟨S96x256x256, .i32⟩
  | 65 => ⟨S_, .i32⟩
  | 66 => ⟨S96x256x256, .i32⟩
  | 67 => ⟨S96x256x256, .i32⟩
  | 68 => ⟨S6, .i32⟩
  | 69 => ⟨S96x256x256x1, .i32⟩
  | 70 => ⟨S1x1x1x6, .i32⟩
  | 71 => ⟨S96x256x256x6, .i32⟩
  | 72 => ⟨S96x256x256x6, .i32⟩
  | 73 => ⟨S96x256x256x6, .i1⟩
  | 74 => ⟨S_, .f32⟩
  | 75 => ⟨S_, .f32⟩
  | 76 => ⟨S96x256x256x6, .f32⟩
  | 77 => ⟨S96x256x256x6, .f32⟩
  | 78 => ⟨S96x256x256x6, .f32⟩
  | 79 => ⟨S96x256x256x6, .f32⟩
  | 80 => ⟨S_, .f32⟩
  | 81 => ⟨S96x6, .f32⟩
  | 82 => ⟨S_, .f32⟩
  | 83 => ⟨S96, .f32⟩
  | 84 => ⟨S96x1, .f32⟩
  | 85 => ⟨S96x6, .f32⟩
  | 86 => ⟨S96x6, .f32⟩
  | 87 => ⟨S_, .f32⟩
  | 88 => ⟨S96x6, .f32⟩
  | 89 => ⟨S96x6, .f32⟩
  | 90 => ⟨S96x6, .f32⟩
  | 91 => ⟨S96x6, .f32⟩
  | 92 => ⟨S_, .f32⟩
  | 93 => ⟨S96x256x256, .f32⟩
  | 94 => ⟨S96x256x256, .f32⟩
  | 95 => ⟨S_, .f32⟩
  | 96 => ⟨S96x256x256, .f32⟩
  | 97 => ⟨S96x256x256, .f32⟩
  | 98 => ⟨S96x256x256, .i32⟩
  | 99 => ⟨S_, .i32⟩
  | 100 => ⟨S_, .i32⟩
  | 101 => ⟨S_, .i32⟩
  | 102 => ⟨S96x256x256, .i32⟩
  | 103 => ⟨S96x256x256, .i32⟩
  | 104 => ⟨S_, .i32⟩
  | 105 => ⟨S96x256x256, .i32⟩
  | 106 => ⟨S96x256x256, .i32⟩
  | 107 => ⟨S96x256x256x1, .i32⟩
  | 108 => ⟨S1x1x1x6, .i32⟩
  | 109 => ⟨S96x256x256x6, .i32⟩
  | 110 => ⟨S96x256x256x6, .i32⟩
  | 111 => ⟨S96x256x256x6, .i1⟩
  | 112 => ⟨S_, .f32⟩
  | 113 => ⟨S_, .f32⟩
  | 114 => ⟨S96x256x256x6, .f32⟩
  | 115 => ⟨S96x256x256x6, .f32⟩
  | 116 => ⟨S96x256x256x6, .f32⟩
  | 117 => ⟨S96x1x1x6, .f32⟩
  | 118 => ⟨S96x256x256x6, .f32⟩
  | 119 => ⟨S96x256x256x6, .f32⟩
  | 120 => ⟨S96x256x256x6, .f32⟩
  | 121 => ⟨S_, .f32⟩
  | 122 => ⟨S96x256x256, .f32⟩
  | 123 => ⟨S_, .f32⟩
  | 124 => ⟨S96, .f32⟩
  | 125 => ⟨S96x1x1, .f32⟩
  | 126 => ⟨S_, .f32⟩
  | 127 => ⟨S96, .f32⟩
  | _ => ⟨S96x256x256, .f32⟩

abbrev hbmTy0_1 (i : Nat) : BufTy := match i % 128 with
  | 0 => ⟨S96x1x1, .f32⟩
  | 1 => ⟨S96x1x1, .f32⟩
  | 2 => ⟨S96x256x256, .f32⟩
  | 3 => ⟨S96x256x256, .f32⟩
  | 4 => ⟨S_, .f32⟩
  | 5 => ⟨S96x1x1, .f32⟩
  | 6 => ⟨S96x1x1, .i1⟩
  | 7 => ⟨S_, .f32⟩
  | 8 => ⟨S_, .f32⟩
  | 9 => ⟨S96x1x1, .f32⟩
  | 10 => ⟨S96x1x1, .f32⟩
  | 11 => ⟨S96x256x256, .f32⟩
  | 12 => ⟨S96x256x256, .f32⟩
  | 13 => ⟨S_, .f32⟩
  | 14 => ⟨S96x256x256, .f32⟩
  | 15 => ⟨S96x256x256, .f32⟩
  | 16 => ⟨S_, .f32⟩
  | 17 => ⟨S96x256x256, .f32⟩
  | 18 => ⟨S96x256x256, .f32⟩
  | 19 => ⟨S_, .f32⟩
  | 20 => ⟨S96x1x1, .f32⟩
  | 21 => ⟨S96x1x1, .i1⟩
  | 22 => ⟨S_, .f32⟩
  | 23 => ⟨S96x256x256, .f32⟩
  | 24 => ⟨S96x256x256, .i1⟩
  | 25 => ⟨S96x256x256, .f32⟩
  | 26 => ⟨S_, .f32⟩
  | 27 => ⟨S96, .f32⟩
  | 28 => ⟨S96x1x1, .f32⟩
  | 29 => ⟨S_, .f32⟩
  | 30 => ⟨S96, .f32⟩
  | 31 => ⟨S96x1x1, .f32⟩
  | 32 => ⟨S_, .f32⟩
  | 33 => ⟨S96x1x1, .f32⟩
  | 34 => ⟨S96x1x1, .f32⟩
  | 35 => ⟨S96x1x1, .f32⟩
  | 36 => ⟨S96x1x1, .f32⟩
  | 37 => ⟨S_, .f32⟩
  | 38 => ⟨S96, .f32⟩
  | 39 => ⟨S96x1x1, .f32⟩
  | 40 => ⟨S_, .f32⟩
  | 41 => ⟨S96, .f32⟩
  | 42 => ⟨S96x1x1, .f32⟩
  | 43 => ⟨S96x1x1, .f32⟩
  | 44 => ⟨S96x256x256, .f32⟩
  | 45 => ⟨S96x256x256, .f32⟩
  | 46 => ⟨S_, .f32⟩
  | 47 => ⟨S96x1x1, .f32⟩
  | 48 => ⟨S96x1x1, .i1⟩
  | 49 => ⟨S_, .f32⟩
  | 50 => ⟨S_, .f32⟩
  | 51 => ⟨S96x1x1, .f32⟩
  | 52 => ⟨S96x1x1, .f32⟩
  | 53 => ⟨S96x256x256, .f32⟩
  | 54 => ⟨S96x256x256, .f32⟩
  | 55 => ⟨S_, .f32⟩
  | 56 => ⟨S96x256x256, .f32⟩
  | 57 => ⟨S96x256x256, .f32⟩
  | 58 => ⟨S_, .f32⟩
  | 59 => ⟨S96x256x256, .f32⟩
  | 60 => ⟨S96x256x256, .f32⟩
  | 61 => ⟨S_, .f32⟩
  | 62 => ⟨S96x1x1, .f32⟩
  | 63 => ⟨S96x1x1, .i1⟩
  | 64 => ⟨S_, .f32⟩
  | 65 => ⟨S96x256x256, .f32⟩
  | 66 => ⟨S96x256x256, .i1⟩
  | 67 => ⟨S96x256x256, .f32⟩
  | 68 => ⟨S96x256x256, .f32⟩
  | 69 => ⟨S96x256x256, .f32⟩
  | 70 => ⟨S96x256x256, .i32⟩
  | 71 => ⟨S_, .i32⟩
  | 72 => ⟨S96x256x256, .i32⟩
  | 73 => ⟨S96x256x256, .i1⟩
  | 74 => ⟨S96x256x256, .i32⟩
  | 75 => ⟨S96x256x256, .i32⟩
  | 76 => ⟨S_, .i32⟩
  | 77 => ⟨S96x256x256, .i32⟩
  | 78 => ⟨S96x256x256, .i1⟩
  | 79 => ⟨S_, .i32⟩
  | 80 => ⟨S96x256x256, .i32⟩
  | 81 => ⟨S96x256x256, .i1⟩
  | 82 => ⟨S96x256x256, .i1⟩
  | 83 => ⟨S_, .i32⟩
  | 84 => ⟨S96x256x256, .i32⟩
  | 85 => ⟨S96x256x256, .i1⟩
  | 86 => ⟨S96x256x256, .i1⟩
  | 87 => ⟨S_, .i32⟩
  | 88 => ⟨S96x256x256, .i32⟩
  | 89 => ⟨S96x256x256, .i1⟩
  | 90 => ⟨S96x256x256, .i1⟩
  | 91 => ⟨S_, .f32⟩
  | 92 => ⟨S_, .f32⟩
  | 93 => ⟨S96x256x256, .f32⟩
  | 94 => ⟨S96x256x256, .f32⟩
  | 95 => ⟨S96x256x256, .f32⟩
  | 96 => ⟨S_, .f32⟩
  | 97 => ⟨S96, .f32⟩
  | 98 => ⟨S96x1x1, .f32⟩
  | 99 => ⟨S_, .f32⟩
  | 100 => ⟨S96, .f32⟩
  | 101 => ⟨S96x1x1, .f32⟩
  | 102 => ⟨S_, .f32⟩
  | 103 => ⟨S96x1x1, .f32⟩
  | 104 => ⟨S96x1x1, .f32⟩
  | 105 => ⟨S96x1x1, .f32⟩
  | 106 => ⟨S96x1x1, .f32⟩
  | 107 => ⟨S_, .f32⟩
  | 108 => ⟨S96, .f32⟩
  | 109 => ⟨S96x1x1, .f32⟩
  | 110 => ⟨S_, .f32⟩
  | 111 => ⟨S96, .f32⟩
  | 112 => ⟨S96x1x1, .f32⟩
  | 113 => ⟨S96x1x1, .f32⟩
  | 114 => ⟨S96x256x256, .f32⟩
  | 115 => ⟨S96x256x256, .f32⟩
  | 116 => ⟨S_, .f32⟩
  | 117 => ⟨S96x1x1, .f32⟩
  | 118 => ⟨S96x1x1, .i1⟩
  | 119 => ⟨S_, .f32⟩
  | 120 => ⟨S_, .f32⟩
  | 121 => ⟨S96x1x1, .f32⟩
  | 122 => ⟨S96x1x1, .f32⟩
  | 123 => ⟨S96x256x256, .f32⟩
  | 124 => ⟨S96x256x256, .f32⟩
  | 125 => ⟨S_, .f32⟩
  | 126 => ⟨S96x256x256, .f32⟩
  | 127 => ⟨S96x256x256, .f32⟩
  | _ => ⟨S96x256x256, .f32⟩

abbrev hbmTy0_2 (i : Nat) : BufTy := match i % 128 with
  | 0 => ⟨S_, .f32⟩
  | 1 => ⟨S96x256x256, .f32⟩
  | 2 => ⟨S96x256x256, .f32⟩
  | 3 => ⟨S_, .f32⟩
  | 4 => ⟨S96x1x1, .f32⟩
  | 5 => ⟨S96x1x1, .i1⟩
  | 6 => ⟨S_, .f32⟩
  | 7 => ⟨S96x256x256, .f32⟩
  | 8 => ⟨S96x256x256, .i1⟩
  | 9 => ⟨S96x256x256, .f32⟩
  | 10 => ⟨S96x256x256, .f32⟩
  | 11 => ⟨S96x256x256, .f32⟩
  | 12 => ⟨S_, .f32⟩
  | 13 => ⟨S256x256, .f32⟩
  | 14 => ⟨S1x1, .f32⟩
  | _ => ⟨S96x256x256, .f32⟩

abbrev hbmTy (i : Nat) : BufTy := match i / 128 with
  | 0 => hbmTy0_0 i
  | 1 => hbmTy0_1 i
  | 2 => hbmTy0_2 i
  | _ => ⟨S96x256x256, .f32⟩

abbrev bufTy : (tb : Table) → Fin (tcTables nBuf tb) → BufTy
  | .hbm, ⟨i, _⟩ => hbmTy i
  | _, _ => ⟨S96x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_call2_v0 : Ref sig .tc := ⟨.hbm, 51, rfl⟩
abbrev main_v33 : Ref sig .tc := ⟨.hbm, 52, rfl⟩
abbrev main_cst_11 : Ref sig .tc := ⟨.hbm, 53, rfl⟩
abbrev main_cst_12 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_13 : Ref sig .tc := ⟨.hbm, 60, rfl⟩
abbrev main_c_14 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_cst_16 : Ref sig .tc := ⟨.hbm, 75, rfl⟩
abbrev main_call4_v0 : Ref sig .tc := ⟨.hbm, 76, rfl⟩
abbrev main_call4_v1 : Ref sig .tc := ⟨.hbm, 77, rfl⟩
abbrev main_v46 : Ref sig .tc := ⟨.hbm, 78, rfl⟩
abbrev main_v47 : Ref sig .tc := ⟨.hbm, 79, rfl⟩
abbrev main_cst_17 : Ref sig .tc := ⟨.hbm, 80, rfl⟩
abbrev main_v48 : Ref sig .tc := ⟨.hbm, 81, rfl⟩
abbrev main_cst_18 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_20 : Ref sig .tc := ⟨.hbm, 92, rfl⟩
abbrev main_v57 : Ref sig .tc := ⟨.hbm, 93, rfl⟩
abbrev main_v58 : Ref sig .tc := ⟨.hbm, 94, rfl⟩
abbrev main_cst_21 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_22 : Ref sig .tc := ⟨.hbm, 99, rfl⟩
abbrev main_c_23 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_24 : Ref sig .tc := ⟨.hbm, 112, rfl⟩
abbrev main_cst_25 : Ref sig .tc := ⟨.hbm, 113, rfl⟩
abbrev main_call6_v0 : Ref sig .tc := ⟨.hbm, 114, rfl⟩
abbrev main_call6_v1 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_26 : Ref sig .tc := ⟨.hbm, 121, rfl⟩
abbrev main_v73 : Ref sig .tc := ⟨.hbm, 122, rfl⟩
abbrev main_cst_27 : Ref sig .tc := ⟨.hbm, 123, rfl⟩
abbrev main_v74 : Ref sig .tc := ⟨.hbm, 124, rfl⟩
abbrev main_v75 : Ref sig .tc := ⟨.hbm, 125, rfl⟩
abbrev main_cst_28 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_29 : Ref sig .tc := ⟨.hbm, 132, rfl⟩
abbrev main_v81 : Ref sig .tc := ⟨.hbm, 133, rfl⟩
abbrev main_v82 : Ref sig .tc := ⟨.hbm, 134, rfl⟩
abbrev main_cst_30 : Ref sig .tc := ⟨.hbm, 135, rfl⟩
abbrev main_call7_v0 : Ref sig .tc := ⟨.hbm, 136, rfl⟩
abbrev main_call7_v1 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_31 : Ref sig .tc := ⟨.hbm, 141, rfl⟩
abbrev main_v86 : Ref sig .tc := ⟨.hbm, 142, rfl⟩
abbrev main_v87 : Ref sig .tc := ⟨.hbm, 143, rfl⟩
abbrev main_cst_32 : Ref sig .tc := ⟨.hbm, 144, rfl⟩
abbrev main_v88 : Ref sig .tc := ⟨.hbm, 145, rfl⟩
abbrev main_v89 : Ref sig .tc := ⟨.hbm, 146, rfl⟩
abbrev main_cst_33 : Ref sig .tc := ⟨.hbm, 147, rfl⟩
abbrev main_v90 : Ref sig .tc := ⟨.hbm, 148, rfl⟩
abbrev main_v91 : Ref sig .tc := ⟨.hbm, 149, rfl⟩
abbrev main_cst_34 : Ref sig .tc := ⟨.hbm, 150, rfl⟩
abbrev main_v92 : Ref sig .tc := ⟨.hbm, 151, rfl⟩
abbrev main_call8_v0 : Ref sig .tc := ⟨.hbm, 152, rfl⟩
abbrev main_v93 : Ref sig .tc := ⟨.hbm, 153, rfl⟩
abbrev main_cst_35 : Ref sig .tc := ⟨.hbm, 154, rfl⟩
abbrev main_v94 : Ref sig .tc := ⟨.hbm, 155, rfl⟩
abbrev main_v95 : Ref sig .tc := ⟨.hbm, 156, rfl⟩
abbrev main_cst_36 : Ref sig .tc := ⟨.hbm, 157, rfl⟩
abbrev main_v96 : Ref sig .tc := ⟨.hbm, 158, rfl⟩
abbrev main_v97 : Ref sig .tc := ⟨.hbm, 159, rfl⟩
abbrev main_cst_37 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_cst_38 : Ref sig .tc := ⟨.hbm, 165, rfl⟩
abbrev main_v102 : Ref sig .tc := ⟨.hbm, 166, rfl⟩
abbrev main_v103 : Ref sig .tc := ⟨.hbm, 167, rfl⟩
abbrev main_cst_39 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_cst_41 : Ref sig .tc := ⟨.hbm, 177, rfl⟩
abbrev main_call9_v0 : Ref sig .tc := ⟨.hbm, 178, rfl⟩
abbrev main_call9_v1 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_42 : Ref sig .tc := ⟨.hbm, 183, rfl⟩
abbrev main_v114 : Ref sig .tc := ⟨.hbm, 184, rfl⟩
abbrev main_v115 : Ref sig .tc := ⟨.hbm, 185, rfl⟩
abbrev main_cst_43 : Ref sig .tc := ⟨.hbm, 186, rfl⟩
abbrev main_v116 : Ref sig .tc := ⟨.hbm, 187, rfl⟩
abbrev main_v117 : Ref sig .tc := ⟨.hbm, 188, rfl⟩
abbrev main_cst_44 : Ref sig .tc := ⟨.hbm, 189, rfl⟩
abbrev main_v118 : Ref sig .tc := ⟨.hbm, 190, rfl⟩
abbrev main_v119 : Ref sig .tc := ⟨.hbm, 191, rfl⟩
abbrev main_cst_45 : Ref sig .tc := ⟨.hbm, 192, rfl⟩
abbrev main_v120 : Ref sig .tc := ⟨.hbm, 193, rfl⟩
abbrev main_call10_v0 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_46 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_c_47 : Ref sig .tc := ⟨.hbm, 204, rfl⟩
abbrev main_v129 : Ref sig .tc := ⟨.hbm, 205, rfl⟩
abbrev main_v130 : Ref sig .tc := ⟨.hbm, 206, rfl⟩
abbrev main_c_48 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_c_49 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_c_50 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_51 : Ref sig .tc := ⟨.hbm, 219, rfl⟩
abbrev main_call11_v0 : Ref sig .tc := ⟨.hbm, 220, rfl⟩
abbrev main_call11_v1 : Ref sig .tc := ⟨.hbm, 221, rfl⟩
abbrev main_v140 : Ref sig .tc := ⟨.hbm, 222, rfl⟩
abbrev main_v141 : Ref sig .tc := ⟨.hbm, 223, rfl⟩
abbrev main_cst_52 : Ref sig .tc := ⟨.hbm, 224, rfl⟩
abbrev main_v142 : Ref sig .tc := ⟨.hbm, 225, rfl⟩
abbrev main_v143 : Ref sig .tc := ⟨.hbm, 226, rfl⟩
abbrev main_cst_53 : Ref sig .tc := ⟨.hbm, 227, rfl⟩
abbrev main_v144 : Ref sig .tc := ⟨.hbm, 228, rfl⟩
abbrev main_v145 : Ref sig .tc := ⟨.hbm, 229, rfl⟩
abbrev main_cst_54 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_55 : Ref sig .tc := ⟨.hbm, 235, rfl⟩
abbrev main_v150 : Ref sig .tc := ⟨.hbm, 236, rfl⟩
abbrev main_v151 : Ref sig .tc := ⟨.hbm, 237, rfl⟩
abbrev main_cst_56 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_cst_57 : Ref sig .tc := ⟨.hbm, 244, rfl⟩
abbrev main_v157 : Ref sig .tc := ⟨.hbm, 245, rfl⟩
abbrev main_v158 : Ref sig .tc := ⟨.hbm, 246, rfl⟩
abbrev main_cst_58 : Ref sig .tc := ⟨.hbm, 247, rfl⟩
abbrev main_call13_v0 : Ref sig .tc := ⟨.hbm, 248, rfl⟩
abbrev main_call13_v1 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_cst_59 : Ref sig .tc := ⟨.hbm, 253, rfl⟩
abbrev main_v162 : Ref sig .tc := ⟨.hbm, 254, rfl⟩
abbrev main_v163 : Ref sig .tc := ⟨.hbm, 255, rfl⟩
abbrev main_cst_60 : Ref sig .tc := ⟨.hbm, 256, rfl⟩
abbrev main_v164 : Ref sig .tc := ⟨.hbm, 257, rfl⟩
abbrev main_v165 : Ref sig .tc := ⟨.hbm, 258, rfl⟩
abbrev main_cst_61 : Ref sig .tc := ⟨.hbm, 259, rfl⟩
abbrev main_v166 : Ref sig .tc := ⟨.hbm, 260, rfl⟩
abbrev main_v167 : Ref sig .tc := ⟨.hbm, 261, rfl⟩
abbrev main_cst_62 : Ref sig .tc := ⟨.hbm, 262, rfl⟩
abbrev main_v168 : Ref sig .tc := ⟨.hbm, 263, rfl⟩
abbrev main_call14_v0 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_cst_63 : Ref sig .tc := ⟨.hbm, 268, rfl⟩
abbrev main_v172 : Ref sig .tc := ⟨.hbm, 269, rfl⟩
abbrev main_v173 : Ref sig .tc := ⟨.hbm, 270, rfl⟩

abbrev nD : Nat := 1
abbrev τ : Topo := Topo.v7x

variable {F : FTy → Type} [FloatOps F]
-- ==== KC.lean ====
abbrev S192x128x128 : Shape := ⟨3, ![192, 128, 128]⟩
abbrev S128x128 : Shape := ⟨2, ![128, 128]⟩
abbrev S1x1 : Shape := ⟨2, ![1, 1]⟩
abbrev S32x128x128 : Shape := ⟨3, ![32, 128, 128]⟩
abbrev S1x128x128 : Shape := ⟨3, ![1, 128, 128]⟩
abbrev S32 : Shape := ⟨1, ![32]⟩
abbrev S32x1x1 : Shape := ⟨3, ![32, 1, 1]⟩
abbrev S1x32 : Shape := ⟨2, ![1, 32]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S192x128x128, .f32⟩
  | .hbm, ⟨1, _⟩ => ⟨S128x128, .f32⟩
  | .hbm, ⟨2, _⟩ => ⟨S1x1, .f32⟩
  | .local _ .vmem, ⟨0, _⟩ => ⟨S32x128x128, .f32⟩
  | .local _ .vmem, ⟨1, _⟩ => ⟨S32x128x128, .f32⟩
  | .local _ .vmem, ⟨2, _⟩ => ⟨S128x128, .f32⟩
  | .local _ .vmem, ⟨3, _⟩ => ⟨S1x1, .f32⟩
  | _, _ => ⟨S192x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32_256 : BitVec 32 := 0#32
  let v735 : BitVec 1 := Scalar.cmpi .eq arg0 c0_i32_256
  let v736 : BitVec 32 := Scalar.extui v735
  let c0_i32_257 : BitVec 32 := 0#32
  let v737 : BitVec 1 := Scalar.cmpi .ne v736 c0_i32_257
  v737

def k0_cond2 (i : grid0.Coords) : BitVec 1 :=
  let arg0 : BitVec 32 := BitVec.ofNat 32 (i 0).val
  let c0_i32_258 : BitVec 32 := 0#32
  let v738 : BitVec 1 := Scalar.cmpi .ne arg0 c0_i32_258
  let v739 : BitVec 32 := Scalar.extui v738
  let c0_i32_259 : BitVec 32 := 0#32
  let v740 : BitVec 1 := Scalar.cmpi .ne v739 c0_i32_259
  v740

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KCIdeal.lean ====
abbrev S192x128x128 : Shape := ⟨3, ![192, 128, 128]⟩
abbrev S128x128 : Shape := ⟨2, ![128, 128]⟩
abbrev S1x1 : Shape := ⟨2, ![1, 1]⟩
abbrev S32x128x128 : Shape := ⟨3, ![32, 128, 128]⟩
abbrev S1x128x128 : Shape := ⟨3, ![1, 128, 128]⟩
abbrev S32 : Shape := ⟨1, ![32]⟩
abbrev S32x1x1 : Shape := ⟨3, ![32, 1, 1]⟩
abbrev S1x32 : Shape := ⟨2, ![1, 32]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S192x128x128, .f32⟩
  | .hbm, ⟨1, _⟩ => ⟨S128x128, .f32⟩
  | .hbm, ⟨2, _⟩ => ⟨S1x1, .f32⟩
  | .local _ .vmem, ⟨0, _⟩ => ⟨S32x128x128, .f32⟩
  | .local _ .vmem, ⟨1, _⟩ => ⟨S32x128x128, .f32⟩
  | .local _ .vmem, ⟨2, _⟩ => ⟨S128x128, .f32⟩
  | .local _ .vmem, ⟨3, _⟩ => ⟨S1x1, .f32⟩
  | _, _ => ⟨S192x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F] [Named F]

def κ : String → Option EReal := fun
  | "pick_2" => some ((1 / 768 : ℝ) : EReal)
  | "pick_4" => some ((1 / 384 : ℝ) : EReal)
  | "pick_5" => some ((5 / 1536 : ℝ) : EReal)
  | "sixth_1" => some ((1 / 6 : ℝ) : EReal)
  | "sixth_2" => some ((1 / 3 : ℝ) : EReal)
  | "sixth_4" => some ((2 / 3 : ℝ) : EReal)
  | "sixth_5" => some ((5 / 6 : ℝ) : EReal)
  | _ => none

abbrev grid0 : Pipeline.Grid := ⟨1, ![6], ![false]⟩

def k0_cond1 (i : grid0.Coords) : BitVec 1 :=
  let arg0 : BitVec 32 := BitVec.ofNat 32 (i 0).val
  let c0_i32_256 : BitVec 32 := 0#32
  let v735 : BitVec 1 := Scalar.cmpi .eq arg0 c0_i32_256
  let v736 : BitVec 32 := Scalar.extui v735
  let c0_i32_257 : BitVec 32 := 0#32
  let v737 : BitVec 1 := Scalar.cmpi .ne v736 c0_i32_257
  v737

def k0_cond2 (i : grid0.Coords) : BitVec 1 :=
  let arg0 : BitVec 32 := BitVec.ofNat 32 (i 0).val
  let c0_i32_258 : BitVec 32 := 0#32
  let v738 : BitVec 1 := Scalar.cmpi .ne arg0 c0_i32_258
  let v739 : BitVec 32 := Scalar.extui v738
  let c0_i32_259 : BitVec 32 := 0#32
  let v740 : BitVec 1 := Scalar.cmpi .ne v739 c0_i32_259
  v740

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== RCIdeal.lean ====
abbrev S192x128x128 : Shape := ⟨3, ![192, 128, 128]⟩
abbrev S_ : Shape := ⟨0, ![]⟩
abbrev S192 : Shape := ⟨1, ![192]⟩
abbrev S192x1x1 : Shape := ⟨3, ![192, 1, 1]⟩
abbrev S6 : Shape := ⟨1, ![6]⟩
abbrev S192x128x128x1 : Shape := ⟨4, ![192, 128, 128, 1]⟩
abbrev S1x1x1x6 : Shape := ⟨4, ![1, 1, 1, 6]⟩
abbrev S192x128x128x6 : Shape := ⟨4, ![192, 128, 128, 6]⟩
abbrev S192x6 : Shape := ⟨2, ![192, 6]⟩
abbrev S192x1 : Shape := ⟨2, ![192, 1]⟩
abbrev S192x1x1x6 : Shape := ⟨4, ![192, 1, 1, 6]⟩
abbrev S128x128 : Shape := ⟨2, ![128, 128]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S192x128x128, .f32⟩
  | 1 => ⟨S192x128x128, .i32⟩
  | 2 => ⟨S192x128x128, .i32⟩
  | 3 => ⟨S_, .i32⟩
  | 4 => ⟨S192x128x128, .i32⟩
  | 5 => ⟨S192x128x128, .i1⟩
  | 6 => ⟨S_, .i32⟩
  | 7 => ⟨S192x128x128, .i32⟩
  | 8 => ⟨S192x128x128, .i1⟩
  | 9 => ⟨S192x128x128, .i1⟩
  | 10 => ⟨S_, .i32⟩
  | 11 => ⟨S192x128x128, .i32⟩
  | 12 => ⟨S192x128x128, .i1⟩
  | 13 => ⟨S192x128x128, .i1⟩
  | 14 => ⟨S_, .i32⟩
  | 15 => ⟨S192x128x128, .i32⟩
  | 16 => ⟨S192x128x128, .i1⟩
  | 17 => ⟨S192x128x128, .i1⟩
  | 18 => ⟨S_, .f32⟩
  | 19 => ⟨S_, .f32⟩
  | 20 => ⟨S192x128x128, .f32⟩
  | 21 => ⟨S192x128x128, .f32⟩
  | 22 => ⟨S_, .f32⟩
  | 23 => ⟨S192, .f32⟩
  | 24 => ⟨S192x1x1, .f32⟩
  | 25 => ⟨S_, .f32⟩
  | 26 => ⟨S192, .f32⟩
  | 27 => ⟨S192x1x1, .f32⟩
  | 28 => ⟨S192x1x1, .f32⟩
  | 29 => ⟨S192x128x128, .f32⟩
  | 30 => ⟨S192x128x128, .f32⟩
  | 31 => ⟨S_, .f32⟩
  | 32 => ⟨S192x1x1, .f32⟩
  | 33 => ⟨S192x1x1, .i1⟩
  | 34 => ⟨S_, .f32⟩
  | 35 => ⟨S_, .f32⟩
  | 36 => ⟨S192x1x1, .f32⟩
  | 37 => ⟨S192x1x1, .f32⟩
  | 38 => ⟨S192x128x128, .f32⟩
  | 39 => ⟨S192x128x128, .f32⟩
  | 40 => ⟨S_, .f32⟩
  | 41 => ⟨S192x128x128, .f32⟩
  | 42 => ⟨S192x128x128, .f32⟩
  | 43 => ⟨S_, .f32⟩
  | 44 => ⟨S192x128x128, .f32⟩
  | 45 => ⟨S192x128x128, .f32⟩
  | 46 => ⟨S_, .f32⟩
  | 47 => ⟨S192x1x1, .f32⟩
  | 48 => ⟨S192x1x1, .i1⟩
  | 49 => ⟨S_, .f32⟩
  | 50 => ⟨S192x128x128, .f32⟩
  | 51 => ⟨S192x128x128, .i1⟩
  | 52 => ⟨S192x128x128, .f32⟩
  | 53 => ⟨S_, .f32⟩
  | 54 => ⟨S_, .f32⟩
  | 55 => ⟨S_, .f32⟩
  | 56 => ⟨S192x128x128, .f32⟩
  | 57 => ⟨S192x128x128, .f32⟩
  | 58 => ⟨S192x128x128, .f32⟩
  | 59 => ⟨S192x128x128, .i32⟩
  | 60 => ⟨S_, .i32⟩
  | 61 => ⟨S_, .i32⟩
  | 62 => ⟨S_, .i32⟩
  | 63 => ⟨S192x128x128, .i32⟩
  | 64 => ⟨S192x128x128, .i32⟩
  | 65 => ⟨S_, .i32⟩
  | 66 => ⟨S192x128x128, .i32⟩
  | 67 => ⟨S192x128x128, .i32⟩
  | 68 => ⟨S6, .i32⟩
  | 69 => ⟨S192x128x128x1, .i32⟩
  | 70 => ⟨S1x1x1x6, .i32⟩
  | 71 => ⟨S192x128x128x6, .i32⟩
  | 72 => ⟨S192x128x128x6, .i32⟩
  | 73 => ⟨S192x128x128x6, .i1⟩
  | 74 => ⟨S_, .f32⟩
  | 75 => ⟨S_, .f32⟩
  | 76 => ⟨S192x128x128x6, .f32⟩
  | 77 => ⟨S192x128x128x6, .f32⟩
  | 78 => ⟨S192x128x128x6, .f32⟩
  | 79 => ⟨S192x128x128x6, .f32⟩
  | 80 => ⟨S_, .f32⟩
  | 81 => ⟨S192x6, .f32⟩
  | 82 => ⟨S_, .f32⟩
  | 83 => ⟨S192, .f32⟩
  | 84 => ⟨S192x1, .f32⟩
  | 85 => ⟨S192x6, .f32⟩
  | 86 => ⟨S192x6, .f32⟩
  | 87 => ⟨S_, .f32⟩
  | 88 => ⟨S192x6, .f32⟩
  | 89 => ⟨S192x6, .f32⟩
  | 90 => ⟨S192x6, .f32⟩
  | 91 => ⟨S192x6, .f32⟩
  | 92 => ⟨S_, .f32⟩
  | 93 => ⟨S192x128x128, .f32⟩
  | 94 => ⟨S192x128x128, .f32⟩
  | 95 => ⟨S_, .f32⟩
  | 96 => ⟨S192x128x128, .f32⟩
  | 97 => ⟨S192x128x128, .f32⟩
  | 98 => ⟨S192x128x128, .i32⟩
  | 99 => ⟨S_, .i32⟩
  | 100 => ⟨S_, .i32⟩
  | 101 => ⟨S_, .i32⟩
  | 102 => ⟨S192x128x128, .i32⟩
  | 103 => ⟨S192x128x128, .i32⟩
  | 104 => ⟨S_, .i32⟩
  | 105 => ⟨S192x128x128, .i32⟩
  | 106 => ⟨S192x128x128, .i32⟩
  | 107 => ⟨S192x128x128x1, .i32⟩
  | 108 => ⟨S1x1x1x6, .i32⟩
  | 109 => ⟨S192x128x128x6, .i32⟩
  | 110 => ⟨S192x128x128x6, .i32⟩
  | 111 => ⟨S192x128x128x6, .i1⟩
  | 112 => ⟨S_, .f32⟩
  | 113 => ⟨S_, .f32⟩
  | 114 => ⟨S192x128x128x6, .f32⟩
  | 115 => ⟨S192x128x128x6, .f32⟩
  | 116 => ⟨S192x128x128x6, .f32⟩
  | 117 => ⟨S192x1x1x6, .f32⟩
  | 118 => ⟨S192x128x128x6, .f32⟩
  | 119 => ⟨S192x128x128x6, .f32⟩
  | 120 => ⟨S192x128x128x6, .f32⟩
  | 121 => ⟨S_, .f32⟩
  | 122 => ⟨S192x128x128, .f32⟩
  | 123 => ⟨S_, .f32⟩
  | 124 => ⟨S192, .f32⟩
  | 125 => ⟨S192x1x1, .f32⟩
  | 126 => ⟨S_, .f32⟩
  | 127 => ⟨S192, .f32⟩
  | _ => ⟨S192x128x128, .f32⟩

abbrev hbmTy0_1 (i : Nat) : BufTy := match i % 128 with
  | 0 => ⟨S192x1x1, .f32⟩
  | 1 => ⟨S192x1x1, .f32⟩
  | 2 => ⟨S192x128x128, .f32⟩
  | 3 => ⟨S192x128x128, .f32⟩
  | 4 => ⟨S_, .f32⟩
  | 5 => ⟨S192x1x1, .f32⟩
  | 6 => ⟨S192x1x1, .i1⟩
  | 7 => ⟨S_, .f32⟩
  | 8 => ⟨S_, .f32⟩
  | 9 => ⟨S192x1x1, .f32⟩
  | 10 => ⟨S192x1x1, .f32⟩
  | 11 => ⟨S192x128x128, .f32⟩
  | 12 => ⟨S192x128x128, .f32⟩
  | 13 => ⟨S_, .f32⟩
  | 14 => ⟨S192x128x128, .f32⟩
  | 15 => ⟨S192x128x128, .f32⟩
  | 16 => ⟨S_, .f32⟩
  | 17 => ⟨S192x128x128, .f32⟩
  | 18 => ⟨S192x128x128, .f32⟩
  | 19 => ⟨S_, .f32⟩
  | 20 => ⟨S192x1x1, .f32⟩
  | 21 => ⟨S192x1x1, .i1⟩
  | 22 => ⟨S_, .f32⟩
  | 23 => ⟨S192x128x128, .f32⟩
  | 24 => ⟨S192x128x128, .i1⟩
  | 25 => ⟨S192x128x128, .f32⟩
  | 26 => ⟨S_, .f32⟩
  | 27 => ⟨S192, .f32⟩
  | 28 => ⟨S192x1x1, .f32⟩
  | 29 => ⟨S_, .f32⟩
  | 30 => ⟨S192, .f32⟩
  | 31 => ⟨S192x1x1, .f32⟩
  | 32 => ⟨S_, .f32⟩
  | 33 => ⟨S192x1x1, .f32⟩
  | 34 => ⟨S192x1x1, .f32⟩
  | 35 => ⟨S192x1x1, .f32⟩
  | 36 => ⟨S192x1x1, .f32⟩
  | 37 => ⟨S_, .f32⟩
  | 38 => ⟨S192, .f32⟩
  | 39 => ⟨S192x1x1, .f32⟩
  | 40 => ⟨S_, .f32⟩
  | 41 => ⟨S192, .f32⟩
  | 42 => ⟨S192x1x1, .f32⟩
  | 43 => ⟨S192x1x1, .f32⟩
  | 44 => ⟨S192x128x128, .f32⟩
  | 45 => ⟨S192x128x128, .f32⟩
  | 46 => ⟨S_, .f32⟩
  | 47 => ⟨S192x1x1, .f32⟩
  | 48 => ⟨S192x1x1, .i1⟩
  | 49 => ⟨S_, .f32⟩
  | 50 => ⟨S_, .f32⟩
  | 51 => ⟨S192x1x1, .f32⟩
  | 52 => ⟨S192x1x1, .f32⟩
  | 53 => ⟨S192x128x128, .f32⟩
  | 54 => ⟨S192x128x128, .f32⟩
  | 55 => ⟨S_, .f32⟩
  | 56 => ⟨S192x128x128, .f32⟩
  | 57 => ⟨S192x128x128, .f32⟩
  | 58 => ⟨S_, .f32⟩
  | 59 => ⟨S192x128x128, .f32⟩
  | 60 => ⟨S192x128x128, .f32⟩
  | 61 => ⟨S_, .f32⟩
  | 62 => ⟨S192x1x1, .f32⟩
  | 63 => ⟨S192x1x1, .i1⟩
  | 64 => ⟨S_, .f32⟩
  | 65 => ⟨S192x128x128, .f32⟩
  | 66 => ⟨S192x128x128, .i1⟩
  | 67 => ⟨S192x128x128, .f32⟩
  | 68 => ⟨S192x128x128, .f32⟩
  | 69 => ⟨S192x128x128, .f32⟩
  | 70 => ⟨S192x128x128, .i32⟩
  | 71 => ⟨S_, .i32⟩
  | 72 => ⟨S192x128x128, .i32⟩
  | 73 => ⟨S192x128x128, .i1⟩
  | 74 => ⟨S192x128x128, .i32⟩
  | 75 => ⟨S192x128x128, .i32⟩
  | 76 => ⟨S_, .i32⟩
  | 77 => ⟨S192x128x128, .i32⟩
  | 78 => ⟨S192x128x128, .i1⟩
  | 79 => ⟨S_, .i32⟩
  | 80 => ⟨S192x128x128, .i32⟩
  | 81 => ⟨S192x128x128, .i1⟩
  | 82 => ⟨S192x128x128, .i1⟩
  | 83 => ⟨S_, .i32⟩
  | 84 => ⟨S192x128x128, .i32⟩
  | 85 => ⟨S192x128x128, .i1⟩
  | 86 => ⟨S192x128x128, .i1⟩
  | 87 => ⟨S_, .i32⟩
  | 88 => ⟨S192x128x128, .i32⟩
  | 89 => ⟨S192x128x128, .i1⟩
  | 90 => ⟨S192x128x128, .i1⟩
  | 91 => ⟨S_, .f32⟩
  | 92 => ⟨S_, .f32⟩
  | 93 => ⟨S192x128x128, .f32⟩
  | 94 => ⟨S192x128x128, .f32⟩
  | 95 => ⟨S192x128x128, .f32⟩
  | 96 => ⟨S_, .f32⟩
  | 97 => ⟨S192, .f32⟩
  | 98 => ⟨S192x1x1, .f32⟩
  | 99 => ⟨S_, .f32⟩
  | 100 => ⟨S192, .f32⟩
  | 101 => ⟨S192x1x1, .f32⟩
  | 102 => ⟨S_, .f32⟩
  | 103 => ⟨S192x1x1, .f32⟩
  | 104 => ⟨S192x1x1, .f32⟩
  | 105 => ⟨S192x1x1, .f32⟩
  | 106 => ⟨S192x1x1, .f32⟩
  | 107 => ⟨S_, .f32⟩
  | 108 => ⟨S192, .f32⟩
  | 109 => ⟨S192x1x1, .f32⟩
  | 110 => ⟨S_, .f32⟩
  | 111 => ⟨S192, .f32⟩
  | 112 => ⟨S192x1x1, .f32⟩
  | 113 => ⟨S192x1x1, .f32⟩
  | 114 => ⟨S192x128x128, .f32⟩
  | 115 => ⟨S192x128x128, .f32⟩
  | 116 => ⟨S_, .f32⟩
  | 117 => ⟨S192x1x1, .f32⟩
  | 118 => ⟨S192x1x1, .i1⟩
  | 119 => ⟨S_, .f32⟩
  | 120 => ⟨S_, .f32⟩
  | 121 => ⟨S192x1x1, .f32⟩
  | 122 => ⟨S192x1x1, .f32⟩
  | 123 => ⟨S192x128x128, .f32⟩
  | 124 => ⟨S192x128x128, .f32⟩
  | 125 => ⟨S_, .f32⟩
  | 126 => ⟨S192x128x128, .f32⟩
  | 127 => ⟨S192x128x128, .f32⟩
  | _ => ⟨S192x128x128, .f32⟩

abbrev hbmTy0_2 (i : Nat) : BufTy := match i % 128 with
  | 0 => ⟨S_, .f32⟩
  | 1 => ⟨S192x128x128, .f32⟩
  | 2 => ⟨S192x128x128, .f32⟩
  | 3 => ⟨S_, .f32⟩
  | 4 => ⟨S192x1x1, .f32⟩
  | 5 => ⟨S192x1x1, .i1⟩
  | 6 => ⟨S_, .f32⟩
  | 7 => ⟨S192x128x128, .f32⟩
  | 8 => ⟨S192x128x128, .i1⟩
  | 9 => ⟨S192x128x128, .f32⟩
  | 10 => ⟨S192x128x128, .f32⟩
  | 11 => ⟨S192x128x128, .f32⟩
  | 12 => ⟨S_, .f32⟩
  | 13 => ⟨S128x128, .f32⟩
  | 14 => ⟨S1x1, .f32⟩
  | _ => ⟨S192x128x128, .f32⟩

abbrev hbmTy (i : Nat) : BufTy := match i / 128 with
  | 0 => hbmTy0_0 i
  | 1 => hbmTy0_1 i
  | 2 => hbmTy0_2 i
  | _ => ⟨S192x128x128, .f32⟩

abbrev bufTy : (tb : Table) → Fin (tcTables nBuf tb) → BufTy
  | .hbm, ⟨i, _⟩ => hbmTy i
  | _, _ => ⟨S192x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_call2_v0 : Ref sig .tc := ⟨.hbm, 51, rfl⟩
abbrev main_v33 : Ref sig .tc := ⟨.hbm, 52, rfl⟩
abbrev main_cst_11 : Ref sig .tc := ⟨.hbm, 53, rfl⟩
abbrev main_cst_12 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_13 : Ref sig .tc := ⟨.hbm, 60, rfl⟩
abbrev main_c_14 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_cst_16 : Ref sig .tc := ⟨.hbm, 75, rfl⟩
abbrev main_call4_v0 : Ref sig .tc := ⟨.hbm, 76, rfl⟩
abbrev main_call4_v1 : Ref sig .tc := ⟨.hbm, 77, rfl⟩
abbrev main_v46 : Ref sig .tc := ⟨.hbm, 78, rfl⟩
abbrev main_v47 : Ref sig .tc := ⟨.hbm, 79, rfl⟩
abbrev main_cst_17 : Ref sig .tc := ⟨.hbm, 80, rfl⟩
abbrev main_v48 : Ref sig .tc := ⟨.hbm, 81, rfl⟩
abbrev main_cst_18 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_20 : Ref sig .tc := ⟨.hbm, 92, rfl⟩
abbrev main_v57 : Ref sig .tc := ⟨.hbm, 93, rfl⟩
abbrev main_v58 : Ref sig .tc := ⟨.hbm, 94, rfl⟩
abbrev main_cst_21 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_22 : Ref sig .tc := ⟨.hbm, 99, rfl⟩
abbrev main_c_23 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_24 : Ref sig .tc := ⟨.hbm, 112, rfl⟩
abbrev main_cst_25 : Ref sig .tc := ⟨.hbm, 113, rfl⟩
abbrev main_call6_v0 : Ref sig .tc := ⟨.hbm, 114, rfl⟩
abbrev main_call6_v1 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_26 : Ref sig .tc := ⟨.hbm, 121, rfl⟩
abbrev main_v73 : Ref sig .tc := ⟨.hbm, 122, rfl⟩
abbrev main_cst_27 : Ref sig .tc := ⟨.hbm, 123, rfl⟩
abbrev main_v74 : Ref sig .tc := ⟨.hbm, 124, rfl⟩
abbrev main_v75 : Ref sig .tc := ⟨.hbm, 125, rfl⟩
abbrev main_cst_28 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_29 : Ref sig .tc := ⟨.hbm, 132, rfl⟩
abbrev main_v81 : Ref sig .tc := ⟨.hbm, 133, rfl⟩
abbrev main_v82 : Ref sig .tc := ⟨.hbm, 134, rfl⟩
abbrev main_cst_30 : Ref sig .tc := ⟨.hbm, 135, rfl⟩
abbrev main_call7_v0 : Ref sig .tc := ⟨.hbm, 136, rfl⟩
abbrev main_call7_v1 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_31 : Ref sig .tc := ⟨.hbm, 141, rfl⟩
abbrev main_v86 : Ref sig .tc := ⟨.hbm, 142, rfl⟩
abbrev main_v87 : Ref sig .tc := ⟨.hbm, 143, rfl⟩
abbrev main_cst_32 : Ref sig .tc := ⟨.hbm, 144, rfl⟩
abbrev main_v88 : Ref sig .tc := ⟨.hbm, 145, rfl⟩
abbrev main_v89 : Ref sig .tc := ⟨.hbm, 146, rfl⟩
abbrev main_cst_33 : Ref sig .tc := ⟨.hbm, 147, rfl⟩
abbrev main_v90 : Ref sig .tc := ⟨.hbm, 148, rfl⟩
abbrev main_v91 : Ref sig .tc := ⟨.hbm, 149, rfl⟩
abbrev main_cst_34 : Ref sig .tc := ⟨.hbm, 150, rfl⟩
abbrev main_v92 : Ref sig .tc := ⟨.hbm, 151, rfl⟩
abbrev main_call8_v0 : Ref sig .tc := ⟨.hbm, 152, rfl⟩
abbrev main_v93 : Ref sig .tc := ⟨.hbm, 153, rfl⟩
abbrev main_cst_35 : Ref sig .tc := ⟨.hbm, 154, rfl⟩
abbrev main_v94 : Ref sig .tc := ⟨.hbm, 155, rfl⟩
abbrev main_v95 : Ref sig .tc := ⟨.hbm, 156, rfl⟩
abbrev main_cst_36 : Ref sig .tc := ⟨.hbm, 157, rfl⟩
abbrev main_v96 : Ref sig .tc := ⟨.hbm, 158, rfl⟩
abbrev main_v97 : Ref sig .tc := ⟨.hbm, 159, rfl⟩
abbrev main_cst_37 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_cst_38 : Ref sig .tc := ⟨.hbm, 165, rfl⟩
abbrev main_v102 : Ref sig .tc := ⟨.hbm, 166, rfl⟩
abbrev main_v103 : Ref sig .tc := ⟨.hbm, 167, rfl⟩
abbrev main_cst_39 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_cst_41 : Ref sig .tc := ⟨.hbm, 177, rfl⟩
abbrev main_call9_v0 : Ref sig .tc := ⟨.hbm, 178, rfl⟩
abbrev main_call9_v1 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_42 : Ref sig .tc := ⟨.hbm, 183, rfl⟩
abbrev main_v114 : Ref sig .tc := ⟨.hbm, 184, rfl⟩
abbrev main_v115 : Ref sig .tc := ⟨.hbm, 185, rfl⟩
abbrev main_cst_43 : Ref sig .tc := ⟨.hbm, 186, rfl⟩
abbrev main_v116 : Ref sig .tc := ⟨.hbm, 187, rfl⟩
abbrev main_v117 : Ref sig .tc := ⟨.hbm, 188, rfl⟩
abbrev main_cst_44 : Ref sig .tc := ⟨.hbm, 189, rfl⟩
abbrev main_v118 : Ref sig .tc := ⟨.hbm, 190, rfl⟩
abbrev main_v119 : Ref sig .tc := ⟨.hbm, 191, rfl⟩
abbrev main_cst_45 : Ref sig .tc := ⟨.hbm, 192, rfl⟩
abbrev main_v120 : Ref sig .tc := ⟨.hbm, 193, rfl⟩
abbrev main_call10_v0 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_46 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_c_47 : Ref sig .tc := ⟨.hbm, 204, rfl⟩
abbrev main_v129 : Ref sig .tc := ⟨.hbm, 205, rfl⟩
abbrev main_v130 : Ref sig .tc := ⟨.hbm, 206, rfl⟩
abbrev main_c_48 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_c_49 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_c_50 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_51 : Ref sig .tc := ⟨.hbm, 219, rfl⟩
abbrev main_call11_v0 : Ref sig .tc := ⟨.hbm, 220, rfl⟩
abbrev main_call11_v1 : Ref sig .tc := ⟨.hbm, 221, rfl⟩
abbrev main_v140 : Ref sig .tc := ⟨.hbm, 222, rfl⟩
abbrev main_v141 : Ref sig .tc := ⟨.hbm, 223, rfl⟩
abbrev main_cst_52 : Ref sig .tc := ⟨.hbm, 224, rfl⟩
abbrev main_v142 : Ref sig .tc := ⟨.hbm, 225, rfl⟩
abbrev main_v143 : Ref sig .tc := ⟨.hbm, 226, rfl⟩
abbrev main_cst_53 : Ref sig .tc := ⟨.hbm, 227, rfl⟩
abbrev main_v144 : Ref sig .tc := ⟨.hbm, 228, rfl⟩
abbrev main_v145 : Ref sig .tc := ⟨.hbm, 229, rfl⟩
abbrev main_cst_54 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_55 : Ref sig .tc := ⟨.hbm, 235, rfl⟩
abbrev main_v150 : Ref sig .tc := ⟨.hbm, 236, rfl⟩
abbrev main_v151 : Ref sig .tc := ⟨.hbm, 237, rfl⟩
abbrev main_cst_56 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_cst_57 : Ref sig .tc := ⟨.hbm, 244, rfl⟩
abbrev main_v157 : Ref sig .tc := ⟨.hbm, 245, rfl⟩
abbrev main_v158 : Ref sig .tc := ⟨.hbm, 246, rfl⟩
abbrev main_cst_58 : Ref sig .tc := ⟨.hbm, 247, rfl⟩
abbrev main_call13_v0 : Ref sig .tc := ⟨.hbm, 248, rfl⟩
abbrev main_call13_v1 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_cst_59 : Ref sig .tc := ⟨.hbm, 253, rfl⟩
abbrev main_v162 : Ref sig .tc := ⟨.hbm, 254, rfl⟩
abbrev main_v163 : Ref sig .tc := ⟨.hbm, 255, rfl⟩
abbrev main_cst_60 : Ref sig .tc := ⟨.hbm, 256, rfl⟩
abbrev main_v164 : Ref sig .tc := ⟨.hbm, 257, rfl⟩
abbrev main_v165 : Ref sig .tc := ⟨.hbm, 258, rfl⟩
abbrev main_cst_61 : Ref sig .tc := ⟨.hbm, 259, rfl⟩
abbrev main_v166 : Ref sig .tc := ⟨.hbm, 260, rfl⟩
abbrev main_v167 : Ref sig .tc := ⟨.hbm, 261, rfl⟩
abbrev main_cst_62 : Ref sig .tc := ⟨.hbm, 262, rfl⟩
abbrev main_v168 : Ref sig .tc := ⟨.hbm, 263, rfl⟩
abbrev main_call14_v0 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_cst_63 : Ref sig .tc := ⟨.hbm, 268, rfl⟩
abbrev main_v172 : Ref sig .tc := ⟨.hbm, 269, rfl⟩
abbrev main_v173 : Ref sig .tc := ⟨.hbm, 270, rfl⟩

abbrev nD : Nat := 1
abbrev τ : Topo := Topo.v7x

variable {F : FTy → Type} [FloatOps F]
-- ==== KD.lean ====
abbrev S384x64x64 : Shape := ⟨3, ![384, 64, 64]⟩
abbrev S64x64 : Shape := ⟨2, ![64, 64]⟩
abbrev S1x1 : Shape := ⟨2, ![1, 1]⟩
abbrev S128x64x64 : Shape := ⟨3, ![128, 64, 64]⟩
abbrev S1x64x64 : Shape := ⟨3, ![1, 64, 64]⟩
abbrev S128 : Shape := ⟨1, ![128]⟩
abbrev S128x1x1 : Shape := ⟨3, ![128, 1, 1]⟩
abbrev S1x128 : Shape := ⟨2, ![1, 128]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S384x64x64, .f32⟩
  | .hbm, ⟨1, _⟩ => ⟨S64x64, .f32⟩
  | .hbm, ⟨2, _⟩ => ⟨S1x1, .f32⟩
  | .local _ .vmem, ⟨0, _⟩ => ⟨S128x64x64, .f32⟩
  | .local _ .vmem, ⟨1, _⟩ => ⟨S128x64x64, .f32⟩
  | .local _ .vmem, ⟨2, _⟩ => ⟨S64x64, .f32⟩
  | .local _ .vmem, ⟨3, _⟩ => ⟨S1x1, .f32⟩
  | _, _ => ⟨S384x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![3], ![false]⟩

def k0_cond1 (i : grid0.Coords) : BitVec 1 :=
  let arg0 : BitVec 32 := BitVec.ofNat 32 (i 0).val
  let c0_i32_256 : BitVec 32 := 0#32
  let v735 : BitVec 1 := Scalar.cmpi .eq arg0 c0_i32_256
  let v736 : BitVec 32 := Scalar.extui v735
  let c0_i32_257 : BitVec 32 := 0#32
  let v737 : BitVec 1 := Scalar.cmpi .ne v736 c0_i32_257
  v737

def k0_cond2 (i : grid0.Coords) : BitVec 1 :=
  let arg0 : BitVec 32 := BitVec.ofNat 32 (i 0).val
  let c0_i32_258 : BitVec 32 := 0#32
  let v738 : BitVec 1 := Scalar.cmpi .ne arg0 c0_i32_258
  let v739 : BitVec 32 := Scalar.extui v738
  let c0_i32_259 : BitVec 32 := 0#32
  let v740 : BitVec 1 := Scalar.cmpi .ne v739 c0_i32_259
  v740

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KDIdeal.lean ====
variable {F : FTy → Type} [FloatOps F] [Named F]
def κ : String → Option EReal := fun
  | "pick_2" => some ((1 / 768 : ℝ) : EReal)
  | "pick_4" => some ((1 / 384 : ℝ) : EReal)
  | "pick_5" => some ((5 / 1536 : ℝ) : EReal)
  | "sixth_1" => some ((1 / 6 : ℝ) : EReal)
  | "sixth_2" => some ((1 / 3 : ℝ) : EReal)
  | "sixth_4" => some ((2 / 3 : ℝ) : EReal)
  | "sixth_5" => some ((5 / 6 : ℝ) : EReal)
  | _ => none
-- ==== RDIdeal.lean ====
abbrev S384x64x64 : Shape := ⟨3, ![384, 64, 64]⟩
abbrev S_ : Shape := ⟨0, ![]⟩
abbrev S384 : Shape := ⟨1, ![384]⟩
abbrev S384x1x1 : Shape := ⟨3, ![384, 1, 1]⟩
abbrev S6 : Shape := ⟨1, ![6]⟩
abbrev S384x64x64x1 : Shape := ⟨4, ![384, 64, 64, 1]⟩
abbrev S1x1x1x6 : Shape := ⟨4, ![1, 1, 1, 6]⟩
abbrev S384x64x64x6 : Shape := ⟨4, ![384, 64, 64, 6]⟩
abbrev S384x6 : Shape := ⟨2, ![384, 6]⟩
abbrev S384x1 : Shape := ⟨2, ![384, 1]⟩
abbrev S384x1x1x6 : Shape := ⟨4, ![384, 1, 1, 6]⟩
abbrev S64x64 : Shape := ⟨2, ![64, 64]⟩
abbrev S1x1 : Shape := ⟨2, ![1, 1]⟩

abbrev nBuf : Space → Nat
  | .hbm => 271
  | .vmem => 0
  | .smem => 0
  | _ => 0

abbrev hbmTy0_0 (i : Nat) : BufTy := match i % 128 with
  | 0 => ⟨S384x64x64, .f32⟩
  | 1 => ⟨S384x64x64, .i32⟩
  | 2 => ⟨S384x64x64, .i32⟩
  | 3 => ⟨S_, .i32⟩
  | 4 => ⟨S384x64x64, .i32⟩
  | 5 => ⟨S384x64x64, .i1⟩
  | 6 => ⟨S_, .i32⟩
  | 7 => ⟨S384x64x64, .i32⟩
  | 8 => ⟨S384x64x64, .i1⟩
  | 9 => ⟨S384x64x64, .i1⟩
  | 10 => ⟨S_, .i32⟩
  | 11 => ⟨S384x64x64, .i32⟩
  | 12 => ⟨S384x64x64, .i1⟩
  | 13 => ⟨S384x64x64, .i1⟩
  | 14 => ⟨S_, .i32⟩
  | 15 => ⟨S384x64x64, .i32⟩
  | 16 => ⟨S384x64x64, .i1⟩
  | 17 => ⟨S384x64x64, .i1⟩
  | 18 => ⟨S_, .f32⟩
  | 19 => ⟨S_, .f32⟩
  | 20 => ⟨S384x64x64, .f32⟩
  | 21 => ⟨S384x64x64, .f32⟩
  | 22 => ⟨S_, .f32⟩
  | 23 => ⟨S384, .f32⟩
  | 24 => ⟨S384x1x1, .f32⟩
  | 25 => ⟨S_, .f32⟩
  | 26 => ⟨S384, .f32⟩
  | 27 => ⟨S384x1x1, .f32⟩
  | 28 => ⟨S384x1x1, .f32⟩
  | 29 => ⟨S384x64x64, .f32⟩
  | 30 => ⟨S384x64x64, .f32⟩
  | 31 => ⟨S_, .f32⟩
  | 32 => ⟨S384x1x1, .f32⟩
  | 33 => ⟨S384x1x1, .i1⟩
  | 34 => ⟨S_, .f32⟩
  | 35 => ⟨S_, .f32⟩
  | 36 => ⟨S384x1x1, .f32⟩
  | 37 => ⟨S384x1x1, .f32⟩
  | 38 => ⟨S384x64x64, .f32⟩
  | 39 => ⟨S384x64x64, .f32⟩
  | 40 => ⟨S_, .f32⟩
  | 41 => ⟨S384x64x64, .f32⟩
  | 42 => ⟨S384x64x64, .f32⟩
  | 43 => ⟨S_, .f32⟩
  | 44 => ⟨S384x64x64, .f32⟩
  | 45 => ⟨S384x64x64, .f32⟩
  | 46 => ⟨S_, .f32⟩
  | 47 => ⟨S384x1x1, .f32⟩
  | 48 => ⟨S384x1x1, .i1⟩
  | 49 => ⟨S_, .f32⟩
  | 50 => ⟨S384x64x64, .f32⟩
  | 51 => ⟨S384x64x64, .i1⟩
  | 52 => ⟨S384x64x64, .f32⟩
  | 53 => ⟨S_, .f32⟩
  | 54 => ⟨S_, .f32⟩
  | 55 => ⟨S_, .f32⟩
  | 56 => ⟨S384x64x64, .f32⟩
  | 57 => ⟨S384x64x64, .f32⟩
  | 58 => ⟨S384x64x64, .f32⟩
  | 59 => ⟨S384x64x64, .i32⟩
  | 60 => ⟨S_, .i32⟩
  | 61 => ⟨S_, .i32⟩
  | 62 => ⟨S_, .i32⟩
  | 63 => ⟨S384x64x64, .i32⟩
  | 64 => ⟨S384x64x64, .i32⟩
  | 65 => ⟨S_, .i32⟩
  | 66 => ⟨S384x64x64, .i32⟩
  | 67 => ⟨S384x64x64, .i32⟩
  | 68 => ⟨S6, .i32⟩
  | 69 => ⟨S384x64x64x1, .i32⟩
  | 70 => ⟨S1x1x1x6, .i32⟩
  | 71 => ⟨S384x64x64x6, .i32⟩
  | 72 => ⟨S384x64x64x6, .i32⟩
  | 73 => ⟨S384x64x64x6, .i1⟩
  | 74 => ⟨S_, .f32⟩
  | 75 => ⟨S_, .f32⟩
  | 76 => ⟨S384x64x64x6, .f32⟩
  | 77 => ⟨S384x64x64x6, .f32⟩
  | 78 => ⟨S384x64x64x6, .f32⟩
  | 79 => ⟨S384x64x64x6, .f32⟩
  | 80 => ⟨S_, .f32⟩
  | 81 => ⟨S384x6, .f32⟩
  | 82 => ⟨S_, .f32⟩
  | 83 => ⟨S384, .f32⟩
  | 84 => ⟨S384x1, .f32⟩
  | 85 => ⟨S384x6, .f32⟩
  | 86 => ⟨S384x6, .f32⟩
  | 87 => ⟨S_, .f32⟩
  | 88 => ⟨S384x6, .f32⟩
  | 89 => ⟨S384x6, .f32⟩
  | 90 => ⟨S384x6, .f32⟩
  | 91 => ⟨S384x6, .f32⟩
  | 92 => ⟨S_, .f32⟩
  | 93 => ⟨S384x64x64, .f32⟩
  | 94 => ⟨S384x64x64, .f32⟩
  | 95 => ⟨S_, .f32⟩
  | 96 => ⟨S384x64x64, .f32⟩
  | 97 => ⟨S384x64x64, .f32⟩
  | 98 => ⟨S384x64x64, .i32⟩
  | 99 => ⟨S_, .i32⟩
  | 100 => ⟨S_, .i32⟩
  | 101 => ⟨S_, .i32⟩
  | 102 => ⟨S384x64x64, .i32⟩
  | 103 => ⟨S384x64x64, .i32⟩
  | 104 => ⟨S_, .i32⟩
  | 105 => ⟨S384x64x64, .i32⟩
  | 106 => ⟨S384x64x64, .i32⟩
  | 107 => ⟨S384x64x64x1, .i32⟩
  | 108 => ⟨S1x1x1x6, .i32⟩
  | 109 => ⟨S384x64x64x6, .i32⟩
  | 110 => ⟨S384x64x64x6, .i32⟩
  | 111 => ⟨S384x64x64x6, .i1⟩
  | 112 => ⟨S_, .f32⟩
  | 113 => ⟨S_, .f32⟩
  | 114 => ⟨S384x64x64x6, .f32⟩
  | 115 => ⟨S384x64x64x6, .f32⟩
  | 116 => ⟨S384x64x64x6, .f32⟩
  | 117 => ⟨S384x1x1x6, .f32⟩
  | 118 => ⟨S384x64x64x6, .f32⟩
  | 119 => ⟨S384x64x64x6, .f32⟩
  | 120 => ⟨S384x64x64x6, .f32⟩
  | 121 => ⟨S_, .f32⟩
  | 122 => ⟨S384x64x64, .f32⟩
  | 123 => ⟨S_, .f32⟩
  | 124 => ⟨S384, .f32⟩
  | 125 => ⟨S384x1x1, .f32⟩
  | 126 => ⟨S_, .f32⟩
  | 127 => ⟨S384, .f32⟩
  | _ => ⟨S384x64x64, .f32⟩

abbrev hbmTy0_1 (i : Nat) : BufTy := match i % 128 with
  | 0 => ⟨S384x1x1, .f32⟩
  | 1 => ⟨S384x1x1, .f32⟩
  | 2 => ⟨S384x64x64, .f32⟩
  | 3 => ⟨S384x64x64, .f32⟩
  | 4 => ⟨S_, .f32⟩
  | 5 => ⟨S384x1x1, .f32⟩
  | 6 => ⟨S384x1x1, .i1⟩
  | 7 => ⟨S_, .f32⟩
  | 8 => ⟨S_, .f32⟩
  | 9 => ⟨S384x1x1, .f32⟩
  | 10 => ⟨S384x1x1, .f32⟩
  | 11 => ⟨S384x64x64, .f32⟩
  | 12 => ⟨S384x64x64, .f32⟩
  | 13 => ⟨S_, .f32⟩
  | 14 => ⟨S384x64x64, .f32⟩
  | 15 => ⟨S384x64x64, .f32⟩
  | 16 => ⟨S_, .f32⟩
  | 17 => ⟨S384x64x64, .f32⟩
  | 18 => ⟨S384x64x64, .f32⟩
  | 19 => ⟨S_, .f32⟩
  | 20 => ⟨S384x1x1, .f32⟩
  | 21 => ⟨S384x1x1, .i1⟩
  | 22 => ⟨S_, .f32⟩
  | 23 => ⟨S384x64x64, .f32⟩
  | 24 => ⟨S384x64x64, .i1⟩
  | 25 => ⟨S384x64x64, .f32⟩
  | 26 => ⟨S_, .f32⟩
  | 27 => ⟨S384, .f32⟩
  | 28 => ⟨S384x1x1, .f32⟩
  | 29 => ⟨S_, .f32⟩
  | 30 => ⟨S384, .f32⟩
  | 31 => ⟨S384x1x1, .f32⟩
  | 32 => ⟨S_, .f32⟩
  | 33 => ⟨S384x1x1, .f32⟩
  | 34 => ⟨S384x1x1, .f32⟩
  | 35 => ⟨S384x1x1, .f32⟩
  | 36 => ⟨S384x1x1, .f32⟩
  | 37 => ⟨S_, .f32⟩
  | 38 => ⟨S384, .f32⟩
  | 39 => ⟨S384x1x1, .f32⟩
  | 40 => ⟨S_, .f32⟩
  | 41 => ⟨S384, .f32⟩
  | 42 => ⟨S384x1x1, .f32⟩
  | 43 => ⟨S384x1x1, .f32⟩
  | 44 => ⟨S384x64x64, .f32⟩
  | 45 => ⟨S384x64x64, .f32⟩
  | 46 => ⟨S_, .f32⟩
  | 47 => ⟨S384x1x1, .f32⟩
  | 48 => ⟨S384x1x1, .i1⟩
  | 49 => ⟨S_, .f32⟩
  | 50 => ⟨S_, .f32⟩
  | 51 => ⟨S384x1x1, .f32⟩
  | 52 => ⟨S384x1x1, .f32⟩
  | 53 => ⟨S384x64x64, .f32⟩
  | 54 => ⟨S384x64x64, .f32⟩
  | 55 => ⟨S_, .f32⟩
  | 56 => ⟨S384x64x64, .f32⟩
  | 57 => ⟨S384x64x64, .f32⟩
  | 58 => ⟨S_, .f32⟩
  | 59 => ⟨S384x64x64, .f32⟩
  | 60 => ⟨S384x64x64, .f32⟩
  | 61 => ⟨S_, .f32⟩
  | 62 => ⟨S384x1x1, .f32⟩
  | 63 => ⟨S384x1x1, .i1⟩
  | 64 => ⟨S_, .f32⟩
  | 65 => ⟨S384x64x64, .f32⟩
  | 66 => ⟨S384x64x64, .i1⟩
  | 67 => ⟨S384x64x64, .f32⟩
  | 68 => ⟨S384x64x64, .f32⟩
  | 69 => ⟨S384x64x64, .f32⟩
  | 70 => ⟨S384x64x64, .i32⟩
  | 71 => ⟨S_, .i32⟩
  | 72 => ⟨S384x64x64, .i32⟩
  | 73 => ⟨S384x64x64, .i1⟩
  | 74 => ⟨S384x64x64, .i32⟩
  | 75 => ⟨S384x64x64, .i32⟩
  | 76 => ⟨S_, .i32⟩
  | 77 => ⟨S384x64x64, .i32⟩
  | 78 => ⟨S384x64x64, .i1⟩
  | 79 => ⟨S_, .i32⟩
  | 80 => ⟨S384x64x64, .i32⟩
  | 81 => ⟨S384x64x64, .i1⟩
  | 82 => ⟨S384x64x64, .i1⟩
  | 83 => ⟨S_, .i32⟩
  | 84 => ⟨S384x64x64, .i32⟩
  | 85 => ⟨S384x64x64, .i1⟩
  | 86 => ⟨S384x64x64, .i1⟩
  | 87 => ⟨S_, .i32⟩
  | 88 => ⟨S384x64x64, .i32⟩
  | 89 => ⟨S384x64x64, .i1⟩
  | 90 => ⟨S384x64x64, .i1⟩
  | 91 => ⟨S_, .f32⟩
  | 92 => ⟨S_, .f32⟩
  | 93 => ⟨S384x64x64, .f32⟩
  | 94 => ⟨S384x64x64, .f32⟩
  | 95 => ⟨S384x64x64, .f32⟩
  | 96 => ⟨S_, .f32⟩
  | 97 => ⟨S384, .f32⟩
  | 98 => ⟨S384x1x1, .f32⟩
  | 99 => ⟨S_, .f32⟩
  | 100 => ⟨S384, .f32⟩
  | 101 => ⟨S384x1x1, .f32⟩
  | 102 => ⟨S_, .f32⟩
  | 103 => ⟨S384x1x1, .f32⟩
  | 104 => ⟨S384x1x1, .f32⟩
  | 105 => ⟨S384x1x1, .f32⟩
  | 106 => ⟨S384x1x1, .f32⟩
  | 107 => ⟨S_, .f32⟩
  | 108 => ⟨S384, .f32⟩
  | 109 => ⟨S384x1x1, .f32⟩
  | 110 => ⟨S_, .f32⟩
  | 111 => ⟨S384, .f32⟩
  | 112 => ⟨S384x1x1, .f32⟩
  | 113 => ⟨S384x1x1, .f32⟩
  | 114 => ⟨S384x64x64, .f32⟩
  | 115 => ⟨S384x64x64, .f32⟩
  | 116 => ⟨S_, .f32⟩
  | 117 => ⟨S384x1x1, .f32⟩
  | 118 => ⟨S384x1x1, .i1⟩
  | 119 => ⟨S_, .f32⟩
  | 120 => ⟨S_, .f32⟩
  | 121 => ⟨S384x1x1, .f32⟩
  | 122 => ⟨S384x1x1, .f32⟩
  | 123 => ⟨S384x64x64, .f32⟩
  | 124 => ⟨S384x64x64, .f32⟩
  | 125 => ⟨S_, .f32⟩
  | 126 => ⟨S384x64x64, .f32⟩
  | 127 => ⟨S384x64x64, .f32⟩
  | _ => ⟨S384x64x64, .f32⟩

abbrev hbmTy0_2 (i : Nat) : BufTy := match i % 128 with
  | 0 => ⟨S_, .f32⟩
  | 1 => ⟨S384x64x64, .f32⟩
  | 2 => ⟨S384x64x64, .f32⟩
  | 3 => ⟨S_, .f32⟩
  | 4 => ⟨S384x1x1, .f32⟩
  | 5 => ⟨S384x1x1, .i1⟩
  | 6 => ⟨S_, .f32⟩
  | 7 => ⟨S384x64x64, .f32⟩
  | 8 => ⟨S384x64x64, .i1⟩
  | 9 => ⟨S384x64x64, .f32⟩
  | 10 => ⟨S384x64x64, .f32⟩
  | 11 => ⟨S384x64x64, .f32⟩
  | 12 => ⟨S_, .f32⟩
  | 13 => ⟨S64x64, .f32⟩
  | 14 => ⟨S1x1, .f32⟩
  | _ => ⟨S384x64x64, .f32⟩

abbrev hbmTy (i : Nat) : BufTy := match i / 128 with
  | 0 => hbmTy0_0 i
  | 1 => hbmTy0_1 i
  | 2 => hbmTy0_2 i
  | _ => ⟨S384x64x64, .f32⟩

abbrev bufTy : (tb : Table) → Fin (tcTables nBuf tb) → BufTy
  | .hbm, ⟨i, _⟩ => hbmTy i
  | _, _ => ⟨S384x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_c_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_call1_v0 : Ref sig .tc := ⟨.hbm, 35, rfl⟩
abbrev main_call1_v1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_call2_v0 : Ref sig .tc := ⟨.hbm, 51, rfl⟩
abbrev main_v33 : Ref sig .tc := ⟨.hbm, 52, rfl⟩
abbrev main_cst_11 : Ref sig .tc := ⟨.hbm, 53, rfl⟩
abbrev main_cst_12 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_13 : Ref sig .tc := ⟨.hbm, 60, rfl⟩
abbrev main_c_14 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_cst_16 : Ref sig .tc := ⟨.hbm, 75, rfl⟩
abbrev main_call4_v0 : Ref sig .tc := ⟨.hbm, 76, rfl⟩
abbrev main_call4_v1 : Ref sig .tc := ⟨.hbm, 77, rfl⟩
abbrev main_v46 : Ref sig .tc := ⟨.hbm, 78, rfl⟩
abbrev main_v47 : Ref sig .tc := ⟨.hbm, 79, rfl⟩
abbrev main_cst_17 : Ref sig .tc := ⟨.hbm, 80, rfl⟩
abbrev main_v48 : Ref sig .tc := ⟨.hbm, 81, rfl⟩
abbrev main_cst_18 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_19 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_20 : Ref sig .tc := ⟨.hbm, 92, rfl⟩
abbrev main_v57 : Ref sig .tc := ⟨.hbm, 93, rfl⟩
abbrev main_v58 : Ref sig .tc := ⟨.hbm, 94, rfl⟩
abbrev main_cst_21 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_c_22 : Ref sig .tc := ⟨.hbm, 99, rfl⟩
abbrev main_c_23 : Ref sig .tc := ⟨.hbm, 100, rfl⟩
abbrev main_call5_v0 : Ref sig .tc := ⟨.hbm, 101, rfl⟩
abbrev main_call5_v1 : Ref sig .tc := ⟨.hbm, 102, rfl⟩
abbrev main_call5_v2 : Ref sig .tc := ⟨.hbm, 103, rfl⟩
abbrev main_call5_v3 : Ref sig .tc := ⟨.hbm, 104, rfl⟩
abbrev main_call5_v4 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_24 : Ref sig .tc := ⟨.hbm, 112, rfl⟩
abbrev main_cst_25 : Ref sig .tc := ⟨.hbm, 113, rfl⟩
abbrev main_call6_v0 : Ref sig .tc := ⟨.hbm, 114, rfl⟩
abbrev main_call6_v1 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_cst_26 : Ref sig .tc := ⟨.hbm, 121, rfl⟩
abbrev main_v73 : Ref sig .tc := ⟨.hbm, 122, rfl⟩
abbrev main_cst_27 : Ref sig .tc := ⟨.hbm, 123, rfl⟩
abbrev main_v74 : Ref sig .tc := ⟨.hbm, 124, rfl⟩
abbrev main_v75 : Ref sig .tc := ⟨.hbm, 125, rfl⟩
abbrev main_cst_28 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_29 : Ref sig .tc := ⟨.hbm, 132, rfl⟩
abbrev main_v81 : Ref sig .tc := ⟨.hbm, 133, rfl⟩
abbrev main_v82 : Ref sig .tc := ⟨.hbm, 134, rfl⟩
abbrev main_cst_30 : Ref sig .tc := ⟨.hbm, 135, rfl⟩
abbrev main_call7_v0 : Ref sig .tc := ⟨.hbm, 136, rfl⟩
abbrev main_call7_v1 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_cst_31 : Ref sig .tc := ⟨.hbm, 141, rfl⟩
abbrev main_v86 : Ref sig .tc := ⟨.hbm, 142, rfl⟩
abbrev main_v87 : Ref sig .tc := ⟨.hbm, 143, rfl⟩
abbrev main_cst_32 : Ref sig .tc := ⟨.hbm, 144, rfl⟩
abbrev main_v88 : Ref sig .tc := ⟨.hbm, 145, rfl⟩
abbrev main_v89 : Ref sig .tc := ⟨.hbm, 146, rfl⟩
abbrev main_cst_33 : Ref sig .tc := ⟨.hbm, 147, rfl⟩
abbrev main_v90 : Ref sig .tc := ⟨.hbm, 148, rfl⟩
abbrev main_v91 : Ref sig .tc := ⟨.hbm, 149, rfl⟩
abbrev main_cst_34 : Ref sig .tc := ⟨.hbm, 150, rfl⟩
abbrev main_v92 : Ref sig .tc := ⟨.hbm, 151, rfl⟩
abbrev main_call8_v0 : Ref sig .tc := ⟨.hbm, 152, rfl⟩
abbrev main_v93 : Ref sig .tc := ⟨.hbm, 153, rfl⟩
abbrev main_cst_35 : Ref sig .tc := ⟨.hbm, 154, rfl⟩
abbrev main_v94 : Ref sig .tc := ⟨.hbm, 155, rfl⟩
abbrev main_v95 : Ref sig .tc := ⟨.hbm, 156, rfl⟩
abbrev main_cst_36 : Ref sig .tc := ⟨.hbm, 157, rfl⟩
abbrev main_v96 : Ref sig .tc := ⟨.hbm, 158, rfl⟩
abbrev main_v97 : Ref sig .tc := ⟨.hbm, 159, rfl⟩
abbrev main_cst_37 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_cst_38 : Ref sig .tc := ⟨.hbm, 165, rfl⟩
abbrev main_v102 : Ref sig .tc := ⟨.hbm, 166, rfl⟩
abbrev main_v103 : Ref sig .tc := ⟨.hbm, 167, rfl⟩
abbrev main_cst_39 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_cst_41 : Ref sig .tc := ⟨.hbm, 177, rfl⟩
abbrev main_call9_v0 : Ref sig .tc := ⟨.hbm, 178, rfl⟩
abbrev main_call9_v1 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_42 : Ref sig .tc := ⟨.hbm, 183, rfl⟩
abbrev main_v114 : Ref sig .tc := ⟨.hbm, 184, rfl⟩
abbrev main_v115 : Ref sig .tc := ⟨.hbm, 185, rfl⟩
abbrev main_cst_43 : Ref sig .tc := ⟨.hbm, 186, rfl⟩
abbrev main_v116 : Ref sig .tc := ⟨.hbm, 187, rfl⟩
abbrev main_v117 : Ref sig .tc := ⟨.hbm, 188, rfl⟩
abbrev main_cst_44 : Ref sig .tc := ⟨.hbm, 189, rfl⟩
abbrev main_v118 : Ref sig .tc := ⟨.hbm, 190, rfl⟩
abbrev main_v119 : Ref sig .tc := ⟨.hbm, 191, rfl⟩
abbrev main_cst_45 : Ref sig .tc := ⟨.hbm, 192, rfl⟩
abbrev main_v120 : Ref sig .tc := ⟨.hbm, 193, rfl⟩
abbrev main_call10_v0 : Ref sig .tc := ⟨.hbm, 194, rfl⟩
abbrev main_v121 : Ref sig .tc := ⟨.hbm, 195, rfl⟩
abbrev main_v122 : Ref sig .tc := ⟨.hbm, 196, rfl⟩
abbrev main_v123 : Ref sig .tc := ⟨.hbm, 197, rfl⟩
abbrev main_v124 : Ref sig .tc := ⟨.hbm, 198, rfl⟩
abbrev main_c_46 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_c_47 : Ref sig .tc := ⟨.hbm, 204, rfl⟩
abbrev main_v129 : Ref sig .tc := ⟨.hbm, 205, rfl⟩
abbrev main_v130 : Ref sig .tc := ⟨.hbm, 206, rfl⟩
abbrev main_c_48 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_c_49 : Ref sig .tc := ⟨.hbm, 211, rfl⟩
abbrev main_v134 : Ref sig .tc := ⟨.hbm, 212, rfl⟩
abbrev main_v135 : Ref sig .tc := ⟨.hbm, 213, rfl⟩
abbrev main_v136 : Ref sig .tc := ⟨.hbm, 214, rfl⟩
abbrev main_c_50 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_51 : Ref sig .tc := ⟨.hbm, 219, rfl⟩
abbrev main_call11_v0 : Ref sig .tc := ⟨.hbm, 220, rfl⟩
abbrev main_call11_v1 : Ref sig .tc := ⟨.hbm, 221, rfl⟩
abbrev main_v140 : Ref sig .tc := ⟨.hbm, 222, rfl⟩
abbrev main_v141 : Ref sig .tc := ⟨.hbm, 223, rfl⟩
abbrev main_cst_52 : Ref sig .tc := ⟨.hbm, 224, rfl⟩
abbrev main_v142 : Ref sig .tc := ⟨.hbm, 225, rfl⟩
abbrev main_v143 : Ref sig .tc := ⟨.hbm, 226, rfl⟩
abbrev main_cst_53 : Ref sig .tc := ⟨.hbm, 227, rfl⟩
abbrev main_v144 : Ref sig .tc := ⟨.hbm, 228, rfl⟩
abbrev main_v145 : Ref sig .tc := ⟨.hbm, 229, rfl⟩
abbrev main_cst_54 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_cst_55 : Ref sig .tc := ⟨.hbm, 235, rfl⟩
abbrev main_v150 : Ref sig .tc := ⟨.hbm, 236, rfl⟩
abbrev main_v151 : Ref sig .tc := ⟨.hbm, 237, rfl⟩
abbrev main_cst_56 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_cst_57 : Ref sig .tc := ⟨.hbm, 244, rfl⟩
abbrev main_v157 : Ref sig .tc := ⟨.hbm, 245, rfl⟩
abbrev main_v158 : Ref sig .tc := ⟨.hbm, 246, rfl⟩
abbrev main_cst_58 : Ref sig .tc := ⟨.hbm, 247, rfl⟩
abbrev main_call13_v0 : Ref sig .tc := ⟨.hbm, 248, rfl⟩
abbrev main_call13_v1 : Ref sig .tc := ⟨.hbm, 249, rfl⟩
abbrev main_v159 : Ref sig .tc := ⟨.hbm, 250, rfl⟩
abbrev main_v160 : Ref sig .tc := ⟨.hbm, 251, rfl⟩
abbrev main_v161 : Ref sig .tc := ⟨.hbm, 252, rfl⟩
abbrev main_cst_59 : Ref sig .tc := ⟨.hbm, 253, rfl⟩
abbrev main_v162 : Ref sig .tc := ⟨.hbm, 254, rfl⟩
abbrev main_v163 : Ref sig .tc := ⟨.hbm, 255, rfl⟩
abbrev main_cst_60 : Ref sig .tc := ⟨.hbm, 256, rfl⟩
abbrev main_v164 : Ref sig .tc := ⟨.hbm, 257, rfl⟩
abbrev main_v165 : Ref sig .tc := ⟨.hbm, 258, rfl⟩
abbrev main_cst_61 : Ref sig .tc := ⟨.hbm, 259, rfl⟩
abbrev main_v166 : Ref sig .tc := ⟨.hbm, 260, rfl⟩
abbrev main_v167 : Ref sig .tc := ⟨.hbm, 261, rfl⟩
abbrev main_cst_62 : Ref sig .tc := ⟨.hbm, 262, rfl⟩
abbrev main_v168 : Ref sig .tc := ⟨.hbm, 263, rfl⟩
abbrev main_call14_v0 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_cst_63 : Ref sig .tc := ⟨.hbm, 268, rfl⟩
abbrev main_v172 : Ref sig .tc := ⟨.hbm, 269, rfl⟩
abbrev main_v173 : Ref sig .tc := ⟨.hbm, 270, rfl⟩

abbrev nD : Nat := 1
abbrev τ : Topo := Topo.v7x

variable {F : FTy → Type} [FloatOps F]
-- ==== KB.lean ====
abbrev S256x256 : Shape := ⟨2, ![256, 256]⟩
abbrev S1x1 : Shape := ⟨2, ![1, 1]⟩
abbrev S128x128 : Shape := ⟨2, ![128, 128]⟩
abbrev S64x64 : Shape := ⟨2, ![64, 64]⟩
abbrev S240x256 : Shape := ⟨2, ![240, 256]⟩
abbrev S256x240 : Shape := ⟨2, ![256, 240]⟩
abbrev S240x128 : Shape := ⟨2, ![240, 128]⟩
abbrev S128x240 : Shape := ⟨2, ![128, 240]⟩
abbrev S240x64 : Shape := ⟨2, ![240, 64]⟩
abbrev S64x240 : Shape := ⟨2, ![64, 240]⟩
abbrev S240x240 : Shape := ⟨2, ![240, 240]⟩
abbrev S3x240x240 : Shape := ⟨3, ![3, 240, 240]⟩
abbrev S1x256x256 : Shape := ⟨3, ![1, 256, 256]⟩
abbrev S1 : Shape := ⟨1, ![1]⟩
abbrev S1x1x1 : Shape := ⟨3, ![1, 1, 1]⟩
abbrev S1x240x240 : Shape := ⟨3, ![1, 240, 240]⟩
abbrev S1x128x128 : Shape := ⟨3, ![1, 128, 128]⟩
abbrev S1x64x64 : Shape := ⟨3, ![1, 64, 64]⟩

abbrev nBuf : Space → Nat
  | .hbm => 16
  | .vmem => 16
  | .smem => 0
  | _ => 0

abbrev bufTy : (tb : Table) → Fin (tcTables nBuf tb) → BufTy
  | .hbm, ⟨0, _⟩ => ⟨S256x256, .f32⟩
  | .hbm, ⟨1, _⟩ => ⟨S1x1, .f32⟩
  | .hbm, ⟨2, _⟩ => ⟨S256x256, .f32⟩
  | .hbm, ⟨3, _⟩ => ⟨S1x1, .f32⟩
  | .hbm, ⟨4, _⟩ => ⟨S128x128, .f32⟩
  | .hbm, ⟨5, _⟩ => ⟨S1x1, .f32⟩
  | .hbm, ⟨6, _⟩ => ⟨S64x64, .f32⟩
  | .hbm, ⟨7, _⟩ => ⟨S1x1, .f32⟩
  | .hbm, ⟨8, _⟩ => ⟨S240x256, .f32⟩
  | .hbm, ⟨9, _⟩ => ⟨S256x240, .f32⟩
  | .hbm, ⟨10, _⟩ => ⟨S240x128, .f32⟩
  | .hbm, ⟨11, _⟩ => ⟨S128x240, .f32⟩
  | .hbm, ⟨12, _⟩ => ⟨S240x64, .f32⟩
  | .hbm, ⟨13, _⟩ => ⟨S64x240, .f32⟩
  | .hbm, ⟨14, _⟩ => ⟨S240x240, .f32⟩
  | .hbm, ⟨15, _⟩ => ⟨S3x240x240, .f32⟩
  | .local _ .vmem, ⟨0, _⟩ => ⟨S256x256, .f32⟩
  | .local _ .vmem, ⟨1, _⟩ => ⟨S1x1, .f32⟩
  | .local _ .vmem, ⟨2, _⟩ => ⟨S256x256, .f32⟩
  | .local _ .vmem, ⟨3, _⟩ => ⟨S1x1, .f32⟩
  | .local _ .vmem, ⟨4, _⟩ => ⟨S128x128, .f32⟩
  | .local _ .vmem, ⟨5, _⟩ => ⟨S1x1, .f32⟩
  | .local _ .vmem, ⟨6, _⟩ => ⟨S64x64, .f32⟩
  | .local _ .vmem, ⟨7, _⟩ => ⟨S1x1, .f32⟩
  | .local _ .vmem, ⟨8, _⟩ => ⟨S240x256, .f32⟩
  | .local _ .vmem, ⟨9, _⟩ => ⟨S256x240, .f32⟩
  | .local _ .vmem, ⟨10, _⟩ => ⟨S240x128, .f32⟩
  | .local _ .vmem, ⟨11, _⟩ => ⟨S128x240, .f32⟩
  | .local _ .vmem, ⟨12, _⟩ => ⟨S240x64, .f32⟩
  | .local _ .vmem, ⟨13, _⟩ => ⟨S64x240, .f32⟩
  | .local _ .vmem, ⟨14, _⟩ => ⟨S240x240, .f32⟩
  | .local _ .vmem, ⟨15, _⟩ => ⟨S3x240x240, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S240x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x240 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S240x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x240 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S240x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x240 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S240x240 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x240x240 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== RBIdeal.lean ====
abbrev S256x256 : Shape := ⟨2, ![256, 256]⟩
abbrev S1x1 : Shape := ⟨2, ![1, 1]⟩
abbrev S128x128 : Shape := ⟨2, ![128, 128]⟩
abbrev S64x64 : Shape := ⟨2, ![64, 64]⟩
abbrev S240x256 : Shape := ⟨2, ![240, 256]⟩
abbrev S256x240 : Shape := ⟨2, ![256, 240]⟩
abbrev S240x128 : Shape := ⟨2, ![240, 128]⟩
abbrev S128x240 : Shape := ⟨2, ![128, 240]⟩
abbrev S240x64 : Shape := ⟨2, ![240, 64]⟩
abbrev S64x240 : Shape := ⟨2, ![64, 240]⟩
abbrev S_ : Shape := ⟨0, ![]⟩
abbrev S240x240 : Shape := ⟨2, ![240, 240]⟩
abbrev S1x240x240 : Shape := ⟨3, ![1, 240, 240]⟩
abbrev S3x240x240 : Shape := ⟨3, ![3, 240, 240]⟩

abbrev nBuf : Space → Nat
  | .hbm => 507
  | .vmem => 0
  | .smem => 0
  | _ => 0

abbrev hbmTy0_0 (i : Nat) : BufTy := match i % 128 with
  | 0 => ⟨S256x256, .f32⟩
  | 1 => ⟨S1x1, .f32⟩
  | 2 => ⟨S256x256, .f32⟩
  | 3 => ⟨S1x1, .f32⟩
  | 4 => ⟨S128x128, .f32⟩
  | 5 => ⟨S1x1, .f32⟩
  | 6 => ⟨S64x64, .f32⟩
  | 7 => ⟨S1x1, .f32⟩
  | 8 => ⟨S240x256, .f32⟩
  | 9 => ⟨S256x240, .f32⟩
  | 10 => ⟨S240x128, .f32⟩
  | 11 => ⟨S128x240, .f32⟩
  | 12 => ⟨S240x64, .f32⟩
  | 13 => ⟨S64x240, .f32⟩
  | 14 => ⟨S256x256, .i32⟩
  | 15 => ⟨S256x256, .i32⟩
  | 16 => ⟨S_, .i32⟩
  | 17 => ⟨S256x256, .i32⟩
  | 18 => ⟨S256x256, .i1⟩
  | 19 => ⟨S_, .i32⟩
  | 20 => ⟨S256x256, .i32⟩
  | 21 => ⟨S256x256, .i1⟩
  | 22 => ⟨S256x256, .i1⟩
  | 23 => ⟨S_, .i32⟩
  | 24 => ⟨S256x256, .i32⟩
  | 25 => ⟨S256x256, .i1⟩
  | 26 => ⟨S256x256, .i1⟩
  | 27 => ⟨S_, .i32⟩
  | 28 => ⟨S256x256, .i32⟩
  | 29 => ⟨S256x256, .i1⟩
  | 30 => ⟨S256x256, .i1⟩
  | 31 => ⟨S256x256, .f32⟩
  | 32 => ⟨S256x256, .f32⟩
  | 33 => ⟨S_, .f32⟩
  | 34 => ⟨S_, .f32⟩
  | 35 => ⟨S1x1, .f32⟩
  | 36 => ⟨S_, .f32⟩
  | 37 => ⟨S_, .f32⟩
  | 38 => ⟨S1x1, .f32⟩
  | 39 => ⟨S1x1, .f32⟩
  | 40 => ⟨S256x256, .f32⟩
  | 41 => ⟨S256x256, .f32⟩
  | 42 => ⟨S_, .f32⟩
  | 43 => ⟨S1x1, .f32⟩
  | 44 => ⟨S1x1, .i1⟩
  | 45 => ⟨S_, .f32⟩
  | 46 => ⟨S_, .f32⟩
  | 47 => ⟨S1x1, .f32⟩
  | 48 => ⟨S1x1, .f32⟩
  | 49 => ⟨S256x256, .f32⟩
  | 50 => ⟨S256x256, .f32⟩
  | 51 => ⟨S_, .f32⟩
  | 52 => ⟨S256x256, .f32⟩
  | 53 => ⟨S256x256, .f32⟩
  | 54 => ⟨S_, .f32⟩
  | 55 => ⟨S256x256, .f32⟩
  | 56 => ⟨S256x256, .f32⟩
  | 57 => ⟨S_, .f32⟩
  | 58 => ⟨S1x1, .f32⟩
  | 59 => ⟨S1x1, .i1⟩
  | 60 => ⟨S_, .f32⟩
  | 61 => ⟨S256x256, .f32⟩
  | 62 => ⟨S256x256, .i1⟩
  | 63 => ⟨S256x256, .f32⟩
  | 64 => ⟨S256x240, .f32⟩
  | 65 => ⟨S240x240, .f32⟩
  | 66 => ⟨S256x256, .i32⟩
  | 67 => ⟨S256x256, .i32⟩
  | 68 => ⟨S_, .i32⟩
  | 69 => ⟨S256x256, .i32⟩
  | 70 => ⟨S256x256, .i1⟩
  | 71 => ⟨S_, .i32⟩
  | 72 => ⟨S256x256, .i32⟩
  | 73 => ⟨S256x256, .i1⟩
  | 74 => ⟨S256x256, .i1⟩
  | 75 => ⟨S_, .i32⟩
  | 76 => ⟨S256x256, .i32⟩
  | 77 => ⟨S256x256, .i1⟩
  | 78 => ⟨S256x256, .i1⟩
  | 79 => ⟨S_, .i32⟩
  | 80 => ⟨S256x256, .i32⟩
  | 81 => ⟨S256x256, .i1⟩
  | 82 => ⟨S256x256, .i1⟩
  | 83 => ⟨S256x256, .f32⟩
  | 84 => ⟨S256x256, .f32⟩
  | 85 => ⟨S_, .f32⟩
  | 86 => ⟨S_, .f32⟩
  | 87 => ⟨S1x1, .f32⟩
  | 88 => ⟨S_, .f32⟩
  | 89 => ⟨S_, .f32⟩
  | 90 => ⟨S1x1, .f32⟩
  | 91 => ⟨S1x1, .f32⟩
  | 92 => ⟨S256x256, .f32⟩
  | 93 => ⟨S256x256, .f32⟩
  | 94 => ⟨S_, .f32⟩
  | 95 => ⟨S1x1, .f32⟩
  | 96 => ⟨S1x1, .i1⟩
  | 97 => ⟨S_, .f32⟩
  | 98 => ⟨S_, .f32⟩
  | 99 => ⟨S1x1, .f32⟩
  | 100 => ⟨S1x1, .f32⟩
  | 101 => ⟨S256x256, .f32⟩
  | 102 => ⟨S256x256, .f32⟩
  | 103 => ⟨S_, .f32⟩
  | 104 => ⟨S256x256, .f32⟩
  | 105 => ⟨S256x256, .f32⟩
  | 106 => ⟨S_, .f32⟩
  | 107 => ⟨S256x256, .f32⟩
  | 108 => ⟨S256x256, .f32⟩
  | 109 => ⟨S_, .f32⟩
  | 110 => ⟨S1x1, .f32⟩
  | 111 => ⟨S1x1, .i1⟩
  | 112 => ⟨S_, .f32⟩
  | 113 => ⟨S256x256, .f32⟩
  | 114 => ⟨S256x256, .i1⟩
  | 115 => ⟨S256x256, .f32⟩
  | 116 => ⟨S256x240, .f32⟩
  | 117 => ⟨S240x240, .f32⟩
  | 118 => ⟨S128x128, .i32⟩
  | 119 => ⟨S128x128, .i32⟩
  | 120 => ⟨S_, .i32⟩
  | 121 => ⟨S128x128, .i32⟩
  | 122 => ⟨S128x128, .i1⟩
  | 123 => ⟨S_, .i32⟩
  | 124 => ⟨S128x128, .i32⟩
  | 125 => ⟨S128x128, .i1⟩
  | 126 => ⟨S128x128, .i1⟩
  | 127 => ⟨S_, .i32⟩
  | _ => ⟨S256x256, .f32⟩

abbrev hbmTy0_1 (i : Nat) : BufTy := match i % 128 with
  | 0 => ⟨S128x128, .i32⟩
  | 1 => ⟨S128x128, .i1⟩
  | 2 => ⟨S128x128, .i1⟩
  | 3 => ⟨S_, .i32⟩
  | 4 => ⟨S128x128, .i32⟩
  | 5 => ⟨S128x128, .i1⟩
  | 6 => ⟨S128x128, .i1⟩
  | 7 => ⟨S128x128, .f32⟩
  | 8 => ⟨S128x128, .f32⟩
  | 9 => ⟨S_, .f32⟩
  | 10 => ⟨S_, .f32⟩
  | 11 => ⟨S1x1, .f32⟩
  | 12 => ⟨S_, .f32⟩
  | 13 => ⟨S_, .f32⟩
  | 14 => ⟨S1x1, .f32⟩
  | 15 => ⟨S1x1, .f32⟩
  | 16 => ⟨S128x128, .f32⟩
  | 17 => ⟨S128x128, .f32⟩
  | 18 => ⟨S_, .f32⟩
  | 19 => ⟨S1x1, .f32⟩
  | 20 => ⟨S1x1, .i1⟩
  | 21 => ⟨S_, .f32⟩
  | 22 => ⟨S_, .f32⟩
  | 23 => ⟨S1x1, .f32⟩
  | 24 => ⟨S1x1, .f32⟩
  | 25 => ⟨S128x128, .f32⟩
  | 26 => ⟨S128x128, .f32⟩
  | 27 => ⟨S_, .f32⟩
  | 28 => ⟨S128x128, .f32⟩
  | 29 => ⟨S128x128, .f32⟩
  | 30 => ⟨S_, .f32⟩
  | 31 => ⟨S128x128, .f32⟩
  | 32 => ⟨S128x128, .f32⟩
  | 33 => ⟨S_, .f32⟩
  | 34 => ⟨S1x1, .f32⟩
  | 35 => ⟨S1x1, .i1⟩
  | 36 => ⟨S_, .f32⟩
  | 37 => ⟨S128x128, .f32⟩
  | 38 => ⟨S128x128, .i1⟩
  | 39 => ⟨S128x128, .f32⟩
  | 40 => ⟨S128x240, .f32⟩
  | 41 => ⟨S240x240, .f32⟩
  | 42 => ⟨S64x64, .i32⟩
  | 43 => ⟨S64x64, .i32⟩
  | 44 => ⟨S_, .i32⟩
  | 45 => ⟨S64x64, .i32⟩
  | 46 => ⟨S64x64, .i1⟩
  | 47 => ⟨S_, .i32⟩
  | 48 => ⟨S64x64, .i32⟩
  | 49 => ⟨S64x64, .i1⟩
  | 50 => ⟨S64x64, .i1⟩
  | 51 => ⟨S_, .i32⟩
  | 52 => ⟨S64x64, .i32⟩
  | 53 => ⟨S64x64, .i1⟩
  | 54 => ⟨S64x64, .i1⟩
  | 55 => ⟨S_, .i32⟩
  | 56 => ⟨S64x64, .i32⟩
  | 57 => ⟨S64x64, .i1⟩
  | 58 => ⟨S64x64, .i1⟩
  | 59 => ⟨S64x64, .f32⟩
  | 60 => ⟨S64x64, .f32⟩
  | 61 => ⟨S_, .f32⟩
  | 62 => ⟨S_, .f32⟩
  | 63 => ⟨S1x1, .f32⟩
  | 64 => ⟨S_, .f32⟩
  | 65 => ⟨S_, .f32⟩
  | 66 => ⟨S1x1, .f32⟩
  | 67 => ⟨S1x1, .f32⟩
  | 68 => ⟨S64x64, .f32⟩
  | 69 => ⟨S64x64, .f32⟩
  | 70 => ⟨S_, .f32⟩
  | 71 => ⟨S1x1, .f32⟩
  | 72 => ⟨S1x1, .i1⟩
  | 73 => ⟨S_, .f32⟩
  | 74 => ⟨S_, .f32⟩
  | 75 => ⟨S1x1, .f32⟩
  | 76 => ⟨S1x1, .f32⟩
  | 77 => ⟨S64x64, .f32⟩
  | 78 => ⟨S64x64, .f32⟩
  | 79 => ⟨S_, .f32⟩
  | 80 => ⟨S64x64, .f32⟩
  | 81 => ⟨S64x64, .f32⟩
  | 82 => ⟨S_, .f32⟩
  | 83 => ⟨S64x64, .f32⟩
  | 84 => ⟨S64x64, .f32⟩
  | 85 => ⟨S_, .f32⟩
  | 86 => ⟨S1x1, .f32⟩
  | 87 => ⟨S1x1, .i1⟩
  | 88 => ⟨S_, .f32⟩
  | 89 => ⟨S64x64, .f32⟩
  | 90 => ⟨S64x64, .i1⟩
  | 91 => ⟨S64x64, .f32⟩
  | 92 => ⟨S64x240, .f32⟩
  | 93 => ⟨S240x240, .f32⟩
  | 94 => ⟨S_, .f32⟩
  | 95 => ⟨S240x240, .f32⟩
  | 96 => ⟨S_, .f32⟩
  | 97 => ⟨S_, .f32⟩
  | 98 => ⟨S1x1, .f32⟩
  | 99 => ⟨S_, .f32⟩
  | 100 => ⟨S_, .f32⟩
  | 101 => ⟨S1x1, .f32⟩
  | 102 => ⟨S_, .f32⟩
  | 103 => ⟨S1x1, .f32⟩
  | 104 => ⟨S1x1, .f32⟩
  | 105 => ⟨S1x1, .f32⟩
  | 106 => ⟨S1x1, .f32⟩
  | 107 => ⟨S_, .f32⟩
  | 108 => ⟨S_, .f32⟩
  | 109 => ⟨S1x1, .f32⟩
  | 110 => ⟨S_, .f32⟩
  | 111 => ⟨S_, .f32⟩
  | 112 => ⟨S1x1, .f32⟩
  | 113 => ⟨S1x1, .f32⟩
  | 114 => ⟨S240x240, .f32⟩
  | 115 => ⟨S240x240, .f32⟩
  | 116 => ⟨S_, .f32⟩
  | 117 => ⟨S1x1, .f32⟩
  | 118 => ⟨S1x1, .i1⟩
  | 119 => ⟨S_, .f32⟩
  | 120 => ⟨S_, .f32⟩
  | 121 => ⟨S1x1, .f32⟩
  | 122 => ⟨S1x1, .f32⟩
  | 123 => ⟨S240x240, .f32⟩
  | 124 => ⟨S240x240, .f32⟩
  | 125 => ⟨S_, .f32⟩
  | 126 => ⟨S240x240, .f32⟩
  | 127 => ⟨S240x240, .f32⟩
  | _ => ⟨S256x256, .f32⟩

abbrev hbmTy0_2 (i : Nat) : BufTy := match i % 128 with
  | 0 => ⟨S_, .f32⟩
  | 1 => ⟨S240x240, .f32⟩
  | 2 => ⟨S240x240, .f32⟩
  | 3 => ⟨S_, .f32⟩
  | 4 => ⟨S1x1, .f32⟩
  | 5 => ⟨S1x1, .i1⟩
  | 6 => ⟨S_, .f32⟩
  | 7 => ⟨S240x240, .f32⟩
  | 8 => ⟨S240x240, .i1⟩
  | 9 => ⟨S240x240, .f32⟩
  | 10 => ⟨S240x240, .f32⟩
  | 11 => ⟨S240x240, .f32⟩
  | 12 => ⟨S240x240, .f32⟩
  | 13 => ⟨S_, .f32⟩
  | 14 => ⟨S_, .f32⟩
  | 15 => ⟨S1x1, .f32⟩
  | 16 => ⟨S_, .f32⟩
  | 17 => ⟨S_, .f32⟩
  | 18 => ⟨S1x1, .f32⟩
  | 19 => ⟨S_, .f32⟩
  | 20 => ⟨S1x1, .f32⟩
  | 21 => ⟨S1x1, .f32⟩
  | 22 => ⟨S1x1, .f32⟩
  | 23 => ⟨S1x1, .f32⟩
  | 24 => ⟨S_, .f32⟩
  | 25 => ⟨S_, .f32⟩
  | 26 => ⟨S1x1, .f32⟩
  | 27 => ⟨S_, .f32⟩
  | 28 => ⟨S_, .f32⟩
  | 29 => ⟨S1x1, .f32⟩
  | 30 => ⟨S1x1, .f32⟩
  | 31 => ⟨S240x240, .f32⟩
  | 32 => ⟨S240x240, .f32⟩
  | 33 => ⟨S_, .f32⟩
  | 34 => ⟨S1x1, .f32⟩
  | 35 => ⟨S1x1, .i1⟩
  | 36 => ⟨S_, .f32⟩
  | 37 => ⟨S_, .f32⟩
  | 38 => ⟨S1x1, .f32⟩
  | 39 => ⟨S1x1, .f32⟩
  | 40 => ⟨S240x240, .f32⟩
  | 41 => ⟨S240x240, .f32⟩
  | 42 => ⟨S_, .f32⟩
  | 43 => ⟨S240x240, .f32⟩
  | 44 => ⟨S240x240, .f32⟩
  | 45 => ⟨S_, .f32⟩
  | 46 => ⟨S240x240, .f32⟩
  | 47 => ⟨S240x240, .f32⟩
  | 48 => ⟨S_, .f32⟩
  | 49 => ⟨S1x1, .f32⟩
  | 50 => ⟨S1x1, .i1⟩
  | 51 => ⟨S_, .f32⟩
  | 52 => ⟨S240x240, .f32⟩
  | 53 => ⟨S240x240, .i1⟩
  | 54 => ⟨S240x240, .f32⟩
  | 55 => ⟨S240x240, .f32⟩
  | 56 => ⟨S240x240, .f32⟩
  | 57 => ⟨S240x240, .f32⟩
  | 58 => ⟨S_, .f32⟩
  | 59 => ⟨S_, .f32⟩
  | 60 => ⟨S1x1, .f32⟩
  | 61 => ⟨S_, .f32⟩
  | 62 => ⟨S_, .f32⟩
  | 63 => ⟨S1x1, .f32⟩
  | 64 => ⟨S1x1, .f32⟩
  | 65 => ⟨S240x240, .f32⟩
  | 66 => ⟨S240x240, .f32⟩
  | 67 => ⟨S_, .f32⟩
  | 68 => ⟨S1x1, .f32⟩
  | 69 => ⟨S1x1, .i1⟩
  | 70 => ⟨S_, .f32⟩
  | 71 => ⟨S_, .f32⟩
  | 72 => ⟨S1x1, .f32⟩
  | 73 => ⟨S1x1, .f32⟩
  | 74 => ⟨S240x240, .f32⟩
  | 75 => ⟨S240x240, .f32⟩
  | 76 => ⟨S_, .f32⟩
  | 77 => ⟨S240x240, .f32⟩
  | 78 => ⟨S240x240, .f32⟩
  | 79 => ⟨S_, .f32⟩
  | 80 => ⟨S240x240, .f32⟩
  | 81 => ⟨S240x240, .f32⟩
  | 82 => ⟨S_, .f32⟩
  | 83 => ⟨S1x1, .f32⟩
  | 84 => ⟨S1x1, .i1⟩
  | 85 => ⟨S_, .f32⟩
  | 86 => ⟨S240x240, .f32⟩
  | 87 => ⟨S240x240, .i1⟩
  | 88 => ⟨S240x240, .f32⟩
  | 89 => ⟨S_, .f32⟩
  | 90 => ⟨S240x240, .f32⟩
  | 91 => ⟨S_, .f32⟩
  | 92 => ⟨S_, .f32⟩
  | 93 => ⟨S1x1, .f32⟩
  | 94 => ⟨S_, .f32⟩
  | 95 => ⟨S_, .f32⟩
  | 96 => ⟨S1x1, .f32⟩
  | 97 => ⟨S_, .f32⟩
  | 98 => ⟨S1x1, .f32⟩
  | 99 => ⟨S1x1, .f32⟩
  | 100 => ⟨S1x1, .f32⟩
  | 101 => ⟨S1x1, .f32⟩
  | 102 => ⟨S_, .f32⟩
  | 103 => ⟨S_, .f32⟩
  | 104 => ⟨S1x1, .f32⟩
  | 105 => ⟨S_, .f32⟩
  | 106 => ⟨S_, .f32⟩
  | 107 => ⟨S1x1, .f32⟩
  | 108 => ⟨S1x1, .f32⟩
  | 109 => ⟨S240x240, .f32⟩
  | 110 => ⟨S240x240, .f32⟩
  | 111 => ⟨S_, .f32⟩
  | 112 => ⟨S1x1, .f32⟩
  | 113 => ⟨S1x1, .i1⟩
  | 114 => ⟨S_, .f32⟩
  | 115 => ⟨S_, .f32⟩
  | 116 => ⟨S1x1, .f32⟩
  | 117 => ⟨S1x1, .f32⟩
  | 118 => ⟨S240x240, .f32⟩
  | 119 => ⟨S240x240, .f32⟩
  | 120 => ⟨S_, .f32⟩
  | 121 => ⟨S240x240, .f32⟩
  | 122 => ⟨S240x240, .f32⟩
  | 123 => ⟨S_, .f32⟩
  | 124 => ⟨S240x240, .f32⟩
  | 125 => ⟨S240x240, .f32⟩
  | 126 => ⟨S_, .f32⟩
  | 127 => ⟨S1x1, .f32⟩
  | _ => ⟨S256x256, .f32⟩

abbrev hbmTy0_3 (i : Nat) : BufTy := match i % 128 with
  | 0 => ⟨S1x1, .i1⟩
  | 1 => ⟨S_, .f32⟩
  | 2 => ⟨S240x240, .f32⟩
  | 3 => ⟨S240x240, .i1⟩
  | 4 => ⟨S240x240, .f32⟩
  | 5 => ⟨S240x240, .f32⟩
  | 6 => ⟨S240x240, .f32⟩
  | 7 => ⟨S240x240, .f32⟩
  | 8 => ⟨S_, .f32⟩
  | 9 => ⟨S_, .f32⟩
  | 10 => ⟨S1x1, .f32⟩
  | 11 => ⟨S_, .f32⟩
  | 12 => ⟨S_, .f32⟩
  | 13 => ⟨S1x1, .f32⟩
  | 14 => ⟨S1x1, .f32⟩
  | 15 => ⟨S240x240, .f32⟩
  | 16 => ⟨S240x240, .f32⟩
  | 17 => ⟨S_, .f32⟩
  | 18 => ⟨S1x1, .f32⟩
  | 19 => ⟨S1x1, .i1⟩
  | 20 => ⟨S_, .f32⟩
  | 21 => ⟨S_, .f32⟩
  | 22 => ⟨S1x1, .f32⟩
  | 23 => ⟨S1x1, .f32⟩
  | 24 => ⟨S240x240, .f32⟩
  | 25 => ⟨S240x240, .f32⟩
  | 26 => ⟨S_, .f32⟩
  | 27 => ⟨S240x240, .f32⟩
  | 28 => ⟨S240x240, .f32⟩
  | 29 => ⟨S_, .f32⟩
  | 30 => ⟨S240x240, .f32⟩
  | 31 => ⟨S240x240, .f32⟩
  | 32 => ⟨S_, .f32⟩
  | 33 => ⟨S1x1, .f32⟩
  | 34 => ⟨S1x1, .i1⟩
  | 35 => ⟨S_, .f32⟩
  | 36 => ⟨S240x240, .f32⟩
  | 37 => ⟨S240x240, .i1⟩
  | 38 => ⟨S240x240, .f32⟩
  | 39 => ⟨S_, .f32⟩
  | 40 => ⟨S240x240, .f32⟩
  | 41 => ⟨S_, .f32⟩
  | 42 => ⟨S_, .f32⟩
  | 43 => ⟨S1x1, .f32⟩
  | 44 => ⟨S_, .f32⟩
  | 45 => ⟨S_, .f32⟩
  | 46 => ⟨S1x1, .f32⟩
  | 47 => ⟨S_, .f32⟩
  | 48 => ⟨S1x1, .f32⟩
  | 49 => ⟨S1x1, .f32⟩
  | 50 => ⟨S1x1, .f32⟩
  | 51 => ⟨S1x1, .f32⟩
  | 52 => ⟨S_, .f32⟩
  | 53 => ⟨S_, .f32⟩
  | 54 => ⟨S1x1, .f32⟩
  | 55 => ⟨S_, .f32⟩
  | 56 => ⟨S_, .f32⟩
  | 57 => ⟨S1x1, .f32⟩
  | 58 => ⟨S1x1, .f32⟩
  | 59 => ⟨S240x240, .f32⟩
  | 60 => ⟨S240x240, .f32⟩
  | 61 => ⟨S_, .f32⟩
  | 62 => ⟨S1x1, .f32⟩
  | 63 => ⟨S1x1, .i1⟩
  | 64 => ⟨S_, .f32⟩
  | 65 => ⟨S_, .f32⟩
  | 66 => ⟨S1x1, .f32⟩
  | 67 => ⟨S1x1, .f32⟩
  | 68 => ⟨S240x240, .f32⟩
  | 69 => ⟨S240x240, .f32⟩
  | 70 => ⟨S_, .f32⟩
  | 71 => ⟨S240x240, .f32⟩
  | 72 => ⟨S240x240, .f32⟩
  | 73 => ⟨S_, .f32⟩
  | 74 => ⟨S240x240, .f32⟩
  | 75 => ⟨S240x240, .f32⟩
  | 76 => ⟨S_, .f32⟩
  | 77 => ⟨S1x1, .f32⟩
  | 78 => ⟨S1x1, .i1⟩
  | 79 => ⟨S_, .f32⟩
  | 80 => ⟨S240x240, .f32⟩
  | 81 => ⟨S240x240, .i1⟩
  | 82 => ⟨S240x240, .f32⟩
  | 83 => ⟨S240x240, .f32⟩
  | 84 => ⟨S240x240, .f32⟩
  | 85 => ⟨S240x240, .f32⟩
  | 86 => ⟨S_, .f32⟩
  | 87 => ⟨S_, .f32⟩
  | 88 => ⟨S1x1, .f32⟩
  | 89 => ⟨S_, .f32⟩
  | 90 => ⟨S_, .f32⟩
  | 91 => ⟨S1x1, .f32⟩
  | 92 => ⟨S1x1, .f32⟩
  | 93 => ⟨S240x240, .f32⟩
  | 94 => ⟨S240x240, .f32⟩
  | 95 => ⟨S_, .f32⟩
  | 96 => ⟨S1x1, .f32⟩
  | 97 => ⟨S1x1, .i1⟩
  | 98 => ⟨S_, .f32⟩
  | 99 => ⟨S_, .f32⟩
  | 100 => ⟨S1x1, .f32⟩
  | 101 => ⟨S1x1, .f32⟩
  | 102 => ⟨S240x240, .f32⟩
  | 103 => ⟨S240x240, .f32⟩
  | 104 => ⟨S_, .f32⟩
  | 105 => ⟨S240x240, .f32⟩
  | 106 => ⟨S240x240, .f32⟩
  | 107 => ⟨S_, .f32⟩
  | 108 => ⟨S240x240, .f32⟩
  | 109 => ⟨S240x240, .f32⟩
  | 110 => ⟨S_, .f32⟩
  | 111 => ⟨S1x1, .f32⟩
  | 112 => ⟨S1x1, .i1⟩
  | 113 => ⟨S_, .f32⟩
  | 114 => ⟨S240x240, .f32⟩
  | 115 => ⟨S240x240, .i1⟩
  | 116 => ⟨S240x240, .f32⟩
  | 117 => ⟨S1x240x240, .f32⟩
  | 118 => ⟨S1x240x240, .f32⟩
  | 119 => ⟨S1x240x240, .f32⟩
  | 120 => ⟨S3x240x240, .f32⟩
  | 121 => ⟨S_, .f32⟩
  | 122 => ⟨S240x240, .f32⟩
  | _ => ⟨S256x256, .f32⟩

abbrev hbmTy (i : Nat) : BufTy := match i / 128 with
  | 0 => hbmTy0_0 i
  | 1 => hbmTy0_1 i
  | 2 => hbmTy0_2 i
  | 3 => hbmTy0_3 i
  | _ => ⟨S256x256, .f32⟩

abbrev bufTy : (tb : Table) → Fin (tcTables nBuf tb) → BufTy
  | .hbm, ⟨i, _⟩ => hbmTy i
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call0_v0 : Ref sig .tc := ⟨.hbm, 31, rfl⟩
abbrev main_v13 : Ref sig .tc := ⟨.hbm, 32, rfl⟩
abbrev main_cst : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_6 : Ref sig .tc := ⟨.hbm, 51, rfl⟩
abbrev main_v26 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_cst_8 : Ref sig .tc := ⟨.hbm, 57, rfl⟩
abbrev main_v30 : Ref sig .tc := ⟨.hbm, 58, rfl⟩
abbrev main_v31 : Ref sig .tc := ⟨.hbm, 59, rfl⟩
abbrev main_cst_9 : Ref sig .tc := ⟨.hbm, 60, rfl⟩
abbrev main_v32 : Ref sig .tc := ⟨.hbm, 61, rfl⟩
abbrev main_call2_v0 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_c_10 : Ref sig .tc := ⟨.hbm, 68, rfl⟩
abbrev main_v38 : Ref sig .tc := ⟨.hbm, 69, rfl⟩
abbrev main_v39 : Ref sig .tc := ⟨.hbm, 70, rfl⟩
abbrev main_c_11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_12 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_c_13 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_call3_v0 : Ref sig .tc := ⟨.hbm, 83, rfl⟩
abbrev main_v49 : Ref sig .tc := ⟨.hbm, 84, rfl⟩
abbrev main_cst_14 : Ref sig .tc := ⟨.hbm, 85, rfl⟩
abbrev main_v50 : Ref sig .tc := ⟨.hbm, 86, rfl⟩
abbrev main_v51 : Ref sig .tc := ⟨.hbm, 87, rfl⟩
abbrev main_cst_15 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_16 : Ref sig .tc := ⟨.hbm, 94, rfl⟩
abbrev main_v57 : Ref sig .tc := ⟨.hbm, 95, rfl⟩
abbrev main_v58 : Ref sig .tc := ⟨.hbm, 96, rfl⟩
abbrev main_cst_17 : Ref sig .tc := ⟨.hbm, 97, rfl⟩
abbrev main_call4_v0 : Ref sig .tc := ⟨.hbm, 98, rfl⟩
abbrev main_call4_v1 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_cst_18 : Ref sig .tc := ⟨.hbm, 103, rfl⟩
abbrev main_v62 : Ref sig .tc := ⟨.hbm, 104, rfl⟩
abbrev main_v63 : Ref sig .tc := ⟨.hbm, 105, rfl⟩
abbrev main_cst_19 : Ref sig .tc := ⟨.hbm, 106, rfl⟩
abbrev main_v64 : Ref sig .tc := ⟨.hbm, 107, rfl⟩
abbrev main_v65 : Ref sig .tc := ⟨.hbm, 108, rfl⟩
abbrev main_cst_20 : Ref sig .tc := ⟨.hbm, 109, rfl⟩
abbrev main_v66 : Ref sig .tc := ⟨.hbm, 110, rfl⟩
abbrev main_v67 : Ref sig .tc := ⟨.hbm, 111, rfl⟩
abbrev main_cst_21 : Ref sig .tc := ⟨.hbm, 112, rfl⟩
abbrev main_v68 : Ref sig .tc := ⟨.hbm, 113, rfl⟩
abbrev main_call5_v0 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_c_22 : Ref sig .tc := ⟨.hbm, 120, rfl⟩
abbrev main_v74 : Ref sig .tc := ⟨.hbm, 121, rfl⟩
abbrev main_v75 : Ref sig .tc := ⟨.hbm, 122, rfl⟩
abbrev main_c_23 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_c_24 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_c_25 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_call6_v0 : Ref sig .tc := ⟨.hbm, 135, rfl⟩
abbrev main_v85 : Ref sig .tc := ⟨.hbm, 136, rfl⟩
abbrev main_cst_26 : Ref sig .tc := ⟨.hbm, 137, rfl⟩
abbrev main_v86 : Ref sig .tc := ⟨.hbm, 138, rfl⟩
abbrev main_v87 : Ref sig .tc := ⟨.hbm, 139, rfl⟩
abbrev main_cst_27 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_28 : Ref sig .tc := ⟨.hbm, 146, rfl⟩
abbrev main_v93 : Ref sig .tc := ⟨.hbm, 147, rfl⟩
abbrev main_v94 : Ref sig .tc := ⟨.hbm, 148, rfl⟩
abbrev main_cst_29 : Ref sig .tc := ⟨.hbm, 149, rfl⟩
abbrev main_call7_v0 : Ref sig .tc := ⟨.hbm, 150, rfl⟩
abbrev main_call7_v1 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_cst_30 : Ref sig .tc := ⟨.hbm, 155, rfl⟩
abbrev main_v98 : Ref sig .tc := ⟨.hbm, 156, rfl⟩
abbrev main_v99 : Ref sig .tc := ⟨.hbm, 157, rfl⟩
abbrev main_cst_31 : Ref sig .tc := ⟨.hbm, 158, rfl⟩
abbrev main_v100 : Ref sig .tc := ⟨.hbm, 159, rfl⟩
abbrev main_v101 : Ref sig .tc := ⟨.hbm, 160, rfl⟩
abbrev main_cst_32 : Ref sig .tc := ⟨.hbm, 161, rfl⟩
abbrev main_v102 : Ref sig .tc := ⟨.hbm, 162, rfl⟩
abbrev main_v103 : Ref sig .tc := ⟨.hbm, 163, rfl⟩
abbrev main_cst_33 : Ref sig .tc := ⟨.hbm, 164, rfl⟩
abbrev main_v104 : Ref sig .tc := ⟨.hbm, 165, rfl⟩
abbrev main_call8_v0 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_c_34 : Ref sig .tc := ⟨.hbm, 172, rfl⟩
abbrev main_v110 : Ref sig .tc := ⟨.hbm, 173, rfl⟩
abbrev main_v111 : Ref sig .tc := ⟨.hbm, 174, rfl⟩
abbrev main_c_35 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_c_36 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_c_37 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_call9_v0 : Ref sig .tc := ⟨.hbm, 187, rfl⟩
abbrev main_v121 : Ref sig .tc := ⟨.hbm, 188, rfl⟩
abbrev main_cst_38 : Ref sig .tc := ⟨.hbm, 189, rfl⟩
abbrev main_v122 : Ref sig .tc := ⟨.hbm, 190, rfl⟩
abbrev main_v123 : Ref sig .tc := ⟨.hbm, 191, rfl⟩
abbrev main_cst_39 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_cst_40 : Ref sig .tc := ⟨.hbm, 198, rfl⟩
abbrev main_v129 : Ref sig .tc := ⟨.hbm, 199, rfl⟩
abbrev main_v130 : Ref sig .tc := ⟨.hbm, 200, rfl⟩
abbrev main_cst_41 : Ref sig .tc := ⟨.hbm, 201, rfl⟩
abbrev main_call10_v0 : Ref sig .tc := ⟨.hbm, 202, rfl⟩
abbrev main_call10_v1 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_cst_42 : Ref sig .tc := ⟨.hbm, 207, rfl⟩
abbrev main_v134 : Ref sig .tc := ⟨.hbm, 208, rfl⟩
abbrev main_v135 : Ref sig .tc := ⟨.hbm, 209, rfl⟩
abbrev main_cst_43 : Ref sig .tc := ⟨.hbm, 210, rfl⟩
abbrev main_v136 : Ref sig .tc := ⟨.hbm, 211, rfl⟩
abbrev main_v137 : Ref sig .tc := ⟨.hbm, 212, rfl⟩
abbrev main_cst_44 : Ref sig .tc := ⟨.hbm, 213, rfl⟩
abbrev main_v138 : Ref sig .tc := ⟨.hbm, 214, rfl⟩
abbrev main_v139 : Ref sig .tc := ⟨.hbm, 215, rfl⟩
abbrev main_cst_45 : Ref sig .tc := ⟨.hbm, 216, rfl⟩
abbrev main_v140 : Ref sig .tc := ⟨.hbm, 217, rfl⟩
abbrev main_call11_v0 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_cst_46 : Ref sig .tc := ⟨.hbm, 222, rfl⟩
abbrev main_v144 : Ref sig .tc := ⟨.hbm, 223, rfl⟩
abbrev main_cst_47 : Ref sig .tc := ⟨.hbm, 224, rfl⟩
abbrev main_v145 : Ref sig .tc := ⟨.hbm, 225, rfl⟩
abbrev main_v146 : Ref sig .tc := ⟨.hbm, 226, rfl⟩
abbrev main_cst_48 : Ref sig .tc := ⟨.hbm, 227, rfl⟩
abbrev main_v147 : Ref sig .tc := ⟨.hbm, 228, rfl⟩
abbrev main_v148 : Ref sig .tc := ⟨.hbm, 229, rfl⟩
abbrev main_cst_49 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_cst_50 : Ref sig .tc := ⟨.hbm, 235, rfl⟩
abbrev main_v153 : Ref sig .tc := ⟨.hbm, 236, rfl⟩
abbrev main_v154 : Ref sig .tc := ⟨.hbm, 237, rfl⟩
abbrev main_cst_51 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_cst_52 : Ref sig .tc := ⟨.hbm, 244, rfl⟩
abbrev main_v160 : Ref sig .tc := ⟨.hbm, 245, rfl⟩
abbrev main_v161 : Ref sig .tc := ⟨.hbm, 246, rfl⟩
abbrev main_cst_53 : Ref sig .tc := ⟨.hbm, 247, rfl⟩
abbrev main_call12_v0 : Ref sig .tc := ⟨.hbm, 248, rfl⟩
abbrev main_call12_v1 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_cst_54 : Ref sig .tc := ⟨.hbm, 253, rfl⟩
abbrev main_v165 : Ref sig .tc := ⟨.hbm, 254, rfl⟩
abbrev main_v166 : Ref sig .tc := ⟨.hbm, 255, rfl⟩
abbrev main_cst_55 : Ref sig .tc := ⟨.hbm, 256, rfl⟩
abbrev main_v167 : Ref sig .tc := ⟨.hbm, 257, rfl⟩
abbrev main_v168 : Ref sig .tc := ⟨.hbm, 258, rfl⟩
abbrev main_cst_56 : Ref sig .tc := ⟨.hbm, 259, rfl⟩
abbrev main_v169 : Ref sig .tc := ⟨.hbm, 260, rfl⟩
abbrev main_v170 : Ref sig .tc := ⟨.hbm, 261, rfl⟩
abbrev main_cst_57 : Ref sig .tc := ⟨.hbm, 262, rfl⟩
abbrev main_v171 : Ref sig .tc := ⟨.hbm, 263, rfl⟩
abbrev main_call13_v0 : Ref sig .tc := ⟨.hbm, 264, rfl⟩
abbrev main_v172 : Ref sig .tc := ⟨.hbm, 265, rfl⟩
abbrev main_v173 : Ref sig .tc := ⟨.hbm, 266, rfl⟩
abbrev main_v174 : Ref sig .tc := ⟨.hbm, 267, rfl⟩
abbrev main_v175 : Ref sig .tc := ⟨.hbm, 268, rfl⟩
abbrev main_cst_58 : Ref sig .tc := ⟨.hbm, 269, rfl⟩
abbrev main_v176 : Ref sig .tc := ⟨.hbm, 270, rfl⟩
abbrev main_v177 : Ref sig .tc := ⟨.hbm, 271, rfl⟩
abbrev main_cst_59 : Ref sig .tc := ⟨.hbm, 272, rfl⟩
abbrev main_v178 : Ref sig .tc := ⟨.hbm, 273, rfl⟩
abbrev main_v179 : Ref sig .tc := ⟨.hbm, 274, rfl⟩
abbrev main_cst_60 : Ref sig .tc := ⟨.hbm, 275, rfl⟩
abbrev main_v180 : Ref sig .tc := ⟨.hbm, 276, rfl⟩
abbrev main_v181 : Ref sig .tc := ⟨.hbm, 277, rfl⟩
abbrev main_v182 : Ref sig .tc := ⟨.hbm, 278, rfl⟩
abbrev main_v183 : Ref sig .tc := ⟨.hbm, 279, rfl⟩
abbrev main_cst_61 : Ref sig .tc := ⟨.hbm, 280, rfl⟩
abbrev main_v184 : Ref sig .tc := ⟨.hbm, 281, rfl⟩
abbrev main_v185 : Ref sig .tc := ⟨.hbm, 282, rfl⟩
abbrev main_cst_62 : Ref sig .tc := ⟨.hbm, 283, rfl⟩
abbrev main_v186 : Ref sig .tc := ⟨.hbm, 284, rfl⟩
abbrev main_v187 : Ref sig .tc := ⟨.hbm, 285, rfl⟩
abbrev main_v188 : Ref sig .tc := ⟨.hbm, 286, rfl⟩
abbrev main_v189 : Ref sig .tc := ⟨.hbm, 287, rfl⟩
abbrev main_v190 : Ref sig .tc := ⟨.hbm, 288, rfl⟩
abbrev main_cst_63 : Ref sig .tc := ⟨.hbm, 289, rfl⟩
abbrev main_v191 : Ref sig .tc := ⟨.hbm, 290, rfl⟩
abbrev main_v192 : Ref sig .tc := ⟨.hbm, 291, rfl⟩
abbrev main_cst_64 : Ref sig .tc := ⟨.hbm, 292, rfl⟩
abbrev main_call14_v0 : Ref sig .tc := ⟨.hbm, 293, rfl⟩
abbrev main_call14_v1 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_cst_65 : Ref sig .tc := ⟨.hbm, 298, rfl⟩
abbrev main_v196 : Ref sig .tc := ⟨.hbm, 299, rfl⟩
abbrev main_v197 : Ref sig .tc := ⟨.hbm, 300, rfl⟩
abbrev main_cst_66 : Ref sig .tc := ⟨.hbm, 301, rfl⟩
abbrev main_v198 : Ref sig .tc := ⟨.hbm, 302, rfl⟩
abbrev main_v199 : Ref sig .tc := ⟨.hbm, 303, rfl⟩
abbrev main_cst_67 : Ref sig .tc := ⟨.hbm, 304, rfl⟩
abbrev main_v200 : Ref sig .tc := ⟨.hbm, 305, rfl⟩
abbrev main_v201 : Ref sig .tc := ⟨.hbm, 306, rfl⟩
abbrev main_cst_68 : Ref sig .tc := ⟨.hbm, 307, rfl⟩
abbrev main_v202 : Ref sig .tc := ⟨.hbm, 308, rfl⟩
abbrev main_call15_v0 : Ref sig .tc := ⟨.hbm, 309, rfl⟩
abbrev main_v203 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_cst_69 : Ref sig .tc := ⟨.hbm, 314, rfl⟩
abbrev main_v207 : Ref sig .tc := ⟨.hbm, 315, rfl⟩
abbrev main_v208 : Ref sig .tc := ⟨.hbm, 316, rfl⟩
abbrev main_cst_70 : Ref sig .tc := ⟨.hbm, 317, rfl⟩
abbrev main_v209 : Ref sig .tc := ⟨.hbm, 318, rfl⟩
abbrev main_v210 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_cst_71 : Ref sig .tc := ⟨.hbm, 323, rfl⟩
abbrev main_v214 : Ref sig .tc := ⟨.hbm, 324, rfl⟩
abbrev main_v215 : Ref sig .tc := ⟨.hbm, 325, rfl⟩
abbrev main_cst_72 : Ref sig .tc := ⟨.hbm, 326, rfl⟩
abbrev main_call16_v0 : Ref sig .tc := ⟨.hbm, 327, rfl⟩
abbrev main_call16_v1 : Ref sig .tc := ⟨.hbm, 328, rfl⟩
abbrev main_v216 : Ref sig .tc := ⟨.hbm, 329, rfl⟩
abbrev main_v217 : Ref sig .tc := ⟨.hbm, 330, rfl⟩
abbrev main_v218 : Ref sig .tc := ⟨.hbm, 331, rfl⟩
abbrev main_cst_73 : Ref sig .tc := ⟨.hbm, 332, rfl⟩
abbrev main_v219 : Ref sig .tc := ⟨.hbm, 333, rfl⟩
abbrev main_v220 : Ref sig .tc := ⟨.hbm, 334, rfl⟩
abbrev main_cst_74 : Ref sig .tc := ⟨.hbm, 335, rfl⟩
abbrev main_v221 : Ref sig .tc := ⟨.hbm, 336, rfl⟩
abbrev main_v222 : Ref sig .tc := ⟨.hbm, 337, rfl⟩
abbrev main_cst_75 : Ref sig .tc := ⟨.hbm, 338, rfl⟩
abbrev main_v223 : Ref sig .tc := ⟨.hbm, 339, rfl⟩
abbrev main_v224 : Ref sig .tc := ⟨.hbm, 340, rfl⟩
abbrev main_cst_76 : Ref sig .tc := ⟨.hbm, 341, rfl⟩
abbrev main_v225 : Ref sig .tc := ⟨.hbm, 342, rfl⟩
abbrev main_call17_v0 : Ref sig .tc := ⟨.hbm, 343, rfl⟩
abbrev main_v226 : Ref sig .tc := ⟨.hbm, 344, rfl⟩
abbrev main_cst_77 : Ref sig .tc := ⟨.hbm, 345, rfl⟩
abbrev main_v227 : Ref sig .tc := ⟨.hbm, 346, rfl⟩
abbrev main_cst_78 : Ref sig .tc := ⟨.hbm, 347, rfl⟩
abbrev main_v228 : Ref sig .tc := ⟨.hbm, 348, rfl⟩
abbrev main_v229 : Ref sig .tc := ⟨.hbm, 349, rfl⟩
abbrev main_cst_79 : Ref sig .tc := ⟨.hbm, 350, rfl⟩
abbrev main_v230 : Ref sig .tc := ⟨.hbm, 351, rfl⟩
abbrev main_v231 : Ref sig .tc := ⟨.hbm, 352, rfl⟩
abbrev main_cst_80 : Ref sig .tc := ⟨.hbm, 353, rfl⟩
abbrev main_v232 : Ref sig .tc := ⟨.hbm, 354, rfl⟩
abbrev main_v233 : Ref sig .tc := ⟨.hbm, 355, rfl⟩
abbrev main_v234 : Ref sig .tc := ⟨.hbm, 356, rfl⟩
abbrev main_v235 : Ref sig .tc := ⟨.hbm, 357, rfl⟩
abbrev main_cst_81 : Ref sig .tc := ⟨.hbm, 358, rfl⟩
abbrev main_v236 : Ref sig .tc := ⟨.hbm, 359, rfl⟩
abbrev main_v237 : Ref sig .tc := ⟨.hbm, 360, rfl⟩
abbrev main_cst_82 : Ref sig .tc := ⟨.hbm, 361, rfl⟩
abbrev main_v238 : Ref sig .tc := ⟨.hbm, 362, rfl⟩
abbrev main_v239 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_cst_83 : Ref sig .tc := ⟨.hbm, 367, rfl⟩
abbrev main_v243 : Ref sig .tc := ⟨.hbm, 368, rfl⟩
abbrev main_v244 : Ref sig .tc := ⟨.hbm, 369, rfl⟩
abbrev main_cst_84 : Ref sig .tc := ⟨.hbm, 370, rfl⟩
abbrev main_call18_v0 : Ref sig .tc := ⟨.hbm, 371, rfl⟩
abbrev main_call18_v1 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_cst_85 : Ref sig .tc := ⟨.hbm, 376, rfl⟩
abbrev main_v248 : Ref sig .tc := ⟨.hbm, 377, rfl⟩
abbrev main_v249 : Ref sig .tc := ⟨.hbm, 378, rfl⟩
abbrev main_cst_86 : Ref sig .tc := ⟨.hbm, 379, rfl⟩
abbrev main_v250 : Ref sig .tc := ⟨.hbm, 380, rfl⟩
abbrev main_v251 : Ref sig .tc := ⟨.hbm, 381, rfl⟩
abbrev main_cst_87 : Ref sig .tc := ⟨.hbm, 382, rfl⟩
abbrev main_v252 : Ref sig .tc := ⟨.hbm, 383, rfl⟩
abbrev main_v253 : Ref sig .tc := ⟨.hbm, 384, rfl⟩
abbrev main_cst_88 : Ref sig .tc := ⟨.hbm, 385, rfl⟩
abbrev main_v254 : Ref sig .tc := ⟨.hbm, 386, rfl⟩
abbrev main_call19_v0 : Ref sig .tc := ⟨.hbm, 387, rfl⟩
abbrev main_v255 : Ref sig .tc := ⟨.hbm, 388, rfl⟩
abbrev main_v256 : Ref sig .tc := ⟨.hbm, 389, rfl⟩
abbrev main_v257 : Ref sig .tc := ⟨.hbm, 390, rfl⟩
abbrev main_v258 : Ref sig .tc := ⟨.hbm, 391, rfl⟩
abbrev main_cst_89 : Ref sig .tc := ⟨.hbm, 392, rfl⟩
abbrev main_v259 : Ref sig .tc := ⟨.hbm, 393, rfl⟩
abbrev main_v260 : Ref sig .tc := ⟨.hbm, 394, rfl⟩
abbrev main_cst_90 : Ref sig .tc := ⟨.hbm, 395, rfl⟩
abbrev main_v261 : Ref sig .tc := ⟨.hbm, 396, rfl⟩
abbrev main_v262 : Ref sig .tc := ⟨.hbm, 397, rfl⟩
abbrev main_v263 : Ref sig .tc := ⟨.hbm, 398, rfl⟩
abbrev main_v264 : Ref sig .tc := ⟨.hbm, 399, rfl⟩
abbrev main_v265 : Ref sig .tc := ⟨.hbm, 400, rfl⟩
abbrev main_cst_91 : Ref sig .tc := ⟨.hbm, 401, rfl⟩
abbrev main_v266 : Ref sig .tc := ⟨.hbm, 402, rfl⟩
abbrev main_v267 : Ref sig .tc := ⟨.hbm, 403, rfl⟩
abbrev main_cst_92 : Ref sig .tc := ⟨.hbm, 404, rfl⟩
abbrev main_call20_v0 : Ref sig .tc := ⟨.hbm, 405, rfl⟩
abbrev main_call20_v1 : Ref sig .tc := ⟨.hbm, 406, rfl⟩
abbrev main_v268 : Ref sig .tc := ⟨.hbm, 407, rfl⟩
abbrev main_v269 : Ref sig .tc := ⟨.hbm, 408, rfl⟩
abbrev main_v270 : Ref sig .tc := ⟨.hbm, 409, rfl⟩
abbrev main_cst_93 : Ref sig .tc := ⟨.hbm, 410, rfl⟩
abbrev main_v271 : Ref sig .tc := ⟨.hbm, 411, rfl⟩
abbrev main_v272 : Ref sig .tc := ⟨.hbm, 412, rfl⟩
abbrev main_cst_94 : Ref sig .tc := ⟨.hbm, 413, rfl⟩
abbrev main_v273 : Ref sig .tc := ⟨.hbm, 414, rfl⟩
abbrev main_v274 : Ref sig .tc := ⟨.hbm, 415, rfl⟩
abbrev main_cst_95 : Ref sig .tc := ⟨.hbm, 416, rfl⟩
abbrev main_v275 : Ref sig .tc := ⟨.hbm, 417, rfl⟩
abbrev main_v276 : Ref sig .tc := ⟨.hbm, 418, rfl⟩
abbrev main_cst_96 : Ref sig .tc := ⟨.hbm, 419, rfl⟩
abbrev main_v277 : Ref sig .tc := ⟨.hbm, 420, rfl⟩
abbrev main_call21_v0 : Ref sig .tc := ⟨.hbm, 421, rfl⟩
abbrev main_v278 : Ref sig .tc := ⟨.hbm, 422, rfl⟩
abbrev main_cst_97 : Ref sig .tc := ⟨.hbm, 423, rfl⟩
abbrev main_v279 : Ref sig .tc := ⟨.hbm, 424, rfl⟩
abbrev main_cst_98 : Ref sig .tc := ⟨.hbm, 425, rfl⟩
abbrev main_v280 : Ref sig .tc := ⟨.hbm, 426, rfl⟩
abbrev main_v281 : Ref sig .tc := ⟨.hbm, 427, rfl⟩
abbrev main_cst_99 : Ref sig .tc := ⟨.hbm, 428, rfl⟩
abbrev main_v282 : Ref sig .tc := ⟨.hbm, 429, rfl⟩
abbrev main_v283 : Ref sig .tc := ⟨.hbm, 430, rfl⟩
abbrev main_cst_100 : Ref sig .tc := ⟨.hbm, 431, rfl⟩
abbrev main_v284 : Ref sig .tc := ⟨.hbm, 432, rfl⟩
abbrev main_v285 : Ref sig .tc := ⟨.hbm, 433, rfl⟩
abbrev main_v286 : Ref sig .tc := ⟨.hbm, 434, rfl⟩
abbrev main_v287 : Ref sig .tc := ⟨.hbm, 435, rfl⟩
abbrev main_cst_101 : Ref sig .tc := ⟨.hbm, 436, rfl⟩
abbrev main_v288 : Ref sig .tc := ⟨.hbm, 437, rfl⟩
abbrev main_v289 : Ref sig .tc := ⟨.hbm, 438, rfl⟩
abbrev main_cst_102 : Ref sig .tc := ⟨.hbm, 439, rfl⟩
abbrev main_v290 : Ref sig .tc := ⟨.hbm, 440, rfl⟩
abbrev main_v291 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_cst_103 : Ref sig .tc := ⟨.hbm, 445, rfl⟩
abbrev main_v295 : Ref sig .tc := ⟨.hbm, 446, rfl⟩
abbrev main_v296 : Ref sig .tc := ⟨.hbm, 447, rfl⟩
abbrev main_cst_104 : Ref sig .tc := ⟨.hbm, 448, rfl⟩
abbrev main_call22_v0 : Ref sig .tc := ⟨.hbm, 449, rfl⟩
abbrev main_call22_v1 : Ref sig .tc := ⟨.hbm, 450, rfl⟩
abbrev main_v297 : Ref sig .tc := ⟨.hbm, 451, rfl⟩
abbrev main_v298 : Ref sig .tc := ⟨.hbm, 452, rfl⟩
abbrev main_v299 : Ref sig .tc := ⟨.hbm, 453, rfl⟩
abbrev main_cst_105 : Ref sig .tc := ⟨.hbm, 454, rfl⟩
abbrev main_v300 : Ref sig .tc := ⟨.hbm, 455, rfl⟩
abbrev main_v301 : Ref sig .tc := ⟨.hbm, 456, rfl⟩
abbrev main_cst_106 : Ref sig .tc := ⟨.hbm, 457, rfl⟩
abbrev main_v302 : Ref sig .tc := ⟨.hbm, 458, rfl⟩
abbrev main_v303 : Ref sig .tc := ⟨.hbm, 459, rfl⟩
abbrev main_cst_107 : Ref sig .tc := ⟨.hbm, 460, rfl⟩
abbrev main_v304 : Ref sig .tc := ⟨.hbm, 461, rfl⟩
abbrev main_v305 : Ref sig .tc := ⟨.hbm, 462, rfl⟩
abbrev main_cst_108 : Ref sig .tc := ⟨.hbm, 463, rfl⟩
abbrev main_v306 : Ref sig .tc := ⟨.hbm, 464, rfl⟩
abbrev main_call23_v0 : Ref sig .tc := ⟨.hbm, 465, rfl⟩
abbrev main_v307 : Ref sig .tc := ⟨.hbm, 466, rfl⟩
abbrev main_v308 : Ref sig .tc := ⟨.hbm, 467, rfl⟩
abbrev main_v309 : Ref sig .tc := ⟨.hbm, 468, rfl⟩
abbrev main_v310 : Ref sig .tc := ⟨.hbm, 469, rfl⟩
abbrev main_cst_109 : Ref sig .tc := ⟨.hbm, 470, rfl⟩
abbrev main_v311 : Ref sig .tc := ⟨.hbm, 471, rfl⟩
abbrev main_v312 : Ref sig .tc := ⟨.hbm, 472, rfl⟩
abbrev main_cst_110 : Ref sig .tc := ⟨.hbm, 473, rfl⟩
abbrev main_v313 : Ref sig .tc := ⟨.hbm, 474, rfl⟩
abbrev main_v314 : Ref sig .tc := ⟨.hbm, 475, rfl⟩
abbrev main_v315 : Ref sig .tc := ⟨.hbm, 476, rfl⟩
abbrev main_v316 : Ref sig .tc := ⟨.hbm, 477, rfl⟩
abbrev main_v317 : Ref sig .tc := ⟨.hbm, 478, rfl⟩
abbrev main_cst_111 : Ref sig .tc := ⟨.hbm, 479, rfl⟩
abbrev main_v318 : Ref sig .tc := ⟨.hbm, 480, rfl⟩
abbrev main_v319 : Ref sig .tc := ⟨.hbm, 481, rfl⟩
abbrev main_cst_112 : Ref sig .tc := ⟨.hbm, 482, rfl⟩
abbrev main_call24_v0 : Ref sig .tc := ⟨.hbm, 483, rfl⟩
abbrev main_call24_v1 : Ref sig .tc := ⟨.hbm, 484, rfl⟩
abbrev main_v320 : Ref sig .tc := ⟨.hbm, 485, rfl⟩
abbrev main_v321 : Ref sig .tc := ⟨.hbm, 486, rfl⟩
abbrev main_v322 : Ref sig .tc := ⟨.hbm, 487, rfl⟩
abbrev main_cst_113 : Ref sig .tc := ⟨.hbm, 488, rfl⟩
abbrev main_v323 : Ref sig .tc := ⟨.hbm, 489, rfl⟩
abbrev main_v324 : Ref sig .tc := ⟨.hbm, 490, rfl⟩
abbrev main_cst_114 : Ref sig .tc := ⟨.hbm, 491, rfl⟩
abbrev main_v325 : Ref sig .tc := ⟨.hbm, 492, rfl⟩
abbrev main_v326 : Ref sig .tc := ⟨.hbm, 493, rfl⟩
abbrev main_cst_115 : Ref sig .tc := ⟨.hbm, 494, rfl⟩
abbrev main_v327 : Ref sig .tc := ⟨.hbm, 495, rfl⟩
abbrev main_v328 : Ref sig .tc := ⟨.hbm, 496, rfl⟩
abbrev main_cst_116 : Ref sig .tc := ⟨.hbm, 497, rfl⟩
abbrev main_v329 : Ref sig .tc := ⟨.hbm, 498, rfl⟩
abbrev main_call25_v0 : Ref sig .tc := ⟨.hbm, 499, rfl⟩
abbrev main_v330 : Ref sig .tc := ⟨.hbm, 500, rfl⟩
abbrev main_v331 : Ref sig .tc := ⟨.hbm, 501, rfl⟩
abbrev main_v332 : Ref sig .tc := ⟨.hbm, 502, rfl⟩
abbrev main_v333 : Ref sig .tc := ⟨.hbm, 503, rfl⟩
abbrev main_v334 : Ref sig .tc := ⟨.hbm, 504, rfl⟩
abbrev main_cst_117 : Ref sig .tc := ⟨.hbm, 505, rfl⟩
abbrev main_v335 : Ref sig .tc := ⟨.hbm, 506, rfl⟩

abbrev nD : Nat := 1
abbrev τ : Topo := Topo.v7x

variable {F : FTy → Type} [FloatOps F]
-- ==== Proof.AccKA.lean ====
/- The layer kernel's run, with what it leaves: after the first grid point the output block holds that point's channel
   sum, after every later one the sum so far plus that point's channel sum; the corner value is stored by the first
   point only. -/
module

public import proofs.«01_k».proof.Proof.StepKA
public import Idealize.ShloMosaic.Lib.Pipeline.Value
public import Idealize.ShloMosaic.Lib.Quiescent

@[expose] public section

set_option maxRecDepth 16384

noncomputable section

namespace Cert.KA.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KA Cert.KA.Gen Cert.KA.Step

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, by the point -/

theorem hfirst (t : Fin cfg0.N) : k0_cond1 (grid0.coords t) = 1#1 ↔ t.val = 0 :=
  (fun t => by
    have ht : t.val < 6 := Nat.lt_of_lt_of_eq t.isLt N_0
    have e0 : (grid0.coords t 0).val = t.val / 1 % 6 := Pipeline.Grid.coords_val t 0 (by decide) rfl
    simp only [k0_cond1, e0]
    word_cmp
   : ∀ t : Fin grid0.N, k0_cond1 (grid0.coords t) = 1#1 ↔ t.val = 0) t

theorem hlater (t : Fin cfg0.N) : k0_cond2 (grid0.coords t) = 1#1 ↔ 1 ≤ t.val :=
  (fun t => by
    have ht : t.val < 6 := Nat.lt_of_lt_of_eq t.isLt N_0
    have e0 : (grid0.coords t 0).val = t.val / 1 % 6 := Pipeline.Grid.coords_val t 0 (by decide) rfl
    simp only [k0_cond2, e0]
    word_cmp
   : ∀ t : Fin grid0.N, k0_cond2 (grid0.coords t) = 1#1 ↔ 1 ≤ t.val) t

theorem N_eq : cfg0.N = 6 := N_0

/-- The point's number is its coordinate. -/
theorem coord_val (t : Fin cfg0.N) : (grid0.coords t 0).val = t.val :=
  (fun t => by
    have ht : t.val < 6 := Nat.lt_of_lt_of_eq t.isLt N_0
    have e0 : (grid0.coords t 0).val = t.val / 1 % 6 := Pipeline.Grid.coords_val t 0 (by decide) rfl
    omega : ∀ t : Fin grid0.N, (grid0.coords t 0).val = t.val) t

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a point -/

set_option maxHeartbeats 1000000 in
/-- At the first point: the block's channel sum and the corner value are stored. -/
theorem run_first (c : Dev nD) (i : grid0.Coords) (arg1 : Memref sig .tc .vmem S16x256x256 .f32) (harg1 : arg1.IsWhole) (arg2 : Memref sig .tc .vmem S256x256 .f32) (harg2 : arg2.IsWhole) (arg3 : Memref sig .tc .vmem S1x1 .f32) (harg3 : arg3.IsWhole) (hc0 : k0_cond1 i = 1#1) (hc1 : ¬k0_cond2 i = 1#1)
    (x0 : Vec F S16x256x256 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (blk x0 (BitVec.ofNat 32 (i 0).val)) ∗ owns (c : Thread nD τ) arg3 fullShare (edge x0 (BitVec.ofNat 32 (i 0).val))) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%d1, %f1, -, H1⟩, ⟨%d2, %f2, -, H2⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S256x256.size (by rfl))]
      rw [View.canon_unit_zero hz2]
      simp only [View.readAt_eq_ld, harg1.read_unread, View.ld_unit_zero (S := S16x256x256) hz3]
    iexists _; isplitr; swap; · iexact H2
    ipureintro
    rw [View.read_writes_eq_canon _ _ _ (View.cover_of_tiled _ S1x1.size (by rfl))]
    rw [View.canon_unit_zero hz2]
    simp only [View.readAt_eq_ld, harg1.read_unread, View.ld_unit_zero (S := S16x256x256) hz3]

set_option maxHeartbeats 1000000 in
/-- At a later point: the block's channel sum is added to what is there; the corner value is not touched. -/
theorem run_later (c : Dev nD) (i : grid0.Coords) (arg1 : Memref sig .tc .vmem S16x256x256 .f32) (harg1 : arg1.IsWhole) (arg2 : Memref sig .tc .vmem S256x256 .f32) (harg2 : arg2.IsWhole) (arg3 : Memref sig .tc .vmem S1x1 .f32) (harg3 : arg3.IsWhole) (hc0 : ¬k0_cond1 i = 1#1) (hc1 : k0_cond2 i = 1#1)
    (x0 : Vec F S16x256x256 .f32) (y : Vec F S256x256 .f32) (z : Vec F S1x1 .f32) :
      ∀ (E : Set ℕ) (K : PUnit → sProp 𝕄),
        iprop(owns (c : Thread nD τ) arg1 fullShare x0 ∗ owns (c : Thread nD τ) arg2 fullShare y ∗ owns (c : Thread nD τ) arg3 fullShare z
            ∗ (iprop(owns (c : Thread nD τ) arg1 fullShare x0 ∗ owns (c : Thread nD τ) arg2 fullShare (k0_pay1 (blk x0 (BitVec.ofNat 32 (i 0).val)) y) ∗ owns (c : Thread nD τ) arg3 fullShare z) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%f1, %hf1, H1⟩, H2, Hk⟩
    obtain rfl := harg1.eq_unread hf0
    obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S256x256.size (by rfl))]
      rw [View.canon_unit_zero hz2]
      simp only [View.readAt_eq_ld, harg1.read_unread, harg2.read_unread, View.ld_unit_zero (S := S16x256x256) hz3, View.ld_unit_zero (S := S256x256) hz2]
    iexact H2

/-! ## What the output block holds after each point -/

/-- The channel sum of the block at a point. -/
def blkAt (c : Dev nD) (t : Fin cfg0.N) : Vec F S256x256 .f32 := blk (iblk m c 0 t) (BitVec.ofNat 32 (grid0.coords t 0).val)

/-- The sum of the channel sums up to a point, in the points' order. -/
def acc (c : Dev nD) : (n : ℕ) → n < cfg0.N → Vec F S256x256 .f32
  | 0, h => blkAt m c ⟨0, h⟩
  | n + 1, h => k0_pay1 (blkAt m c ⟨n + 1, h⟩) (acc c n (Nat.lt_of_succ_lt h))

/-- The corner value: the first point's. -/
def corner (c : Dev nD) : Vec F S1x1 .f32 := edge (iblk m c 0 t0_0) (BitVec.ofNat 32 (grid0.coords t0_0 0).val)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val t.isLt
    | ⟨2, _⟩ => corner m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = acc m c t.val t.isLt := by dsimp only [dats]
theorem after0_2 (c : Dev nD) (t : Fin cfg0.N) : (dats m 0 c).after 2 t = corner m c := by dsimp only [dats]

theorem before0_0 (c : Dev nD) (t : Fin cfg0.N) (d) : (dats m 0 c).before 0 t d = iblk m c 0 t :=
  before0_0_of m (dats m 0 c) (A_eq m c 0) (after0_0 m c) t d

/-! Where the outputs are not stored into. -/

theorem live1 (t : Fin cfg0.N) : cfg0.idle 1 (grid0.coords t) = false := by
  show (!(k0_cond1 (grid0.coords t) == 1#1) && !(k0_cond2 (grid0.coords t) == 1#1)) = false
  by_cases h : t.val = 0
  · rw [(hfirst t).mpr h]; rfl
  · rw [(hlater t).mpr (by omega)]; simp
theorem live2 (t : Fin cfg0.N) (h : t.val = 0) : cfg0.idle 2 (grid0.coords t) = false := by
  show (!(k0_cond1 (grid0.coords t) == 1#1)) = false
  rw [(hfirst t).mpr h]; rfl
theorem idle2 (t : Fin cfg0.N) (h : t.val ≠ 0) : cfg0.idle 2 (grid0.coords t) = true := by
  show (!(k0_cond1 (grid0.coords t) == 1#1)) = true
  have : ¬ k0_cond1 (grid0.coords t) = 1#1 := fun e => h ((hfirst t).mp e)
  simpa using this

theorem noflush1 (t : Fin cfg0.N) (h : t.val + 1 < 6) : (cfg0.win 1).flush t = false := by
  by_contra hc
  have := (flush0_1 t).mp (by simpa using hc)
  omega
theorem noflush2 (t : Fin cfg0.N) (h : t.val + 1 < 6) : (cfg0.win 2).flush t = false := by
  by_contra hc
  have := (flush0_2 t).mp (by simpa using hc)
  omega

theorem kept_eq {c' : Dev nD} (dat : Dat τ (Elt F) Unit ℕ (UR sig nD τ) ℕ cfg0 c') (w : Fin cfg0.W)
    (hclip : ∀ (i : cfg0.grid.Coords) a, (cfg0.win w).clip i a = none) (t : Fin cfg0.N) (d) : dat.kept w t d = dat.after w t := by
  unfold Dat.kept
  rw [Pipeline.fill_of_clip_none w _ (hclip _) d (dat.after w _), Window.fill_cut]

/-- At a later point the output block holds the sum so far, -/
theorem before0_1 (c : Dev nD) (n : ℕ) (h : n + 1 < cfg0.N) (d) : (dats m 0 c).before 1 ⟨n + 1, h⟩ d = acc m c n (Nat.lt_of_succ_lt h) := by
  have hN := N_eq
  rw [(dats m 0 c).before_of_pos 1 ⟨n + 1, h⟩ (Nat.succ_ne_zero n) ((cfg0.win 1).fetch_out rfl _), if_neg (by
    rw [noflush1]; · exact Bool.false_ne_true
    · dsimp only; omega)]
  unfold Dat.left
  rw [live1]
  exact (kept_eq (dats m 0 c) 1 (fun _ _ => rfl) _ d).trans (after0_1 m c _)

/-- and the corner's block the first point's value. -/
theorem before0_2 (c : Dev nD) (d) : ∀ (n : ℕ) (h : n + 1 < cfg0.N), (dats m 0 c).before 2 ⟨n + 1, h⟩ d = corner m c
  | n, h => by
    have hN := N_eq
    rw [(dats m 0 c).before_of_pos 2 ⟨n + 1, h⟩ (Nat.succ_ne_zero n) ((cfg0.win 2).fetch_out rfl _), if_neg (by
      rw [noflush2]; · exact Bool.false_ne_true
      · dsimp only; omega)]
    unfold Dat.left
    cases n with
    | zero =>
      rw [live2 _ rfl]
      exact (kept_eq (dats m 0 c) 2 (fun _ _ => rfl) _ d).trans (after0_2 m c _)
    | succ k =>
      rw [idle2 _ (Nat.succ_ne_zero k)]
      exact before0_2 c d k _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (st0_0 t) fullShare (iblk m c 0 t) := by
  rw [← after0_0]
theorem leaves1 (c : Dev nD) (t : Fin cfg0.N) : (dats m 0 c).leavesExact 1 t = owns (c : Thread nD τ) (st0_1 t) fullShare (acc m c t.val t.isLt) := by
  rw [← after0_1]; unfold Dat.leavesExact; rw [show cfg0.idle 1 (cfg0.grid.coords t) = false from live1 t]
theorem leaves2 (c : Dev nD) (t : Fin cfg0.N) : owns (c : Thread nD τ) (st0_2 t) fullShare (corner m c) ⊢ (dats m 0 c).leavesExact 2 t := by
  by_cases h : t.val = 0
  · rw [← after0_2 m c t]; unfold Dat.leavesExact; rw [show cfg0.idle 2 (cfg0.grid.coords t) = false from live2 t h]
  · cases hf : (cfg0.win 2).flush t with
    | true => rw [← after0_2 m c t]; unfold Dat.leavesExact; rw [show cfg0.idle 2 (cfg0.grid.coords t) = true from idle2 t h, hf]
    | false =>
      rw [(dats m 0 c).leavesExact_idle 2 t (idle2 t h) hf]
      obtain ⟨_ | k, ht⟩ := t
      · exact absurd rfl h
      iintro H
      iexists (corner m c)
      rw [before0_2]
      iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, leaves0, leaves1]
  have hN : t.val < 6 := lt_of_lt_of_eq t.isLt N_eq
  by_cases h0 : t.val = 0
  · obtain ⟨_ | k, ht⟩ := t
    swap; · exact absurd h0 (Nat.succ_ne_zero k)
    iintro ⟨HΦ, Ho, ⟨%d0, H0⟩, ⟨%d1, H1⟩, ⟨%d2, H2⟩⟩
    iapply ((run_first c (grid0.coords _) _ _ _ _ _ _ ((hfirst _).mpr rfl) (fun h => absurd ((hlater _).mp h) (Nat.not_succ_le_zero 0)) (iblk m c 0 _)) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iapply (leaves2 m c ⟨0, ht⟩)
    iexact H2
  · obtain ⟨_ | k, ht⟩ := t
    · exact absurd rfl h0
    simp only [before0_1, before0_2]
    iintro ⟨HΦ, Ho, ⟨%d0, H0⟩, ⟨%d1, H1⟩, ⟨%d2, H2⟩⟩
    iapply ((run_later c (grid0.coords _) _ _ _ _ _ _ (fun h => h0 ((hfirst _).mp h)) ((hlater _).mpr (by dsimp only; omega)) (iblk m c 0 _) (acc m c k _) (corner m c)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iapply (leaves2 m c ⟨k + 1, ht⟩)
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends, with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KA.Acc
-- ==== Proof.StepKAIdeal.lean ====
/- What one grid point of the layer kernel computes, value by value: each printed value of the body as a function of the
   block read (`x`) and of the point's number (`a`), so that the body is one load, two stores at the first point and
   one accumulating store at every later one. -/
module

public import proofs.«01_k».proof.Proof.Gen.KAIdeal.Frame
public import proofs.«01_k».proof.Proof.Gen.KAIdeal.Skeleton
public import Idealize.ShloMosaic.Lib.Claim

@[expose] public section

set_option maxRecDepth 16384

noncomputable section

namespace Cert.KAIdeal.Step

open Idealize.ShloMosaic Idealize.ShloMosaic.TcCoe Idealize.ShloMosaic.Tactic
open Idealize.SL Idealize.SL.RA Idealize.SL.BI Idealize.SL.Sem
open Cert.KAIdeal Cert.KAIdeal.Gen

variable {F : FTy → Type} [FloatOps F] [Named F]

def s_v18 (x : Vec F S16x256x256 .f32) (a : BitVec 32) : Vec F S16x256x256 .f32 := k0_pay2 x
def s_v19 (x : Vec F S16x256x256 .f32) (a : BitVec 32) : FVec F S16 .f32 := k0_pay3 x
def s_v21 (x : Vec F S16x256x256 .f32) (a : BitVec 32) : FVec F S16 .f32 := k0_pay4 x
def s_v24 (x : Vec F S16x256x256 .f32) (a : BitVec 32) : FVec F S16 .f32 := k0_pay5 x
def s_v27 (x : Vec F S16x256x256 .f32) (a : BitVec 32) : FVec F S16 .f32 := k0_pay6 x
def s_v30 (x : Vec F S16x256x256 .f32) (a : BitVec 32) : FVec F S16 .f32 := k0_pay7 x
def s_v33 (x : Vec F S16x256x256 .f32) (a : BitVec 32) : FVec F S16 .f32 := k0_pay8 x
def s_v36 (x : Vec F S16x256x256 .f32) (a : BitVec 32) : FVec F S16 .f32 := k0_pay9 x
def s_v39 (x : Vec F S16x256x256 .f32) (a : BitVec 32) : FVec F S16 .f32 := k0_pay10 x
def s_v41 (x : Vec F S16x256x256 .f32) (a : BitVec 32) : FVec F S16 .f32 := k0_pay11 x
def s_v42 (x : Vec F S16x256x256 .f32) (a : BitVec 32) : FVec F S16 .f32 := k0_pay12 (s_v19 x a) (s_v41 x a)
def s_v45 (x : Vec F S16x256x256 .f32) (a : BitVec 32) : FVec F S16 .f32 := k0_pay13 (s_v19 x a) (s_v21 x a)
def s_v48 (x : Vec F S16x256x256 .f32) (a : BitVec 32) : FVec F S16 .f32 := k0_pay14 (s_v19 x a) (s_v21 x a)
def s_v51 (x : Vec F S16x256x256 .f32) (a : BitVec 32) : FVec F S16 .f32 := k0_pay15 (s_v19 x a) (s_v21 x a)
def s_v58 (x : Vec F S16x256x256 .f32) (a : BitVec 32) : FVec F S16 .f32 := k0_pay16 (s_v18 x a) (s_v24 x a)
def s_v65 (x : Vec F S16x256x256 .f32) (a : BitVec 32) : FVec F S16 .f32 := k0_pay17 (s_v18 x a) (s_v27 x a)
def s_v72 (x : Vec F S16x256x256 .f32) (a : BitVec 32) : FVec F S16 .f32 := k0_pay18 (s_v18 x a) (s_v30 x a)
def s_v79 (x : Vec F S16x256x256 .f32) (a : BitVec 32) : FVec F S16 .f32 := k0_pay19 (s_v18 x a) (s_v33 x a)
def s_v82 (x : Vec F S16x256x256 .f32) (a : BitVec 32) : IVec S16x256x256 1 := k0_pay20 (s_v18 x a) (s_v36 x a)
def s_v83 (x : Vec F S16x256x256 .f32) (a : BitVec 32) : FVec F S16x256x256 .f32 := k0_pay21 (F := F)
def s_v84 (x : Vec F S16x256x256 .f32) (a : BitVec 32) : FVec F S16x256x256 .f32 := k0_pay22 (F := F)
def s_v86 (x : Vec F S16x256x256 .f32) (a : BitVec 32) : FVec F S16 .f32 := k0_pay23 (s_v82 x a) (s_v83 x a) (s_v84 x a)
def s_v93 (x : Vec F S16x256x256 .f32) (a : BitVec 32) : FVec F S16 .f32 := k0_pay24 (s_v18 x a) (s_v39 x a)
def s_v100 (x : Vec F S16x256x256 .f32) (a : BitVec 32) : FVec F S16 .f32 := k0_pay25 (s_v18 x a) (s_v42 x a)
def s_v107 (x : Vec F S16x256x256 .f32) (a : BitVec 32) : FVec F S16 .f32 := k0_pay26 (s_v18 x a) (s_v45 x a)
def s_v114 (x : Vec F S16x256x256 .f32) (a : BitVec 32) : FVec F S16 .f32 := k0_pay27 (s_v18 x a) (s_v48 x a)
def s_v121 (x : Vec F S16x256x256 .f32) (a : BitVec 32) : FVec F S16 .f32 := k0_pay28 (s_v18 x a) (s_v51 x a)
def s_v123 (x : Vec F S16x256x256 .f32) (a : BitVec 32) : FVec F S16 .f32 := k0_pay29 (s_v58 x a)
def s_v124 (x : Vec F S16x256x256 .f32) (a : BitVec 32) : FVec F S16 .f32 := k0_pay30 (s_v58 x a) (s_v65 x a)
def s_v125 (x : Vec F S16x256x256 .f32) (a : BitVec 32) : FVec F S16 .f32 := k0_pay31 (s_v65 x a) (s_v72 x a)
def s_v126 (x : Vec F S16x256x256 .f32) (a : BitVec 32) : FVec F S16 .f32 := k0_pay32 (s_v72 x a) (s_v79 x a)
def s_v127 (x : Vec F S16x256x256 .f32) (a : BitVec 32) : FVec F S16 .f32 := k0_pay33 (s_v79 x a) (s_v82 x a) (s_v83 x a) (s_v84 x a)
def s_v129 (x : Vec F S16x256x256 .f32) (a : BitVec 32) : FVec F S16 .f32 := k0_pay34 (s_v93 x a)
def s_v130 (x : Vec F S16x256x256 .f32) (a : BitVec 32) : FVec F S16 .f32 := k0_pay35 (s_v93 x a) (s_v100 x a)
def s_v131 (x : Vec F S16x256x256 .f32) (a : BitVec 32) : FVec F S16 .f32 := k0_pay36 (s_v100 x a) (s_v107 x a)
def s_v132 (x : Vec F S16x256x256 .f32) (a : BitVec 32) : FVec F S16 .f32 := k0_pay37 (s_v107 x a) (s_v114 x a)
def s_v133 (x : Vec F S16x256x256 .f32) (a : BitVec 32) : FVec F S16 .f32 := k0_pay38 (s_v114 x a) (s_v121 x a)
def s_v140 (x : Vec F S16x256x256 .f32) (a : BitVec 32) : FVec F S16 .f32 := k0_pay39 (s_v123 x a)
def s_v147 (x : Vec F S16x256x256 .f32) (a : BitVec 32) : FVec F S16 .f32 := k0_pay40 (s_v124 x a)
def s_v154 (x : Vec F S16x256x256 .f32) (a : BitVec 32) : FVec F S16 .f32 := k0_pay41 (s_v125 x a)
def s_v161 (x : Vec F S16x256x256 .f32) (a : BitVec 32) : FVec F S16 .f32 := k0_pay42 (s_v126 x a)
def s_v168 (x : Vec F S16x256x256 .f32) (a : BitVec 32) : FVec F S16 .f32 := k0_pay43 (s_v127 x a)
def s_v170 (x : Vec F S16x256x256 .f32) (a : BitVec 32) : FVec F S16 .f32 := k0_pay44 (s_v86 x a)
def s_v175 (x : Vec F S16x256x256 .f32) (a : BitVec 32) : FVec F S16 .f32 := k0_pay45 (s_v170 x a)
def s_v177 (x : Vec F S16x256x256 .f32) (a : BitVec 32) : IVec S16 1 := k0_pay46 (s_v129 x a)
def s_v179 (x : Vec F S16x256x256 .f32) (a : BitVec 32) : IVec S16 1 := k0_pay47 (s_v130 x a)
def s_v181 (x : Vec F S16x256x256 .f32) (a : BitVec 32) : IVec S16 1 := k0_pay48 (s_v131 x a)
def s_v183 (x : Vec F S16x256x256 .f32) (a : BitVec 32) : IVec S16 1 := k0_pay49 (s_v132 x a)
def s_v185 (x : Vec F S16x256x256 .f32) (a : BitVec 32) : IVec S16 1 := k0_pay50 (s_v133 x a)
def s_v187 (x : Vec F S16x256x256 .f32) (a : BitVec 32) : IVec S16 1 := k0_pay51 (s_v121 x a)
def s_v204 (x : Vec F S16x256x256 .f32) (a : BitVec 32) : FVec F S16 .f32 := k0_pay52 (s_v121 x a) (s_v129 x a) (s_v130 x a) (s_v131 x a) (s_v132 x a) (s_v133 x a) (s_v140 x a) (s_v147 x a) (s_v154 x a) (s_v161 x a) (s_v168 x a) (s_v170 x a)
def s_v206 (x : Vec F S16x256x256 .f32) (a : BitVec 32) : FVec F S16 .f32 := k0_pay53 (s_v129 x a) (s_v140 x a)
def s_v208 (x : Vec F S16x256x256 .f32) (a : BitVec 32) : FVec F S16 .f32 := k0_pay54 (s_v130 x a) (s_v147 x a)
def s_v210 (x : Vec F S16x256x256 .f32) (a : BitVec 32) : FVec F S16 .f32 := k0_pay55 (s_v131 x a) (s_v154 x a)
def s_v212 (x : Vec F S16x256x256 .f32) (a : BitVec 32) : FVec F S16 .f32 := k0_pay56 (s_v132 x a) (s_v161 x a)
def s_v221 (x : Vec F S16x256x256 .f32) (a : BitVec 32) : FVec F S16 .f32 := k0_pay57 (s_v168 x a) (s_v175 x a) (s_v185 x a) (s_v187 x a) (s_v206 x a) (s_v208 x a) (s_v210 x a) (s_v212 x a)
def s_v236 (x : Vec F S16x256x256 .f32) (a : BitVec 32) : FVec F S16 .f32 := k0_pay58 (s_v140 x a) (s_v168 x a) (s_v175 x a) (s_v185 x a) (s_v187 x a) (s_v204 x a) (s_v206 x a) (s_v208 x a) (s_v210 x a) (s_v212 x a)
def s_v251 (x : Vec F S16x256x256 .f32) (a : BitVec 32) : FVec F S16 .f32 := k0_pay59 (s_v147 x a) (s_v168 x a) (s_v175 x a) (s_v185 x a) (s_v187 x a) (s_v204 x a) (s_v206 x a) (s_v208 x a) (s_v210 x a) (s_v212 x a)
def s_v252 (x : Vec F S16x256x256 .f32) (a : BitVec 32) : FVec F S16 .f32 := k0_pay60 (s_v168 x a) (s_v175 x a) (s_v185 x a) (s_v187 x a) (s_v204 x a) (s_v206 x a) (s_v208 x a) (s_v210 x a) (s_v212 x a)
def s_v253 (x : Vec F S16x256x256 .f32) (a : BitVec 32) : FVec F S16 .f32 := k0_pay61 (s_v154 x a) (s_v204 x a)
def s_v255 (x : Vec F S16x256x256 .f32) (a : BitVec 32) : IVec S16 1 := k0_pay62 (s_v168 x a) (s_v175 x a) (s_v185 x a) (s_v187 x a) (s_v204 x a) (s_v206 x a) (s_v208 x a) (s_v210 x a) (s_v212 x a)
def s_v256 (x : Vec F S16x256x256 .f32) (a : BitVec 32) : FVec F S16 .f32 := k0_pay63 (F := F)
def s_v266 (x : Vec F S16x256x256 .f32) (a : BitVec 32) : FVec F S16 .f32 := k0_pay64 (s_v252 x a) (s_v253 x a) (s_v255 x a) (s_v256 x a)
def s_v281 (x : Vec F S16x256x256 .f32) (a : BitVec 32) : FVec F S16 .f32 := k0_pay65 (s_v161 x a) (s_v204 x a) (s_v221 x a)
def s_v296 (x : Vec F S16x256x256 .f32) (a : BitVec 32) : FVec F S16 .f32 := k0_pay66 (s_v168 x a) (s_v204 x a) (s_v221 x a)
def s_v297 (x : Vec F S16x256x256 .f32) (a : BitVec 32) : FVec F S16 .f32 := k0_pay67 (s_v204 x a) (s_v221 x a)
def s_v298 (x : Vec F S16x256x256 .f32) (a : BitVec 32) : FVec F S16 .f32 := k0_pay68 (s_v175 x a) (s_v204 x a)
def s_v299 (x : Vec F S16x256x256 .f32) (a : BitVec 32) : FVec F S16 .f32 := k0_pay69 (F := F)
def s_v311 (x : Vec F S16x256x256 .f32) (a : BitVec 32) : FVec F S16 .f32 := k0_pay70 (s_v297 x a) (s_v298 x a) (s_v299 x a)
def s_v326 (x : Vec F S16x256x256 .f32) (a : BitVec 32) : FVec F S16 .f32 := k0_pay71 (s_v121 x a) (s_v129 x a) (s_v130 x a) (s_v131 x a) (s_v132 x a) (s_v133 x a) (s_v236 x a) (s_v251 x a) (s_v266 x a) (s_v281 x a) (s_v296 x a) (s_v297 x a) (s_v298 x a) (s_v299 x a)
def s_v343 (x : Vec F S16x256x256 .f32) (a : BitVec 32) : FVec F S16 .f32 := k0_pay72 (s_v177 x a) (s_v179 x a) (s_v181 x a) (s_v183 x a) (s_v185 x a) (s_v187 x a) (s_v236 x a) (s_v251 x a) (s_v266 x a) (s_v281 x a) (s_v296 x a) (s_v297 x a) (s_v298 x a) (s_v299 x a)
def s_v345 (x : Vec F S16x256x256 .f32) (a : BitVec 32) : FVec F S16 .f32 := k0_pay73 (s_v177 x a) (s_v236 x a)
def s_v360 (x : Vec F S16x256x256 .f32) (a : BitVec 32) : FVec F S16 .f32 := k0_pay74 (s_v179 x a) (s_v181 x a) (s_v183 x a) (s_v185 x a) (s_v187 x a) (s_v251 x a) (s_v266 x a) (s_v281 x a) (s_v296 x a) (s_v311 x a) (s_v345 x a)
def s_v362 (x : Vec F S16x256x256 .f32) (a : BitVec 32) : FVec F S16 .f32 := k0_pay75 (s_v179 x a) (s_v181 x a) (s_v183 x a) (s_v185 x a) (s_v187 x a) (s_v251 x a) (s_v266 x a) (s_v281 x a) (s_v296 x a) (s_v311 x a) (s_v326 x a) (s_v345 x a)
def s_v378 (x : Vec F S16x256x256 .f32) (a : BitVec 32) : FVec F S16 .f32 := k0_pay76 (s_v179 x a) (s_v181 x a) (s_v183 x a) (s_v185 x a) (s_v187 x a) (s_v236 x a) (s_v251 x a) (s_v266 x a) (s_v281 x a) (s_v296 x a) (s_v311 x a) (s_v326 x a) (s_v343 x a) (s_v345 x a)
def s_v379 (x : Vec F S16x256x256 .f32) (a : BitVec 32) : FVec F S16 .f32 := k0_pay77 (s_v179 x a) (s_v181 x a) (s_v183 x a) (s_v185 x a) (s_v187 x a) (s_v251 x a) (s_v266 x a) (s_v281 x a) (s_v296 x a) (s_v311 x a) (s_v343 x a) (s_v345 x a)
def s_v389 (x : Vec F S16x256x256 .f32) (a : BitVec 32) : FVec F S16 .f32 := k0_pay78 (s_v179 x a) (s_v181 x a) (s_v183 x a) (s_v185 x a) (s_v187 x a) (s_v251 x a) (s_v266 x a) (s_v281 x a) (s_v296 x a) (s_v311 x a) (s_v343 x a) (s_v345 x a)
def s_cst_144 (x : Vec F S16x256x256 .f32) (a : BitVec 32) : F .f32 := (Scalar.ofBits .f32 0x00000000#32)
def s_v394 (x : Vec F S16x256x256 .f32) (a : BitVec 32) : FVec F S16 .f32 := k0_pay79 (s_v362 x a) (s_v379 x a) (s_v389 x a) (s_cst_144 x a)
def s_v410 (x : Vec F S16x256x256 .f32) (a : BitVec 32) : FVec F S16 .f32 := k0_pay80 (s_v266 x a) (s_v343 x a) (s_v360 x a) (s_v362 x a)
def s_v426 (x : Vec F S16x256x256 .f32) (a : BitVec 32) : FVec F S16 .f32 := k0_pay81 (s_v281 x a) (s_v343 x a) (s_v360 x a) (s_v362 x a)
def s_v427 (x : Vec F S16x256x256 .f32) (a : BitVec 32) : FVec F S16 .f32 := k0_pay82 (s_v343 x a) (s_v360 x a)
def s_v433 (x : Vec F S16x256x256 .f32) (a : BitVec 32) : FVec F S16 .f32 := k0_pay83 (s_v296 x a) (s_v343 x a) (s_v360 x a)
def s_cst_160 (x : Vec F S16x256x256 .f32) (a : BitVec 32) : F .f32 := (Scalar.ofBits .f32 0x3F800000#32)
def s_v442 (x : Vec F S16x256x256 .f32) (a : BitVec 32) : FVec F S16 .f32 := k0_pay84 (s_v362 x a) (s_v427 x a) (s_v433 x a) (s_cst_160 x a)
def s_v458 (x : Vec F S16x256x256 .f32) (a : BitVec 32) : FVec F S16 .f32 := k0_pay85 (s_v311 x a) (s_v343 x a) (s_v360 x a) (s_v362 x a)
def s_v468 (x : Vec F S16x256x256 .f32) (a : BitVec 32) : FVec F S16 .f32 := k0_pay86 (F := F) a
def s_v473 (x : Vec F S16x256x256 .f32) (a : BitVec 32) : FVec F S16 .f32 := k0_pay87 (s_v39 x a)
def s_v475 (x : Vec F S16x256x256 .f32) (a : BitVec 32) : IVec S16 1 := k0_pay88 (s_v42 x a)
def s_cst_178 (x : Vec F S16x256x256 .f32) (a : BitVec 32) : F .f32 := (Scalar.ofBits .f32 0x3F800000#32)
def s_v501 (x : Vec F S16x256x256 .f32) (a : BitVec 32) : FVec F S16 .f32 := k0_pay93 (s_v129 x a) (s_v468 x a) (s_v473 x a)
def s_v503 (x : Vec F S16x256x256 .f32) (a : BitVec 32) : FVec F S16 .f32 := k0_pay94 (s_v130 x a) (s_v468 x a) (s_v473 x a) (s_v475 x a) (s_cst_178 x a)
def s_v505 (x : Vec F S16x256x256 .f32) (a : BitVec 32) : FVec F S16 .f32 := k0_pay95 (s_v45 x a) (s_v131 x a) (s_v468 x a) (s_v475 x a) (s_cst_178 x a)
def s_v507 (x : Vec F S16x256x256 .f32) (a : BitVec 32) : FVec F S16 .f32 := k0_pay96 (s_v45 x a) (s_v48 x a) (s_v132 x a) (s_v468 x a)
def s_v509 (x : Vec F S16x256x256 .f32) (a : BitVec 32) : FVec F S16 .f32 := k0_pay97 (s_v48 x a) (s_v51 x a) (s_v133 x a) (s_v468 x a)
def s_v511 (x : Vec F S16x256x256 .f32) (a : BitVec 32) : FVec F S16 .f32 := k0_pay98 (s_v51 x a) (s_v121 x a) (s_v468 x a)
def s_v513 (x : Vec F S16x256x256 .f32) (a : BitVec 32) : IVec S16 1 := k0_pay99 (s_v129 x a) (s_v468 x a) (s_v473 x a)
def s_v515 (x : Vec F S16x256x256 .f32) (a : BitVec 32) : IVec S16 1 := k0_pay100 (s_v130 x a) (s_v468 x a) (s_v473 x a) (s_v475 x a) (s_cst_178 x a)
def s_v517 (x : Vec F S16x256x256 .f32) (a : BitVec 32) : IVec S16 1 := k0_pay101 (s_v45 x a) (s_v131 x a) (s_v468 x a) (s_v475 x a) (s_cst_178 x a)
def s_v519 (x : Vec F S16x256x256 .f32) (a : BitVec 32) : IVec S16 1 := k0_pay102 (s_v45 x a) (s_v48 x a) (s_v132 x a) (s_v468 x a)
def s_cst_194 (x : Vec F S16x256x256 .f32) (a : BitVec 32) : F .f32 := (Scalar.ofBits .f32 0x00000000#32)
def s_v557 (x : Vec F S16x256x256 .f32) (a : BitVec 32) : FVec F S16 .f32 := k0_pay105 (s_v378 x a) (s_v394 x a) (s_v410 x a) (s_v426 x a) (s_v442 x a) (s_v458 x a) (s_v509 x a) (s_v511 x a) (s_v513 x a) (s_v515 x a) (s_v517 x a) (s_v519 x a) (s_cst_194 x a)
def s_v562 (x : Vec F S16x256x256 .f32) (a : BitVec 32) : FVec F S16 .f32 := k0_pay106 (s_v378 x a) (s_v394 x a) (s_v410 x a) (s_v426 x a) (s_v442 x a) (s_v458 x a) (s_v468 x a) (s_v509 x a) (s_v511 x a) (s_v513 x a) (s_v515 x a) (s_v517 x a) (s_v519 x a) (s_cst_194 x a)
def s_v563 (x : Vec F S16x256x256 .f32) (a : BitVec 32) : FVec F S16 .f32 := k0_pay107 (F := F)
def s_v567 (x : Vec F S16x256x256 .f32) (a : BitVec 32) : FVec F S16 .f32 := k0_pay108 (s_v468 x a) (s_v557 x a) (s_v563 x a)
def s_v584 (x : Vec F S16x256x256 .f32) (a : BitVec 32) : FVec F S16 .f32 := k0_pay109 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v563 x a)
def s_v600 (x : Vec F S16x256x256 .f32) (a : BitVec 32) : FVec F S16 .f32 := k0_pay110 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a) (s_v563 x a)
def s_v601 (x : Vec F S16x256x256 .f32) (a : BitVec 32) : FVec F S16 .f32 := k0_pay111 (s_v468 x a) (s_v557 x a) (s_v562 x a) (s_v563 x a)
def s_v609 (x : Vec F S16x256x256 .f32) (a : BitVec 32) : FVec F S16 .f32 := k0_pay112 (s_v394 x a) (s_v468 x a) (s_v557 x a) (s_v562 x a) (s_v563 x a)
def s_v610 (x : Vec F S16x256x256 .f32) (a : BitVec 32) : FVec F S16 .f32 := k0_pay113 (F := F)
def s_v616 (x : Vec F S16x256x256 .f32) (a : BitVec 32) : FVec F S16 .f32 := k0_pay114 (s_v584 x a) (s_v601 x a) (s_v609 x a) (s_v610 x a)
def s_v632 (x : Vec F S16x256x256 .f32) (a : BitVec 32) : FVec F S16 .f32 := k0_pay115 (s_v410 x a) (s_v562 x a) (s_v567 x a) (s_v584 x a)
def s_v648 (x : Vec F S16x256x256 .f32) (a : BitVec 32) : FVec F S16 .f32 := k0_pay116 (s_v426 x a) (s_v562 x a) (s_v567 x a) (s_v584 x a)
def s_v649 (x : Vec F S16x256x256 .f32) (a : BitVec 32) : FVec F S16 .f32 := k0_pay117 (s_v562 x a) (s_v567 x a)
def s_v650 (x : Vec F S16x256x256 .f32) (a : BitVec 32) : FVec F S16 .f32 := k0_pay118 (s_v442 x a) (s_v562 x a)
def s_v654 (x : Vec F S16x256x256 .f32) (a : BitVec 32) : FVec F S16 .f32 := k0_pay119 (s_v562 x a) (s_v567 x a)
def s_v664 (x : Vec F S16x256x256 .f32) (a : BitVec 32) : FVec F S16 .f32 := k0_pay120 (s_v584 x a) (s_v649 x a) (s_v650 x a) (s_v654 x a)
def s_v680 (x : Vec F S16x256x256 .f32) (a : BitVec 32) : FVec F S16 .f32 := k0_pay121 (s_v458 x a) (s_v562 x a) (s_v567 x a) (s_v584 x a)
def s_v704 (x : Vec F S16x256x256 .f32) (a : BitVec 32) : FVec F S16x256x256 .f32 := k0_pay122 (s_v18 x a) (s_v39 x a) (s_v42 x a) (s_v45 x a) (s_v600 x a) (s_v616 x a) (s_v632 x a) (s_v648 x a)
/-- What the block adds to the summed map, -/
def blk (x : Vec F S16x256x256 .f32) (a : BitVec 32) : FVec F S256x256 .f32 := k0_pay123 (s_v18 x a) (s_v48 x a) (s_v51 x a) (s_v664 x a) (s_v680 x a) (s_v704 x a)
/-- and the corner value of its first channel. -/
def edge (x : Vec F S16x256x256 .f32) (a : BitVec 32) : Vec F S1x1 .f32 := k0_pay124 (s_v39 x a) (s_v42 x a) (s_v45 x a) (s_v48 x a) (s_v51 x a) (s_v600 x a) (s_v616 x a) (s_v632 x a) (s_v648 x a) (s_v664 x a) (s_v680 x a)

variable (i : grid0.Coords) (arg1 : Memref sig .tc .vmem S16x256x256 .f32) (harg1 : arg1.IsWhole) (arg2 : Memref sig .tc .vmem S256x256 .f32) (harg2 : arg2.IsWhole) (arg3 : Memref sig .tc .vmem S1x1 .f32) (harg3 : arg3.IsWhole)

theorem part1_at :
    k0_part1 (F := F) i arg1 harg1 arg2 harg2 arg3 harg3 = Prog.lift (.load arg1 (Rect.unit (s := S16x256x256) ![0, 0, 0] S16x256x256.size inb_S16x256x256_S16x256x256_0_0_0).toLoadRect (View.loadsAt_vmem h_S16x256x256)) >>= fun x => pure ⟨BitVec.ofNat 32 (i 0).val, s_v18 x (BitVec.ofNat 32 (i 0).val), s_v19 x (BitVec.ofNat 32 (i 0).val), s_v21 x (BitVec.ofNat 32 (i 0).val), s_v24 x (BitVec.ofNat 32 (i 0).val), s_v27 x (BitVec.ofNat 32 (i 0).val), s_v30 x (BitVec.ofNat 32 (i 0).val), s_v33 x (BitVec.ofNat 32 (i 0).val), s_v36 x (BitVec.ofNat 32 (i 0).val), s_v39 x (BitVec.ofNat 32 (i 0).val), s_v41 x (BitVec.ofNat 32 (i 0).val)⟩ := by
  rw [k0_part1_eq_skeleton]; rfl

theorem part2_at (x : Vec F S16x256x256 .f32) (a : BitVec 32) :
    k0_part2 (F := F) i arg1 harg1 arg2 harg2 arg3 harg3 (s_v18 x a) (s_v19 x a) (s_v21 x a) (s_v24 x a) (s_v27 x a) (s_v30 x a) (s_v33 x a) (s_v36 x a) (s_v41 x a) = pure ⟨s_v42 x a, s_v45 x a, s_v48 x a, s_v51 x a, s_v58 x a, s_v65 x a, s_v72 x a, s_v79 x a, s_v82 x a, s_v83 x a, s_v84 x a⟩ := by
  rw [k0_part2_eq_skeleton]; rfl

theorem part3_at (x : Vec F S16x256x256 .f32) (a : BitVec 32) :
    k0_part3 (F := F) i arg1 harg1 arg2 harg2 arg3 harg3 (s_v18 x a) (s_v39 x a) (s_v42 x a) (s_v45 x a) (s_v48 x a) (s_v51 x a) (s_v58 x a) (s_v65 x a) (s_v72 x a) (s_v79 x a) (s_v82 x a) (s_v83 x a) (s_v84 x a) = pure ⟨s_v86 x a, s_v93 x a, s_v100 x a, s_v107 x a, s_v114 x a, s_v121 x a, s_v123 x a, s_v124 x a, s_v125 x a, s_v126 x a, s_v127 x a⟩ := by
  rw [k0_part3_eq_skeleton]; rfl

theorem part4_at (x : Vec F S16x256x256 .f32) (a : BitVec 32) :
    k0_part4 (F := F) i arg1 harg1 arg2 harg2 arg3 harg3 (s_v86 x a) (s_v93 x a) (s_v100 x a) (s_v107 x a) (s_v114 x a) (s_v121 x a) (s_v123 x a) (s_v124 x a) (s_v125 x a) (s_v126 x a) (s_v127 x a) = pure ⟨s_v129 x a, s_v130 x a, s_v131 x a, s_v132 x a, s_v133 x a, s_v140 x a, s_v147 x a, s_v154 x a, s_v161 x a, s_v168 x a, s_v170 x a⟩ := by
  rw [k0_part4_eq_skeleton]; rfl

theorem part5_at (x : Vec F S16x256x256 .f32) (a : BitVec 32) :
    k0_part5 (F := F) i arg1 harg1 arg2 harg2 arg3 harg3 (s_v121 x a) (s_v129 x a) (s_v130 x a) (s_v131 x a) (s_v132 x a) (s_v133 x a) (s_v140 x a) (s_v147 x a) (s_v154 x a) (s_v161 x a) (s_v168 x a) (s_v170 x a) = pure ⟨s_v175 x a, s_v177 x a, s_v179 x a, s_v181 x a, s_v183 x a, s_v185 x a, s_v187 x a, s_v204 x a, s_v206 x a, s_v208 x a, s_v210 x a, s_v212 x a⟩ := by
  rw [k0_part5_eq_skeleton]; rfl

theorem part6_at (x : Vec F S16x256x256 .f32) (a : BitVec 32) :
    k0_part6 (F := F) i arg1 harg1 arg2 harg2 arg3 harg3 (s_v140 x a) (s_v147 x a) (s_v154 x a) (s_v168 x a) (s_v175 x a) (s_v185 x a) (s_v187 x a) (s_v204 x a) (s_v206 x a) (s_v208 x a) (s_v210 x a) (s_v212 x a) = pure ⟨s_v221 x a, s_v236 x a, s_v251 x a, s_v252 x a, s_v253 x a, s_v255 x a, s_v256 x a⟩ := by
  rw [k0_part6_eq_skeleton]; rfl

theorem part7_at (x : Vec F S16x256x256 .f32) (a : BitVec 32) :
    k0_part7 (F := F) i arg1 harg1 arg2 harg2 arg3 harg3 (s_v161 x a) (s_v168 x a) (s_v175 x a) (s_v204 x a) (s_v221 x a) (s_v252 x a) (s_v253 x a) (s_v255 x a) (s_v256 x a) = pure ⟨s_v266 x a, s_v281 x a, s_v296 x a, s_v297 x a, s_v298 x a, s_v299 x a⟩ := by
  rw [k0_part7_eq_skeleton]; rfl

theorem part8_at (x : Vec F S16x256x256 .f32) (a : BitVec 32) :
    k0_part8 (F := F) i arg1 harg1 arg2 harg2 arg3 harg3 (s_v121 x a) (s_v129 x a) (s_v130 x a) (s_v131 x a) (s_v132 x a) (s_v133 x a) (s_v177 x a) (s_v179 x a) (s_v181 x a) (s_v183 x a) (s_v185 x a) (s_v187 x a) (s_v236 x a) (s_v251 x a) (s_v266 x a) (s_v281 x a) (s_v296 x a) (s_v297 x a) (s_v298 x a) (s_v299 x a) = pure ⟨s_v311 x a, s_v326 x a, s_v343 x a, s_v345 x a⟩ := by
  rw [k0_part8_eq_skeleton]; rfl

theorem part9_at (x : Vec F S16x256x256 .f32) (a : BitVec 32) :
    k0_part9 (F := F) i arg1 harg1 arg2 harg2 arg3 harg3 (s_v179 x a) (s_v181 x a) (s_v183 x a) (s_v185 x a) (s_v187 x a) (s_v236 x a) (s_v251 x a) (s_v266 x a) (s_v281 x a) (s_v296 x a) (s_v311 x a) (s_v326 x a) (s_v343 x a) (s_v345 x a) = pure ⟨s_v360 x a, s_v362 x a, s_v378 x a, s_v379 x a, s_v389 x a, s_cst_144 x a⟩ := by
  rw [k0_part9_eq_skeleton]; rfl

theorem part10_at (x : Vec F S16x256x256 .f32) (a : BitVec 32) :
    k0_part10 (F := F) i arg1 harg1 arg2 harg2 arg3 harg3 (s_v266 x a) (s_v281 x a) (s_v296 x a) (s_v343 x a) (s_v360 x a) (s_v362 x a) (s_v379 x a) (s_v389 x a) (s_cst_144 x a) = pure ⟨s_v394 x a, s_v410 x a, s_v426 x a, s_v427 x a, s_v433 x a, s_cst_160 x a⟩ := by
  rw [k0_part10_eq_skeleton]; rfl

theorem part11_at (x : Vec F S16x256x256 .f32) (a : BitVec 32) :
    k0_part11 (F := F) i arg1 harg1 arg2 harg2 arg3 harg3 a (s_v39 x a) (s_v42 x a) (s_v311 x a) (s_v343 x a) (s_v360 x a) (s_v362 x a) (s_v427 x a) (s_v433 x a) (s_cst_160 x a) = pure ⟨s_v442 x a, s_v458 x a, s_v468 x a, s_v473 x a, s_v475 x a, s_cst_178 x a⟩ := by
  rw [k0_part11_eq_skeleton]; rfl

theorem part12_at (x : Vec F S16x256x256 .f32) (a : BitVec 32) :
    k0_part12 (F := F) i arg1 harg1 arg2 harg2 arg3 harg3 (s_v45 x a) (s_v48 x a) (s_v51 x a) (s_v121 x a) (s_v129 x a) (s_v130 x a) (s_v131 x a) (s_v132 x a) (s_v133 x a) (s_v468 x a) (s_v473 x a) (s_v475 x a) (s_cst_178 x a) = pure ⟨s_v501 x a, s_v503 x a, s_v505 x a, s_v507 x a, s_v509 x a, s_v511 x a, s_v513 x a, s_v515 x a, s_v517 x a, s_v519 x a, s_cst_194 x a⟩ := by
  rw [k0_part12_eq_skeleton]; rfl

theorem part13_at (x : Vec F S16x256x256 .f32) (a : BitVec 32) :
    k0_part13 (F := F) i arg1 harg1 arg2 harg2 arg3 harg3 (s_v378 x a) (s_v394 x a) (s_v410 x a) (s_v426 x a) (s_v442 x a) (s_v458 x a) (s_v468 x a) (s_v509 x a) (s_v511 x a) (s_v513 x a) (s_v515 x a) (s_v517 x a) (s_v519 x a) (s_cst_194 x a) = pure ⟨s_v557 x a, s_v562 x a, s_v563 x a⟩ := by
  rw [k0_part13_eq_skeleton]; rfl

theorem part14_at (x : Vec F S16x256x256 .f32) (a : BitVec 32) :
    k0_part14 (F := F) i arg1 harg1 arg2 harg2 arg3 harg3 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a) (s_v563 x a) = pure ⟨s_v567 x a, s_v584 x a, s_v600 x a, s_v601 x a, s_v609 x a, s_v610 x a⟩ := by
  rw [k0_part14_eq_skeleton]; rfl

theorem part15_at (x : Vec F S16x256x256 .f32) (a : BitVec 32) :
    k0_part15 (F := F) i arg1 harg1 arg2 harg2 arg3 harg3 (s_v410 x a) (s_v426 x a) (s_v442 x a) (s_v562 x a) (s_v567 x a) (s_v584 x a) (s_v601 x a) (s_v609 x a) (s_v610 x a) = pure ⟨s_v616 x a, s_v632 x a, s_v648 x a, s_v649 x a, s_v650 x a, s_v654 x a⟩ := by
  rw [k0_part15_eq_skeleton]; rfl

theorem part16_at (x : Vec F S16x256x256 .f32) (a : BitVec 32) :
    k0_part16 (F := F) i arg1 harg1 arg2 harg2 arg3 harg3 (s_v18 x a) (s_v39 x a) (s_v42 x a) (s_v45 x a) (s_v458 x a) (s_v562 x a) (s_v567 x a) (s_v584 x a) (s_v600 x a) (s_v616 x a) (s_v632 x a) (s_v648 x a) (s_v649 x a) (s_v650 x a) (s_v654 x a) = pure ⟨s_v664 x a, s_v680 x a, s_v704 x a⟩ := by
  rw [k0_part16_eq_skeleton]; rfl

theorem part17_at :
    k0_part17 (F := F) i arg1 harg1 arg2 harg2 arg3 harg3 = (do
  let x : Vec F S16x256x256 .f32 ← Prog.lift (.load arg1 (Rect.unit (s := S16x256x256) ![0, 0, 0] S16x256x256.size inb_S16x256x256_S16x256x256_0_0_0).toLoadRect (View.loadsAt_vmem h_S16x256x256))
  if k0_h1 : k0_cond1 i = 1#1 then do
    let v741 : Vec F S256x256 .f32 ← Prog.lift (.load arg2 (Rect.unit (s := S256x256) ![0, 0] S256x256.size inb_S256x256_S256x256_0_0).toLoadRect (View.loadsAt_vmem h_S256x256))
    Prog.lift (.store arg2 (Rect.unit (s := S256x256) ![0, 0] S256x256.size inb_S256x256_S256x256_0_0) (blk x (BitVec.ofNat 32 (i 0).val)) Finset.univ (View.stores_vmem_bits_univ h_S256x256 rfl) (.inl rfl))
    let v744 : Vec F S1x1 .f32 ← Prog.lift (.load arg3 (Rect.unit (s := S1x1) ![0, 0] S1x1.size inb_S1x1_S1x1_0_0).toLoadRect (View.loadsAt_vmem h_S1x1))
    Prog.lift (.store arg3 (Rect.unit (s := S1x1) ![0, 0] S1x1.size inb_S1x1_S1x1_0_0) (edge x (BitVec.ofNat 32 (i 0).val)) Finset.univ (View.stores_vmem_bits_univ h_S1x1 rfl) (.inl rfl))
    pure ⟨⟩
  else do
    pure ⟨⟩
  let v738 : BitVec 1 := Scalar.cmpi .ne (BitVec.ofNat 32 (i 0).val) 0#32
  pure ⟨blk x (BitVec.ofNat 32 (i 0).val), v738⟩) := by
  rw [k0_part17_eq_skeleton]
  simp only [k0_part17_skel, part1_at, part2_at, part3_at, part4_at, part5_at, part6_at, part7_at, part8_at, part9_at, part10_at, part11_at, part12_at, part13_at, part14_at, part15_at, part16_at, bind_assoc, pure_bind]
  rfl

/-- The body: the block is read; the first point stores, every later one adds. -/
theorem body_at :
    cc0__stage1_body (F := F) i arg1 harg1 arg2 harg2 arg3 harg3 = (do
  let ⟨v719, v738⟩ : Σ' (v719 : FVec F S256x256 .f32), BitVec 1 ← (do
    let x : Vec F S16x256x256 .f32 ← Prog.lift (.load arg1 (Rect.unit (s := S16x256x256) ![0, 0, 0] S16x256x256.size inb_S16x256x256_S16x256x256_0_0_0).toLoadRect (View.loadsAt_vmem h_S16x256x256))
    if k0_h1 : k0_cond1 i = 1#1 then do
      let v741 : Vec F S256x256 .f32 ← Prog.lift (.load arg2 (Rect.unit (s := S256x256) ![0, 0] S256x256.size inb_S256x256_S256x256_0_0).toLoadRect (View.loadsAt_vmem h_S256x256))
      Prog.lift (.store arg2 (Rect.unit (s := S256x256) ![0, 0] S256x256.size inb_S256x256_S256x256_0_0) (blk x (BitVec.ofNat 32 (i 0).val)) Finset.univ (View.stores_vmem_bits_univ h_S256x256 rfl) (.inl rfl))
      let v744 : Vec F S1x1 .f32 ← Prog.lift (.load arg3 (Rect.unit (s := S1x1) ![0, 0] S1x1.size inb_S1x1_S1x1_0_0).toLoadRect (View.loadsAt_vmem h_S1x1))
      Prog.lift (.store arg3 (Rect.unit (s := S1x1) ![0, 0] S1x1.size inb_S1x1_S1x1_0_0) (edge x (BitVec.ofNat 32 (i 0).val)) Finset.univ (View.stores_vmem_bits_univ h_S1x1 rfl) (.inl rfl))
      pure ⟨⟩
    else do
      pure ⟨⟩
    let v738 : BitVec 1 := Scalar.cmpi .ne (BitVec.ofNat 32 (i 0).val) 0#32
    pure ⟨blk x (BitVec.ofNat 32 (i 0).val), v738⟩)
  if k0_h2 : k0_cond2 i = 1#1 then do
    let v741 : Vec F S256x256 .f32 ← Prog.lift (.load arg2 (Rect.unit (s := S256x256) ![0, 0] S256x256.size inb_S256x256_S256x256_0_0).toLoadRect (View.loadsAt_vmem h_S256x256))
    let v744 : Vec F S256x256 .f32 ← Prog.lift (.load arg2 (Rect.unit (s := S256x256) ![0, 0] S256x256.size inb_S256x256_S256x256_0_0).toLoadRect (View.loadsAt_vmem h_S256x256))
    Prog.lift (.store arg2 (Rect.unit (s := S256x256) ![0, 0] S256x256.size inb_S256x256_S256x256_0_0) (k0_pay1 v719 v741) Finset.univ (View.stores_vmem_bits_univ h_S256x256 rfl) (.inl rfl))
    pure ⟨⟩
  else do
    pure ⟨⟩
  pure ⟨⟩) := by
  rw [cc0__stage1_body_eq_skeleton]
  simp only [cc0__stage1_body_skel, part17_at]

end Cert.KAIdeal.Step
-- ==== Proof.AccKAIdeal.lean ====
/- The layer kernel's run, with what it leaves: after the first grid point the output block holds that point's channel
   sum, after every later one the sum so far plus that point's channel sum; the corner value is stored by the first
   point only. -/
module

public import proofs.«01_k».proof.Proof.StepKAIdeal
public import Idealize.ShloMosaic.Lib.Pipeline.Value
public import Idealize.ShloMosaic.Lib.Quiescent

@[expose] public section

set_option maxRecDepth 16384

noncomputable section

namespace Cert.KAIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KAIdeal Cert.KAIdeal.Gen Cert.KAIdeal.Step

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two conditions, by the point -/

theorem hfirst (t : Fin cfg0.N) : k0_cond1 (grid0.coords t) = 1#1 ↔ t.val = 0 :=
  (fun t => by
    have ht : t.val < 6 := Nat.lt_of_lt_of_eq t.isLt N_0
    have e0 : (grid0.coords t 0).val = t.val / 1 % 6 := Pipeline.Grid.coords_val t 0 (by decide) rfl
    simp only [k0_cond1, e0]
    word_cmp
   : ∀ t : Fin grid0.N, k0_cond1 (grid0.coords t) = 1#1 ↔ t.val = 0) t

theorem hlater (t : Fin cfg0.N) : k0_cond2 (grid0.coords t) = 1#1 ↔ 1 ≤ t.val :=
  (fun t => by
    have ht : t.val < 6 := Nat.lt_of_lt_of_eq t.isLt N_0
    have e0 : (grid0.coords t 0).val = t.val / 1 % 6 := Pipeline.Grid.coords_val t 0 (by decide) rfl
    simp only [k0_cond2, e0]
    word_cmp
   : ∀ t : Fin grid0.N, k0_cond2 (grid0.coords t) = 1#1 ↔ 1 ≤ t.val) t

theorem N_eq : cfg0.N = 6 := N_0

/-- The point's number is its coordinate. -/
theorem coord_val (t : Fin cfg0.N) : (grid0.coords t 0).val = t.val :=
  (fun t => by
    have ht : t.val < 6 := Nat.lt_of_lt_of_eq t.isLt N_0
    have e0 : (grid0.coords t 0).val = t.val / 1 % 6 := Pipeline.Grid.coords_val t 0 (by decide) rfl
    omega : ∀ t : Fin grid0.N, (grid0.coords t 0).val = t.val) t

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a point -/

set_option maxHeartbeats 1000000 in
/-- At the first point: the block's channel sum and the corner value are stored. -/
theorem run_first (c : Dev nD) (i : grid0.Coords) (arg1 : Memref sig .tc .vmem S16x256x256 .f32) (harg1 : arg1.IsWhole) (arg2 : Memref sig .tc .vmem S256x256 .f32) (harg2 : arg2.IsWhole) (arg3 : Memref sig .tc .vmem S1x1 .f32) (harg3 : arg3.IsWhole) (hc0 : k0_cond1 i = 1#1) (hc1 : ¬k0_cond2 i = 1#1)
    (x0 : Vec F S16x256x256 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (blk x0 (BitVec.ofNat 32 (i 0).val)) ∗ owns (c : Thread nD τ) arg3 fullShare (edge x0 (BitVec.ofNat 32 (i 0).val))) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%d1, %f1, -, H1⟩, ⟨%d2, %f2, -, H2⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S256x256.size (by rfl))]
      rw [View.canon_unit_zero hz2]
      simp only [View.readAt_eq_ld, harg1.read_unread, View.ld_unit_zero (S := S16x256x256) hz3]
    iexists _; isplitr; swap; · iexact H2
    ipureintro
    rw [View.read_writes_eq_canon _ _ _ (View.cover_of_tiled _ S1x1.size (by rfl))]
    rw [View.canon_unit_zero hz2]
    simp only [View.readAt_eq_ld, harg1.read_unread, View.ld_unit_zero (S := S16x256x256) hz3]

set_option maxHeartbeats 1000000 in
/-- At a later point: the block's channel sum is added to what is there; the corner value is not touched. -/
theorem run_later (c : Dev nD) (i : grid0.Coords) (arg1 : Memref sig .tc .vmem S16x256x256 .f32) (harg1 : arg1.IsWhole) (arg2 : Memref sig .tc .vmem S256x256 .f32) (harg2 : arg2.IsWhole) (arg3 : Memref sig .tc .vmem S1x1 .f32) (harg3 : arg3.IsWhole) (hc0 : ¬k0_cond1 i = 1#1) (hc1 : k0_cond2 i = 1#1)
    (x0 : Vec F S16x256x256 .f32) (y : Vec F S256x256 .f32) (z : Vec F S1x1 .f32) :
      ∀ (E : Set ℕ) (K : PUnit → sProp 𝕄),
        iprop(owns (c : Thread nD τ) arg1 fullShare x0 ∗ owns (c : Thread nD τ) arg2 fullShare y ∗ owns (c : Thread nD τ) arg3 fullShare z
            ∗ (iprop(owns (c : Thread nD τ) arg1 fullShare x0 ∗ owns (c : Thread nD τ) arg2 fullShare (k0_pay1 (blk x0 (BitVec.ofNat 32 (i 0).val)) y) ∗ owns (c : Thread nD τ) arg3 fullShare z) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%f1, %hf1, H1⟩, H2, Hk⟩
    obtain rfl := harg1.eq_unread hf0
    obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S256x256.size (by rfl))]
      rw [View.canon_unit_zero hz2]
      simp only [View.readAt_eq_ld, harg1.read_unread, harg2.read_unread, View.ld_unit_zero (S := S16x256x256) hz3, View.ld_unit_zero (S := S256x256) hz2]
    iexact H2

/-! ## What the output block holds after each point -/

/-- The channel sum of the block at a point. -/
def blkAt (c : Dev nD) (t : Fin cfg0.N) : Vec F S256x256 .f32 := blk (iblk m c 0 t) (BitVec.ofNat 32 (grid0.coords t 0).val)

/-- The sum of the channel sums up to a point, in the points' order. -/
def acc (c : Dev nD) : (n : ℕ) → n < cfg0.N → Vec F S256x256 .f32
  | 0, h => blkAt m c ⟨0, h⟩
  | n + 1, h => k0_pay1 (blkAt m c ⟨n + 1, h⟩) (acc c n (Nat.lt_of_succ_lt h))

/-- The corner value: the first point's. -/
def corner (c : Dev nD) : Vec F S1x1 .f32 := edge (iblk m c 0 t0_0) (BitVec.ofNat 32 (grid0.coords t0_0 0).val)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val t.isLt
    | ⟨2, _⟩ => corner m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = acc m c t.val t.isLt := by dsimp only [dats]
theorem after0_2 (c : Dev nD) (t : Fin cfg0.N) : (dats m 0 c).after 2 t = corner m c := by dsimp only [dats]

theorem before0_0 (c : Dev nD) (t : Fin cfg0.N) (d) : (dats m 0 c).before 0 t d = iblk m c 0 t :=
  before0_0_of m (dats m 0 c) (A_eq m c 0) (after0_0 m c) t d

/-! Where the outputs are not stored into. -/

theorem live1 (t : Fin cfg0.N) : cfg0.idle 1 (grid0.coords t) = false := by
  show (!(k0_cond1 (grid0.coords t) == 1#1) && !(k0_cond2 (grid0.coords t) == 1#1)) = false
  by_cases h : t.val = 0
  · rw [(hfirst t).mpr h]; rfl
  · rw [(hlater t).mpr (by omega)]; simp
theorem live2 (t : Fin cfg0.N) (h : t.val = 0) : cfg0.idle 2 (grid0.coords t) = false := by
  show (!(k0_cond1 (grid0.coords t) == 1#1)) = false
  rw [(hfirst t).mpr h]; rfl
theorem idle2 (t : Fin cfg0.N) (h : t.val ≠ 0) : cfg0.idle 2 (grid0.coords t) = true := by
  show (!(k0_cond1 (grid0.coords t) == 1#1)) = true
  have : ¬ k0_cond1 (grid0.coords t) = 1#1 := fun e => h ((hfirst t).mp e)
  simpa using this

theorem noflush1 (t : Fin cfg0.N) (h : t.val + 1 < 6) : (cfg0.win 1).flush t = false := by
  by_contra hc
  have := (flush0_1 t).mp (by simpa using hc)
  omega
theorem noflush2 (t : Fin cfg0.N) (h : t.val + 1 < 6) : (cfg0.win 2).flush t = false := by
  by_contra hc
  have := (flush0_2 t).mp (by simpa using hc)
  omega

theorem kept_eq {c' : Dev nD} (dat : Dat τ (Elt F) Unit ℕ (UR sig nD τ) ℕ cfg0 c') (w : Fin cfg0.W)
    (hclip : ∀ (i : cfg0.grid.Coords) a, (cfg0.win w).clip i a = none) (t : Fin cfg0.N) (d) : dat.kept w t d = dat.after w t := by
  unfold Dat.kept
  rw [Pipeline.fill_of_clip_none w _ (hclip _) d (dat.after w _), Window.fill_cut]

/-- At a later point the output block holds the sum so far, -/
theorem before0_1 (c : Dev nD) (n : ℕ) (h : n + 1 < cfg0.N) (d) : (dats m 0 c).before 1 ⟨n + 1, h⟩ d = acc m c n (Nat.lt_of_succ_lt h) := by
  have hN := N_eq
  rw [(dats m 0 c).before_of_pos 1 ⟨n + 1, h⟩ (Nat.succ_ne_zero n) ((cfg0.win 1).fetch_out rfl _), if_neg (by
    rw [noflush1]; · exact Bool.false_ne_true
    · dsimp only; omega)]
  unfold Dat.left
  rw [live1]
  exact (kept_eq (dats m 0 c) 1 (fun _ _ => rfl) _ d).trans (after0_1 m c _)

/-- and the corner's block the first point's value. -/
theorem before0_2 (c : Dev nD) (d) : ∀ (n : ℕ) (h : n + 1 < cfg0.N), (dats m 0 c).before 2 ⟨n + 1, h⟩ d = corner m c
  | n, h => by
    have hN := N_eq
    rw [(dats m 0 c).before_of_pos 2 ⟨n + 1, h⟩ (Nat.succ_ne_zero n) ((cfg0.win 2).fetch_out rfl _), if_neg (by
      rw [noflush2]; · exact Bool.false_ne_true
      · dsimp only; omega)]
    unfold Dat.left
    cases n with
    | zero =>
      rw [live2 _ rfl]
      exact (kept_eq (dats m 0 c) 2 (fun _ _ => rfl) _ d).trans (after0_2 m c _)
    | succ k =>
      rw [idle2 _ (Nat.succ_ne_zero k)]
      exact before0_2 c d k _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (st0_0 t) fullShare (iblk m c 0 t) := by
  rw [← after0_0]
theorem leaves1 (c : Dev nD) (t : Fin cfg0.N) : (dats m 0 c).leavesExact 1 t = owns (c : Thread nD τ) (st0_1 t) fullShare (acc m c t.val t.isLt) := by
  rw [← after0_1]; unfold Dat.leavesExact; rw [show cfg0.idle 1 (cfg0.grid.coords t) = false from live1 t]
theorem leaves2 (c : Dev nD) (t : Fin cfg0.N) : owns (c : Thread nD τ) (st0_2 t) fullShare (corner m c) ⊢ (dats m 0 c).leavesExact 2 t := by
  by_cases h : t.val = 0
  · rw [← after0_2 m c t]; unfold Dat.leavesExact; rw [show cfg0.idle 2 (cfg0.grid.coords t) = false from live2 t h]
  · cases hf : (cfg0.win 2).flush t with
    | true => rw [← after0_2 m c t]; unfold Dat.leavesExact; rw [show cfg0.idle 2 (cfg0.grid.coords t) = true from idle2 t h, hf]
    | false =>
      rw [(dats m 0 c).leavesExact_idle 2 t (idle2 t h) hf]
      obtain ⟨_ | k, ht⟩ := t
      · exact absurd rfl h
      iintro H
      iexists (corner m c)
      rw [before0_2]
      iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, leaves0, leaves1]
  have hN : t.val < 6 := lt_of_lt_of_eq t.isLt N_eq
  by_cases h0 : t.val = 0
  · obtain ⟨_ | k, ht⟩ := t
    swap; · exact absurd h0 (Nat.succ_ne_zero k)
    iintro ⟨HΦ, Ho, ⟨%d0, H0⟩, ⟨%d1, H1⟩, ⟨%d2, H2⟩⟩
    iapply ((run_first c (grid0.coords _) _ _ _ _ _ _ ((hfirst _).mpr rfl) (fun h => absurd ((hlater _).mp h) (Nat.not_succ_le_zero 0)) (iblk m c 0 _)) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iapply (leaves2 m c ⟨0, ht⟩)
    iexact H2
  · obtain ⟨_ | k, ht⟩ := t
    · exact absurd rfl h0
    simp only [before0_1, before0_2]
    iintro ⟨HΦ, Ho, ⟨%d0, H0⟩, ⟨%d1, H1⟩, ⟨%d2, H2⟩⟩
    iapply ((run_later c (grid0.coords _) _ _ _ _ _ _ (fun h => h0 ((hfirst _).mp h)) ((hlater _).mpr (by dsimp only; omega)) (iblk m c 0 _) (acc m c k _) (corner m c)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iapply (leaves2 m c ⟨k + 1, ht⟩)
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends, with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-! ## The result arrays -/

/-- The first result: the sum over all points. -/
abbrev sums (c : Dev nD) : Vec F S256x256 .f32 := acc m c (6 - 1) (by rw [N_eq]; decide)

theorem flushed_1 (c : Dev nD) (t : Fin cfg0.N) (hf : (cfg0.win 1).flush t = true) :
    (dats m 0 c).flushed 1 t = ((cfg0.win 1).blk t).view.read (Elt F) (sums m c) := by
  have hN := N_eq
  have h3 : t.val = 6 - 1 := by have := (flush0_1 t).mp hf; have := t.isLt; omega
  obtain rfl : t = t0_5 := Fin.ext h3
  show (cfg0.win 1).cut (grid0.coords t0_5) ((dats m 0 c).after 1 t0_5) = _
  rw [after0_1]
  have hz' : (fun a => win0_1.index t0_5 a * main_v0_0.ty.shape.size a) = fun _ => 0 := funext fun a => by fin_cases a <;> decide
  exact (Memref.read_access_unit_zero (Elt F) main_v0_0 hz' (fun a => by rw [congrFun hz' a]; simp) (sums m c)).symm

theorem flushed_2 (c : Dev nD) (t : Fin cfg0.N) (hf : (cfg0.win 2).flush t = true) :
    (dats m 0 c).flushed 2 t = ((cfg0.win 2).blk t).view.read (Elt F) (corner m c) := by
  have hN := N_eq
  have h3 : t.val = 6 - 1 := by have := (flush0_2 t).mp hf; have := t.isLt; omega
  obtain rfl : t = t0_5 := Fin.ext h3
  show (cfg0.win 2).cut (grid0.coords t0_5) ((dats m 0 c).after 2 t0_5) = _
  rw [after0_2]
  have hz' : (fun a => win0_2.index t0_5 a * main_v0_1.ty.shape.size a) = fun _ => 0 := funext fun a => by fin_cases a <;> decide
  exact (Memref.read_access_unit_zero (Elt F) main_v0_1 hz' (fun a => by rw [congrFun hz' a]; simp) (corner m c)).symm

theorem final_1 (c : Dev nD) : (dats m 0 c).arrAt 1 cfg0.N = sums m c :=
  (dats m 0 c).arrAt_eq_of_cover 1 (sums m c) (flushed_1 m c) fun i =>
    ⟨t0_5, (flush0_1 t0_5).mpr rfl, by
      show i ∈ ((View.whole main_v0_0).slice (win0_1.rect t0_5)).set
      rw [View.set_slice_whole, Rect.mem_set_unit]
      intro a
      have h0 : (i 0 : Nat) < 256 := (i 0).isLt
      have h1 : (i 1 : Nat) < 256 := (i 1).isLt
      match a with
      | ⟨0, _⟩ => show win0_1.index t0_5 0 * win0_1.size 0 ≤ (i 0 : Nat) ∧ (i 0 : Nat) < win0_1.index t0_5 0 * win0_1.size 0 + win0_1.xsize (grid0.coords t0_5) 0
                  rw [show win0_1.index t0_5 0 * win0_1.size 0 = 0 from by decide +kernel, show win0_1.xsize (grid0.coords t0_5) 0 = 256 from by decide +kernel]; omega
      | ⟨1, _⟩ => show win0_1.index t0_5 1 * win0_1.size 1 ≤ (i 1 : Nat) ∧ (i 1 : Nat) < win0_1.index t0_5 1 * win0_1.size 1 + win0_1.xsize (grid0.coords t0_5) 1
                  rw [show win0_1.index t0_5 1 * win0_1.size 1 = 0 from by decide +kernel, show win0_1.xsize (grid0.coords t0_5) 1 = 256 from by decide +kernel]; omega⟩

theorem final_2 (c : Dev nD) : (dats m 0 c).arrAt 2 cfg0.N = corner m c :=
  (dats m 0 c).arrAt_eq_of_cover 2 (corner m c) (flushed_2 m c) fun i =>
    ⟨t0_5, (flush0_2 t0_5).mpr rfl, by
      show i ∈ ((View.whole main_v0_1).slice (win0_2.rect t0_5)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_5 0 * win0_2.size 0 ≤ (i 0 : Nat) ∧ (i 0 : Nat) < win0_2.index t0_5 0 * win0_2.size 0 + win0_2.xsize (grid0.coords t0_5) 0
                  rw [show win0_2.index t0_5 0 * win0_2.size 0 = 0 from by decide +kernel, show win0_2.xsize (grid0.coords t0_5) 0 = 1 from by decide +kernel]; omega
      | ⟨1, _⟩ => show win0_2.index t0_5 1 * win0_2.size 1 ≤ (i 1 : Nat) ∧ (i 1 : Nat) < win0_2.index t0_5 1 * win0_2.size 1 + win0_2.xsize (grid0.coords t0_5) 1
                  rw [show win0_2.index t0_5 1 * win0_2.size 1 = 0 from by decide +kernel, show win0_2.xsize (grid0.coords t0_5) 1 = 1 from by decide +kernel]; omega⟩

/-- The run, with both results. -/
theorem run : θ_run defs (onTc (τ := τ) (main (F := F))) ⟨m, fun _ => 0, ρ⟩ fun r => ∀ c : Dev nD,
      r.2.mem ((c : Thread nD τ).loc main_v0_0) = sums m c
      ∧ r.2.mem ((c : Thread nD τ).loc main_v0_1) = corner m c
      ∧ r.2.mem ((c : Thread nD τ).loc main_arg0) = m ((c : Thread nD τ).loc main_arg0) :=
  (θ_run defs _ _).mono (fun _ h c => ⟨((h c).1 1).trans (final_1 m c), ((h c).1 2).trans (final_2 m c), ((h c).1 0).trans ((dats m 0 c).arrAt_in 0 rfl _)⟩)
    (run_main m ρ)

end Cert.KAIdeal.Acc
-- ==== Proof.AccKC.lean ====
/- The layer kernel's run, with what it leaves: after the first grid point the output block holds that point's channel
   sum, after every later one the sum so far plus that point's channel sum; the corner value is stored by the first
   point only. -/
module

public import proofs.«01_k».proof.Proof.StepKC
public import Idealize.ShloMosaic.Lib.Pipeline.Value
public import Idealize.ShloMosaic.Lib.Quiescent

@[expose] public section

set_option maxRecDepth 16384

noncomputable section

namespace Cert.KC.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KC Cert.KC.Gen Cert.KC.Step

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, by the point -/

theorem hfirst (t : Fin cfg0.N) : k0_cond1 (grid0.coords t) = 1#1 ↔ t.val = 0 :=
  (fun t => by
    have ht : t.val < 6 := Nat.lt_of_lt_of_eq t.isLt N_0
    have e0 : (grid0.coords t 0).val = t.val / 1 % 6 := Pipeline.Grid.coords_val t 0 (by decide) rfl
    simp only [k0_cond1, e0]
    word_cmp
   : ∀ t : Fin grid0.N, k0_cond1 (grid0.coords t) = 1#1 ↔ t.val = 0) t

theorem hlater (t : Fin cfg0.N) : k0_cond2 (grid0.coords t) = 1#1 ↔ 1 ≤ t.val :=
  (fun t => by
    have ht : t.val < 6 := Nat.lt_of_lt_of_eq t.isLt N_0
    have e0 : (grid0.coords t 0).val = t.val / 1 % 6 := Pipeline.Grid.coords_val t 0 (by decide) rfl
    simp only [k0_cond2, e0]
    word_cmp
   : ∀ t : Fin grid0.N, k0_cond2 (grid0.coords t) = 1#1 ↔ 1 ≤ t.val) t

theorem N_eq : cfg0.N = 6 := N_0

/-- The point's number is its coordinate. -/
theorem coord_val (t : Fin cfg0.N) : (grid0.coords t 0).val = t.val :=
  (fun t => by
    have ht : t.val < 6 := Nat.lt_of_lt_of_eq t.isLt N_0
    have e0 : (grid0.coords t 0).val = t.val / 1 % 6 := Pipeline.Grid.coords_val t 0 (by decide) rfl
    omega : ∀ t : Fin grid0.N, (grid0.coords t 0).val = t.val) t

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a point -/

set_option maxHeartbeats 1000000 in
/-- At the first point: the block's channel sum and the corner value are stored. -/
theorem run_first (c : Dev nD) (i : grid0.Coords) (arg1 : Memref sig .tc .vmem S32x128x128 .f32) (harg1 : arg1.IsWhole) (arg2 : Memref sig .tc .vmem S128x128 .f32) (harg2 : arg2.IsWhole) (arg3 : Memref sig .tc .vmem S1x1 .f32) (harg3 : arg3.IsWhole) (hc0 : k0_cond1 i = 1#1) (hc1 : ¬k0_cond2 i = 1#1)
    (x0 : Vec F S32x128x128 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (blk x0 (BitVec.ofNat 32 (i 0).val)) ∗ owns (c : Thread nD τ) arg3 fullShare (edge x0 (BitVec.ofNat 32 (i 0).val))) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%d1, %f1, -, H1⟩, ⟨%d2, %f2, -, H2⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S128x128.size (by rfl))]
      rw [View.canon_unit_zero hz2]
      simp only [View.readAt_eq_ld, harg1.read_unread, View.ld_unit_zero (S := S32x128x128) hz3]
    iexists _; isplitr; swap; · iexact H2
    ipureintro
    rw [View.read_writes_eq_canon _ _ _ (View.cover_of_tiled _ S1x1.size (by rfl))]
    rw [View.canon_unit_zero hz2]
    simp only [View.readAt_eq_ld, harg1.read_unread, View.ld_unit_zero (S := S32x128x128) hz3]

set_option maxHeartbeats 1000000 in
/-- At a later point: the block's channel sum is added to what is there; the corner value is not touched. -/
theorem run_later (c : Dev nD) (i : grid0.Coords) (arg1 : Memref sig .tc .vmem S32x128x128 .f32) (harg1 : arg1.IsWhole) (arg2 : Memref sig .tc .vmem S128x128 .f32) (harg2 : arg2.IsWhole) (arg3 : Memref sig .tc .vmem S1x1 .f32) (harg3 : arg3.IsWhole) (hc0 : ¬k0_cond1 i = 1#1) (hc1 : k0_cond2 i = 1#1)
    (x0 : Vec F S32x128x128 .f32) (y : Vec F S128x128 .f32) (z : Vec F S1x1 .f32) :
      ∀ (E : Set ℕ) (K : PUnit → sProp 𝕄),
        iprop(owns (c : Thread nD τ) arg1 fullShare x0 ∗ owns (c : Thread nD τ) arg2 fullShare y ∗ owns (c : Thread nD τ) arg3 fullShare z
            ∗ (iprop(owns (c : Thread nD τ) arg1 fullShare x0 ∗ owns (c : Thread nD τ) arg2 fullShare (k0_pay1 (blk x0 (BitVec.ofNat 32 (i 0).val)) y) ∗ owns (c : Thread nD τ) arg3 fullShare z) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%f1, %hf1, H1⟩, H2, Hk⟩
    obtain rfl := harg1.eq_unread hf0
    obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S128x128.size (by rfl))]
      rw [View.canon_unit_zero hz2]
      simp only [View.readAt_eq_ld, harg1.read_unread, harg2.read_unread, View.ld_unit_zero (S := S32x128x128) hz3, View.ld_unit_zero (S := S128x128) hz2]
    iexact H2

/-! ## What the output block holds after each point -/

/-- The channel sum of the block at a point. -/
def blkAt (c : Dev nD) (t : Fin cfg0.N) : Vec F S128x128 .f32 := blk (iblk m c 0 t) (BitVec.ofNat 32 (grid0.coords t 0).val)

/-- The sum of the channel sums up to a point, in the points' order. -/
def acc (c : Dev nD) : (n : ℕ) → n < cfg0.N → Vec F S128x128 .f32
  | 0, h => blkAt m c ⟨0, h⟩
  | n + 1, h => k0_pay1 (blkAt m c ⟨n + 1, h⟩) (acc c n (Nat.lt_of_succ_lt h))

/-- The corner value: the first point's. -/
def corner (c : Dev nD) : Vec F S1x1 .f32 := edge (iblk m c 0 t0_0) (BitVec.ofNat 32 (grid0.coords t0_0 0).val)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val t.isLt
    | ⟨2, _⟩ => corner m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = acc m c t.val t.isLt := by dsimp only [dats]
theorem after0_2 (c : Dev nD) (t : Fin cfg0.N) : (dats m 0 c).after 2 t = corner m c := by dsimp only [dats]

theorem before0_0 (c : Dev nD) (t : Fin cfg0.N) (d) : (dats m 0 c).before 0 t d = iblk m c 0 t :=
  before0_0_of m (dats m 0 c) (A_eq m c 0) (after0_0 m c) t d

/-! Where the outputs are not stored into. -/

theorem live1 (t : Fin cfg0.N) : cfg0.idle 1 (grid0.coords t) = false := by
  show (!(k0_cond1 (grid0.coords t) == 1#1) && !(k0_cond2 (grid0.coords t) == 1#1)) = false
  by_cases h : t.val = 0
  · rw [(hfirst t).mpr h]; rfl
  · rw [(hlater t).mpr (by omega)]; simp
theorem live2 (t : Fin cfg0.N) (h : t.val = 0) : cfg0.idle 2 (grid0.coords t) = false := by
  show (!(k0_cond1 (grid0.coords t) == 1#1)) = false
  rw [(hfirst t).mpr h]; rfl
theorem idle2 (t : Fin cfg0.N) (h : t.val ≠ 0) : cfg0.idle 2 (grid0.coords t) = true := by
  show (!(k0_cond1 (grid0.coords t) == 1#1)) = true
  have : ¬ k0_cond1 (grid0.coords t) = 1#1 := fun e => h ((hfirst t).mp e)
  simpa using this

theorem noflush1 (t : Fin cfg0.N) (h : t.val + 1 < 6) : (cfg0.win 1).flush t = false := by
  by_contra hc
  have := (flush0_1 t).mp (by simpa using hc)
  omega
theorem noflush2 (t : Fin cfg0.N) (h : t.val + 1 < 6) : (cfg0.win 2).flush t = false := by
  by_contra hc
  have := (flush0_2 t).mp (by simpa using hc)
  omega

theorem kept_eq {c' : Dev nD} (dat : Dat τ (Elt F) Unit ℕ (UR sig nD τ) ℕ cfg0 c') (w : Fin cfg0.W)
    (hclip : ∀ (i : cfg0.grid.Coords) a, (cfg0.win w).clip i a = none) (t : Fin cfg0.N) (d) : dat.kept w t d = dat.after w t := by
  unfold Dat.kept
  rw [Pipeline.fill_of_clip_none w _ (hclip _) d (dat.after w _), Window.fill_cut]

/-- At a later point the output block holds the sum so far, -/
theorem before0_1 (c : Dev nD) (n : ℕ) (h : n + 1 < cfg0.N) (d) : (dats m 0 c).before 1 ⟨n + 1, h⟩ d = acc m c n (Nat.lt_of_succ_lt h) := by
  have hN := N_eq
  rw [(dats m 0 c).before_of_pos 1 ⟨n + 1, h⟩ (Nat.succ_ne_zero n) ((cfg0.win 1).fetch_out rfl _), if_neg (by
    rw [noflush1]; · exact Bool.false_ne_true
    · dsimp only; omega)]
  unfold Dat.left
  rw [live1]
  exact (kept_eq (dats m 0 c) 1 (fun _ _ => rfl) _ d).trans (after0_1 m c _)

/-- and the corner's block the first point's value. -/
theorem before0_2 (c : Dev nD) (d) : ∀ (n : ℕ) (h : n + 1 < cfg0.N), (dats m 0 c).before 2 ⟨n + 1, h⟩ d = corner m c
  | n, h => by
    have hN := N_eq
    rw [(dats m 0 c).before_of_pos 2 ⟨n + 1, h⟩ (Nat.succ_ne_zero n) ((cfg0.win 2).fetch_out rfl _), if_neg (by
      rw [noflush2]; · exact Bool.false_ne_true
      · dsimp only; omega)]
    unfold Dat.left
    cases n with
    | zero =>
      rw [live2 _ rfl]
      exact (kept_eq (dats m 0 c) 2 (fun _ _ => rfl) _ d).trans (after0_2 m c _)
    | succ k =>
      rw [idle2 _ (Nat.succ_ne_zero k)]
      exact before0_2 c d k _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (st0_0 t) fullShare (iblk m c 0 t) := by
  rw [← after0_0]
theorem leaves1 (c : Dev nD) (t : Fin cfg0.N) : (dats m 0 c).leavesExact 1 t = owns (c : Thread nD τ) (st0_1 t) fullShare (acc m c t.val t.isLt) := by
  rw [← after0_1]; unfold Dat.leavesExact; rw [show cfg0.idle 1 (cfg0.grid.coords t) = false from live1 t]
theorem leaves2 (c : Dev nD) (t : Fin cfg0.N) : owns (c : Thread nD τ) (st0_2 t) fullShare (corner m c) ⊢ (dats m 0 c).leavesExact 2 t := by
  by_cases h : t.val = 0
  · rw [← after0_2 m c t]; unfold Dat.leavesExact; rw [show cfg0.idle 2 (cfg0.grid.coords t) = false from live2 t h]
  · cases hf : (cfg0.win 2).flush t with
    | true => rw [← after0_2 m c t]; unfold Dat.leavesExact; rw [show cfg0.idle 2 (cfg0.grid.coords t) = true from idle2 t h, hf]
    | false =>
      rw [(dats m 0 c).leavesExact_idle 2 t (idle2 t h) hf]
      obtain ⟨_ | k, ht⟩ := t
      · exact absurd rfl h
      iintro H
      iexists (corner m c)
      rw [before0_2]
      iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, leaves0, leaves1]
  have hN : t.val < 6 := lt_of_lt_of_eq t.isLt N_eq
  by_cases h0 : t.val = 0
  · obtain ⟨_ | k, ht⟩ := t
    swap; · exact absurd h0 (Nat.succ_ne_zero k)
    iintro ⟨HΦ, Ho, ⟨%d0, H0⟩, ⟨%d1, H1⟩, ⟨%d2, H2⟩⟩
    iapply ((run_first c (grid0.coords _) _ _ _ _ _ _ ((hfirst _).mpr rfl) (fun h => absurd ((hlater _).mp h) (Nat.not_succ_le_zero 0)) (iblk m c 0 _)) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iapply (leaves2 m c ⟨0, ht⟩)
    iexact H2
  · obtain ⟨_ | k, ht⟩ := t
    · exact absurd rfl h0
    simp only [before0_1, before0_2]
    iintro ⟨HΦ, Ho, ⟨%d0, H0⟩, ⟨%d1, H1⟩, ⟨%d2, H2⟩⟩
    iapply ((run_later c (grid0.coords _) _ _ _ _ _ _ (fun h => h0 ((hfirst _).mp h)) ((hlater _).mpr (by dsimp only; omega)) (iblk m c 0 _) (acc m c k _) (corner m c)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iapply (leaves2 m c ⟨k + 1, ht⟩)
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends, with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KC.Acc
-- ==== Proof.StepKCIdeal.lean ====
/- What one grid point of the layer kernel computes, value by value: each printed value of the body as a function of the
   block read (`x`) and of the point's number (`a`), so that the body is one load, two stores at the first point and
   one accumulating store at every later one. -/
module

public import proofs.«01_k».proof.Proof.Gen.KCIdeal.Frame
public import proofs.«01_k».proof.Proof.Gen.KCIdeal.Skeleton
public import Idealize.ShloMosaic.Lib.Claim

@[expose] public section

set_option maxRecDepth 16384

noncomputable section

namespace Cert.KCIdeal.Step

open Idealize.ShloMosaic Idealize.ShloMosaic.TcCoe Idealize.ShloMosaic.Tactic
open Idealize.SL Idealize.SL.RA Idealize.SL.BI Idealize.SL.Sem
open Cert.KCIdeal Cert.KCIdeal.Gen

variable {F : FTy → Type} [FloatOps F] [Named F]

def s_v18 (x : Vec F S32x128x128 .f32) (a : BitVec 32) : Vec F S32x128x128 .f32 := k0_pay2 x
def s_v19 (x : Vec F S32x128x128 .f32) (a : BitVec 32) : FVec F S32 .f32 := k0_pay3 x
def s_v21 (x : Vec F S32x128x128 .f32) (a : BitVec 32) : FVec F S32 .f32 := k0_pay4 x
def s_v24 (x : Vec F S32x128x128 .f32) (a : BitVec 32) : FVec F S32 .f32 := k0_pay5 x
def s_v27 (x : Vec F S32x128x128 .f32) (a : BitVec 32) : FVec F S32 .f32 := k0_pay6 x
def s_v30 (x : Vec F S32x128x128 .f32) (a : BitVec 32) : FVec F S32 .f32 := k0_pay7 x
def s_v33 (x : Vec F S32x128x128 .f32) (a : BitVec 32) : FVec F S32 .f32 := k0_pay8 x
def s_v36 (x : Vec F S32x128x128 .f32) (a : BitVec 32) : FVec F S32 .f32 := k0_pay9 x
def s_v39 (x : Vec F S32x128x128 .f32) (a : BitVec 32) : FVec F S32 .f32 := k0_pay10 x
def s_v41 (x : Vec F S32x128x128 .f32) (a : BitVec 32) : FVec F S32 .f32 := k0_pay11 x
def s_v42 (x : Vec F S32x128x128 .f32) (a : BitVec 32) : FVec F S32 .f32 := k0_pay12 (s_v19 x a) (s_v41 x a)
def s_v45 (x : Vec F S32x128x128 .f32) (a : BitVec 32) : FVec F S32 .f32 := k0_pay13 (s_v19 x a) (s_v21 x a)
def s_v48 (x : Vec F S32x128x128 .f32) (a : BitVec 32) : FVec F S32 .f32 := k0_pay14 (s_v19 x a) (s_v21 x a)
def s_v51 (x : Vec F S32x128x128 .f32) (a : BitVec 32) : FVec F S32 .f32 := k0_pay15 (s_v19 x a) (s_v21 x a)
def s_v58 (x : Vec F S32x128x128 .f32) (a : BitVec 32) : FVec F S32 .f32 := k0_pay16 (s_v18 x a) (s_v24 x a)
def s_v65 (x : Vec F S32x128x128 .f32) (a : BitVec 32) : FVec F S32 .f32 := k0_pay17 (s_v18 x a) (s_v27 x a)
def s_v72 (x : Vec F S32x128x128 .f32) (a : BitVec 32) : FVec F S32 .f32 := k0_pay18 (s_v18 x a) (s_v30 x a)
def s_v79 (x : Vec F S32x128x128 .f32) (a : BitVec 32) : FVec F S32 .f32 := k0_pay19 (s_v18 x a) (s_v33 x a)
def s_v82 (x : Vec F S32x128x128 .f32) (a : BitVec 32) : IVec S32x128x128 1 := k0_pay20 (s_v18 x a) (s_v36 x a)
def s_v83 (x : Vec F S32x128x128 .f32) (a : BitVec 32) : FVec F S32x128x128 .f32 := k0_pay21 (F := F)
def s_v84 (x : Vec F S32x128x128 .f32) (a : BitVec 32) : FVec F S32x128x128 .f32 := k0_pay22 (F := F)
def s_v86 (x : Vec F S32x128x128 .f32) (a : BitVec 32) : FVec F S32 .f32 := k0_pay23 (s_v82 x a) (s_v83 x a) (s_v84 x a)
def s_v93 (x : Vec F S32x128x128 .f32) (a : BitVec 32) : FVec F S32 .f32 := k0_pay24 (s_v18 x a) (s_v39 x a)
def s_v100 (x : Vec F S32x128x128 .f32) (a : BitVec 32) : FVec F S32 .f32 := k0_pay25 (s_v18 x a) (s_v42 x a)
def s_v107 (x : Vec F S32x128x128 .f32) (a : BitVec 32) : FVec F S32 .f32 := k0_pay26 (s_v18 x a) (s_v45 x a)
def s_v114 (x : Vec F S32x128x128 .f32) (a : BitVec 32) : FVec F S32 .f32 := k0_pay27 (s_v18 x a) (s_v48 x a)
def s_v121 (x : Vec F S32x128x128 .f32) (a : BitVec 32) : FVec F S32 .f32 := k0_pay28 (s_v18 x a) (s_v51 x a)
def s_v123 (x : Vec F S32x128x128 .f32) (a : BitVec 32) : FVec F S32 .f32 := k0_pay29 (s_v58 x a)
def s_v124 (x : Vec F S32x128x128 .f32) (a : BitVec 32) : FVec F S32 .f32 := k0_pay30 (s_v58 x a) (s_v65 x a)
def s_v125 (x : Vec F S32x128x128 .f32) (a : BitVec 32) : FVec F S32 .f32 := k0_pay31 (s_v65 x a) (s_v72 x a)
def s_v126 (x : Vec F S32x128x128 .f32) (a : BitVec 32) : FVec F S32 .f32 := k0_pay32 (s_v72 x a) (s_v79 x a)
def s_v127 (x : Vec F S32x128x128 .f32) (a : BitVec 32) : FVec F S32 .f32 := k0_pay33 (s_v79 x a) (s_v82 x a) (s_v83 x a) (s_v84 x a)
def s_v129 (x : Vec F S32x128x128 .f32) (a : BitVec 32) : FVec F S32 .f32 := k0_pay34 (s_v93 x a)
def s_v130 (x : Vec F S32x128x128 .f32) (a : BitVec 32) : FVec F S32 .f32 := k0_pay35 (s_v93 x a) (s_v100 x a)
def s_v131 (x : Vec F S32x128x128 .f32) (a : BitVec 32) : FVec F S32 .f32 := k0_pay36 (s_v100 x a) (s_v107 x a)
def s_v132 (x : Vec F S32x128x128 .f32) (a : BitVec 32) : FVec F S32 .f32 := k0_pay37 (s_v107 x a) (s_v114 x a)
def s_v133 (x : Vec F S32x128x128 .f32) (a : BitVec 32) : FVec F S32 .f32 := k0_pay38 (s_v114 x a) (s_v121 x a)
def s_v140 (x : Vec F S32x128x128 .f32) (a : BitVec 32) : FVec F S32 .f32 := k0_pay39 (s_v123 x a)
def s_v147 (x : Vec F S32x128x128 .f32) (a : BitVec 32) : FVec F S32 .f32 := k0_pay40 (s_v124 x a)
def s_v154 (x : Vec F S32x128x128 .f32) (a : BitVec 32) : FVec F S32 .f32 := k0_pay41 (s_v125 x a)
def s_v161 (x : Vec F S32x128x128 .f32) (a : BitVec 32) : FVec F S32 .f32 := k0_pay42 (s_v126 x a)
def s_v168 (x : Vec F S32x128x128 .f32) (a : BitVec 32) : FVec F S32 .f32 := k0_pay43 (s_v127 x a)
def s_v170 (x : Vec F S32x128x128 .f32) (a : BitVec 32) : FVec F S32 .f32 := k0_pay44 (s_v86 x a)
def s_v175 (x : Vec F S32x128x128 .f32) (a : BitVec 32) : FVec F S32 .f32 := k0_pay45 (s_v170 x a)
def s_v177 (x : Vec F S32x128x128 .f32) (a : BitVec 32) : IVec S32 1 := k0_pay46 (s_v129 x a)
def s_v179 (x : Vec F S32x128x128 .f32) (a : BitVec 32) : IVec S32 1 := k0_pay47 (s_v130 x a)
def s_v181 (x : Vec F S32x128x128 .f32) (a : BitVec 32) : IVec S32 1 := k0_pay48 (s_v131 x a)
def s_v183 (x : Vec F S32x128x128 .f32) (a : BitVec 32) : IVec S32 1 := k0_pay49 (s_v132 x a)
def s_v185 (x : Vec F S32x128x128 .f32) (a : BitVec 32) : IVec S32 1 := k0_pay50 (s_v133 x a)
def s_v187 (x : Vec F S32x128x128 .f32) (a : BitVec 32) : IVec S32 1 := k0_pay51 (s_v121 x a)
def s_v204 (x : Vec F S32x128x128 .f32) (a : BitVec 32) : FVec F S32 .f32 := k0_pay52 (s_v121 x a) (s_v129 x a) (s_v130 x a) (s_v131 x a) (s_v132 x a) (s_v133 x a) (s_v140 x a) (s_v147 x a) (s_v154 x a) (s_v161 x a) (s_v168 x a) (s_v170 x a)
def s_v206 (x : Vec F S32x128x128 .f32) (a : BitVec 32) : FVec F S32 .f32 := k0_pay53 (s_v129 x a) (s_v140 x a)
def s_v208 (x : Vec F S32x128x128 .f32) (a : BitVec 32) : FVec F S32 .f32 := k0_pay54 (s_v130 x a) (s_v147 x a)
def s_v210 (x : Vec F S32x128x128 .f32) (a : BitVec 32) : FVec F S32 .f32 := k0_pay55 (s_v131 x a) (s_v154 x a)
def s_v212 (x : Vec F S32x128x128 .f32) (a : BitVec 32) : FVec F S32 .f32 := k0_pay56 (s_v132 x a) (s_v161 x a)
def s_v221 (x : Vec F S32x128x128 .f32) (a : BitVec 32) : FVec F S32 .f32 := k0_pay57 (s_v168 x a) (s_v175 x a) (s_v185 x a) (s_v187 x a) (s_v206 x a) (s_v208 x a) (s_v210 x a) (s_v212 x a)
def s_v236 (x : Vec F S32x128x128 .f32) (a : BitVec 32) : FVec F S32 .f32 := k0_pay58 (s_v140 x a) (s_v168 x a) (s_v175 x a) (s_v185 x a) (s_v187 x a) (s_v204 x a) (s_v206 x a) (s_v208 x a) (s_v210 x a) (s_v212 x a)
def s_v251 (x : Vec F S32x128x128 .f32) (a : BitVec 32) : FVec F S32 .f32 := k0_pay59 (s_v147 x a) (s_v168 x a) (s_v175 x a) (s_v185 x a) (s_v187 x a) (s_v204 x a) (s_v206 x a) (s_v208 x a) (s_v210 x a) (s_v212 x a)
def s_v252 (x : Vec F S32x128x128 .f32) (a : BitVec 32) : FVec F S32 .f32 := k0_pay60 (s_v168 x a) (s_v175 x a) (s_v185 x a) (s_v187 x a) (s_v204 x a) (s_v206 x a) (s_v208 x a) (s_v210 x a) (s_v212 x a)
def s_v253 (x : Vec F S32x128x128 .f32) (a : BitVec 32) : FVec F S32 .f32 := k0_pay61 (s_v154 x a) (s_v204 x a)
def s_v255 (x : Vec F S32x128x128 .f32) (a : BitVec 32) : IVec S32 1 := k0_pay62 (s_v168 x a) (s_v175 x a) (s_v185 x a) (s_v187 x a) (s_v204 x a) (s_v206 x a) (s_v208 x a) (s_v210 x a) (s_v212 x a)
def s_v256 (x : Vec F S32x128x128 .f32) (a : BitVec 32) : FVec F S32 .f32 := k0_pay63 (F := F)
def s_v266 (x : Vec F S32x128x128 .f32) (a : BitVec 32) : FVec F S32 .f32 := k0_pay64 (s_v252 x a) (s_v253 x a) (s_v255 x a) (s_v256 x a)
def s_v281 (x : Vec F S32x128x128 .f32) (a : BitVec 32) : FVec F S32 .f32 := k0_pay65 (s_v161 x a) (s_v204 x a) (s_v221 x a)
def s_v296 (x : Vec F S32x128x128 .f32) (a : BitVec 32) : FVec F S32 .f32 := k0_pay66 (s_v168 x a) (s_v204 x a) (s_v221 x a)
def s_v297 (x : Vec F S32x128x128 .f32) (a : BitVec 32) : FVec F S32 .f32 := k0_pay67 (s_v204 x a) (s_v221 x a)
def s_v298 (x : Vec F S32x128x128 .f32) (a : BitVec 32) : FVec F S32 .f32 := k0_pay68 (s_v175 x a) (s_v204 x a)
def s_v299 (x : Vec F S32x128x128 .f32) (a : BitVec 32) : FVec F S32 .f32 := k0_pay69 (F := F)
def s_v311 (x : Vec F S32x128x128 .f32) (a : BitVec 32) : FVec F S32 .f32 := k0_pay70 (s_v297 x a) (s_v298 x a) (s_v299 x a)
def s_v326 (x : Vec F S32x128x128 .f32) (a : BitVec 32) : FVec F S32 .f32 := k0_pay71 (s_v121 x a) (s_v129 x a) (s_v130 x a) (s_v131 x a) (s_v132 x a) (s_v133 x a) (s_v236 x a) (s_v251 x a) (s_v266 x a) (s_v281 x a) (s_v296 x a) (s_v297 x a) (s_v298 x a) (s_v299 x a)
def s_v343 (x : Vec F S32x128x128 .f32) (a : BitVec 32) : FVec F S32 .f32 := k0_pay72 (s_v177 x a) (s_v179 x a) (s_v181 x a) (s_v183 x a) (s_v185 x a) (s_v187 x a) (s_v236 x a) (s_v251 x a) (s_v266 x a) (s_v281 x a) (s_v296 x a) (s_v297 x a) (s_v298 x a) (s_v299 x a)
def s_v345 (x : Vec F S32x128x128 .f32) (a : BitVec 32) : FVec F S32 .f32 := k0_pay73 (s_v177 x a) (s_v236 x a)
def s_v360 (x : Vec F S32x128x128 .f32) (a : BitVec 32) : FVec F S32 .f32 := k0_pay74 (s_v179 x a) (s_v181 x a) (s_v183 x a) (s_v185 x a) (s_v187 x a) (s_v251 x a) (s_v266 x a) (s_v281 x a) (s_v296 x a) (s_v311 x a) (s_v345 x a)
def s_v362 (x : Vec F S32x128x128 .f32) (a : BitVec 32) : FVec F S32 .f32 := k0_pay75 (s_v179 x a) (s_v181 x a) (s_v183 x a) (s_v185 x a) (s_v187 x a) (s_v251 x a) (s_v266 x a) (s_v281 x a) (s_v296 x a) (s_v311 x a) (s_v326 x a) (s_v345 x a)
def s_v378 (x : Vec F S32x128x128 .f32) (a : BitVec 32) : FVec F S32 .f32 := k0_pay76 (s_v179 x a) (s_v181 x a) (s_v183 x a) (s_v185 x a) (s_v187 x a) (s_v236 x a) (s_v251 x a) (s_v266 x a) (s_v281 x a) (s_v296 x a) (s_v311 x a) (s_v326 x a) (s_v343 x a) (s_v345 x a)
def s_v379 (x : Vec F S32x128x128 .f32) (a : BitVec 32) : FVec F S32 .f32 := k0_pay77 (s_v179 x a) (s_v181 x a) (s_v183 x a) (s_v185 x a) (s_v187 x a) (s_v251 x a) (s_v266 x a) (s_v281 x a) (s_v296 x a) (s_v311 x a) (s_v343 x a) (s_v345 x a)
def s_v389 (x : Vec F S32x128x128 .f32) (a : BitVec 32) : FVec F S32 .f32 := k0_pay78 (s_v179 x a) (s_v181 x a) (s_v183 x a) (s_v185 x a) (s_v187 x a) (s_v251 x a) (s_v266 x a) (s_v281 x a) (s_v296 x a) (s_v311 x a) (s_v343 x a) (s_v345 x a)
def s_cst_144 (x : Vec F S32x128x128 .f32) (a : BitVec 32) : F .f32 := (Scalar.ofBits .f32 0x00000000#32)
def s_v394 (x : Vec F S32x128x128 .f32) (a : BitVec 32) : FVec F S32 .f32 := k0_pay79 (s_v362 x a) (s_v379 x a) (s_v389 x a) (s_cst_144 x a)
def s_v410 (x : Vec F S32x128x128 .f32) (a : BitVec 32) : FVec F S32 .f32 := k0_pay80 (s_v266 x a) (s_v343 x a) (s_v360 x a) (s_v362 x a)
def s_v426 (x : Vec F S32x128x128 .f32) (a : BitVec 32) : FVec F S32 .f32 := k0_pay81 (s_v281 x a) (s_v343 x a) (s_v360 x a) (s_v362 x a)
def s_v427 (x : Vec F S32x128x128 .f32) (a : BitVec 32) : FVec F S32 .f32 := k0_pay82 (s_v343 x a) (s_v360 x a)
def s_v433 (x : Vec F S32x128x128 .f32) (a : BitVec 32) : FVec F S32 .f32 := k0_pay83 (s_v296 x a) (s_v343 x a) (s_v360 x a)
def s_cst_160 (x : Vec F S32x128x128 .f32) (a : BitVec 32) : F .f32 := (Scalar.ofBits .f32 0x3F800000#32)
def s_v442 (x : Vec F S32x128x128 .f32) (a : BitVec 32) : FVec F S32 .f32 := k0_pay84 (s_v362 x a) (s_v427 x a) (s_v433 x a) (s_cst_160 x a)
def s_v458 (x : Vec F S32x128x128 .f32) (a : BitVec 32) : FVec F S32 .f32 := k0_pay85 (s_v311 x a) (s_v343 x a) (s_v360 x a) (s_v362 x a)
def s_v468 (x : Vec F S32x128x128 .f32) (a : BitVec 32) : FVec F S32 .f32 := k0_pay86 (F := F) a
def s_v473 (x : Vec F S32x128x128 .f32) (a : BitVec 32) : FVec F S32 .f32 := k0_pay87 (s_v39 x a)
def s_v475 (x : Vec F S32x128x128 .f32) (a : BitVec 32) : IVec S32 1 := k0_pay88 (s_v42 x a)
def s_cst_178 (x : Vec F S32x128x128 .f32) (a : BitVec 32) : F .f32 := (Scalar.ofBits .f32 0x3F800000#32)
def s_v501 (x : Vec F S32x128x128 .f32) (a : BitVec 32) : FVec F S32 .f32 := k0_pay93 (s_v129 x a) (s_v468 x a) (s_v473 x a)
def s_v503 (x : Vec F S32x128x128 .f32) (a : BitVec 32) : FVec F S32 .f32 := k0_pay94 (s_v130 x a) (s_v468 x a) (s_v473 x a) (s_v475 x a) (s_cst_178 x a)
def s_v505 (x : Vec F S32x128x128 .f32) (a : BitVec 32) : FVec F S32 .f32 := k0_pay95 (s_v45 x a) (s_v131 x a) (s_v468 x a) (s_v475 x a) (s_cst_178 x a)
def s_v507 (x : Vec F S32x128x128 .f32) (a : BitVec 32) : FVec F S32 .f32 := k0_pay96 (s_v45 x a) (s_v48 x a) (s_v132 x a) (s_v468 x a)
def s_v509 (x : Vec F S32x128x128 .f32) (a : BitVec 32) : FVec F S32 .f32 := k0_pay97 (s_v48 x a) (s_v51 x a) (s_v133 x a) (s_v468 x a)
def s_v511 (x : Vec F S32x128x128 .f32) (a : BitVec 32) : FVec F S32 .f32 := k0_pay98 (s_v51 x a) (s_v121 x a) (s_v468 x a)
def s_v513 (x : Vec F S32x128x128 .f32) (a : BitVec 32) : IVec S32 1 := k0_pay99 (s_v129 x a) (s_v468 x a) (s_v473 x a)
def s_v515 (x : Vec F S32x128x128 .f32) (a : BitVec 32) : IVec S32 1 := k0_pay100 (s_v130 x a) (s_v468 x a) (s_v473 x a) (s_v475 x a) (s_cst_178 x a)
def s_v517 (x : Vec F S32x128x128 .f32) (a : BitVec 32) : IVec S32 1 := k0_pay101 (s_v45 x a) (s_v131 x a) (s_v468 x a) (s_v475 x a) (s_cst_178 x a)
def s_v519 (x : Vec F S32x128x128 .f32) (a : BitVec 32) : IVec S32 1 := k0_pay102 (s_v45 x a) (s_v48 x a) (s_v132 x a) (s_v468 x a)
def s_cst_194 (x : Vec F S32x128x128 .f32) (a : BitVec 32) : F .f32 := (Scalar.ofBits .f32 0x00000000#32)
def s_v557 (x : Vec F S32x128x128 .f32) (a : BitVec 32) : FVec F S32 .f32 := k0_pay105 (s_v378 x a) (s_v394 x a) (s_v410 x a) (s_v426 x a) (s_v442 x a) (s_v458 x a) (s_v509 x a) (s_v511 x a) (s_v513 x a) (s_v515 x a) (s_v517 x a) (s_v519 x a) (s_cst_194 x a)
def s_v562 (x : Vec F S32x128x128 .f32) (a : BitVec 32) : FVec F S32 .f32 := k0_pay106 (s_v378 x a) (s_v394 x a) (s_v410 x a) (s_v426 x a) (s_v442 x a) (s_v458 x a) (s_v468 x a) (s_v509 x a) (s_v511 x a) (s_v513 x a) (s_v515 x a) (s_v517 x a) (s_v519 x a) (s_cst_194 x a)
def s_v563 (x : Vec F S32x128x128 .f32) (a : BitVec 32) : FVec F S32 .f32 := k0_pay107 (F := F)
def s_v567 (x : Vec F S32x128x128 .f32) (a : BitVec 32) : FVec F S32 .f32 := k0_pay108 (s_v468 x a) (s_v557 x a) (s_v563 x a)
def s_v584 (x : Vec F S32x128x128 .f32) (a : BitVec 32) : FVec F S32 .f32 := k0_pay109 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v563 x a)
def s_v600 (x : Vec F S32x128x128 .f32) (a : BitVec 32) : FVec F S32 .f32 := k0_pay110 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a) (s_v563 x a)
def s_v601 (x : Vec F S32x128x128 .f32) (a : BitVec 32) : FVec F S32 .f32 := k0_pay111 (s_v468 x a) (s_v557 x a) (s_v562 x a) (s_v563 x a)
def s_v609 (x : Vec F S32x128x128 .f32) (a : BitVec 32) : FVec F S32 .f32 := k0_pay112 (s_v394 x a) (s_v468 x a) (s_v557 x a) (s_v562 x a) (s_v563 x a)
def s_v610 (x : Vec F S32x128x128 .f32) (a : BitVec 32) : FVec F S32 .f32 := k0_pay113 (F := F)
def s_v616 (x : Vec F S32x128x128 .f32) (a : BitVec 32) : FVec F S32 .f32 := k0_pay114 (s_v584 x a) (s_v601 x a) (s_v609 x a) (s_v610 x a)
def s_v632 (x : Vec F S32x128x128 .f32) (a : BitVec 32) : FVec F S32 .f32 := k0_pay115 (s_v410 x a) (s_v562 x a) (s_v567 x a) (s_v584 x a)
def s_v648 (x : Vec F S32x128x128 .f32) (a : BitVec 32) : FVec F S32 .f32 := k0_pay116 (s_v426 x a) (s_v562 x a) (s_v567 x a) (s_v584 x a)
def s_v649 (x : Vec F S32x128x128 .f32) (a : BitVec 32) : FVec F S32 .f32 := k0_pay117 (s_v562 x a) (s_v567 x a)
def s_v650 (x : Vec F S32x128x128 .f32) (a : BitVec 32) : FVec F S32 .f32 := k0_pay118 (s_v442 x a) (s_v562 x a)
def s_v654 (x : Vec F S32x128x128 .f32) (a : BitVec 32) : FVec F S32 .f32 := k0_pay119 (s_v562 x a) (s_v567 x a)
def s_v664 (x : Vec F S32x128x128 .f32) (a : BitVec 32) : FVec F S32 .f32 := k0_pay120 (s_v584 x a) (s_v649 x a) (s_v650 x a) (s_v654 x a)
def s_v680 (x : Vec F S32x128x128 .f32) (a : BitVec 32) : FVec F S32 .f32 := k0_pay121 (s_v458 x a) (s_v562 x a) (s_v567 x a) (s_v584 x a)
def s_v704 (x : Vec F S32x128x128 .f32) (a : BitVec 32) : FVec F S32x128x128 .f32 := k0_pay122 (s_v18 x a) (s_v39 x a) (s_v42 x a) (s_v45 x a) (s_v600 x a) (s_v616 x a) (s_v632 x a) (s_v648 x a)
/-- What the block adds to the summed map, -/
def blk (x : Vec F S32x128x128 .f32) (a : BitVec 32) : FVec F S128x128 .f32 := k0_pay123 (s_v18 x a) (s_v48 x a) (s_v51 x a) (s_v664 x a) (s_v680 x a) (s_v704 x a)
/-- and the corner value of its first channel. -/
def edge (x : Vec F S32x128x128 .f32) (a : BitVec 32) : Vec F S1x1 .f32 := k0_pay124 (s_v39 x a) (s_v42 x a) (s_v45 x a) (s_v48 x a) (s_v51 x a) (s_v600 x a) (s_v616 x a) (s_v632 x a) (s_v648 x a) (s_v664 x a) (s_v680 x a)

variable (i : grid0.Coords) (arg1 : Memref sig .tc .vmem S32x128x128 .f32) (harg1 : arg1.IsWhole) (arg2 : Memref sig .tc .vmem S128x128 .f32) (harg2 : arg2.IsWhole) (arg3 : Memref sig .tc .vmem S1x1 .f32) (harg3 : arg3.IsWhole)

theorem part1_at :
    k0_part1 (F := F) i arg1 harg1 arg2 harg2 arg3 harg3 = Prog.lift (.load arg1 (Rect.unit (s := S32x128x128) ![0, 0, 0] S32x128x128.size inb_S32x128x128_S32x128x128_0_0_0).toLoadRect (View.loadsAt_vmem h_S32x128x128)) >>= fun x => pure ⟨BitVec.ofNat 32 (i 0).val, s_v18 x (BitVec.ofNat 32 (i 0).val), s_v19 x (BitVec.ofNat 32 (i 0).val), s_v21 x (BitVec.ofNat 32 (i 0).val), s_v24 x (BitVec.ofNat 32 (i 0).val), s_v27 x (BitVec.ofNat 32 (i 0).val), s_v30 x (BitVec.ofNat 32 (i 0).val), s_v33 x (BitVec.ofNat 32 (i 0).val), s_v36 x (BitVec.ofNat 32 (i 0).val), s_v39 x (BitVec.ofNat 32 (i 0).val), s_v41 x (BitVec.ofNat 32 (i 0).val)⟩ := by
  rw [k0_part1_eq_skeleton]; rfl

theorem part2_at (x : Vec F S32x128x128 .f32) (a : BitVec 32) :
    k0_part2 (F := F) i arg1 harg1 arg2 harg2 arg3 harg3 (s_v18 x a) (s_v19 x a) (s_v21 x a) (s_v24 x a) (s_v27 x a) (s_v30 x a) (s_v33 x a) (s_v36 x a) (s_v41 x a) = pure ⟨s_v42 x a, s_v45 x a, s_v48 x a, s_v51 x a, s_v58 x a, s_v65 x a, s_v72 x a, s_v79 x a, s_v82 x a, s_v83 x a, s_v84 x a⟩ := by
  rw [k0_part2_eq_skeleton]; rfl

theorem part3_at (x : Vec F S32x128x128 .f32) (a : BitVec 32) :
    k0_part3 (F := F) i arg1 harg1 arg2 harg2 arg3 harg3 (s_v18 x a) (s_v39 x a) (s_v42 x a) (s_v45 x a) (s_v48 x a) (s_v51 x a) (s_v58 x a) (s_v65 x a) (s_v72 x a) (s_v79 x a) (s_v82 x a) (s_v83 x a) (s_v84 x a) = pure ⟨s_v86 x a, s_v93 x a, s_v100 x a, s_v107 x a, s_v114 x a, s_v121 x a, s_v123 x a, s_v124 x a, s_v125 x a, s_v126 x a, s_v127 x a⟩ := by
  rw [k0_part3_eq_skeleton]; rfl

theorem part4_at (x : Vec F S32x128x128 .f32) (a : BitVec 32) :
    k0_part4 (F := F) i arg1 harg1 arg2 harg2 arg3 harg3 (s_v86 x a) (s_v93 x a) (s_v100 x a) (s_v107 x a) (s_v114 x a) (s_v121 x a) (s_v123 x a) (s_v124 x a) (s_v125 x a) (s_v126 x a) (s_v127 x a) = pure ⟨s_v129 x a, s_v130 x a, s_v131 x a, s_v132 x a, s_v133 x a, s_v140 x a, s_v147 x a, s_v154 x a, s_v161 x a, s_v168 x a, s_v170 x a⟩ := by
  rw [k0_part4_eq_skeleton]; rfl

theorem part5_at (x : Vec F S32x128x128 .f32) (a : BitVec 32) :
    k0_part5 (F := F) i arg1 harg1 arg2 harg2 arg3 harg3 (s_v121 x a) (s_v129 x a) (s_v130 x a) (s_v131 x a) (s_v132 x a) (s_v133 x a) (s_v140 x a) (s_v147 x a) (s_v154 x a) (s_v161 x a) (s_v168 x a) (s_v170 x a) = pure ⟨s_v175 x a, s_v177 x a, s_v179 x a, s_v181 x a, s_v183 x a, s_v185 x a, s_v187 x a, s_v204 x a, s_v206 x a, s_v208 x a, s_v210 x a, s_v212 x a⟩ := by
  rw [k0_part5_eq_skeleton]; rfl

theorem part6_at (x : Vec F S32x128x128 .f32) (a : BitVec 32) :
    k0_part6 (F := F) i arg1 harg1 arg2 harg2 arg3 harg3 (s_v140 x a) (s_v147 x a) (s_v154 x a) (s_v168 x a) (s_v175 x a) (s_v185 x a) (s_v187 x a) (s_v204 x a) (s_v206 x a) (s_v208 x a) (s_v210 x a) (s_v212 x a) = pure ⟨s_v221 x a, s_v236 x a, s_v251 x a, s_v252 x a, s_v253 x a, s_v255 x a, s_v256 x a⟩ := by
  rw [k0_part6_eq_skeleton]; rfl

theorem part7_at (x : Vec F S32x128x128 .f32) (a : BitVec 32) :
    k0_part7 (F := F) i arg1 harg1 arg2 harg2 arg3 harg3 (s_v161 x a) (s_v168 x a) (s_v175 x a) (s_v204 x a) (s_v221 x a) (s_v252 x a) (s_v253 x a) (s_v255 x a) (s_v256 x a) = pure ⟨s_v266 x a, s_v281 x a, s_v296 x a, s_v297 x a, s_v298 x a, s_v299 x a⟩ := by
  rw [k0_part7_eq_skeleton]; rfl

theorem part8_at (x : Vec F S32x128x128 .f32) (a : BitVec 32) :
    k0_part8 (F := F) i arg1 harg1 arg2 harg2 arg3 harg3 (s_v121 x a) (s_v129 x a) (s_v130 x a) (s_v131 x a) (s_v132 x a) (s_v133 x a) (s_v177 x a) (s_v179 x a) (s_v181 x a) (s_v183 x a) (s_v185 x a) (s_v187 x a) (s_v236 x a) (s_v251 x a) (s_v266 x a) (s_v281 x a) (s_v296 x a) (s_v297 x a) (s_v298 x a) (s_v299 x a) = pure ⟨s_v311 x a, s_v326 x a, s_v343 x a, s_v345 x a⟩ := by
  rw [k0_part8_eq_skeleton]; rfl

theorem part9_at (x : Vec F S32x128x128 .f32) (a : BitVec 32) :
    k0_part9 (F := F) i arg1 harg1 arg2 harg2 arg3 harg3 (s_v179 x a) (s_v181 x a) (s_v183 x a) (s_v185 x a) (s_v187 x a) (s_v236 x a) (s_v251 x a) (s_v266 x a) (s_v281 x a) (s_v296 x a) (s_v311 x a) (s_v326 x a) (s_v343 x a) (s_v345 x a) = pure ⟨s_v360 x a, s_v362 x a, s_v378 x a, s_v379 x a, s_v389 x a, s_cst_144 x a⟩ := by
  rw [k0_part9_eq_skeleton]; rfl

theorem part10_at (x : Vec F S32x128x128 .f32) (a : BitVec 32) :
    k0_part10 (F := F) i arg1 harg1 arg2 harg2 arg3 harg3 (s_v266 x a) (s_v281 x a) (s_v296 x a) (s_v343 x a) (s_v360 x a) (s_v362 x a) (s_v379 x a) (s_v389 x a) (s_cst_144 x a) = pure ⟨s_v394 x a, s_v410 x a, s_v426 x a, s_v427 x a, s_v433 x a, s_cst_160 x a⟩ := by
  rw [k0_part10_eq_skeleton]; rfl

theorem part11_at (x : Vec F S32x128x128 .f32) (a : BitVec 32) :
    k0_part11 (F := F) i arg1 harg1 arg2 harg2 arg3 harg3 a (s_v39 x a) (s_v42 x a) (s_v311 x a) (s_v343 x a) (s_v360 x a) (s_v362 x a) (s_v427 x a) (s_v433 x a) (s_cst_160 x a) = pure ⟨s_v442 x a, s_v458 x a, s_v468 x a, s_v473 x a, s_v475 x a, s_cst_178 x a⟩ := by
  rw [k0_part11_eq_skeleton]; rfl

theorem part12_at (x : Vec F S32x128x128 .f32) (a : BitVec 32) :
    k0_part12 (F := F) i arg1 harg1 arg2 harg2 arg3 harg3 (s_v45 x a) (s_v48 x a) (s_v51 x a) (s_v121 x a) (s_v129 x a) (s_v130 x a) (s_v131 x a) (s_v132 x a) (s_v133 x a) (s_v468 x a) (s_v473 x a) (s_v475 x a) (s_cst_178 x a) = pure ⟨s_v501 x a, s_v503 x a, s_v505 x a, s_v507 x a, s_v509 x a, s_v511 x a, s_v513 x a, s_v515 x a, s_v517 x a, s_v519 x a, s_cst_194 x a⟩ := by
  rw [k0_part12_eq_skeleton]; rfl

theorem part13_at (x : Vec F S32x128x128 .f32) (a : BitVec 32) :
    k0_part13 (F := F) i arg1 harg1 arg2 harg2 arg3 harg3 (s_v378 x a) (s_v394 x a) (s_v410 x a) (s_v426 x a) (s_v442 x a) (s_v458 x a) (s_v468 x a) (s_v509 x a) (s_v511 x a) (s_v513 x a) (s_v515 x a) (s_v517 x a) (s_v519 x a) (s_cst_194 x a) = pure ⟨s_v557 x a, s_v562 x a, s_v563 x a⟩ := by
  rw [k0_part13_eq_skeleton]; rfl

theorem part14_at (x : Vec F S32x128x128 .f32) (a : BitVec 32) :
    k0_part14 (F := F) i arg1 harg1 arg2 harg2 arg3 harg3 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a) (s_v563 x a) = pure ⟨s_v567 x a, s_v584 x a, s_v600 x a, s_v601 x a, s_v609 x a, s_v610 x a⟩ := by
  rw [k0_part14_eq_skeleton]; rfl

theorem part15_at (x : Vec F S32x128x128 .f32) (a : BitVec 32) :
    k0_part15 (F := F) i arg1 harg1 arg2 harg2 arg3 harg3 (s_v410 x a) (s_v426 x a) (s_v442 x a) (s_v562 x a) (s_v567 x a) (s_v584 x a) (s_v601 x a) (s_v609 x a) (s_v610 x a) = pure ⟨s_v616 x a, s_v632 x a, s_v648 x a, s_v649 x a, s_v650 x a, s_v654 x a⟩ := by
  rw [k0_part15_eq_skeleton]; rfl

theorem part16_at (x : Vec F S32x128x128 .f32) (a : BitVec 32) :
    k0_part16 (F := F) i arg1 harg1 arg2 harg2 arg3 harg3 (s_v18 x a) (s_v39 x a) (s_v42 x a) (s_v45 x a) (s_v458 x a) (s_v562 x a) (s_v567 x a) (s_v584 x a) (s_v600 x a) (s_v616 x a) (s_v632 x a) (s_v648 x a) (s_v649 x a) (s_v650 x a) (s_v654 x a) = pure ⟨s_v664 x a, s_v680 x a, s_v704 x a⟩ := by
  rw [k0_part16_eq_skeleton]; rfl

theorem part17_at :
    k0_part17 (F := F) i arg1 harg1 arg2 harg2 arg3 harg3 = (do
  let x : Vec F S32x128x128 .f32 ← Prog.lift (.load arg1 (Rect.unit (s := S32x128x128) ![0, 0, 0] S32x128x128.size inb_S32x128x128_S32x128x128_0_0_0).toLoadRect (View.loadsAt_vmem h_S32x128x128))
  if k0_h1 : k0_cond1 i = 1#1 then do
    let v741 : Vec F S128x128 .f32 ← Prog.lift (.load arg2 (Rect.unit (s := S128x128) ![0, 0] S128x128.size inb_S128x128_S128x128_0_0).toLoadRect (View.loadsAt_vmem h_S128x128))
    Prog.lift (.store arg2 (Rect.unit (s := S128x128) ![0, 0] S128x128.size inb_S128x128_S128x128_0_0) (blk x (BitVec.ofNat 32 (i 0).val)) Finset.univ (View.stores_vmem_bits_univ h_S128x128 rfl) (.inl rfl))
    let v744 : Vec F S1x1 .f32 ← Prog.lift (.load arg3 (Rect.unit (s := S1x1) ![0, 0] S1x1.size inb_S1x1_S1x1_0_0).toLoadRect (View.loadsAt_vmem h_S1x1))
    Prog.lift (.store arg3 (Rect.unit (s := S1x1) ![0, 0] S1x1.size inb_S1x1_S1x1_0_0) (edge x (BitVec.ofNat 32 (i 0).val)) Finset.univ (View.stores_vmem_bits_univ h_S1x1 rfl) (.inl rfl))
    pure ⟨⟩
  else do
    pure ⟨⟩
  let v738 : BitVec 1 := Scalar.cmpi .ne (BitVec.ofNat 32 (i 0).val) 0#32
  pure ⟨blk x (BitVec.ofNat 32 (i 0).val), v738⟩) := by
  rw [k0_part17_eq_skeleton]
  simp only [k0_part17_skel, part1_at, part2_at, part3_at, part4_at, part5_at, part6_at, part7_at, part8_at, part9_at, part10_at, part11_at, part12_at, part13_at, part14_at, part15_at, part16_at, bind_assoc, pure_bind]
  rfl

/-- The body: the block is read; the first point stores, every later one adds. -/
theorem body_at :
    cc0__stage1_body (F := F) i arg1 harg1 arg2 harg2 arg3 harg3 = (do
  let ⟨v719, v738⟩ : Σ' (v719 : FVec F S128x128 .f32), BitVec 1 ← (do
    let x : Vec F S32x128x128 .f32 ← Prog.lift (.load arg1 (Rect.unit (s := S32x128x128) ![0, 0, 0] S32x128x128.size inb_S32x128x128_S32x128x128_0_0_0).toLoadRect (View.loadsAt_vmem h_S32x128x128))
    if k0_h1 : k0_cond1 i = 1#1 then do
      let v741 : Vec F S128x128 .f32 ← Prog.lift (.load arg2 (Rect.unit (s := S128x128) ![0, 0] S128x128.size inb_S128x128_S128x128_0_0).toLoadRect (View.loadsAt_vmem h_S128x128))
      Prog.lift (.store arg2 (Rect.unit (s := S128x128) ![0, 0] S128x128.size inb_S128x128_S128x128_0_0) (blk x (BitVec.ofNat 32 (i 0).val)) Finset.univ (View.stores_vmem_bits_univ h_S128x128 rfl) (.inl rfl))
      let v744 : Vec F S1x1 .f32 ← Prog.lift (.load arg3 (Rect.unit (s := S1x1) ![0, 0] S1x1.size inb_S1x1_S1x1_0_0).toLoadRect (View.loadsAt_vmem h_S1x1))
      Prog.lift (.store arg3 (Rect.unit (s := S1x1) ![0, 0] S1x1.size inb_S1x1_S1x1_0_0) (edge x (BitVec.ofNat 32 (i 0).val)) Finset.univ (View.stores_vmem_bits_univ h_S1x1 rfl) (.inl rfl))
      pure ⟨⟩
    else do
      pure ⟨⟩
    let v738 : BitVec 1 := Scalar.cmpi .ne (BitVec.ofNat 32 (i 0).val) 0#32
    pure ⟨blk x (BitVec.ofNat 32 (i 0).val), v738⟩)
  if k0_h2 : k0_cond2 i = 1#1 then do
    let v741 : Vec F S128x128 .f32 ← Prog.lift (.load arg2 (Rect.unit (s := S128x128) ![0, 0] S128x128.size inb_S128x128_S128x128_0_0).toLoadRect (View.loadsAt_vmem h_S128x128))
    let v744 : Vec F S128x128 .f32 ← Prog.lift (.load arg2 (Rect.unit (s := S128x128) ![0, 0] S128x128.size inb_S128x128_S128x128_0_0).toLoadRect (View.loadsAt_vmem h_S128x128))
    Prog.lift (.store arg2 (Rect.unit (s := S128x128) ![0, 0] S128x128.size inb_S128x128_S128x128_0_0) (k0_pay1 v719 v741) Finset.univ (View.stores_vmem_bits_univ h_S128x128 rfl) (.inl rfl))
    pure ⟨⟩
  else do
    pure ⟨⟩
  pure ⟨⟩) := by
  rw [cc0__stage1_body_eq_skeleton]
  simp only [cc0__stage1_body_skel, part17_at]

end Cert.KCIdeal.Step
-- ==== Proof.AccKCIdeal.lean ====
/- The layer kernel's run, with what it leaves: after the first grid point the output block holds that point's channel
   sum, after every later one the sum so far plus that point's channel sum; the corner value is stored by the first
   point only. -/
module

public import proofs.«01_k».proof.Proof.StepKCIdeal
public import Idealize.ShloMosaic.Lib.Pipeline.Value
public import Idealize.ShloMosaic.Lib.Quiescent

@[expose] public section

set_option maxRecDepth 16384

noncomputable section

namespace Cert.KCIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KCIdeal Cert.KCIdeal.Gen Cert.KCIdeal.Step

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two conditions, by the point -/

theorem hfirst (t : Fin cfg0.N) : k0_cond1 (grid0.coords t) = 1#1 ↔ t.val = 0 :=
  (fun t => by
    have ht : t.val < 6 := Nat.lt_of_lt_of_eq t.isLt N_0
    have e0 : (grid0.coords t 0).val = t.val / 1 % 6 := Pipeline.Grid.coords_val t 0 (by decide) rfl
    simp only [k0_cond1, e0]
    word_cmp
   : ∀ t : Fin grid0.N, k0_cond1 (grid0.coords t) = 1#1 ↔ t.val = 0) t

theorem hlater (t : Fin cfg0.N) : k0_cond2 (grid0.coords t) = 1#1 ↔ 1 ≤ t.val :=
  (fun t => by
    have ht : t.val < 6 := Nat.lt_of_lt_of_eq t.isLt N_0
    have e0 : (grid0.coords t 0).val = t.val / 1 % 6 := Pipeline.Grid.coords_val t 0 (by decide) rfl
    simp only [k0_cond2, e0]
    word_cmp
   : ∀ t : Fin grid0.N, k0_cond2 (grid0.coords t) = 1#1 ↔ 1 ≤ t.val) t

theorem N_eq : cfg0.N = 6 := N_0

/-- The point's number is its coordinate. -/
theorem coord_val (t : Fin cfg0.N) : (grid0.coords t 0).val = t.val :=
  (fun t => by
    have ht : t.val < 6 := Nat.lt_of_lt_of_eq t.isLt N_0
    have e0 : (grid0.coords t 0).val = t.val / 1 % 6 := Pipeline.Grid.coords_val t 0 (by decide) rfl
    omega : ∀ t : Fin grid0.N, (grid0.coords t 0).val = t.val) t

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a point -/

set_option maxHeartbeats 1000000 in
/-- At the first point: the block's channel sum and the corner value are stored. -/
theorem run_first (c : Dev nD) (i : grid0.Coords) (arg1 : Memref sig .tc .vmem S32x128x128 .f32) (harg1 : arg1.IsWhole) (arg2 : Memref sig .tc .vmem S128x128 .f32) (harg2 : arg2.IsWhole) (arg3 : Memref sig .tc .vmem S1x1 .f32) (harg3 : arg3.IsWhole) (hc0 : k0_cond1 i = 1#1) (hc1 : ¬k0_cond2 i = 1#1)
    (x0 : Vec F S32x128x128 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (blk x0 (BitVec.ofNat 32 (i 0).val)) ∗ owns (c : Thread nD τ) arg3 fullShare (edge x0 (BitVec.ofNat 32 (i 0).val))) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%d1, %f1, -, H1⟩, ⟨%d2, %f2, -, H2⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S128x128.size (by rfl))]
      rw [View.canon_unit_zero hz2]
      simp only [View.readAt_eq_ld, harg1.read_unread, View.ld_unit_zero (S := S32x128x128) hz3]
    iexists _; isplitr; swap; · iexact H2
    ipureintro
    rw [View.read_writes_eq_canon _ _ _ (View.cover_of_tiled _ S1x1.size (by rfl))]
    rw [View.canon_unit_zero hz2]
    simp only [View.readAt_eq_ld, harg1.read_unread, View.ld_unit_zero (S := S32x128x128) hz3]

set_option maxHeartbeats 1000000 in
/-- At a later point: the block's channel sum is added to what is there; the corner value is not touched. -/
theorem run_later (c : Dev nD) (i : grid0.Coords) (arg1 : Memref sig .tc .vmem S32x128x128 .f32) (harg1 : arg1.IsWhole) (arg2 : Memref sig .tc .vmem S128x128 .f32) (harg2 : arg2.IsWhole) (arg3 : Memref sig .tc .vmem S1x1 .f32) (harg3 : arg3.IsWhole) (hc0 : ¬k0_cond1 i = 1#1) (hc1 : k0_cond2 i = 1#1)
    (x0 : Vec F S32x128x128 .f32) (y : Vec F S128x128 .f32) (z : Vec F S1x1 .f32) :
      ∀ (E : Set ℕ) (K : PUnit → sProp 𝕄),
        iprop(owns (c : Thread nD τ) arg1 fullShare x0 ∗ owns (c : Thread nD τ) arg2 fullShare y ∗ owns (c : Thread nD τ) arg3 fullShare z
            ∗ (iprop(owns (c : Thread nD τ) arg1 fullShare x0 ∗ owns (c : Thread nD τ) arg2 fullShare (k0_pay1 (blk x0 (BitVec.ofNat 32 (i 0).val)) y) ∗ owns (c : Thread nD τ) arg3 fullShare z) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%f1, %hf1, H1⟩, H2, Hk⟩
    obtain rfl := harg1.eq_unread hf0
    obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S128x128.size (by rfl))]
      rw [View.canon_unit_zero hz2]
      simp only [View.readAt_eq_ld, harg1.read_unread, harg2.read_unread, View.ld_unit_zero (S := S32x128x128) hz3, View.ld_unit_zero (S := S128x128) hz2]
    iexact H2

/-! ## What the output block holds after each point -/

/-- The channel sum of the block at a point. -/
def blkAt (c : Dev nD) (t : Fin cfg0.N) : Vec F S128x128 .f32 := blk (iblk m c 0 t) (BitVec.ofNat 32 (grid0.coords t 0).val)

/-- The sum of the channel sums up to a point, in the points' order. -/
def acc (c : Dev nD) : (n : ℕ) → n < cfg0.N → Vec F S128x128 .f32
  | 0, h => blkAt m c ⟨0, h⟩
  | n + 1, h => k0_pay1 (blkAt m c ⟨n + 1, h⟩) (acc c n (Nat.lt_of_succ_lt h))

/-- The corner value: the first point's. -/
def corner (c : Dev nD) : Vec F S1x1 .f32 := edge (iblk m c 0 t0_0) (BitVec.ofNat 32 (grid0.coords t0_0 0).val)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val t.isLt
    | ⟨2, _⟩ => corner m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = acc m c t.val t.isLt := by dsimp only [dats]
theorem after0_2 (c : Dev nD) (t : Fin cfg0.N) : (dats m 0 c).after 2 t = corner m c := by dsimp only [dats]

theorem before0_0 (c : Dev nD) (t : Fin cfg0.N) (d) : (dats m 0 c).before 0 t d = iblk m c 0 t :=
  before0_0_of m (dats m 0 c) (A_eq m c 0) (after0_0 m c) t d

/-! Where the outputs are not stored into. -/

theorem live1 (t : Fin cfg0.N) : cfg0.idle 1 (grid0.coords t) = false := by
  show (!(k0_cond1 (grid0.coords t) == 1#1) && !(k0_cond2 (grid0.coords t) == 1#1)) = false
  by_cases h : t.val = 0
  · rw [(hfirst t).mpr h]; rfl
  · rw [(hlater t).mpr (by omega)]; simp
theorem live2 (t : Fin cfg0.N) (h : t.val = 0) : cfg0.idle 2 (grid0.coords t) = false := by
  show (!(k0_cond1 (grid0.coords t) == 1#1)) = false
  rw [(hfirst t).mpr h]; rfl
theorem idle2 (t : Fin cfg0.N) (h : t.val ≠ 0) : cfg0.idle 2 (grid0.coords t) = true := by
  show (!(k0_cond1 (grid0.coords t) == 1#1)) = true
  have : ¬ k0_cond1 (grid0.coords t) = 1#1 := fun e => h ((hfirst t).mp e)
  simpa using this

theorem noflush1 (t : Fin cfg0.N) (h : t.val + 1 < 6) : (cfg0.win 1).flush t = false := by
  by_contra hc
  have := (flush0_1 t).mp (by simpa using hc)
  omega
theorem noflush2 (t : Fin cfg0.N) (h : t.val + 1 < 6) : (cfg0.win 2).flush t = false := by
  by_contra hc
  have := (flush0_2 t).mp (by simpa using hc)
  omega

theorem kept_eq {c' : Dev nD} (dat : Dat τ (Elt F) Unit ℕ (UR sig nD τ) ℕ cfg0 c') (w : Fin cfg0.W)
    (hclip : ∀ (i : cfg0.grid.Coords) a, (cfg0.win w).clip i a = none) (t : Fin cfg0.N) (d) : dat.kept w t d = dat.after w t := by
  unfold Dat.kept
  rw [Pipeline.fill_of_clip_none w _ (hclip _) d (dat.after w _), Window.fill_cut]

/-- At a later point the output block holds the sum so far, -/
theorem before0_1 (c : Dev nD) (n : ℕ) (h : n + 1 < cfg0.N) (d) : (dats m 0 c).before 1 ⟨n + 1, h⟩ d = acc m c n (Nat.lt_of_succ_lt h) := by
  have hN := N_eq
  rw [(dats m 0 c).before_of_pos 1 ⟨n + 1, h⟩ (Nat.succ_ne_zero n) ((cfg0.win 1).fetch_out rfl _), if_neg (by
    rw [noflush1]; · exact Bool.false_ne_true
    · dsimp only; omega)]
  unfold Dat.left
  rw [live1]
  exact (kept_eq (dats m 0 c) 1 (fun _ _ => rfl) _ d).trans (after0_1 m c _)

/-- and the corner's block the first point's value. -/
theorem before0_2 (c : Dev nD) (d) : ∀ (n : ℕ) (h : n + 1 < cfg0.N), (dats m 0 c).before 2 ⟨n + 1, h⟩ d = corner m c
  | n, h => by
    have hN := N_eq
    rw [(dats m 0 c).before_of_pos 2 ⟨n + 1, h⟩ (Nat.succ_ne_zero n) ((cfg0.win 2).fetch_out rfl _), if_neg (by
      rw [noflush2]; · exact Bool.false_ne_true
      · dsimp only; omega)]
    unfold Dat.left
    cases n with
    | zero =>
      rw [live2 _ rfl]
      exact (kept_eq (dats m 0 c) 2 (fun _ _ => rfl) _ d).trans (after0_2 m c _)
    | succ k =>
      rw [idle2 _ (Nat.succ_ne_zero k)]
      exact before0_2 c d k _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (st0_0 t) fullShare (iblk m c 0 t) := by
  rw [← after0_0]
theorem leaves1 (c : Dev nD) (t : Fin cfg0.N) : (dats m 0 c).leavesExact 1 t = owns (c : Thread nD τ) (st0_1 t) fullShare (acc m c t.val t.isLt) := by
  rw [← after0_1]; unfold Dat.leavesExact; rw [show cfg0.idle 1 (cfg0.grid.coords t) = false from live1 t]
theorem leaves2 (c : Dev nD) (t : Fin cfg0.N) : owns (c : Thread nD τ) (st0_2 t) fullShare (corner m c) ⊢ (dats m 0 c).leavesExact 2 t := by
  by_cases h : t.val = 0
  · rw [← after0_2 m c t]; unfold Dat.leavesExact; rw [show cfg0.idle 2 (cfg0.grid.coords t) = false from live2 t h]
  · cases hf : (cfg0.win 2).flush t with
    | true => rw [← after0_2 m c t]; unfold Dat.leavesExact; rw [show cfg0.idle 2 (cfg0.grid.coords t) = true from idle2 t h, hf]
    | false =>
      rw [(dats m 0 c).leavesExact_idle 2 t (idle2 t h) hf]
      obtain ⟨_ | k, ht⟩ := t
      · exact absurd rfl h
      iintro H
      iexists (corner m c)
      rw [before0_2]
      iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, leaves0, leaves1]
  have hN : t.val < 6 := lt_of_lt_of_eq t.isLt N_eq
  by_cases h0 : t.val = 0
  · obtain ⟨_ | k, ht⟩ := t
    swap; · exact absurd h0 (Nat.succ_ne_zero k)
    iintro ⟨HΦ, Ho, ⟨%d0, H0⟩, ⟨%d1, H1⟩, ⟨%d2, H2⟩⟩
    iapply ((run_first c (grid0.coords _) _ _ _ _ _ _ ((hfirst _).mpr rfl) (fun h => absurd ((hlater _).mp h) (Nat.not_succ_le_zero 0)) (iblk m c 0 _)) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iapply (leaves2 m c ⟨0, ht⟩)
    iexact H2
  · obtain ⟨_ | k, ht⟩ := t
    · exact absurd rfl h0
    simp only [before0_1, before0_2]
    iintro ⟨HΦ, Ho, ⟨%d0, H0⟩, ⟨%d1, H1⟩, ⟨%d2, H2⟩⟩
    iapply ((run_later c (grid0.coords _) _ _ _ _ _ _ (fun h => h0 ((hfirst _).mp h)) ((hlater _).mpr (by dsimp only; omega)) (iblk m c 0 _) (acc m c k _) (corner m c)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iapply (leaves2 m c ⟨k + 1, ht⟩)
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends, with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-! ## The result arrays -/

/-- The first result: the sum over all points. -/
abbrev sums (c : Dev nD) : Vec F S128x128 .f32 := acc m c (6 - 1) (by rw [N_eq]; decide)

theorem flushed_1 (c : Dev nD) (t : Fin cfg0.N) (hf : (cfg0.win 1).flush t = true) :
    (dats m 0 c).flushed 1 t = ((cfg0.win 1).blk t).view.read (Elt F) (sums m c) := by
  have hN := N_eq
  have h3 : t.val = 6 - 1 := by have := (flush0_1 t).mp hf; have := t.isLt; omega
  obtain rfl : t = t0_5 := Fin.ext h3
  show (cfg0.win 1).cut (grid0.coords t0_5) ((dats m 0 c).after 1 t0_5) = _
  rw [after0_1]
  have hz' : (fun a => win0_1.index t0_5 a * main_v0_0.ty.shape.size a) = fun _ => 0 := funext fun a => by fin_cases a <;> decide
  exact (Memref.read_access_unit_zero (Elt F) main_v0_0 hz' (fun a => by rw [congrFun hz' a]; simp) (sums m c)).symm

theorem flushed_2 (c : Dev nD) (t : Fin cfg0.N) (hf : (cfg0.win 2).flush t = true) :
    (dats m 0 c).flushed 2 t = ((cfg0.win 2).blk t).view.read (Elt F) (corner m c) := by
  have hN := N_eq
  have h3 : t.val = 6 - 1 := by have := (flush0_2 t).mp hf; have := t.isLt; omega
  obtain rfl : t = t0_5 := Fin.ext h3
  show (cfg0.win 2).cut (grid0.coords t0_5) ((dats m 0 c).after 2 t0_5) = _
  rw [after0_2]
  have hz' : (fun a => win0_2.index t0_5 a * main_v0_1.ty.shape.size a) = fun _ => 0 := funext fun a => by fin_cases a <;> decide
  exact (Memref.read_access_unit_zero (Elt F) main_v0_1 hz' (fun a => by rw [congrFun hz' a]; simp) (corner m c)).symm

theorem final_1 (c : Dev nD) : (dats m 0 c).arrAt 1 cfg0.N = sums m c :=
  (dats m 0 c).arrAt_eq_of_cover 1 (sums m c) (flushed_1 m c) fun i =>
    ⟨t0_5, (flush0_1 t0_5).mpr rfl, by
      show i ∈ ((View.whole main_v0_0).slice (win0_1.rect t0_5)).set
      rw [View.set_slice_whole, Rect.mem_set_unit]
      intro a
      have h0 : (i 0 : Nat) < 128 := (i 0).isLt
      have h1 : (i 1 : Nat) < 128 := (i 1).isLt
      match a with
      | ⟨0, _⟩ => show win0_1.index t0_5 0 * win0_1.size 0 ≤ (i 0 : Nat) ∧ (i 0 : Nat) < win0_1.index t0_5 0 * win0_1.size 0 + win0_1.xsize (grid0.coords t0_5) 0
                  rw [show win0_1.index t0_5 0 * win0_1.size 0 = 0 from by decide +kernel, show win0_1.xsize (grid0.coords t0_5) 0 = 128 from by decide +kernel]; omega
      | ⟨1, _⟩ => show win0_1.index t0_5 1 * win0_1.size 1 ≤ (i 1 : Nat) ∧ (i 1 : Nat) < win0_1.index t0_5 1 * win0_1.size 1 + win0_1.xsize (grid0.coords t0_5) 1
                  rw [show win0_1.index t0_5 1 * win0_1.size 1 = 0 from by decide +kernel, show win0_1.xsize (grid0.coords t0_5) 1 = 128 from by decide +kernel]; omega⟩

theorem final_2 (c : Dev nD) : (dats m 0 c).arrAt 2 cfg0.N = corner m c :=
  (dats m 0 c).arrAt_eq_of_cover 2 (corner m c) (flushed_2 m c) fun i =>
    ⟨t0_5, (flush0_2 t0_5).mpr rfl, by
      show i ∈ ((View.whole main_v0_1).slice (win0_2.rect t0_5)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_5 0 * win0_2.size 0 ≤ (i 0 : Nat) ∧ (i 0 : Nat) < win0_2.index t0_5 0 * win0_2.size 0 + win0_2.xsize (grid0.coords t0_5) 0
                  rw [show win0_2.index t0_5 0 * win0_2.size 0 = 0 from by decide +kernel, show win0_2.xsize (grid0.coords t0_5) 0 = 1 from by decide +kernel]; omega
      | ⟨1, _⟩ => show win0_2.index t0_5 1 * win0_2.size 1 ≤ (i 1 : Nat) ∧ (i 1 : Nat) < win0_2.index t0_5 1 * win0_2.size 1 + win0_2.xsize (grid0.coords t0_5) 1
                  rw [show win0_2.index t0_5 1 * win0_2.size 1 = 0 from by decide +kernel, show win0_2.xsize (grid0.coords t0_5) 1 = 1 from by decide +kernel]; omega⟩

/-- The run, with both results. -/
theorem run : θ_run defs (onTc (τ := τ) (main (F := F))) ⟨m, fun _ => 0, ρ⟩ fun r => ∀ c : Dev nD,
      r.2.mem ((c : Thread nD τ).loc main_v0_0) = sums m c
      ∧ r.2.mem ((c : Thread nD τ).loc main_v0_1) = corner m c
      ∧ r.2.mem ((c : Thread nD τ).loc main_arg0) = m ((c : Thread nD τ).loc main_arg0) :=
  (θ_run defs _ _).mono (fun _ h c => ⟨((h c).1 1).trans (final_1 m c), ((h c).1 2).trans (final_2 m c), ((h c).1 0).trans ((dats m 0 c).arrAt_in 0 rfl _)⟩)
    (run_main m ρ)

end Cert.KCIdeal.Acc
-- ==== Proof.AccKD.lean ====
/- The layer kernel's run, with what it leaves: after the first grid point the output block holds that point's channel
   sum, after every later one the sum so far plus that point's channel sum; the corner value is stored by the first
   point only. -/
module

public import proofs.«01_k».proof.Proof.StepKD
public import Idealize.ShloMosaic.Lib.Pipeline.Value
public import Idealize.ShloMosaic.Lib.Quiescent

@[expose] public section

set_option maxRecDepth 16384

noncomputable section

namespace Cert.KD.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KD Cert.KD.Gen Cert.KD.Step

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two conditions, by the point -/

theorem hfirst (t : Fin cfg0.N) : k0_cond1 (grid0.coords t) = 1#1 ↔ t.val = 0 :=
  (fun t => by
    have ht : t.val < 3 := Nat.lt_of_lt_of_eq t.isLt N_0
    have e0 : (grid0.coords t 0).val = t.val / 1 % 3 := Pipeline.Grid.coords_val t 0 (by decide) rfl
    simp only [k0_cond1, e0]
    word_cmp
   : ∀ t : Fin grid0.N, k0_cond1 (grid0.coords t) = 1#1 ↔ t.val = 0) t

theorem hlater (t : Fin cfg0.N) : k0_cond2 (grid0.coords t) = 1#1 ↔ 1 ≤ t.val :=
  (fun t => by
    have ht : t.val < 3 := Nat.lt_of_lt_of_eq t.isLt N_0
    have e0 : (grid0.coords t 0).val = t.val / 1 % 3 := Pipeline.Grid.coords_val t 0 (by decide) rfl
    simp only [k0_cond2, e0]
    word_cmp
   : ∀ t : Fin grid0.N, k0_cond2 (grid0.coords t) = 1#1 ↔ 1 ≤ t.val) t

theorem N_eq : cfg0.N = 3 := N_0

/-- The point's number is its coordinate. -/
theorem coord_val (t : Fin cfg0.N) : (grid0.coords t 0).val = t.val :=
  (fun t => by
    have ht : t.val < 3 := Nat.lt_of_lt_of_eq t.isLt N_0
    have e0 : (grid0.coords t 0).val = t.val / 1 % 3 := Pipeline.Grid.coords_val t 0 (by decide) rfl
    omega : ∀ t : Fin grid0.N, (grid0.coords t 0).val = t.val) t

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a point -/

set_option maxHeartbeats 1000000 in
/-- At the first point: the block's channel sum and the corner value are stored. -/
theorem run_first (c : Dev nD) (i : grid0.Coords) (arg1 : Memref sig .tc .vmem S128x64x64 .f32) (harg1 : arg1.IsWhole) (arg2 : Memref sig .tc .vmem S64x64 .f32) (harg2 : arg2.IsWhole) (arg3 : Memref sig .tc .vmem S1x1 .f32) (harg3 : arg3.IsWhole) (hc0 : k0_cond1 i = 1#1) (hc1 : ¬k0_cond2 i = 1#1)
    (x0 : Vec F S128x64x64 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (blk x0 (BitVec.ofNat 32 (i 0).val)) ∗ owns (c : Thread nD τ) arg3 fullShare (edge x0 (BitVec.ofNat 32 (i 0).val))) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%d1, %f1, -, H1⟩, ⟨%d2, %f2, -, H2⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S64x64.size (by rfl))]
      rw [View.canon_unit_zero hz2]
      simp only [View.readAt_eq_ld, harg1.read_unread, View.ld_unit_zero (S := S128x64x64) hz3]
    iexists _; isplitr; swap; · iexact H2
    ipureintro
    rw [View.read_writes_eq_canon _ _ _ (View.cover_of_tiled _ S1x1.size (by rfl))]
    rw [View.canon_unit_zero hz2]
    simp only [View.readAt_eq_ld, harg1.read_unread, View.ld_unit_zero (S := S128x64x64) hz3]

set_option maxHeartbeats 1000000 in
/-- At a later point: the block's channel sum is added to what is there; the corner value is not touched. -/
theorem run_later (c : Dev nD) (i : grid0.Coords) (arg1 : Memref sig .tc .vmem S128x64x64 .f32) (harg1 : arg1.IsWhole) (arg2 : Memref sig .tc .vmem S64x64 .f32) (harg2 : arg2.IsWhole) (arg3 : Memref sig .tc .vmem S1x1 .f32) (harg3 : arg3.IsWhole) (hc0 : ¬k0_cond1 i = 1#1) (hc1 : k0_cond2 i = 1#1)
    (x0 : Vec F S128x64x64 .f32) (y : Vec F S64x64 .f32) (z : Vec F S1x1 .f32) :
      ∀ (E : Set ℕ) (K : PUnit → sProp 𝕄),
        iprop(owns (c : Thread nD τ) arg1 fullShare x0 ∗ owns (c : Thread nD τ) arg2 fullShare y ∗ owns (c : Thread nD τ) arg3 fullShare z
            ∗ (iprop(owns (c : Thread nD τ) arg1 fullShare x0 ∗ owns (c : Thread nD τ) arg2 fullShare (k0_pay1 (blk x0 (BitVec.ofNat 32 (i 0).val)) y) ∗ owns (c : Thread nD τ) arg3 fullShare z) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%f1, %hf1, H1⟩, H2, Hk⟩
    obtain rfl := harg1.eq_unread hf0
    obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S64x64.size (by rfl))]
      rw [View.canon_unit_zero hz2]
      simp only [View.readAt_eq_ld, harg1.read_unread, harg2.read_unread, View.ld_unit_zero (S := S128x64x64) hz3, View.ld_unit_zero (S := S64x64) hz2]
    iexact H2

/-! ## What the output block holds after each point -/

/-- The channel sum of the block at a point. -/
def blkAt (c : Dev nD) (t : Fin cfg0.N) : Vec F S64x64 .f32 := blk (iblk m c 0 t) (BitVec.ofNat 32 (grid0.coords t 0).val)

/-- The sum of the channel sums up to a point, in the points' order. -/
def acc (c : Dev nD) : (n : ℕ) → n < cfg0.N → Vec F S64x64 .f32
  | 0, h => blkAt m c ⟨0, h⟩
  | n + 1, h => k0_pay1 (blkAt m c ⟨n + 1, h⟩) (acc c n (Nat.lt_of_succ_lt h))

/-- The corner value: the first point's. -/
def corner (c : Dev nD) : Vec F S1x1 .f32 := edge (iblk m c 0 t0_0) (BitVec.ofNat 32 (grid0.coords t0_0 0).val)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val t.isLt
    | ⟨2, _⟩ => corner m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = acc m c t.val t.isLt := by dsimp only [dats]
theorem after0_2 (c : Dev nD) (t : Fin cfg0.N) : (dats m 0 c).after 2 t = corner m c := by dsimp only [dats]

theorem before0_0 (c : Dev nD) (t : Fin cfg0.N) (d) : (dats m 0 c).before 0 t d = iblk m c 0 t :=
  before0_0_of m (dats m 0 c) (A_eq m c 0) (after0_0 m c) t d

/-! Where the outputs are not stored into. -/

theorem live1 (t : Fin cfg0.N) : cfg0.idle 1 (grid0.coords t) = false := by
  show (!(k0_cond1 (grid0.coords t) == 1#1) && !(k0_cond2 (grid0.coords t) == 1#1)) = false
  by_cases h : t.val = 0
  · rw [(hfirst t).mpr h]; rfl
  · rw [(hlater t).mpr (by omega)]; simp
theorem live2 (t : Fin cfg0.N) (h : t.val = 0) : cfg0.idle 2 (grid0.coords t) = false := by
  show (!(k0_cond1 (grid0.coords t) == 1#1)) = false
  rw [(hfirst t).mpr h]; rfl
theorem idle2 (t : Fin cfg0.N) (h : t.val ≠ 0) : cfg0.idle 2 (grid0.coords t) = true := by
  show (!(k0_cond1 (grid0.coords t) == 1#1)) = true
  have : ¬ k0_cond1 (grid0.coords t) = 1#1 := fun e => h ((hfirst t).mp e)
  simpa using this

theorem noflush1 (t : Fin cfg0.N) (h : t.val + 1 < 3) : (cfg0.win 1).flush t = false := by
  by_contra hc
  have := (flush0_1 t).mp (by simpa using hc)
  omega
theorem noflush2 (t : Fin cfg0.N) (h : t.val + 1 < 3) : (cfg0.win 2).flush t = false := by
  by_contra hc
  have := (flush0_2 t).mp (by simpa using hc)
  omega

theorem kept_eq {c' : Dev nD} (dat : Dat τ (Elt F) Unit ℕ (UR sig nD τ) ℕ cfg0 c') (w : Fin cfg0.W)
    (hclip : ∀ (i : cfg0.grid.Coords) a, (cfg0.win w).clip i a = none) (t : Fin cfg0.N) (d) : dat.kept w t d = dat.after w t := by
  unfold Dat.kept
  rw [Pipeline.fill_of_clip_none w _ (hclip _) d (dat.after w _), Window.fill_cut]

/-- At a later point the output block holds the sum so far, -/
theorem before0_1 (c : Dev nD) (n : ℕ) (h : n + 1 < cfg0.N) (d) : (dats m 0 c).before 1 ⟨n + 1, h⟩ d = acc m c n (Nat.lt_of_succ_lt h) := by
  have hN := N_eq
  rw [(dats m 0 c).before_of_pos 1 ⟨n + 1, h⟩ (Nat.succ_ne_zero n) ((cfg0.win 1).fetch_out rfl _), if_neg (by
    rw [noflush1]; · exact Bool.false_ne_true
    · dsimp only; omega)]
  unfold Dat.left
  rw [live1]
  exact (kept_eq (dats m 0 c) 1 (fun _ _ => rfl) _ d).trans (after0_1 m c _)

/-- and the corner's block the first point's value. -/
theorem before0_2 (c : Dev nD) (d) : ∀ (n : ℕ) (h : n + 1 < cfg0.N), (dats m 0 c).before 2 ⟨n + 1, h⟩ d = corner m c
  | n, h => by
    have hN := N_eq
    rw [(dats m 0 c).before_of_pos 2 ⟨n + 1, h⟩ (Nat.succ_ne_zero n) ((cfg0.win 2).fetch_out rfl _), if_neg (by
      rw [noflush2]; · exact Bool.false_ne_true
      · dsimp only; omega)]
    unfold Dat.left
    cases n with
    | zero =>
      rw [live2 _ rfl]
      exact (kept_eq (dats m 0 c) 2 (fun _ _ => rfl) _ d).trans (after0_2 m c _)
    | succ k =>
      rw [idle2 _ (Nat.succ_ne_zero k)]
      exact before0_2 c d k _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (st0_0 t) fullShare (iblk m c 0 t) := by
  rw [← after0_0]
theorem leaves1 (c : Dev nD) (t : Fin cfg0.N) : (dats m 0 c).leavesExact 1 t = owns (c : Thread nD τ) (st0_1 t) fullShare (acc m c t.val t.isLt) := by
  rw [← after0_1]; unfold Dat.leavesExact; rw [show cfg0.idle 1 (cfg0.grid.coords t) = false from live1 t]
theorem leaves2 (c : Dev nD) (t : Fin cfg0.N) : owns (c : Thread nD τ) (st0_2 t) fullShare (corner m c) ⊢ (dats m 0 c).leavesExact 2 t := by
  by_cases h : t.val = 0
  · rw [← after0_2 m c t]; unfold Dat.leavesExact; rw [show cfg0.idle 2 (cfg0.grid.coords t) = false from live2 t h]
  · cases hf : (cfg0.win 2).flush t with
    | true => rw [← after0_2 m c t]; unfold Dat.leavesExact; rw [show cfg0.idle 2 (cfg0.grid.coords t) = true from idle2 t h, hf]
    | false =>
      rw [(dats m 0 c).leavesExact_idle 2 t (idle2 t h) hf]
      obtain ⟨_ | k, ht⟩ := t
      · exact absurd rfl h
      iintro H
      iexists (corner m c)
      rw [before0_2]
      iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, leaves0, leaves1]
  have hN : t.val < 3 := lt_of_lt_of_eq t.isLt N_eq
  by_cases h0 : t.val = 0
  · obtain ⟨_ | k, ht⟩ := t
    swap; · exact absurd h0 (Nat.succ_ne_zero k)
    iintro ⟨HΦ, Ho, ⟨%d0, H0⟩, ⟨%d1, H1⟩, ⟨%d2, H2⟩⟩
    iapply ((run_first c (grid0.coords _) _ _ _ _ _ _ ((hfirst _).mpr rfl) (fun h => absurd ((hlater _).mp h) (Nat.not_succ_le_zero 0)) (iblk m c 0 _)) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iapply (leaves2 m c ⟨0, ht⟩)
    iexact H2
  · obtain ⟨_ | k, ht⟩ := t
    · exact absurd rfl h0
    simp only [before0_1, before0_2]
    iintro ⟨HΦ, Ho, ⟨%d0, H0⟩, ⟨%d1, H1⟩, ⟨%d2, H2⟩⟩
    iapply ((run_later c (grid0.coords _) _ _ _ _ _ _ (fun h => h0 ((hfirst _).mp h)) ((hlater _).mpr (by dsimp only; omega)) (iblk m c 0 _) (acc m c k _) (corner m c)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iapply (leaves2 m c ⟨k + 1, ht⟩)
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends, with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.KD.Acc
-- ==== Proof.StepKDIdeal.lean ====
/- What one grid point of the layer kernel computes, value by value: each printed value of the body as a function of the
   block read (`x`) and of the point's number (`a`), so that the body is one load, two stores at the first point and
   one accumulating store at every later one. -/
module

public import proofs.«01_k».proof.Proof.Gen.KDIdeal.Frame
public import proofs.«01_k».proof.Proof.Gen.KDIdeal.Skeleton
public import Idealize.ShloMosaic.Lib.Claim

@[expose] public section

set_option maxRecDepth 16384

noncomputable section

namespace Cert.KDIdeal.Step

open Idealize.ShloMosaic Idealize.ShloMosaic.TcCoe Idealize.ShloMosaic.Tactic
open Idealize.SL Idealize.SL.RA Idealize.SL.BI Idealize.SL.Sem
open Cert.KDIdeal Cert.KDIdeal.Gen

variable {F : FTy → Type} [FloatOps F] [Named F]

def s_v18 (x : Vec F S128x64x64 .f32) (a : BitVec 32) : Vec F S128x64x64 .f32 := k0_pay2 x
def s_v19 (x : Vec F S128x64x64 .f32) (a : BitVec 32) : FVec F S128 .f32 := k0_pay3 x
def s_v21 (x : Vec F S128x64x64 .f32) (a : BitVec 32) : FVec F S128 .f32 := k0_pay4 x
def s_v24 (x : Vec F S128x64x64 .f32) (a : BitVec 32) : FVec F S128 .f32 := k0_pay5 x
def s_v27 (x : Vec F S128x64x64 .f32) (a : BitVec 32) : FVec F S128 .f32 := k0_pay6 x
def s_v30 (x : Vec F S128x64x64 .f32) (a : BitVec 32) : FVec F S128 .f32 := k0_pay7 x
def s_v33 (x : Vec F S128x64x64 .f32) (a : BitVec 32) : FVec F S128 .f32 := k0_pay8 x
def s_v36 (x : Vec F S128x64x64 .f32) (a : BitVec 32) : FVec F S128 .f32 := k0_pay9 x
def s_v39 (x : Vec F S128x64x64 .f32) (a : BitVec 32) : FVec F S128 .f32 := k0_pay10 x
def s_v41 (x : Vec F S128x64x64 .f32) (a : BitVec 32) : FVec F S128 .f32 := k0_pay11 x
def s_v42 (x : Vec F S128x64x64 .f32) (a : BitVec 32) : FVec F S128 .f32 := k0_pay12 (s_v19 x a) (s_v41 x a)
def s_v45 (x : Vec F S128x64x64 .f32) (a : BitVec 32) : FVec F S128 .f32 := k0_pay13 (s_v19 x a) (s_v21 x a)
def s_v48 (x : Vec F S128x64x64 .f32) (a : BitVec 32) : FVec F S128 .f32 := k0_pay14 (s_v19 x a) (s_v21 x a)
def s_v51 (x : Vec F S128x64x64 .f32) (a : BitVec 32) : FVec F S128 .f32 := k0_pay15 (s_v19 x a) (s_v21 x a)
def s_v58 (x : Vec F S128x64x64 .f32) (a : BitVec 32) : FVec F S128 .f32 := k0_pay16 (s_v18 x a) (s_v24 x a)
def s_v65 (x : Vec F S128x64x64 .f32) (a : BitVec 32) : FVec F S128 .f32 := k0_pay17 (s_v18 x a) (s_v27 x a)
def s_v72 (x : Vec F S128x64x64 .f32) (a : BitVec 32) : FVec F S128 .f32 := k0_pay18 (s_v18 x a) (s_v30 x a)
def s_v79 (x : Vec F S128x64x64 .f32) (a : BitVec 32) : FVec F S128 .f32 := k0_pay19 (s_v18 x a) (s_v33 x a)
def s_v82 (x : Vec F S128x64x64 .f32) (a : BitVec 32) : IVec S128x64x64 1 := k0_pay20 (s_v18 x a) (s_v36 x a)
def s_v83 (x : Vec F S128x64x64 .f32) (a : BitVec 32) : FVec F S128x64x64 .f32 := k0_pay21 (F := F)
def s_v84 (x : Vec F S128x64x64 .f32) (a : BitVec 32) : FVec F S128x64x64 .f32 := k0_pay22 (F := F)
def s_v86 (x : Vec F S128x64x64 .f32) (a : BitVec 32) : FVec F S128 .f32 := k0_pay23 (s_v82 x a) (s_v83 x a) (s_v84 x a)
def s_v93 (x : Vec F S128x64x64 .f32) (a : BitVec 32) : FVec F S128 .f32 := k0_pay24 (s_v18 x a) (s_v39 x a)
def s_v100 (x : Vec F S128x64x64 .f32) (a : BitVec 32) : FVec F S128 .f32 := k0_pay25 (s_v18 x a) (s_v42 x a)
def s_v107 (x : Vec F S128x64x64 .f32) (a : BitVec 32) : FVec F S128 .f32 := k0_pay26 (s_v18 x a) (s_v45 x a)
def s_v114 (x : Vec F S128x64x64 .f32) (a : BitVec 32) : FVec F S128 .f32 := k0_pay27 (s_v18 x a) (s_v48 x a)
def s_v121 (x : Vec F S128x64x64 .f32) (a : BitVec 32) : FVec F S128 .f32 := k0_pay28 (s_v18 x a) (s_v51 x a)
def s_v123 (x : Vec F S128x64x64 .f32) (a : BitVec 32) : FVec F S128 .f32 := k0_pay29 (s_v58 x a)
def s_v124 (x : Vec F S128x64x64 .f32) (a : BitVec 32) : FVec F S128 .f32 := k0_pay30 (s_v58 x a) (s_v65 x a)
def s_v125 (x : Vec F S128x64x64 .f32) (a : BitVec 32) : FVec F S128 .f32 := k0_pay31 (s_v65 x a) (s_v72 x a)
def s_v126 (x : Vec F S128x64x64 .f32) (a : BitVec 32) : FVec F S128 .f32 := k0_pay32 (s_v72 x a) (s_v79 x a)
def s_v127 (x : Vec F S128x64x64 .f32) (a : BitVec 32) : FVec F S128 .f32 := k0_pay33 (s_v79 x a) (s_v82 x a) (s_v83 x a) (s_v84 x a)
def s_v129 (x : Vec F S128x64x64 .f32) (a : BitVec 32) : FVec F S128 .f32 := k0_pay34 (s_v93 x a)
def s_v130 (x : Vec F S128x64x64 .f32) (a : BitVec 32) : FVec F S128 .f32 := k0_pay35 (s_v93 x a) (s_v100 x a)
def s_v131 (x : Vec F S128x64x64 .f32) (a : BitVec 32) : FVec F S128 .f32 := k0_pay36 (s_v100 x a) (s_v107 x a)
def s_v132 (x : Vec F S128x64x64 .f32) (a : BitVec 32) : FVec F S128 .f32 := k0_pay37 (s_v107 x a) (s_v114 x a)
def s_v133 (x : Vec F S128x64x64 .f32) (a : BitVec 32) : FVec F S128 .f32 := k0_pay38 (s_v114 x a) (s_v121 x a)
def s_v140 (x : Vec F S128x64x64 .f32) (a : BitVec 32) : FVec F S128 .f32 := k0_pay39 (s_v123 x a)
def s_v147 (x : Vec F S128x64x64 .f32) (a : BitVec 32) : FVec F S128 .f32 := k0_pay40 (s_v124 x a)
def s_v154 (x : Vec F S128x64x64 .f32) (a : BitVec 32) : FVec F S128 .f32 := k0_pay41 (s_v125 x a)
def s_v161 (x : Vec F S128x64x64 .f32) (a : BitVec 32) : FVec F S128 .f32 := k0_pay42 (s_v126 x a)
def s_v168 (x : Vec F S128x64x64 .f32) (a : BitVec 32) : FVec F S128 .f32 := k0_pay43 (s_v127 x a)
def s_v170 (x : Vec F S128x64x64 .f32) (a : BitVec 32) : FVec F S128 .f32 := k0_pay44 (s_v86 x a)
def s_v175 (x : Vec F S128x64x64 .f32) (a : BitVec 32) : FVec F S128 .f32 := k0_pay45 (s_v170 x a)
def s_v177 (x : Vec F S128x64x64 .f32) (a : BitVec 32) : IVec S128 1 := k0_pay46 (s_v129 x a)
def s_v179 (x : Vec F S128x64x64 .f32) (a : BitVec 32) : IVec S128 1 := k0_pay47 (s_v130 x a)
def s_v181 (x : Vec F S128x64x64 .f32) (a : BitVec 32) : IVec S128 1 := k0_pay48 (s_v131 x a)
def s_v183 (x : Vec F S128x64x64 .f32) (a : BitVec 32) : IVec S128 1 := k0_pay49 (s_v132 x a)
def s_v185 (x : Vec F S128x64x64 .f32) (a : BitVec 32) : IVec S128 1 := k0_pay50 (s_v133 x a)
def s_v187 (x : Vec F S128x64x64 .f32) (a : BitVec 32) : IVec S128 1 := k0_pay51 (s_v121 x a)
def s_v204 (x : Vec F S128x64x64 .f32) (a : BitVec 32) : FVec F S128 .f32 := k0_pay52 (s_v121 x a) (s_v129 x a) (s_v130 x a) (s_v131 x a) (s_v132 x a) (s_v133 x a) (s_v140 x a) (s_v147 x a) (s_v154 x a) (s_v161 x a) (s_v168 x a) (s_v170 x a)
def s_v206 (x : Vec F S128x64x64 .f32) (a : BitVec 32) : FVec F S128 .f32 := k0_pay53 (s_v129 x a) (s_v140 x a)
def s_v208 (x : Vec F S128x64x64 .f32) (a : BitVec 32) : FVec F S128 .f32 := k0_pay54 (s_v130 x a) (s_v147 x a)
def s_v210 (x : Vec F S128x64x64 .f32) (a : BitVec 32) : FVec F S128 .f32 := k0_pay55 (s_v131 x a) (s_v154 x a)
def s_v212 (x : Vec F S128x64x64 .f32) (a : BitVec 32) : FVec F S128 .f32 := k0_pay56 (s_v132 x a) (s_v161 x a)
def s_v221 (x : Vec F S128x64x64 .f32) (a : BitVec 32) : FVec F S128 .f32 := k0_pay57 (s_v168 x a) (s_v175 x a) (s_v185 x a) (s_v187 x a) (s_v206 x a) (s_v208 x a) (s_v210 x a) (s_v212 x a)
def s_v236 (x : Vec F S128x64x64 .f32) (a : BitVec 32) : FVec F S128 .f32 := k0_pay58 (s_v140 x a) (s_v168 x a) (s_v175 x a) (s_v185 x a) (s_v187 x a) (s_v204 x a) (s_v206 x a) (s_v208 x a) (s_v210 x a) (s_v212 x a)
def s_v251 (x : Vec F S128x64x64 .f32) (a : BitVec 32) : FVec F S128 .f32 := k0_pay59 (s_v147 x a) (s_v168 x a) (s_v175 x a) (s_v185 x a) (s_v187 x a) (s_v204 x a) (s_v206 x a) (s_v208 x a) (s_v210 x a) (s_v212 x a)
def s_v252 (x : Vec F S128x64x64 .f32) (a : BitVec 32) : FVec F S128 .f32 := k0_pay60 (s_v168 x a) (s_v175 x a) (s_v185 x a) (s_v187 x a) (s_v204 x a) (s_v206 x a) (s_v208 x a) (s_v210 x a) (s_v212 x a)
def s_v253 (x : Vec F S128x64x64 .f32) (a : BitVec 32) : FVec F S128 .f32 := k0_pay61 (s_v154 x a) (s_v204 x a)
def s_v255 (x : Vec F S128x64x64 .f32) (a : BitVec 32) : IVec S128 1 := k0_pay62 (s_v168 x a) (s_v175 x a) (s_v185 x a) (s_v187 x a) (s_v204 x a) (s_v206 x a) (s_v208 x a) (s_v210 x a) (s_v212 x a)
def s_v256 (x : Vec F S128x64x64 .f32) (a : BitVec 32) : FVec F S128 .f32 := k0_pay63 (F := F)
def s_v266 (x : Vec F S128x64x64 .f32) (a : BitVec 32) : FVec F S128 .f32 := k0_pay64 (s_v252 x a) (s_v253 x a) (s_v255 x a) (s_v256 x a)
def s_v281 (x : Vec F S128x64x64 .f32) (a : BitVec 32) : FVec F S128 .f32 := k0_pay65 (s_v161 x a) (s_v204 x a) (s_v221 x a)
def s_v296 (x : Vec F S128x64x64 .f32) (a : BitVec 32) : FVec F S128 .f32 := k0_pay66 (s_v168 x a) (s_v204 x a) (s_v221 x a)
def s_v297 (x : Vec F S128x64x64 .f32) (a : BitVec 32) : FVec F S128 .f32 := k0_pay67 (s_v204 x a) (s_v221 x a)
def s_v298 (x : Vec F S128x64x64 .f32) (a : BitVec 32) : FVec F S128 .f32 := k0_pay68 (s_v175 x a) (s_v204 x a)
def s_v299 (x : Vec F S128x64x64 .f32) (a : BitVec 32) : FVec F S128 .f32 := k0_pay69 (F := F)
def s_v311 (x : Vec F S128x64x64 .f32) (a : BitVec 32) : FVec F S128 .f32 := k0_pay70 (s_v297 x a) (s_v298 x a) (s_v299 x a)
def s_v326 (x : Vec F S128x64x64 .f32) (a : BitVec 32) : FVec F S128 .f32 := k0_pay71 (s_v121 x a) (s_v129 x a) (s_v130 x a) (s_v131 x a) (s_v132 x a) (s_v133 x a) (s_v236 x a) (s_v251 x a) (s_v266 x a) (s_v281 x a) (s_v296 x a) (s_v297 x a) (s_v298 x a) (s_v299 x a)
def s_v343 (x : Vec F S128x64x64 .f32) (a : BitVec 32) : FVec F S128 .f32 := k0_pay72 (s_v177 x a) (s_v179 x a) (s_v181 x a) (s_v183 x a) (s_v185 x a) (s_v187 x a) (s_v236 x a) (s_v251 x a) (s_v266 x a) (s_v281 x a) (s_v296 x a) (s_v297 x a) (s_v298 x a) (s_v299 x a)
def s_v345 (x : Vec F S128x64x64 .f32) (a : BitVec 32) : FVec F S128 .f32 := k0_pay73 (s_v177 x a) (s_v236 x a)
def s_v360 (x : Vec F S128x64x64 .f32) (a : BitVec 32) : FVec F S128 .f32 := k0_pay74 (s_v179 x a) (s_v181 x a) (s_v183 x a) (s_v185 x a) (s_v187 x a) (s_v251 x a) (s_v266 x a) (s_v281 x a) (s_v296 x a) (s_v311 x a) (s_v345 x a)
def s_v362 (x : Vec F S128x64x64 .f32) (a : BitVec 32) : FVec F S128 .f32 := k0_pay75 (s_v179 x a) (s_v181 x a) (s_v183 x a) (s_v185 x a) (s_v187 x a) (s_v251 x a) (s_v266 x a) (s_v281 x a) (s_v296 x a) (s_v311 x a) (s_v326 x a) (s_v345 x a)
def s_v378 (x : Vec F S128x64x64 .f32) (a : BitVec 32) : FVec F S128 .f32 := k0_pay76 (s_v179 x a) (s_v181 x a) (s_v183 x a) (s_v185 x a) (s_v187 x a) (s_v236 x a) (s_v251 x a) (s_v266 x a) (s_v281 x a) (s_v296 x a) (s_v311 x a) (s_v326 x a) (s_v343 x a) (s_v345 x a)
def s_v379 (x : Vec F S128x64x64 .f32) (a : BitVec 32) : FVec F S128 .f32 := k0_pay77 (s_v179 x a) (s_v181 x a) (s_v183 x a) (s_v185 x a) (s_v187 x a) (s_v251 x a) (s_v266 x a) (s_v281 x a) (s_v296 x a) (s_v311 x a) (s_v343 x a) (s_v345 x a)
def s_v389 (x : Vec F S128x64x64 .f32) (a : BitVec 32) : FVec F S128 .f32 := k0_pay78 (s_v179 x a) (s_v181 x a) (s_v183 x a) (s_v185 x a) (s_v187 x a) (s_v251 x a) (s_v266 x a) (s_v281 x a) (s_v296 x a) (s_v311 x a) (s_v343 x a) (s_v345 x a)
def s_cst_144 (x : Vec F S128x64x64 .f32) (a : BitVec 32) : F .f32 := (Scalar.ofBits .f32 0x00000000#32)
def s_v394 (x : Vec F S128x64x64 .f32) (a : BitVec 32) : FVec F S128 .f32 := k0_pay79 (s_v362 x a) (s_v379 x a) (s_v389 x a) (s_cst_144 x a)
def s_v410 (x : Vec F S128x64x64 .f32) (a : BitVec 32) : FVec F S128 .f32 := k0_pay80 (s_v266 x a) (s_v343 x a) (s_v360 x a) (s_v362 x a)
def s_v426 (x : Vec F S128x64x64 .f32) (a : BitVec 32) : FVec F S128 .f32 := k0_pay81 (s_v281 x a) (s_v343 x a) (s_v360 x a) (s_v362 x a)
def s_v427 (x : Vec F S128x64x64 .f32) (a : BitVec 32) : FVec F S128 .f32 := k0_pay82 (s_v343 x a) (s_v360 x a)
def s_v433 (x : Vec F S128x64x64 .f32) (a : BitVec 32) : FVec F S128 .f32 := k0_pay83 (s_v296 x a) (s_v343 x a) (s_v360 x a)
def s_cst_160 (x : Vec F S128x64x64 .f32) (a : BitVec 32) : F .f32 := (Scalar.ofBits .f32 0x3F800000#32)
def s_v442 (x : Vec F S128x64x64 .f32) (a : BitVec 32) : FVec F S128 .f32 := k0_pay84 (s_v362 x a) (s_v427 x a) (s_v433 x a) (s_cst_160 x a)
def s_v458 (x : Vec F S128x64x64 .f32) (a : BitVec 32) : FVec F S128 .f32 := k0_pay85 (s_v311 x a) (s_v343 x a) (s_v360 x a) (s_v362 x a)
def s_v468 (x : Vec F S128x64x64 .f32) (a : BitVec 32) : FVec F S128 .f32 := k0_pay86 (F := F) a
def s_v473 (x : Vec F S128x64x64 .f32) (a : BitVec 32) : FVec F S128 .f32 := k0_pay87 (s_v39 x a)
def s_v475 (x : Vec F S128x64x64 .f32) (a : BitVec 32) : IVec S128 1 := k0_pay88 (s_v42 x a)
def s_cst_178 (x : Vec F S128x64x64 .f32) (a : BitVec 32) : F .f32 := (Scalar.ofBits .f32 0x3F800000#32)
def s_v501 (x : Vec F S128x64x64 .f32) (a : BitVec 32) : FVec F S128 .f32 := k0_pay93 (s_v129 x a) (s_v468 x a) (s_v473 x a)
def s_v503 (x : Vec F S128x64x64 .f32) (a : BitVec 32) : FVec F S128 .f32 := k0_pay94 (s_v130 x a) (s_v468 x a) (s_v473 x a) (s_v475 x a) (s_cst_178 x a)
def s_v505 (x : Vec F S128x64x64 .f32) (a : BitVec 32) : FVec F S128 .f32 := k0_pay95 (s_v45 x a) (s_v131 x a) (s_v468 x a) (s_v475 x a) (s_cst_178 x a)
def s_v507 (x : Vec F S128x64x64 .f32) (a : BitVec 32) : FVec F S128 .f32 := k0_pay96 (s_v45 x a) (s_v48 x a) (s_v132 x a) (s_v468 x a)
def s_v509 (x : Vec F S128x64x64 .f32) (a : BitVec 32) : FVec F S128 .f32 := k0_pay97 (s_v48 x a) (s_v51 x a) (s_v133 x a) (s_v468 x a)
def s_v511 (x : Vec F S128x64x64 .f32) (a : BitVec 32) : FVec F S128 .f32 := k0_pay98 (s_v51 x a) (s_v121 x a) (s_v468 x a)
def s_v513 (x : Vec F S128x64x64 .f32) (a : BitVec 32) : IVec S128 1 := k0_pay99 (s_v129 x a) (s_v468 x a) (s_v473 x a)
def s_v515 (x : Vec F S128x64x64 .f32) (a : BitVec 32) : IVec S128 1 := k0_pay100 (s_v130 x a) (s_v468 x a) (s_v473 x a) (s_v475 x a) (s_cst_178 x a)
def s_v517 (x : Vec F S128x64x64 .f32) (a : BitVec 32) : IVec S128 1 := k0_pay101 (s_v45 x a) (s_v131 x a) (s_v468 x a) (s_v475 x a) (s_cst_178 x a)
def s_v519 (x : Vec F S128x64x64 .f32) (a : BitVec 32) : IVec S128 1 := k0_pay102 (s_v45 x a) (s_v48 x a) (s_v132 x a) (s_v468 x a)
def s_cst_194 (x : Vec F S128x64x64 .f32) (a : BitVec 32) : F .f32 := (Scalar.ofBits .f32 0x00000000#32)
def s_v557 (x : Vec F S128x64x64 .f32) (a : BitVec 32) : FVec F S128 .f32 := k0_pay105 (s_v378 x a) (s_v394 x a) (s_v410 x a) (s_v426 x a) (s_v442 x a) (s_v458 x a) (s_v509 x a) (s_v511 x a) (s_v513 x a) (s_v515 x a) (s_v517 x a) (s_v519 x a) (s_cst_194 x a)
def s_v562 (x : Vec F S128x64x64 .f32) (a : BitVec 32) : FVec F S128 .f32 := k0_pay106 (s_v378 x a) (s_v394 x a) (s_v410 x a) (s_v426 x a) (s_v442 x a) (s_v458 x a) (s_v468 x a) (s_v509 x a) (s_v511 x a) (s_v513 x a) (s_v515 x a) (s_v517 x a) (s_v519 x a) (s_cst_194 x a)
def s_v563 (x : Vec F S128x64x64 .f32) (a : BitVec 32) : FVec F S128 .f32 := k0_pay107 (F := F)
def s_v567 (x : Vec F S128x64x64 .f32) (a : BitVec 32) : FVec F S128 .f32 := k0_pay108 (s_v468 x a) (s_v557 x a) (s_v563 x a)
def s_v584 (x : Vec F S128x64x64 .f32) (a : BitVec 32) : FVec F S128 .f32 := k0_pay109 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v563 x a)
def s_v600 (x : Vec F S128x64x64 .f32) (a : BitVec 32) : FVec F S128 .f32 := k0_pay110 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a) (s_v563 x a)
def s_v601 (x : Vec F S128x64x64 .f32) (a : BitVec 32) : FVec F S128 .f32 := k0_pay111 (s_v468 x a) (s_v557 x a) (s_v562 x a) (s_v563 x a)
def s_v609 (x : Vec F S128x64x64 .f32) (a : BitVec 32) : FVec F S128 .f32 := k0_pay112 (s_v394 x a) (s_v468 x a) (s_v557 x a) (s_v562 x a) (s_v563 x a)
def s_v610 (x : Vec F S128x64x64 .f32) (a : BitVec 32) : FVec F S128 .f32 := k0_pay113 (F := F)
def s_v616 (x : Vec F S128x64x64 .f32) (a : BitVec 32) : FVec F S128 .f32 := k0_pay114 (s_v584 x a) (s_v601 x a) (s_v609 x a) (s_v610 x a)
def s_v632 (x : Vec F S128x64x64 .f32) (a : BitVec 32) : FVec F S128 .f32 := k0_pay115 (s_v410 x a) (s_v562 x a) (s_v567 x a) (s_v584 x a)
def s_v648 (x : Vec F S128x64x64 .f32) (a : BitVec 32) : FVec F S128 .f32 := k0_pay116 (s_v426 x a) (s_v562 x a) (s_v567 x a) (s_v584 x a)
def s_v649 (x : Vec F S128x64x64 .f32) (a : BitVec 32) : FVec F S128 .f32 := k0_pay117 (s_v562 x a) (s_v567 x a)
def s_v650 (x : Vec F S128x64x64 .f32) (a : BitVec 32) : FVec F S128 .f32 := k0_pay118 (s_v442 x a) (s_v562 x a)
def s_v654 (x : Vec F S128x64x64 .f32) (a : BitVec 32) : FVec F S128 .f32 := k0_pay119 (s_v562 x a) (s_v567 x a)
def s_v664 (x : Vec F S128x64x64 .f32) (a : BitVec 32) : FVec F S128 .f32 := k0_pay120 (s_v584 x a) (s_v649 x a) (s_v650 x a) (s_v654 x a)
def s_v680 (x : Vec F S128x64x64 .f32) (a : BitVec 32) : FVec F S128 .f32 := k0_pay121 (s_v458 x a) (s_v562 x a) (s_v567 x a) (s_v584 x a)
def s_v704 (x : Vec F S128x64x64 .f32) (a : BitVec 32) : FVec F S128x64x64 .f32 := k0_pay122 (s_v18 x a) (s_v39 x a) (s_v42 x a) (s_v45 x a) (s_v600 x a) (s_v616 x a) (s_v632 x a) (s_v648 x a)
/-- What the block adds to the summed map, -/
def blk (x : Vec F S128x64x64 .f32) (a : BitVec 32) : FVec F S64x64 .f32 := k0_pay123 (s_v18 x a) (s_v48 x a) (s_v51 x a) (s_v664 x a) (s_v680 x a) (s_v704 x a)
/-- and the corner value of its first channel. -/
def edge (x : Vec F S128x64x64 .f32) (a : BitVec 32) : Vec F S1x1 .f32 := k0_pay124 (s_v39 x a) (s_v42 x a) (s_v45 x a) (s_v48 x a) (s_v51 x a) (s_v600 x a) (s_v616 x a) (s_v632 x a) (s_v648 x a) (s_v664 x a) (s_v680 x a)

variable (i : grid0.Coords) (arg1 : Memref sig .tc .vmem S128x64x64 .f32) (harg1 : arg1.IsWhole) (arg2 : Memref sig .tc .vmem S64x64 .f32) (harg2 : arg2.IsWhole) (arg3 : Memref sig .tc .vmem S1x1 .f32) (harg3 : arg3.IsWhole)

theorem part1_at :
    k0_part1 (F := F) i arg1 harg1 arg2 harg2 arg3 harg3 = Prog.lift (.load arg1 (Rect.unit (s := S128x64x64) ![0, 0, 0] S128x64x64.size inb_S128x64x64_S128x64x64_0_0_0).toLoadRect (View.loadsAt_vmem h_S128x64x64)) >>= fun x => pure ⟨BitVec.ofNat 32 (i 0).val, s_v18 x (BitVec.ofNat 32 (i 0).val), s_v19 x (BitVec.ofNat 32 (i 0).val), s_v21 x (BitVec.ofNat 32 (i 0).val), s_v24 x (BitVec.ofNat 32 (i 0).val), s_v27 x (BitVec.ofNat 32 (i 0).val), s_v30 x (BitVec.ofNat 32 (i 0).val), s_v33 x (BitVec.ofNat 32 (i 0).val), s_v36 x (BitVec.ofNat 32 (i 0).val), s_v39 x (BitVec.ofNat 32 (i 0).val), s_v41 x (BitVec.ofNat 32 (i 0).val)⟩ := by
  rw [k0_part1_eq_skeleton]; rfl

theorem part2_at (x : Vec F S128x64x64 .f32) (a : BitVec 32) :
    k0_part2 (F := F) i arg1 harg1 arg2 harg2 arg3 harg3 (s_v18 x a) (s_v19 x a) (s_v21 x a) (s_v24 x a) (s_v27 x a) (s_v30 x a) (s_v33 x a) (s_v36 x a) (s_v41 x a) = pure ⟨s_v42 x a, s_v45 x a, s_v48 x a, s_v51 x a, s_v58 x a, s_v65 x a, s_v72 x a, s_v79 x a, s_v82 x a, s_v83 x a, s_v84 x a⟩ := by
  rw [k0_part2_eq_skeleton]; rfl

theorem part3_at (x : Vec F S128x64x64 .f32) (a : BitVec 32) :
    k0_part3 (F := F) i arg1 harg1 arg2 harg2 arg3 harg3 (s_v18 x a) (s_v39 x a) (s_v42 x a) (s_v45 x a) (s_v48 x a) (s_v51 x a) (s_v58 x a) (s_v65 x a) (s_v72 x a) (s_v79 x a) (s_v82 x a) (s_v83 x a) (s_v84 x a) = pure ⟨s_v86 x a, s_v93 x a, s_v100 x a, s_v107 x a, s_v114 x a, s_v121 x a, s_v123 x a, s_v124 x a, s_v125 x a, s_v126 x a, s_v127 x a⟩ := by
  rw [k0_part3_eq_skeleton]; rfl

theorem part4_at (x : Vec F S128x64x64 .f32) (a : BitVec 32) :
    k0_part4 (F := F) i arg1 harg1 arg2 harg2 arg3 harg3 (s_v86 x a) (s_v93 x a) (s_v100 x a) (s_v107 x a) (s_v114 x a) (s_v121 x a) (s_v123 x a) (s_v124 x a) (s_v125 x a) (s_v126 x a) (s_v127 x a) = pure ⟨s_v129 x a, s_v130 x a, s_v131 x a, s_v132 x a, s_v133 x a, s_v140 x a, s_v147 x a, s_v154 x a, s_v161 x a, s_v168 x a, s_v170 x a⟩ := by
  rw [k0_part4_eq_skeleton]; rfl

theorem part5_at (x : Vec F S128x64x64 .f32) (a : BitVec 32) :
    k0_part5 (F := F) i arg1 harg1 arg2 harg2 arg3 harg3 (s_v121 x a) (s_v129 x a) (s_v130 x a) (s_v131 x a) (s_v132 x a) (s_v133 x a) (s_v140 x a) (s_v147 x a) (s_v154 x a) (s_v161 x a) (s_v168 x a) (s_v170 x a) = pure ⟨s_v175 x a, s_v177 x a, s_v179 x a, s_v181 x a, s_v183 x a, s_v185 x a, s_v187 x a, s_v204 x a, s_v206 x a, s_v208 x a, s_v210 x a, s_v212 x a⟩ := by
  rw [k0_part5_eq_skeleton]; rfl

theorem part6_at (x : Vec F S128x64x64 .f32) (a : BitVec 32) :
    k0_part6 (F := F) i arg1 harg1 arg2 harg2 arg3 harg3 (s_v140 x a) (s_v147 x a) (s_v154 x a) (s_v168 x a) (s_v175 x a) (s_v185 x a) (s_v187 x a) (s_v204 x a) (s_v206 x a) (s_v208 x a) (s_v210 x a) (s_v212 x a) = pure ⟨s_v221 x a, s_v236 x a, s_v251 x a, s_v252 x a, s_v253 x a, s_v255 x a, s_v256 x a⟩ := by
  rw [k0_part6_eq_skeleton]; rfl

theorem part7_at (x : Vec F S128x64x64 .f32) (a : BitVec 32) :
    k0_part7 (F := F) i arg1 harg1 arg2 harg2 arg3 harg3 (s_v161 x a) (s_v168 x a) (s_v175 x a) (s_v204 x a) (s_v221 x a) (s_v252 x a) (s_v253 x a) (s_v255 x a) (s_v256 x a) = pure ⟨s_v266 x a, s_v281 x a, s_v296 x a, s_v297 x a, s_v298 x a, s_v299 x a⟩ := by
  rw [k0_part7_eq_skeleton]; rfl

theorem part8_at (x : Vec F S128x64x64 .f32) (a : BitVec 32) :
    k0_part8 (F := F) i arg1 harg1 arg2 harg2 arg3 harg3 (s_v121 x a) (s_v129 x a) (s_v130 x a) (s_v131 x a) (s_v132 x a) (s_v133 x a) (s_v177 x a) (s_v179 x a) (s_v181 x a) (s_v183 x a) (s_v185 x a) (s_v187 x a) (s_v236 x a) (s_v251 x a) (s_v266 x a) (s_v281 x a) (s_v296 x a) (s_v297 x a) (s_v298 x a) (s_v299 x a) = pure ⟨s_v311 x a, s_v326 x a, s_v343 x a, s_v345 x a⟩ := by
  rw [k0_part8_eq_skeleton]; rfl

theorem part9_at (x : Vec F S128x64x64 .f32) (a : BitVec 32) :
    k0_part9 (F := F) i arg1 harg1 arg2 harg2 arg3 harg3 (s_v179 x a) (s_v181 x a) (s_v183 x a) (s_v185 x a) (s_v187 x a) (s_v236 x a) (s_v251 x a) (s_v266 x a) (s_v281 x a) (s_v296 x a) (s_v311 x a) (s_v326 x a) (s_v343 x a) (s_v345 x a) = pure ⟨s_v360 x a, s_v362 x a, s_v378 x a, s_v379 x a, s_v389 x a, s_cst_144 x a⟩ := by
  rw [k0_part9_eq_skeleton]; rfl

theorem part10_at (x : Vec F S128x64x64 .f32) (a : BitVec 32) :
    k0_part10 (F := F) i arg1 harg1 arg2 harg2 arg3 harg3 (s_v266 x a) (s_v281 x a) (s_v296 x a) (s_v343 x a) (s_v360 x a) (s_v362 x a) (s_v379 x a) (s_v389 x a) (s_cst_144 x a) = pure ⟨s_v394 x a, s_v410 x a, s_v426 x a, s_v427 x a, s_v433 x a, s_cst_160 x a⟩ := by
  rw [k0_part10_eq_skeleton]; rfl

theorem part11_at (x : Vec F S128x64x64 .f32) (a : BitVec 32) :
    k0_part11 (F := F) i arg1 harg1 arg2 harg2 arg3 harg3 a (s_v39 x a) (s_v42 x a) (s_v311 x a) (s_v343 x a) (s_v360 x a) (s_v362 x a) (s_v427 x a) (s_v433 x a) (s_cst_160 x a) = pure ⟨s_v442 x a, s_v458 x a, s_v468 x a, s_v473 x a, s_v475 x a, s_cst_178 x a⟩ := by
  rw [k0_part11_eq_skeleton]; rfl

theorem part12_at (x : Vec F S128x64x64 .f32) (a : BitVec 32) :
    k0_part12 (F := F) i arg1 harg1 arg2 harg2 arg3 harg3 (s_v45 x a) (s_v48 x a) (s_v51 x a) (s_v121 x a) (s_v129 x a) (s_v130 x a) (s_v131 x a) (s_v132 x a) (s_v133 x a) (s_v468 x a) (s_v473 x a) (s_v475 x a) (s_cst_178 x a) = pure ⟨s_v501 x a, s_v503 x a, s_v505 x a, s_v507 x a, s_v509 x a, s_v511 x a, s_v513 x a, s_v515 x a, s_v517 x a, s_v519 x a, s_cst_194 x a⟩ := by
  rw [k0_part12_eq_skeleton]; rfl

theorem part13_at (x : Vec F S128x64x64 .f32) (a : BitVec 32) :
    k0_part13 (F := F) i arg1 harg1 arg2 harg2 arg3 harg3 (s_v378 x a) (s_v394 x a) (s_v410 x a) (s_v426 x a) (s_v442 x a) (s_v458 x a) (s_v468 x a) (s_v509 x a) (s_v511 x a) (s_v513 x a) (s_v515 x a) (s_v517 x a) (s_v519 x a) (s_cst_194 x a) = pure ⟨s_v557 x a, s_v562 x a, s_v563 x a⟩ := by
  rw [k0_part13_eq_skeleton]; rfl

theorem part14_at (x : Vec F S128x64x64 .f32) (a : BitVec 32) :
    k0_part14 (F := F) i arg1 harg1 arg2 harg2 arg3 harg3 (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a) (s_v563 x a) = pure ⟨s_v567 x a, s_v584 x a, s_v600 x a, s_v601 x a, s_v609 x a, s_v610 x a⟩ := by
  rw [k0_part14_eq_skeleton]; rfl

theorem part15_at (x : Vec F S128x64x64 .f32) (a : BitVec 32) :
    k0_part15 (F := F) i arg1 harg1 arg2 harg2 arg3 harg3 (s_v410 x a) (s_v426 x a) (s_v442 x a) (s_v562 x a) (s_v567 x a) (s_v584 x a) (s_v601 x a) (s_v609 x a) (s_v610 x a) = pure ⟨s_v616 x a, s_v632 x a, s_v648 x a, s_v649 x a, s_v650 x a, s_v654 x a⟩ := by
  rw [k0_part15_eq_skeleton]; rfl

theorem part16_at (x : Vec F S128x64x64 .f32) (a : BitVec 32) :
    k0_part16 (F := F) i arg1 harg1 arg2 harg2 arg3 harg3 (s_v18 x a) (s_v39 x a) (s_v42 x a) (s_v45 x a) (s_v458 x a) (s_v562 x a) (s_v567 x a) (s_v584 x a) (s_v600 x a) (s_v616 x a) (s_v632 x a) (s_v648 x a) (s_v649 x a) (s_v650 x a) (s_v654 x a) = pure ⟨s_v664 x a, s_v680 x a, s_v704 x a⟩ := by
  rw [k0_part16_eq_skeleton]; rfl

theorem part17_at :
    k0_part17 (F := F) i arg1 harg1 arg2 harg2 arg3 harg3 = (do
  let x : Vec F S128x64x64 .f32 ← Prog.lift (.load arg1 (Rect.unit (s := S128x64x64) ![0, 0, 0] S128x64x64.size inb_S128x64x64_S128x64x64_0_0_0).toLoadRect (View.loadsAt_vmem h_S128x64x64))
  if k0_h1 : k0_cond1 i = 1#1 then do
    let v741 : Vec F S64x64 .f32 ← Prog.lift (.load arg2 (Rect.unit (s := S64x64) ![0, 0] S64x64.size inb_S64x64_S64x64_0_0).toLoadRect (View.loadsAt_vmem h_S64x64))
    Prog.lift (.store arg2 (Rect.unit (s := S64x64) ![0, 0] S64x64.size inb_S64x64_S64x64_0_0) (blk x (BitVec.ofNat 32 (i 0).val)) Finset.univ (View.stores_vmem_bits_univ h_S64x64 rfl) (.inl rfl))
    let v744 : Vec F S1x1 .f32 ← Prog.lift (.load arg3 (Rect.unit (s := S1x1) ![0, 0] S1x1.size inb_S1x1_S1x1_0_0).toLoadRect (View.loadsAt_vmem h_S1x1))
    Prog.lift (.store arg3 (Rect.unit (s := S1x1) ![0, 0] S1x1.size inb_S1x1_S1x1_0_0) (edge x (BitVec.ofNat 32 (i 0).val)) Finset.univ (View.stores_vmem_bits_univ h_S1x1 rfl) (.inl rfl))
    pure ⟨⟩
  else do
    pure ⟨⟩
  let v738 : BitVec 1 := Scalar.cmpi .ne (BitVec.ofNat 32 (i 0).val) 0#32
  pure ⟨blk x (BitVec.ofNat 32 (i 0).val), v738⟩) := by
  rw [k0_part17_eq_skeleton]
  simp only [k0_part17_skel, part1_at, part2_at, part3_at, part4_at, part5_at, part6_at, part7_at, part8_at, part9_at, part10_at, part11_at, part12_at, part13_at, part14_at, part15_at, part16_at, bind_assoc, pure_bind]
  rfl

/-- The body: the block is read; the first point stores, every later one adds. -/
theorem body_at :
    cc0__stage1_body (F := F) i arg1 harg1 arg2 harg2 arg3 harg3 = (do
  let ⟨v719, v738⟩ : Σ' (v719 : FVec F S64x64 .f32), BitVec 1 ← (do
    let x : Vec F S128x64x64 .f32 ← Prog.lift (.load arg1 (Rect.unit (s := S128x64x64) ![0, 0, 0] S128x64x64.size inb_S128x64x64_S128x64x64_0_0_0).toLoadRect (View.loadsAt_vmem h_S128x64x64))
    if k0_h1 : k0_cond1 i = 1#1 then do
      let v741 : Vec F S64x64 .f32 ← Prog.lift (.load arg2 (Rect.unit (s := S64x64) ![0, 0] S64x64.size inb_S64x64_S64x64_0_0).toLoadRect (View.loadsAt_vmem h_S64x64))
      Prog.lift (.store arg2 (Rect.unit (s := S64x64) ![0, 0] S64x64.size inb_S64x64_S64x64_0_0) (blk x (BitVec.ofNat 32 (i 0).val)) Finset.univ (View.stores_vmem_bits_univ h_S64x64 rfl) (.inl rfl))
      let v744 : Vec F S1x1 .f32 ← Prog.lift (.load arg3 (Rect.unit (s := S1x1) ![0, 0] S1x1.size inb_S1x1_S1x1_0_0).toLoadRect (View.loadsAt_vmem h_S1x1))
      Prog.lift (.store arg3 (Rect.unit (s := S1x1) ![0, 0] S1x1.size inb_S1x1_S1x1_0_0) (edge x (BitVec.ofNat 32 (i 0).val)) Finset.univ (View.stores_vmem_bits_univ h_S1x1 rfl) (.inl rfl))
      pure ⟨⟩
    else do
      pure ⟨⟩
    let v738 : BitVec 1 := Scalar.cmpi .ne (BitVec.ofNat 32 (i 0).val) 0#32
    pure ⟨blk x (BitVec.ofNat 32 (i 0).val), v738⟩)
  if k0_h2 : k0_cond2 i = 1#1 then do
    let v741 : Vec F S64x64 .f32 ← Prog.lift (.load arg2 (Rect.unit (s := S64x64) ![0, 0] S64x64.size inb_S64x64_S64x64_0_0).toLoadRect (View.loadsAt_vmem h_S64x64))
    let v744 : Vec F S64x64 .f32 ← Prog.lift (.load arg2 (Rect.unit (s := S64x64) ![0, 0] S64x64.size inb_S64x64_S64x64_0_0).toLoadRect (View.loadsAt_vmem h_S64x64))
    Prog.lift (.store arg2 (Rect.unit (s := S64x64) ![0, 0] S64x64.size inb_S64x64_S64x64_0_0) (k0_pay1 v719 v741) Finset.univ (View.stores_vmem_bits_univ h_S64x64 rfl) (.inl rfl))
    pure ⟨⟩
  else do
    pure ⟨⟩
  pure ⟨⟩) := by
  rw [cc0__stage1_body_eq_skeleton]
  simp only [cc0__stage1_body_skel, part17_at]

end Cert.KDIdeal.Step
-- ==== Proof.AccKDIdeal.lean ====
/- The layer kernel's run, with what it leaves: after the first grid point the output block holds that point's channel
   sum, after every later one the sum so far plus that point's channel sum; the corner value is stored by the first
   point only. -/
module

public import proofs.«01_k».proof.Proof.StepKDIdeal
public import Idealize.ShloMosaic.Lib.Pipeline.Value
public import Idealize.ShloMosaic.Lib.Quiescent

@[expose] public section

set_option maxRecDepth 16384

noncomputable section

namespace Cert.KDIdeal.Acc

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KDIdeal Cert.KDIdeal.Gen Cert.KDIdeal.Step

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two conditions, by the point -/

theorem hfirst (t : Fin cfg0.N) : k0_cond1 (grid0.coords t) = 1#1 ↔ t.val = 0 :=
  (fun t => by
    have ht : t.val < 3 := Nat.lt_of_lt_of_eq t.isLt N_0
    have e0 : (grid0.coords t 0).val = t.val / 1 % 3 := Pipeline.Grid.coords_val t 0 (by decide) rfl
    simp only [k0_cond1, e0]
    word_cmp
   : ∀ t : Fin grid0.N, k0_cond1 (grid0.coords t) = 1#1 ↔ t.val = 0) t

theorem hlater (t : Fin cfg0.N) : k0_cond2 (grid0.coords t) = 1#1 ↔ 1 ≤ t.val :=
  (fun t => by
    have ht : t.val < 3 := Nat.lt_of_lt_of_eq t.isLt N_0
    have e0 : (grid0.coords t 0).val = t.val / 1 % 3 := Pipeline.Grid.coords_val t 0 (by decide) rfl
    simp only [k0_cond2, e0]
    word_cmp
   : ∀ t : Fin grid0.N, k0_cond2 (grid0.coords t) = 1#1 ↔ 1 ≤ t.val) t

theorem N_eq : cfg0.N = 3 := N_0

/-- The point's number is its coordinate. -/
theorem coord_val (t : Fin cfg0.N) : (grid0.coords t 0).val = t.val :=
  (fun t => by
    have ht : t.val < 3 := Nat.lt_of_lt_of_eq t.isLt N_0
    have e0 : (grid0.coords t 0).val = t.val / 1 % 3 := Pipeline.Grid.coords_val t 0 (by decide) rfl
    omega : ∀ t : Fin grid0.N, (grid0.coords t 0).val = t.val) t

theorem hz2 : (![0, 0] : Fin 2 → Nat) = fun _ => 0 := funext fun a => by fin_cases a <;> rfl
theorem hz3 : (![0, 0, 0] : Fin 3 → Nat) = fun _ => 0 := funext fun a => by fin_cases a <;> rfl

/-! ## The body at a point -/

set_option maxHeartbeats 1000000 in
/-- At the first point: the block's channel sum and the corner value are stored. -/
theorem run_first (c : Dev nD) (i : grid0.Coords) (arg1 : Memref sig .tc .vmem S128x64x64 .f32) (harg1 : arg1.IsWhole) (arg2 : Memref sig .tc .vmem S64x64 .f32) (harg2 : arg2.IsWhole) (arg3 : Memref sig .tc .vmem S1x1 .f32) (harg3 : arg3.IsWhole) (hc0 : k0_cond1 i = 1#1) (hc1 : ¬k0_cond2 i = 1#1)
    (x0 : Vec F S128x64x64 .f32) :
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ (iprop(owns (c : Thread nD τ) arg1 fullShare x0 ∗ owns (c : Thread nD τ) arg2 fullShare (blk x0 (BitVec.ofNat 32 (i 0).val)) ∗ owns (c : Thread nD τ) arg3 fullShare (edge x0 (BitVec.ofNat 32 (i 0).val))) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%d1, %f1, -, H1⟩, ⟨%d2, %f2, -, H2⟩, Hk⟩
    obtain rfl := harg1.eq_unread hf0
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S64x64.size (by rfl))]
      rw [View.canon_unit_zero hz2]
      simp only [View.readAt_eq_ld, harg1.read_unread, View.ld_unit_zero (S := S128x64x64) hz3]
    iexists _; isplitr; swap; · iexact H2
    ipureintro
    rw [View.read_writes_eq_canon _ _ _ (View.cover_of_tiled _ S1x1.size (by rfl))]
    rw [View.canon_unit_zero hz2]
    simp only [View.readAt_eq_ld, harg1.read_unread, View.ld_unit_zero (S := S128x64x64) hz3]

set_option maxHeartbeats 1000000 in
/-- At a later point: the block's channel sum is added to what is there; the corner value is not touched. -/
theorem run_later (c : Dev nD) (i : grid0.Coords) (arg1 : Memref sig .tc .vmem S128x64x64 .f32) (harg1 : arg1.IsWhole) (arg2 : Memref sig .tc .vmem S64x64 .f32) (harg2 : arg2.IsWhole) (arg3 : Memref sig .tc .vmem S1x1 .f32) (harg3 : arg3.IsWhole) (hc0 : ¬k0_cond1 i = 1#1) (hc1 : k0_cond2 i = 1#1)
    (x0 : Vec F S128x64x64 .f32) (y : Vec F S64x64 .f32) (z : Vec F S1x1 .f32) :
      ∀ (E : Set ℕ) (K : PUnit → sProp 𝕄),
        iprop(owns (c : Thread nD τ) arg1 fullShare x0 ∗ owns (c : Thread nD τ) arg2 fullShare y ∗ owns (c : Thread nD τ) arg3 fullShare z
            ∗ (iprop(owns (c : Thread nD τ) arg1 fullShare x0 ∗ owns (c : Thread nD τ) arg2 fullShare (k0_pay1 (blk x0 (BitVec.ofNat 32 (i 0).val)) y) ∗ owns (c : Thread nD τ) arg3 fullShare z) -∗ K ⟨⟩))
          ⊢ wp frame (wpE (defs₀ (F := F)) Variants.none c none) E (cc0__stage1_body i arg1 harg1 arg2 harg2 arg3 harg3) K := by
    intro E K
    rw [body_at]
    unfold owns
    iintro ⟨⟨%f0, %hf0, H0⟩, ⟨%f1, %hf1, H1⟩, H2, Hk⟩
    obtain rfl := harg1.eq_unread hf0
    obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; swap; · iexact H1
      ipureintro
      rw [View.read_writes_eq_canon _ _ _ (View.cover_of_tiled _ S64x64.size (by rfl))]
      rw [View.canon_unit_zero hz2]
      simp only [View.readAt_eq_ld, harg1.read_unread, harg2.read_unread, View.ld_unit_zero (S := S128x64x64) hz3, View.ld_unit_zero (S := S64x64) hz2]
    iexact H2

/-! ## What the output block holds after each point -/

/-- The channel sum of the block at a point. -/
def blkAt (c : Dev nD) (t : Fin cfg0.N) : Vec F S64x64 .f32 := blk (iblk m c 0 t) (BitVec.ofNat 32 (grid0.coords t 0).val)

/-- The sum of the channel sums up to a point, in the points' order. -/
def acc (c : Dev nD) : (n : ℕ) → n < cfg0.N → Vec F S64x64 .f32
  | 0, h => blkAt m c ⟨0, h⟩
  | n + 1, h => k0_pay1 (blkAt m c ⟨n + 1, h⟩) (acc c n (Nat.lt_of_succ_lt h))

/-- The corner value: the first point's. -/
def corner (c : Dev nD) : Vec F S1x1 .f32 := edge (iblk m c 0 t0_0) (BitVec.ofNat 32 (grid0.coords t0_0 0).val)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => acc m c t.val t.isLt
    | ⟨2, _⟩ => corner m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = acc m c t.val t.isLt := by dsimp only [dats]
theorem after0_2 (c : Dev nD) (t : Fin cfg0.N) : (dats m 0 c).after 2 t = corner m c := by dsimp only [dats]

theorem before0_0 (c : Dev nD) (t : Fin cfg0.N) (d) : (dats m 0 c).before 0 t d = iblk m c 0 t :=
  before0_0_of m (dats m 0 c) (A_eq m c 0) (after0_0 m c) t d

/-! Where the outputs are not stored into. -/

theorem live1 (t : Fin cfg0.N) : cfg0.idle 1 (grid0.coords t) = false := by
  show (!(k0_cond1 (grid0.coords t) == 1#1) && !(k0_cond2 (grid0.coords t) == 1#1)) = false
  by_cases h : t.val = 0
  · rw [(hfirst t).mpr h]; rfl
  · rw [(hlater t).mpr (by omega)]; simp
theorem live2 (t : Fin cfg0.N) (h : t.val = 0) : cfg0.idle 2 (grid0.coords t) = false := by
  show (!(k0_cond1 (grid0.coords t) == 1#1)) = false
  rw [(hfirst t).mpr h]; rfl
theorem idle2 (t : Fin cfg0.N) (h : t.val ≠ 0) : cfg0.idle 2 (grid0.coords t) = true := by
  show (!(k0_cond1 (grid0.coords t) == 1#1)) = true
  have : ¬ k0_cond1 (grid0.coords t) = 1#1 := fun e => h ((hfirst t).mp e)
  simpa using this

theorem noflush1 (t : Fin cfg0.N) (h : t.val + 1 < 3) : (cfg0.win 1).flush t = false := by
  by_contra hc
  have := (flush0_1 t).mp (by simpa using hc)
  omega
theorem noflush2 (t : Fin cfg0.N) (h : t.val + 1 < 3) : (cfg0.win 2).flush t = false := by
  by_contra hc
  have := (flush0_2 t).mp (by simpa using hc)
  omega

theorem kept_eq {c' : Dev nD} (dat : Dat τ (Elt F) Unit ℕ (UR sig nD τ) ℕ cfg0 c') (w : Fin cfg0.W)
    (hclip : ∀ (i : cfg0.grid.Coords) a, (cfg0.win w).clip i a = none) (t : Fin cfg0.N) (d) : dat.kept w t d = dat.after w t := by
  unfold Dat.kept
  rw [Pipeline.fill_of_clip_none w _ (hclip _) d (dat.after w _), Window.fill_cut]

/-- At a later point the output block holds the sum so far, -/
theorem before0_1 (c : Dev nD) (n : ℕ) (h : n + 1 < cfg0.N) (d) : (dats m 0 c).before 1 ⟨n + 1, h⟩ d = acc m c n (Nat.lt_of_succ_lt h) := by
  have hN := N_eq
  rw [(dats m 0 c).before_of_pos 1 ⟨n + 1, h⟩ (Nat.succ_ne_zero n) ((cfg0.win 1).fetch_out rfl _), if_neg (by
    rw [noflush1]; · exact Bool.false_ne_true
    · dsimp only; omega)]
  unfold Dat.left
  rw [live1]
  exact (kept_eq (dats m 0 c) 1 (fun _ _ => rfl) _ d).trans (after0_1 m c _)

/-- and the corner's block the first point's value. -/
theorem before0_2 (c : Dev nD) (d) : ∀ (n : ℕ) (h : n + 1 < cfg0.N), (dats m 0 c).before 2 ⟨n + 1, h⟩ d = corner m c
  | n, h => by
    have hN := N_eq
    rw [(dats m 0 c).before_of_pos 2 ⟨n + 1, h⟩ (Nat.succ_ne_zero n) ((cfg0.win 2).fetch_out rfl _), if_neg (by
      rw [noflush2]; · exact Bool.false_ne_true
      · dsimp only; omega)]
    unfold Dat.left
    cases n with
    | zero =>
      rw [live2 _ rfl]
      exact (kept_eq (dats m 0 c) 2 (fun _ _ => rfl) _ d).trans (after0_2 m c _)
    | succ k =>
      rw [idle2 _ (Nat.succ_ne_zero k)]
      exact before0_2 c d k _

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves0 (c : Dev nD) (t : Fin cfg0.N) : (dats m 0 c).leavesExact 0 t = owns (c : Thread nD τ) (st0_0 t) fullShare (iblk m c 0 t) := by
  rw [← after0_0]
theorem leaves1 (c : Dev nD) (t : Fin cfg0.N) : (dats m 0 c).leavesExact 1 t = owns (c : Thread nD τ) (st0_1 t) fullShare (acc m c t.val t.isLt) := by
  rw [← after0_1]; unfold Dat.leavesExact; rw [show cfg0.idle 1 (cfg0.grid.coords t) = false from live1 t]
theorem leaves2 (c : Dev nD) (t : Fin cfg0.N) : owns (c : Thread nD τ) (st0_2 t) fullShare (corner m c) ⊢ (dats m 0 c).leavesExact 2 t := by
  by_cases h : t.val = 0
  · rw [← after0_2 m c t]; unfold Dat.leavesExact; rw [show cfg0.idle 2 (cfg0.grid.coords t) = false from live2 t h]
  · cases hf : (cfg0.win 2).flush t with
    | true => rw [← after0_2 m c t]; unfold Dat.leavesExact; rw [show cfg0.idle 2 (cfg0.grid.coords t) = true from idle2 t h, hf]
    | false =>
      rw [(dats m 0 c).leavesExact_idle 2 t (idle2 t h) hf]
      obtain ⟨_ | k, ht⟩ := t
      · exact absurd rfl h
      iintro H
      iexists (corner m c)
      rw [before0_2]
      iexact H

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl, leaves0, leaves1]
  have hN : t.val < 3 := lt_of_lt_of_eq t.isLt N_eq
  by_cases h0 : t.val = 0
  · obtain ⟨_ | k, ht⟩ := t
    swap; · exact absurd h0 (Nat.succ_ne_zero k)
    iintro ⟨HΦ, Ho, ⟨%d0, H0⟩, ⟨%d1, H1⟩, ⟨%d2, H2⟩⟩
    iapply ((run_first c (grid0.coords _) _ _ _ _ _ _ ((hfirst _).mpr rfl) (fun h => absurd ((hlater _).mp h) (Nat.not_succ_le_zero 0)) (iblk m c 0 _)) Set.univ _)
    isplitl [H0]; · iexact H0
    isplitl [H1]; · iexists _; iexact H1
    isplitl [H2]; · iexists _; iexact H2
    iintro ⟨H0, H1, H2⟩
    isplitl [HΦ]; · iexact HΦ
    isplitl [Ho]; · iexact Ho
    isplitl [H0]; · iexact H0
    isplitl [H1]; · iexact H1
    iapply (leaves2 m c ⟨0, ht⟩)
    iexact H2
  · obtain ⟨_ | k, ht⟩ := t
    · exact absurd rfl h0
    simp only [before0_1, before0_2]
    iintro ⟨HΦ, Ho, ⟨%d0, H0⟩, ⟨%d1, H1⟩, ⟨%d2, H2⟩⟩
    iapply ((run_later c (grid0.coords _) _ _ _ _ _ _ (fun h => h0 ((hfirst _).mp h)) ((hlater _).mpr (by dsimp only; omega)) (iblk m c 0 _) (acc m c k _) (corner m c)) Set.univ _)
    isplitl [H0]; · iexact H0
    isplitl [H1]; · iexact H1
    isplitl [H2]; · iexact H2
    iintro ⟨H0, H1, H2⟩
    isplitl [HΦ]; · iexact HΦ
    isplitl [Ho]; · iexact Ho
    isplitl [H0]; · iexact H0
    isplitl [H1]; · iexact H1
    iapply (leaves2 m c ⟨k + 1, ht⟩)
    iexact H2

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

/-- Every execution ends, with the argument unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

/-! ## The result arrays -/

/-- The first result: the sum over all points. -/
abbrev sums (c : Dev nD) : Vec F S64x64 .f32 := acc m c (3 - 1) (by rw [N_eq]; decide)

theorem flushed_1 (c : Dev nD) (t : Fin cfg0.N) (hf : (cfg0.win 1).flush t = true) :
    (dats m 0 c).flushed 1 t = ((cfg0.win 1).blk t).view.read (Elt F) (sums m c) := by
  have hN := N_eq
  have h3 : t.val = 3 - 1 := by have := (flush0_1 t).mp hf; have := t.isLt; omega
  obtain rfl : t = t0_2 := Fin.ext h3
  show (cfg0.win 1).cut (grid0.coords t0_2) ((dats m 0 c).after 1 t0_2) = _
  rw [after0_1]
  have hz' : (fun a => win0_1.index t0_2 a * main_v0_0.ty.shape.size a) = fun _ => 0 := funext fun a => by fin_cases a <;> decide
  exact (Memref.read_access_unit_zero (Elt F) main_v0_0 hz' (fun a => by rw [congrFun hz' a]; simp) (sums m c)).symm

theorem flushed_2 (c : Dev nD) (t : Fin cfg0.N) (hf : (cfg0.win 2).flush t = true) :
    (dats m 0 c).flushed 2 t = ((cfg0.win 2).blk t).view.read (Elt F) (corner m c) := by
  have hN := N_eq
  have h3 : t.val = 3 - 1 := by have := (flush0_2 t).mp hf; have := t.isLt; omega
  obtain rfl : t = t0_2 := Fin.ext h3
  show (cfg0.win 2).cut (grid0.coords t0_2) ((dats m 0 c).after 2 t0_2) = _
  rw [after0_2]
  have hz' : (fun a => win0_2.index t0_2 a * main_v0_1.ty.shape.size a) = fun _ => 0 := funext fun a => by fin_cases a <;> decide
  exact (Memref.read_access_unit_zero (Elt F) main_v0_1 hz' (fun a => by rw [congrFun hz' a]; simp) (corner m c)).symm

theorem final_1 (c : Dev nD) : (dats m 0 c).arrAt 1 cfg0.N = sums m c :=
  (dats m 0 c).arrAt_eq_of_cover 1 (sums m c) (flushed_1 m c) fun i =>
    ⟨t0_2, (flush0_1 t0_2).mpr rfl, by
      show i ∈ ((View.whole main_v0_0).slice (win0_1.rect t0_2)).set
      rw [View.set_slice_whole, Rect.mem_set_unit]
      intro a
      have h0 : (i 0 : Nat) < 64 := (i 0).isLt
      have h1 : (i 1 : Nat) < 64 := (i 1).isLt
      match a with
      | ⟨0, _⟩ => show win0_1.index t0_2 0 * win0_1.size 0 ≤ (i 0 : Nat) ∧ (i 0 : Nat) < win0_1.index t0_2 0 * win0_1.size 0 + win0_1.xsize (grid0.coords t0_2) 0
                  rw [show win0_1.index t0_2 0 * win0_1.size 0 = 0 from by decide +kernel, show win0_1.xsize (grid0.coords t0_2) 0 = 64 from by decide +kernel]; omega
      | ⟨1, _⟩ => show win0_1.index t0_2 1 * win0_1.size 1 ≤ (i 1 : Nat) ∧ (i 1 : Nat) < win0_1.index t0_2 1 * win0_1.size 1 + win0_1.xsize (grid0.coords t0_2) 1
                  rw [show win0_1.index t0_2 1 * win0_1.size 1 = 0 from by decide +kernel, show win0_1.xsize (grid0.coords t0_2) 1 = 64 from by decide +kernel]; omega⟩

theorem final_2 (c : Dev nD) : (dats m 0 c).arrAt 2 cfg0.N = corner m c :=
  (dats m 0 c).arrAt_eq_of_cover 2 (corner m c) (flushed_2 m c) fun i =>
    ⟨t0_2, (flush0_2 t0_2).mpr rfl, by
      show i ∈ ((View.whole main_v0_1).slice (win0_2.rect t0_2)).set
      rw [View.set_slice_whole, Rect.mem_set_unit]
      intro a
      have h0 : (i 0 : Nat) < 1 := (i 0).isLt
      have h1 : (i 1 : Nat) < 1 := (i 1).isLt
      match a with
      | ⟨0, _⟩ => show win0_2.index t0_2 0 * win0_2.size 0 ≤ (i 0 : Nat) ∧ (i 0 : Nat) < win0_2.index t0_2 0 * win0_2.size 0 + win0_2.xsize (grid0.coords t0_2) 0
                  rw [show win0_2.index t0_2 0 * win0_2.size 0 = 0 from by decide +kernel, show win0_2.xsize (grid0.coords t0_2) 0 = 1 from by decide +kernel]; omega
      | ⟨1, _⟩ => show win0_2.index t0_2 1 * win0_2.size 1 ≤ (i 1 : Nat) ∧ (i 1 : Nat) < win0_2.index t0_2 1 * win0_2.size 1 + win0_2.xsize (grid0.coords t0_2) 1
                  rw [show win0_2.index t0_2 1 * win0_2.size 1 = 0 from by decide +kernel, show win0_2.xsize (grid0.coords t0_2) 1 = 1 from by decide +kernel]; omega⟩

/-- The run, with both results. -/
theorem run : θ_run defs (onTc (τ := τ) (main (F := F))) ⟨m, fun _ => 0, ρ⟩ fun r => ∀ c : Dev nD,
      r.2.mem ((c : Thread nD τ).loc main_v0_0) = sums m c
      ∧ r.2.mem ((c : Thread nD τ).loc main_v0_1) = corner m c
      ∧ r.2.mem ((c : Thread nD τ).loc main_arg0) = m ((c : Thread nD τ).loc main_arg0) :=
  (θ_run defs _ _).mono (fun _ h c => ⟨((h c).1 1).trans (final_1 m c), ((h c).1 2).trans (final_2 m c), ((h c).1 0).trans ((dats m 0 c).arrAt_in 0 rfl _)⟩)
    (run_main m ρ)

end Cert.KDIdeal.Acc
-- ==== Proof.Rarity.lean ====
/- The rarity map of one channel, over any finite set of pixels: as the reference computes it, pixel by pixel, and as
   the kernel computes it, from six counts and a six-entry table. `ktab_eq` says the two agree. -/
module

public import Idealize.ShloMosaic.PureOps.Ideal

@[expose] public section

noncomputable section

namespace Cert.Rarity

open Idealize.ShloMosaic

/-! ### Constants -/

theorem w_zero : Ideal.ofBits .f32 0x00000000#32 = 0 := by simp [Ideal.ofBits, Ideal.ieee]
theorem w_one : Ideal.ofBits .f32 0x3F800000#32 = 1 := by
  simp [Ideal.ofBits, Ideal.ieee, -EReal.coe_mul]; norm_num
theorem w_256 : Ideal.ofBits .f32 0x43800000#32 = ((256 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_512th : Ideal.ofBits .f32 0x3B000000#32 = ((1 / 512 : ℝ) : EReal) := by
  simp [Ideal.ofBits, Ideal.ieee, -EReal.coe_mul]; norm_num
theorem w_256th : Ideal.ofBits .f32 0x3B800000#32 = ((1 / 256 : ℝ) : EReal) := by
  simp [Ideal.ofBits, Ideal.ieee, -EReal.coe_mul]; norm_num
theorem w_six : Ideal.ofBits .f32 0x40C00000#32 = ((6 : ℝ) : EReal) := by
  simp [Ideal.ofBits, Ideal.ieee, -EReal.coe_mul]; norm_num
theorem w_top : Ideal.ofBits .f32 0x7F800000#32 = ⊤ := by simp [Ideal.ofBits, Ideal.ieee]
theorem w_bot : Ideal.ofBits .f32 0xFF800000#32 = ⊥ := by simp [Ideal.ofBits, Ideal.ieee]

/-- The kernel's stand-in for "no pixel in this bin" in a minimum, and its negative for a maximum. -/
def BIG : EReal := Ideal.ofBits .f32 0x7F61B1E6#32
def LOW : EReal := Ideal.ofBits .f32 0xFF61B1E6#32
/-- The constant both sides add before the logarithm. -/
def EPS : EReal := Ideal.ofBits .f32 0x38D1B717#32

theorem big_ge : ((100000 : ℝ) : EReal) ≤ BIG := by
  have h : BIG = (((0xE1B1E6 : ℝ) * 2 ^ (104 : ℕ) : ℝ) : EReal) := by
    simp [BIG, Ideal.ofBits, Ideal.ieee, -EReal.coe_mul]
  rw [h, EReal.coe_le_coe_iff]; norm_num

theorem low_le : LOW ≤ ((-100000 : ℝ) : EReal) := by
  have h : LOW = ((-((0xE1B1E6 : ℝ) * 2 ^ (104 : ℕ)) : ℝ) : EReal) := by
    simp [LOW, Ideal.ofBits, Ideal.ieee, -EReal.coe_mul, -EReal.coe_neg]
  rw [h, EReal.coe_le_coe_iff]; norm_num

theorem eps_real : ∃ e : ℝ, EPS = (e : EReal) ∧ 1 / 20000 ≤ e ∧ e ≤ 1 := by
  refine ⟨(0xD1B717 : ℝ) / 2 ^ (37 : ℕ), ?_, by norm_num, by norm_num⟩
  simp [EPS, Ideal.ofBits, Ideal.ieee, -EReal.coe_mul]; norm_num

/-! ### Rescaling to a range -/

/-- `(v - mn) / (mx - mn) · s`, or zero where the range is empty. -/
def nrm (v mn mx s : EReal) : EReal := if mx - mn = 0 then 0 else Ideal.div (v - mn) (mx - mn) * s

/-- The same, as both programs spell it: the divisor is replaced by one where it is zero. -/
def rnrm (v mn mx s : EReal) : EReal :=
  Scalar.select (Ideal.cmp .oeq (mx - mn) (Ideal.ofBits .f32 0x00000000#32)) (Ideal.ofBits .f32 0x00000000#32)
    (Ideal.div (v - mn) (Scalar.select (Ideal.cmp .oeq (mx - mn) (Ideal.ofBits .f32 0x00000000#32)) (Ideal.ofBits .f32 0x3F800000#32)
      (mx - mn)) * s + Ideal.ofBits .f32 0x00000000#32)

theorem rnrm_eq (v mn mx s : EReal) : rnrm v mn mx s = nrm v mn mx s := by
  unfold rnrm nrm
  rw [w_zero]
  by_cases h : mx - mn = 0
  · simp [Ideal.cmp, Scalar.select, h]
  · simp [Ideal.cmp, Scalar.select, h]

theorem real_of {x : EReal} (h0 : x ≠ ⊥) (h1 : x ≠ ⊤) : ∃ r : ℝ, x = (r : EReal) :=
  ⟨x.toReal, (EReal.coe_toReal h1 h0).symm⟩

theorem real_mid {x : EReal} {a b : ℝ} (h0 : (a : EReal) ≤ x) (h1 : x ≤ (b : EReal)) :
    ∃ r : ℝ, x = (r : EReal) ∧ a ≤ r ∧ r ≤ b := by
  obtain ⟨r, rfl⟩ := real_of (x := x) (fun h => by subst h; simp at h0) (fun h => by subst h; simp at h1)
  exact ⟨r, rfl, EReal.coe_le_coe_iff.1 h0, EReal.coe_le_coe_iff.1 h1⟩

theorem nrm_coe (v mn mx s : ℝ) : nrm v mn mx s = (((if mx - mn = 0 then 0 else (v - mn) / (mx - mn) * s) : ℝ) : EReal) := by
  unfold nrm
  rw [← EReal.coe_sub, ← EReal.coe_sub]
  by_cases h : mx - mn = 0
  · simp [h]
  · have h' : ((mx - mn : ℝ) : EReal) ≠ 0 := by exact_mod_cast h
    rw [if_neg h', if_neg h, Ideal.div_coe h, ← EReal.coe_mul, ← EReal.coe_mul]
    congr 1; rw [mul_one_div]

theorem nrm01 {v mn mx : EReal} {a b : ℝ} (ha : (a : EReal) ≤ mn) (h1 : mn ≤ v) (h2 : v ≤ mx) (hb : mx ≤ (b : EReal)) :
    0 ≤ nrm v mn mx 1 ∧ nrm v mn mx 1 ≤ 1 := by
  obtain ⟨m, rfl, -, -⟩ := real_mid ha (h1.trans (h2.trans hb))
  obtain ⟨x, rfl, -, -⟩ := real_mid (ha.trans (h1.trans h2)) hb
  obtain ⟨v, rfl, -, -⟩ := real_mid (ha.trans h1) (h2.trans hb)
  have h1' := EReal.coe_le_coe_iff.1 h1
  have h2' := EReal.coe_le_coe_iff.1 h2
  have e := nrm_coe v m x 1
  rw [EReal.coe_one] at e
  rw [e]
  by_cases h : x - m = 0
  · simp [h]
  · rw [if_neg h]
    have hp : 0 < x - m := lt_of_le_of_ne (by linarith) (Ne.symm h)
    constructor
    · exact_mod_cast mul_nonneg (div_nonneg (by linarith) hp.le) zero_le_one
    · have : (v - m) / (x - m) * 1 ≤ 1 := by rw [mul_one, div_le_one hp]; linarith
      exact_mod_cast this

/-! ### Minimum, maximum, sum and count over the pixels -/

variable {P : Type} [Fintype P]

def lo (f : P → EReal) : EReal := Finset.univ.fold min ⊤ f
def hi (f : P → EReal) : EReal := Finset.univ.fold max ⊥ f

theorem lo_le (f : P → EReal) (p : P) : lo f ≤ f p := Finset.inf_le (f := f) (Finset.mem_univ p)
theorem le_lo {f : P → EReal} {a : EReal} (h : ∀ p, a ≤ f p) : a ≤ lo f := Finset.le_inf (f := f) fun p _ => h p
theorem le_hi (f : P → EReal) (p : P) : f p ≤ hi f := Finset.le_sup (f := f) (Finset.mem_univ p)
theorem hi_le {f : P → EReal} {a : EReal} (h : ∀ p, f p ≤ a) : hi f ≤ a := Finset.sup_le (f := f) fun p _ => h p

/-- How many pixels satisfy `S`. -/
def cnt (S : P → Prop) [DecidablePred S] : EReal := ∑ p, if S p then 1 else 0

theorem cnt_card (S : P → Prop) [DecidablePred S] : cnt S = (((Finset.univ.filter S).card : ℝ) : EReal) := by
  have h : ∀ s : Finset P, (∑ p ∈ s, if S p then (1 : EReal) else 0) = (((s.filter S).card : ℝ) : EReal) := by
    classical
    intro s
    induction s using Finset.induction_on with
    | empty => simp
    | insert a s ha ih =>
      rw [Finset.sum_insert ha, ih, Finset.filter_insert]
      by_cases h : S a
      · rw [if_pos h, if_pos h, Finset.card_insert_of_notMem (by simp [ha])]
        push_cast
        rw [add_comm]
      · rw [if_neg h, if_neg h, zero_add]
  exact h _

theorem cnt_congr {S T : P → Prop} [DecidablePred S] [DecidablePred T] (h : ∀ p, S p ↔ T p) : cnt S = cnt T := by
  unfold cnt; exact Finset.sum_congr rfl fun p _ => by simp [h p]

theorem cnt_nonneg (S : P → Prop) [DecidablePred S] : 0 ≤ cnt S := by
  rw [cnt_card]; exact_mod_cast Nat.zero_le _

theorem cnt_pos (S : P → Prop) [DecidablePred S] : 0 < cnt S ↔ ∃ p, S p := by
  rw [cnt_card]
  have : (0 : EReal) < (((Finset.univ.filter S).card : ℝ) : EReal) ↔ 0 < (Finset.univ.filter S).card := by
    exact_mod_cast Iff.rfl
  rw [this, Finset.card_pos]
  exact ⟨fun ⟨p, hp⟩ => ⟨p, (Finset.mem_filter.1 hp).2⟩, fun ⟨p, hp⟩ => ⟨p, by simp [hp]⟩⟩

theorem cnt_none (S : P → Prop) [DecidablePred S] (h : ∀ p, ¬ S p) : cnt S = 0 := by
  rw [cnt_card, Finset.filter_eq_empty_iff.2 fun p _ => h p]; simp

theorem cnt_sub {A C D : P → Prop} [DecidablePred A] [DecidablePred C] [DecidablePred D]
    (h : ∀ p, A p ↔ C p ∨ D p) (hd : ∀ p, C p → ¬ D p) : cnt A - cnt C = cnt D := by
  classical
  rw [cnt_card, cnt_card, cnt_card, ← EReal.coe_sub]
  have : (Finset.univ.filter A).card = (Finset.univ.filter C).card + (Finset.univ.filter D).card := by
    rw [← Finset.card_union_of_disjoint (Finset.disjoint_filter.2 fun p _ => hd p)]
    congr 1; ext p; simp [h p]
  congr 1; rw [this]; push_cast; ring

theorem cnt_le_card (S : P → Prop) [DecidablePred S] : cnt S ≤ ((Fintype.card P : ℝ) : EReal) := by
  rw [cnt_card]; exact_mod_cast Finset.card_le_univ _

/-! ### The reference's map -/

def pond (N : EReal) (f : P → EReal) (p : P) : EReal :=
  nrm (f p) (lo f) (hi f) 1 * ((hi f - Ideal.div (∑ q, f q) N) * (hi f - Ideal.div (∑ q, f q) N))

def vtab (N : EReal) (c : Fin 6 → EReal) (j : Fin 6) : EReal := - Ideal.log (Ideal.div (c j) N + EPS)

def picked (N : EReal) (b1 b2 : P → Fin 6) (p : P) : EReal := vtab N (fun j => cnt fun q => b1 q = j) (b2 p)
def dst (N : EReal) (b1 b2 : P → Fin 6) (p : P) : EReal :=
  nrm (picked N b1 b2 p) (lo (picked N b1 b2)) (hi (picked N b1 b2)) 1
def rar (N : EReal) (b1 b2 : P → Fin 6) : P → EReal := pond N (dst N b1 b2)
def maps (N : EReal) (B : P → Prop) [DecidablePred B] (b1 b2 : P → Fin 6) (p : P) : EReal :=
  if B p then 0 else rar N b1 b2 p
def out (N : EReal) (B : P → Prop) [DecidablePred B] (b1 b2 : P → Fin 6) : P → EReal := pond N (maps N B b1 b2)

/-! ### The kernel's table -/

def tmn (c f : Fin 6 → EReal) : EReal :=
  min (min (min (min (min (if 0 < c 0 then f 0 else BIG) (if 0 < c 1 then f 1 else BIG)) (if 0 < c 2 then f 2 else BIG))
    (if 0 < c 3 then f 3 else BIG)) (if 0 < c 4 then f 4 else BIG)) (if 0 < c 5 then f 5 else BIG)
def tmx (c f : Fin 6 → EReal) : EReal :=
  max (max (max (max (max (if 0 < c 0 then f 0 else LOW) (if 0 < c 1 then f 1 else LOW)) (if 0 < c 2 then f 2 else LOW))
    (if 0 < c 3 then f 3 else LOW)) (if 0 < c 4 then f 4 else LOW)) (if 0 < c 5 then f 5 else LOW)
def tsm (c f : Fin 6 → EReal) : EReal := c 0 * f 0 + c 1 * f 1 + c 2 * f 2 + c 3 * f 3 + c 4 * f 4 + c 5 * f 5

def tnd (c2 v : Fin 6 → EReal) (j : Fin 6) : EReal := nrm (v j) (tmn c2 v) (tmx c2 v) 1
def trt (N : EReal) (c2 d : Fin 6 → EReal) (j : Fin 6) : EReal :=
  nrm (d j) (tmn c2 d) (tmx c2 d) 1 * ((tmx c2 d - Ideal.div (tsm c2 d) N) * (tmx c2 d - Ideal.div (tsm c2 d) N))
def bmn (nbv : EReal) (cc r : Fin 6 → EReal) : EReal := if 0 < nbv then min (tmn cc r) 0 else tmn cc r
def bmx (nbv : EReal) (cc r : Fin 6 → EReal) : EReal := if 0 < nbv then max (tmx cc r) 0 else tmx cc r
def tT (N nbv : EReal) (cc r : Fin 6 → EReal) (j : Fin 6) : EReal :=
  nrm (r j) (bmn nbv cc r) (bmx nbv cc r) 1 * ((bmx nbv cc r - Ideal.div (tsm cc r) N) * (bmx nbv cc r - Ideal.div (tsm cc r) N))
def ktab (N nbv : EReal) (c1 c2 cc : Fin 6 → EReal) : Fin 6 → EReal :=
  tT N nbv cc (trt N c2 (tnd c2 (vtab N c1)))

/-! ### A table's minimum, maximum and weighted sum are those of the pixels -/

section Table
variable {c f : Fin 6 → EReal} {S : P → Prop} {b : P → Fin 6}

theorem tmn_le (hc : ∀ j, 0 < c j ↔ ∃ p, S p ∧ b p = j) {p : P} (hp : S p) : tmn c f ≤ f (b p) := by
  have h : ∀ j, 0 < c j → tmn c f ≤ f j := by
    intro j hj
    unfold tmn
    fin_cases j <;> simp only [Fin.zero_eta, Fin.mk_one, Fin.reduceFinMk] at * <;> simp [hj]
  exact h _ ((hc _).2 ⟨p, hp, rfl⟩)

theorem le_tmn (hc : ∀ j, 0 < c j ↔ ∃ p, S p ∧ b p = j) {a : EReal} (ha : a ≤ BIG) (h : ∀ p, S p → a ≤ f (b p)) :
    a ≤ tmn c f := by
  have h' : ∀ j, a ≤ if 0 < c j then f j else BIG := by
    intro j
    split_ifs with hj
    · obtain ⟨p, hp, rfl⟩ := (hc j).1 hj; exact h p hp
    · exact ha
  unfold tmn
  exact le_min (le_min (le_min (le_min (le_min (h' 0) (h' 1)) (h' 2)) (h' 3)) (h' 4)) (h' 5)

theorem le_tmx (hc : ∀ j, 0 < c j ↔ ∃ p, S p ∧ b p = j) {p : P} (hp : S p) : f (b p) ≤ tmx c f := by
  have h : ∀ j, 0 < c j → f j ≤ tmx c f := by
    intro j hj
    unfold tmx
    fin_cases j <;> simp only [Fin.zero_eta, Fin.mk_one, Fin.reduceFinMk] at * <;> simp [hj]
  exact h _ ((hc _).2 ⟨p, hp, rfl⟩)

theorem tmx_le (hc : ∀ j, 0 < c j ↔ ∃ p, S p ∧ b p = j) {a : EReal} (ha : LOW ≤ a) (h : ∀ p, S p → f (b p) ≤ a) :
    tmx c f ≤ a := by
  have h' : ∀ j, (if 0 < c j then f j else LOW) ≤ a := by
    intro j
    split_ifs with hj
    · obtain ⟨p, hp, rfl⟩ := (hc j).1 hj; exact h p hp
    · exact ha
  unfold tmx
  exact max_le (max_le (max_le (max_le (max_le (h' 0) (h' 1)) (h' 2)) (h' 3)) (h' 4)) (h' 5)

end Table

theorem sum_mul_nonneg {g : P → EReal} (hg : ∀ p, 0 ≤ g p) (x : EReal) : (∑ p, g p) * x = ∑ p, g p * x := by
  have h : ∀ s : Finset P, (∑ p ∈ s, g p) * x = ∑ p ∈ s, g p * x := by
    classical
    intro s
    induction s using Finset.induction_on with
    | empty => simp
    | insert a s ha ih =>
      rw [Finset.sum_insert ha, Finset.sum_insert ha,
        EReal.right_distrib_of_nonneg (hg a) (Finset.sum_nonneg fun p _ => hg p), ih]
  exact h _

theorem tsm_eq (S : P → Prop) [DecidablePred S] (b : P → Fin 6) (f : Fin 6 → EReal) :
    tsm (fun j => cnt fun p => S p ∧ b p = j) f = ∑ p, if S p then f (b p) else 0 := by
  have h : tsm (fun j => cnt fun p => S p ∧ b p = j) f = ∑ j, (cnt fun p => S p ∧ b p = j) * f j := by
    rw [Fin.sum_univ_six]; rfl
  rw [h]
  have h2 : ∀ j, (cnt fun p => S p ∧ b p = j) * f j = ∑ p, (if S p ∧ b p = j then 1 else 0) * f j := fun j =>
    sum_mul_nonneg (fun p => by split_ifs <;> simp) _
  rw [Finset.sum_congr rfl fun j _ => h2 j, Finset.sum_comm]
  refine Finset.sum_congr rfl fun p _ => ?_
  by_cases hp : S p
  · simp only [hp, true_and, if_true]
    rw [Finset.sum_eq_single (b p)]
    · simp
    · intro j _ hj; rw [if_neg (Ne.symm hj), zero_mul]
    · simp
  · simp [hp]

/-! ### Bounds -/

theorem sum_bounds {f : P → EReal} (h : ∀ p, 0 ≤ f p ∧ f p ≤ 1) :
    0 ≤ ∑ p, f p ∧ ∑ p, f p ≤ ((Fintype.card P : ℝ) : EReal) := by
  refine ⟨Finset.sum_nonneg fun p _ => (h p).1, ?_⟩
  have h1 : ∑ p, f p ≤ ∑ _p : P, (1 : EReal) := Finset.sum_le_sum fun p _ => (h p).2
  have h2 : (∑ _p : P, (1 : EReal)) = ((Fintype.card P : ℝ) : EReal) := by
    have := cnt_card (P := P) fun _ => True
    simpa [cnt] using this
  exact h1.trans h2.le

variable [Nonempty P]

theorem pond01 {f : P → EReal} (h : ∀ p, 0 ≤ f p ∧ f p ≤ 1) (p : P) :
    0 ≤ pond ((Fintype.card P : ℝ) : EReal) f p ∧ pond ((Fintype.card P : ℝ) : EReal) f p ≤ 1 := by
  have hc : (0 : ℝ) < Fintype.card P := by exact_mod_cast Fintype.card_pos
  obtain ⟨s0, s1⟩ := sum_bounds h
  have hs : ∃ s : ℝ, ∑ q, f q = (s : EReal) ∧ 0 ≤ s ∧ s ≤ Fintype.card P := real_mid (by simpa using s0) s1
  obtain ⟨s, es, s0, s1⟩ := hs
  have h0 : (0 : EReal) ≤ hi f := (h p).1.trans (le_hi f p)
  have h1 : hi f ≤ 1 := hi_le fun p => (h p).2
  have hm : ∃ m : ℝ, hi f = (m : EReal) ∧ 0 ≤ m ∧ m ≤ 1 := real_mid (by simpa using h0) (by simpa using h1)
  obtain ⟨m, em, m0, m1⟩ := hm
  have hn : 0 ≤ nrm (f p) (lo f) (hi f) 1 ∧ nrm (f p) (lo f) (hi f) 1 ≤ 1 :=
    nrm01 (a := 0) (b := 1) (by simpa using le_lo fun p => (h p).1) (lo_le f p) (le_hi f p) (by simpa using h1)
  have hr : ∃ n : ℝ, nrm (f p) (lo f) (hi f) 1 = (n : EReal) ∧ 0 ≤ n ∧ n ≤ 1 :=
    real_mid (by simpa using hn.1) (by simpa using hn.2)
  obtain ⟨n, en, n0, n1⟩ := hr
  unfold pond
  rw [en, em, es, Ideal.div_coe hc.ne', ← EReal.coe_mul, ← EReal.coe_sub, ← EReal.coe_mul, ← EReal.coe_mul]
  have hd0 : 0 ≤ s * (1 / Fintype.card P : ℝ) := by positivity
  have hd1 : s * (1 / Fintype.card P : ℝ) ≤ 1 := by rw [mul_one_div, div_le_one hc]; exact s1
  generalize s * (1 / Fintype.card P : ℝ) = d at hd0 hd1
  have hq0 : 0 ≤ (m - d) * (m - d) := mul_self_nonneg _
  have hq1 : (m - d) * (m - d) ≤ 1 := by nlinarith
  constructor
  · exact_mod_cast mul_nonneg n0 hq0
  · exact_mod_cast mul_le_one₀ n1 hq0 hq1

theorem picked_bounds (b1 b2 : P → Fin 6) (p : P) :
    ((-100000 : ℝ) : EReal) ≤ picked ((Fintype.card P : ℝ) : EReal) b1 b2 p
      ∧ picked ((Fintype.card P : ℝ) : EReal) b1 b2 p ≤ ((100000 : ℝ) : EReal) := by
  have hc : (0 : ℝ) < Fintype.card P := by exact_mod_cast Fintype.card_pos
  obtain ⟨e, ee, e0, e1⟩ := eps_real
  obtain ⟨k, ek, k0, k1⟩ : ∃ k : ℝ, (cnt fun q => b1 q = b2 p) = (k : EReal) ∧ 0 ≤ k ∧ k ≤ Fintype.card P :=
    real_mid (by simpa using cnt_nonneg _) (cnt_le_card _)
  unfold picked vtab
  simp only
  rw [ek, ee, Ideal.div_coe hc.ne', ← EReal.coe_mul, ← EReal.coe_add, Ideal.log_coe]
  have hd0 : 0 ≤ k * (1 / Fintype.card P : ℝ) := by positivity
  have hd1 : k * (1 / Fintype.card P : ℝ) ≤ 1 := by rw [mul_one_div, div_le_one hc]; exact k1
  generalize k * (1 / Fintype.card P : ℝ) = d at hd0 hd1
  have hp : 0 < d + e := by linarith
  rw [if_neg (not_le.2 hp), ← EReal.coe_neg, EReal.coe_le_coe_iff, EReal.coe_le_coe_iff]
  have l1 := Real.log_le_sub_one_of_pos hp
  have l2 := Real.one_sub_inv_le_log_of_pos hp
  have l3 : (d + e)⁻¹ ≤ 20000 := by
    rw [inv_le_comm₀ hp (by norm_num)]; linarith
  constructor <;> linarith

theorem dst01 (b1 b2 : P → Fin 6) (p : P) :
    0 ≤ dst ((Fintype.card P : ℝ) : EReal) b1 b2 p ∧ dst ((Fintype.card P : ℝ) : EReal) b1 b2 p ≤ 1 :=
  nrm01 (le_lo fun p => (picked_bounds b1 b2 p).1) (lo_le _ p) (le_hi _ p) (hi_le fun p => (picked_bounds b1 b2 p).2)

theorem rar01 (b1 b2 : P → Fin 6) (p : P) :
    0 ≤ rar ((Fintype.card P : ℝ) : EReal) b1 b2 p ∧ rar ((Fintype.card P : ℝ) : EReal) b1 b2 p ≤ 1 :=
  pond01 (dst01 b1 b2) p

/-! ### The table is the map -/

theorem real_le_big {r : ℝ} (h : r ≤ 100000) : (r : EReal) ≤ BIG := (EReal.coe_le_coe_iff.2 h).trans big_ge
theorem low_le_real {r : ℝ} (h : -100000 ≤ r) : LOW ≤ (r : EReal) := low_le.trans (EReal.coe_le_coe_iff.2 h)
theorem zero_le_big : (0 : EReal) ≤ BIG := by simpa using real_le_big (r := 0) (by norm_num)
theorem low_le_zero : LOW ≤ (0 : EReal) := by simpa using low_le_real (r := 0) (by norm_num)
theorem one_le_big : (1 : EReal) ≤ BIG := by simpa using real_le_big (r := 1) (by norm_num)

/-- Over all pixels. -/
theorem tmn_all {c f : Fin 6 → EReal} {b : P → Fin 6} (hc : ∀ j, 0 < c j ↔ ∃ p, True ∧ b p = j)
    (hf : ∀ p, f (b p) ≤ BIG) : tmn c f = lo fun p => f (b p) := by
  obtain ⟨p0⟩ := (inferInstance : Nonempty P)
  refine le_antisymm (le_lo fun p => tmn_le hc trivial) (le_tmn hc ?_ fun p _ => lo_le (fun p => f (b p)) p)
  exact (lo_le (fun p => f (b p)) p0).trans (hf p0)

theorem tmx_all {c f : Fin 6 → EReal} {b : P → Fin 6} (hc : ∀ j, 0 < c j ↔ ∃ p, True ∧ b p = j)
    (hf : ∀ p, LOW ≤ f (b p)) : tmx c f = hi fun p => f (b p) := by
  obtain ⟨p0⟩ := (inferInstance : Nonempty P)
  refine le_antisymm (tmx_le hc ?_ fun p _ => le_hi (fun p => f (b p)) p) (hi_le fun p => le_tmx hc trivial)
  exact (hf p0).trans (le_hi (fun p => f (b p)) p0)

theorem tsm_all {c f : Fin 6 → EReal} {b : P → Fin 6} (hc : c = fun j => cnt fun p => b p = j) :
    tsm c f = ∑ p, f (b p) := by
  have := tsm_eq (fun _ : P => True) b f
  simp only [true_and, if_true] at this
  rw [hc]; exact this

theorem pos_all {c : Fin 6 → EReal} {b : P → Fin 6} (hc : c = fun j => cnt fun p => b p = j) (j : Fin 6) :
    0 < c j ↔ ∃ p, True ∧ b p = j := by
  rw [hc, cnt_pos]; simp

section Main
variable (B : P → Prop) [DecidablePred B] (b1 b2 : P → Fin 6) {N nbv : EReal} {c1 c2 cc : Fin 6 → EReal}

/-- The kernel's table, looked up at a pixel's second bin, is the reference's map at that pixel. -/
theorem ktab_eq (hN : N = ((Fintype.card P : ℝ) : EReal)) (hB : 0 < nbv ↔ ∃ p, B p)
    (h1 : c1 = fun j => cnt fun p => b1 p = j) (h2 : c2 = fun j => cnt fun p => b2 p = j)
    (hcc : cc = fun j => cnt fun p => ¬ B p ∧ b2 p = j) {p : P} (hp : ¬ B p) :
    ktab N nbv c1 c2 cc (b2 p) = out N B b1 b2 p := by
  subst hN
  set N : EReal := ((Fintype.card P : ℝ) : EReal) with hN
  have hpos := pos_all h2
  have hv : ∀ q, vtab N c1 (b2 q) = picked N b1 b2 q := fun q => by rw [h1]; rfl
  have hv' : (fun q => vtab N c1 (b2 q)) = picked N b1 b2 := funext hv
  have emn : tmn c2 (vtab N c1) = lo (picked N b1 b2) := by
    rw [tmn_all hpos fun q => by rw [hv]; exact (picked_bounds b1 b2 q).2.trans big_ge, hv']
  have emx : tmx c2 (vtab N c1) = hi (picked N b1 b2) := by
    rw [tmx_all hpos fun q => by rw [hv]; exact low_le.trans (picked_bounds b1 b2 q).1, hv']
  unfold ktab
  have hd : ∀ q, tnd c2 (vtab N c1) (b2 q) = dst N b1 b2 q := fun q => by
    unfold tnd dst; rw [emn, emx, hv]
  have hd' : (fun q => tnd c2 (vtab N c1) (b2 q)) = dst N b1 b2 := funext hd
  generalize tnd c2 (vtab N c1) = d at hd hd'
  have dmn : tmn c2 d = lo (dst N b1 b2) := by
    rw [tmn_all hpos fun q => by rw [hd]; exact (dst01 b1 b2 q).2.trans one_le_big, hd']
  have dmx : tmx c2 d = hi (dst N b1 b2) := by
    rw [tmx_all hpos fun q => by rw [hd]; exact low_le_zero.trans (dst01 b1 b2 q).1, hd']
  have dsm : tsm c2 d = ∑ q, dst N b1 b2 q := by rw [tsm_all h2, hd']
  have hr : ∀ q, trt N c2 d (b2 q) = rar N b1 b2 q := fun q => by
    unfold trt rar pond; rw [dmn, dmx, dsm, hd]
  have goal : tT N nbv cc (trt N c2 d) (b2 p) = out N B b1 b2 p := by
    generalize trt N c2 d = r at hr
    have hm : ∀ q, ¬ B q → maps N B b1 b2 q = r (b2 q) := fun q hq => by unfold maps; rw [if_neg hq, hr]
    have hm0 : ∀ q, B q → maps N B b1 b2 q = 0 := fun q hq => by unfold maps; rw [if_pos hq]
    have hcp : ∀ j, 0 < cc j ↔ ∃ q, ¬ B q ∧ b2 q = j := fun j => by rw [hcc, cnt_pos]
    have rmn : bmn nbv cc r = lo (maps N B b1 b2) := by
      unfold bmn
      apply le_antisymm
      · refine le_lo fun q => ?_
        by_cases hq : B q
        · rw [if_pos (hB.2 ⟨q, hq⟩), hm0 q hq]; exact min_le_right _ _
        · rw [hm q hq]
          have := tmn_le (f := r) hcp hq
          split_ifs
          · exact (min_le_left _ _).trans this
          · exact this
      · have hl : lo (maps N B b1 b2) ≤ tmn cc r := by
          refine le_tmn hcp ?_ fun q hq => by rw [← hm q hq]; exact lo_le _ q
          refine (lo_le _ p).trans ?_
          rw [hm p hp, hr]; exact (rar01 b1 b2 p).2.trans one_le_big
        split_ifs with hn
        · obtain ⟨q, hq⟩ := hB.1 hn
          exact le_min hl (by rw [← hm0 q hq]; exact lo_le _ q)
        · exact hl
    have rmx : bmx nbv cc r = hi (maps N B b1 b2) := by
      unfold bmx
      apply le_antisymm
      · have hl : tmx cc r ≤ hi (maps N B b1 b2) := by
          refine tmx_le hcp ?_ fun q hq => by rw [← hm q hq]; exact le_hi _ q
          refine le_trans ?_ (le_hi _ p)
          rw [hm p hp, hr]; exact low_le_zero.trans (rar01 b1 b2 p).1
        split_ifs with hn
        · obtain ⟨q, hq⟩ := hB.1 hn
          exact max_le hl (by rw [← hm0 q hq]; exact le_hi _ q)
        · exact hl
      · refine hi_le fun q => ?_
        by_cases hq : B q
        · rw [if_pos (hB.2 ⟨q, hq⟩), hm0 q hq]; exact le_max_right _ _
        · rw [hm q hq]
          have := le_tmx (f := r) hcp hq
          split_ifs
          · exact this.trans (le_max_left _ _)
          · exact this
    have rsm : tsm cc r = ∑ q, maps N B b1 b2 q := by
      rw [hcc, tsm_eq]
      refine Finset.sum_congr rfl fun q _ => ?_
      by_cases hq : B q
      · rw [if_neg (by simpa using hq), hm0 q hq]
      · rw [if_pos hq, hm q hq]
    unfold tT out pond
    rw [rmn, rmx, rsm, hm p hp]
  exact goal

/-- The map is zero on the border it was zeroed on. -/
theorem out_border (hN : N = ((Fintype.card P : ℝ) : EReal)) {p : P} (hp : B p) : out N B b1 b2 p = 0 := by
  subst hN
  have h0 : ∀ q, 0 ≤ maps ((Fintype.card P : ℝ) : EReal) B b1 b2 q := fun q => by
    unfold maps; split_ifs
    · exact le_rfl
    · exact (rar01 b1 b2 q).1
  have hp0 : maps ((Fintype.card P : ℝ) : EReal) B b1 b2 p = 0 := by unfold maps; rw [if_pos hp]
  have hl : lo (maps ((Fintype.card P : ℝ) : EReal) B b1 b2) = 0 :=
    le_antisymm (hp0 ▸ lo_le _ p) (le_lo h0)
  unfold out pond
  rw [hp0, hl]
  have : ∀ x, nrm 0 0 x 1 = 0 := fun x => by
    unfold nrm
    split_ifs with h
    · rfl
    · simp [Ideal.div, sub_zero] at h ⊢
      simp [h]
  rw [this, zero_mul]

/-- Where every pixel's second bin is the same, the map is zero. -/
theorem out_const (j : Fin 6) (hN : N = ((Fintype.card P : ℝ) : EReal)) (h : ∀ p, b2 p = j) (p : P) : out N B b1 b2 p = 0 := by
  subst hN
  set N : EReal := ((Fintype.card P : ℝ) : EReal) with hN
  have hpk : ∀ q, picked N b1 b2 q = picked N b1 b2 p := fun q => by unfold picked; rw [h q, h p]
  have hlo : lo (picked N b1 b2) = picked N b1 b2 p :=
    le_antisymm (lo_le _ p) (le_lo fun q => (hpk q).ge)
  have hhi : hi (picked N b1 b2) = picked N b1 b2 p :=
    le_antisymm (hi_le fun q => (hpk q).le) (le_hi _ p)
  obtain ⟨r, er, -, -⟩ := real_mid (picked_bounds b1 b2 p).1 (picked_bounds b1 b2 p).2
  have hd : ∀ q, dst N b1 b2 q = 0 := fun q => by
    unfold dst nrm
    rw [hlo, hhi, er, ← EReal.coe_sub, sub_self, if_pos (by simp)]
  have hdl : lo (dst N b1 b2) = 0 := le_antisymm (hd p ▸ lo_le _ p) (le_lo fun q => (hd q).ge)
  have hdh : hi (dst N b1 b2) = 0 := le_antisymm (hi_le fun q => (hd q).le) (hd p ▸ le_hi (dst N b1 b2) p)
  have z : nrm 0 0 0 1 = 0 := by unfold nrm; simp
  have hr : ∀ q, rar N b1 b2 q = 0 := fun q => by
    unfold rar pond; rw [hd q, hdl, hdh, z, zero_mul]
  have hm : ∀ q, maps N B b1 b2 q = 0 := fun q => by unfold maps; split_ifs <;> simp [hr q]
  have hml : lo (maps N B b1 b2) = 0 := le_antisymm (hm p ▸ lo_le _ p) (le_lo fun q => (hm q).ge)
  have hmh : hi (maps N B b1 b2) = 0 := le_antisymm (hi_le fun q => (hm q).le) (hm p ▸ le_hi (maps N B b1 b2) p)
  unfold out pond; rw [hm p, hml, hmh, z, zero_mul]

end Main

end Cert.Rarity

end
-- ==== Proof.Maps.lean ====
/- The second stage over plain pairs of indices: a map with its border replaced, rescaled, resized by two matrix products,
   weighed by its contrast. -/
module

public import proofs.«01_k».proof.Proof.Rarity

@[expose] public section

noncomputable section

namespace Cert.Stage2

open Idealize.ShloMosaic Cert.Rarity

variable {n k l : Nat}

/-- The map with `b` on its outermost rows and columns. -/
def bordered (m : Fin n × Fin n → EReal) (b : EReal) (p : Fin n × Fin n) : EReal :=
  if p.1.val = 0 ∨ p.1.val = n - 1 ∨ p.2.val = 0 ∨ p.2.val = n - 1 then b else m p

/-- The map rescaled to `0 … s`. -/
def norm (s : EReal) (v : Fin n × Fin k → EReal) (p : Fin n × Fin k) : EReal := nrm (v p) (lo v) (hi v) s

/-- The matrix product. -/
def mm (x : Fin n × Fin k → EReal) (y : Fin k × Fin l → EReal) (p : Fin n × Fin l) : EReal := ∑ j, x (p.1, j) * y (j, p.2)

/-- The contrast: the largest value less the mean, squared. -/
def contrast (r : Fin 240 × Fin 240 → EReal) : EReal :=
  (hi r - Ideal.div (∑ i, ∑ j, r (i, j)) (Ideal.ofBits .f32 0x47610000#32))
    * (hi r - Ideal.div (∑ i, ∑ j, r (i, j)) (Ideal.ofBits .f32 0x47610000#32))

def weigh (r : Fin 240 × Fin 240 → EReal) (p : Fin 240 × Fin 240) : EReal := norm 1 r p * contrast r

/-- One layer: bordered, rescaled, resized, weighed. -/
def layer (m : Fin n × Fin n → EReal) (b : EReal) (a : Fin 240 × Fin n → EReal) (at' : Fin n × Fin 240 → EReal) :
    Fin 240 × Fin 240 → EReal :=
  weigh (mm a (mm (norm 1 (bordered m b)) at'))

theorem and4 (a b c d : Prop) [Decidable a] [Decidable b] [Decidable c] [Decidable d] (x y : EReal) :
    Scalar.select (IntOp.andi (IntOp.andi (IntOp.andi (BitVec.ofBool (decide a)) (BitVec.ofBool (decide b))) (BitVec.ofBool (decide c)))
      (BitVec.ofBool (decide d))) x y = if ¬ a ∨ ¬ b ∨ ¬ c ∨ ¬ d then y else x := by
  by_cases a <;> by_cases b <;> by_cases c <;> by_cases d <;> simp_all [Scalar.select, IntOp.andi]

theorem or4 (a b c d : Prop) [Decidable a] [Decidable b] [Decidable c] [Decidable d] (x y : EReal) :
    Scalar.select (IntOp.ori (IntOp.ori (IntOp.ori (BitVec.ofBool (decide a)) (BitVec.ofBool (decide b))) (BitVec.ofBool (decide c)))
      (BitVec.ofBool (decide d))) y x = if a ∨ b ∨ c ∨ d then y else x := by
  by_cases a <;> by_cases b <;> by_cases c <;> by_cases d <;> simp_all [Scalar.select, IntOp.ori]

/-- The border test, as the kernel asks it of two words. -/
theorem interior_word (N : Nat) (hN : 2 ≤ N) (hb : N < 2 ^ 31) (i j : Fin N) (x y : EReal) :
    Scalar.select (IntOp.andi (IntOp.andi (IntOp.andi (IntOp.cmpi .sgt (BitVec.ofNat 32 i.val) 0#32)
      (IntOp.cmpi .slt (BitVec.ofNat 32 i.val) (BitVec.ofNat 32 (N - 1)))) (IntOp.cmpi .sgt (BitVec.ofNat 32 j.val) 0#32))
      (IntOp.cmpi .slt (BitVec.ofNat 32 j.val) (BitVec.ofNat 32 (N - 1)))) x y
      = if i.val = 0 ∨ i.val = N - 1 ∨ j.val = 0 ∨ j.val = N - 1 then y else x := by
  have hi := i.isLt
  have hj := j.isLt
  have t : ∀ a : Nat, a < 2 ^ 31 → (BitVec.ofNat 32 a).toInt = (a : Int) := fun a ha => by
    rw [BitVec.toInt_eq_toNat_of_lt (by rw [BitVec.toNat_ofNat]; omega), BitVec.toNat_ofNat]; omega
  have s : ∀ a b : Nat, a < 2 ^ 31 → b < 2 ^ 31 → (BitVec.ofNat 32 a).slt (BitVec.ofNat 32 b) = decide (a < b) := fun a b ha hb => by
    rw [BitVec.slt, t a ha, t b hb]; simp
  have g : ∀ a : Nat, a < 2 ^ 31 → (0#32).slt (BitVec.ofNat 32 a) = decide (0 < a) := fun a ha => s 0 a (by norm_num) ha
  unfold IntOp.cmpi
  simp only [s i.val (N - 1) (by omega) (by omega), s j.val (N - 1) (by omega) (by omega), g i.val (by omega), g j.val (by omega)]
  refine (and4 _ _ _ _ _ _).trans (if_congr ?_ rfl rfl)
  omega

/-- The border test, as the reference asks it. -/
theorem border_word (N : Nat) (hN : 2 ≤ N) (hb : N < 2 ^ 31) (i j : Fin N) (x y : EReal) :
    Scalar.select (IntOp.ori (IntOp.ori (IntOp.ori (IntOp.cmpi .eq (BitVec.ofNat 32 i.val) 0#32)
      (IntOp.cmpi .eq (BitVec.ofNat 32 i.val) (BitVec.ofNat 32 (N - 1)))) (IntOp.cmpi .eq (BitVec.ofNat 32 j.val) 0#32))
      (IntOp.cmpi .eq (BitVec.ofNat 32 j.val) (BitVec.ofNat 32 (N - 1)))) y x
      = if i.val = 0 ∨ i.val = N - 1 ∨ j.val = 0 ∨ j.val = N - 1 then y else x := by
  have hi := i.isLt
  have hj := j.isLt
  have e : ∀ a b : Nat, a < 2 ^ 31 → b < 2 ^ 31 → (BitVec.ofNat 32 a == BitVec.ofNat 32 b) = decide (a = b) := fun a b ha hb => by
    by_cases h : a = b
    · subst h; simp
    · have : BitVec.ofNat 32 a ≠ BitVec.ofNat 32 b := fun q => h (by
        have := congrArg BitVec.toNat q; simp only [BitVec.toNat_ofNat] at this; omega)
      simp [h, this]
  have z : ∀ a : Nat, a < 2 ^ 31 → (BitVec.ofNat 32 a == 0#32) = decide (a = 0) := fun a ha => e a 0 ha (by norm_num)
  unfold IntOp.cmpi
  simp only [e i.val (N - 1) (by omega) (by omega), e j.val (N - 1) (by omega) (by omega), z i.val (by omega), z j.val (by omega)]
  exact or4 _ _ _ _ _ _

end Cert.Stage2

end
-- ==== Proof.Bins.lean ====
/- The bins of one channel. The kernel compares each value with five thresholds and counts; the reference rescales the
   channel to 0 … 256, divides, truncates and clips. On finite values the two give the same map (`chan_eq`). -/
module

public import proofs.«01_k».proof.Proof.Rarity

@[expose] public section

noncomputable section

namespace Cert.Rarity

open Idealize.ShloMosaic

/-! ### Five thresholds, six bins -/

def kbin (th : Fin 5 → EReal) (x : EReal) : Fin 6 :=
  if th 4 ≤ x then 5 else if th 3 ≤ x then 4 else if th 2 ≤ x then 3 else if th 1 ≤ x then 2 else if th 0 ≤ x then 1 else 0

theorem kbin_congr {th th' : Fin 5 → EReal} {x x' : EReal} (h : ∀ k, th k ≤ x ↔ th' k ≤ x') : kbin th x = kbin th' x' := by
  unfold kbin; simp only [h]

/-- The thresholds are in order. -/
def Ord (th : Fin 5 → EReal) : Prop := th 0 ≤ th 1 ∧ th 1 ≤ th 2 ∧ th 2 ≤ th 3 ∧ th 3 ≤ th 4

section Ord
variable {th : Fin 5 → EReal} (h : Ord th) (x : EReal)
include h

theorem ord_imp : (th 4 ≤ x → th 3 ≤ x) ∧ (th 3 ≤ x → th 2 ≤ x) ∧ (th 2 ≤ x → th 1 ≤ x) ∧ (th 1 ≤ x → th 0 ≤ x) :=
  ⟨h.2.2.2.trans, h.2.2.1.trans, h.2.1.trans, h.1.trans⟩

theorem bin0 : kbin th x = 0 ↔ ¬ th 0 ≤ x := by
  obtain ⟨h4, h3, h2, h1⟩ := ord_imp h x
  unfold kbin; split_ifs <;> simp [-not_le] <;> tauto
theorem bin1 : kbin th x = 1 ↔ th 0 ≤ x ∧ ¬ th 1 ≤ x := by
  obtain ⟨h4, h3, h2, h1⟩ := ord_imp h x
  unfold kbin; split_ifs <;> simp [-not_le] <;> tauto
theorem bin2 : kbin th x = 2 ↔ th 1 ≤ x ∧ ¬ th 2 ≤ x := by
  obtain ⟨h4, h3, h2, h1⟩ := ord_imp h x
  unfold kbin; split_ifs <;> simp [-not_le] <;> tauto
theorem bin3 : kbin th x = 3 ↔ th 2 ≤ x ∧ ¬ th 3 ≤ x := by
  obtain ⟨h4, h3, h2, h1⟩ := ord_imp h x
  unfold kbin; split_ifs <;> simp [-not_le] <;> tauto
theorem bin4 : kbin th x = 4 ↔ th 3 ≤ x ∧ ¬ th 4 ≤ x := by
  obtain ⟨h4, h3, h2, h1⟩ := ord_imp h x
  unfold kbin; split_ifs <;> simp [-not_le] <;> tauto
theorem bin5 : kbin th x = 5 ↔ th 4 ≤ x := by
  obtain ⟨h4, h3, h2, h1⟩ := ord_imp h x
  unfold kbin; split_ifs <;> simp [-not_le] <;> tauto
end Ord

/-- Six counts from a total and five cumulative counts. -/
def kc (N : EReal) (g : Fin 5 → EReal) : Fin 6 → EReal := ![N - g 0, g 0 - g 1, g 1 - g 2, g 2 - g 3, g 3 - g 4, g 4]

variable {P : Type} [Fintype P]

theorem cnt_true : cnt (fun _ : P => True) = ((Fintype.card P : ℝ) : EReal) := by
  rw [cnt_card]; simp

theorem kc_eq {th : Fin 5 → EReal} (h : Ord th) (X : P → EReal) :
    kc ((Fintype.card P : ℝ) : EReal) (fun k => cnt fun p => th k ≤ X p) = fun j => cnt fun p => kbin th (X p) = j := by
  have i := fun p => ord_imp h (X p)
  funext j
  fin_cases j
  · show ((Fintype.card P : ℝ) : EReal) - _ = _
    rw [← cnt_true]
    exact cnt_sub (fun p => by have := bin0 h (X p); tauto) fun p hp => by have := bin0 h (X p); tauto
  · exact cnt_sub (fun p => by have := bin1 h (X p); have := i p; tauto) fun p hp => by have := bin1 h (X p); tauto
  · exact cnt_sub (fun p => by have := bin2 h (X p); have := i p; tauto) fun p hp => by have := bin2 h (X p); tauto
  · exact cnt_sub (fun p => by have := bin3 h (X p); have := i p; tauto) fun p hp => by have := bin3 h (X p); tauto
  · exact cnt_sub (fun p => by have := bin4 h (X p); have := i p; tauto) fun p hp => by have := bin4 h (X p); tauto
  · exact cnt_congr fun p => (bin5 h (X p)).symm

/-- One where the threshold is at most zero. -/
def ge0 (th : Fin 5 → EReal) (k : Fin 5) : EReal := if th k ≤ 0 then 1 else 0

theorem ke_eq {th : Fin 5 → EReal} (h : Ord th) (j : Fin 6) : kc 1 (ge0 th) j = if kbin th 0 = j then 1 else 0 := by
  obtain ⟨h4, h3, h2, h1⟩ := ord_imp h 0
  have one : (1 : EReal) - 1 = 0 := by rw [← EReal.coe_one, ← EReal.coe_sub]; simp
  fin_cases j <;> simp only [Fin.zero_eta, Fin.mk_one, Fin.reduceFinMk]
  · show 1 - ge0 th 0 = _
    simp only [bin0 h, ge0]; by_cases a : th 0 ≤ 0 <;> simp [a, one]
  · show ge0 th 0 - ge0 th 1 = _
    simp only [bin1 h, ge0]; by_cases a : th 0 ≤ 0 <;> by_cases b : th 1 ≤ 0 <;> simp [a, b, one]
    exact absurd (h1 b) a
  · show ge0 th 1 - ge0 th 2 = _
    simp only [bin2 h, ge0]; by_cases a : th 1 ≤ 0 <;> by_cases b : th 2 ≤ 0 <;> simp [a, b, one]
    exact absurd (h2 b) a
  · show ge0 th 2 - ge0 th 3 = _
    simp only [bin3 h, ge0]; by_cases a : th 2 ≤ 0 <;> by_cases b : th 3 ≤ 0 <;> simp [a, b, one]
    exact absurd (h3 b) a
  · show ge0 th 3 - ge0 th 4 = _
    simp only [bin4 h, ge0]; by_cases a : th 3 ≤ 0 <;> by_cases b : th 4 ≤ 0 <;> simp [a, b, one]
    exact absurd (h4 b) a
  · show ge0 th 4 = _
    simp only [bin5 h, ge0]

/-- The counts with the zeroed border taken out. -/
def kcc (nbv : EReal) (c e : Fin 6 → EReal) (j : Fin 6) : EReal := c j - nbv * e j

theorem kcc_eq {th : Fin 5 → EReal} (h : Ord th) (X : P → EReal) (B : P → Prop) [DecidablePred B]
    (hX : ∀ p, B p → X p = 0) :
    kcc (cnt B) (fun j => cnt fun p => kbin th (X p) = j) (kc 1 (ge0 th)) = fun j => cnt fun p => ¬ B p ∧ kbin th (X p) = j := by
  funext j
  unfold kcc
  rw [ke_eq h]
  have e : cnt B * (if kbin th 0 = j then 1 else 0) = cnt fun p => B p ∧ kbin th (X p) = j := by
    split_ifs with hj
    · rw [mul_one]; exact cnt_congr fun p => ⟨fun hb => ⟨hb, by rw [hX p hb, hj]⟩, fun hb => hb.1⟩
    · rw [mul_zero, cnt_none]; rintro p ⟨hb, he⟩; rw [hX p hb] at he; exact hj he
  rw [e]
  exact cnt_sub (fun p => by tauto) fun p hp => by tauto

/-! ### Truncating and clipping -/

def stair (k : Fin 5) : EReal := (((k.val : ℝ) + 1 : ℝ) : EReal)

theorem clip_word (r : ℝ) :
    IntOp.minsi 5#32 (IntOp.maxsi 0#32 (Ideal.fptosi 32 (r : EReal))) = BitVec.ofNat 32 (kbin stair r).val := by
  unfold Ideal.fptosi
  rw [Ideal.toIntClamped_coe]
  obtain ⟨z, hz⟩ : ∃ z : ℤ, z = (if 0 ≤ r then ⌊r⌋ else ⌈r⌉) := ⟨_, rfl⟩
  rw [← hz]
  have hk : ∀ k : Fin 5, stair k ≤ (r : EReal) ↔ ((k.val : ℤ) + 1 ≤ z) := by
    intro k
    unfold stair
    rw [EReal.coe_le_coe_iff, hz]
    split_ifs with h0
    · rw [Int.le_floor]; push_cast; rfl
    · constructor
      · intro h; exact absurd h (by have : (0 : ℝ) ≤ k.val := by positivity
                                    linarith [not_le.1 h0])
      · intro h
        exfalso
        have : ⌈r⌉ ≤ 0 := Int.ceil_le.2 (by simpa using (not_le.1 h0).le)
        omega
  have h0 := hk 0; have h1 := hk 1; have h2 := hk 2; have h3 := hk 3; have h4 := hk 4
  simp at h0 h1 h2 h3 h4
  obtain ⟨y, hy⟩ : ∃ y : ℤ, y = max (-((2 ^ (32 - 1) : Nat) : ℤ)) (min (((2 ^ (32 - 1) : Nat) : ℤ) - 1) z) := ⟨_, rfl⟩
  rw [← hy]
  have hy1 : -2147483648 ≤ y := by rw [hy]; norm_num
  have hy2 : y < 2147483648 := by rw [hy]; norm_num [max_lt_iff]
  have ht : (BitVec.ofInt 32 y).toInt = y := BitVec.toInt_ofInt_eq_self (by decide) (by simpa using hy1) (by simpa using hy2)
  have hyz : ∀ k : ℤ, -2147483648 < k → k ≤ 2147483647 → (k ≤ y ↔ k ≤ z) := by
    intro k ha hb; rw [hy]; norm_num; omega
  unfold IntOp.maxsi IntOp.minsi
  have e0 : (BitVec.ofInt 32 y).slt 0#32 = decide (y < 0) := by
    rw [BitVec.slt, ht]; rfl
  rw [e0]
  by_cases a : y < 0
  · have hb : kbin stair r = 0 := by
      have : ¬ (1 : ℤ) ≤ z := by rw [← hyz 1 (by norm_num) (by norm_num)]; omega
      unfold kbin
      rw [if_neg (by rw [h4]; omega), if_neg (by rw [h3]; omega), if_neg (by rw [h2]; omega), if_neg (by rw [h1]; omega),
        if_neg (by rw [h0]; omega)]
    rw [hb]; simp [a]
  · simp only [a, decide_false, Bool.false_eq_true, if_false]
    have e5 : (5#32).slt (BitVec.ofInt 32 y) = decide (5 < y) := by
      rw [BitVec.slt, ht]; rfl
    rw [e5]
    by_cases b : 5 ≤ y
    · have hb : kbin stair r = 5 := by
        have : (5 : ℤ) ≤ z := by rw [← hyz 5 (by norm_num) (by norm_num)]; omega
        unfold kbin; rw [if_pos (by rw [h4]; omega)]
      rw [hb]
      by_cases c : 5 < y
      · simp [c]
      · have : y = 5 := by omega
        subst this; rfl
    · rw [if_neg (by simp; omega)]
      have hzy : z = y := by
        have p0 := hyz (y + 1) (by omega) (by omega)
        have p1 := hyz y
        by_cases c : y = -2147483648
        · omega
        · have := p1 (by omega) (by omega); omega
      rw [hzy] at h0 h1 h2 h3 h4
      have hv : ((kbin stair r).val : ℤ) = y := by
        unfold kbin
        rw [if_neg (by rw [h4]; omega)]
        split_ifs with c3 c2 c1 c0
        · rw [h3] at c3; show (4 : ℤ) = y; omega
        · rw [h2] at c2; rw [h3] at c3; show (3 : ℤ) = y; omega
        · rw [h1] at c1; rw [h2] at c2; show (2 : ℤ) = y; omega
        · rw [h0] at c0; rw [h1] at c1; show (1 : ℤ) = y; omega
        · rw [h0] at c0; show (0 : ℤ) = y; omega
      rw [← hv]; rfl

/-- A clipped word is the word of bin `j` exactly where the bin is `j`. -/
theorem bin_word (a : Fin 6) (j : Fin 6) : IntOp.cmpi .eq (BitVec.ofNat 32 a.val) (BitVec.ofNat 32 j.val) = BitVec.ofBool (decide (a = j)) := by
  revert a j; decide

/-! ### The reference's bins -/

/-- The channel rescaled to 0 … 256. -/
def chn (X : P → EReal) (p : P) : EReal := nrm (X p) (lo X) (hi X) ((256 : ℝ) : EReal)
def rb1 (X : P → EReal) (p : P) : Fin 6 := kbin stair (Ideal.liftRound Int.floor (Ideal.div (chn X p) (Ideal.div ((256 : ℝ) : EReal) ((6 : ℝ) : EReal))))
def rb2 (X : P → EReal) (p : P) : Fin 6 := kbin stair (chn X p * ((6 : ℝ) : EReal) - 1)

/-! ### The kernel's table -/

def kth (X : P → EReal) (t : Fin 5 → ℝ) (k : Fin 5) : EReal := lo X + (hi X - lo X) * (t k : EReal)
def t1 : Fin 5 → ℝ := ![1 / 6, 2 / 6, 1 / 2, 4 / 6, 5 / 6]
def t2 : Fin 5 → ℝ := ![2 / 1536, 1 / 512, 4 / 1536, 5 / 1536, 1 / 256]

def ktable (N nbv : EReal) (X : P → EReal) : Fin 6 → EReal :=
  ktab N nbv (kc N fun k => cnt fun p => kth X t1 k ≤ X p) (kc N fun k => cnt fun p => kth X t2 k ≤ X p)
    (kcc nbv (kc N fun k => cnt fun p => kth X t2 k ≤ X p) (kc 1 (ge0 (kth X t2))))

section Real
variable [Nonempty P] {X : P → EReal} (hX : ∀ p, ∃ r : ℝ, X p = (r : EReal))
include hX

theorem lo_real : ∃ m : ℝ, lo X = (m : EReal) := by
  obtain ⟨p, -, hp⟩ := Finset.exists_mem_eq_inf (Finset.univ : Finset P) Finset.univ_nonempty X
  obtain ⟨r, hr⟩ := hX p
  exact ⟨r, (hp.trans hr : Finset.univ.inf X = _)⟩

theorem hi_real : ∃ m : ℝ, hi X = (m : EReal) := by
  obtain ⟨p, -, hp⟩ := Finset.exists_mem_eq_sup (Finset.univ : Finset P) Finset.univ_nonempty X
  obtain ⟨r, hr⟩ := hX p
  exact ⟨r, (hp.trans hr : Finset.univ.sup X = _)⟩

theorem kth_real {m M : ℝ} (hm : lo X = m) (hM : hi X = M) (t : Fin 5 → ℝ) (k : Fin 5) :
    kth X t k = ((m + (M - m) * t k : ℝ) : EReal) := by
  unfold kth; rw [hm, hM]; norm_cast

theorem lo_le_hi : lo X ≤ hi X := by
  obtain ⟨p⟩ := (inferInstance : Nonempty P)
  exact (lo_le X p).trans (le_hi X p)

theorem kth_ord (t : Fin 5 → ℝ) (h : t 0 ≤ t 1 ∧ t 1 ≤ t 2 ∧ t 2 ≤ t 3 ∧ t 3 ≤ t 4) : Ord (kth X t) := by
  obtain ⟨m, hm⟩ := lo_real hX
  obtain ⟨M, hM⟩ := hi_real hX
  have hd : m ≤ M := by have := lo_le_hi hX; rw [hm, hM] at this; exact EReal.coe_le_coe_iff.1 this
  have key : ∀ a b : Fin 5, t a ≤ t b → kth X t a ≤ kth X t b := fun a b hab => by
    rw [kth_real hX hm hM, kth_real hX hm hM, EReal.coe_le_coe_iff]
    have := mul_le_mul_of_nonneg_left hab (sub_nonneg.2 hd)
    linarith
  exact ⟨key _ _ h.1, key _ _ h.2.1, key _ _ h.2.2.1, key _ _ h.2.2.2⟩

theorem ord1 : Ord (kth X t1) := kth_ord hX t1 ⟨by norm_num [t1], by show (2 / 6 : ℝ) ≤ 1 / 2; norm_num, by show (1 / 2 : ℝ) ≤ 4 / 6; norm_num, by show (4 / 6 : ℝ) ≤ 5 / 6; norm_num⟩
theorem ord2 : Ord (kth X t2) := kth_ord hX t2 ⟨by norm_num [t2], by show (1 / 512 : ℝ) ≤ 4 / 1536; norm_num, by show (4 / 1536 : ℝ) ≤ 5 / 1536; norm_num, by show (5 / 1536 : ℝ) ≤ 1 / 256; norm_num⟩

/-- Where the channel is not constant, the reference's bins are the kernel's. -/
theorem bins_eq (hne : lo X ≠ hi X) (p : P) : kbin (kth X t1) (X p) = rb1 X p ∧ kbin (kth X t2) (X p) = rb2 X p := by
  obtain ⟨m, hm⟩ := lo_real hX
  obtain ⟨M, hM⟩ := hi_real hX
  obtain ⟨x, hx⟩ := hX p
  have hd : m ≤ M := by have := lo_le_hi hX; rw [hm, hM] at this; exact EReal.coe_le_coe_iff.1 this
  have hd' : 0 < M - m := by
    rcases hd.lt_or_eq with h | h
    · linarith
    · exact absurd (by rw [hm, hM, h]) hne
  have hc : chn X p = (((x - m) / (M - m) * 256 : ℝ) : EReal) := by
    unfold chn; rw [hm, hM, hx, nrm_coe, if_neg hd'.ne']
  constructor
  · unfold rb1
    rw [hc, Ideal.div_coe (y := 6) (by norm_num), ← EReal.coe_mul, Ideal.div_coe (by norm_num), ← EReal.coe_mul, Ideal.liftRound_coe]
    refine kbin_congr fun k => ?_
    rw [kth_real hX hm hM, hx, EReal.coe_le_coe_iff]
    unfold stair
    rw [EReal.coe_le_coe_iff]
    have e : ((k.val : ℝ) + 1 ≤ ((⌊(x - m) / (M - m) * 256 * (1 / (256 * (1 / 6)))⌋ : ℤ) : ℝ)) ↔ (k.val : ℝ) + 1 ≤ (x - m) / (M - m) * 6 := by
      rw [show (x - m) / (M - m) * 256 * (1 / (256 * (1 / 6))) = (x - m) / (M - m) * 6 by ring]
      have : ((k.val : ℝ) + 1) = (((k.val : ℤ) + 1 : ℤ) : ℝ) := by push_cast; rfl
      rw [this, Int.cast_le, Int.le_floor]
    rw [e, div_mul_eq_mul_div, le_div_iff₀ hd']
    have ht : t1 k = ((k.val : ℝ) + 1) / 6 := by fin_cases k <;> norm_num [t1]
    rw [ht]
    constructor <;> intro h <;> nlinarith
  · unfold rb2
    rw [hc, ← EReal.coe_mul, ← EReal.coe_one, ← EReal.coe_sub]
    refine kbin_congr fun k => ?_
    rw [kth_real hX hm hM, hx, EReal.coe_le_coe_iff]
    unfold stair
    rw [EReal.coe_le_coe_iff]
    have e : (k.val : ℝ) + 1 ≤ (x - m) / (M - m) * 256 * 6 - 1 ↔ ((k.val : ℝ) + 2) / 1536 ≤ (x - m) / (M - m) := by
      rw [div_le_iff₀ (by norm_num)]; constructor <;> intro h <;> linarith
    rw [e, le_div_iff₀ hd']
    have ht : t2 k = ((k.val : ℝ) + 2) / 1536 := by fin_cases k <;> norm_num [t2]
    rw [ht]
    constructor <;> intro h <;> nlinarith

/-- The kernel's table entry at a pixel off the zeroed border is the reference's map there. -/
theorem chan_eq (B : P → Prop) [DecidablePred B] (hB : ∀ p, B p → X p = 0) {p : P} (hp : ¬ B p) :
    ktable ((Fintype.card P : ℝ) : EReal) (cnt B) X (kbin (kth X t2) (X p)) = out ((Fintype.card P : ℝ) : EReal) B (rb1 X) (rb2 X) p := by
  unfold ktable
  rw [kc_eq (ord1 hX) X, kc_eq (ord2 hX) X, kcc_eq (ord2 hX) X B hB]
  rw [ktab_eq B (fun p => kbin (kth X t1) (X p)) (fun p => kbin (kth X t2) (X p)) rfl (cnt_pos B) rfl rfl rfl hp]
  by_cases hne : lo X = hi X
  · have hc : ∀ q, X q = lo X := fun q => le_antisymm ((le_hi X q).trans hne.ge) (lo_le X q)
    have hz : ∀ q, chn X q = 0 := fun q => by
      obtain ⟨m, hm⟩ := lo_real hX
      unfold chn nrm; rw [← hne, hm, ← EReal.coe_sub, sub_self, if_pos (by simp)]
    rw [out_const B _ _ (kbin (kth X t2) (lo X)) rfl fun q => by rw [hc q]]
    rw [out_const B _ _ (kbin stair (0 * ((6 : ℝ) : EReal) - 1)) rfl fun q => by unfold rb2; rw [hz q]]
  · have h1 : (fun p => kbin (kth X t1) (X p)) = rb1 X := funext fun q => (bins_eq hX hne q).1
    have h2 : (fun p => kbin (kth X t2) (X p)) = rb2 X := funext fun q => (bins_eq hX hne q).2
    rw [h1, h2]

end Real

end Cert.Rarity

end
-- ==== Proof.Lanes.lean ====
/- The kernel's spelling of the table of one channel, number by number, against `Cert.Rarity`'s. -/
module

public import proofs.«01_k».proof.Proof.Bins

@[expose] public section

noncomputable section

namespace Cert.Rarity

open Idealize.ShloMosaic

def zw : EReal := Ideal.ofBits .f32 0x00000000#32
def ow : EReal := Ideal.ofBits .f32 0x3F800000#32
def epw : EReal := Ideal.ofBits .f32 0x38D1B717#32
theorem zw_eq : zw = 0 := w_zero
theorem ow_eq : ow = 1 := w_one

def gt (c : EReal) : BitVec 1 := Ideal.cmp .ogt c zw
def le (t : EReal) : EReal := Scalar.select (Ideal.cmp .ole t zw) ow zw
def lg (N c : EReal) : EReal := zw - Ideal.log (Ideal.div c N + epw)
def rn (v mn mx : EReal) : EReal := rnrm v mn mx ow

def mn6 (b0 : BitVec 1) (f0 : EReal) (b1 : BitVec 1) (f1 : EReal) (b2 : BitVec 1) (f2 : EReal) (b3 : BitVec 1) (f3 : EReal)
    (b4 : BitVec 1) (f4 : EReal) (b5 : BitVec 1) (f5 : EReal) : EReal :=
  min (min (min (min (min (Scalar.select b0 f0 BIG) (Scalar.select b1 f1 BIG)) (Scalar.select b2 f2 BIG)) (Scalar.select b3 f3 BIG))
    (Scalar.select b4 f4 BIG)) (Scalar.select b5 f5 BIG)
def mx6 (b0 : BitVec 1) (f0 : EReal) (b1 : BitVec 1) (f1 : EReal) (b2 : BitVec 1) (f2 : EReal) (b3 : BitVec 1) (f3 : EReal)
    (b4 : BitVec 1) (f4 : EReal) (b5 : BitVec 1) (f5 : EReal) : EReal :=
  max (max (max (max (max (Scalar.select b0 f0 LOW) (Scalar.select b1 f1 LOW)) (Scalar.select b2 f2 LOW)) (Scalar.select b3 f3 LOW))
    (Scalar.select b4 f4 LOW)) (Scalar.select b5 f5 LOW)

theorem sel_gt (c f g : EReal) : Scalar.select (gt c) f g = if 0 < c then f else g := by
  unfold gt; rw [zw_eq]; by_cases h : 0 < c <;> simp [Ideal.cmp, Scalar.select, h]

theorem le_eq (t : EReal) : le t = if t ≤ 0 then 1 else 0 := by
  unfold le; rw [zw_eq, ow_eq]; by_cases h : t ≤ 0 <;> simp [Ideal.cmp, Scalar.select, h]

theorem mn6_gt (c0 c1 c2 c3 c4 c5 f0 f1 f2 f3 f4 f5 : EReal) :
    mn6 (gt c0) f0 (gt c1) f1 (gt c2) f2 (gt c3) f3 (gt c4) f4 (gt c5) f5 = tmn ![c0, c1, c2, c3, c4, c5] ![f0, f1, f2, f3, f4, f5] := by
  unfold mn6; simp only [sel_gt]; rfl
theorem mx6_gt (c0 c1 c2 c3 c4 c5 f0 f1 f2 f3 f4 f5 : EReal) :
    mx6 (gt c0) f0 (gt c1) f1 (gt c2) f2 (gt c3) f3 (gt c4) f4 (gt c5) f5 = tmx ![c0, c1, c2, c3, c4, c5] ![f0, f1, f2, f3, f4, f5] := by
  unfold mx6; simp only [sel_gt]; rfl

theorem vtab_lg (N : EReal) (c : Fin 6 → EReal) : vtab N c = ![lg N (c 0), lg N (c 1), lg N (c 2), lg N (c 3), lg N (c 4), lg N (c 5)] := by
  have e : ∀ z, lg N z = - Ideal.log (Ideal.div z N + EPS) := fun z => by
    unfold lg; rw [zw_eq, sub_eq_add_neg, zero_add]; rfl
  simp only [e]
  funext j; fin_cases j <;> rfl

theorem rn_eq (v mn mx : EReal) : rn v mn mx = nrm v mn mx 1 := by
  unfold rn; rw [ow_eq, rnrm_eq]

theorem tnd_rn (c v : Fin 6 → EReal) : tnd c v = ![rn (v 0) (tmn c v) (tmx c v), rn (v 1) (tmn c v) (tmx c v), rn (v 2) (tmn c v) (tmx c v),
    rn (v 3) (tmn c v) (tmx c v), rn (v 4) (tmn c v) (tmx c v), rn (v 5) (tmn c v) (tmx c v)] := by
  simp only [rn_eq]; funext j; fin_cases j <;> rfl

theorem trt_rn (N : EReal) (c v : Fin 6 → EReal) : trt N c v = ![
    rn (v 0) (tmn c v) (tmx c v) * ((tmx c v - Ideal.div (tsm c v) N) * (tmx c v - Ideal.div (tsm c v) N)),
    rn (v 1) (tmn c v) (tmx c v) * ((tmx c v - Ideal.div (tsm c v) N) * (tmx c v - Ideal.div (tsm c v) N)),
    rn (v 2) (tmn c v) (tmx c v) * ((tmx c v - Ideal.div (tsm c v) N) * (tmx c v - Ideal.div (tsm c v) N)),
    rn (v 3) (tmn c v) (tmx c v) * ((tmx c v - Ideal.div (tsm c v) N) * (tmx c v - Ideal.div (tsm c v) N)),
    rn (v 4) (tmn c v) (tmx c v) * ((tmx c v - Ideal.div (tsm c v) N) * (tmx c v - Ideal.div (tsm c v) N)),
    rn (v 5) (tmn c v) (tmx c v) * ((tmx c v - Ideal.div (tsm c v) N) * (tmx c v - Ideal.div (tsm c v) N))] := by
  simp only [rn_eq]; funext j; fin_cases j <;> rfl

theorem tT_rn (N n : EReal) (c v : Fin 6 → EReal) : tT N n c v = ![
    rn (v 0) (bmn n c v) (bmx n c v) * ((bmx n c v - Ideal.div (tsm c v) N) * (bmx n c v - Ideal.div (tsm c v) N)),
    rn (v 1) (bmn n c v) (bmx n c v) * ((bmx n c v - Ideal.div (tsm c v) N) * (bmx n c v - Ideal.div (tsm c v) N)),
    rn (v 2) (bmn n c v) (bmx n c v) * ((bmx n c v - Ideal.div (tsm c v) N) * (bmx n c v - Ideal.div (tsm c v) N)),
    rn (v 3) (bmn n c v) (bmx n c v) * ((bmx n c v - Ideal.div (tsm c v) N) * (bmx n c v - Ideal.div (tsm c v) N)),
    rn (v 4) (bmn n c v) (bmx n c v) * ((bmx n c v - Ideal.div (tsm c v) N) * (bmx n c v - Ideal.div (tsm c v) N)),
    rn (v 5) (bmn n c v) (bmx n c v) * ((bmx n c v - Ideal.div (tsm c v) N) * (bmx n c v - Ideal.div (tsm c v) N))] := by
  simp only [rn_eq]; funext j; fin_cases j <;> rfl

theorem kcc_le (n : EReal) (c : Fin 6 → EReal) (t0 t1 t2 t3 t4 : EReal) : kcc n c (kc 1 (ge0 ![t0, t1, t2, t3, t4])) = ![
    c 0 - n * (ow - le t0), c 1 - n * (le t0 - le t1), c 2 - n * (le t1 - le t2), c 3 - n * (le t2 - le t3), c 4 - n * (le t3 - le t4),
    c 5 - n * le t4] := by
  simp only [le_eq, ow_eq]; funext j; fin_cases j <;> rfl

theorem bmn_gt (n : EReal) (c r : Fin 6 → EReal) : Scalar.select (gt n) (min (tmn c r) zw) (tmn c r) = bmn n c r := by
  rw [sel_gt, zw_eq]; rfl
theorem bmx_gt (n : EReal) (c r : Fin 6 → EReal) : Scalar.select (gt n) (max (tmx c r) zw) (tmx c r) = bmx n c r := by
  rw [sel_gt, zw_eq]; rfl

/-- The kernel's choice of a table entry by five comparisons is the entry of the pixel's bin. -/
def chain (t0 t1 t2 t3 t4 v : EReal) (f0 f1 f2 f3 f4 f5 : EReal) : EReal :=
  if t4 ≤ v then f5 else if t3 ≤ v then f4 else if t2 ≤ v then f3 else if t1 ≤ v then f2 else if t0 ≤ v then f1 else f0

theorem chain_eq (t0 t1 t2 t3 t4 v f0 f1 f2 f3 f4 f5 : EReal) :
    chain t0 t1 t2 t3 t4 v f0 f1 f2 f3 f4 f5 = ![f0, f1, f2, f3, f4, f5] (kbin ![t0, t1, t2, t3, t4] v) := by
  have e : kbin ![t0, t1, t2, t3, t4] v = if t4 ≤ v then 5 else if t3 ≤ v then 4 else if t2 ≤ v then 3 else if t1 ≤ v then 2 else if t0 ≤ v then 1 else 0 := rfl
  rw [e]; unfold chain; split_ifs <;> rfl

end Cert.Rarity

end
-- ==== Proof.LaneKAIdeal.lean ====
/- One lane of a block, number by number: the table that the layer kernel builds for a channel is `Cert.Rarity.ktab` of that
   channel's counts. -/
module

public import proofs.«01_k».proof.Proof.Lanes
public import proofs.«01_k».proof.Proof.StepKAIdeal
public import Idealize.ShloMosaic.Lib.Pointwise

@[expose] public section

set_option maxRecDepth 16384

noncomputable section

namespace Cert.KAIdeal.Lane

open Idealize.ShloMosaic Cert.KAIdeal Cert.KAIdeal.Gen Cert.KAIdeal.Step Cert.Rarity

abbrev Ln : Type := FVec Ideal S16 .f32

variable (x : Vec Ideal S16x256x256 .f32) (a : BitVec 32) (i : S16.Idx)

theorem r124_ (v58 v65 : Ln) : (k0_pay30 (F := Ideal) v58 v65) i = (v58 i) - (v65 i) := rfl
theorem r124 : s_v124 x a i = (s_v58 x a i) - (s_v65 x a i) := r124_ i (s_v58 x a) (s_v65 x a)
theorem r125_ (v65 v72 : Ln) : (k0_pay31 (F := Ideal) v65 v72) i = (v65 i) - (v72 i) := rfl
theorem r125 : s_v125 x a i = (s_v65 x a i) - (s_v72 x a i) := r125_ i (s_v65 x a) (s_v72 x a)
theorem r126_ (v72 v79 : Ln) : (k0_pay32 (F := Ideal) v72 v79) i = (v72 i) - (v79 i) := rfl
theorem r126 : s_v126 x a i = (s_v72 x a i) - (s_v79 x a i) := r126_ i (s_v72 x a) (s_v79 x a)
theorem r127_ (v79 : Ln) (v18 : Vec Ideal S16x256x256 .f32) (v36 : Ln) : (k0_pay33 (F := Ideal) v79 (k0_pay20 (F := Ideal) v18 v36) (k0_pay21 (F := Ideal)) (k0_pay22 (F := Ideal))) i = (v79 i) - ((k0_pay23 (F := Ideal) (k0_pay20 (F := Ideal) v18 v36) (k0_pay21 (F := Ideal)) (k0_pay22 (F := Ideal))) i) := rfl
theorem r127 : s_v127 x a i = (s_v79 x a i) - (s_v86 x a i) := r127_ i (s_v79 x a) (s_v18 x a) (s_v36 x a)
theorem r130_ (v93 v100 : Ln) : (k0_pay35 (F := Ideal) v93 v100) i = (v93 i) - (v100 i) := rfl
theorem r130 : s_v130 x a i = (s_v93 x a i) - (s_v100 x a i) := r130_ i (s_v93 x a) (s_v100 x a)
theorem r131_ (v100 v107 : Ln) : (k0_pay36 (F := Ideal) v100 v107) i = (v100 i) - (v107 i) := rfl
theorem r131 : s_v131 x a i = (s_v100 x a i) - (s_v107 x a i) := r131_ i (s_v100 x a) (s_v107 x a)
theorem r132_ (v107 v114 : Ln) : (k0_pay37 (F := Ideal) v107 v114) i = (v107 i) - (v114 i) := rfl
theorem r132 : s_v132 x a i = (s_v107 x a i) - (s_v114 x a i) := r132_ i (s_v107 x a) (s_v114 x a)
theorem r133_ (v114 v121 : Ln) : (k0_pay38 (F := Ideal) v114 v121) i = (v114 i) - (v121 i) := rfl
theorem r133 : s_v133 x a i = (s_v114 x a i) - (s_v121 x a i) := r133_ i (s_v114 x a) (s_v121 x a)
theorem r123_ (v58 : Ln) : (k0_pay29 (F := Ideal) v58) i = (Ideal.ofBits .f32 0x47800000#32) - (v58 i) := rfl
theorem r123 : s_v123 x a i = (Ideal.ofBits .f32 0x47800000#32) - (s_v58 x a i) := r123_ i (s_v58 x a)
theorem r129_ (v93 : Ln) : (k0_pay34 (F := Ideal) v93) i = (Ideal.ofBits .f32 0x47800000#32) - (v93 i) := rfl
theorem r129 : s_v129 x a i = (Ideal.ofBits .f32 0x47800000#32) - (s_v93 x a i) := r129_ i (s_v93 x a)
theorem r140_ (v123 : Ln) : (k0_pay39 (F := Ideal) v123) i = lg (Ideal.ofBits .f32 0x47800000#32) (v123 i) := rfl
theorem r140 : s_v140 x a i = lg (Ideal.ofBits .f32 0x47800000#32) (s_v123 x a i) := r140_ i (s_v123 x a)
theorem r147_ (v124 : Ln) : (k0_pay40 (F := Ideal) v124) i = lg (Ideal.ofBits .f32 0x47800000#32) (v124 i) := rfl
theorem r147 : s_v147 x a i = lg (Ideal.ofBits .f32 0x47800000#32) (s_v124 x a i) := r147_ i (s_v124 x a)
theorem r154_ (v125 : Ln) : (k0_pay41 (F := Ideal) v125) i = lg (Ideal.ofBits .f32 0x47800000#32) (v125 i) := rfl
theorem r154 : s_v154 x a i = lg (Ideal.ofBits .f32 0x47800000#32) (s_v125 x a i) := r154_ i (s_v125 x a)
theorem r161_ (v126 : Ln) : (k0_pay42 (F := Ideal) v126) i = lg (Ideal.ofBits .f32 0x47800000#32) (v126 i) := rfl
theorem r161 : s_v161 x a i = lg (Ideal.ofBits .f32 0x47800000#32) (s_v126 x a i) := r161_ i (s_v126 x a)
theorem r168_ (v127 : Ln) : (k0_pay43 (F := Ideal) v127) i = lg (Ideal.ofBits .f32 0x47800000#32) (v127 i) := rfl
theorem r168 : s_v168 x a i = lg (Ideal.ofBits .f32 0x47800000#32) (s_v127 x a i) := r168_ i (s_v127 x a)
theorem r170_ (v86 : Ln) : (k0_pay44 (F := Ideal) v86) i = Ideal.div (v86 i) (Ideal.ofBits .f32 0x47800000#32) := rfl
theorem r170 : s_v170 x a i = Ideal.div (s_v86 x a i) (Ideal.ofBits .f32 0x47800000#32) := r170_ i (s_v86 x a)
theorem r175_ (v170 : Ln) : (k0_pay45 (F := Ideal) v170) i = zw - Ideal.log ((v170 i) + epw) := rfl
theorem r175 : s_v175 x a i = zw - Ideal.log ((s_v170 x a i) + epw) := r175_ i (s_v170 x a)
theorem r177_ (v129 : Ln) : (k0_pay46 (F := Ideal) v129) i = gt (v129 i) := rfl
theorem r177 : s_v177 x a i = gt (s_v129 x a i) := r177_ i (s_v129 x a)
theorem r179_ (v130 : Ln) : (k0_pay47 (F := Ideal) v130) i = gt (v130 i) := rfl
theorem r179 : s_v179 x a i = gt (s_v130 x a i) := r179_ i (s_v130 x a)
theorem r181_ (v131 : Ln) : (k0_pay48 (F := Ideal) v131) i = gt (v131 i) := rfl
theorem r181 : s_v181 x a i = gt (s_v131 x a i) := r181_ i (s_v131 x a)
theorem r183_ (v132 : Ln) : (k0_pay49 (F := Ideal) v132) i = gt (v132 i) := rfl
theorem r183 : s_v183 x a i = gt (s_v132 x a i) := r183_ i (s_v132 x a)
theorem r185_ (v133 : Ln) : (k0_pay50 (F := Ideal) v133) i = gt (v133 i) := rfl
theorem r185 : s_v185 x a i = gt (s_v133 x a i) := r185_ i (s_v133 x a)
theorem r187_ (v121 : Ln) : (k0_pay51 (F := Ideal) v121) i = gt (v121 i) := rfl
theorem r187 : s_v187 x a i = gt (s_v121 x a i) := r187_ i (s_v121 x a)
theorem r204_ (v121 v129 v130 v131 v132 v133 v140 v147 v154 v161 v168 v170 : Ln) : (k0_pay52 (F := Ideal) v121 v129 v130 v131 v132 v133 v140 v147 v154 v161 v168 v170) i = mn6 ((k0_pay46 (F := Ideal) v129) i) (v140 i) ((k0_pay47 (F := Ideal) v130) i) (v147 i) ((k0_pay48 (F := Ideal) v131) i) (v154 i) ((k0_pay49 (F := Ideal) v132) i) (v161 i) ((k0_pay50 (F := Ideal) v133) i) (v168 i) ((k0_pay51 (F := Ideal) v121) i) ((k0_pay45 (F := Ideal) v170) i) := rfl
theorem r204 : s_v204 x a i = mn6 (s_v177 x a i) (s_v140 x a i) (s_v179 x a i) (s_v147 x a i) (s_v181 x a i) (s_v154 x a i) (s_v183 x a i) (s_v161 x a i) (s_v185 x a i) (s_v168 x a i) (s_v187 x a i) (s_v175 x a i) := r204_ i (s_v121 x a) (s_v129 x a) (s_v130 x a) (s_v131 x a) (s_v132 x a) (s_v133 x a) (s_v140 x a) (s_v147 x a) (s_v154 x a) (s_v161 x a) (s_v168 x a) (s_v170 x a)
theorem r221_ (v168 v175 : Ln) (v185 v187 : IVec S16 1) (v129 v140 v130 v147 v131 v154 v132 v161 : Ln) : (k0_pay57 (F := Ideal) v168 v175 v185 v187 (k0_pay53 (F := Ideal) v129 v140) (k0_pay54 (F := Ideal) v130 v147) (k0_pay55 (F := Ideal) v131 v154) (k0_pay56 (F := Ideal) v132 v161)) i = mx6 ((k0_pay46 (F := Ideal) v129) i) (v140 i) ((k0_pay47 (F := Ideal) v130) i) (v147 i) ((k0_pay48 (F := Ideal) v131) i) (v154 i) ((k0_pay49 (F := Ideal) v132) i) (v161 i) (v185 i) (v168 i) (v187 i) (v175 i) := rfl
theorem r221 : s_v221 x a i = mx6 (s_v177 x a i) (s_v140 x a i) (s_v179 x a i) (s_v147 x a i) (s_v181 x a i) (s_v154 x a i) (s_v183 x a i) (s_v161 x a i) (s_v185 x a i) (s_v168 x a i) (s_v187 x a i) (s_v175 x a i) := r221_ i (s_v168 x a) (s_v175 x a) (s_v185 x a) (s_v187 x a) (s_v129 x a) (s_v140 x a) (s_v130 x a) (s_v147 x a) (s_v131 x a) (s_v154 x a) (s_v132 x a) (s_v161 x a)
theorem r236_ (v140 v168 v175 : Ln) (v185 v187 : IVec S16 1) (v204 v129 v130 v147 v131 v154 v132 v161 : Ln) : (k0_pay58 (F := Ideal) v140 v168 v175 v185 v187 v204 (k0_pay53 (F := Ideal) v129 v140) (k0_pay54 (F := Ideal) v130 v147) (k0_pay55 (F := Ideal) v131 v154) (k0_pay56 (F := Ideal) v132 v161)) i = rn (v140 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r236 : s_v236 x a i = rn (s_v140 x a i) (s_v204 x a i) (s_v221 x a i) := r236_ i (s_v140 x a) (s_v168 x a) (s_v175 x a) (s_v185 x a) (s_v187 x a) (s_v204 x a) (s_v129 x a) (s_v130 x a) (s_v147 x a) (s_v131 x a) (s_v154 x a) (s_v132 x a) (s_v161 x a)
theorem r251_ (v147 v168 v175 : Ln) (v185 v187 : IVec S16 1) (v204 v129 v140 v130 v131 v154 v132 v161 : Ln) : (k0_pay59 (F := Ideal) v147 v168 v175 v185 v187 v204 (k0_pay53 (F := Ideal) v129 v140) (k0_pay54 (F := Ideal) v130 v147) (k0_pay55 (F := Ideal) v131 v154) (k0_pay56 (F := Ideal) v132 v161)) i = rn (v147 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r251 : s_v251 x a i = rn (s_v147 x a i) (s_v204 x a i) (s_v221 x a i) := r251_ i (s_v147 x a) (s_v168 x a) (s_v175 x a) (s_v185 x a) (s_v187 x a) (s_v204 x a) (s_v129 x a) (s_v140 x a) (s_v130 x a) (s_v131 x a) (s_v154 x a) (s_v132 x a) (s_v161 x a)
theorem r266_ (v168 v175 : Ln) (v185 v187 : IVec S16 1) (v204 v129 v140 v130 v147 v131 v154 v132 v161 : Ln) : (k0_pay64 (F := Ideal) (k0_pay60 (F := Ideal) v168 v175 v185 v187 v204 (k0_pay53 (F := Ideal) v129 v140) (k0_pay54 (F := Ideal) v130 v147) (k0_pay55 (F := Ideal) v131 v154) (k0_pay56 (F := Ideal) v132 v161)) (k0_pay61 (F := Ideal) v154 v204) (k0_pay62 (F := Ideal) v168 v175 v185 v187 v204 (k0_pay53 (F := Ideal) v129 v140) (k0_pay54 (F := Ideal) v130 v147) (k0_pay55 (F := Ideal) v131 v154) (k0_pay56 (F := Ideal) v132 v161)) (k0_pay63 (F := Ideal))) i = rn (v154 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r266 : s_v266 x a i = rn (s_v154 x a i) (s_v204 x a i) (s_v221 x a i) := r266_ i (s_v168 x a) (s_v175 x a) (s_v185 x a) (s_v187 x a) (s_v204 x a) (s_v129 x a) (s_v140 x a) (s_v130 x a) (s_v147 x a) (s_v131 x a) (s_v154 x a) (s_v132 x a) (s_v161 x a)
theorem r281_ (v161 v204 v221 : Ln) : (k0_pay65 (F := Ideal) v161 v204 v221) i = rn (v161 i) (v204 i) (v221 i) := rfl
theorem r281 : s_v281 x a i = rn (s_v161 x a i) (s_v204 x a i) (s_v221 x a i) := r281_ i (s_v161 x a) (s_v204 x a) (s_v221 x a)
theorem r296_ (v168 v204 v221 : Ln) : (k0_pay66 (F := Ideal) v168 v204 v221) i = rn (v168 i) (v204 i) (v221 i) := rfl
theorem r296 : s_v296 x a i = rn (s_v168 x a i) (s_v204 x a i) (s_v221 x a i) := r296_ i (s_v168 x a) (s_v204 x a) (s_v221 x a)
theorem r311_ (v204 v221 v175 : Ln) : (k0_pay70 (F := Ideal) (k0_pay67 (F := Ideal) v204 v221) (k0_pay68 (F := Ideal) v175 v204) (k0_pay69 (F := Ideal))) i = rn (v175 i) (v204 i) (v221 i) := rfl
theorem r311 : s_v311 x a i = rn (s_v175 x a i) (s_v204 x a i) (s_v221 x a i) := r311_ i (s_v204 x a) (s_v221 x a) (s_v175 x a)
theorem r326_ (v121 v129 v130 v131 v132 v133 v236 v251 v266 v281 v296 v204 v221 v175 : Ln) : (k0_pay71 (F := Ideal) v121 v129 v130 v131 v132 v133 v236 v251 v266 v281 v296 (k0_pay67 (F := Ideal) v204 v221) (k0_pay68 (F := Ideal) v175 v204) (k0_pay69 (F := Ideal))) i = Ideal.div (zw + (v129 i) * (v236 i) + (v130 i) * (v251 i) + (v131 i) * (v266 i) + (v132 i) * (v281 i) + (v133 i) * (v296 i) + (v121 i) * ((k0_pay70 (F := Ideal) (k0_pay67 (F := Ideal) v204 v221) (k0_pay68 (F := Ideal) v175 v204) (k0_pay69 (F := Ideal))) i)) (Ideal.ofBits .f32 0x47800000#32) := rfl
theorem r326 : s_v326 x a i = Ideal.div (zw + (s_v129 x a i) * (s_v236 x a i) + (s_v130 x a i) * (s_v251 x a i) + (s_v131 x a i) * (s_v266 x a i) + (s_v132 x a i) * (s_v281 x a i) + (s_v133 x a i) * (s_v296 x a i) + (s_v121 x a i) * (s_v311 x a i)) (Ideal.ofBits .f32 0x47800000#32) := r326_ i (s_v121 x a) (s_v129 x a) (s_v130 x a) (s_v131 x a) (s_v132 x a) (s_v133 x a) (s_v236 x a) (s_v251 x a) (s_v266 x a) (s_v281 x a) (s_v296 x a) (s_v204 x a) (s_v221 x a) (s_v175 x a)
theorem r343_ (v177 v179 v181 v183 v185 v187 : IVec S16 1) (v236 v251 v266 v281 v296 v204 v221 v175 : Ln) : (k0_pay72 (F := Ideal) v177 v179 v181 v183 v185 v187 v236 v251 v266 v281 v296 (k0_pay67 (F := Ideal) v204 v221) (k0_pay68 (F := Ideal) v175 v204) (k0_pay69 (F := Ideal))) i = mn6 (v177 i) (v236 i) (v179 i) (v251 i) (v181 i) (v266 i) (v183 i) (v281 i) (v185 i) (v296 i) (v187 i) ((k0_pay70 (F := Ideal) (k0_pay67 (F := Ideal) v204 v221) (k0_pay68 (F := Ideal) v175 v204) (k0_pay69 (F := Ideal))) i) := rfl
theorem r343 : s_v343 x a i = mn6 (s_v177 x a i) (s_v236 x a i) (s_v179 x a i) (s_v251 x a i) (s_v181 x a i) (s_v266 x a i) (s_v183 x a i) (s_v281 x a i) (s_v185 x a i) (s_v296 x a i) (s_v187 x a i) (s_v311 x a i) := r343_ i (s_v177 x a) (s_v179 x a) (s_v181 x a) (s_v183 x a) (s_v185 x a) (s_v187 x a) (s_v236 x a) (s_v251 x a) (s_v266 x a) (s_v281 x a) (s_v296 x a) (s_v204 x a) (s_v221 x a) (s_v175 x a)
theorem r360_ (v179 v181 v183 v185 v187 : IVec S16 1) (v251 v266 v281 v296 v311 : Ln) (v177 : IVec S16 1) (v236 : Ln) : (k0_pay74 (F := Ideal) v179 v181 v183 v185 v187 v251 v266 v281 v296 v311 (k0_pay73 (F := Ideal) v177 v236)) i = mx6 (v177 i) (v236 i) (v179 i) (v251 i) (v181 i) (v266 i) (v183 i) (v281 i) (v185 i) (v296 i) (v187 i) (v311 i) := rfl
theorem r360 : s_v360 x a i = mx6 (s_v177 x a i) (s_v236 x a i) (s_v179 x a i) (s_v251 x a i) (s_v181 x a i) (s_v266 x a i) (s_v183 x a i) (s_v281 x a i) (s_v185 x a i) (s_v296 x a i) (s_v187 x a i) (s_v311 x a i) := r360_ i (s_v179 x a) (s_v181 x a) (s_v183 x a) (s_v185 x a) (s_v187 x a) (s_v251 x a) (s_v266 x a) (s_v281 x a) (s_v296 x a) (s_v311 x a) (s_v177 x a) (s_v236 x a)
theorem r362_ (v179 v181 v183 v185 v187 : IVec S16 1) (v251 v266 v281 v296 v311 v326 : Ln) (v177 : IVec S16 1) (v236 : Ln) : (k0_pay75 (F := Ideal) v179 v181 v183 v185 v187 v251 v266 v281 v296 v311 v326 (k0_pay73 (F := Ideal) v177 v236)) i = (((k0_pay74 (F := Ideal) v179 v181 v183 v185 v187 v251 v266 v281 v296 v311 (k0_pay73 (F := Ideal) v177 v236)) i) - (v326 i)) * (((k0_pay74 (F := Ideal) v179 v181 v183 v185 v187 v251 v266 v281 v296 v311 (k0_pay73 (F := Ideal) v177 v236)) i) - (v326 i)) := rfl
theorem r362 : s_v362 x a i = ((s_v360 x a i) - (s_v326 x a i)) * ((s_v360 x a i) - (s_v326 x a i)) := r362_ i (s_v179 x a) (s_v181 x a) (s_v183 x a) (s_v185 x a) (s_v187 x a) (s_v251 x a) (s_v266 x a) (s_v281 x a) (s_v296 x a) (s_v311 x a) (s_v326 x a) (s_v177 x a) (s_v236 x a)
theorem r378_ (v179 v181 v183 v185 v187 : IVec S16 1) (v236 v251 v266 v281 v296 v311 v326 v343 : Ln) (v177 : IVec S16 1) : (k0_pay76 (F := Ideal) v179 v181 v183 v185 v187 v236 v251 v266 v281 v296 v311 v326 v343 (k0_pay73 (F := Ideal) v177 v236)) i = rn (v236 i) (v343 i) ((k0_pay74 (F := Ideal) v179 v181 v183 v185 v187 v251 v266 v281 v296 v311 (k0_pay73 (F := Ideal) v177 v236)) i) * ((k0_pay75 (F := Ideal) v179 v181 v183 v185 v187 v251 v266 v281 v296 v311 v326 (k0_pay73 (F := Ideal) v177 v236)) i) := rfl
theorem r378 : s_v378 x a i = rn (s_v236 x a i) (s_v343 x a i) (s_v360 x a i) * (s_v362 x a i) := r378_ i (s_v179 x a) (s_v181 x a) (s_v183 x a) (s_v185 x a) (s_v187 x a) (s_v236 x a) (s_v251 x a) (s_v266 x a) (s_v281 x a) (s_v296 x a) (s_v311 x a) (s_v326 x a) (s_v343 x a) (s_v177 x a)
theorem r394_ (v362 : Ln) (v179 v181 v183 v185 v187 : IVec S16 1) (v251 v266 v281 v296 v311 v343 : Ln) (v177 : IVec S16 1) (v236 : Ln) : (k0_pay79 (F := Ideal) v362 (k0_pay77 (F := Ideal) v179 v181 v183 v185 v187 v251 v266 v281 v296 v311 v343 (k0_pay73 (F := Ideal) v177 v236)) (k0_pay78 (F := Ideal) v179 v181 v183 v185 v187 v251 v266 v281 v296 v311 v343 (k0_pay73 (F := Ideal) v177 v236)) (Scalar.ofBits .f32 0x00000000#32)) i = rn (v251 i) (v343 i) ((k0_pay74 (F := Ideal) v179 v181 v183 v185 v187 v251 v266 v281 v296 v311 (k0_pay73 (F := Ideal) v177 v236)) i) * (v362 i) := rfl
theorem r394 : s_v394 x a i = rn (s_v251 x a i) (s_v343 x a i) (s_v360 x a i) * (s_v362 x a i) := r394_ i (s_v362 x a) (s_v179 x a) (s_v181 x a) (s_v183 x a) (s_v185 x a) (s_v187 x a) (s_v251 x a) (s_v266 x a) (s_v281 x a) (s_v296 x a) (s_v311 x a) (s_v343 x a) (s_v177 x a) (s_v236 x a)
theorem r410_ (v266 v343 v360 v362 : Ln) : (k0_pay80 (F := Ideal) v266 v343 v360 v362) i = rn (v266 i) (v343 i) (v360 i) * (v362 i) := rfl
theorem r410 : s_v410 x a i = rn (s_v266 x a i) (s_v343 x a i) (s_v360 x a i) * (s_v362 x a i) := r410_ i (s_v266 x a) (s_v343 x a) (s_v360 x a) (s_v362 x a)
theorem r426_ (v281 v343 v360 v362 : Ln) : (k0_pay81 (F := Ideal) v281 v343 v360 v362) i = rn (v281 i) (v343 i) (v360 i) * (v362 i) := rfl
theorem r426 : s_v426 x a i = rn (s_v281 x a i) (s_v343 x a i) (s_v360 x a i) * (s_v362 x a i) := r426_ i (s_v281 x a) (s_v343 x a) (s_v360 x a) (s_v362 x a)
theorem r442_ (v362 v343 v360 v296 : Ln) : (k0_pay84 (F := Ideal) v362 (k0_pay82 (F := Ideal) v343 v360) (k0_pay83 (F := Ideal) v296 v343 v360) (Scalar.ofBits .f32 0x3F800000#32)) i = rn (v296 i) (v343 i) (v360 i) * (v362 i) := rfl
theorem r442 : s_v442 x a i = rn (s_v296 x a i) (s_v343 x a i) (s_v360 x a i) * (s_v362 x a i) := r442_ i (s_v362 x a) (s_v343 x a) (s_v360 x a) (s_v296 x a)
theorem r458_ (v311 v343 v360 v362 : Ln) : (k0_pay85 (F := Ideal) v311 v343 v360 v362) i = rn (v311 i) (v343 i) (v360 i) * (v362 i) := rfl
theorem r458 : s_v458 x a i = rn (s_v311 x a i) (s_v343 x a i) (s_v360 x a i) * (s_v362 x a i) := r458_ i (s_v311 x a) (s_v343 x a) (s_v360 x a) (s_v362 x a)
theorem r501_ (v129 v468 v39 : Ln) : (k0_pay93 (F := Ideal) v129 v468 (k0_pay87 (F := Ideal) v39)) i = (v129 i) - (v468 i) * (ow - (le (v39 i))) := rfl
theorem r501 : s_v501 x a i = (s_v129 x a i) - (s_v468 x a i) * (ow - (le (s_v39 x a i))) := r501_ i (s_v129 x a) (s_v468 x a) (s_v39 x a)
theorem r503_ (v130 v468 v39 v42 : Ln) : (k0_pay94 (F := Ideal) v130 v468 (k0_pay87 (F := Ideal) v39) (k0_pay88 (F := Ideal) v42) (Scalar.ofBits .f32 0x3F800000#32)) i = (v130 i) - (v468 i) * ((le (v39 i)) - (le (v42 i))) := rfl
theorem r503 : s_v503 x a i = (s_v130 x a i) - (s_v468 x a i) * ((le (s_v39 x a i)) - (le (s_v42 x a i))) := r503_ i (s_v130 x a) (s_v468 x a) (s_v39 x a) (s_v42 x a)
theorem r505_ (v45 v131 v468 v42 : Ln) : (k0_pay95 (F := Ideal) v45 v131 v468 (k0_pay88 (F := Ideal) v42) (Scalar.ofBits .f32 0x3F800000#32)) i = (v131 i) - (v468 i) * ((le (v42 i)) - (le (v45 i))) := rfl
theorem r505 : s_v505 x a i = (s_v131 x a i) - (s_v468 x a i) * ((le (s_v42 x a i)) - (le (s_v45 x a i))) := r505_ i (s_v45 x a) (s_v131 x a) (s_v468 x a) (s_v42 x a)
theorem r507_ (v45 v48 v132 v468 : Ln) : (k0_pay96 (F := Ideal) v45 v48 v132 v468) i = (v132 i) - (v468 i) * ((le (v45 i)) - (le (v48 i))) := rfl
theorem r507 : s_v507 x a i = (s_v132 x a i) - (s_v468 x a i) * ((le (s_v45 x a i)) - (le (s_v48 x a i))) := r507_ i (s_v45 x a) (s_v48 x a) (s_v132 x a) (s_v468 x a)
theorem r509_ (v48 v51 v133 v468 : Ln) : (k0_pay97 (F := Ideal) v48 v51 v133 v468) i = (v133 i) - (v468 i) * ((le (v48 i)) - (le (v51 i))) := rfl
theorem r509 : s_v509 x a i = (s_v133 x a i) - (s_v468 x a i) * ((le (s_v48 x a i)) - (le (s_v51 x a i))) := r509_ i (s_v48 x a) (s_v51 x a) (s_v133 x a) (s_v468 x a)
theorem r511_ (v51 v121 v468 : Ln) : (k0_pay98 (F := Ideal) v51 v121 v468) i = (v121 i) - (v468 i) * (le (v51 i)) := rfl
theorem r511 : s_v511 x a i = (s_v121 x a i) - (s_v468 x a i) * (le (s_v51 x a i)) := r511_ i (s_v51 x a) (s_v121 x a) (s_v468 x a)
theorem r557_ (v378 v394 v410 v426 v442 v458 v509 v511 v129 v468 v39 v130 v42 v45 v131 v48 v132 : Ln) : (k0_pay105 (F := Ideal) v378 v394 v410 v426 v442 v458 v509 v511 (k0_pay99 (F := Ideal) v129 v468 (k0_pay87 (F := Ideal) v39)) (k0_pay100 (F := Ideal) v130 v468 (k0_pay87 (F := Ideal) v39) (k0_pay88 (F := Ideal) v42) (Scalar.ofBits .f32 0x3F800000#32)) (k0_pay101 (F := Ideal) v45 v131 v468 (k0_pay88 (F := Ideal) v42) (Scalar.ofBits .f32 0x3F800000#32)) (k0_pay102 (F := Ideal) v45 v48 v132 v468) (Scalar.ofBits .f32 0x00000000#32)) i = mx6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i) := rfl
theorem r557 : s_v557 x a i = mx6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i) := r557_ i (s_v378 x a) (s_v394 x a) (s_v410 x a) (s_v426 x a) (s_v442 x a) (s_v458 x a) (s_v509 x a) (s_v511 x a) (s_v129 x a) (s_v468 x a) (s_v39 x a) (s_v130 x a) (s_v42 x a) (s_v45 x a) (s_v131 x a) (s_v48 x a) (s_v132 x a)
theorem r562_ (v378 v394 v410 v426 v442 v458 v468 v509 v511 v129 v39 v130 v42 v45 v131 v48 v132 : Ln) : (k0_pay106 (F := Ideal) v378 v394 v410 v426 v442 v458 v468 v509 v511 (k0_pay99 (F := Ideal) v129 v468 (k0_pay87 (F := Ideal) v39)) (k0_pay100 (F := Ideal) v130 v468 (k0_pay87 (F := Ideal) v39) (k0_pay88 (F := Ideal) v42) (Scalar.ofBits .f32 0x3F800000#32)) (k0_pay101 (F := Ideal) v45 v131 v468 (k0_pay88 (F := Ideal) v42) (Scalar.ofBits .f32 0x3F800000#32)) (k0_pay102 (F := Ideal) v45 v48 v132 v468) (Scalar.ofBits .f32 0x00000000#32)) i = Scalar.select (gt (v468 i)) (min (mn6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i)) zw) (mn6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i)) := rfl
theorem r562 : s_v562 x a i = Scalar.select (gt (s_v468 x a i)) (min (mn6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i)) zw) (mn6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i)) := r562_ i (s_v378 x a) (s_v394 x a) (s_v410 x a) (s_v426 x a) (s_v442 x a) (s_v458 x a) (s_v468 x a) (s_v509 x a) (s_v511 x a) (s_v129 x a) (s_v39 x a) (s_v130 x a) (s_v42 x a) (s_v45 x a) (s_v131 x a) (s_v48 x a) (s_v132 x a)
theorem r567_ (v468 v557 : Ln) : (k0_pay108 (F := Ideal) v468 v557 (k0_pay107 (F := Ideal))) i = Scalar.select (gt (v468 i)) (max (v557 i) zw) (v557 i) := rfl
theorem r567 : s_v567 x a i = Scalar.select (gt (s_v468 x a i)) (max (s_v557 x a i) zw) (s_v557 x a i) := r567_ i (s_v468 x a) (s_v557 x a)
theorem r584_ (v378 v394 v410 v426 v442 v458 v468 v501 v503 v505 v507 v509 v511 v557 : Ln) : (k0_pay109 (F := Ideal) v378 v394 v410 v426 v442 v458 v468 v501 v503 v505 v507 v509 v511 v557 (k0_pay107 (F := Ideal))) i = (((k0_pay108 (F := Ideal) v468 v557 (k0_pay107 (F := Ideal))) i) - Ideal.div (zw + (v501 i) * (v378 i) + (v503 i) * (v394 i) + (v505 i) * (v410 i) + (v507 i) * (v426 i) + (v509 i) * (v442 i) + (v511 i) * (v458 i)) (Ideal.ofBits .f32 0x47800000#32)) * (((k0_pay108 (F := Ideal) v468 v557 (k0_pay107 (F := Ideal))) i) - Ideal.div (zw + (v501 i) * (v378 i) + (v503 i) * (v394 i) + (v505 i) * (v410 i) + (v507 i) * (v426 i) + (v509 i) * (v442 i) + (v511 i) * (v458 i)) (Ideal.ofBits .f32 0x47800000#32)) := rfl
theorem r584 : s_v584 x a i = ((s_v567 x a i) - Ideal.div (zw + (s_v501 x a i) * (s_v378 x a i) + (s_v503 x a i) * (s_v394 x a i) + (s_v505 x a i) * (s_v410 x a i) + (s_v507 x a i) * (s_v426 x a i) + (s_v509 x a i) * (s_v442 x a i) + (s_v511 x a i) * (s_v458 x a i)) (Ideal.ofBits .f32 0x47800000#32)) * ((s_v567 x a i) - Ideal.div (zw + (s_v501 x a i) * (s_v378 x a i) + (s_v503 x a i) * (s_v394 x a i) + (s_v505 x a i) * (s_v410 x a i) + (s_v507 x a i) * (s_v426 x a i) + (s_v509 x a i) * (s_v442 x a i) + (s_v511 x a i) * (s_v458 x a i)) (Ideal.ofBits .f32 0x47800000#32)) := r584_ i (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a)
theorem r600_ (v378 v394 v410 v426 v442 v458 v468 v501 v503 v505 v507 v509 v511 v557 v562 : Ln) : (k0_pay110 (F := Ideal) v378 v394 v410 v426 v442 v458 v468 v501 v503 v505 v507 v509 v511 v557 v562 (k0_pay107 (F := Ideal))) i = rn (v378 i) (v562 i) ((k0_pay108 (F := Ideal) v468 v557 (k0_pay107 (F := Ideal))) i) * ((k0_pay109 (F := Ideal) v378 v394 v410 v426 v442 v458 v468 v501 v503 v505 v507 v509 v511 v557 (k0_pay107 (F := Ideal))) i) := rfl
theorem r600 : s_v600 x a i = rn (s_v378 x a i) (s_v562 x a i) (s_v567 x a i) * (s_v584 x a i) := r600_ i (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a)
theorem r616_ (v584 v468 v557 v562 v394 : Ln) : (k0_pay114 (F := Ideal) v584 (k0_pay111 (F := Ideal) v468 v557 v562 (k0_pay107 (F := Ideal))) (k0_pay112 (F := Ideal) v394 v468 v557 v562 (k0_pay107 (F := Ideal))) (k0_pay113 (F := Ideal))) i = rn (v394 i) (v562 i) ((k0_pay108 (F := Ideal) v468 v557 (k0_pay107 (F := Ideal))) i) * (v584 i) := rfl
theorem r616 : s_v616 x a i = rn (s_v394 x a i) (s_v562 x a i) (s_v567 x a i) * (s_v584 x a i) := r616_ i (s_v584 x a) (s_v468 x a) (s_v557 x a) (s_v562 x a) (s_v394 x a)
theorem r632_ (v410 v562 v567 v584 : Ln) : (k0_pay115 (F := Ideal) v410 v562 v567 v584) i = rn (v410 i) (v562 i) (v567 i) * (v584 i) := rfl
theorem r632 : s_v632 x a i = rn (s_v410 x a i) (s_v562 x a i) (s_v567 x a i) * (s_v584 x a i) := r632_ i (s_v410 x a) (s_v562 x a) (s_v567 x a) (s_v584 x a)
theorem r648_ (v426 v562 v567 v584 : Ln) : (k0_pay116 (F := Ideal) v426 v562 v567 v584) i = rn (v426 i) (v562 i) (v567 i) * (v584 i) := rfl
theorem r648 : s_v648 x a i = rn (s_v426 x a i) (s_v562 x a i) (s_v567 x a i) * (s_v584 x a i) := r648_ i (s_v426 x a) (s_v562 x a) (s_v567 x a) (s_v584 x a)
theorem r664_ (v584 v562 v567 v442 : Ln) : (k0_pay120 (F := Ideal) v584 (k0_pay117 (F := Ideal) v562 v567) (k0_pay118 (F := Ideal) v442 v562) (k0_pay119 (F := Ideal) v562 v567)) i = rn (v442 i) (v562 i) (v567 i) * (v584 i) := rfl
theorem r664 : s_v664 x a i = rn (s_v442 x a i) (s_v562 x a i) (s_v567 x a i) * (s_v584 x a i) := r664_ i (s_v584 x a) (s_v562 x a) (s_v567 x a) (s_v442 x a)
theorem r680_ (v458 v562 v567 v584 : Ln) : (k0_pay121 (F := Ideal) v458 v562 v567 v584) i = rn (v458 i) (v562 i) (v567 i) * (v584 i) := rfl
theorem r680 : s_v680 x a i = rn (s_v458 x a i) (s_v562 x a i) (s_v567 x a i) * (s_v584 x a i) := r680_ i (s_v458 x a) (s_v562 x a) (s_v567 x a) (s_v584 x a)

abbrev g1 : Fin 5 → EReal := ![s_v58 x a i, s_v65 x a i, s_v72 x a i, s_v79 x a i, s_v86 x a i]
abbrev g2 : Fin 5 → EReal := ![s_v93 x a i, s_v100 x a i, s_v107 x a i, s_v114 x a i, s_v121 x a i]
abbrev th : Fin 5 → EReal := ![s_v39 x a i, s_v42 x a i, s_v45 x a i, s_v48 x a i, s_v51 x a i]
abbrev c1v : Fin 6 → EReal := ![s_v123 x a i, s_v124 x a i, s_v125 x a i, s_v126 x a i, s_v127 x a i, s_v86 x a i]
abbrev c2v : Fin 6 → EReal := ![s_v129 x a i, s_v130 x a i, s_v131 x a i, s_v132 x a i, s_v133 x a i, s_v121 x a i]
abbrev vv : Fin 6 → EReal := ![s_v140 x a i, s_v147 x a i, s_v154 x a i, s_v161 x a i, s_v168 x a i, s_v175 x a i]
abbrev dv : Fin 6 → EReal := ![s_v236 x a i, s_v251 x a i, s_v266 x a i, s_v281 x a i, s_v296 x a i, s_v311 x a i]
abbrev rv : Fin 6 → EReal := ![s_v378 x a i, s_v394 x a i, s_v410 x a i, s_v426 x a i, s_v442 x a i, s_v458 x a i]
abbrev ccv : Fin 6 → EReal := ![s_v501 x a i, s_v503 x a i, s_v505 x a i, s_v507 x a i, s_v509 x a i, s_v511 x a i]
abbrev tv : Fin 6 → EReal := ![s_v600 x a i, s_v616 x a i, s_v632 x a i, s_v648 x a i, s_v664 x a i, s_v680 x a i]

theorem c1_eq : c1v x a i = kc (Ideal.ofBits .f32 0x47800000#32) (g1 x a i) := by
  unfold c1v; rw [r123, r124, r125, r126, r127]; rfl
theorem c2_eq : c2v x a i = kc (Ideal.ofBits .f32 0x47800000#32) (g2 x a i) := by
  unfold c2v; rw [r129, r130, r131, r132, r133]; rfl
theorem v_eq : vv x a i = vtab (Ideal.ofBits .f32 0x47800000#32) (c1v x a i) := by
  rw [vtab_lg]; unfold vv; rw [r140, r147, r154, r161, r168, r175, r170]; rfl
theorem pmn_eq : s_v204 x a i = tmn (c2v x a i) (vv x a i) := by
  rw [r204, r177, r179, r181, r183, r185, r187, mn6_gt]
theorem pmx_eq : s_v221 x a i = tmx (c2v x a i) (vv x a i) := by
  rw [r221, r177, r179, r181, r183, r185, r187, mx6_gt]
theorem d_eq : dv x a i = tnd (c2v x a i) (vv x a i) := by
  rw [tnd_rn, ← pmn_eq, ← pmx_eq]; unfold dv; rw [r236, r251, r266, r281, r296, r311]; rfl
theorem dmn_eq : s_v343 x a i = tmn (c2v x a i) (dv x a i) := by
  rw [r343, r177, r179, r181, r183, r185, r187, mn6_gt]
theorem dmx_eq : s_v360 x a i = tmx (c2v x a i) (dv x a i) := by
  rw [r360, r177, r179, r181, r183, r185, r187, mx6_gt]
theorem mean_eq : s_v326 x a i = Ideal.div (tsm (c2v x a i) (dv x a i)) (Ideal.ofBits .f32 0x47800000#32) := by
  rw [r326, zw_eq, zero_add]; rfl
theorem r_eq : rv x a i = trt (Ideal.ofBits .f32 0x47800000#32) (c2v x a i) (dv x a i) := by
  rw [trt_rn, ← dmn_eq, ← dmx_eq, ← mean_eq, ← r362]; unfold rv; rw [r378, r394, r410, r426, r442, r458]; rfl
theorem cc_eq : ccv x a i = kcc (s_v468 x a i) (c2v x a i) (kc 1 (ge0 (th x a i))) := by
  rw [kcc_le]; unfold ccv; rw [r501, r503, r505, r507, r509, r511]; rfl
theorem bmx0 : s_v557 x a i = tmx (ccv x a i) (rv x a i) := by
  rw [r557, mx6_gt]
theorem bmn_eq : s_v562 x a i = bmn (s_v468 x a i) (ccv x a i) (rv x a i) := by
  rw [r562, mn6_gt, bmn_gt]
theorem bmx_eq : s_v567 x a i = bmx (s_v468 x a i) (ccv x a i) (rv x a i) := by
  rw [r567, bmx0, bmx_gt]
theorem w_eq : s_v584 x a i = (s_v567 x a i - Ideal.div (tsm (ccv x a i) (rv x a i)) (Ideal.ofBits .f32 0x47800000#32)) * (s_v567 x a i - Ideal.div (tsm (ccv x a i) (rv x a i)) (Ideal.ofBits .f32 0x47800000#32)) := by
  rw [r584, zw_eq, zero_add]; rfl
theorem t_eq : tv x a i = tT (Ideal.ofBits .f32 0x47800000#32) (s_v468 x a i) (ccv x a i) (rv x a i) := by
  rw [tT_rn, ← bmn_eq, ← bmx_eq, ← w_eq]; unfold tv; rw [r600, r616, r632, r648, r664, r680]; rfl

theorem table : tv x a i = ktab (Ideal.ofBits .f32 0x47800000#32) (s_v468 x a i) (kc (Ideal.ofBits .f32 0x47800000#32) (g1 x a i)) (kc (Ideal.ofBits .f32 0x47800000#32) (g2 x a i)) (kcc (s_v468 x a i) (kc (Ideal.ofBits .f32 0x47800000#32) (g2 x a i)) (kc 1 (ge0 (th x a i)))) := by
  rw [t_eq, cc_eq, r_eq, d_eq, v_eq, c1_eq, c2_eq]; rfl

end Cert.KAIdeal.Lane

end
-- ==== Proof.SumKAIdeal.lean ====
/- The layer kernel's results as sums over channels of `Cert.Rarity.ktable`, the kernel's table for one channel. -/
module

public import proofs.«01_k».proof.Proof.Maps
public import proofs.«01_k».proof.Proof.Bins
public import proofs.«01_k».proof.Proof.LaneKAIdeal
public import proofs.«01_k».proof.Proof.AccKAIdeal

@[expose] public section

set_option maxRecDepth 16384

noncomputable section

namespace Cert.KAIdeal.Lane

open Idealize.ShloMosaic Cert.KAIdeal Cert.KAIdeal.Gen Cert.KAIdeal.Step Cert.Rarity Cert.Stage2

abbrev Px : Type := Fin 256 × Fin 256
abbrev NW : EReal := Ideal.ofBits .f32 0x47800000#32

/-- One channel of a block. -/
abbrev lane {n : Nat} (v : FVec Ideal ⟨3, ![n, 256, 256]⟩ .f32) (g : Fin n) (p : Px) : EReal := v (ix3 g p.1 p.2)

theorem kept (x : Vec Ideal S16x256x256 .f32) (g : Fin 16) : lane (k0_pay2 (F := Ideal) x) g = bordered (lane x g) 0 := by
  funext ⟨i, j⟩
  show k0_pay2 (F := Ideal) x (ix3 g i j) = _
  refine Eq.trans ?_ (interior_word 256 (by norm_num) (by norm_num) i j (x (ix3 g i j)) 0)
  pointwise [k0_pay2]

variable (x : Vec Ideal S16x256x256 .f32) (a : BitVec 32) (g : Fin 16)

abbrev XX : Px → EReal := lane (s_v18 x a) g

theorem least : s_v19 x a (ix1 g) = lo (XX x a g) := by
  show k0_pay3 (F := Ideal) x (ix1 g) = lo (lane (k0_pay2 x) g)
  unfold k0_pay3
  generalize k0_pay2 (F := Ideal) x = v
  unfold lo lane
  pointwise
  simp only [w_top]

theorem range : s_v21 x a (ix1 g) = hi (XX x a g) - lo (XX x a g) := by
  show k0_pay4 (F := Ideal) x (ix1 g) = hi (lane (k0_pay2 x) g) - lo (XX x a g)
  rw [← least x a g]
  unfold s_v19 k0_pay4
  generalize k0_pay3 (F := Ideal) x = w
  generalize k0_pay2 (F := Ideal) x = v
  unfold hi lane
  pointwise
  simp only [w_bot]

theorem lin (w r : FVec Ideal S16 .f32) (c : EReal) : addf w (mulf r (broadcast S16 c)) (ix1 g) = w (ix1 g) + r (ix1 g) * c := rfl

/-- A threshold of the kernel's is the least value and a fraction of the range. -/
theorem cut (t : Fin 5 → ℝ) (k : Fin 5) (c : EReal) (h : c = ((t k : ℝ) : EReal)) :
    addf (s_v19 x a) (mulf (s_v21 x a) (broadcast S16 c)) (ix1 g) = kth (XX x a g) t k := by
  rw [lin, least, range, h]; rfl

theorem p0 : s_v24 x a (ix1 g) = kth (XX x a g) t1 0 := cut x a g t1 0 ((1 / 6 : ℝ) : EReal) rfl
theorem p1 : s_v27 x a (ix1 g) = kth (XX x a g) t1 1 := cut x a g t1 1 ((1 / 3 : ℝ) : EReal) (by norm_num [t1])
theorem p2 : s_v30 x a (ix1 g) = kth (XX x a g) t1 2 := cut x a g t1 2 (Ideal.ofBits .f32 0x3F000000#32) w_half
theorem p3 : s_v33 x a (ix1 g) = kth (XX x a g) t1 3 := cut x a g t1 3 ((2 / 3 : ℝ) : EReal) (by show ((2 / 3 : ℝ) : EReal) = ((4 / 6 : ℝ) : EReal); norm_num)
theorem p4 : s_v36 x a (ix1 g) = kth (XX x a g) t1 4 := cut x a g t1 4 ((5 / 6 : ℝ) : EReal) rfl
theorem q0 : s_v39 x a (ix1 g) = kth (XX x a g) t2 0 := cut x a g t2 0 ((1 / 768 : ℝ) : EReal) (by norm_num [t2])
theorem q1 : s_v42 x a (ix1 g) = kth (XX x a g) t2 1 := cut x a g t2 1 (Ideal.ofBits .f32 0x3B000000#32) w_512th
theorem q2 : s_v45 x a (ix1 g) = kth (XX x a g) t2 2 := cut x a g t2 2 ((1 / 384 : ℝ) : EReal) (by show ((1 / 384 : ℝ) : EReal) = ((4 / 1536 : ℝ) : EReal); norm_num)
theorem q3 : s_v48 x a (ix1 g) = kth (XX x a g) t2 3 := cut x a g t2 3 ((5 / 1536 : ℝ) : EReal) rfl
theorem q4 : s_v51 x a (ix1 g) = kth (XX x a g) t2 4 := cut x a g t2 4 (Ideal.ofBits .f32 0x3B800000#32) w_256th

theorem five {a b c d e : EReal} {f : Fin 5 → EReal} (h0 : a = f 0) (h1 : b = f 1) (h2 : c = f 2) (h3 : d = f 3) (h4 : e = f 4) : ![a, b, c, d, e] = f := by
  subst h0 h1 h2 h3 h4
  funext k; fin_cases k <;> rfl

theorem th_eq : th x a (ix1 g) = kth (XX x a g) t2 := five (q0 x a g) (q1 x a g) (q2 x a g) (q3 x a g) (q4 x a g)

theorem count (v : FVec Ideal S16x256x256 .f32) (t : FVec Ideal S16 .f32) (g : Fin 16) :
    k0_pay16 (F := Ideal) v t (ix1 g) = cnt fun p => t (ix1 g) ≤ lane v g p := by
  unfold cnt lane
  pointwise [k0_pay16]
  rw [Fintype.sum_prod_type]

theorem g1_eq : g1 x a (ix1 g) = fun k => cnt fun p => kth (XX x a g) t1 k ≤ XX x a g p :=
  five ((count (s_v18 x a) (s_v24 x a) g).trans (by rw [p0])) ((count (s_v18 x a) (s_v27 x a) g).trans (by rw [p1]))
    ((count (s_v18 x a) (s_v30 x a) g).trans (by rw [p2])) ((count (s_v18 x a) (s_v33 x a) g).trans (by rw [p3]))
    ((count (s_v18 x a) (s_v36 x a) g).trans (by rw [p4]))

theorem g2_eq : g2 x a (ix1 g) = fun k => cnt fun p => kth (XX x a g) t2 k ≤ XX x a g p :=
  five ((count (s_v18 x a) (s_v39 x a) g).trans (by rw [q0])) ((count (s_v18 x a) (s_v42 x a) g).trans (by rw [q1]))
    ((count (s_v18 x a) (s_v45 x a) g).trans (by rw [q2])) ((count (s_v18 x a) (s_v48 x a) g).trans (by rw [q3]))
    ((count (s_v18 x a) (s_v51 x a) g).trans (by rw [q4]))

theorem tv_eq : tv x a (ix1 g) = ktable NW (s_v468 x a (ix1 g)) (XX x a g) := by
  rw [table, g1_eq, g2_eq, th_eq]; rfl

/-- What the kernel adds at a pixel for a channel. -/
def piece (nbv : EReal) (X : Px → EReal) (p : Px) : EReal := ktable NW nbv X (kbin (kth X t2) (X p))

theorem chain_piece (v : EReal) : chain (s_v39 x a (ix1 g)) (s_v42 x a (ix1 g)) (s_v45 x a (ix1 g)) (s_v48 x a (ix1 g)) (s_v51 x a (ix1 g)) v
    (s_v600 x a (ix1 g)) (s_v616 x a (ix1 g)) (s_v632 x a (ix1 g)) (s_v648 x a (ix1 g)) (s_v664 x a (ix1 g)) (s_v680 x a (ix1 g))
    = ktable NW (s_v468 x a (ix1 g)) (XX x a g) (kbin (kth (XX x a g) t2) v) := by
  rw [chain_eq]
  show tv x a (ix1 g) (kbin (th x a (ix1 g)) v) = _
  rw [tv_eq, th_eq]

theorem looked (v : FVec Ideal S16x256x256 .f32) (t0 t1 t2 t3 t4 f0 f1 f2 f3 f4 f5 : FVec Ideal S16 .f32) (i j : Fin 256) :
    k0_pay123 (F := Ideal) v t3 t4 f4 f5 (k0_pay122 (F := Ideal) v t0 t1 t2 f0 f1 f2 f3) (ix2 i j)
      = ∑ g : Fin 16, chain (t0 (ix1 g)) (t1 (ix1 g)) (t2 (ix1 g)) (t3 (ix1 g)) (t4 (ix1 g)) (v (ix3 g i j))
          (f0 (ix1 g)) (f1 (ix1 g)) (f2 (ix1 g)) (f3 (ix1 g)) (f4 (ix1 g)) (f5 (ix1 g)) := by
  unfold chain
  pointwise [k0_pay123, k0_pay122]

theorem blk_eq (i j : Fin 256) : blk (F := Ideal) x a (ix2 i j) = ∑ g : Fin 16, piece (s_v468 x a (ix1 g)) (bordered (lane x g) 0) (i, j) := by
  refine (looked (s_v18 x a) (s_v39 x a) (s_v42 x a) (s_v45 x a) (s_v48 x a) (s_v51 x a) (s_v600 x a) (s_v616 x a) (s_v632 x a) (s_v648 x a) (s_v664 x a) (s_v680 x a) i j).trans ?_
  refine Finset.sum_congr rfl fun g _ => ?_
  rw [chain_piece, ← kept x g]
  rfl

theorem looked_edge (t0 t1 t2 t3 t4 f0 f1 f2 f3 f4 f5 : FVec Ideal S16 .f32) :
    k0_pay124 (F := Ideal) t0 t1 t2 t3 t4 f0 f1 f2 f3 f4 f5 (ix2 0 0)
      = chain (t0 (ix1 0)) (t1 (ix1 0)) (t2 (ix1 0)) (t3 (ix1 0)) (t4 (ix1 0)) 0
          (f0 (ix1 0)) (f1 (ix1 0)) (f2 (ix1 0)) (f3 (ix1 0)) (f4 (ix1 0)) (f5 (ix1 0)) := by
  unfold chain
  pointwise [k0_pay124]

theorem edge_eq : edge (F := Ideal) x a (ix2 0 0) = piece (s_v468 x a (ix1 0)) (bordered (lane x 0) 0) (0, 0) := by
  refine (looked_edge (s_v39 x a) (s_v42 x a) (s_v45 x a) (s_v48 x a) (s_v51 x a) (s_v600 x a) (s_v616 x a) (s_v632 x a) (s_v648 x a) (s_v664 x a) (s_v680 x a)).trans ?_
  rw [chain_piece, ← kept x 0]
  have h : lane (k0_pay2 (F := Ideal) x) 0 (0, 0) = 0 := (congrFun (kept x 0) (0, 0)).trans (if_pos (Or.inl rfl))
  unfold piece
  rw [h]
  rfl

theorem block_word (k : Fin 16) : IntOp.cmpi .eq (BitVec.ofNat 32 k.val) 0#32 = BitVec.ofBool (decide (k.val = 0)) := by
  revert k; decide

theorem start_word (a : Nat) (ha : a < 2 ^ 31) : Scalar.cmpi .eq (BitVec.ofNat 32 a) 0#32 = BitVec.ofBool (decide (a = 0)) := by
  show BitVec.ofBool (BitVec.ofNat 32 a == 0#32) = _
  congr 1
  rw [Bool.eq_iff_iff, beq_iff_eq, decide_eq_true_iff]
  constructor
  · intro e
    have := congrArg BitVec.toNat e
    rw [BitVec.toNat_ofNat] at this
    simp at this
    omega
  · rintro rfl; rfl

theorem zeroed (a : Nat) (ha : a < 2 ^ 31) : s_v468 x (BitVec.ofNat 32 a) (ix1 g) = if g.val = 0 ∧ a = 0 then 0 else Ideal.ofBits .f32 0x447F0000#32 := by
  show k0_pay86 (F := Ideal) _ (ix1 g) = _
  pointwise [k0_pay86]
  rw [block_word, start_word a ha]
  by_cases h1 : g.val = 0 <;> by_cases h2 : a = 0 <;> simp [h1, h2, Scalar.select, IntOp.andi]

end Cert.KAIdeal.Lane

end
-- ==== Proof.RefKAIdeal.lean ====
/- The reference's results as sums over channels of `Cert.Rarity.out`, its map for one channel. -/
module

public import proofs.«01_k».proof.Proof.Bins
public import proofs.«01_k».proof.Proof.Maps
public import proofs.«01_k».proof.Proof.Gen.RAIdeal.Run
public import Idealize.ShloMosaic.Lib.Pointwise

@[expose] public section

set_option maxRecDepth 16384

noncomputable section

namespace Cert.RAIdeal.Map

open Idealize.ShloMosaic Idealize.ShloMosaic.TcCoe Idealize.ShloMosaic.StableHlo Idealize.SL.Sem Cert.RAIdeal Cert.RAIdeal.Gen Cert.RAIdeal.Value Cert.Rarity Cert.Stage2

abbrev Px : Type := Fin 256 × Fin 256
abbrev NW : EReal := Ideal.ofBits .f32 0x47800000#32
abbrev Arr : Type := FVec Ideal S96x256x256 .f32
abbrev Col : Type := FVec Ideal S96x1x1 .f32
/-- One channel. -/
abbrev lane (v : Arr) (g : Fin 96) (p : Px) : EReal := v (ix3 g p.1 p.2)

def hlo (v : Arr) : Col := broadcastInDim S96x1x1 ![0] bcast_S96_S96x1x1_0 (Host.reduce FloatOps.minimumf v (constant S_ .f32 0x7F800000#32) reducesTo_S96x256x256_S96_d1_2 h_S_)
def hhi (v : Arr) : Col := broadcastInDim S96x1x1 ![0] bcast_S96_S96x1x1_0 (Host.reduce FloatOps.maximumf v (constant S_ .f32 0xFF800000#32) reducesTo_S96x256x256_S96_d1_2 h_S_)
def hgap (v : Arr) : Col := Host.divf (broadcastInDim S96x1x1 ![0] bcast_S96_S96x1x1_0 (Host.reduceAdd v (constant S_ .f32 0x00000000#32) reducesTo_S96x256x256_S96_d1_2 h_S_)) (broadcastInDim S96x1x1 ![] bcast_S_S96x1x1 (constant S_ .f32 0x47800000#32))

theorem hlo_eq (v : Arr) (g : Fin 96) : hlo v (ix3 g 0 0) = lo (lane v g) := by
  unfold lo lane
  pointwise [hlo]
  simp only [w_top]
theorem hhi_eq (v : Arr) (g : Fin 96) : hhi v (ix3 g 0 0) = hi (lane v g) := by
  unfold hi lane
  pointwise [hhi]
  simp only [w_bot]
theorem hgap_eq (v : Arr) (g : Fin 96) : hgap v (ix3 g 0 0) = Ideal.div (∑ p, lane v g p) NW := by
  rw [Fintype.sum_prod_type]
  unfold lane
  pointwise [hgap]

/-- A channel rescaled by a least value and a range. -/
def hnrm (s : BitVec 32) (v : Arr) (mn rg : Col) : Arr :=
  select (broadcastInDim S96x256x256 ![0, 1, 2] bcast_S96x1x1_S96x256x256_0_1_2 (cmpf .oeq rg (broadcastInDim S96x1x1 ![] bcast_S_S96x1x1 (constant S_ .f32 0x00000000#32)))) (broadcastInDim S96x256x256 ![] bcast_S_S96x256x256 (constant S_ .f32 0x00000000#32)) (addf (mulf (Host.divf (subf v (broadcastInDim S96x256x256 ![0, 1, 2] bcast_S96x1x1_S96x256x256_0_1_2 mn)) (broadcastInDim S96x256x256 ![0, 1, 2] bcast_S96x1x1_S96x256x256_0_1_2 (select (cmpf .oeq rg (broadcastInDim S96x1x1 ![] bcast_S_S96x1x1 (constant S_ .f32 0x00000000#32))) (broadcastInDim S96x1x1 ![] bcast_S_S96x1x1 (constant S_ .f32 0x3F800000#32)) rg))) (broadcastInDim S96x256x256 ![] bcast_S_S96x256x256 (constant S_ .f32 s))) (broadcastInDim S96x256x256 ![] bcast_S_S96x256x256 (constant S_ .f32 0x00000000#32)))

theorem hnrm_at (s : BitVec 32) (v : Arr) (mn rg : Col) (g : Fin 96) (i j : Fin 256) : hnrm s v mn rg (ix3 g i j)
    = Scalar.select (Ideal.cmp .oeq (rg (ix3 g 0 0)) (Ideal.ofBits .f32 0x00000000#32)) (Ideal.ofBits .f32 0x00000000#32)
      (Ideal.div (v (ix3 g i j) - mn (ix3 g 0 0)) (Scalar.select (Ideal.cmp .oeq (rg (ix3 g 0 0)) (Ideal.ofBits .f32 0x00000000#32))
        (Ideal.ofBits .f32 0x3F800000#32) (rg (ix3 g 0 0))) * (Ideal.ofBits .f32 s) + Ideal.ofBits .f32 0x00000000#32) := by
  pointwise [hnrm]

theorem sub_at (a b : Col) (g : Fin 96) : subf a b (ix3 g 0 0) = a (ix3 g 0 0) - b (ix3 g 0 0) := rfl
theorem sq_at (a : Col) (g : Fin 96) : mulf a a (ix3 g 0 0) = a (ix3 g 0 0) * a (ix3 g 0 0) := rfl

theorem hnrm_eq (s : BitVec 32) (v : Arr) (g : Fin 96) (p : Px) : lane (hnrm s v (hlo v) (subf (hhi v) (hlo v))) g p
    = nrm (lane v g p) (lo (lane v g)) (hi (lane v g)) (Ideal.ofBits .f32 s) := by
  have e := hnrm_at s v (hlo v) (subf (hhi v) (hlo v)) g p.1 p.2
  rw [sub_at, hlo_eq, hhi_eq] at e
  exact e.trans (rnrm_eq _ _ _ _)

def hgate (v : Arr) (c : Col) : Arr := mulf v (broadcastInDim S96x256x256 ![0, 1, 2] bcast_S96x1x1_S96x256x256_0_1_2 (mulf c c))
theorem hgate_at (v : Arr) (c : Col) (g : Fin 96) (i j : Fin 256) : hgate v c (ix3 g i j) = v (ix3 g i j) * (c (ix3 g 0 0) * c (ix3 g 0 0)) := by
  pointwise [hgate]

def hpond (v : Arr) : Arr := hgate (hnrm 0x3F800000#32 v (hlo v) (subf (hhi v) (hlo v))) (subf (hhi v) (hgap v))

theorem hpond_eq (v : Arr) (g : Fin 96) : lane (hpond v) g = pond NW (lane v g) := by
  funext p
  have e := hgate_at (hnrm 0x3F800000#32 v (hlo v) (subf (hhi v) (hlo v))) (subf (hhi v) (hgap v)) g p.1 p.2
  rw [sub_at, hhi_eq, hgap_eq] at e
  refine e.trans ?_
  have f := hnrm_eq 0x3F800000#32 v g p
  rw [w_one] at f
  exact congrArg (fun z => z * ((hi (lane v g) - Ideal.div (∑ q, lane v g q) NW) * (hi (lane v g) - Ideal.div (∑ q, lane v g q) NW))) f

/-! ### Bins -/

def hbin (r : Arr) : IVec S96x256x256 32 := minsi (broadcastInDim S96x256x256 ![] bcast_S_S96x256x256 (constantI S_ 32 5#32)) (maxsi (broadcastInDim S96x256x256 ![] bcast_S_S96x256x256 (constantI S_ 32 0#32)) (fptosi 32 r))
theorem hbin_at (r : Arr) (k : S96x256x256.Idx) : hbin r k = IntOp.minsi 5#32 (IntOp.maxsi 0#32 (Ideal.fptosi 32 (r k))) := rfl

def hhot (w : IVec S96x256x256 32) : FVec Ideal S96x256x256x6 .f32 :=
  select (cmpi .eq (broadcastInDim S96x256x256x6 ![0, 1, 2, 3] bcast_S96x256x256x1_S96x256x256x6_0_1_2_3 (broadcastInDim S96x256x256x1 ![0, 1, 2] bcast_S96x256x256_S96x256x256x1_0_1_2 w)) (broadcastInDim S96x256x256x6 ![0, 1, 2, 3] bcast_S1x1x1x6_S96x256x256x6_0_1_2_3 (broadcastInDim S1x1x1x6 ![3] bcast_S6_S1x1x1x6_3 (iotaInDim S6 32 0)))) (broadcastInDim S96x256x256x6 ![] bcast_S_S96x256x256x6 (constant S_ .f32 0x3F800000#32)) (broadcastInDim S96x256x256x6 ![] bcast_S_S96x256x256x6 (constant S_ .f32 0x00000000#32))
theorem hhot_at (w : IVec S96x256x256 32) (g : Fin 96) (i j : Fin 256) (k : Fin 6) : hhot w (ix4 g i j k)
    = Scalar.select (IntOp.cmpi .eq (w (ix3 g i j)) (BitVec.ofNat 32 k.val)) (Ideal.ofBits .f32 0x3F800000#32) (Ideal.ofBits .f32 0x00000000#32) := by
  pointwise [hhot]

/-- Where the words are those of bins `b`, the array is one where the bin is `k`, else zero. -/
theorem hhot_eq (w : IVec S96x256x256 32) (g : Fin 96) (b : Px → Fin 6) (hw : ∀ p, w (ix3 g p.1 p.2) = BitVec.ofNat 32 (b p).val) (i j : Fin 256) (k : Fin 6) :
    hhot w (ix4 g i j k) = if b (i, j) = k then 1 else 0 := by
  rw [hhot_at, hw (i, j), bin_word, w_one, w_zero]
  by_cases h : b (i, j) = k <;> simp [h, Scalar.select]

/-- The indices that drop to `(g, k)` along the two middle axes. -/
theorem drop_mid (h : S96x256x256x6.ReducesTo [1, 2] S96x6) (g : Fin 96) (k : Fin 6) (i : S96x256x256x6.Idx) :
    h.drop i = ix2 g k ↔ ∃ q : Px, ix4 g q.1 q.2 k = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨q, rfl⟩
    funext b
    apply Fin.ext
    match b with
    | ⟨0, _⟩ => rfl
    | ⟨1, _⟩ => rfl

theorem sum_mid (h : S96x256x256x6.ReducesTo [1, 2] S96x6) (g : Fin 96) (k : Fin 6) (v : S96x256x256x6.Idx → EReal) :
    ∑ i ∈ Finset.univ.filter (fun i => h.drop i = ix2 g k), v i = ∑ i : Fin 256, ∑ j : Fin 256, v (ix4 g i j k) := by
  refine (Finset.sum_filter_eq_sum_of_fiber _ (fun q : Px => (ix4 g q.1 q.2 k : S96x256x256x6.Idx))
    (fun _ _ e => Prod.ext (congrFun e 1) (congrFun e 2)) (drop_mid h g k) v).trans ?_
  rw [Fintype.sum_prod_type]

def hcnt (h : FVec Ideal S96x256x256x6 .f32) : FVec Ideal S96x6 .f32 :=
  Host.reduceAdd h (constant S_ .f32 0x00000000#32) reducesTo_S96x256x256x6_S96x6_d1_2 h_S_
theorem hcnt_at (h : FVec Ideal S96x256x256x6 .f32) (g : Fin 96) (k : Fin 6) : hcnt h (ix2 g k) = 0 + ∑ i : Fin 256, ∑ j : Fin 256, h (ix4 g i j k) := by
  show Ideal.ofBits .f32 0x00000000#32 + _ = _
  rw [w_zero]
  exact congrArg (fun z => (0 : EReal) + z) (sum_mid _ g k h)

theorem hcnt_eq (w : IVec S96x256x256 32) (g : Fin 96) (b : Px → Fin 6) (hw : ∀ p, w (ix3 g p.1 p.2) = BitVec.ofNat 32 (b p).val) (k : Fin 6) :
    hcnt (hhot w) (ix2 g k) = cnt fun p => b p = k := by
  rw [hcnt_at, zero_add]
  unfold cnt
  rw [Fintype.sum_prod_type]
  exact Finset.sum_congr rfl fun i _ => Finset.sum_congr rfl fun j _ => hhot_eq w g b hw i j k

def hlog (c : FVec Ideal S96x6 .f32) : FVec Ideal S96x6 .f32 :=
  Host.negf (Host.log (addf (Host.divf c (broadcastInDim S96x6 ![0, 1] bcast_S96x1_S96x6_0_1 (broadcastInDim S96x1 ![0] bcast_S96_S96x1_0 (Host.reduceAdd c (constant S_ .f32 0x00000000#32) reducesTo_S96x6_S96_d1 h_S_)))) (broadcastInDim S96x6 ![] bcast_S_S96x6 (constant S_ .f32 0x38D1B717#32))))
theorem hlog_at (c : FVec Ideal S96x6 .f32) (g : Fin 96) (k : Fin 6) : hlog c (ix2 g k) = - Ideal.log (Ideal.div (c (ix2 g k)) (0 + ∑ l : Fin 6, c (ix2 g l)) + EPS) := by
  unfold EPS
  pointwise [hlog]

theorem all_bins (b : Px → Fin 6) : ∑ l : Fin 6, (cnt fun p => b p = l) = NW := by
  have e : NW = ((Fintype.card Px : ℝ) : EReal) := by
    simp [Ideal.ofBits, Ideal.ieee, -EReal.coe_mul]; norm_num
  rw [e, ← cnt_true]
  unfold cnt
  rw [Finset.sum_comm]
  refine Finset.sum_congr rfl fun p _ => ?_
  rw [Finset.sum_ite_eq]
  simp

def hpick (h : FVec Ideal S96x256x256x6 .f32) (l : FVec Ideal S96x6 .f32) : Arr :=
  Host.reduceAdd (mulf h (broadcastInDim S96x256x256x6 ![0, 1, 2, 3] bcast_S96x1x1x6_S96x256x256x6_0_1_2_3 (broadcastInDim S96x1x1x6 ![0, 3] bcast_S96x6_S96x1x1x6_0_3 l))) (constant S_ .f32 0x00000000#32) reducesTo_S96x256x256x6_S96x256x256_d3 h_S_
theorem hpick_at (h : FVec Ideal S96x256x256x6 .f32) (l : FVec Ideal S96x6 .f32) (g : Fin 96) (i j : Fin 256) :
    hpick h l (ix3 g i j) = 0 + ∑ k : Fin 6, h (ix4 g i j k) * l (ix2 g k) := by
  pointwise [hpick]

theorem hpick_eq (w1 w2 : IVec S96x256x256 32) (g : Fin 96) (b1 b2 : Px → Fin 6) (h1 : ∀ p, w1 (ix3 g p.1 p.2) = BitVec.ofNat 32 (b1 p).val)
    (h2 : ∀ p, w2 (ix3 g p.1 p.2) = BitVec.ofNat 32 (b2 p).val) : lane (hpick (hhot w2) (hlog (hcnt (hhot w1)))) g = picked NW b1 b2 := by
  funext p
  refine (hpick_at _ _ g p.1 p.2).trans ?_
  have e : ∀ k : Fin 6, hhot w2 (ix4 g p.1 p.2 k) * hlog (hcnt (hhot w1)) (ix2 g k) = if b2 p = k then vtab NW (fun j => cnt fun q => b1 q = j) k else 0 := by
    intro k
    rw [hhot_eq w2 g b2 h2, hlog_at, zero_add, hcnt_eq w1 g b1 h1]
    simp only [hcnt_eq w1 g b1 h1]
    rw [all_bins]
    by_cases h : b2 (p.1, p.2) = k
    · rw [if_pos h, if_pos h, one_mul]; rfl
    · rw [if_neg h, if_neg h, zero_mul]
  rw [Finset.sum_congr rfl fun k _ => e k, zero_add, Finset.sum_ite_eq, if_pos (Finset.mem_univ _)]
  rfl

/-! ### Borders -/

def hbord (v : Arr) : Arr :=
  select (ori (ori (ori (cmpi .eq (iotaInDim S96x256x256 32 1) (broadcastInDim S96x256x256 ![] bcast_S_S96x256x256 (constantI S_ 32 0#32))) (cmpi .eq (iotaInDim S96x256x256 32 1) (broadcastInDim S96x256x256 ![] bcast_S_S96x256x256 (constantI S_ 32 255#32)))) (cmpi .eq (iotaInDim S96x256x256 32 2) (broadcastInDim S96x256x256 ![] bcast_S_S96x256x256 (constantI S_ 32 0#32)))) (cmpi .eq (iotaInDim S96x256x256 32 2) (broadcastInDim S96x256x256 ![] bcast_S_S96x256x256 (constantI S_ 32 255#32)))) (broadcastInDim S96x256x256 ![] bcast_S_S96x256x256 (constant S_ .f32 0x00000000#32)) v
theorem hbord_eq (v : Arr) (g : Fin 96) : lane (hbord v) g = bordered (lane v g) 0 := by
  funext ⟨i, j⟩
  refine Eq.trans ?_ (border_word 256 (by norm_num) (by norm_num) i j (v (ix3 g i j)) 0)
  show hbord v (ix3 g i j) = _
  pointwise [hbord]

def hfirst (v : Arr) : Arr := select (cmpi .eq (iotaInDim S96x256x256 32 0) (broadcastInDim S96x256x256 ![] bcast_S_S96x256x256 (constantI S_ 32 0#32))) v (hbord v)
theorem hfirst_at (v : Arr) (g : Fin 96) (i j : Fin 256) : hfirst v (ix3 g i j) = Scalar.select (IntOp.cmpi .eq (BitVec.ofNat 32 g.val) 0#32) (v (ix3 g i j)) (hbord v (ix3 g i j)) := rfl

/-- The pixels that the reference zeroes in a channel's rarity map. -/
def brd (g : Fin 96) (p : Px) : Prop := g.val ≠ 0 ∧ (p.1.val = 0 ∨ p.1.val = 255 ∨ p.2.val = 0 ∨ p.2.val = 255)
instance (g : Fin 96) : DecidablePred (brd g) := fun p => by unfold brd; infer_instance

theorem first_word (g : Fin 96) (x y : EReal) : Scalar.select (IntOp.cmpi .eq (BitVec.ofNat 32 g.val) 0#32) x y = if g.val = 0 then x else y := by
  have h : IntOp.cmpi .eq (BitVec.ofNat 32 g.val) 0#32 = BitVec.ofBool (decide (g.val = 0)) := by
    revert g; decide
  rw [h]
  by_cases h : g.val = 0 <;> simp [h, Scalar.select]

theorem hfirst_eq (v : Arr) (g : Fin 96) (p : Px) : lane (hfirst v) g p = if brd g p then 0 else lane v g p := by
  refine (hfirst_at v g p.1 p.2).trans ?_
  rw [first_word]
  have e : hbord v (ix3 g p.1 p.2) = bordered (lane v g) 0 p := congrFun (hbord_eq v g) p
  rw [e]
  unfold bordered brd
  by_cases h : g.val = 0 <;> simp [h]

/-! ### The reference's own terms -/

def harg (V : Valuation τ sig (Elt Ideal)) : Arr := V (Proc.devRef .tc main_arg0)
/-- The bordered arguments, rescaled to 0 … 256. -/
def hchn (V : Valuation τ sig (Elt Ideal)) : Arr := hnrm 0x43800000#32 (hbord (harg V)) (hlo (hbord (harg V))) (subf (hhi (hbord (harg V))) (hlo (hbord (harg V))))
def hpre1 (v : Arr) : Arr := (Host.floor (Host.divf v (broadcastInDim S96x256x256 ![] bcast_S_S96x256x256 (Host.divf (constant S_ .f32 0x43800000#32) (constant S_ .f32 0x40C00000#32)))))
def hpre2 (v : Arr) : Arr := (subf (mulf v (broadcastInDim S96x256x256 ![] bcast_S_S96x256x256 (constant S_ .f32 0x40C00000#32))) (broadcastInDim S96x256x256 ![] bcast_S_S96x256x256 (constant S_ .f32 0x3F800000#32)))
def hw1 (v : Arr) : IVec S96x256x256 32 := hbin (hpre1 v)
def hw2 (v : Arr) : IVec S96x256x256 32 := hbin (hpre2 v)
theorem hpre1_at (v : Arr) (g : Fin 96) (i j : Fin 256) : hpre1 v (ix3 g i j)
    = Ideal.liftRound Int.floor (Ideal.div (v (ix3 g i j)) (Ideal.div (Ideal.ofBits .f32 0x43800000#32) (Ideal.ofBits .f32 0x40C00000#32))) := by
  pointwise [hpre1]
theorem hpre2_at (v : Arr) (g : Fin 96) (i j : Fin 256) : hpre2 v (ix3 g i j)
    = v (ix3 g i j) * Ideal.ofBits .f32 0x40C00000#32 - Ideal.ofBits .f32 0x3F800000#32 := by
  pointwise [hpre2]
def hdst (v : Arr) : Arr := hnrm 0x3F800000#32 v (hlo v) (subf (hhi v) (hlo v))
def hsum (v : Arr) : FVec Ideal S256x256 .f32 := Host.reduceAdd v (constant S_ .f32 0x00000000#32) reducesTo_S96x256x256_S256x256_d0 h_S_
def hall (v : Arr) : FVec Ideal S256x256 .f32 := hsum (hpond (hfirst (hpond (hdst (hpick (hhot (hw2 v)) (hlog (hcnt (hhot (hw1 v)))))))))

variable (V : Valuation τ sig (Elt Ideal))

theorem v13_eq : res_main_v13 V = hbord (harg V) := rfl
theorem v15_eq : res_main_v15 V = hlo (hbord (harg V)) := by rw [← v13_eq]; rfl
theorem v18_eq : res_main_v18 V = subf (hhi (hbord (harg V))) (hlo (hbord (harg V))) := by rw [← v15_eq, ← v13_eq]; rfl
theorem v33_eq : res_main_v33 V = hchn V := by unfold hchn; rw [← v18_eq, ← v15_eq, ← v13_eq]; rfl
theorem v48_eq : res_main_v48 V = hcnt (hhot (hw1 (hchn V))) := by rw [← v33_eq]; rfl
theorem v73_eq : res_main_v73 V = hpick (hhot (hw2 (hchn V))) (hlog (hcnt (hhot (hw1 (hchn V))))) := by rw [← v48_eq, ← v33_eq]; unfold hpick hhot hlog hw2 hbin hpre2 res_main_v73 res_main_v40; simp only [id_eq]
theorem v75_eq : res_main_v75 V = hlo (res_main_v73 V) := rfl
theorem v78_eq : res_main_v78 V = subf (hhi (res_main_v73 V)) (hlo (res_main_v73 V)) := by rw [← v75_eq]; rfl
theorem v93_eq : res_main_v93 V = hdst (res_main_v73 V) := by unfold hdst; rw [← v78_eq, ← v75_eq]; rfl
theorem v100_eq : res_main_v100 V = subf (hhi (res_main_v93 V)) (hgap (res_main_v93 V)) := rfl
theorem v103_eq : res_main_v103 V = hlo (res_main_v93 V) := rfl
theorem v106_eq : res_main_v106 V = subf (hhi (res_main_v93 V)) (hlo (res_main_v93 V)) := by rw [← v103_eq]; rfl
theorem v123_eq : res_main_v123 V = hpond (res_main_v93 V) := by unfold hpond; rw [← v100_eq, ← v106_eq, ← v103_eq]; rfl
theorem v141_eq : res_main_v141 V = hfirst (res_main_v123 V) := rfl
theorem v148_eq : res_main_v148 V = subf (hhi (res_main_v141 V)) (hgap (res_main_v141 V)) := rfl
theorem v151_eq : res_main_v151 V = hlo (res_main_v141 V) := rfl
theorem v154_eq : res_main_v154 V = subf (hhi (res_main_v141 V)) (hlo (res_main_v141 V)) := by rw [← v151_eq]; rfl
theorem all_eq : hsum (hgate (hnrm 0x3F800000#32 (res_main_v141 V) (res_main_v151 V) (res_main_v154 V)) (res_main_v148 V)) = hall (hchn V) := by
  rw [v154_eq, v151_eq, v148_eq, v141_eq, v123_eq, v93_eq, v73_eq]; rfl

/-- The run, with both results. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v172) = hall (hchn (StableHlo.launchContents m c))
      ∧ r.2.mem ((c.tc : Thread nD τ).loc main_v173) = extractStridedSlice S1x1 ![0, 0] (hall (hchn (StableHlo.launchContents m c))) slices_S256x256_S1x1_0_0
      ∧ r.2.mem ((c.tc : Thread nD τ).loc main_arg0) = m ((c.tc : Thread nD τ).loc main_arg0) :=
  (θ_run defs _ _).mono (fun r h c => by
    obtain ⟨h1, h2, h3⟩ := h c
    rw [← all_eq]
    exact ⟨h1, h2, h3⟩) (Value.run m ρ)

/-! ### One channel -/

section Channel
variable (g : Fin 96)

/-- A channel of the arguments with its border zeroed. -/
abbrev XX : Px → EReal := bordered (lane (harg V) g) 0

theorem hchn_eq (p : Px) : lane (hchn V) g p = chn (XX V g) p := by
  have e := hnrm_eq 0x43800000#32 (hbord (harg V)) g p
  rw [hbord_eq, w_256] at e
  exact e

variable (hX : ∀ p, ∃ r : ℝ, lane (harg V) g p = (r : EReal))
include hX

theorem bordered_real (p : Px) : ∃ r : ℝ, XX V g p = (r : EReal) := by
  unfold XX bordered
  split_ifs
  · exact ⟨0, rfl⟩
  · exact hX p

theorem chn_real (p : Px) : ∃ r : ℝ, chn (XX V g) p = (r : EReal) := by
  obtain ⟨x, hx⟩ := bordered_real V g hX p
  obtain ⟨a, ha⟩ := lo_real (bordered_real V g hX)
  obtain ⟨b, hb⟩ := hi_real (bordered_real V g hX)
  unfold chn
  rw [hx, ha, hb, nrm_coe]
  exact ⟨_, rfl⟩

theorem w1_eq (p : Px) : hw1 (hchn V) (ix3 g p.1 p.2) = BitVec.ofNat 32 (rb1 (XX V g) p).val := by
  obtain ⟨r, hr⟩ := chn_real V g hX p
  have e := hpre1_at (hchn V) g p.1 p.2
  rw [show hchn V (ix3 g p.1 p.2) = chn (XX V g) p from hchn_eq V g p] at e
  unfold hw1
  rw [hbin_at, e, w_256, w_six]
  unfold rb1
  rw [hr, Ideal.div_coe (y := 6) (by norm_num), ← EReal.coe_mul, Ideal.div_coe (by norm_num), ← EReal.coe_mul, Ideal.liftRound_coe]
  exact clip_word _

theorem w2_eq (p : Px) : hw2 (hchn V) (ix3 g p.1 p.2) = BitVec.ofNat 32 (rb2 (XX V g) p).val := by
  obtain ⟨r, hr⟩ := chn_real V g hX p
  have e := hpre2_at (hchn V) g p.1 p.2
  rw [show hchn V (ix3 g p.1 p.2) = chn (XX V g) p from hchn_eq V g p] at e
  unfold hw2
  rw [hbin_at, e, w_one, w_six]
  unfold rb2
  rw [hr, ← EReal.coe_mul, ← EReal.coe_one, ← EReal.coe_sub]
  exact clip_word _

theorem dst_eq : lane (hdst (hpick (hhot (hw2 (hchn V))) (hlog (hcnt (hhot (hw1 (hchn V))))))) g = dst NW (rb1 (XX V g)) (rb2 (XX V g)) := by
  funext p
  have e := hnrm_eq 0x3F800000#32 (hpick (hhot (hw2 (hchn V))) (hlog (hcnt (hhot (hw1 (hchn V)))))) g p
  rw [hpick_eq _ _ g _ _ (w1_eq V g hX) (w2_eq V g hX), w_one] at e
  exact e

theorem out_eq : lane (hpond (hfirst (hpond (hdst (hpick (hhot (hw2 (hchn V))) (hlog (hcnt (hhot (hw1 (hchn V)))))))))) g
    = out NW (brd g) (rb1 (XX V g)) (rb2 (XX V g)) := by
  have e : lane (hfirst (hpond (hdst (hpick (hhot (hw2 (hchn V))) (hlog (hcnt (hhot (hw1 (hchn V))))))))) g = maps NW (brd g) (rb1 (XX V g)) (rb2 (XX V g)) := by
    funext p
    rw [hfirst_eq, hpond_eq, dst_eq V g hX]
    rfl
  rw [hpond_eq, e]
  rfl

end Channel

theorem hsum_at (v : Arr) (i j : Fin 256) : hsum v (ix2 i j) = 0 + ∑ g : Fin 96, v (ix3 g i j) := by
  pointwise [hsum]

/-- The reference's first result at a pixel. -/
theorem hall_eq (hX : ∀ g p, ∃ r : ℝ, lane (harg V) g p = (r : EReal)) (i j : Fin 256) :
    hall (hchn V) (ix2 i j) = ∑ g : Fin 96, out NW (brd g) (rb1 (XX V g)) (rb2 (XX V g)) (i, j) := by
  unfold hall
  rw [hsum_at, zero_add]
  exact Finset.sum_congr rfl fun g _ => congrFun (out_eq V g (hX g)) (i, j)

end Cert.RAIdeal.Map

end
-- ==== Proof.LayerKAIdeal.lean ====
/- The layer kernel and the reference leave the same map at the pixels off the border, and the same corner value. -/
module

public import proofs.«01_k».proof.Proof.SumKAIdeal
public import proofs.«01_k».proof.Proof.RefKAIdeal
public import proofs.«01_k».proof.Defs
public import proofs.«01_k».proof.Proof.Gen.KAIdeal
public import proofs.«01_k».proof.Proof.Gen.RAIdeal
public import proofs.«01_k».proof.Proof.Gen.Pre_finite
public import proofs.«01_k».proof.Proof.Gen.On_interior_and_corner_KAIdeal

@[expose] public section

set_option maxRecDepth 16384

noncomputable section

namespace Cert.KAIdeal.Lane

open Idealize.ShloMosaic Idealize.ShloMosaic.TcCoe Cert.KAIdeal Cert.KAIdeal.Gen Cert.KAIdeal.Step Cert.KAIdeal.Acc Cert.Rarity Cert.Stage2

/-! ### The counts of pixels -/

theorem NW_card : NW = ((Fintype.card Px : ℝ) : EReal) := by
  simp [Ideal.ofBits, Ideal.ieee, -EReal.coe_mul]; norm_num

theorem inner_card : (Finset.univ.filter fun i : Fin 256 => ¬ (i.val = 0 ∨ i.val = 255)).card = 254 := by decide +kernel

theorem border_card : (Finset.univ.filter fun p : Px => p.1.val = 0 ∨ p.1.val = 255 ∨ p.2.val = 0 ∨ p.2.val = 255).card = 1020 := by
  have e : (Finset.univ.filter fun p : Px => p.1.val = 0 ∨ p.1.val = 255 ∨ p.2.val = 0 ∨ p.2.val = 255)
      = ((Finset.univ.filter fun i : Fin 256 => ¬ (i.val = 0 ∨ i.val = 255)) ×ˢ (Finset.univ.filter fun i : Fin 256 => ¬ (i.val = 0 ∨ i.val = 255)))ᶜ := by
    ext p
    simp only [Finset.mem_filter, Finset.mem_univ, true_and, Finset.mem_compl, Finset.mem_product]
    tauto
  rw [e, Finset.card_compl, Finset.card_product, inner_card]
  simp

theorem brd_card (g : Fin 96) : cnt (Cert.RAIdeal.Map.brd g) = if g.val = 0 then 0 else Ideal.ofBits .f32 0x447F0000#32 := by
  split_ifs with h
  · unfold cnt
    exact Finset.sum_eq_zero fun p _ => if_neg fun hb => hb.1 h
  · have e : cnt (Cert.RAIdeal.Map.brd g) = cnt fun p : Px => p.1.val = 0 ∨ p.1.val = 255 ∨ p.2.val = 0 ∨ p.2.val = 255 :=
      cnt_congr fun p => ⟨fun hb => hb.2, fun hb => ⟨h, hb⟩⟩
    rw [e, cnt_card, border_card]
    simp [Ideal.ofBits, Ideal.ieee, -EReal.coe_mul]; norm_num

/-- What the kernel adds for channel `g` of the arguments at a pixel. -/
def part (f : Fin 96 → Px → EReal) (p : Px) (g : Fin 96) : EReal :=
  piece (if g.val = 0 then 0 else Ideal.ofBits .f32 0x447F0000#32) (bordered (f g) 0) p

/-- It is the reference's map there, off the pixels that the reference zeroes. -/
theorem part_eq (f : Fin 96 → Px → EReal) (hf : ∀ g p, ∃ r : ℝ, f g p = (r : EReal)) (p : Px) (g : Fin 96) (hp : ¬ Cert.RAIdeal.Map.brd g p) :
    part f p g = out NW (Cert.RAIdeal.Map.brd g) (rb1 (bordered (f g) 0)) (rb2 (bordered (f g) 0)) p := by
  have hX : ∀ q, ∃ r : ℝ, bordered (f g) 0 q = (r : EReal) := fun q => by
    unfold bordered
    split_ifs
    · exact ⟨0, rfl⟩
    · exact hf g q
  unfold part piece
  rw [← brd_card, NW_card]
  exact chan_eq hX (Cert.RAIdeal.Map.brd g) (fun q hq => by unfold bordered; rw [if_pos hq.2]) hp

/-! ### The kernel's two results -/

variable (m : (ℓ : Loc nD τ sig) → Buf (Elt Ideal) ℓ) (c : Dev nD)

/-- The arguments' channels. -/
def chans (g : Fin 96) (p : Px) : EReal := (m ((c.tc : Thread nD τ).loc main_arg0) : FVec Ideal S96x256x256 .f32) (ix3 g p.1 p.2)

theorem lt_six (t : Fin cfg0.N) : t.val < 6 := Nat.lt_of_lt_of_eq t.isLt N_0

theorem iblk_at (t : Fin cfg0.N) (g : Fin 16) (p : Px) : lane (iblk m c 0 t : Vec Ideal S16x256x256 .f32) g p = chans m c ⟨16 * t.val + g.val, by have := lt_six t; omega⟩ p := by
  have hi : win0_0.index t 0 = t.val ∧ win0_0.index t 1 = 0 ∧ win0_0.index t 2 = 0 := by
    rcases fin_N0 t with rfl | rfl | rfl | rfl | rfl | rfl <;> decide
  unfold lane chans iblk
  rw [View.read_apply]
  show V m c main_arg0 _ = m (c.tc.loc main_arg0) _
  unfold V
  congr 1
  funext a
  apply Fin.ext
  match a with
  | ⟨0, _⟩ => show win0_0.index t 0 * 16 + 1 * g.val = 16 * t.val + g.val; rw [hi.1]; omega
  | ⟨1, _⟩ => show win0_0.index t 1 * 256 + 1 * p.1.val = p.1.val; rw [hi.2.1]; omega
  | ⟨2, _⟩ => show win0_0.index t 2 * 256 + 1 * p.2.val = p.2.val; rw [hi.2.2]; omega

theorem blkAt_eq (t : Fin cfg0.N) (i j : Fin 256) : blkAt m c t (ix2 i j)
    = ∑ g : Fin 16, part (chans m c) (i, j) ⟨16 * t.val + g.val, by have := lt_six t; omega⟩ := by
  unfold blkAt
  rw [coord_val, blk_eq]
  refine Finset.sum_congr rfl fun g _ => ?_
  have ht := lt_six t
  rw [zeroed _ g t.val (by omega)]
  unfold part
  rw [show lane (iblk m c 0 t : Vec Ideal S16x256x256 .f32) g = chans m c ⟨16 * t.val + g.val, by omega⟩ from funext fun p => iblk_at m c t g p]
  congr 1
  have hc : (g.val = 0 ∧ t.val = 0) ↔ 16 * t.val + g.val = 0 := by omega
  exact if_congr hc rfl rfl

theorem add_at (y z : FVec Ideal S256x256 .f32) (i j : Fin 256) : k0_pay1 (F := Ideal) y z (ix2 i j) = z (ix2 i j) + y (ix2 i j) := by
  pointwise [k0_pay1]

theorem acc_eq (i j : Fin 256) : ∀ (n : ℕ) (h : n < cfg0.N), acc m c n h (ix2 i j)
    = ∑ t : Fin (n + 1), blkAt m c ⟨t.val, Nat.lt_of_le_of_lt (Nat.le_of_lt_succ t.isLt) h⟩ (ix2 i j)
  | 0, h => by simp [acc]
  | n + 1, h => by
    rw [Fin.sum_univ_castSucc, acc, add_at, acc_eq i j n]
    rfl

/-- The first result is the sum of the channels' maps. -/
theorem sums_eq (i j : Fin 256) : sums m c (ix2 i j) = ∑ g : Fin 96, part (chans m c) (i, j) g := by
  refine (acc_eq m c i j 5 (Nat.lt_of_lt_of_eq (by omega : 5 < 6) N_0.symm)).trans ?_
  rw [← Fintype.sum_equiv (finProdFinEquiv : Fin 6 × Fin 16 ≃ Fin 96) (fun q => part (chans m c) (i, j) ⟨16 * q.1.val + q.2.val, by omega⟩) _
    (fun q => congrArg _ (Fin.ext (by show 16 * q.1.val + q.2.val = q.2.val + 16 * q.1.val; omega))), Fintype.sum_prod_type]
  exact Finset.sum_congr rfl fun t _ => blkAt_eq m c _ i j

/-- The second result is the first channel's map at the corner. -/
theorem corner_eq : corner m c (ix2 0 0) = part (chans m c) (0, 0) 0 := by
  unfold corner
  rw [coord_val]
  refine (edge_eq (iblk m c 0 t0_0) _).trans ?_
  rw [show (0 : Fin 16) = ⟨0, by omega⟩ from rfl]
  rw [zeroed _ _ t0_0.val (by decide)]
  unfold part
  rw [show lane (iblk m c 0 t0_0 : Vec Ideal S16x256x256 .f32) ⟨0, by omega⟩ = chans m c 0 from funext fun p => iblk_at m c t0_0 ⟨0, by omega⟩ p]
  rfl

end Cert.KAIdeal.Lane

namespace Cert.Proof

open Idealize.ShloMosaic Idealize.ShloMosaic.TcCoe Idealize.ShloMosaic.StableHlo Idealize.SL.Sem Cert Cert.Rarity Cert.Stage2
open Cert.KAIdeal.Lane (Px NW chans part)

/-- A finite input is a real number. -/
theorem real_KA (v : FVec Ideal Cert.Pre_finite.S96x256x256 .f32) (hv : (Cert.Pre_finite.fn (F := Ideal) v) = fun _ => 1#1) (k : Cert.Pre_finite.S96x256x256.Idx) :
    ∃ r : ℝ, v k = (r : EReal) := by
  have h : Ideal.cmp .olt (max (v k) (-(v k))) (Ideal.ofBits .f32 0x7F800000#32) = 1#1 := congrFun hv k
  rw [w_top] at h
  have h' : max (v k) (-(v k)) < ⊤ := by
    by_contra hn
    simp [Ideal.cmp, hn] at h
  refine real_of (fun hb => ?_) fun ht => ?_
  · rw [hb] at h'; simp at h'
  · rw [ht] at h'; simp at h'

/-- The claim's mask selects the pixels off the border. -/
theorem mask_KA (v : FVec Ideal Cert.On_interior_and_corner_KAIdeal.S96x256x256 .f32) (i j : Fin 256)
    (h : (Cert.On_interior_and_corner_KAIdeal.fn (F := Ideal) v).1 (ix2 i j) = 1#1) : ¬ (i.val = 0 ∨ i.val = 255 ∨ j.val = 0 ∨ j.val = 255) := by
  have h' : IntOp.andi (IntOp.andi (IntOp.andi (IntOp.cmpi .sgt (BitVec.ofNat 32 i.val) 0#32) (IntOp.cmpi .slt (BitVec.ofNat 32 i.val) 255#32))
    (IntOp.cmpi .sgt (BitVec.ofNat 32 j.val) 0#32)) (IntOp.cmpi .slt (BitVec.ofNat 32 j.val) 255#32) = 1#1 := h
  have e := interior_word 256 (by norm_num) (by norm_num) i j 1 0
  intro hb
  rw [if_pos hb] at e
  have e' : Scalar.select (1#1) (1 : EReal) 0 = 0 := by rw [← h']; exact e
  simp [Scalar.select] at e'

theorem algebraic_KA : algebraic_KAIdeal_RAIdeal_on_interior_and_corner_KAIdeal_pre_finite (hKAIdeal := Cert.KAIdeal.Gen.facts) (hRAIdeal := Cert.RAIdeal.Gen.facts)
    (hPre_finite := Cert.Pre_finite.Gen.facts) (hOn_interior_and_corner_KAIdeal := Cert.On_interior_and_corner_KAIdeal.Gen.facts) := by
  intro m g m' g' hp hm
  refine ⟨fun c => Cert.KAIdeal.Acc.sums m c, fun c => Cert.KAIdeal.Acc.corner m c,
    (θ_run Cert.KAIdeal.defs _ _).mono (fun r h c => ⟨fun i _ => congrFun (h c).1 i, fun i _ => congrFun (h c).2.1 i, (h c).2.2⟩) (Cert.KAIdeal.Acc.run m g), ?_⟩
  refine (θ_run Cert.RAIdeal.defs _ _).mono (fun r h c => ?_) (Cert.RAIdeal.Map.run' m' g')
  obtain ⟨h0, h1, hr⟩ := h c
  have hf : ∀ k p, ∃ r : ℝ, chans m c k p = (r : EReal) := fun k p => real_KA _ (hp c) _
  have e : ∀ k, Cert.RAIdeal.Map.lane (Cert.RAIdeal.Map.harg (launchContents m' c)) k = chans m c k := fun k => funext fun p => congrFun (hm c) (ix3 k p.1 p.2)
  have hall : ∀ i j, Cert.RAIdeal.Map.hall (Cert.RAIdeal.Map.hchn (launchContents m' c)) (ix2 i j)
      = ∑ k : Fin 96, out NW (Cert.RAIdeal.Map.brd k) (rb1 (bordered (chans m c k) 0)) (rb2 (bordered (chans m c k) 0)) (i, j) := fun i j => by
    rw [Cert.RAIdeal.Map.hall_eq _ (fun k p => by rw [e k]; exact hf k p)]
    exact Finset.sum_congr rfl fun k _ => by unfold Cert.RAIdeal.Map.XX; rw [e k]
  refine ⟨fun y hy => ?_, fun y _ => ?_, hr⟩
  · obtain ⟨i, j, rfl⟩ : ∃ i j, y = ix2 i j := ⟨y 0, y 1, by funext a; fin_cases a <;> rfl⟩
    have hb := mask_KA _ i j hy
    rw [h0]
    refine (hall i j).trans (Eq.trans ?_ (Cert.KAIdeal.Lane.sums_eq m c i j).symm)
    exact Finset.sum_congr rfl fun k _ => (Cert.KAIdeal.Lane.part_eq _ hf (i, j) k fun hk => hb hk.2).symm
  · have hy : y = ix2 0 0 := by
      funext a; fin_cases a
      · exact Subsingleton.elim (α := Fin 1) _ _
      · exact Subsingleton.elim (α := Fin 1) _ _
    rw [hy, h1]
    refine Eq.trans (?_ : _ = Cert.RAIdeal.Map.hall (Cert.RAIdeal.Map.hchn (launchContents m' c)) (ix2 0 0)) ?_
    · unfold extractStridedSlice; congr 1; funext a; fin_cases a <;> rfl
    refine (hall 0 0).trans (Eq.trans ?_ (Cert.KAIdeal.Lane.corner_eq m c).symm)
    rw [Finset.sum_eq_single (0 : Fin 96)]
    · exact (Cert.KAIdeal.Lane.part_eq _ hf (0, 0) 0 fun hk => hk.1 rfl).symm
    · intro k _ hk
      exact out_border (B := Cert.RAIdeal.Map.brd k) _ _ Cert.KAIdeal.Lane.NW_card ⟨fun h => hk (Fin.ext h), Or.inl rfl⟩
    · intro h; exact absurd (Finset.mem_univ _) h

end Cert.Proof

end
-- ==== Proof.LaneKCIdeal.lean ====
/- One lane of a block, number by number: the table that the layer kernel builds for a channel is `Cert.Rarity.ktab` of that
   channel's counts. -/
module

public import proofs.«01_k».proof.Proof.Lanes
public import proofs.«01_k».proof.Proof.StepKCIdeal
public import Idealize.ShloMosaic.Lib.Pointwise

@[expose] public section

set_option maxRecDepth 16384

noncomputable section

namespace Cert.KCIdeal.Lane

open Idealize.ShloMosaic Cert.KCIdeal Cert.KCIdeal.Gen Cert.KCIdeal.Step Cert.Rarity

abbrev Ln : Type := FVec Ideal S32 .f32

variable (x : Vec Ideal S32x128x128 .f32) (a : BitVec 32) (i : S32.Idx)

theorem r124_ (v58 v65 : Ln) : (k0_pay30 (F := Ideal) v58 v65) i = (v58 i) - (v65 i) := rfl
theorem r124 : s_v124 x a i = (s_v58 x a i) - (s_v65 x a i) := r124_ i (s_v58 x a) (s_v65 x a)
theorem r125_ (v65 v72 : Ln) : (k0_pay31 (F := Ideal) v65 v72) i = (v65 i) - (v72 i) := rfl
theorem r125 : s_v125 x a i = (s_v65 x a i) - (s_v72 x a i) := r125_ i (s_v65 x a) (s_v72 x a)
theorem r126_ (v72 v79 : Ln) : (k0_pay32 (F := Ideal) v72 v79) i = (v72 i) - (v79 i) := rfl
theorem r126 : s_v126 x a i = (s_v72 x a i) - (s_v79 x a i) := r126_ i (s_v72 x a) (s_v79 x a)
theorem r127_ (v79 : Ln) (v18 : Vec Ideal S32x128x128 .f32) (v36 : Ln) : (k0_pay33 (F := Ideal) v79 (k0_pay20 (F := Ideal) v18 v36) (k0_pay21 (F := Ideal)) (k0_pay22 (F := Ideal))) i = (v79 i) - ((k0_pay23 (F := Ideal) (k0_pay20 (F := Ideal) v18 v36) (k0_pay21 (F := Ideal)) (k0_pay22 (F := Ideal))) i) := rfl
theorem r127 : s_v127 x a i = (s_v79 x a i) - (s_v86 x a i) := r127_ i (s_v79 x a) (s_v18 x a) (s_v36 x a)
theorem r130_ (v93 v100 : Ln) : (k0_pay35 (F := Ideal) v93 v100) i = (v93 i) - (v100 i) := rfl
theorem r130 : s_v130 x a i = (s_v93 x a i) - (s_v100 x a i) := r130_ i (s_v93 x a) (s_v100 x a)
theorem r131_ (v100 v107 : Ln) : (k0_pay36 (F := Ideal) v100 v107) i = (v100 i) - (v107 i) := rfl
theorem r131 : s_v131 x a i = (s_v100 x a i) - (s_v107 x a i) := r131_ i (s_v100 x a) (s_v107 x a)
theorem r132_ (v107 v114 : Ln) : (k0_pay37 (F := Ideal) v107 v114) i = (v107 i) - (v114 i) := rfl
theorem r132 : s_v132 x a i = (s_v107 x a i) - (s_v114 x a i) := r132_ i (s_v107 x a) (s_v114 x a)
theorem r133_ (v114 v121 : Ln) : (k0_pay38 (F := Ideal) v114 v121) i = (v114 i) - (v121 i) := rfl
theorem r133 : s_v133 x a i = (s_v114 x a i) - (s_v121 x a i) := r133_ i (s_v114 x a) (s_v121 x a)
theorem r123_ (v58 : Ln) : (k0_pay29 (F := Ideal) v58) i = (Ideal.ofBits .f32 0x46800000#32) - (v58 i) := rfl
theorem r123 : s_v123 x a i = (Ideal.ofBits .f32 0x46800000#32) - (s_v58 x a i) := r123_ i (s_v58 x a)
theorem r129_ (v93 : Ln) : (k0_pay34 (F := Ideal) v93) i = (Ideal.ofBits .f32 0x46800000#32) - (v93 i) := rfl
theorem r129 : s_v129 x a i = (Ideal.ofBits .f32 0x46800000#32) - (s_v93 x a i) := r129_ i (s_v93 x a)
theorem r140_ (v123 : Ln) : (k0_pay39 (F := Ideal) v123) i = lg (Ideal.ofBits .f32 0x46800000#32) (v123 i) := rfl
theorem r140 : s_v140 x a i = lg (Ideal.ofBits .f32 0x46800000#32) (s_v123 x a i) := r140_ i (s_v123 x a)
theorem r147_ (v124 : Ln) : (k0_pay40 (F := Ideal) v124) i = lg (Ideal.ofBits .f32 0x46800000#32) (v124 i) := rfl
theorem r147 : s_v147 x a i = lg (Ideal.ofBits .f32 0x46800000#32) (s_v124 x a i) := r147_ i (s_v124 x a)
theorem r154_ (v125 : Ln) : (k0_pay41 (F := Ideal) v125) i = lg (Ideal.ofBits .f32 0x46800000#32) (v125 i) := rfl
theorem r154 : s_v154 x a i = lg (Ideal.ofBits .f32 0x46800000#32) (s_v125 x a i) := r154_ i (s_v125 x a)
theorem r161_ (v126 : Ln) : (k0_pay42 (F := Ideal) v126) i = lg (Ideal.ofBits .f32 0x46800000#32) (v126 i) := rfl
theorem r161 : s_v161 x a i = lg (Ideal.ofBits .f32 0x46800000#32) (s_v126 x a i) := r161_ i (s_v126 x a)
theorem r168_ (v127 : Ln) : (k0_pay43 (F := Ideal) v127) i = lg (Ideal.ofBits .f32 0x46800000#32) (v127 i) := rfl
theorem r168 : s_v168 x a i = lg (Ideal.ofBits .f32 0x46800000#32) (s_v127 x a i) := r168_ i (s_v127 x a)
theorem r170_ (v86 : Ln) : (k0_pay44 (F := Ideal) v86) i = Ideal.div (v86 i) (Ideal.ofBits .f32 0x46800000#32) := rfl
theorem r170 : s_v170 x a i = Ideal.div (s_v86 x a i) (Ideal.ofBits .f32 0x46800000#32) := r170_ i (s_v86 x a)
theorem r175_ (v170 : Ln) : (k0_pay45 (F := Ideal) v170) i = zw - Ideal.log ((v170 i) + epw) := rfl
theorem r175 : s_v175 x a i = zw - Ideal.log ((s_v170 x a i) + epw) := r175_ i (s_v170 x a)
theorem r177_ (v129 : Ln) : (k0_pay46 (F := Ideal) v129) i = gt (v129 i) := rfl
theorem r177 : s_v177 x a i = gt (s_v129 x a i) := r177_ i (s_v129 x a)
theorem r179_ (v130 : Ln) : (k0_pay47 (F := Ideal) v130) i = gt (v130 i) := rfl
theorem r179 : s_v179 x a i = gt (s_v130 x a i) := r179_ i (s_v130 x a)
theorem r181_ (v131 : Ln) : (k0_pay48 (F := Ideal) v131) i = gt (v131 i) := rfl
theorem r181 : s_v181 x a i = gt (s_v131 x a i) := r181_ i (s_v131 x a)
theorem r183_ (v132 : Ln) : (k0_pay49 (F := Ideal) v132) i = gt (v132 i) := rfl
theorem r183 : s_v183 x a i = gt (s_v132 x a i) := r183_ i (s_v132 x a)
theorem r185_ (v133 : Ln) : (k0_pay50 (F := Ideal) v133) i = gt (v133 i) := rfl
theorem r185 : s_v185 x a i = gt (s_v133 x a i) := r185_ i (s_v133 x a)
theorem r187_ (v121 : Ln) : (k0_pay51 (F := Ideal) v121) i = gt (v121 i) := rfl
theorem r187 : s_v187 x a i = gt (s_v121 x a i) := r187_ i (s_v121 x a)
theorem r204_ (v121 v129 v130 v131 v132 v133 v140 v147 v154 v161 v168 v170 : Ln) : (k0_pay52 (F := Ideal) v121 v129 v130 v131 v132 v133 v140 v147 v154 v161 v168 v170) i = mn6 ((k0_pay46 (F := Ideal) v129) i) (v140 i) ((k0_pay47 (F := Ideal) v130) i) (v147 i) ((k0_pay48 (F := Ideal) v131) i) (v154 i) ((k0_pay49 (F := Ideal) v132) i) (v161 i) ((k0_pay50 (F := Ideal) v133) i) (v168 i) ((k0_pay51 (F := Ideal) v121) i) ((k0_pay45 (F := Ideal) v170) i) := rfl
theorem r204 : s_v204 x a i = mn6 (s_v177 x a i) (s_v140 x a i) (s_v179 x a i) (s_v147 x a i) (s_v181 x a i) (s_v154 x a i) (s_v183 x a i) (s_v161 x a i) (s_v185 x a i) (s_v168 x a i) (s_v187 x a i) (s_v175 x a i) := r204_ i (s_v121 x a) (s_v129 x a) (s_v130 x a) (s_v131 x a) (s_v132 x a) (s_v133 x a) (s_v140 x a) (s_v147 x a) (s_v154 x a) (s_v161 x a) (s_v168 x a) (s_v170 x a)
theorem r221_ (v168 v175 : Ln) (v185 v187 : IVec S32 1) (v129 v140 v130 v147 v131 v154 v132 v161 : Ln) : (k0_pay57 (F := Ideal) v168 v175 v185 v187 (k0_pay53 (F := Ideal) v129 v140) (k0_pay54 (F := Ideal) v130 v147) (k0_pay55 (F := Ideal) v131 v154) (k0_pay56 (F := Ideal) v132 v161)) i = mx6 ((k0_pay46 (F := Ideal) v129) i) (v140 i) ((k0_pay47 (F := Ideal) v130) i) (v147 i) ((k0_pay48 (F := Ideal) v131) i) (v154 i) ((k0_pay49 (F := Ideal) v132) i) (v161 i) (v185 i) (v168 i) (v187 i) (v175 i) := rfl
theorem r221 : s_v221 x a i = mx6 (s_v177 x a i) (s_v140 x a i) (s_v179 x a i) (s_v147 x a i) (s_v181 x a i) (s_v154 x a i) (s_v183 x a i) (s_v161 x a i) (s_v185 x a i) (s_v168 x a i) (s_v187 x a i) (s_v175 x a i) := r221_ i (s_v168 x a) (s_v175 x a) (s_v185 x a) (s_v187 x a) (s_v129 x a) (s_v140 x a) (s_v130 x a) (s_v147 x a) (s_v131 x a) (s_v154 x a) (s_v132 x a) (s_v161 x a)
theorem r236_ (v140 v168 v175 : Ln) (v185 v187 : IVec S32 1) (v204 v129 v130 v147 v131 v154 v132 v161 : Ln) : (k0_pay58 (F := Ideal) v140 v168 v175 v185 v187 v204 (k0_pay53 (F := Ideal) v129 v140) (k0_pay54 (F := Ideal) v130 v147) (k0_pay55 (F := Ideal) v131 v154) (k0_pay56 (F := Ideal) v132 v161)) i = rn (v140 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r236 : s_v236 x a i = rn (s_v140 x a i) (s_v204 x a i) (s_v221 x a i) := r236_ i (s_v140 x a) (s_v168 x a) (s_v175 x a) (s_v185 x a) (s_v187 x a) (s_v204 x a) (s_v129 x a) (s_v130 x a) (s_v147 x a) (s_v131 x a) (s_v154 x a) (s_v132 x a) (s_v161 x a)
theorem r251_ (v147 v168 v175 : Ln) (v185 v187 : IVec S32 1) (v204 v129 v140 v130 v131 v154 v132 v161 : Ln) : (k0_pay59 (F := Ideal) v147 v168 v175 v185 v187 v204 (k0_pay53 (F := Ideal) v129 v140) (k0_pay54 (F := Ideal) v130 v147) (k0_pay55 (F := Ideal) v131 v154) (k0_pay56 (F := Ideal) v132 v161)) i = rn (v147 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r251 : s_v251 x a i = rn (s_v147 x a i) (s_v204 x a i) (s_v221 x a i) := r251_ i (s_v147 x a) (s_v168 x a) (s_v175 x a) (s_v185 x a) (s_v187 x a) (s_v204 x a) (s_v129 x a) (s_v140 x a) (s_v130 x a) (s_v131 x a) (s_v154 x a) (s_v132 x a) (s_v161 x a)
theorem r266_ (v168 v175 : Ln) (v185 v187 : IVec S32 1) (v204 v129 v140 v130 v147 v131 v154 v132 v161 : Ln) : (k0_pay64 (F := Ideal) (k0_pay60 (F := Ideal) v168 v175 v185 v187 v204 (k0_pay53 (F := Ideal) v129 v140) (k0_pay54 (F := Ideal) v130 v147) (k0_pay55 (F := Ideal) v131 v154) (k0_pay56 (F := Ideal) v132 v161)) (k0_pay61 (F := Ideal) v154 v204) (k0_pay62 (F := Ideal) v168 v175 v185 v187 v204 (k0_pay53 (F := Ideal) v129 v140) (k0_pay54 (F := Ideal) v130 v147) (k0_pay55 (F := Ideal) v131 v154) (k0_pay56 (F := Ideal) v132 v161)) (k0_pay63 (F := Ideal))) i = rn (v154 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r266 : s_v266 x a i = rn (s_v154 x a i) (s_v204 x a i) (s_v221 x a i) := r266_ i (s_v168 x a) (s_v175 x a) (s_v185 x a) (s_v187 x a) (s_v204 x a) (s_v129 x a) (s_v140 x a) (s_v130 x a) (s_v147 x a) (s_v131 x a) (s_v154 x a) (s_v132 x a) (s_v161 x a)
theorem r281_ (v161 v204 v221 : Ln) : (k0_pay65 (F := Ideal) v161 v204 v221) i = rn (v161 i) (v204 i) (v221 i) := rfl
theorem r281 : s_v281 x a i = rn (s_v161 x a i) (s_v204 x a i) (s_v221 x a i) := r281_ i (s_v161 x a) (s_v204 x a) (s_v221 x a)
theorem r296_ (v168 v204 v221 : Ln) : (k0_pay66 (F := Ideal) v168 v204 v221) i = rn (v168 i) (v204 i) (v221 i) := rfl
theorem r296 : s_v296 x a i = rn (s_v168 x a i) (s_v204 x a i) (s_v221 x a i) := r296_ i (s_v168 x a) (s_v204 x a) (s_v221 x a)
theorem r311_ (v204 v221 v175 : Ln) : (k0_pay70 (F := Ideal) (k0_pay67 (F := Ideal) v204 v221) (k0_pay68 (F := Ideal) v175 v204) (k0_pay69 (F := Ideal))) i = rn (v175 i) (v204 i) (v221 i) := rfl
theorem r311 : s_v311 x a i = rn (s_v175 x a i) (s_v204 x a i) (s_v221 x a i) := r311_ i (s_v204 x a) (s_v221 x a) (s_v175 x a)
theorem r326_ (v121 v129 v130 v131 v132 v133 v236 v251 v266 v281 v296 v204 v221 v175 : Ln) : (k0_pay71 (F := Ideal) v121 v129 v130 v131 v132 v133 v236 v251 v266 v281 v296 (k0_pay67 (F := Ideal) v204 v221) (k0_pay68 (F := Ideal) v175 v204) (k0_pay69 (F := Ideal))) i = Ideal.div (zw + (v129 i) * (v236 i) + (v130 i) * (v251 i) + (v131 i) * (v266 i) + (v132 i) * (v281 i) + (v133 i) * (v296 i) + (v121 i) * ((k0_pay70 (F := Ideal) (k0_pay67 (F := Ideal) v204 v221) (k0_pay68 (F := Ideal) v175 v204) (k0_pay69 (F := Ideal))) i)) (Ideal.ofBits .f32 0x46800000#32) := rfl
theorem r326 : s_v326 x a i = Ideal.div (zw + (s_v129 x a i) * (s_v236 x a i) + (s_v130 x a i) * (s_v251 x a i) + (s_v131 x a i) * (s_v266 x a i) + (s_v132 x a i) * (s_v281 x a i) + (s_v133 x a i) * (s_v296 x a i) + (s_v121 x a i) * (s_v311 x a i)) (Ideal.ofBits .f32 0x46800000#32) := r326_ i (s_v121 x a) (s_v129 x a) (s_v130 x a) (s_v131 x a) (s_v132 x a) (s_v133 x a) (s_v236 x a) (s_v251 x a) (s_v266 x a) (s_v281 x a) (s_v296 x a) (s_v204 x a) (s_v221 x a) (s_v175 x a)
theorem r343_ (v177 v179 v181 v183 v185 v187 : IVec S32 1) (v236 v251 v266 v281 v296 v204 v221 v175 : Ln) : (k0_pay72 (F := Ideal) v177 v179 v181 v183 v185 v187 v236 v251 v266 v281 v296 (k0_pay67 (F := Ideal) v204 v221) (k0_pay68 (F := Ideal) v175 v204) (k0_pay69 (F := Ideal))) i = mn6 (v177 i) (v236 i) (v179 i) (v251 i) (v181 i) (v266 i) (v183 i) (v281 i) (v185 i) (v296 i) (v187 i) ((k0_pay70 (F := Ideal) (k0_pay67 (F := Ideal) v204 v221) (k0_pay68 (F := Ideal) v175 v204) (k0_pay69 (F := Ideal))) i) := rfl
theorem r343 : s_v343 x a i = mn6 (s_v177 x a i) (s_v236 x a i) (s_v179 x a i) (s_v251 x a i) (s_v181 x a i) (s_v266 x a i) (s_v183 x a i) (s_v281 x a i) (s_v185 x a i) (s_v296 x a i) (s_v187 x a i) (s_v311 x a i) := r343_ i (s_v177 x a) (s_v179 x a) (s_v181 x a) (s_v183 x a) (s_v185 x a) (s_v187 x a) (s_v236 x a) (s_v251 x a) (s_v266 x a) (s_v281 x a) (s_v296 x a) (s_v204 x a) (s_v221 x a) (s_v175 x a)
theorem r360_ (v179 v181 v183 v185 v187 : IVec S32 1) (v251 v266 v281 v296 v311 : Ln) (v177 : IVec S32 1) (v236 : Ln) : (k0_pay74 (F := Ideal) v179 v181 v183 v185 v187 v251 v266 v281 v296 v311 (k0_pay73 (F := Ideal) v177 v236)) i = mx6 (v177 i) (v236 i) (v179 i) (v251 i) (v181 i) (v266 i) (v183 i) (v281 i) (v185 i) (v296 i) (v187 i) (v311 i) := rfl
theorem r360 : s_v360 x a i = mx6 (s_v177 x a i) (s_v236 x a i) (s_v179 x a i) (s_v251 x a i) (s_v181 x a i) (s_v266 x a i) (s_v183 x a i) (s_v281 x a i) (s_v185 x a i) (s_v296 x a i) (s_v187 x a i) (s_v311 x a i) := r360_ i (s_v179 x a) (s_v181 x a) (s_v183 x a) (s_v185 x a) (s_v187 x a) (s_v251 x a) (s_v266 x a) (s_v281 x a) (s_v296 x a) (s_v311 x a) (s_v177 x a) (s_v236 x a)
theorem r362_ (v179 v181 v183 v185 v187 : IVec S32 1) (v251 v266 v281 v296 v311 v326 : Ln) (v177 : IVec S32 1) (v236 : Ln) : (k0_pay75 (F := Ideal) v179 v181 v183 v185 v187 v251 v266 v281 v296 v311 v326 (k0_pay73 (F := Ideal) v177 v236)) i = (((k0_pay74 (F := Ideal) v179 v181 v183 v185 v187 v251 v266 v281 v296 v311 (k0_pay73 (F := Ideal) v177 v236)) i) - (v326 i)) * (((k0_pay74 (F := Ideal) v179 v181 v183 v185 v187 v251 v266 v281 v296 v311 (k0_pay73 (F := Ideal) v177 v236)) i) - (v326 i)) := rfl
theorem r362 : s_v362 x a i = ((s_v360 x a i) - (s_v326 x a i)) * ((s_v360 x a i) - (s_v326 x a i)) := r362_ i (s_v179 x a) (s_v181 x a) (s_v183 x a) (s_v185 x a) (s_v187 x a) (s_v251 x a) (s_v266 x a) (s_v281 x a) (s_v296 x a) (s_v311 x a) (s_v326 x a) (s_v177 x a) (s_v236 x a)
theorem r378_ (v179 v181 v183 v185 v187 : IVec S32 1) (v236 v251 v266 v281 v296 v311 v326 v343 : Ln) (v177 : IVec S32 1) : (k0_pay76 (F := Ideal) v179 v181 v183 v185 v187 v236 v251 v266 v281 v296 v311 v326 v343 (k0_pay73 (F := Ideal) v177 v236)) i = rn (v236 i) (v343 i) ((k0_pay74 (F := Ideal) v179 v181 v183 v185 v187 v251 v266 v281 v296 v311 (k0_pay73 (F := Ideal) v177 v236)) i) * ((k0_pay75 (F := Ideal) v179 v181 v183 v185 v187 v251 v266 v281 v296 v311 v326 (k0_pay73 (F := Ideal) v177 v236)) i) := rfl
theorem r378 : s_v378 x a i = rn (s_v236 x a i) (s_v343 x a i) (s_v360 x a i) * (s_v362 x a i) := r378_ i (s_v179 x a) (s_v181 x a) (s_v183 x a) (s_v185 x a) (s_v187 x a) (s_v236 x a) (s_v251 x a) (s_v266 x a) (s_v281 x a) (s_v296 x a) (s_v311 x a) (s_v326 x a) (s_v343 x a) (s_v177 x a)
theorem r394_ (v362 : Ln) (v179 v181 v183 v185 v187 : IVec S32 1) (v251 v266 v281 v296 v311 v343 : Ln) (v177 : IVec S32 1) (v236 : Ln) : (k0_pay79 (F := Ideal) v362 (k0_pay77 (F := Ideal) v179 v181 v183 v185 v187 v251 v266 v281 v296 v311 v343 (k0_pay73 (F := Ideal) v177 v236)) (k0_pay78 (F := Ideal) v179 v181 v183 v185 v187 v251 v266 v281 v296 v311 v343 (k0_pay73 (F := Ideal) v177 v236)) (Scalar.ofBits .f32 0x00000000#32)) i = rn (v251 i) (v343 i) ((k0_pay74 (F := Ideal) v179 v181 v183 v185 v187 v251 v266 v281 v296 v311 (k0_pay73 (F := Ideal) v177 v236)) i) * (v362 i) := rfl
theorem r394 : s_v394 x a i = rn (s_v251 x a i) (s_v343 x a i) (s_v360 x a i) * (s_v362 x a i) := r394_ i (s_v362 x a) (s_v179 x a) (s_v181 x a) (s_v183 x a) (s_v185 x a) (s_v187 x a) (s_v251 x a) (s_v266 x a) (s_v281 x a) (s_v296 x a) (s_v311 x a) (s_v343 x a) (s_v177 x a) (s_v236 x a)
theorem r410_ (v266 v343 v360 v362 : Ln) : (k0_pay80 (F := Ideal) v266 v343 v360 v362) i = rn (v266 i) (v343 i) (v360 i) * (v362 i) := rfl
theorem r410 : s_v410 x a i = rn (s_v266 x a i) (s_v343 x a i) (s_v360 x a i) * (s_v362 x a i) := r410_ i (s_v266 x a) (s_v343 x a) (s_v360 x a) (s_v362 x a)
theorem r426_ (v281 v343 v360 v362 : Ln) : (k0_pay81 (F := Ideal) v281 v343 v360 v362) i = rn (v281 i) (v343 i) (v360 i) * (v362 i) := rfl
theorem r426 : s_v426 x a i = rn (s_v281 x a i) (s_v343 x a i) (s_v360 x a i) * (s_v362 x a i) := r426_ i (s_v281 x a) (s_v343 x a) (s_v360 x a) (s_v362 x a)
theorem r442_ (v362 v343 v360 v296 : Ln) : (k0_pay84 (F := Ideal) v362 (k0_pay82 (F := Ideal) v343 v360) (k0_pay83 (F := Ideal) v296 v343 v360) (Scalar.ofBits .f32 0x3F800000#32)) i = rn (v296 i) (v343 i) (v360 i) * (v362 i) := rfl
theorem r442 : s_v442 x a i = rn (s_v296 x a i) (s_v343 x a i) (s_v360 x a i) * (s_v362 x a i) := r442_ i (s_v362 x a) (s_v343 x a) (s_v360 x a) (s_v296 x a)
theorem r458_ (v311 v343 v360 v362 : Ln) : (k0_pay85 (F := Ideal) v311 v343 v360 v362) i = rn (v311 i) (v343 i) (v360 i) * (v362 i) := rfl
theorem r458 : s_v458 x a i = rn (s_v311 x a i) (s_v343 x a i) (s_v360 x a i) * (s_v362 x a i) := r458_ i (s_v311 x a) (s_v343 x a) (s_v360 x a) (s_v362 x a)
theorem r501_ (v129 v468 v39 : Ln) : (k0_pay93 (F := Ideal) v129 v468 (k0_pay87 (F := Ideal) v39)) i = (v129 i) - (v468 i) * (ow - (le (v39 i))) := rfl
theorem r501 : s_v501 x a i = (s_v129 x a i) - (s_v468 x a i) * (ow - (le (s_v39 x a i))) := r501_ i (s_v129 x a) (s_v468 x a) (s_v39 x a)
theorem r503_ (v130 v468 v39 v42 : Ln) : (k0_pay94 (F := Ideal) v130 v468 (k0_pay87 (F := Ideal) v39) (k0_pay88 (F := Ideal) v42) (Scalar.ofBits .f32 0x3F800000#32)) i = (v130 i) - (v468 i) * ((le (v39 i)) - (le (v42 i))) := rfl
theorem r503 : s_v503 x a i = (s_v130 x a i) - (s_v468 x a i) * ((le (s_v39 x a i)) - (le (s_v42 x a i))) := r503_ i (s_v130 x a) (s_v468 x a) (s_v39 x a) (s_v42 x a)
theorem r505_ (v45 v131 v468 v42 : Ln) : (k0_pay95 (F := Ideal) v45 v131 v468 (k0_pay88 (F := Ideal) v42) (Scalar.ofBits .f32 0x3F800000#32)) i = (v131 i) - (v468 i) * ((le (v42 i)) - (le (v45 i))) := rfl
theorem r505 : s_v505 x a i = (s_v131 x a i) - (s_v468 x a i) * ((le (s_v42 x a i)) - (le (s_v45 x a i))) := r505_ i (s_v45 x a) (s_v131 x a) (s_v468 x a) (s_v42 x a)
theorem r507_ (v45 v48 v132 v468 : Ln) : (k0_pay96 (F := Ideal) v45 v48 v132 v468) i = (v132 i) - (v468 i) * ((le (v45 i)) - (le (v48 i))) := rfl
theorem r507 : s_v507 x a i = (s_v132 x a i) - (s_v468 x a i) * ((le (s_v45 x a i)) - (le (s_v48 x a i))) := r507_ i (s_v45 x a) (s_v48 x a) (s_v132 x a) (s_v468 x a)
theorem r509_ (v48 v51 v133 v468 : Ln) : (k0_pay97 (F := Ideal) v48 v51 v133 v468) i = (v133 i) - (v468 i) * ((le (v48 i)) - (le (v51 i))) := rfl
theorem r509 : s_v509 x a i = (s_v133 x a i) - (s_v468 x a i) * ((le (s_v48 x a i)) - (le (s_v51 x a i))) := r509_ i (s_v48 x a) (s_v51 x a) (s_v133 x a) (s_v468 x a)
theorem r511_ (v51 v121 v468 : Ln) : (k0_pay98 (F := Ideal) v51 v121 v468) i = (v121 i) - (v468 i) * (le (v51 i)) := rfl
theorem r511 : s_v511 x a i = (s_v121 x a i) - (s_v468 x a i) * (le (s_v51 x a i)) := r511_ i (s_v51 x a) (s_v121 x a) (s_v468 x a)
theorem r557_ (v378 v394 v410 v426 v442 v458 v509 v511 v129 v468 v39 v130 v42 v45 v131 v48 v132 : Ln) : (k0_pay105 (F := Ideal) v378 v394 v410 v426 v442 v458 v509 v511 (k0_pay99 (F := Ideal) v129 v468 (k0_pay87 (F := Ideal) v39)) (k0_pay100 (F := Ideal) v130 v468 (k0_pay87 (F := Ideal) v39) (k0_pay88 (F := Ideal) v42) (Scalar.ofBits .f32 0x3F800000#32)) (k0_pay101 (F := Ideal) v45 v131 v468 (k0_pay88 (F := Ideal) v42) (Scalar.ofBits .f32 0x3F800000#32)) (k0_pay102 (F := Ideal) v45 v48 v132 v468) (Scalar.ofBits .f32 0x00000000#32)) i = mx6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i) := rfl
theorem r557 : s_v557 x a i = mx6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i) := r557_ i (s_v378 x a) (s_v394 x a) (s_v410 x a) (s_v426 x a) (s_v442 x a) (s_v458 x a) (s_v509 x a) (s_v511 x a) (s_v129 x a) (s_v468 x a) (s_v39 x a) (s_v130 x a) (s_v42 x a) (s_v45 x a) (s_v131 x a) (s_v48 x a) (s_v132 x a)
theorem r562_ (v378 v394 v410 v426 v442 v458 v468 v509 v511 v129 v39 v130 v42 v45 v131 v48 v132 : Ln) : (k0_pay106 (F := Ideal) v378 v394 v410 v426 v442 v458 v468 v509 v511 (k0_pay99 (F := Ideal) v129 v468 (k0_pay87 (F := Ideal) v39)) (k0_pay100 (F := Ideal) v130 v468 (k0_pay87 (F := Ideal) v39) (k0_pay88 (F := Ideal) v42) (Scalar.ofBits .f32 0x3F800000#32)) (k0_pay101 (F := Ideal) v45 v131 v468 (k0_pay88 (F := Ideal) v42) (Scalar.ofBits .f32 0x3F800000#32)) (k0_pay102 (F := Ideal) v45 v48 v132 v468) (Scalar.ofBits .f32 0x00000000#32)) i = Scalar.select (gt (v468 i)) (min (mn6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i)) zw) (mn6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i)) := rfl
theorem r562 : s_v562 x a i = Scalar.select (gt (s_v468 x a i)) (min (mn6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i)) zw) (mn6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i)) := r562_ i (s_v378 x a) (s_v394 x a) (s_v410 x a) (s_v426 x a) (s_v442 x a) (s_v458 x a) (s_v468 x a) (s_v509 x a) (s_v511 x a) (s_v129 x a) (s_v39 x a) (s_v130 x a) (s_v42 x a) (s_v45 x a) (s_v131 x a) (s_v48 x a) (s_v132 x a)
theorem r567_ (v468 v557 : Ln) : (k0_pay108 (F := Ideal) v468 v557 (k0_pay107 (F := Ideal))) i = Scalar.select (gt (v468 i)) (max (v557 i) zw) (v557 i) := rfl
theorem r567 : s_v567 x a i = Scalar.select (gt (s_v468 x a i)) (max (s_v557 x a i) zw) (s_v557 x a i) := r567_ i (s_v468 x a) (s_v557 x a)
theorem r584_ (v378 v394 v410 v426 v442 v458 v468 v501 v503 v505 v507 v509 v511 v557 : Ln) : (k0_pay109 (F := Ideal) v378 v394 v410 v426 v442 v458 v468 v501 v503 v505 v507 v509 v511 v557 (k0_pay107 (F := Ideal))) i = (((k0_pay108 (F := Ideal) v468 v557 (k0_pay107 (F := Ideal))) i) - Ideal.div (zw + (v501 i) * (v378 i) + (v503 i) * (v394 i) + (v505 i) * (v410 i) + (v507 i) * (v426 i) + (v509 i) * (v442 i) + (v511 i) * (v458 i)) (Ideal.ofBits .f32 0x46800000#32)) * (((k0_pay108 (F := Ideal) v468 v557 (k0_pay107 (F := Ideal))) i) - Ideal.div (zw + (v501 i) * (v378 i) + (v503 i) * (v394 i) + (v505 i) * (v410 i) + (v507 i) * (v426 i) + (v509 i) * (v442 i) + (v511 i) * (v458 i)) (Ideal.ofBits .f32 0x46800000#32)) := rfl
theorem r584 : s_v584 x a i = ((s_v567 x a i) - Ideal.div (zw + (s_v501 x a i) * (s_v378 x a i) + (s_v503 x a i) * (s_v394 x a i) + (s_v505 x a i) * (s_v410 x a i) + (s_v507 x a i) * (s_v426 x a i) + (s_v509 x a i) * (s_v442 x a i) + (s_v511 x a i) * (s_v458 x a i)) (Ideal.ofBits .f32 0x46800000#32)) * ((s_v567 x a i) - Ideal.div (zw + (s_v501 x a i) * (s_v378 x a i) + (s_v503 x a i) * (s_v394 x a i) + (s_v505 x a i) * (s_v410 x a i) + (s_v507 x a i) * (s_v426 x a i) + (s_v509 x a i) * (s_v442 x a i) + (s_v511 x a i) * (s_v458 x a i)) (Ideal.ofBits .f32 0x46800000#32)) := r584_ i (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a)
theorem r600_ (v378 v394 v410 v426 v442 v458 v468 v501 v503 v505 v507 v509 v511 v557 v562 : Ln) : (k0_pay110 (F := Ideal) v378 v394 v410 v426 v442 v458 v468 v501 v503 v505 v507 v509 v511 v557 v562 (k0_pay107 (F := Ideal))) i = rn (v378 i) (v562 i) ((k0_pay108 (F := Ideal) v468 v557 (k0_pay107 (F := Ideal))) i) * ((k0_pay109 (F := Ideal) v378 v394 v410 v426 v442 v458 v468 v501 v503 v505 v507 v509 v511 v557 (k0_pay107 (F := Ideal))) i) := rfl
theorem r600 : s_v600 x a i = rn (s_v378 x a i) (s_v562 x a i) (s_v567 x a i) * (s_v584 x a i) := r600_ i (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a)
theorem r616_ (v584 v468 v557 v562 v394 : Ln) : (k0_pay114 (F := Ideal) v584 (k0_pay111 (F := Ideal) v468 v557 v562 (k0_pay107 (F := Ideal))) (k0_pay112 (F := Ideal) v394 v468 v557 v562 (k0_pay107 (F := Ideal))) (k0_pay113 (F := Ideal))) i = rn (v394 i) (v562 i) ((k0_pay108 (F := Ideal) v468 v557 (k0_pay107 (F := Ideal))) i) * (v584 i) := rfl
theorem r616 : s_v616 x a i = rn (s_v394 x a i) (s_v562 x a i) (s_v567 x a i) * (s_v584 x a i) := r616_ i (s_v584 x a) (s_v468 x a) (s_v557 x a) (s_v562 x a) (s_v394 x a)
theorem r632_ (v410 v562 v567 v584 : Ln) : (k0_pay115 (F := Ideal) v410 v562 v567 v584) i = rn (v410 i) (v562 i) (v567 i) * (v584 i) := rfl
theorem r632 : s_v632 x a i = rn (s_v410 x a i) (s_v562 x a i) (s_v567 x a i) * (s_v584 x a i) := r632_ i (s_v410 x a) (s_v562 x a) (s_v567 x a) (s_v584 x a)
theorem r648_ (v426 v562 v567 v584 : Ln) : (k0_pay116 (F := Ideal) v426 v562 v567 v584) i = rn (v426 i) (v562 i) (v567 i) * (v584 i) := rfl
theorem r648 : s_v648 x a i = rn (s_v426 x a i) (s_v562 x a i) (s_v567 x a i) * (s_v584 x a i) := r648_ i (s_v426 x a) (s_v562 x a) (s_v567 x a) (s_v584 x a)
theorem r664_ (v584 v562 v567 v442 : Ln) : (k0_pay120 (F := Ideal) v584 (k0_pay117 (F := Ideal) v562 v567) (k0_pay118 (F := Ideal) v442 v562) (k0_pay119 (F := Ideal) v562 v567)) i = rn (v442 i) (v562 i) (v567 i) * (v584 i) := rfl
theorem r664 : s_v664 x a i = rn (s_v442 x a i) (s_v562 x a i) (s_v567 x a i) * (s_v584 x a i) := r664_ i (s_v584 x a) (s_v562 x a) (s_v567 x a) (s_v442 x a)
theorem r680_ (v458 v562 v567 v584 : Ln) : (k0_pay121 (F := Ideal) v458 v562 v567 v584) i = rn (v458 i) (v562 i) (v567 i) * (v584 i) := rfl
theorem r680 : s_v680 x a i = rn (s_v458 x a i) (s_v562 x a i) (s_v567 x a i) * (s_v584 x a i) := r680_ i (s_v458 x a) (s_v562 x a) (s_v567 x a) (s_v584 x a)

abbrev g1 : Fin 5 → EReal := ![s_v58 x a i, s_v65 x a i, s_v72 x a i, s_v79 x a i, s_v86 x a i]
abbrev g2 : Fin 5 → EReal := ![s_v93 x a i, s_v100 x a i, s_v107 x a i, s_v114 x a i, s_v121 x a i]
abbrev th : Fin 5 → EReal := ![s_v39 x a i, s_v42 x a i, s_v45 x a i, s_v48 x a i, s_v51 x a i]
abbrev c1v : Fin 6 → EReal := ![s_v123 x a i, s_v124 x a i, s_v125 x a i, s_v126 x a i, s_v127 x a i, s_v86 x a i]
abbrev c2v : Fin 6 → EReal := ![s_v129 x a i, s_v130 x a i, s_v131 x a i, s_v132 x a i, s_v133 x a i, s_v121 x a i]
abbrev vv : Fin 6 → EReal := ![s_v140 x a i, s_v147 x a i, s_v154 x a i, s_v161 x a i, s_v168 x a i, s_v175 x a i]
abbrev dv : Fin 6 → EReal := ![s_v236 x a i, s_v251 x a i, s_v266 x a i, s_v281 x a i, s_v296 x a i, s_v311 x a i]
abbrev rv : Fin 6 → EReal := ![s_v378 x a i, s_v394 x a i, s_v410 x a i, s_v426 x a i, s_v442 x a i, s_v458 x a i]
abbrev ccv : Fin 6 → EReal := ![s_v501 x a i, s_v503 x a i, s_v505 x a i, s_v507 x a i, s_v509 x a i, s_v511 x a i]
abbrev tv : Fin 6 → EReal := ![s_v600 x a i, s_v616 x a i, s_v632 x a i, s_v648 x a i, s_v664 x a i, s_v680 x a i]

theorem c1_eq : c1v x a i = kc (Ideal.ofBits .f32 0x46800000#32) (g1 x a i) := by
  unfold c1v; rw [r123, r124, r125, r126, r127]; rfl
theorem c2_eq : c2v x a i = kc (Ideal.ofBits .f32 0x46800000#32) (g2 x a i) := by
  unfold c2v; rw [r129, r130, r131, r132, r133]; rfl
theorem v_eq : vv x a i = vtab (Ideal.ofBits .f32 0x46800000#32) (c1v x a i) := by
  rw [vtab_lg]; unfold vv; rw [r140, r147, r154, r161, r168, r175, r170]; rfl
theorem pmn_eq : s_v204 x a i = tmn (c2v x a i) (vv x a i) := by
  rw [r204, r177, r179, r181, r183, r185, r187, mn6_gt]
theorem pmx_eq : s_v221 x a i = tmx (c2v x a i) (vv x a i) := by
  rw [r221, r177, r179, r181, r183, r185, r187, mx6_gt]
theorem d_eq : dv x a i = tnd (c2v x a i) (vv x a i) := by
  rw [tnd_rn, ← pmn_eq, ← pmx_eq]; unfold dv; rw [r236, r251, r266, r281, r296, r311]; rfl
theorem dmn_eq : s_v343 x a i = tmn (c2v x a i) (dv x a i) := by
  rw [r343, r177, r179, r181, r183, r185, r187, mn6_gt]
theorem dmx_eq : s_v360 x a i = tmx (c2v x a i) (dv x a i) := by
  rw [r360, r177, r179, r181, r183, r185, r187, mx6_gt]
theorem mean_eq : s_v326 x a i = Ideal.div (tsm (c2v x a i) (dv x a i)) (Ideal.ofBits .f32 0x46800000#32) := by
  rw [r326, zw_eq, zero_add]; rfl
theorem r_eq : rv x a i = trt (Ideal.ofBits .f32 0x46800000#32) (c2v x a i) (dv x a i) := by
  rw [trt_rn, ← dmn_eq, ← dmx_eq, ← mean_eq, ← r362]; unfold rv; rw [r378, r394, r410, r426, r442, r458]; rfl
theorem cc_eq : ccv x a i = kcc (s_v468 x a i) (c2v x a i) (kc 1 (ge0 (th x a i))) := by
  rw [kcc_le]; unfold ccv; rw [r501, r503, r505, r507, r509, r511]; rfl
theorem bmx0 : s_v557 x a i = tmx (ccv x a i) (rv x a i) := by
  rw [r557, mx6_gt]
theorem bmn_eq : s_v562 x a i = bmn (s_v468 x a i) (ccv x a i) (rv x a i) := by
  rw [r562, mn6_gt, bmn_gt]
theorem bmx_eq : s_v567 x a i = bmx (s_v468 x a i) (ccv x a i) (rv x a i) := by
  rw [r567, bmx0, bmx_gt]
theorem w_eq : s_v584 x a i = (s_v567 x a i - Ideal.div (tsm (ccv x a i) (rv x a i)) (Ideal.ofBits .f32 0x46800000#32)) * (s_v567 x a i - Ideal.div (tsm (ccv x a i) (rv x a i)) (Ideal.ofBits .f32 0x46800000#32)) := by
  rw [r584, zw_eq, zero_add]; rfl
theorem t_eq : tv x a i = tT (Ideal.ofBits .f32 0x46800000#32) (s_v468 x a i) (ccv x a i) (rv x a i) := by
  rw [tT_rn, ← bmn_eq, ← bmx_eq, ← w_eq]; unfold tv; rw [r600, r616, r632, r648, r664, r680]; rfl

theorem table : tv x a i = ktab (Ideal.ofBits .f32 0x46800000#32) (s_v468 x a i) (kc (Ideal.ofBits .f32 0x46800000#32) (g1 x a i)) (kc (Ideal.ofBits .f32 0x46800000#32) (g2 x a i)) (kcc (s_v468 x a i) (kc (Ideal.ofBits .f32 0x46800000#32) (g2 x a i)) (kc 1 (ge0 (th x a i)))) := by
  rw [t_eq, cc_eq, r_eq, d_eq, v_eq, c1_eq, c2_eq]; rfl

end Cert.KCIdeal.Lane

end
-- ==== Proof.SumKCIdeal.lean ====
/- The layer kernel's results as sums over channels of `Cert.Rarity.ktable`, the kernel's table for one channel. -/
module

public import proofs.«01_k».proof.Proof.Maps
public import proofs.«01_k».proof.Proof.Bins
public import proofs.«01_k».proof.Proof.LaneKCIdeal
public import proofs.«01_k».proof.Proof.AccKCIdeal

@[expose] public section

set_option maxRecDepth 16384

noncomputable section

namespace Cert.KCIdeal.Lane

open Idealize.ShloMosaic Cert.KCIdeal Cert.KCIdeal.Gen Cert.KCIdeal.Step Cert.Rarity Cert.Stage2

abbrev Px : Type := Fin 128 × Fin 128
abbrev NW : EReal := Ideal.ofBits .f32 0x46800000#32

/-- One channel of a block. -/
abbrev lane {n : Nat} (v : FVec Ideal ⟨3, ![n, 128, 128]⟩ .f32) (g : Fin n) (p : Px) : EReal := v (ix3 g p.1 p.2)

theorem kept (x : Vec Ideal S32x128x128 .f32) (g : Fin 32) : lane (k0_pay2 (F := Ideal) x) g = bordered (lane x g) 0 := by
  funext ⟨i, j⟩
  show k0_pay2 (F := Ideal) x (ix3 g i j) = _
  refine Eq.trans ?_ (interior_word 128 (by norm_num) (by norm_num) i j (x (ix3 g i j)) 0)
  pointwise [k0_pay2]

variable (x : Vec Ideal S32x128x128 .f32) (a : BitVec 32) (g : Fin 32)

abbrev XX : Px → EReal := lane (s_v18 x a) g

theorem least : s_v19 x a (ix1 g) = lo (XX x a g) := by
  show k0_pay3 (F := Ideal) x (ix1 g) = lo (lane (k0_pay2 x) g)
  unfold k0_pay3
  generalize k0_pay2 (F := Ideal) x = v
  unfold lo lane
  pointwise
  simp only [w_top]

theorem range : s_v21 x a (ix1 g) = hi (XX x a g) - lo (XX x a g) := by
  show k0_pay4 (F := Ideal) x (ix1 g) = hi (lane (k0_pay2 x) g) - lo (XX x a g)
  rw [← least x a g]
  unfold s_v19 k0_pay4
  generalize k0_pay3 (F := Ideal) x = w
  generalize k0_pay2 (F := Ideal) x = v
  unfold hi lane
  pointwise
  simp only [w_bot]

theorem lin (w r : FVec Ideal S32 .f32) (c : EReal) : addf w (mulf r (broadcast S32 c)) (ix1 g) = w (ix1 g) + r (ix1 g) * c := rfl

/-- A threshold of the kernel's is the least value and a fraction of the range. -/
theorem cut (t : Fin 5 → ℝ) (k : Fin 5) (c : EReal) (h : c = ((t k : ℝ) : EReal)) :
    addf (s_v19 x a) (mulf (s_v21 x a) (broadcast S32 c)) (ix1 g) = kth (XX x a g) t k := by
  rw [lin, least, range, h]; rfl

theorem p0 : s_v24 x a (ix1 g) = kth (XX x a g) t1 0 := cut x a g t1 0 ((1 / 6 : ℝ) : EReal) rfl
theorem p1 : s_v27 x a (ix1 g) = kth (XX x a g) t1 1 := cut x a g t1 1 ((1 / 3 : ℝ) : EReal) (by norm_num [t1])
theorem p2 : s_v30 x a (ix1 g) = kth (XX x a g) t1 2 := cut x a g t1 2 (Ideal.ofBits .f32 0x3F000000#32) w_half
theorem p3 : s_v33 x a (ix1 g) = kth (XX x a g) t1 3 := cut x a g t1 3 ((2 / 3 : ℝ) : EReal) (by show ((2 / 3 : ℝ) : EReal) = ((4 / 6 : ℝ) : EReal); norm_num)
theorem p4 : s_v36 x a (ix1 g) = kth (XX x a g) t1 4 := cut x a g t1 4 ((5 / 6 : ℝ) : EReal) rfl
theorem q0 : s_v39 x a (ix1 g) = kth (XX x a g) t2 0 := cut x a g t2 0 ((1 / 768 : ℝ) : EReal) (by norm_num [t2])
theorem q1 : s_v42 x a (ix1 g) = kth (XX x a g) t2 1 := cut x a g t2 1 (Ideal.ofBits .f32 0x3B000000#32) w_512th
theorem q2 : s_v45 x a (ix1 g) = kth (XX x a g) t2 2 := cut x a g t2 2 ((1 / 384 : ℝ) : EReal) (by show ((1 / 384 : ℝ) : EReal) = ((4 / 1536 : ℝ) : EReal); norm_num)
theorem q3 : s_v48 x a (ix1 g) = kth (XX x a g) t2 3 := cut x a g t2 3 ((5 / 1536 : ℝ) : EReal) rfl
theorem q4 : s_v51 x a (ix1 g) = kth (XX x a g) t2 4 := cut x a g t2 4 (Ideal.ofBits .f32 0x3B800000#32) w_256th

theorem five {a b c d e : EReal} {f : Fin 5 → EReal} (h0 : a = f 0) (h1 : b = f 1) (h2 : c = f 2) (h3 : d = f 3) (h4 : e = f 4) : ![a, b, c, d, e] = f := by
  subst h0 h1 h2 h3 h4
  funext k; fin_cases k <;> rfl

theorem th_eq : th x a (ix1 g) = kth (XX x a g) t2 := five (q0 x a g) (q1 x a g) (q2 x a g) (q3 x a g) (q4 x a g)

theorem count (v : FVec Ideal S32x128x128 .f32) (t : FVec Ideal S32 .f32) (g : Fin 32) :
    k0_pay16 (F := Ideal) v t (ix1 g) = cnt fun p => t (ix1 g) ≤ lane v g p := by
  unfold cnt lane
  pointwise [k0_pay16]
  rw [Fintype.sum_prod_type]

theorem g1_eq : g1 x a (ix1 g) = fun k => cnt fun p => kth (XX x a g) t1 k ≤ XX x a g p :=
  five ((count (s_v18 x a) (s_v24 x a) g).trans (by rw [p0])) ((count (s_v18 x a) (s_v27 x a) g).trans (by rw [p1]))
    ((count (s_v18 x a) (s_v30 x a) g).trans (by rw [p2])) ((count (s_v18 x a) (s_v33 x a) g).trans (by rw [p3]))
    ((count (s_v18 x a) (s_v36 x a) g).trans (by rw [p4]))

theorem g2_eq : g2 x a (ix1 g) = fun k => cnt fun p => kth (XX x a g) t2 k ≤ XX x a g p :=
  five ((count (s_v18 x a) (s_v39 x a) g).trans (by rw [q0])) ((count (s_v18 x a) (s_v42 x a) g).trans (by rw [q1]))
    ((count (s_v18 x a) (s_v45 x a) g).trans (by rw [q2])) ((count (s_v18 x a) (s_v48 x a) g).trans (by rw [q3]))
    ((count (s_v18 x a) (s_v51 x a) g).trans (by rw [q4]))

theorem tv_eq : tv x a (ix1 g) = ktable NW (s_v468 x a (ix1 g)) (XX x a g) := by
  rw [table, g1_eq, g2_eq, th_eq]; rfl

/-- What the kernel adds at a pixel for a channel. -/
def piece (nbv : EReal) (X : Px → EReal) (p : Px) : EReal := ktable NW nbv X (kbin (kth X t2) (X p))

theorem chain_piece (v : EReal) : chain (s_v39 x a (ix1 g)) (s_v42 x a (ix1 g)) (s_v45 x a (ix1 g)) (s_v48 x a (ix1 g)) (s_v51 x a (ix1 g)) v
    (s_v600 x a (ix1 g)) (s_v616 x a (ix1 g)) (s_v632 x a (ix1 g)) (s_v648 x a (ix1 g)) (s_v664 x a (ix1 g)) (s_v680 x a (ix1 g))
    = ktable NW (s_v468 x a (ix1 g)) (XX x a g) (kbin (kth (XX x a g) t2) v) := by
  rw [chain_eq]
  show tv x a (ix1 g) (kbin (th x a (ix1 g)) v) = _
  rw [tv_eq, th_eq]

theorem looked (v : FVec Ideal S32x128x128 .f32) (t0 t1 t2 t3 t4 f0 f1 f2 f3 f4 f5 : FVec Ideal S32 .f32) (i j : Fin 128) :
    k0_pay123 (F := Ideal) v t3 t4 f4 f5 (k0_pay122 (F := Ideal) v t0 t1 t2 f0 f1 f2 f3) (ix2 i j)
      = ∑ g : Fin 32, chain (t0 (ix1 g)) (t1 (ix1 g)) (t2 (ix1 g)) (t3 (ix1 g)) (t4 (ix1 g)) (v (ix3 g i j))
          (f0 (ix1 g)) (f1 (ix1 g)) (f2 (ix1 g)) (f3 (ix1 g)) (f4 (ix1 g)) (f5 (ix1 g)) := by
  unfold chain
  pointwise [k0_pay123, k0_pay122]

theorem blk_eq (i j : Fin 128) : blk (F := Ideal) x a (ix2 i j) = ∑ g : Fin 32, piece (s_v468 x a (ix1 g)) (bordered (lane x g) 0) (i, j) := by
  refine (looked (s_v18 x a) (s_v39 x a) (s_v42 x a) (s_v45 x a) (s_v48 x a) (s_v51 x a) (s_v600 x a) (s_v616 x a) (s_v632 x a) (s_v648 x a) (s_v664 x a) (s_v680 x a) i j).trans ?_
  refine Finset.sum_congr rfl fun g _ => ?_
  rw [chain_piece, ← kept x g]
  rfl

theorem looked_edge (t0 t1 t2 t3 t4 f0 f1 f2 f3 f4 f5 : FVec Ideal S32 .f32) :
    k0_pay124 (F := Ideal) t0 t1 t2 t3 t4 f0 f1 f2 f3 f4 f5 (ix2 0 0)
      = chain (t0 (ix1 0)) (t1 (ix1 0)) (t2 (ix1 0)) (t3 (ix1 0)) (t4 (ix1 0)) 0
          (f0 (ix1 0)) (f1 (ix1 0)) (f2 (ix1 0)) (f3 (ix1 0)) (f4 (ix1 0)) (f5 (ix1 0)) := by
  unfold chain
  pointwise [k0_pay124]

theorem edge_eq : edge (F := Ideal) x a (ix2 0 0) = piece (s_v468 x a (ix1 0)) (bordered (lane x 0) 0) (0, 0) := by
  refine (looked_edge (s_v39 x a) (s_v42 x a) (s_v45 x a) (s_v48 x a) (s_v51 x a) (s_v600 x a) (s_v616 x a) (s_v632 x a) (s_v648 x a) (s_v664 x a) (s_v680 x a)).trans ?_
  rw [chain_piece, ← kept x 0]
  have h : lane (k0_pay2 (F := Ideal) x) 0 (0, 0) = 0 := (congrFun (kept x 0) (0, 0)).trans (if_pos (Or.inl rfl))
  unfold piece
  rw [h]
  rfl

theorem block_word (k : Fin 32) : IntOp.cmpi .eq (BitVec.ofNat 32 k.val) 0#32 = BitVec.ofBool (decide (k.val = 0)) := by
  revert k; decide

theorem start_word (a : Nat) (ha : a < 2 ^ 31) : Scalar.cmpi .eq (BitVec.ofNat 32 a) 0#32 = BitVec.ofBool (decide (a = 0)) := by
  show BitVec.ofBool (BitVec.ofNat 32 a == 0#32) = _
  congr 1
  rw [Bool.eq_iff_iff, beq_iff_eq, decide_eq_true_iff]
  constructor
  · intro e
    have := congrArg BitVec.toNat e
    rw [BitVec.toNat_ofNat] at this
    simp at this
    omega
  · rintro rfl; rfl

theorem zeroed (a : Nat) (ha : a < 2 ^ 31) : s_v468 x (BitVec.ofNat 32 a) (ix1 g) = if g.val = 0 ∧ a = 0 then 0 else Ideal.ofBits .f32 0x43FE0000#32 := by
  show k0_pay86 (F := Ideal) _ (ix1 g) = _
  pointwise [k0_pay86]
  rw [block_word, start_word a ha]
  by_cases h1 : g.val = 0 <;> by_cases h2 : a = 0 <;> simp [h1, h2, Scalar.select, IntOp.andi]

end Cert.KCIdeal.Lane

end
-- ==== Proof.RefKCIdeal.lean ====
/- The reference's results as sums over channels of `Cert.Rarity.out`, its map for one channel. -/
module

public import proofs.«01_k».proof.Proof.Bins
public import proofs.«01_k».proof.Proof.Maps
public import proofs.«01_k».proof.Proof.Gen.RCIdeal.Run
public import Idealize.ShloMosaic.Lib.Pointwise

@[expose] public section

set_option maxRecDepth 16384

noncomputable section

namespace Cert.RCIdeal.Map

open Idealize.ShloMosaic Idealize.ShloMosaic.TcCoe Idealize.ShloMosaic.StableHlo Idealize.SL.Sem Cert.RCIdeal Cert.RCIdeal.Gen Cert.RCIdeal.Value Cert.Rarity Cert.Stage2

abbrev Px : Type := Fin 128 × Fin 128
abbrev NW : EReal := Ideal.ofBits .f32 0x46800000#32
abbrev Arr : Type := FVec Ideal S192x128x128 .f32
abbrev Col : Type := FVec Ideal S192x1x1 .f32
/-- One channel. -/
abbrev lane (v : Arr) (g : Fin 192) (p : Px) : EReal := v (ix3 g p.1 p.2)

def hlo (v : Arr) : Col := broadcastInDim S192x1x1 ![0] bcast_S192_S192x1x1_0 (Host.reduce FloatOps.minimumf v (constant S_ .f32 0x7F800000#32) reducesTo_S192x128x128_S192_d1_2 h_S_)
def hhi (v : Arr) : Col := broadcastInDim S192x1x1 ![0] bcast_S192_S192x1x1_0 (Host.reduce FloatOps.maximumf v (constant S_ .f32 0xFF800000#32) reducesTo_S192x128x128_S192_d1_2 h_S_)
def hgap (v : Arr) : Col := Host.divf (broadcastInDim S192x1x1 ![0] bcast_S192_S192x1x1_0 (Host.reduceAdd v (constant S_ .f32 0x00000000#32) reducesTo_S192x128x128_S192_d1_2 h_S_)) (broadcastInDim S192x1x1 ![] bcast_S_S192x1x1 (constant S_ .f32 0x46800000#32))

theorem hlo_eq (v : Arr) (g : Fin 192) : hlo v (ix3 g 0 0) = lo (lane v g) := by
  unfold lo lane
  pointwise [hlo]
  simp only [w_top]
theorem hhi_eq (v : Arr) (g : Fin 192) : hhi v (ix3 g 0 0) = hi (lane v g) := by
  unfold hi lane
  pointwise [hhi]
  simp only [w_bot]
theorem hgap_eq (v : Arr) (g : Fin 192) : hgap v (ix3 g 0 0) = Ideal.div (∑ p, lane v g p) NW := by
  rw [Fintype.sum_prod_type]
  unfold lane
  pointwise [hgap]

/-- A channel rescaled by a least value and a range. -/
def hnrm (s : BitVec 32) (v : Arr) (mn rg : Col) : Arr :=
  select (broadcastInDim S192x128x128 ![0, 1, 2] bcast_S192x1x1_S192x128x128_0_1_2 (cmpf .oeq rg (broadcastInDim S192x1x1 ![] bcast_S_S192x1x1 (constant S_ .f32 0x00000000#32)))) (broadcastInDim S192x128x128 ![] bcast_S_S192x128x128 (constant S_ .f32 0x00000000#32)) (addf (mulf (Host.divf (subf v (broadcastInDim S192x128x128 ![0, 1, 2] bcast_S192x1x1_S192x128x128_0_1_2 mn)) (broadcastInDim S192x128x128 ![0, 1, 2] bcast_S192x1x1_S192x128x128_0_1_2 (select (cmpf .oeq rg (broadcastInDim S192x1x1 ![] bcast_S_S192x1x1 (constant S_ .f32 0x00000000#32))) (broadcastInDim S192x1x1 ![] bcast_S_S192x1x1 (constant S_ .f32 0x3F800000#32)) rg))) (broadcastInDim S192x128x128 ![] bcast_S_S192x128x128 (constant S_ .f32 s))) (broadcastInDim S192x128x128 ![] bcast_S_S192x128x128 (constant S_ .f32 0x00000000#32)))

theorem hnrm_at (s : BitVec 32) (v : Arr) (mn rg : Col) (g : Fin 192) (i j : Fin 128) : hnrm s v mn rg (ix3 g i j)
    = Scalar.select (Ideal.cmp .oeq (rg (ix3 g 0 0)) (Ideal.ofBits .f32 0x00000000#32)) (Ideal.ofBits .f32 0x00000000#32)
      (Ideal.div (v (ix3 g i j) - mn (ix3 g 0 0)) (Scalar.select (Ideal.cmp .oeq (rg (ix3 g 0 0)) (Ideal.ofBits .f32 0x00000000#32))
        (Ideal.ofBits .f32 0x3F800000#32) (rg (ix3 g 0 0))) * (Ideal.ofBits .f32 s) + Ideal.ofBits .f32 0x00000000#32) := by
  pointwise [hnrm]

theorem sub_at (a b : Col) (g : Fin 192) : subf a b (ix3 g 0 0) = a (ix3 g 0 0) - b (ix3 g 0 0) := rfl
theorem sq_at (a : Col) (g : Fin 192) : mulf a a (ix3 g 0 0) = a (ix3 g 0 0) * a (ix3 g 0 0) := rfl

theorem hnrm_eq (s : BitVec 32) (v : Arr) (g : Fin 192) (p : Px) : lane (hnrm s v (hlo v) (subf (hhi v) (hlo v))) g p
    = nrm (lane v g p) (lo (lane v g)) (hi (lane v g)) (Ideal.ofBits .f32 s) := by
  have e := hnrm_at s v (hlo v) (subf (hhi v) (hlo v)) g p.1 p.2
  rw [sub_at, hlo_eq, hhi_eq] at e
  exact e.trans (rnrm_eq _ _ _ _)

def hgate (v : Arr) (c : Col) : Arr := mulf v (broadcastInDim S192x128x128 ![0, 1, 2] bcast_S192x1x1_S192x128x128_0_1_2 (mulf c c))
theorem hgate_at (v : Arr) (c : Col) (g : Fin 192) (i j : Fin 128) : hgate v c (ix3 g i j) = v (ix3 g i j) * (c (ix3 g 0 0) * c (ix3 g 0 0)) := by
  pointwise [hgate]

def hpond (v : Arr) : Arr := hgate (hnrm 0x3F800000#32 v (hlo v) (subf (hhi v) (hlo v))) (subf (hhi v) (hgap v))

theorem hpond_eq (v : Arr) (g : Fin 192) : lane (hpond v) g = pond NW (lane v g) := by
  funext p
  have e := hgate_at (hnrm 0x3F800000#32 v (hlo v) (subf (hhi v) (hlo v))) (subf (hhi v) (hgap v)) g p.1 p.2
  rw [sub_at, hhi_eq, hgap_eq] at e
  refine e.trans ?_
  have f := hnrm_eq 0x3F800000#32 v g p
  rw [w_one] at f
  exact congrArg (fun z => z * ((hi (lane v g) - Ideal.div (∑ q, lane v g q) NW) * (hi (lane v g) - Ideal.div (∑ q, lane v g q) NW))) f

/-! ### Bins -/

def hbin (r : Arr) : IVec S192x128x128 32 := minsi (broadcastInDim S192x128x128 ![] bcast_S_S192x128x128 (constantI S_ 32 5#32)) (maxsi (broadcastInDim S192x128x128 ![] bcast_S_S192x128x128 (constantI S_ 32 0#32)) (fptosi 32 r))
theorem hbin_at (r : Arr) (k : S192x128x128.Idx) : hbin r k = IntOp.minsi 5#32 (IntOp.maxsi 0#32 (Ideal.fptosi 32 (r k))) := rfl

def hhot (w : IVec S192x128x128 32) : FVec Ideal S192x128x128x6 .f32 :=
  select (cmpi .eq (broadcastInDim S192x128x128x6 ![0, 1, 2, 3] bcast_S192x128x128x1_S192x128x128x6_0_1_2_3 (broadcastInDim S192x128x128x1 ![0, 1, 2] bcast_S192x128x128_S192x128x128x1_0_1_2 w)) (broadcastInDim S192x128x128x6 ![0, 1, 2, 3] bcast_S1x1x1x6_S192x128x128x6_0_1_2_3 (broadcastInDim S1x1x1x6 ![3] bcast_S6_S1x1x1x6_3 (iotaInDim S6 32 0)))) (broadcastInDim S192x128x128x6 ![] bcast_S_S192x128x128x6 (constant S_ .f32 0x3F800000#32)) (broadcastInDim S192x128x128x6 ![] bcast_S_S192x128x128x6 (constant S_ .f32 0x00000000#32))
theorem hhot_at (w : IVec S192x128x128 32) (g : Fin 192) (i j : Fin 128) (k : Fin 6) : hhot w (ix4 g i j k)
    = Scalar.select (IntOp.cmpi .eq (w (ix3 g i j)) (BitVec.ofNat 32 k.val)) (Ideal.ofBits .f32 0x3F800000#32) (Ideal.ofBits .f32 0x00000000#32) := by
  pointwise [hhot]

/-- Where the words are those of bins `b`, the array is one where the bin is `k`, else zero. -/
theorem hhot_eq (w : IVec S192x128x128 32) (g : Fin 192) (b : Px → Fin 6) (hw : ∀ p, w (ix3 g p.1 p.2) = BitVec.ofNat 32 (b p).val) (i j : Fin 128) (k : Fin 6) :
    hhot w (ix4 g i j k) = if b (i, j) = k then 1 else 0 := by
  rw [hhot_at, hw (i, j), bin_word, w_one, w_zero]
  by_cases h : b (i, j) = k <;> simp [h, Scalar.select]

/-- The indices that drop to `(g, k)` along the two middle axes. -/
theorem drop_mid (h : S192x128x128x6.ReducesTo [1, 2] S192x6) (g : Fin 192) (k : Fin 6) (i : S192x128x128x6.Idx) :
    h.drop i = ix2 g k ↔ ∃ q : Px, ix4 g q.1 q.2 k = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨q, rfl⟩
    funext b
    apply Fin.ext
    match b with
    | ⟨0, _⟩ => rfl
    | ⟨1, _⟩ => rfl

theorem sum_mid (h : S192x128x128x6.ReducesTo [1, 2] S192x6) (g : Fin 192) (k : Fin 6) (v : S192x128x128x6.Idx → EReal) :
    ∑ i ∈ Finset.univ.filter (fun i => h.drop i = ix2 g k), v i = ∑ i : Fin 128, ∑ j : Fin 128, v (ix4 g i j k) := by
  refine (Finset.sum_filter_eq_sum_of_fiber _ (fun q : Px => (ix4 g q.1 q.2 k : S192x128x128x6.Idx))
    (fun _ _ e => Prod.ext (congrFun e 1) (congrFun e 2)) (drop_mid h g k) v).trans ?_
  rw [Fintype.sum_prod_type]

def hcnt (h : FVec Ideal S192x128x128x6 .f32) : FVec Ideal S192x6 .f32 :=
  Host.reduceAdd h (constant S_ .f32 0x00000000#32) reducesTo_S192x128x128x6_S192x6_d1_2 h_S_
theorem hcnt_at (h : FVec Ideal S192x128x128x6 .f32) (g : Fin 192) (k : Fin 6) : hcnt h (ix2 g k) = 0 + ∑ i : Fin 128, ∑ j : Fin 128, h (ix4 g i j k) := by
  show Ideal.ofBits .f32 0x00000000#32 + _ = _
  rw [w_zero]
  exact congrArg (fun z => (0 : EReal) + z) (sum_mid _ g k h)

theorem hcnt_eq (w : IVec S192x128x128 32) (g : Fin 192) (b : Px → Fin 6) (hw : ∀ p, w (ix3 g p.1 p.2) = BitVec.ofNat 32 (b p).val) (k : Fin 6) :
    hcnt (hhot w) (ix2 g k) = cnt fun p => b p = k := by
  rw [hcnt_at, zero_add]
  unfold cnt
  rw [Fintype.sum_prod_type]
  exact Finset.sum_congr rfl fun i _ => Finset.sum_congr rfl fun j _ => hhot_eq w g b hw i j k

def hlog (c : FVec Ideal S192x6 .f32) : FVec Ideal S192x6 .f32 :=
  Host.negf (Host.log (addf (Host.divf c (broadcastInDim S192x6 ![0, 1] bcast_S192x1_S192x6_0_1 (broadcastInDim S192x1 ![0] bcast_S192_S192x1_0 (Host.reduceAdd c (constant S_ .f32 0x00000000#32) reducesTo_S192x6_S192_d1 h_S_)))) (broadcastInDim S192x6 ![] bcast_S_S192x6 (constant S_ .f32 0x38D1B717#32))))
theorem hlog_at (c : FVec Ideal S192x6 .f32) (g : Fin 192) (k : Fin 6) : hlog c (ix2 g k) = - Ideal.log (Ideal.div (c (ix2 g k)) (0 + ∑ l : Fin 6, c (ix2 g l)) + EPS) := by
  unfold EPS
  pointwise [hlog]

theorem all_bins (b : Px → Fin 6) : ∑ l : Fin 6, (cnt fun p => b p = l) = NW := by
  have e : NW = ((Fintype.card Px : ℝ) : EReal) := by
    simp [Ideal.ofBits, Ideal.ieee, -EReal.coe_mul]; norm_num
  rw [e, ← cnt_true]
  unfold cnt
  rw [Finset.sum_comm]
  refine Finset.sum_congr rfl fun p _ => ?_
  rw [Finset.sum_ite_eq]
  simp

def hpick (h : FVec Ideal S192x128x128x6 .f32) (l : FVec Ideal S192x6 .f32) : Arr :=
  Host.reduceAdd (mulf h (broadcastInDim S192x128x128x6 ![0, 1, 2, 3] bcast_S192x1x1x6_S192x128x128x6_0_1_2_3 (broadcastInDim S192x1x1x6 ![0, 3] bcast_S192x6_S192x1x1x6_0_3 l))) (constant S_ .f32 0x00000000#32) reducesTo_S192x128x128x6_S192x128x128_d3 h_S_
theorem hpick_at (h : FVec Ideal S192x128x128x6 .f32) (l : FVec Ideal S192x6 .f32) (g : Fin 192) (i j : Fin 128) :
    hpick h l (ix3 g i j) = 0 + ∑ k : Fin 6, h (ix4 g i j k) * l (ix2 g k) := by
  pointwise [hpick]

theorem hpick_eq (w1 w2 : IVec S192x128x128 32) (g : Fin 192) (b1 b2 : Px → Fin 6) (h1 : ∀ p, w1 (ix3 g p.1 p.2) = BitVec.ofNat 32 (b1 p).val)
    (h2 : ∀ p, w2 (ix3 g p.1 p.2) = BitVec.ofNat 32 (b2 p).val) : lane (hpick (hhot w2) (hlog (hcnt (hhot w1)))) g = picked NW b1 b2 := by
  funext p
  refine (hpick_at _ _ g p.1 p.2).trans ?_
  have e : ∀ k : Fin 6, hhot w2 (ix4 g p.1 p.2 k) * hlog (hcnt (hhot w1)) (ix2 g k) = if b2 p = k then vtab NW (fun j => cnt fun q => b1 q = j) k else 0 := by
    intro k
    rw [hhot_eq w2 g b2 h2, hlog_at, zero_add, hcnt_eq w1 g b1 h1]
    simp only [hcnt_eq w1 g b1 h1]
    rw [all_bins]
    by_cases h : b2 (p.1, p.2) = k
    · rw [if_pos h, if_pos h, one_mul]; rfl
    · rw [if_neg h, if_neg h, zero_mul]
  rw [Finset.sum_congr rfl fun k _ => e k, zero_add, Finset.sum_ite_eq, if_pos (Finset.mem_univ _)]
  rfl

/-! ### Borders -/

def hbord (v : Arr) : Arr :=
  select (ori (ori (ori (cmpi .eq (iotaInDim S192x128x128 32 1) (broadcastInDim S192x128x128 ![] bcast_S_S192x128x128 (constantI S_ 32 0#32))) (cmpi .eq (iotaInDim S192x128x128 32 1) (broadcastInDim S192x128x128 ![] bcast_S_S192x128x128 (constantI S_ 32 127#32)))) (cmpi .eq (iotaInDim S192x128x128 32 2) (broadcastInDim S192x128x128 ![] bcast_S_S192x128x128 (constantI S_ 32 0#32)))) (cmpi .eq (iotaInDim S192x128x128 32 2) (broadcastInDim S192x128x128 ![] bcast_S_S192x128x128 (constantI S_ 32 127#32)))) (broadcastInDim S192x128x128 ![] bcast_S_S192x128x128 (constant S_ .f32 0x00000000#32)) v
theorem hbord_eq (v : Arr) (g : Fin 192) : lane (hbord v) g = bordered (lane v g) 0 := by
  funext ⟨i, j⟩
  refine Eq.trans ?_ (border_word 128 (by norm_num) (by norm_num) i j (v (ix3 g i j)) 0)
  show hbord v (ix3 g i j) = _
  pointwise [hbord]

def hfirst (v : Arr) : Arr := select (cmpi .eq (iotaInDim S192x128x128 32 0) (broadcastInDim S192x128x128 ![] bcast_S_S192x128x128 (constantI S_ 32 0#32))) v (hbord v)
theorem hfirst_at (v : Arr) (g : Fin 192) (i j : Fin 128) : hfirst v (ix3 g i j) = Scalar.select (IntOp.cmpi .eq (BitVec.ofNat 32 g.val) 0#32) (v (ix3 g i j)) (hbord v (ix3 g i j)) := rfl

/-- The pixels that the reference zeroes in a channel's rarity map. -/
def brd (g : Fin 192) (p : Px) : Prop := g.val ≠ 0 ∧ (p.1.val = 0 ∨ p.1.val = 127 ∨ p.2.val = 0 ∨ p.2.val = 127)
instance (g : Fin 192) : DecidablePred (brd g) := fun p => by unfold brd; infer_instance

theorem first_word (g : Fin 192) (x y : EReal) : Scalar.select (IntOp.cmpi .eq (BitVec.ofNat 32 g.val) 0#32) x y = if g.val = 0 then x else y := by
  have h : IntOp.cmpi .eq (BitVec.ofNat 32 g.val) 0#32 = BitVec.ofBool (decide (g.val = 0)) := by
    revert g; decide
  rw [h]
  by_cases h : g.val = 0 <;> simp [h, Scalar.select]

theorem hfirst_eq (v : Arr) (g : Fin 192) (p : Px) : lane (hfirst v) g p = if brd g p then 0 else lane v g p := by
  refine (hfirst_at v g p.1 p.2).trans ?_
  rw [first_word]
  have e : hbord v (ix3 g p.1 p.2) = bordered (lane v g) 0 p := congrFun (hbord_eq v g) p
  rw [e]
  unfold bordered brd
  by_cases h : g.val = 0 <;> simp [h]

/-! ### The reference's own terms -/

def harg (V : Valuation τ sig (Elt Ideal)) : Arr := V (Proc.devRef .tc main_arg0)
/-- The bordered arguments, rescaled to 0 … 256. -/
def hchn (V : Valuation τ sig (Elt Ideal)) : Arr := hnrm 0x43800000#32 (hbord (harg V)) (hlo (hbord (harg V))) (subf (hhi (hbord (harg V))) (hlo (hbord (harg V))))
def hpre1 (v : Arr) : Arr := (Host.floor (Host.divf v (broadcastInDim S192x128x128 ![] bcast_S_S192x128x128 (Host.divf (constant S_ .f32 0x43800000#32) (constant S_ .f32 0x40C00000#32)))))
def hpre2 (v : Arr) : Arr := (subf (mulf v (broadcastInDim S192x128x128 ![] bcast_S_S192x128x128 (constant S_ .f32 0x40C00000#32))) (broadcastInDim S192x128x128 ![] bcast_S_S192x128x128 (constant S_ .f32 0x3F800000#32)))
def hw1 (v : Arr) : IVec S192x128x128 32 := hbin (hpre1 v)
def hw2 (v : Arr) : IVec S192x128x128 32 := hbin (hpre2 v)
theorem hpre1_at (v : Arr) (g : Fin 192) (i j : Fin 128) : hpre1 v (ix3 g i j)
    = Ideal.liftRound Int.floor (Ideal.div (v (ix3 g i j)) (Ideal.div (Ideal.ofBits .f32 0x43800000#32) (Ideal.ofBits .f32 0x40C00000#32))) := by
  pointwise [hpre1]
theorem hpre2_at (v : Arr) (g : Fin 192) (i j : Fin 128) : hpre2 v (ix3 g i j)
    = v (ix3 g i j) * Ideal.ofBits .f32 0x40C00000#32 - Ideal.ofBits .f32 0x3F800000#32 := by
  pointwise [hpre2]
def hdst (v : Arr) : Arr := hnrm 0x3F800000#32 v (hlo v) (subf (hhi v) (hlo v))
def hsum (v : Arr) : FVec Ideal S128x128 .f32 := Host.reduceAdd v (constant S_ .f32 0x00000000#32) reducesTo_S192x128x128_S128x128_d0 h_S_
def hall (v : Arr) : FVec Ideal S128x128 .f32 := hsum (hpond (hfirst (hpond (hdst (hpick (hhot (hw2 v)) (hlog (hcnt (hhot (hw1 v)))))))))

variable (V : Valuation τ sig (Elt Ideal))

theorem v13_eq : res_main_v13 V = hbord (harg V) := rfl
theorem v15_eq : res_main_v15 V = hlo (hbord (harg V)) := by rw [← v13_eq]; rfl
theorem v18_eq : res_main_v18 V = subf (hhi (hbord (harg V))) (hlo (hbord (harg V))) := by rw [← v15_eq, ← v13_eq]; rfl
theorem v33_eq : res_main_v33 V = hchn V := by unfold hchn; rw [← v18_eq, ← v15_eq, ← v13_eq]; rfl
theorem v48_eq : res_main_v48 V = hcnt (hhot (hw1 (hchn V))) := by rw [← v33_eq]; rfl
theorem v73_eq : res_main_v73 V = hpick (hhot (hw2 (hchn V))) (hlog (hcnt (hhot (hw1 (hchn V))))) := by rw [← v48_eq, ← v33_eq]; unfold hpick hhot hlog hw2 hbin hpre2 res_main_v73 res_main_v40; simp only [id_eq]
theorem v75_eq : res_main_v75 V = hlo (res_main_v73 V) := rfl
theorem v78_eq : res_main_v78 V = subf (hhi (res_main_v73 V)) (hlo (res_main_v73 V)) := by rw [← v75_eq]; rfl
theorem v93_eq : res_main_v93 V = hdst (res_main_v73 V) := by unfold hdst; rw [← v78_eq, ← v75_eq]; rfl
theorem v100_eq : res_main_v100 V = subf (hhi (res_main_v93 V)) (hgap (res_main_v93 V)) := rfl
theorem v103_eq : res_main_v103 V = hlo (res_main_v93 V) := rfl
theorem v106_eq : res_main_v106 V = subf (hhi (res_main_v93 V)) (hlo (res_main_v93 V)) := by rw [← v103_eq]; rfl
theorem v123_eq : res_main_v123 V = hpond (res_main_v93 V) := by unfold hpond; rw [← v100_eq, ← v106_eq, ← v103_eq]; rfl
theorem v141_eq : res_main_v141 V = hfirst (res_main_v123 V) := rfl
theorem v148_eq : res_main_v148 V = subf (hhi (res_main_v141 V)) (hgap (res_main_v141 V)) := rfl
theorem v151_eq : res_main_v151 V = hlo (res_main_v141 V) := rfl
theorem v154_eq : res_main_v154 V = subf (hhi (res_main_v141 V)) (hlo (res_main_v141 V)) := by rw [← v151_eq]; rfl
theorem all_eq : hsum (hgate (hnrm 0x3F800000#32 (res_main_v141 V) (res_main_v151 V) (res_main_v154 V)) (res_main_v148 V)) = hall (hchn V) := by
  rw [v154_eq, v151_eq, v148_eq, v141_eq, v123_eq, v93_eq, v73_eq]; rfl

/-- The run, with both results. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v172) = hall (hchn (StableHlo.launchContents m c))
      ∧ r.2.mem ((c.tc : Thread nD τ).loc main_v173) = extractStridedSlice S1x1 ![0, 0] (hall (hchn (StableHlo.launchContents m c))) slices_S128x128_S1x1_0_0
      ∧ r.2.mem ((c.tc : Thread nD τ).loc main_arg0) = m ((c.tc : Thread nD τ).loc main_arg0) :=
  (θ_run defs _ _).mono (fun r h c => by
    obtain ⟨h1, h2, h3⟩ := h c
    rw [← all_eq]
    exact ⟨h1, h2, h3⟩) (Value.run m ρ)

/-! ### One channel -/

section Channel
variable (g : Fin 192)

/-- A channel of the arguments with its border zeroed. -/
abbrev XX : Px → EReal := bordered (lane (harg V) g) 0

theorem hchn_eq (p : Px) : lane (hchn V) g p = chn (XX V g) p := by
  have e := hnrm_eq 0x43800000#32 (hbord (harg V)) g p
  rw [hbord_eq, w_256] at e
  exact e

variable (hX : ∀ p, ∃ r : ℝ, lane (harg V) g p = (r : EReal))
include hX

theorem bordered_real (p : Px) : ∃ r : ℝ, XX V g p = (r : EReal) := by
  unfold XX bordered
  split_ifs
  · exact ⟨0, rfl⟩
  · exact hX p

theorem chn_real (p : Px) : ∃ r : ℝ, chn (XX V g) p = (r : EReal) := by
  obtain ⟨x, hx⟩ := bordered_real V g hX p
  obtain ⟨a, ha⟩ := lo_real (bordered_real V g hX)
  obtain ⟨b, hb⟩ := hi_real (bordered_real V g hX)
  unfold chn
  rw [hx, ha, hb, nrm_coe]
  exact ⟨_, rfl⟩

theorem w1_eq (p : Px) : hw1 (hchn V) (ix3 g p.1 p.2) = BitVec.ofNat 32 (rb1 (XX V g) p).val := by
  obtain ⟨r, hr⟩ := chn_real V g hX p
  have e := hpre1_at (hchn V) g p.1 p.2
  rw [show hchn V (ix3 g p.1 p.2) = chn (XX V g) p from hchn_eq V g p] at e
  unfold hw1
  rw [hbin_at, e, w_256, w_six]
  unfold rb1
  rw [hr, Ideal.div_coe (y := 6) (by norm_num), ← EReal.coe_mul, Ideal.div_coe (by norm_num), ← EReal.coe_mul, Ideal.liftRound_coe]
  exact clip_word _

theorem w2_eq (p : Px) : hw2 (hchn V) (ix3 g p.1 p.2) = BitVec.ofNat 32 (rb2 (XX V g) p).val := by
  obtain ⟨r, hr⟩ := chn_real V g hX p
  have e := hpre2_at (hchn V) g p.1 p.2
  rw [show hchn V (ix3 g p.1 p.2) = chn (XX V g) p from hchn_eq V g p] at e
  unfold hw2
  rw [hbin_at, e, w_one, w_six]
  unfold rb2
  rw [hr, ← EReal.coe_mul, ← EReal.coe_one, ← EReal.coe_sub]
  exact clip_word _

theorem dst_eq : lane (hdst (hpick (hhot (hw2 (hchn V))) (hlog (hcnt (hhot (hw1 (hchn V))))))) g = dst NW (rb1 (XX V g)) (rb2 (XX V g)) := by
  funext p
  have e := hnrm_eq 0x3F800000#32 (hpick (hhot (hw2 (hchn V))) (hlog (hcnt (hhot (hw1 (hchn V)))))) g p
  rw [hpick_eq _ _ g _ _ (w1_eq V g hX) (w2_eq V g hX), w_one] at e
  exact e

theorem out_eq : lane (hpond (hfirst (hpond (hdst (hpick (hhot (hw2 (hchn V))) (hlog (hcnt (hhot (hw1 (hchn V)))))))))) g
    = out NW (brd g) (rb1 (XX V g)) (rb2 (XX V g)) := by
  have e : lane (hfirst (hpond (hdst (hpick (hhot (hw2 (hchn V))) (hlog (hcnt (hhot (hw1 (hchn V))))))))) g = maps NW (brd g) (rb1 (XX V g)) (rb2 (XX V g)) := by
    funext p
    rw [hfirst_eq, hpond_eq, dst_eq V g hX]
    rfl
  rw [hpond_eq, e]
  rfl

end Channel

theorem hsum_at (v : Arr) (i j : Fin 128) : hsum v (ix2 i j) = 0 + ∑ g : Fin 192, v (ix3 g i j) := by
  pointwise [hsum]

/-- The reference's first result at a pixel. -/
theorem hall_eq (hX : ∀ g p, ∃ r : ℝ, lane (harg V) g p = (r : EReal)) (i j : Fin 128) :
    hall (hchn V) (ix2 i j) = ∑ g : Fin 192, out NW (brd g) (rb1 (XX V g)) (rb2 (XX V g)) (i, j) := by
  unfold hall
  rw [hsum_at, zero_add]
  exact Finset.sum_congr rfl fun g _ => congrFun (out_eq V g (hX g)) (i, j)

end Cert.RCIdeal.Map

end
-- ==== Proof.LayerKCIdeal.lean ====
/- The layer kernel and the reference leave the same map at the pixels off the border, and the same corner value. -/
module

public import proofs.«01_k».proof.Proof.SumKCIdeal
public import proofs.«01_k».proof.Proof.RefKCIdeal
public import proofs.«01_k».proof.Defs
public import proofs.«01_k».proof.Proof.Gen.KCIdeal
public import proofs.«01_k».proof.Proof.Gen.RCIdeal
public import proofs.«01_k».proof.Proof.Gen.Pre_finite_mid
public import proofs.«01_k».proof.Proof.Gen.On_interior_and_corner_KCIdeal

@[expose] public section

set_option maxRecDepth 16384

noncomputable section

namespace Cert.KCIdeal.Lane

open Idealize.ShloMosaic Idealize.ShloMosaic.TcCoe Cert.KCIdeal Cert.KCIdeal.Gen Cert.KCIdeal.Step Cert.KCIdeal.Acc Cert.Rarity Cert.Stage2

/-! ### The counts of pixels -/

theorem NW_card : NW = ((Fintype.card Px : ℝ) : EReal) := by
  simp [Ideal.ofBits, Ideal.ieee, -EReal.coe_mul]; norm_num

theorem inner_card : (Finset.univ.filter fun i : Fin 128 => ¬ (i.val = 0 ∨ i.val = 127)).card = 126 := by decide +kernel

theorem border_card : (Finset.univ.filter fun p : Px => p.1.val = 0 ∨ p.1.val = 127 ∨ p.2.val = 0 ∨ p.2.val = 127).card = 508 := by
  have e : (Finset.univ.filter fun p : Px => p.1.val = 0 ∨ p.1.val = 127 ∨ p.2.val = 0 ∨ p.2.val = 127)
      = ((Finset.univ.filter fun i : Fin 128 => ¬ (i.val = 0 ∨ i.val = 127)) ×ˢ (Finset.univ.filter fun i : Fin 128 => ¬ (i.val = 0 ∨ i.val = 127)))ᶜ := by
    ext p
    simp only [Finset.mem_filter, Finset.mem_univ, true_and, Finset.mem_compl, Finset.mem_product]
    tauto
  rw [e, Finset.card_compl, Finset.card_product, inner_card]
  simp

theorem brd_card (g : Fin 192) : cnt (Cert.RCIdeal.Map.brd g) = if g.val = 0 then 0 else Ideal.ofBits .f32 0x43FE0000#32 := by
  split_ifs with h
  · unfold cnt
    exact Finset.sum_eq_zero fun p _ => if_neg fun hb => hb.1 h
  · have e : cnt (Cert.RCIdeal.Map.brd g) = cnt fun p : Px => p.1.val = 0 ∨ p.1.val = 127 ∨ p.2.val = 0 ∨ p.2.val = 127 :=
      cnt_congr fun p => ⟨fun hb => hb.2, fun hb => ⟨h, hb⟩⟩
    rw [e, cnt_card, border_card]
    simp [Ideal.ofBits, Ideal.ieee, -EReal.coe_mul]; norm_num

/-- What the kernel adds for channel `g` of the arguments at a pixel. -/
def part (f : Fin 192 → Px → EReal) (p : Px) (g : Fin 192) : EReal :=
  piece (if g.val = 0 then 0 else Ideal.ofBits .f32 0x43FE0000#32) (bordered (f g) 0) p

/-- It is the reference's map there, off the pixels that the reference zeroes. -/
theorem part_eq (f : Fin 192 → Px → EReal) (hf : ∀ g p, ∃ r : ℝ, f g p = (r : EReal)) (p : Px) (g : Fin 192) (hp : ¬ Cert.RCIdeal.Map.brd g p) :
    part f p g = out NW (Cert.RCIdeal.Map.brd g) (rb1 (bordered (f g) 0)) (rb2 (bordered (f g) 0)) p := by
  have hX : ∀ q, ∃ r : ℝ, bordered (f g) 0 q = (r : EReal) := fun q => by
    unfold bordered
    split_ifs
    · exact ⟨0, rfl⟩
    · exact hf g q
  unfold part piece
  rw [← brd_card, NW_card]
  exact chan_eq hX (Cert.RCIdeal.Map.brd g) (fun q hq => by unfold bordered; rw [if_pos hq.2]) hp

/-! ### The kernel's two results -/

variable (m : (ℓ : Loc nD τ sig) → Buf (Elt Ideal) ℓ) (c : Dev nD)

/-- The arguments' channels. -/
def chans (g : Fin 192) (p : Px) : EReal := (m ((c.tc : Thread nD τ).loc main_arg0) : FVec Ideal S192x128x128 .f32) (ix3 g p.1 p.2)

theorem lt_six (t : Fin cfg0.N) : t.val < 6 := Nat.lt_of_lt_of_eq t.isLt N_0

theorem iblk_at (t : Fin cfg0.N) (g : Fin 32) (p : Px) : lane (iblk m c 0 t : Vec Ideal S32x128x128 .f32) g p = chans m c ⟨32 * t.val + g.val, by have := lt_six t; omega⟩ p := by
  have hi : win0_0.index t 0 = t.val ∧ win0_0.index t 1 = 0 ∧ win0_0.index t 2 = 0 := by
    rcases fin_N0 t with rfl | rfl | rfl | rfl | rfl | rfl <;> decide
  unfold lane chans iblk
  rw [View.read_apply]
  show V m c main_arg0 _ = m (c.tc.loc main_arg0) _
  unfold V
  congr 1
  funext a
  apply Fin.ext
  match a with
  | ⟨0, _⟩ => show win0_0.index t 0 * 32 + 1 * g.val = 32 * t.val + g.val; rw [hi.1]; omega
  | ⟨1, _⟩ => show win0_0.index t 1 * 128 + 1 * p.1.val = p.1.val; rw [hi.2.1]; omega
  | ⟨2, _⟩ => show win0_0.index t 2 * 128 + 1 * p.2.val = p.2.val; rw [hi.2.2]; omega

theorem blkAt_eq (t : Fin cfg0.N) (i j : Fin 128) : blkAt m c t (ix2 i j)
    = ∑ g : Fin 32, part (chans m c) (i, j) ⟨32 * t.val + g.val, by have := lt_six t; omega⟩ := by
  unfold blkAt
  rw [coord_val, blk_eq]
  refine Finset.sum_congr rfl fun g _ => ?_
  have ht := lt_six t
  rw [zeroed _ g t.val (by omega)]
  unfold part
  rw [show lane (iblk m c 0 t : Vec Ideal S32x128x128 .f32) g = chans m c ⟨32 * t.val + g.val, by omega⟩ from funext fun p => iblk_at m c t g p]
  congr 1
  have hc : (g.val = 0 ∧ t.val = 0) ↔ 32 * t.val + g.val = 0 := by omega
  exact if_congr hc rfl rfl

theorem add_at (y z : FVec Ideal S128x128 .f32) (i j : Fin 128) : k0_pay1 (F := Ideal) y z (ix2 i j) = z (ix2 i j) + y (ix2 i j) := by
  pointwise [k0_pay1]

theorem acc_eq (i j : Fin 128) : ∀ (n : ℕ) (h : n < cfg0.N), acc m c n h (ix2 i j)
    = ∑ t : Fin (n + 1), blkAt m c ⟨t.val, Nat.lt_of_le_of_lt (Nat.le_of_lt_succ t.isLt) h⟩ (ix2 i j)
  | 0, h => by simp [acc]
  | n + 1, h => by
    rw [Fin.sum_univ_castSucc, acc, add_at, acc_eq i j n]
    rfl

/-- The first result is the sum of the channels' maps. -/
theorem sums_eq (i j : Fin 128) : sums m c (ix2 i j) = ∑ g : Fin 192, part (chans m c) (i, j) g := by
  refine (acc_eq m c i j 5 (Nat.lt_of_lt_of_eq (by omega : 5 < 6) N_0.symm)).trans ?_
  rw [← Fintype.sum_equiv (finProdFinEquiv : Fin 6 × Fin 32 ≃ Fin 192) (fun q => part (chans m c) (i, j) ⟨32 * q.1.val + q.2.val, by omega⟩) _
    (fun q => congrArg _ (Fin.ext (by show 32 * q.1.val + q.2.val = q.2.val + 32 * q.1.val; omega))), Fintype.sum_prod_type]
  exact Finset.sum_congr rfl fun t _ => blkAt_eq m c _ i j

/-- The second result is the first channel's map at the corner. -/
theorem corner_eq : corner m c (ix2 0 0) = part (chans m c) (0, 0) 0 := by
  unfold corner
  rw [coord_val]
  refine (edge_eq (iblk m c 0 t0_0) _).trans ?_
  rw [show (0 : Fin 32) = ⟨0, by omega⟩ from rfl]
  rw [zeroed _ _ t0_0.val (by decide)]
  unfold part
  rw [show lane (iblk m c 0 t0_0 : Vec Ideal S32x128x128 .f32) ⟨0, by omega⟩ = chans m c 0 from funext fun p => iblk_at m c t0_0 ⟨0, by omega⟩ p]
  rfl

end Cert.KCIdeal.Lane

namespace Cert.Proof

open Idealize.ShloMosaic Idealize.ShloMosaic.TcCoe Idealize.ShloMosaic.StableHlo Idealize.SL.Sem Cert Cert.Rarity Cert.Stage2
open Cert.KCIdeal.Lane (Px NW chans part)

/-- A finite input is a real number. -/
theorem real_KC (v : FVec Ideal Cert.Pre_finite_mid.S192x128x128 .f32) (hv : (Cert.Pre_finite_mid.fn (F := Ideal) v) = fun _ => 1#1) (k : Cert.Pre_finite_mid.S192x128x128.Idx) :
    ∃ r : ℝ, v k = (r : EReal) := by
  have h : Ideal.cmp .olt (max (v k) (-(v k))) (Ideal.ofBits .f32 0x7F800000#32) = 1#1 := congrFun hv k
  rw [w_top] at h
  have h' : max (v k) (-(v k)) < ⊤ := by
    by_contra hn
    simp [Ideal.cmp, hn] at h
  refine real_of (fun hb => ?_) fun ht => ?_
  · rw [hb] at h'; simp at h'
  · rw [ht] at h'; simp at h'

/-- The claim's mask selects the pixels off the border. -/
theorem mask_KC (v : FVec Ideal Cert.On_interior_and_corner_KCIdeal.S192x128x128 .f32) (i j : Fin 128)
    (h : (Cert.On_interior_and_corner_KCIdeal.fn (F := Ideal) v).1 (ix2 i j) = 1#1) : ¬ (i.val = 0 ∨ i.val = 127 ∨ j.val = 0 ∨ j.val = 127) := by
  have h' : IntOp.andi (IntOp.andi (IntOp.andi (IntOp.cmpi .sgt (BitVec.ofNat 32 i.val) 0#32) (IntOp.cmpi .slt (BitVec.ofNat 32 i.val) 127#32))
    (IntOp.cmpi .sgt (BitVec.ofNat 32 j.val) 0#32)) (IntOp.cmpi .slt (BitVec.ofNat 32 j.val) 127#32) = 1#1 := h
  have e := interior_word 128 (by norm_num) (by norm_num) i j 1 0
  intro hb
  rw [if_pos hb] at e
  have e' : Scalar.select (1#1) (1 : EReal) 0 = 0 := by rw [← h']; exact e
  simp [Scalar.select] at e'

theorem algebraic_KC : algebraic_KCIdeal_RCIdeal_on_interior_and_corner_KCIdeal_pre_finite_mid (hKCIdeal := Cert.KCIdeal.Gen.facts) (hRCIdeal := Cert.RCIdeal.Gen.facts)
    (hPre_finite_mid := Cert.Pre_finite_mid.Gen.facts) (hOn_interior_and_corner_KCIdeal := Cert.On_interior_and_corner_KCIdeal.Gen.facts) := by
  intro m g m' g' hp hm
  refine ⟨fun c => Cert.KCIdeal.Acc.sums m c, fun c => Cert.KCIdeal.Acc.corner m c,
    (θ_run Cert.KCIdeal.defs _ _).mono (fun r h c => ⟨fun i _ => congrFun (h c).1 i, fun i _ => congrFun (h c).2.1 i, (h c).2.2⟩) (Cert.KCIdeal.Acc.run m g), ?_⟩
  refine (θ_run Cert.RCIdeal.defs _ _).mono (fun r h c => ?_) (Cert.RCIdeal.Map.run' m' g')
  obtain ⟨h0, h1, hr⟩ := h c
  have hf : ∀ k p, ∃ r : ℝ, chans m c k p = (r : EReal) := fun k p => real_KC _ (hp c) _
  have e : ∀ k, Cert.RCIdeal.Map.lane (Cert.RCIdeal.Map.harg (launchContents m' c)) k = chans m c k := fun k => funext fun p => congrFun (hm c) (ix3 k p.1 p.2)
  have hall : ∀ i j, Cert.RCIdeal.Map.hall (Cert.RCIdeal.Map.hchn (launchContents m' c)) (ix2 i j)
      = ∑ k : Fin 192, out NW (Cert.RCIdeal.Map.brd k) (rb1 (bordered (chans m c k) 0)) (rb2 (bordered (chans m c k) 0)) (i, j) := fun i j => by
    rw [Cert.RCIdeal.Map.hall_eq _ (fun k p => by rw [e k]; exact hf k p)]
    exact Finset.sum_congr rfl fun k _ => by unfold Cert.RCIdeal.Map.XX; rw [e k]
  refine ⟨fun y hy => ?_, fun y _ => ?_, hr⟩
  · obtain ⟨i, j, rfl⟩ : ∃ i j, y = ix2 i j := ⟨y 0, y 1, by funext a; fin_cases a <;> rfl⟩
    have hb := mask_KC _ i j hy
    rw [h0]
    refine (hall i j).trans (Eq.trans ?_ (Cert.KCIdeal.Lane.sums_eq m c i j).symm)
    exact Finset.sum_congr rfl fun k _ => (Cert.KCIdeal.Lane.part_eq _ hf (i, j) k fun hk => hb hk.2).symm
  · have hy : y = ix2 0 0 := by
      funext a; fin_cases a
      · exact Subsingleton.elim (α := Fin 1) _ _
      · exact Subsingleton.elim (α := Fin 1) _ _
    rw [hy, h1]
    refine Eq.trans (?_ : _ = Cert.RCIdeal.Map.hall (Cert.RCIdeal.Map.hchn (launchContents m' c)) (ix2 0 0)) ?_
    · unfold extractStridedSlice; congr 1; funext a; fin_cases a <;> rfl
    refine (hall 0 0).trans (Eq.trans ?_ (Cert.KCIdeal.Lane.corner_eq m c).symm)
    rw [Finset.sum_eq_single (0 : Fin 192)]
    · exact (Cert.KCIdeal.Lane.part_eq _ hf (0, 0) 0 fun hk => hk.1 rfl).symm
    · intro k _ hk
      exact out_border (B := Cert.RCIdeal.Map.brd k) _ _ Cert.KCIdeal.Lane.NW_card ⟨fun h => hk (Fin.ext h), Or.inl rfl⟩
    · intro h; exact absurd (Finset.mem_univ _) h

end Cert.Proof

end
-- ==== Proof.LaneKDIdeal.lean ====
/- One lane of a block, number by number: the table that the layer kernel builds for a channel is `Cert.Rarity.ktab` of that
   channel's counts. -/
module

public import proofs.«01_k».proof.Proof.Lanes
public import proofs.«01_k».proof.Proof.StepKDIdeal
public import Idealize.ShloMosaic.Lib.Pointwise

@[expose] public section

set_option maxRecDepth 16384

noncomputable section

namespace Cert.KDIdeal.Lane

open Idealize.ShloMosaic Cert.KDIdeal Cert.KDIdeal.Gen Cert.KDIdeal.Step Cert.Rarity

abbrev Ln : Type := FVec Ideal S128 .f32

variable (x : Vec Ideal S128x64x64 .f32) (a : BitVec 32) (i : S128.Idx)

theorem r124_ (v58 v65 : Ln) : (k0_pay30 (F := Ideal) v58 v65) i = (v58 i) - (v65 i) := rfl
theorem r124 : s_v124 x a i = (s_v58 x a i) - (s_v65 x a i) := r124_ i (s_v58 x a) (s_v65 x a)
theorem r125_ (v65 v72 : Ln) : (k0_pay31 (F := Ideal) v65 v72) i = (v65 i) - (v72 i) := rfl
theorem r125 : s_v125 x a i = (s_v65 x a i) - (s_v72 x a i) := r125_ i (s_v65 x a) (s_v72 x a)
theorem r126_ (v72 v79 : Ln) : (k0_pay32 (F := Ideal) v72 v79) i = (v72 i) - (v79 i) := rfl
theorem r126 : s_v126 x a i = (s_v72 x a i) - (s_v79 x a i) := r126_ i (s_v72 x a) (s_v79 x a)
theorem r127_ (v79 : Ln) (v18 : Vec Ideal S128x64x64 .f32) (v36 : Ln) : (k0_pay33 (F := Ideal) v79 (k0_pay20 (F := Ideal) v18 v36) (k0_pay21 (F := Ideal)) (k0_pay22 (F := Ideal))) i = (v79 i) - ((k0_pay23 (F := Ideal) (k0_pay20 (F := Ideal) v18 v36) (k0_pay21 (F := Ideal)) (k0_pay22 (F := Ideal))) i) := rfl
theorem r127 : s_v127 x a i = (s_v79 x a i) - (s_v86 x a i) := r127_ i (s_v79 x a) (s_v18 x a) (s_v36 x a)
theorem r130_ (v93 v100 : Ln) : (k0_pay35 (F := Ideal) v93 v100) i = (v93 i) - (v100 i) := rfl
theorem r130 : s_v130 x a i = (s_v93 x a i) - (s_v100 x a i) := r130_ i (s_v93 x a) (s_v100 x a)
theorem r131_ (v100 v107 : Ln) : (k0_pay36 (F := Ideal) v100 v107) i = (v100 i) - (v107 i) := rfl
theorem r131 : s_v131 x a i = (s_v100 x a i) - (s_v107 x a i) := r131_ i (s_v100 x a) (s_v107 x a)
theorem r132_ (v107 v114 : Ln) : (k0_pay37 (F := Ideal) v107 v114) i = (v107 i) - (v114 i) := rfl
theorem r132 : s_v132 x a i = (s_v107 x a i) - (s_v114 x a i) := r132_ i (s_v107 x a) (s_v114 x a)
theorem r133_ (v114 v121 : Ln) : (k0_pay38 (F := Ideal) v114 v121) i = (v114 i) - (v121 i) := rfl
theorem r133 : s_v133 x a i = (s_v114 x a i) - (s_v121 x a i) := r133_ i (s_v114 x a) (s_v121 x a)
theorem r123_ (v58 : Ln) : (k0_pay29 (F := Ideal) v58) i = (Ideal.ofBits .f32 0x45800000#32) - (v58 i) := rfl
theorem r123 : s_v123 x a i = (Ideal.ofBits .f32 0x45800000#32) - (s_v58 x a i) := r123_ i (s_v58 x a)
theorem r129_ (v93 : Ln) : (k0_pay34 (F := Ideal) v93) i = (Ideal.ofBits .f32 0x45800000#32) - (v93 i) := rfl
theorem r129 : s_v129 x a i = (Ideal.ofBits .f32 0x45800000#32) - (s_v93 x a i) := r129_ i (s_v93 x a)
theorem r140_ (v123 : Ln) : (k0_pay39 (F := Ideal) v123) i = lg (Ideal.ofBits .f32 0x45800000#32) (v123 i) := rfl
theorem r140 : s_v140 x a i = lg (Ideal.ofBits .f32 0x45800000#32) (s_v123 x a i) := r140_ i (s_v123 x a)
theorem r147_ (v124 : Ln) : (k0_pay40 (F := Ideal) v124) i = lg (Ideal.ofBits .f32 0x45800000#32) (v124 i) := rfl
theorem r147 : s_v147 x a i = lg (Ideal.ofBits .f32 0x45800000#32) (s_v124 x a i) := r147_ i (s_v124 x a)
theorem r154_ (v125 : Ln) : (k0_pay41 (F := Ideal) v125) i = lg (Ideal.ofBits .f32 0x45800000#32) (v125 i) := rfl
theorem r154 : s_v154 x a i = lg (Ideal.ofBits .f32 0x45800000#32) (s_v125 x a i) := r154_ i (s_v125 x a)
theorem r161_ (v126 : Ln) : (k0_pay42 (F := Ideal) v126) i = lg (Ideal.ofBits .f32 0x45800000#32) (v126 i) := rfl
theorem r161 : s_v161 x a i = lg (Ideal.ofBits .f32 0x45800000#32) (s_v126 x a i) := r161_ i (s_v126 x a)
theorem r168_ (v127 : Ln) : (k0_pay43 (F := Ideal) v127) i = lg (Ideal.ofBits .f32 0x45800000#32) (v127 i) := rfl
theorem r168 : s_v168 x a i = lg (Ideal.ofBits .f32 0x45800000#32) (s_v127 x a i) := r168_ i (s_v127 x a)
theorem r170_ (v86 : Ln) : (k0_pay44 (F := Ideal) v86) i = Ideal.div (v86 i) (Ideal.ofBits .f32 0x45800000#32) := rfl
theorem r170 : s_v170 x a i = Ideal.div (s_v86 x a i) (Ideal.ofBits .f32 0x45800000#32) := r170_ i (s_v86 x a)
theorem r175_ (v170 : Ln) : (k0_pay45 (F := Ideal) v170) i = zw - Ideal.log ((v170 i) + epw) := rfl
theorem r175 : s_v175 x a i = zw - Ideal.log ((s_v170 x a i) + epw) := r175_ i (s_v170 x a)
theorem r177_ (v129 : Ln) : (k0_pay46 (F := Ideal) v129) i = gt (v129 i) := rfl
theorem r177 : s_v177 x a i = gt (s_v129 x a i) := r177_ i (s_v129 x a)
theorem r179_ (v130 : Ln) : (k0_pay47 (F := Ideal) v130) i = gt (v130 i) := rfl
theorem r179 : s_v179 x a i = gt (s_v130 x a i) := r179_ i (s_v130 x a)
theorem r181_ (v131 : Ln) : (k0_pay48 (F := Ideal) v131) i = gt (v131 i) := rfl
theorem r181 : s_v181 x a i = gt (s_v131 x a i) := r181_ i (s_v131 x a)
theorem r183_ (v132 : Ln) : (k0_pay49 (F := Ideal) v132) i = gt (v132 i) := rfl
theorem r183 : s_v183 x a i = gt (s_v132 x a i) := r183_ i (s_v132 x a)
theorem r185_ (v133 : Ln) : (k0_pay50 (F := Ideal) v133) i = gt (v133 i) := rfl
theorem r185 : s_v185 x a i = gt (s_v133 x a i) := r185_ i (s_v133 x a)
theorem r187_ (v121 : Ln) : (k0_pay51 (F := Ideal) v121) i = gt (v121 i) := rfl
theorem r187 : s_v187 x a i = gt (s_v121 x a i) := r187_ i (s_v121 x a)
theorem r204_ (v121 v129 v130 v131 v132 v133 v140 v147 v154 v161 v168 v170 : Ln) : (k0_pay52 (F := Ideal) v121 v129 v130 v131 v132 v133 v140 v147 v154 v161 v168 v170) i = mn6 ((k0_pay46 (F := Ideal) v129) i) (v140 i) ((k0_pay47 (F := Ideal) v130) i) (v147 i) ((k0_pay48 (F := Ideal) v131) i) (v154 i) ((k0_pay49 (F := Ideal) v132) i) (v161 i) ((k0_pay50 (F := Ideal) v133) i) (v168 i) ((k0_pay51 (F := Ideal) v121) i) ((k0_pay45 (F := Ideal) v170) i) := rfl
theorem r204 : s_v204 x a i = mn6 (s_v177 x a i) (s_v140 x a i) (s_v179 x a i) (s_v147 x a i) (s_v181 x a i) (s_v154 x a i) (s_v183 x a i) (s_v161 x a i) (s_v185 x a i) (s_v168 x a i) (s_v187 x a i) (s_v175 x a i) := r204_ i (s_v121 x a) (s_v129 x a) (s_v130 x a) (s_v131 x a) (s_v132 x a) (s_v133 x a) (s_v140 x a) (s_v147 x a) (s_v154 x a) (s_v161 x a) (s_v168 x a) (s_v170 x a)
theorem r221_ (v168 v175 : Ln) (v185 v187 : IVec S128 1) (v129 v140 v130 v147 v131 v154 v132 v161 : Ln) : (k0_pay57 (F := Ideal) v168 v175 v185 v187 (k0_pay53 (F := Ideal) v129 v140) (k0_pay54 (F := Ideal) v130 v147) (k0_pay55 (F := Ideal) v131 v154) (k0_pay56 (F := Ideal) v132 v161)) i = mx6 ((k0_pay46 (F := Ideal) v129) i) (v140 i) ((k0_pay47 (F := Ideal) v130) i) (v147 i) ((k0_pay48 (F := Ideal) v131) i) (v154 i) ((k0_pay49 (F := Ideal) v132) i) (v161 i) (v185 i) (v168 i) (v187 i) (v175 i) := rfl
theorem r221 : s_v221 x a i = mx6 (s_v177 x a i) (s_v140 x a i) (s_v179 x a i) (s_v147 x a i) (s_v181 x a i) (s_v154 x a i) (s_v183 x a i) (s_v161 x a i) (s_v185 x a i) (s_v168 x a i) (s_v187 x a i) (s_v175 x a i) := r221_ i (s_v168 x a) (s_v175 x a) (s_v185 x a) (s_v187 x a) (s_v129 x a) (s_v140 x a) (s_v130 x a) (s_v147 x a) (s_v131 x a) (s_v154 x a) (s_v132 x a) (s_v161 x a)
theorem r236_ (v140 v168 v175 : Ln) (v185 v187 : IVec S128 1) (v204 v129 v130 v147 v131 v154 v132 v161 : Ln) : (k0_pay58 (F := Ideal) v140 v168 v175 v185 v187 v204 (k0_pay53 (F := Ideal) v129 v140) (k0_pay54 (F := Ideal) v130 v147) (k0_pay55 (F := Ideal) v131 v154) (k0_pay56 (F := Ideal) v132 v161)) i = rn (v140 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r236 : s_v236 x a i = rn (s_v140 x a i) (s_v204 x a i) (s_v221 x a i) := r236_ i (s_v140 x a) (s_v168 x a) (s_v175 x a) (s_v185 x a) (s_v187 x a) (s_v204 x a) (s_v129 x a) (s_v130 x a) (s_v147 x a) (s_v131 x a) (s_v154 x a) (s_v132 x a) (s_v161 x a)
theorem r251_ (v147 v168 v175 : Ln) (v185 v187 : IVec S128 1) (v204 v129 v140 v130 v131 v154 v132 v161 : Ln) : (k0_pay59 (F := Ideal) v147 v168 v175 v185 v187 v204 (k0_pay53 (F := Ideal) v129 v140) (k0_pay54 (F := Ideal) v130 v147) (k0_pay55 (F := Ideal) v131 v154) (k0_pay56 (F := Ideal) v132 v161)) i = rn (v147 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r251 : s_v251 x a i = rn (s_v147 x a i) (s_v204 x a i) (s_v221 x a i) := r251_ i (s_v147 x a) (s_v168 x a) (s_v175 x a) (s_v185 x a) (s_v187 x a) (s_v204 x a) (s_v129 x a) (s_v140 x a) (s_v130 x a) (s_v131 x a) (s_v154 x a) (s_v132 x a) (s_v161 x a)
theorem r266_ (v168 v175 : Ln) (v185 v187 : IVec S128 1) (v204 v129 v140 v130 v147 v131 v154 v132 v161 : Ln) : (k0_pay64 (F := Ideal) (k0_pay60 (F := Ideal) v168 v175 v185 v187 v204 (k0_pay53 (F := Ideal) v129 v140) (k0_pay54 (F := Ideal) v130 v147) (k0_pay55 (F := Ideal) v131 v154) (k0_pay56 (F := Ideal) v132 v161)) (k0_pay61 (F := Ideal) v154 v204) (k0_pay62 (F := Ideal) v168 v175 v185 v187 v204 (k0_pay53 (F := Ideal) v129 v140) (k0_pay54 (F := Ideal) v130 v147) (k0_pay55 (F := Ideal) v131 v154) (k0_pay56 (F := Ideal) v132 v161)) (k0_pay63 (F := Ideal))) i = rn (v154 i) (v204 i) ((k0_pay57 (F := Ideal) v168 v175 v185 v187 (k0_pay53 (F := Ideal) v129 v140) (k0_pay54 (F := Ideal) v130 v147) (k0_pay55 (F := Ideal) v131 v154) (k0_pay56 (F := Ideal) v132 v161)) i) := rfl
theorem r266 : s_v266 x a i = rn (s_v154 x a i) (s_v204 x a i) (s_v221 x a i) := r266_ i (s_v168 x a) (s_v175 x a) (s_v185 x a) (s_v187 x a) (s_v204 x a) (s_v129 x a) (s_v140 x a) (s_v130 x a) (s_v147 x a) (s_v131 x a) (s_v154 x a) (s_v132 x a) (s_v161 x a)
theorem r281_ (v161 v204 v221 : Ln) : (k0_pay65 (F := Ideal) v161 v204 v221) i = rn (v161 i) (v204 i) (v221 i) := rfl
theorem r281 : s_v281 x a i = rn (s_v161 x a i) (s_v204 x a i) (s_v221 x a i) := r281_ i (s_v161 x a) (s_v204 x a) (s_v221 x a)
theorem r296_ (v168 v204 v221 : Ln) : (k0_pay66 (F := Ideal) v168 v204 v221) i = rn (v168 i) (v204 i) (v221 i) := rfl
theorem r296 : s_v296 x a i = rn (s_v168 x a i) (s_v204 x a i) (s_v221 x a i) := r296_ i (s_v168 x a) (s_v204 x a) (s_v221 x a)
theorem r311_ (v204 v221 v175 : Ln) : (k0_pay70 (F := Ideal) (k0_pay67 (F := Ideal) v204 v221) (k0_pay68 (F := Ideal) v175 v204) (k0_pay69 (F := Ideal))) i = rn (v175 i) (v204 i) (v221 i) := rfl
theorem r311 : s_v311 x a i = rn (s_v175 x a i) (s_v204 x a i) (s_v221 x a i) := r311_ i (s_v204 x a) (s_v221 x a) (s_v175 x a)
theorem r326_ (v121 v129 v130 v131 v132 v133 v236 v251 v266 v281 v296 v204 v221 v175 : Ln) : (k0_pay71 (F := Ideal) v121 v129 v130 v131 v132 v133 v236 v251 v266 v281 v296 (k0_pay67 (F := Ideal) v204 v221) (k0_pay68 (F := Ideal) v175 v204) (k0_pay69 (F := Ideal))) i = Ideal.div (zw + (v129 i) * (v236 i) + (v130 i) * (v251 i) + (v131 i) * (v266 i) + (v132 i) * (v281 i) + (v133 i) * (v296 i) + (v121 i) * ((k0_pay70 (F := Ideal) (k0_pay67 (F := Ideal) v204 v221) (k0_pay68 (F := Ideal) v175 v204) (k0_pay69 (F := Ideal))) i)) (Ideal.ofBits .f32 0x45800000#32) := rfl
theorem r326 : s_v326 x a i = Ideal.div (zw + (s_v129 x a i) * (s_v236 x a i) + (s_v130 x a i) * (s_v251 x a i) + (s_v131 x a i) * (s_v266 x a i) + (s_v132 x a i) * (s_v281 x a i) + (s_v133 x a i) * (s_v296 x a i) + (s_v121 x a i) * (s_v311 x a i)) (Ideal.ofBits .f32 0x45800000#32) := r326_ i (s_v121 x a) (s_v129 x a) (s_v130 x a) (s_v131 x a) (s_v132 x a) (s_v133 x a) (s_v236 x a) (s_v251 x a) (s_v266 x a) (s_v281 x a) (s_v296 x a) (s_v204 x a) (s_v221 x a) (s_v175 x a)
theorem r343_ (v177 v179 v181 v183 v185 v187 : IVec S128 1) (v236 v251 v266 v281 v296 v204 v221 v175 : Ln) : (k0_pay72 (F := Ideal) v177 v179 v181 v183 v185 v187 v236 v251 v266 v281 v296 (k0_pay67 (F := Ideal) v204 v221) (k0_pay68 (F := Ideal) v175 v204) (k0_pay69 (F := Ideal))) i = mn6 (v177 i) (v236 i) (v179 i) (v251 i) (v181 i) (v266 i) (v183 i) (v281 i) (v185 i) (v296 i) (v187 i) ((k0_pay70 (F := Ideal) (k0_pay67 (F := Ideal) v204 v221) (k0_pay68 (F := Ideal) v175 v204) (k0_pay69 (F := Ideal))) i) := rfl
theorem r343 : s_v343 x a i = mn6 (s_v177 x a i) (s_v236 x a i) (s_v179 x a i) (s_v251 x a i) (s_v181 x a i) (s_v266 x a i) (s_v183 x a i) (s_v281 x a i) (s_v185 x a i) (s_v296 x a i) (s_v187 x a i) (s_v311 x a i) := r343_ i (s_v177 x a) (s_v179 x a) (s_v181 x a) (s_v183 x a) (s_v185 x a) (s_v187 x a) (s_v236 x a) (s_v251 x a) (s_v266 x a) (s_v281 x a) (s_v296 x a) (s_v204 x a) (s_v221 x a) (s_v175 x a)
theorem r360_ (v179 v181 v183 v185 v187 : IVec S128 1) (v251 v266 v281 v296 v311 : Ln) (v177 : IVec S128 1) (v236 : Ln) : (k0_pay74 (F := Ideal) v179 v181 v183 v185 v187 v251 v266 v281 v296 v311 (k0_pay73 (F := Ideal) v177 v236)) i = mx6 (v177 i) (v236 i) (v179 i) (v251 i) (v181 i) (v266 i) (v183 i) (v281 i) (v185 i) (v296 i) (v187 i) (v311 i) := rfl
theorem r360 : s_v360 x a i = mx6 (s_v177 x a i) (s_v236 x a i) (s_v179 x a i) (s_v251 x a i) (s_v181 x a i) (s_v266 x a i) (s_v183 x a i) (s_v281 x a i) (s_v185 x a i) (s_v296 x a i) (s_v187 x a i) (s_v311 x a i) := r360_ i (s_v179 x a) (s_v181 x a) (s_v183 x a) (s_v185 x a) (s_v187 x a) (s_v251 x a) (s_v266 x a) (s_v281 x a) (s_v296 x a) (s_v311 x a) (s_v177 x a) (s_v236 x a)
theorem r362_ (v179 v181 v183 v185 v187 : IVec S128 1) (v251 v266 v281 v296 v311 v326 : Ln) (v177 : IVec S128 1) (v236 : Ln) : (k0_pay75 (F := Ideal) v179 v181 v183 v185 v187 v251 v266 v281 v296 v311 v326 (k0_pay73 (F := Ideal) v177 v236)) i = (((k0_pay74 (F := Ideal) v179 v181 v183 v185 v187 v251 v266 v281 v296 v311 (k0_pay73 (F := Ideal) v177 v236)) i) - (v326 i)) * (((k0_pay74 (F := Ideal) v179 v181 v183 v185 v187 v251 v266 v281 v296 v311 (k0_pay73 (F := Ideal) v177 v236)) i) - (v326 i)) := rfl
theorem r362 : s_v362 x a i = ((s_v360 x a i) - (s_v326 x a i)) * ((s_v360 x a i) - (s_v326 x a i)) := r362_ i (s_v179 x a) (s_v181 x a) (s_v183 x a) (s_v185 x a) (s_v187 x a) (s_v251 x a) (s_v266 x a) (s_v281 x a) (s_v296 x a) (s_v311 x a) (s_v326 x a) (s_v177 x a) (s_v236 x a)
theorem r378_ (v179 v181 v183 v185 v187 : IVec S128 1) (v236 v251 v266 v281 v296 v311 v326 v343 : Ln) (v177 : IVec S128 1) : (k0_pay76 (F := Ideal) v179 v181 v183 v185 v187 v236 v251 v266 v281 v296 v311 v326 v343 (k0_pay73 (F := Ideal) v177 v236)) i = rn (v236 i) (v343 i) ((k0_pay74 (F := Ideal) v179 v181 v183 v185 v187 v251 v266 v281 v296 v311 (k0_pay73 (F := Ideal) v177 v236)) i) * ((k0_pay75 (F := Ideal) v179 v181 v183 v185 v187 v251 v266 v281 v296 v311 v326 (k0_pay73 (F := Ideal) v177 v236)) i) := rfl
theorem r378 : s_v378 x a i = rn (s_v236 x a i) (s_v343 x a i) (s_v360 x a i) * (s_v362 x a i) := r378_ i (s_v179 x a) (s_v181 x a) (s_v183 x a) (s_v185 x a) (s_v187 x a) (s_v236 x a) (s_v251 x a) (s_v266 x a) (s_v281 x a) (s_v296 x a) (s_v311 x a) (s_v326 x a) (s_v343 x a) (s_v177 x a)
theorem r394_ (v362 : Ln) (v179 v181 v183 v185 v187 : IVec S128 1) (v251 v266 v281 v296 v311 v343 : Ln) (v177 : IVec S128 1) (v236 : Ln) : (k0_pay79 (F := Ideal) v362 (k0_pay77 (F := Ideal) v179 v181 v183 v185 v187 v251 v266 v281 v296 v311 v343 (k0_pay73 (F := Ideal) v177 v236)) (k0_pay78 (F := Ideal) v179 v181 v183 v185 v187 v251 v266 v281 v296 v311 v343 (k0_pay73 (F := Ideal) v177 v236)) (Scalar.ofBits .f32 0x00000000#32)) i = rn (v251 i) (v343 i) ((k0_pay74 (F := Ideal) v179 v181 v183 v185 v187 v251 v266 v281 v296 v311 (k0_pay73 (F := Ideal) v177 v236)) i) * (v362 i) := rfl
theorem r394 : s_v394 x a i = rn (s_v251 x a i) (s_v343 x a i) (s_v360 x a i) * (s_v362 x a i) := r394_ i (s_v362 x a) (s_v179 x a) (s_v181 x a) (s_v183 x a) (s_v185 x a) (s_v187 x a) (s_v251 x a) (s_v266 x a) (s_v281 x a) (s_v296 x a) (s_v311 x a) (s_v343 x a) (s_v177 x a) (s_v236 x a)
theorem r410_ (v266 v343 v360 v362 : Ln) : (k0_pay80 (F := Ideal) v266 v343 v360 v362) i = rn (v266 i) (v343 i) (v360 i) * (v362 i) := rfl
theorem r410 : s_v410 x a i = rn (s_v266 x a i) (s_v343 x a i) (s_v360 x a i) * (s_v362 x a i) := r410_ i (s_v266 x a) (s_v343 x a) (s_v360 x a) (s_v362 x a)
theorem r426_ (v281 v343 v360 v362 : Ln) : (k0_pay81 (F := Ideal) v281 v343 v360 v362) i = rn (v281 i) (v343 i) (v360 i) * (v362 i) := rfl
theorem r426 : s_v426 x a i = rn (s_v281 x a i) (s_v343 x a i) (s_v360 x a i) * (s_v362 x a i) := r426_ i (s_v281 x a) (s_v343 x a) (s_v360 x a) (s_v362 x a)
theorem r442_ (v362 v343 v360 v296 : Ln) : (k0_pay84 (F := Ideal) v362 (k0_pay82 (F := Ideal) v343 v360) (k0_pay83 (F := Ideal) v296 v343 v360) (Scalar.ofBits .f32 0x3F800000#32)) i = rn (v296 i) (v343 i) (v360 i) * (v362 i) := rfl
theorem r442 : s_v442 x a i = rn (s_v296 x a i) (s_v343 x a i) (s_v360 x a i) * (s_v362 x a i) := r442_ i (s_v362 x a) (s_v343 x a) (s_v360 x a) (s_v296 x a)
theorem r458_ (v311 v343 v360 v362 : Ln) : (k0_pay85 (F := Ideal) v311 v343 v360 v362) i = rn (v311 i) (v343 i) (v360 i) * (v362 i) := rfl
theorem r458 : s_v458 x a i = rn (s_v311 x a i) (s_v343 x a i) (s_v360 x a i) * (s_v362 x a i) := r458_ i (s_v311 x a) (s_v343 x a) (s_v360 x a) (s_v362 x a)
theorem r501_ (v129 v468 v39 : Ln) : (k0_pay93 (F := Ideal) v129 v468 (k0_pay87 (F := Ideal) v39)) i = (v129 i) - (v468 i) * (ow - (le (v39 i))) := rfl
theorem r501 : s_v501 x a i = (s_v129 x a i) - (s_v468 x a i) * (ow - (le (s_v39 x a i))) := r501_ i (s_v129 x a) (s_v468 x a) (s_v39 x a)
theorem r503_ (v130 v468 v39 v42 : Ln) : (k0_pay94 (F := Ideal) v130 v468 (k0_pay87 (F := Ideal) v39) (k0_pay88 (F := Ideal) v42) (Scalar.ofBits .f32 0x3F800000#32)) i = (v130 i) - (v468 i) * ((le (v39 i)) - (le (v42 i))) := rfl
theorem r503 : s_v503 x a i = (s_v130 x a i) - (s_v468 x a i) * ((le (s_v39 x a i)) - (le (s_v42 x a i))) := r503_ i (s_v130 x a) (s_v468 x a) (s_v39 x a) (s_v42 x a)
theorem r505_ (v45 v131 v468 v42 : Ln) : (k0_pay95 (F := Ideal) v45 v131 v468 (k0_pay88 (F := Ideal) v42) (Scalar.ofBits .f32 0x3F800000#32)) i = (v131 i) - (v468 i) * ((le (v42 i)) - (le (v45 i))) := rfl
theorem r505 : s_v505 x a i = (s_v131 x a i) - (s_v468 x a i) * ((le (s_v42 x a i)) - (le (s_v45 x a i))) := r505_ i (s_v45 x a) (s_v131 x a) (s_v468 x a) (s_v42 x a)
theorem r507_ (v45 v48 v132 v468 : Ln) : (k0_pay96 (F := Ideal) v45 v48 v132 v468) i = (v132 i) - (v468 i) * ((le (v45 i)) - (le (v48 i))) := rfl
theorem r507 : s_v507 x a i = (s_v132 x a i) - (s_v468 x a i) * ((le (s_v45 x a i)) - (le (s_v48 x a i))) := r507_ i (s_v45 x a) (s_v48 x a) (s_v132 x a) (s_v468 x a)
theorem r509_ (v48 v51 v133 v468 : Ln) : (k0_pay97 (F := Ideal) v48 v51 v133 v468) i = (v133 i) - (v468 i) * ((le (v48 i)) - (le (v51 i))) := rfl
theorem r509 : s_v509 x a i = (s_v133 x a i) - (s_v468 x a i) * ((le (s_v48 x a i)) - (le (s_v51 x a i))) := r509_ i (s_v48 x a) (s_v51 x a) (s_v133 x a) (s_v468 x a)
theorem r511_ (v51 v121 v468 : Ln) : (k0_pay98 (F := Ideal) v51 v121 v468) i = (v121 i) - (v468 i) * (le (v51 i)) := rfl
theorem r511 : s_v511 x a i = (s_v121 x a i) - (s_v468 x a i) * (le (s_v51 x a i)) := r511_ i (s_v51 x a) (s_v121 x a) (s_v468 x a)
theorem r557_ (v378 v394 v410 v426 v442 v458 v509 v511 v129 v468 v39 v130 v42 v45 v131 v48 v132 : Ln) : (k0_pay105 (F := Ideal) v378 v394 v410 v426 v442 v458 v509 v511 (k0_pay99 (F := Ideal) v129 v468 (k0_pay87 (F := Ideal) v39)) (k0_pay100 (F := Ideal) v130 v468 (k0_pay87 (F := Ideal) v39) (k0_pay88 (F := Ideal) v42) (Scalar.ofBits .f32 0x3F800000#32)) (k0_pay101 (F := Ideal) v45 v131 v468 (k0_pay88 (F := Ideal) v42) (Scalar.ofBits .f32 0x3F800000#32)) (k0_pay102 (F := Ideal) v45 v48 v132 v468) (Scalar.ofBits .f32 0x00000000#32)) i = mx6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i) := rfl
theorem r557 : s_v557 x a i = mx6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i) := r557_ i (s_v378 x a) (s_v394 x a) (s_v410 x a) (s_v426 x a) (s_v442 x a) (s_v458 x a) (s_v509 x a) (s_v511 x a) (s_v129 x a) (s_v468 x a) (s_v39 x a) (s_v130 x a) (s_v42 x a) (s_v45 x a) (s_v131 x a) (s_v48 x a) (s_v132 x a)
theorem r562_ (v378 v394 v410 v426 v442 v458 v468 v509 v511 v129 v39 v130 v42 v45 v131 v48 v132 : Ln) : (k0_pay106 (F := Ideal) v378 v394 v410 v426 v442 v458 v468 v509 v511 (k0_pay99 (F := Ideal) v129 v468 (k0_pay87 (F := Ideal) v39)) (k0_pay100 (F := Ideal) v130 v468 (k0_pay87 (F := Ideal) v39) (k0_pay88 (F := Ideal) v42) (Scalar.ofBits .f32 0x3F800000#32)) (k0_pay101 (F := Ideal) v45 v131 v468 (k0_pay88 (F := Ideal) v42) (Scalar.ofBits .f32 0x3F800000#32)) (k0_pay102 (F := Ideal) v45 v48 v132 v468) (Scalar.ofBits .f32 0x00000000#32)) i = Scalar.select (gt (v468 i)) (min (mn6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i)) zw) (mn6 (gt ((k0_pay93 (F := Ideal) v129 v468 (k0_pay87 (F := Ideal) v39)) i)) (v378 i) (gt ((k0_pay94 (F := Ideal) v130 v468 (k0_pay87 (F := Ideal) v39) (k0_pay88 (F := Ideal) v42) (Scalar.ofBits .f32 0x3F800000#32)) i)) (v394 i) (gt ((k0_pay95 (F := Ideal) v45 v131 v468 (k0_pay88 (F := Ideal) v42) (Scalar.ofBits .f32 0x3F800000#32)) i)) (v410 i) (gt ((k0_pay96 (F := Ideal) v45 v48 v132 v468) i)) (v426 i) (gt (v509 i)) (v442 i) (gt (v511 i)) (v458 i)) := rfl
theorem r562 : s_v562 x a i = Scalar.select (gt (s_v468 x a i)) (min (mn6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i)) zw) (mn6 (gt (s_v501 x a i)) (s_v378 x a i) (gt (s_v503 x a i)) (s_v394 x a i) (gt (s_v505 x a i)) (s_v410 x a i) (gt (s_v507 x a i)) (s_v426 x a i) (gt (s_v509 x a i)) (s_v442 x a i) (gt (s_v511 x a i)) (s_v458 x a i)) := r562_ i (s_v378 x a) (s_v394 x a) (s_v410 x a) (s_v426 x a) (s_v442 x a) (s_v458 x a) (s_v468 x a) (s_v509 x a) (s_v511 x a) (s_v129 x a) (s_v39 x a) (s_v130 x a) (s_v42 x a) (s_v45 x a) (s_v131 x a) (s_v48 x a) (s_v132 x a)
theorem r567_ (v468 v557 : Ln) : (k0_pay108 (F := Ideal) v468 v557 (k0_pay107 (F := Ideal))) i = Scalar.select (gt (v468 i)) (max (v557 i) zw) (v557 i) := rfl
theorem r567 : s_v567 x a i = Scalar.select (gt (s_v468 x a i)) (max (s_v557 x a i) zw) (s_v557 x a i) := r567_ i (s_v468 x a) (s_v557 x a)
theorem r584_ (v378 v394 v410 v426 v442 v458 v468 v501 v503 v505 v507 v509 v511 v557 : Ln) : (k0_pay109 (F := Ideal) v378 v394 v410 v426 v442 v458 v468 v501 v503 v505 v507 v509 v511 v557 (k0_pay107 (F := Ideal))) i = (((k0_pay108 (F := Ideal) v468 v557 (k0_pay107 (F := Ideal))) i) - Ideal.div (zw + (v501 i) * (v378 i) + (v503 i) * (v394 i) + (v505 i) * (v410 i) + (v507 i) * (v426 i) + (v509 i) * (v442 i) + (v511 i) * (v458 i)) (Ideal.ofBits .f32 0x45800000#32)) * (((k0_pay108 (F := Ideal) v468 v557 (k0_pay107 (F := Ideal))) i) - Ideal.div (zw + (v501 i) * (v378 i) + (v503 i) * (v394 i) + (v505 i) * (v410 i) + (v507 i) * (v426 i) + (v509 i) * (v442 i) + (v511 i) * (v458 i)) (Ideal.ofBits .f32 0x45800000#32)) := rfl
theorem r584 : s_v584 x a i = ((s_v567 x a i) - Ideal.div (zw + (s_v501 x a i) * (s_v378 x a i) + (s_v503 x a i) * (s_v394 x a i) + (s_v505 x a i) * (s_v410 x a i) + (s_v507 x a i) * (s_v426 x a i) + (s_v509 x a i) * (s_v442 x a i) + (s_v511 x a i) * (s_v458 x a i)) (Ideal.ofBits .f32 0x45800000#32)) * ((s_v567 x a i) - Ideal.div (zw + (s_v501 x a i) * (s_v378 x a i) + (s_v503 x a i) * (s_v394 x a i) + (s_v505 x a i) * (s_v410 x a i) + (s_v507 x a i) * (s_v426 x a i) + (s_v509 x a i) * (s_v442 x a i) + (s_v511 x a i) * (s_v458 x a i)) (Ideal.ofBits .f32 0x45800000#32)) := r584_ i (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a)
theorem r600_ (v378 v394 v410 v426 v442 v458 v468 v501 v503 v505 v507 v509 v511 v557 v562 : Ln) : (k0_pay110 (F := Ideal) v378 v394 v410 v426 v442 v458 v468 v501 v503 v505 v507 v509 v511 v557 v562 (k0_pay107 (F := Ideal))) i = rn (v378 i) (v562 i) ((k0_pay108 (F := Ideal) v468 v557 (k0_pay107 (F := Ideal))) i) * ((k0_pay109 (F := Ideal) v378 v394 v410 v426 v442 v458 v468 v501 v503 v505 v507 v509 v511 v557 (k0_pay107 (F := Ideal))) i) := rfl
theorem r600 : s_v600 x a i = rn (s_v378 x a i) (s_v562 x a i) (s_v567 x a i) * (s_v584 x a i) := r600_ i (s_v378 x a) (s_v394 x a) (s_v410 x a) (s_v426 x a) (s_v442 x a) (s_v458 x a) (s_v468 x a) (s_v501 x a) (s_v503 x a) (s_v505 x a) (s_v507 x a) (s_v509 x a) (s_v511 x a) (s_v557 x a) (s_v562 x a)
theorem r616_ (v584 v468 v557 v562 v394 : Ln) : (k0_pay114 (F := Ideal) v584 (k0_pay111 (F := Ideal) v468 v557 v562 (k0_pay107 (F := Ideal))) (k0_pay112 (F := Ideal) v394 v468 v557 v562 (k0_pay107 (F := Ideal))) (k0_pay113 (F := Ideal))) i = rn (v394 i) (v562 i) ((k0_pay108 (F := Ideal) v468 v557 (k0_pay107 (F := Ideal))) i) * (v584 i) := rfl
theorem r616 : s_v616 x a i = rn (s_v394 x a i) (s_v562 x a i) (s_v567 x a i) * (s_v584 x a i) := r616_ i (s_v584 x a) (s_v468 x a) (s_v557 x a) (s_v562 x a) (s_v394 x a)
theorem r632_ (v410 v562 v567 v584 : Ln) : (k0_pay115 (F := Ideal) v410 v562 v567 v584) i = rn (v410 i) (v562 i) (v567 i) * (v584 i) := rfl
theorem r632 : s_v632 x a i = rn (s_v410 x a i) (s_v562 x a i) (s_v567 x a i) * (s_v584 x a i) := r632_ i (s_v410 x a) (s_v562 x a) (s_v567 x a) (s_v584 x a)
theorem r648_ (v426 v562 v567 v584 : Ln) : (k0_pay116 (F := Ideal) v426 v562 v567 v584) i = rn (v426 i) (v562 i) (v567 i) * (v584 i) := rfl
theorem r648 : s_v648 x a i = rn (s_v426 x a i) (s_v562 x a i) (s_v567 x a i) * (s_v584 x a i) := r648_ i (s_v426 x a) (s_v562 x a) (s_v567 x a) (s_v584 x a)
theorem r664_ (v584 v562 v567 v442 : Ln) : (k0_pay120 (F := Ideal) v584 (k0_pay117 (F := Ideal) v562 v567) (k0_pay118 (F := Ideal) v442 v562) (k0_pay119 (F := Ideal) v562 v567)) i = rn (v442 i) (v562 i) (v567 i) * (v584 i) := rfl
theorem r664 : s_v664 x a i = rn (s_v442 x a i) (s_v562 x a i) (s_v567 x a i) * (s_v584 x a i) := r664_ i (s_v584 x a) (s_v562 x a) (s_v567 x a) (s_v442 x a)
theorem r680_ (v458 v562 v567 v584 : Ln) : (k0_pay121 (F := Ideal) v458 v562 v567 v584) i = rn (v458 i) (v562 i) (v567 i) * (v584 i) := rfl
theorem r680 : s_v680 x a i = rn (s_v458 x a i) (s_v562 x a i) (s_v567 x a i) * (s_v584 x a i) := r680_ i (s_v458 x a) (s_v562 x a) (s_v567 x a) (s_v584 x a)

abbrev g1 : Fin 5 → EReal := ![s_v58 x a i, s_v65 x a i, s_v72 x a i, s_v79 x a i, s_v86 x a i]
abbrev g2 : Fin 5 → EReal := ![s_v93 x a i, s_v100 x a i, s_v107 x a i, s_v114 x a i, s_v121 x a i]
abbrev th : Fin 5 → EReal := ![s_v39 x a i, s_v42 x a i, s_v45 x a i, s_v48 x a i, s_v51 x a i]
abbrev c1v : Fin 6 → EReal := ![s_v123 x a i, s_v124 x a i, s_v125 x a i, s_v126 x a i, s_v127 x a i, s_v86 x a i]
abbrev c2v : Fin 6 → EReal := ![s_v129 x a i, s_v130 x a i, s_v131 x a i, s_v132 x a i, s_v133 x a i, s_v121 x a i]
abbrev vv : Fin 6 → EReal := ![s_v140 x a i, s_v147 x a i, s_v154 x a i, s_v161 x a i, s_v168 x a i, s_v175 x a i]
abbrev dv : Fin 6 → EReal := ![s_v236 x a i, s_v251 x a i, s_v266 x a i, s_v281 x a i, s_v296 x a i, s_v311 x a i]
abbrev rv : Fin 6 → EReal := ![s_v378 x a i, s_v394 x a i, s_v410 x a i, s_v426 x a i, s_v442 x a i, s_v458 x a i]
abbrev ccv : Fin 6 → EReal := ![s_v501 x a i, s_v503 x a i, s_v505 x a i, s_v507 x a i, s_v509 x a i, s_v511 x a i]
abbrev tv : Fin 6 → EReal := ![s_v600 x a i, s_v616 x a i, s_v632 x a i, s_v648 x a i, s_v664 x a i, s_v680 x a i]

theorem c1_eq : c1v x a i = kc (Ideal.ofBits .f32 0x45800000#32) (g1 x a i) := by
  unfold c1v; rw [r123, r124, r125, r126, r127]; rfl
theorem c2_eq : c2v x a i = kc (Ideal.ofBits .f32 0x45800000#32) (g2 x a i) := by
  unfold c2v; rw [r129, r130, r131, r132, r133]; rfl
theorem v_eq : vv x a i = vtab (Ideal.ofBits .f32 0x45800000#32) (c1v x a i) := by
  rw [vtab_lg]; unfold vv; rw [r140, r147, r154, r161, r168, r175, r170]; rfl
theorem pmn_eq : s_v204 x a i = tmn (c2v x a i) (vv x a i) := by
  rw [r204, r177, r179, r181, r183, r185, r187, mn6_gt]
theorem pmx_eq : s_v221 x a i = tmx (c2v x a i) (vv x a i) := by
  rw [r221, r177, r179, r181, r183, r185, r187, mx6_gt]
theorem d_eq : dv x a i = tnd (c2v x a i) (vv x a i) := by
  rw [tnd_rn, ← pmn_eq, ← pmx_eq]; unfold dv; rw [r236, r251, r266, r281, r296, r311]; rfl
theorem dmn_eq : s_v343 x a i = tmn (c2v x a i) (dv x a i) := by
  rw [r343, r177, r179, r181, r183, r185, r187, mn6_gt]
theorem dmx_eq : s_v360 x a i = tmx (c2v x a i) (dv x a i) := by
  rw [r360, r177, r179, r181, r183, r185, r187, mx6_gt]
theorem mean_eq : s_v326 x a i = Ideal.div (tsm (c2v x a i) (dv x a i)) (Ideal.ofBits .f32 0x45800000#32) := by
  rw [r326, zw_eq, zero_add]; rfl
theorem r_eq : rv x a i = trt (Ideal.ofBits .f32 0x45800000#32) (c2v x a i) (dv x a i) := by
  rw [trt_rn, ← dmn_eq, ← dmx_eq, ← mean_eq, ← r362]; unfold rv; rw [r378, r394, r410, r426, r442, r458]; rfl
theorem cc_eq : ccv x a i = kcc (s_v468 x a i) (c2v x a i) (kc 1 (ge0 (th x a i))) := by
  rw [kcc_le]; unfold ccv; rw [r501, r503, r505, r507, r509, r511]; rfl
theorem bmx0 : s_v557 x a i = tmx (ccv x a i) (rv x a i) := by
  rw [r557, mx6_gt]
theorem bmn_eq : s_v562 x a i = bmn (s_v468 x a i) (ccv x a i) (rv x a i) := by
  rw [r562, mn6_gt, bmn_gt]
theorem bmx_eq : s_v567 x a i = bmx (s_v468 x a i) (ccv x a i) (rv x a i) := by
  rw [r567, bmx0, bmx_gt]
theorem w_eq : s_v584 x a i = (s_v567 x a i - Ideal.div (tsm (ccv x a i) (rv x a i)) (Ideal.ofBits .f32 0x45800000#32)) * (s_v567 x a i - Ideal.div (tsm (ccv x a i) (rv x a i)) (Ideal.ofBits .f32 0x45800000#32)) := by
  rw [r584, zw_eq, zero_add]; rfl
theorem t_eq : tv x a i = tT (Ideal.ofBits .f32 0x45800000#32) (s_v468 x a i) (ccv x a i) (rv x a i) := by
  rw [tT_rn, ← bmn_eq, ← bmx_eq, ← w_eq]; unfold tv; rw [r600, r616, r632, r648, r664, r680]; rfl

theorem table : tv x a i = ktab (Ideal.ofBits .f32 0x45800000#32) (s_v468 x a i) (kc (Ideal.ofBits .f32 0x45800000#32) (g1 x a i)) (kc (Ideal.ofBits .f32 0x45800000#32) (g2 x a i)) (kcc (s_v468 x a i) (kc (Ideal.ofBits .f32 0x45800000#32) (g2 x a i)) (kc 1 (ge0 (th x a i)))) := by
  rw [t_eq, cc_eq, r_eq, d_eq, v_eq, c1_eq, c2_eq]; rfl

end Cert.KDIdeal.Lane

end
-- ==== Proof.SumKDIdeal.lean ====
/- The layer kernel's results as sums over channels of `Cert.Rarity.ktable`, the kernel's table for one channel. -/
module

public import proofs.«01_k».proof.Proof.Maps
public import proofs.«01_k».proof.Proof.Bins
public import proofs.«01_k».proof.Proof.LaneKDIdeal
public import proofs.«01_k».proof.Proof.AccKDIdeal

@[expose] public section

set_option maxRecDepth 16384

noncomputable section

namespace Cert.KDIdeal.Lane

open Idealize.ShloMosaic Cert.KDIdeal Cert.KDIdeal.Gen Cert.KDIdeal.Step Cert.Rarity Cert.Stage2

abbrev Px : Type := Fin 64 × Fin 64
abbrev NW : EReal := Ideal.ofBits .f32 0x45800000#32

/-- One channel of a block. -/
abbrev lane {n : Nat} (v : FVec Ideal ⟨3, ![n, 64, 64]⟩ .f32) (g : Fin n) (p : Px) : EReal := v (ix3 g p.1 p.2)

theorem kept (x : Vec Ideal S128x64x64 .f32) (g : Fin 128) : lane (k0_pay2 (F := Ideal) x) g = bordered (lane x g) 0 := by
  funext ⟨i, j⟩
  show k0_pay2 (F := Ideal) x (ix3 g i j) = _
  refine Eq.trans ?_ (interior_word 64 (by norm_num) (by norm_num) i j (x (ix3 g i j)) 0)
  pointwise [k0_pay2]

variable (x : Vec Ideal S128x64x64 .f32) (a : BitVec 32) (g : Fin 128)

abbrev XX : Px → EReal := lane (s_v18 x a) g

theorem least : s_v19 x a (ix1 g) = lo (XX x a g) := by
  show k0_pay3 (F := Ideal) x (ix1 g) = lo (lane (k0_pay2 x) g)
  unfold k0_pay3
  generalize k0_pay2 (F := Ideal) x = v
  unfold lo lane
  pointwise
  simp only [w_top]

theorem range : s_v21 x a (ix1 g) = hi (XX x a g) - lo (XX x a g) := by
  show k0_pay4 (F := Ideal) x (ix1 g) = hi (lane (k0_pay2 x) g) - lo (XX x a g)
  rw [← least x a g]
  unfold s_v19 k0_pay4
  generalize k0_pay3 (F := Ideal) x = w
  generalize k0_pay2 (F := Ideal) x = v
  unfold hi lane
  pointwise
  simp only [w_bot]

theorem lin (w r : FVec Ideal S128 .f32) (c : EReal) : addf w (mulf r (broadcast S128 c)) (ix1 g) = w (ix1 g) + r (ix1 g) * c := rfl

/-- A threshold of the kernel's is the least value and a fraction of the range. -/
theorem cut (t : Fin 5 → ℝ) (k : Fin 5) (c : EReal) (h : c = ((t k : ℝ) : EReal)) :
    addf (s_v19 x a) (mulf (s_v21 x a) (broadcast S128 c)) (ix1 g) = kth (XX x a g) t k := by
  rw [lin, least, range, h]; rfl

theorem p0 : s_v24 x a (ix1 g) = kth (XX x a g) t1 0 := cut x a g t1 0 ((1 / 6 : ℝ) : EReal) rfl
theorem p1 : s_v27 x a (ix1 g) = kth (XX x a g) t1 1 := cut x a g t1 1 ((1 / 3 : ℝ) : EReal) (by norm_num [t1])
theorem p2 : s_v30 x a (ix1 g) = kth (XX x a g) t1 2 := cut x a g t1 2 (Ideal.ofBits .f32 0x3F000000#32) w_half
theorem p3 : s_v33 x a (ix1 g) = kth (XX x a g) t1 3 := cut x a g t1 3 ((2 / 3 : ℝ) : EReal) (by show ((2 / 3 : ℝ) : EReal) = ((4 / 6 : ℝ) : EReal); norm_num)
theorem p4 : s_v36 x a (ix1 g) = kth (XX x a g) t1 4 := cut x a g t1 4 ((5 / 6 : ℝ) : EReal) rfl
theorem q0 : s_v39 x a (ix1 g) = kth (XX x a g) t2 0 := cut x a g t2 0 ((1 / 768 : ℝ) : EReal) (by norm_num [t2])
theorem q1 : s_v42 x a (ix1 g) = kth (XX x a g) t2 1 := cut x a g t2 1 (Ideal.ofBits .f32 0x3B000000#32) w_512th
theorem q2 : s_v45 x a (ix1 g) = kth (XX x a g) t2 2 := cut x a g t2 2 ((1 / 384 : ℝ) : EReal) (by show ((1 / 384 : ℝ) : EReal) = ((4 / 1536 : ℝ) : EReal); norm_num)
theorem q3 : s_v48 x a (ix1 g) = kth (XX x a g) t2 3 := cut x a g t2 3 ((5 / 1536 : ℝ) : EReal) rfl
theorem q4 : s_v51 x a (ix1 g) = kth (XX x a g) t2 4 := cut x a g t2 4 (Ideal.ofBits .f32 0x3B800000#32) w_256th

theorem five {a b c d e : EReal} {f : Fin 5 → EReal} (h0 : a = f 0) (h1 : b = f 1) (h2 : c = f 2) (h3 : d = f 3) (h4 : e = f 4) : ![a, b, c, d, e] = f := by
  subst h0 h1 h2 h3 h4
  funext k; fin_cases k <;> rfl

theorem th_eq : th x a (ix1 g) = kth (XX x a g) t2 := five (q0 x a g) (q1 x a g) (q2 x a g) (q3 x a g) (q4 x a g)

theorem count (v : FVec Ideal S128x64x64 .f32) (t : FVec Ideal S128 .f32) (g : Fin 128) :
    k0_pay16 (F := Ideal) v t (ix1 g) = cnt fun p => t (ix1 g) ≤ lane v g p := by
  unfold cnt lane
  pointwise [k0_pay16]
  rw [Fintype.sum_prod_type]

theorem g1_eq : g1 x a (ix1 g) = fun k => cnt fun p => kth (XX x a g) t1 k ≤ XX x a g p :=
  five ((count (s_v18 x a) (s_v24 x a) g).trans (by rw [p0])) ((count (s_v18 x a) (s_v27 x a) g).trans (by rw [p1]))
    ((count (s_v18 x a) (s_v30 x a) g).trans (by rw [p2])) ((count (s_v18 x a) (s_v33 x a) g).trans (by rw [p3]))
    ((count (s_v18 x a) (s_v36 x a) g).trans (by rw [p4]))

theorem g2_eq : g2 x a (ix1 g) = fun k => cnt fun p => kth (XX x a g) t2 k ≤ XX x a g p :=
  five ((count (s_v18 x a) (s_v39 x a) g).trans (by rw [q0])) ((count (s_v18 x a) (s_v42 x a) g).trans (by rw [q1]))
    ((count (s_v18 x a) (s_v45 x a) g).trans (by rw [q2])) ((count (s_v18 x a) (s_v48 x a) g).trans (by rw [q3]))
    ((count (s_v18 x a) (s_v51 x a) g).trans (by rw [q4]))

theorem tv_eq : tv x a (ix1 g) = ktable NW (s_v468 x a (ix1 g)) (XX x a g) := by
  rw [table, g1_eq, g2_eq, th_eq]; rfl

/-- What the kernel adds at a pixel for a channel. -/
def piece (nbv : EReal) (X : Px → EReal) (p : Px) : EReal := ktable NW nbv X (kbin (kth X t2) (X p))

theorem chain_piece (v : EReal) : chain (s_v39 x a (ix1 g)) (s_v42 x a (ix1 g)) (s_v45 x a (ix1 g)) (s_v48 x a (ix1 g)) (s_v51 x a (ix1 g)) v
    (s_v600 x a (ix1 g)) (s_v616 x a (ix1 g)) (s_v632 x a (ix1 g)) (s_v648 x a (ix1 g)) (s_v664 x a (ix1 g)) (s_v680 x a (ix1 g))
    = ktable NW (s_v468 x a (ix1 g)) (XX x a g) (kbin (kth (XX x a g) t2) v) := by
  rw [chain_eq]
  show tv x a (ix1 g) (kbin (th x a (ix1 g)) v) = _
  rw [tv_eq, th_eq]

theorem looked (v : FVec Ideal S128x64x64 .f32) (t0 t1 t2 t3 t4 f0 f1 f2 f3 f4 f5 : FVec Ideal S128 .f32) (i j : Fin 64) :
    k0_pay123 (F := Ideal) v t3 t4 f4 f5 (k0_pay122 (F := Ideal) v t0 t1 t2 f0 f1 f2 f3) (ix2 i j)
      = ∑ g : Fin 128, chain (t0 (ix1 g)) (t1 (ix1 g)) (t2 (ix1 g)) (t3 (ix1 g)) (t4 (ix1 g)) (v (ix3 g i j))
          (f0 (ix1 g)) (f1 (ix1 g)) (f2 (ix1 g)) (f3 (ix1 g)) (f4 (ix1 g)) (f5 (ix1 g)) := by
  unfold chain
  pointwise [k0_pay123, k0_pay122]

theorem blk_eq (i j : Fin 64) : blk (F := Ideal) x a (ix2 i j) = ∑ g : Fin 128, piece (s_v468 x a (ix1 g)) (bordered (lane x g) 0) (i, j) := by
  refine (looked (s_v18 x a) (s_v39 x a) (s_v42 x a) (s_v45 x a) (s_v48 x a) (s_v51 x a) (s_v600 x a) (s_v616 x a) (s_v632 x a) (s_v648 x a) (s_v664 x a) (s_v680 x a) i j).trans ?_
  refine Finset.sum_congr rfl fun g _ => ?_
  rw [chain_piece, ← kept x g]
  rfl

theorem looked_edge (t0 t1 t2 t3 t4 f0 f1 f2 f3 f4 f5 : FVec Ideal S128 .f32) :
    k0_pay124 (F := Ideal) t0 t1 t2 t3 t4 f0 f1 f2 f3 f4 f5 (ix2 0 0)
      = chain (t0 (ix1 0)) (t1 (ix1 0)) (t2 (ix1 0)) (t3 (ix1 0)) (t4 (ix1 0)) 0
          (f0 (ix1 0)) (f1 (ix1 0)) (f2 (ix1 0)) (f3 (ix1 0)) (f4 (ix1 0)) (f5 (ix1 0)) := by
  unfold chain
  pointwise [k0_pay124]

theorem edge_eq : edge (F := Ideal) x a (ix2 0 0) = piece (s_v468 x a (ix1 0)) (bordered (lane x 0) 0) (0, 0) := by
  refine (looked_edge (s_v39 x a) (s_v42 x a) (s_v45 x a) (s_v48 x a) (s_v51 x a) (s_v600 x a) (s_v616 x a) (s_v632 x a) (s_v648 x a) (s_v664 x a) (s_v680 x a)).trans ?_
  rw [chain_piece, ← kept x 0]
  have h : lane (k0_pay2 (F := Ideal) x) 0 (0, 0) = 0 := (congrFun (kept x 0) (0, 0)).trans (if_pos (Or.inl rfl))
  unfold piece
  rw [h]
  rfl

theorem block_word (k : Fin 128) : IntOp.cmpi .eq (BitVec.ofNat 32 k.val) 0#32 = BitVec.ofBool (decide (k.val = 0)) := by
  revert k; decide

theorem start_word (a : Nat) (ha : a < 2 ^ 31) : Scalar.cmpi .eq (BitVec.ofNat 32 a) 0#32 = BitVec.ofBool (decide (a = 0)) := by
  show BitVec.ofBool (BitVec.ofNat 32 a == 0#32) = _
  congr 1
  rw [Bool.eq_iff_iff, beq_iff_eq, decide_eq_true_iff]
  constructor
  · intro e
    have := congrArg BitVec.toNat e
    rw [BitVec.toNat_ofNat] at this
    simp at this
    omega
  · rintro rfl; rfl

theorem zeroed (a : Nat) (ha : a < 2 ^ 31) : s_v468 x (BitVec.ofNat 32 a) (ix1 g) = if g.val = 0 ∧ a = 0 then 0 else Ideal.ofBits .f32 0x437C0000#32 := by
  show k0_pay86 (F := Ideal) _ (ix1 g) = _
  pointwise [k0_pay86]
  rw [block_word, start_word a ha]
  by_cases h1 : g.val = 0 <;> by_cases h2 : a = 0 <;> simp [h1, h2, Scalar.select, IntOp.andi]

end Cert.KDIdeal.Lane

end
-- ==== Proof.RefKDIdeal.lean ====
/- The reference's results as sums over channels of `Cert.Rarity.out`, its map for one channel. -/
module

public import proofs.«01_k».proof.Proof.Bins
public import proofs.«01_k».proof.Proof.Maps
public import proofs.«01_k».proof.Proof.Gen.RDIdeal.Run
public import Idealize.ShloMosaic.Lib.Pointwise

@[expose] public section

set_option maxRecDepth 16384

noncomputable section

namespace Cert.RDIdeal.Map

open Idealize.ShloMosaic Idealize.ShloMosaic.TcCoe Idealize.ShloMosaic.StableHlo Idealize.SL.Sem Cert.RDIdeal Cert.RDIdeal.Gen Cert.RDIdeal.Value Cert.Rarity Cert.Stage2

abbrev Px : Type := Fin 64 × Fin 64
abbrev NW : EReal := Ideal.ofBits .f32 0x45800000#32
abbrev Arr : Type := FVec Ideal S384x64x64 .f32
abbrev Col : Type := FVec Ideal S384x1x1 .f32
/-- One channel. -/
abbrev lane (v : Arr) (g : Fin 384) (p : Px) : EReal := v (ix3 g p.1 p.2)

def hlo (v : Arr) : Col := broadcastInDim S384x1x1 ![0] bcast_S384_S384x1x1_0 (Host.reduce FloatOps.minimumf v (constant S_ .f32 0x7F800000#32) reducesTo_S384x64x64_S384_d1_2 h_S_)
def hhi (v : Arr) : Col := broadcastInDim S384x1x1 ![0] bcast_S384_S384x1x1_0 (Host.reduce FloatOps.maximumf v (constant S_ .f32 0xFF800000#32) reducesTo_S384x64x64_S384_d1_2 h_S_)
def hgap (v : Arr) : Col := Host.divf (broadcastInDim S384x1x1 ![0] bcast_S384_S384x1x1_0 (Host.reduceAdd v (constant S_ .f32 0x00000000#32) reducesTo_S384x64x64_S384_d1_2 h_S_)) (broadcastInDim S384x1x1 ![] bcast_S_S384x1x1 (constant S_ .f32 0x45800000#32))

theorem hlo_eq (v : Arr) (g : Fin 384) : hlo v (ix3 g 0 0) = lo (lane v g) := by
  unfold lo lane
  pointwise [hlo]
  simp only [w_top]
theorem hhi_eq (v : Arr) (g : Fin 384) : hhi v (ix3 g 0 0) = hi (lane v g) := by
  unfold hi lane
  pointwise [hhi]
  simp only [w_bot]
theorem hgap_eq (v : Arr) (g : Fin 384) : hgap v (ix3 g 0 0) = Ideal.div (∑ p, lane v g p) NW := by
  rw [Fintype.sum_prod_type]
  unfold lane
  pointwise [hgap]

/-- A channel rescaled by a least value and a range. -/
def hnrm (s : BitVec 32) (v : Arr) (mn rg : Col) : Arr :=
  select (broadcastInDim S384x64x64 ![0, 1, 2] bcast_S384x1x1_S384x64x64_0_1_2 (cmpf .oeq rg (broadcastInDim S384x1x1 ![] bcast_S_S384x1x1 (constant S_ .f32 0x00000000#32)))) (broadcastInDim S384x64x64 ![] bcast_S_S384x64x64 (constant S_ .f32 0x00000000#32)) (addf (mulf (Host.divf (subf v (broadcastInDim S384x64x64 ![0, 1, 2] bcast_S384x1x1_S384x64x64_0_1_2 mn)) (broadcastInDim S384x64x64 ![0, 1, 2] bcast_S384x1x1_S384x64x64_0_1_2 (select (cmpf .oeq rg (broadcastInDim S384x1x1 ![] bcast_S_S384x1x1 (constant S_ .f32 0x00000000#32))) (broadcastInDim S384x1x1 ![] bcast_S_S384x1x1 (constant S_ .f32 0x3F800000#32)) rg))) (broadcastInDim S384x64x64 ![] bcast_S_S384x64x64 (constant S_ .f32 s))) (broadcastInDim S384x64x64 ![] bcast_S_S384x64x64 (constant S_ .f32 0x00000000#32)))

theorem hnrm_at (s : BitVec 32) (v : Arr) (mn rg : Col) (g : Fin 384) (i j : Fin 64) : hnrm s v mn rg (ix3 g i j)
    = Scalar.select (Ideal.cmp .oeq (rg (ix3 g 0 0)) (Ideal.ofBits .f32 0x00000000#32)) (Ideal.ofBits .f32 0x00000000#32)
      (Ideal.div (v (ix3 g i j) - mn (ix3 g 0 0)) (Scalar.select (Ideal.cmp .oeq (rg (ix3 g 0 0)) (Ideal.ofBits .f32 0x00000000#32))
        (Ideal.ofBits .f32 0x3F800000#32) (rg (ix3 g 0 0))) * (Ideal.ofBits .f32 s) + Ideal.ofBits .f32 0x00000000#32) := by
  pointwise [hnrm]

theorem sub_at (a b : Col) (g : Fin 384) : subf a b (ix3 g 0 0) = a (ix3 g 0 0) - b (ix3 g 0 0) := rfl
theorem sq_at (a : Col) (g : Fin 384) : mulf a a (ix3 g 0 0) = a (ix3 g 0 0) * a (ix3 g 0 0) := rfl

theorem hnrm_eq (s : BitVec 32) (v : Arr) (g : Fin 384) (p : Px) : lane (hnrm s v (hlo v) (subf (hhi v) (hlo v))) g p
    = nrm (lane v g p) (lo (lane v g)) (hi (lane v g)) (Ideal.ofBits .f32 s) := by
  have e := hnrm_at s v (hlo v) (subf (hhi v) (hlo v)) g p.1 p.2
  rw [sub_at, hlo_eq, hhi_eq] at e
  exact e.trans (rnrm_eq _ _ _ _)

def hgate (v : Arr) (c : Col) : Arr := mulf v (broadcastInDim S384x64x64 ![0, 1, 2] bcast_S384x1x1_S384x64x64_0_1_2 (mulf c c))
theorem hgate_at (v : Arr) (c : Col) (g : Fin 384) (i j : Fin 64) : hgate v c (ix3 g i j) = v (ix3 g i j) * (c (ix3 g 0 0) * c (ix3 g 0 0)) := by
  pointwise [hgate]

def hpond (v : Arr) : Arr := hgate (hnrm 0x3F800000#32 v (hlo v) (subf (hhi v) (hlo v))) (subf (hhi v) (hgap v))

theorem hpond_eq (v : Arr) (g : Fin 384) : lane (hpond v) g = pond NW (lane v g) := by
  funext p
  have e := hgate_at (hnrm 0x3F800000#32 v (hlo v) (subf (hhi v) (hlo v))) (subf (hhi v) (hgap v)) g p.1 p.2
  rw [sub_at, hhi_eq, hgap_eq] at e
  refine e.trans ?_
  have f := hnrm_eq 0x3F800000#32 v g p
  rw [w_one] at f
  exact congrArg (fun z => z * ((hi (lane v g) - Ideal.div (∑ q, lane v g q) NW) * (hi (lane v g) - Ideal.div (∑ q, lane v g q) NW))) f

/-! ### Bins -/

def hbin (r : Arr) : IVec S384x64x64 32 := minsi (broadcastInDim S384x64x64 ![] bcast_S_S384x64x64 (constantI S_ 32 5#32)) (maxsi (broadcastInDim S384x64x64 ![] bcast_S_S384x64x64 (constantI S_ 32 0#32)) (fptosi 32 r))
theorem hbin_at (r : Arr) (k : S384x64x64.Idx) : hbin r k = IntOp.minsi 5#32 (IntOp.maxsi 0#32 (Ideal.fptosi 32 (r k))) := rfl

def hhot (w : IVec S384x64x64 32) : FVec Ideal S384x64x64x6 .f32 :=
  select (cmpi .eq (broadcastInDim S384x64x64x6 ![0, 1, 2, 3] bcast_S384x64x64x1_S384x64x64x6_0_1_2_3 (broadcastInDim S384x64x64x1 ![0, 1, 2] bcast_S384x64x64_S384x64x64x1_0_1_2 w)) (broadcastInDim S384x64x64x6 ![0, 1, 2, 3] bcast_S1x1x1x6_S384x64x64x6_0_1_2_3 (broadcastInDim S1x1x1x6 ![3] bcast_S6_S1x1x1x6_3 (iotaInDim S6 32 0)))) (broadcastInDim S384x64x64x6 ![] bcast_S_S384x64x64x6 (constant S_ .f32 0x3F800000#32)) (broadcastInDim S384x64x64x6 ![] bcast_S_S384x64x64x6 (constant S_ .f32 0x00000000#32))
theorem hhot_at (w : IVec S384x64x64 32) (g : Fin 384) (i j : Fin 64) (k : Fin 6) : hhot w (ix4 g i j k)
    = Scalar.select (IntOp.cmpi .eq (w (ix3 g i j)) (BitVec.ofNat 32 k.val)) (Ideal.ofBits .f32 0x3F800000#32) (Ideal.ofBits .f32 0x00000000#32) := by
  pointwise [hhot]

/-- Where the words are those of bins `b`, the array is one where the bin is `k`, else zero. -/
theorem hhot_eq (w : IVec S384x64x64 32) (g : Fin 384) (b : Px → Fin 6) (hw : ∀ p, w (ix3 g p.1 p.2) = BitVec.ofNat 32 (b p).val) (i j : Fin 64) (k : Fin 6) :
    hhot w (ix4 g i j k) = if b (i, j) = k then 1 else 0 := by
  rw [hhot_at, hw (i, j), bin_word, w_one, w_zero]
  by_cases h : b (i, j) = k <;> simp [h, Scalar.select]

/-- The indices that drop to `(g, k)` along the two middle axes. -/
theorem drop_mid (h : S384x64x64x6.ReducesTo [1, 2] S384x6) (g : Fin 384) (k : Fin 6) (i : S384x64x64x6.Idx) :
    h.drop i = ix2 g k ↔ ∃ q : Px, ix4 g q.1 q.2 k = i := by
  constructor
  · intro e
    refine ⟨(i 1, i 2), ?_⟩
    funext a; apply Fin.ext
    match a with
    | ⟨0, _⟩ => exact (congrArg Fin.val (congrFun e 0)).symm
    | ⟨1, _⟩ => rfl
    | ⟨2, _⟩ => rfl
    | ⟨3, _⟩ => exact (congrArg Fin.val (congrFun e 1)).symm
  · rintro ⟨q, rfl⟩
    funext b
    apply Fin.ext
    match b with
    | ⟨0, _⟩ => rfl
    | ⟨1, _⟩ => rfl

theorem sum_mid (h : S384x64x64x6.ReducesTo [1, 2] S384x6) (g : Fin 384) (k : Fin 6) (v : S384x64x64x6.Idx → EReal) :
    ∑ i ∈ Finset.univ.filter (fun i => h.drop i = ix2 g k), v i = ∑ i : Fin 64, ∑ j : Fin 64, v (ix4 g i j k) := by
  refine (Finset.sum_filter_eq_sum_of_fiber _ (fun q : Px => (ix4 g q.1 q.2 k : S384x64x64x6.Idx))
    (fun _ _ e => Prod.ext (congrFun e 1) (congrFun e 2)) (drop_mid h g k) v).trans ?_
  rw [Fintype.sum_prod_type]

def hcnt (h : FVec Ideal S384x64x64x6 .f32) : FVec Ideal S384x6 .f32 :=
  Host.reduceAdd h (constant S_ .f32 0x00000000#32) reducesTo_S384x64x64x6_S384x6_d1_2 h_S_
theorem hcnt_at (h : FVec Ideal S384x64x64x6 .f32) (g : Fin 384) (k : Fin 6) : hcnt h (ix2 g k) = 0 + ∑ i : Fin 64, ∑ j : Fin 64, h (ix4 g i j k) := by
  show Ideal.ofBits .f32 0x00000000#32 + _ = _
  rw [w_zero]
  exact congrArg (fun z => (0 : EReal) + z) (sum_mid _ g k h)

theorem hcnt_eq (w : IVec S384x64x64 32) (g : Fin 384) (b : Px → Fin 6) (hw : ∀ p, w (ix3 g p.1 p.2) = BitVec.ofNat 32 (b p).val) (k : Fin 6) :
    hcnt (hhot w) (ix2 g k) = cnt fun p => b p = k := by
  rw [hcnt_at, zero_add]
  unfold cnt
  rw [Fintype.sum_prod_type]
  exact Finset.sum_congr rfl fun i _ => Finset.sum_congr rfl fun j _ => hhot_eq w g b hw i j k

def hlog (c : FVec Ideal S384x6 .f32) : FVec Ideal S384x6 .f32 :=
  Host.negf (Host.log (addf (Host.divf c (broadcastInDim S384x6 ![0, 1] bcast_S384x1_S384x6_0_1 (broadcastInDim S384x1 ![0] bcast_S384_S384x1_0 (Host.reduceAdd c (constant S_ .f32 0x00000000#32) reducesTo_S384x6_S384_d1 h_S_)))) (broadcastInDim S384x6 ![] bcast_S_S384x6 (constant S_ .f32 0x38D1B717#32))))
theorem hlog_at (c : FVec Ideal S384x6 .f32) (g : Fin 384) (k : Fin 6) : hlog c (ix2 g k) = - Ideal.log (Ideal.div (c (ix2 g k)) (0 + ∑ l : Fin 6, c (ix2 g l)) + EPS) := by
  unfold EPS
  pointwise [hlog]

theorem all_bins (b : Px → Fin 6) : ∑ l : Fin 6, (cnt fun p => b p = l) = NW := by
  have e : NW = ((Fintype.card Px : ℝ) : EReal) := by
    simp [Ideal.ofBits, Ideal.ieee, -EReal.coe_mul]; norm_num
  rw [e, ← cnt_true]
  unfold cnt
  rw [Finset.sum_comm]
  refine Finset.sum_congr rfl fun p _ => ?_
  rw [Finset.sum_ite_eq]
  simp

def hpick (h : FVec Ideal S384x64x64x6 .f32) (l : FVec Ideal S384x6 .f32) : Arr :=
  Host.reduceAdd (mulf h (broadcastInDim S384x64x64x6 ![0, 1, 2, 3] bcast_S384x1x1x6_S384x64x64x6_0_1_2_3 (broadcastInDim S384x1x1x6 ![0, 3] bcast_S384x6_S384x1x1x6_0_3 l))) (constant S_ .f32 0x00000000#32) reducesTo_S384x64x64x6_S384x64x64_d3 h_S_
theorem hpick_at (h : FVec Ideal S384x64x64x6 .f32) (l : FVec Ideal S384x6 .f32) (g : Fin 384) (i j : Fin 64) :
    hpick h l (ix3 g i j) = 0 + ∑ k : Fin 6, h (ix4 g i j k) * l (ix2 g k) := by
  pointwise [hpick]

theorem hpick_eq (w1 w2 : IVec S384x64x64 32) (g : Fin 384) (b1 b2 : Px → Fin 6) (h1 : ∀ p, w1 (ix3 g p.1 p.2) = BitVec.ofNat 32 (b1 p).val)
    (h2 : ∀ p, w2 (ix3 g p.1 p.2) = BitVec.ofNat 32 (b2 p).val) : lane (hpick (hhot w2) (hlog (hcnt (hhot w1)))) g = picked NW b1 b2 := by
  funext p
  refine (hpick_at _ _ g p.1 p.2).trans ?_
  have e : ∀ k : Fin 6, hhot w2 (ix4 g p.1 p.2 k) * hlog (hcnt (hhot w1)) (ix2 g k) = if b2 p = k then vtab NW (fun j => cnt fun q => b1 q = j) k else 0 := by
    intro k
    rw [hhot_eq w2 g b2 h2, hlog_at, zero_add, hcnt_eq w1 g b1 h1]
    simp only [hcnt_eq w1 g b1 h1]
    rw [all_bins]
    by_cases h : b2 (p.1, p.2) = k
    · rw [if_pos h, if_pos h, one_mul]; rfl
    · rw [if_neg h, if_neg h, zero_mul]
  rw [Finset.sum_congr rfl fun k _ => e k, zero_add, Finset.sum_ite_eq, if_pos (Finset.mem_univ _)]
  rfl

/-! ### Borders -/

def hbord (v : Arr) : Arr :=
  select (ori (ori (ori (cmpi .eq (iotaInDim S384x64x64 32 1) (broadcastInDim S384x64x64 ![] bcast_S_S384x64x64 (constantI S_ 32 0#32))) (cmpi .eq (iotaInDim S384x64x64 32 1) (broadcastInDim S384x64x64 ![] bcast_S_S384x64x64 (constantI S_ 32 63#32)))) (cmpi .eq (iotaInDim S384x64x64 32 2) (broadcastInDim S384x64x64 ![] bcast_S_S384x64x64 (constantI S_ 32 0#32)))) (cmpi .eq (iotaInDim S384x64x64 32 2) (broadcastInDim S384x64x64 ![] bcast_S_S384x64x64 (constantI S_ 32 63#32)))) (broadcastInDim S384x64x64 ![] bcast_S_S384x64x64 (constant S_ .f32 0x00000000#32)) v
theorem hbord_eq (v : Arr) (g : Fin 384) : lane (hbord v) g = bordered (lane v g) 0 := by
  funext ⟨i, j⟩
  refine Eq.trans ?_ (border_word 64 (by norm_num) (by norm_num) i j (v (ix3 g i j)) 0)
  show hbord v (ix3 g i j) = _
  pointwise [hbord]

def hfirst (v : Arr) : Arr := select (cmpi .eq (iotaInDim S384x64x64 32 0) (broadcastInDim S384x64x64 ![] bcast_S_S384x64x64 (constantI S_ 32 0#32))) v (hbord v)
theorem hfirst_at (v : Arr) (g : Fin 384) (i j : Fin 64) : hfirst v (ix3 g i j) = Scalar.select (IntOp.cmpi .eq (BitVec.ofNat 32 g.val) 0#32) (v (ix3 g i j)) (hbord v (ix3 g i j)) := rfl

/-- The pixels that the reference zeroes in a channel's rarity map. -/
def brd (g : Fin 384) (p : Px) : Prop := g.val ≠ 0 ∧ (p.1.val = 0 ∨ p.1.val = 63 ∨ p.2.val = 0 ∨ p.2.val = 63)
instance (g : Fin 384) : DecidablePred (brd g) := fun p => by unfold brd; infer_instance

theorem first_word (g : Fin 384) (x y : EReal) : Scalar.select (IntOp.cmpi .eq (BitVec.ofNat 32 g.val) 0#32) x y = if g.val = 0 then x else y := by
  have h : IntOp.cmpi .eq (BitVec.ofNat 32 g.val) 0#32 = BitVec.ofBool (decide (g.val = 0)) := by
    revert g; decide
  rw [h]
  by_cases h : g.val = 0 <;> simp [h, Scalar.select]

theorem hfirst_eq (v : Arr) (g : Fin 384) (p : Px) : lane (hfirst v) g p = if brd g p then 0 else lane v g p := by
  refine (hfirst_at v g p.1 p.2).trans ?_
  rw [first_word]
  have e : hbord v (ix3 g p.1 p.2) = bordered (lane v g) 0 p := congrFun (hbord_eq v g) p
  rw [e]
  unfold bordered brd
  by_cases h : g.val = 0 <;> simp [h]

/-! ### The reference's own terms -/

def harg (V : Valuation τ sig (Elt Ideal)) : Arr := V (Proc.devRef .tc main_arg0)
/-- The bordered arguments, rescaled to 0 … 256. -/
def hchn (V : Valuation τ sig (Elt Ideal)) : Arr := hnrm 0x43800000#32 (hbord (harg V)) (hlo (hbord (harg V))) (subf (hhi (hbord (harg V))) (hlo (hbord (harg V))))
def hpre1 (v : Arr) : Arr := (Host.floor (Host.divf v (broadcastInDim S384x64x64 ![] bcast_S_S384x64x64 (Host.divf (constant S_ .f32 0x43800000#32) (constant S_ .f32 0x40C00000#32)))))
def hpre2 (v : Arr) : Arr := (subf (mulf v (broadcastInDim S384x64x64 ![] bcast_S_S384x64x64 (constant S_ .f32 0x40C00000#32))) (broadcastInDim S384x64x64 ![] bcast_S_S384x64x64 (constant S_ .f32 0x3F800000#32)))
def hw1 (v : Arr) : IVec S384x64x64 32 := hbin (hpre1 v)
def hw2 (v : Arr) : IVec S384x64x64 32 := hbin (hpre2 v)
theorem hpre1_at (v : Arr) (g : Fin 384) (i j : Fin 64) : hpre1 v (ix3 g i j)
    = Ideal.liftRound Int.floor (Ideal.div (v (ix3 g i j)) (Ideal.div (Ideal.ofBits .f32 0x43800000#32) (Ideal.ofBits .f32 0x40C00000#32))) := by
  pointwise [hpre1]
theorem hpre2_at (v : Arr) (g : Fin 384) (i j : Fin 64) : hpre2 v (ix3 g i j)
    = v (ix3 g i j) * Ideal.ofBits .f32 0x40C00000#32 - Ideal.ofBits .f32 0x3F800000#32 := by
  pointwise [hpre2]
def hdst (v : Arr) : Arr := hnrm 0x3F800000#32 v (hlo v) (subf (hhi v) (hlo v))
def hsum (v : Arr) : FVec Ideal S64x64 .f32 := Host.reduceAdd v (constant S_ .f32 0x00000000#32) reducesTo_S384x64x64_S64x64_d0 h_S_
def hall (v : Arr) : FVec Ideal S64x64 .f32 := hsum (hpond (hfirst (hpond (hdst (hpick (hhot (hw2 v)) (hlog (hcnt (hhot (hw1 v)))))))))

variable (V : Valuation τ sig (Elt Ideal))

theorem v13_eq : res_main_v13 V = hbord (harg V) := rfl
theorem v15_eq : res_main_v15 V = hlo (hbord (harg V)) := by rw [← v13_eq]; rfl
theorem v18_eq : res_main_v18 V = subf (hhi (hbord (harg V))) (hlo (hbord (harg V))) := by rw [← v15_eq, ← v13_eq]; rfl
theorem v33_eq : res_main_v33 V = hchn V := by unfold hchn; rw [← v18_eq, ← v15_eq, ← v13_eq]; rfl
theorem v48_eq : res_main_v48 V = hcnt (hhot (hw1 (hchn V))) := by rw [← v33_eq]; rfl
theorem v73_eq : res_main_v73 V = hpick (hhot (hw2 (hchn V))) (hlog (hcnt (hhot (hw1 (hchn V))))) := by rw [← v48_eq, ← v33_eq]; unfold hpick hhot hlog hw2 hbin hpre2 res_main_v73 res_main_v40; simp only [id_eq]
theorem v75_eq : res_main_v75 V = hlo (res_main_v73 V) := rfl
theorem v78_eq : res_main_v78 V = subf (hhi (res_main_v73 V)) (hlo (res_main_v73 V)) := by rw [← v75_eq]; rfl
theorem v93_eq : res_main_v93 V = hdst (res_main_v73 V) := by unfold hdst; rw [← v78_eq, ← v75_eq]; rfl
theorem v100_eq : res_main_v100 V = subf (hhi (res_main_v93 V)) (hgap (res_main_v93 V)) := rfl
theorem v103_eq : res_main_v103 V = hlo (res_main_v93 V) := rfl
theorem v106_eq : res_main_v106 V = subf (hhi (res_main_v93 V)) (hlo (res_main_v93 V)) := by rw [← v103_eq]; rfl
theorem v123_eq : res_main_v123 V = hpond (res_main_v93 V) := by unfold hpond; rw [← v100_eq, ← v106_eq, ← v103_eq]; rfl
theorem v141_eq : res_main_v141 V = hfirst (res_main_v123 V) := rfl
theorem v148_eq : res_main_v148 V = subf (hhi (res_main_v141 V)) (hgap (res_main_v141 V)) := rfl
theorem v151_eq : res_main_v151 V = hlo (res_main_v141 V) := rfl
theorem v154_eq : res_main_v154 V = subf (hhi (res_main_v141 V)) (hlo (res_main_v141 V)) := by rw [← v151_eq]; rfl
theorem all_eq : hsum (hgate (hnrm 0x3F800000#32 (res_main_v141 V) (res_main_v151 V) (res_main_v154 V)) (res_main_v148 V)) = hall (hchn V) := by
  rw [v154_eq, v151_eq, v148_eq, v141_eq, v123_eq, v93_eq, v73_eq]; rfl

/-- The run, with both results. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v172) = hall (hchn (StableHlo.launchContents m c))
      ∧ r.2.mem ((c.tc : Thread nD τ).loc main_v173) = extractStridedSlice S1x1 ![0, 0] (hall (hchn (StableHlo.launchContents m c))) slices_S64x64_S1x1_0_0
      ∧ r.2.mem ((c.tc : Thread nD τ).loc main_arg0) = m ((c.tc : Thread nD τ).loc main_arg0) :=
  (θ_run defs _ _).mono (fun r h c => by
    obtain ⟨h1, h2, h3⟩ := h c
    rw [← all_eq]
    exact ⟨h1, h2, h3⟩) (Value.run m ρ)

/-! ### One channel -/

section Channel
variable (g : Fin 384)

/-- A channel of the arguments with its border zeroed. -/
abbrev XX : Px → EReal := bordered (lane (harg V) g) 0

theorem hchn_eq (p : Px) : lane (hchn V) g p = chn (XX V g) p := by
  have e := hnrm_eq 0x43800000#32 (hbord (harg V)) g p
  rw [hbord_eq, w_256] at e
  exact e

variable (hX : ∀ p, ∃ r : ℝ, lane (harg V) g p = (r : EReal))
include hX

theorem bordered_real (p : Px) : ∃ r : ℝ, XX V g p = (r : EReal) := by
  unfold XX bordered
  split_ifs
  · exact ⟨0, rfl⟩
  · exact hX p

theorem chn_real (p : Px) : ∃ r : ℝ, chn (XX V g) p = (r : EReal) := by
  obtain ⟨x, hx⟩ := bordered_real V g hX p
  obtain ⟨a, ha⟩ := lo_real (bordered_real V g hX)
  obtain ⟨b, hb⟩ := hi_real (bordered_real V g hX)
  unfold chn
  rw [hx, ha, hb, nrm_coe]
  exact ⟨_, rfl⟩

theorem w1_eq (p : Px) : hw1 (hchn V) (ix3 g p.1 p.2) = BitVec.ofNat 32 (rb1 (XX V g) p).val := by
  obtain ⟨r, hr⟩ := chn_real V g hX p
  have e := hpre1_at (hchn V) g p.1 p.2
  rw [show hchn V (ix3 g p.1 p.2) = chn (XX V g) p from hchn_eq V g p] at e
  unfold hw1
  rw [hbin_at, e, w_256, w_six]
  unfold rb1
  rw [hr, Ideal.div_coe (y := 6) (by norm_num), ← EReal.coe_mul, Ideal.div_coe (by norm_num), ← EReal.coe_mul, Ideal.liftRound_coe]
  exact clip_word _

theorem w2_eq (p : Px) : hw2 (hchn V) (ix3 g p.1 p.2) = BitVec.ofNat 32 (rb2 (XX V g) p).val := by
  obtain ⟨r, hr⟩ := chn_real V g hX p
  have e := hpre2_at (hchn V) g p.1 p.2
  rw [show hchn V (ix3 g p.1 p.2) = chn (XX V g) p from hchn_eq V g p] at e
  unfold hw2
  rw [hbin_at, e, w_one, w_six]
  unfold rb2
  rw [hr, ← EReal.coe_mul, ← EReal.coe_one, ← EReal.coe_sub]
  exact clip_word _

theorem dst_eq : lane (hdst (hpick (hhot (hw2 (hchn V))) (hlog (hcnt (hhot (hw1 (hchn V))))))) g = dst NW (rb1 (XX V g)) (rb2 (XX V g)) := by
  funext p
  have e := hnrm_eq 0x3F800000#32 (hpick (hhot (hw2 (hchn V))) (hlog (hcnt (hhot (hw1 (hchn V)))))) g p
  rw [hpick_eq _ _ g _ _ (w1_eq V g hX) (w2_eq V g hX), w_one] at e
  exact e

theorem out_eq : lane (hpond (hfirst (hpond (hdst (hpick (hhot (hw2 (hchn V))) (hlog (hcnt (hhot (hw1 (hchn V)))))))))) g
    = out NW (brd g) (rb1 (XX V g)) (rb2 (XX V g)) := by
  have e : lane (hfirst (hpond (hdst (hpick (hhot (hw2 (hchn V))) (hlog (hcnt (hhot (hw1 (hchn V))))))))) g = maps NW (brd g) (rb1 (XX V g)) (rb2 (XX V g)) := by
    funext p
    rw [hfirst_eq, hpond_eq, dst_eq V g hX]
    rfl
  rw [hpond_eq, e]
  rfl

end Channel

theorem hsum_at (v : Arr) (i j : Fin 64) : hsum v (ix2 i j) = 0 + ∑ g : Fin 384, v (ix3 g i j) := by
  pointwise [hsum]

/-- The reference's first result at a pixel. -/
theorem hall_eq (hX : ∀ g p, ∃ r : ℝ, lane (harg V) g p = (r : EReal)) (i j : Fin 64) :
    hall (hchn V) (ix2 i j) = ∑ g : Fin 384, out NW (brd g) (rb1 (XX V g)) (rb2 (XX V g)) (i, j) := by
  unfold hall
  rw [hsum_at, zero_add]
  exact Finset.sum_congr rfl fun g _ => congrFun (out_eq V g (hX g)) (i, j)

end Cert.RDIdeal.Map

end
-- ==== Proof.LayerKDIdeal.lean ====
/- The layer kernel and the reference leave the same map at the pixels off the border, and the same corner value. -/
module

public import proofs.«01_k».proof.Proof.SumKDIdeal
public import proofs.«01_k».proof.Proof.RefKDIdeal
public import proofs.«01_k».proof.Defs
public import proofs.«01_k».proof.Proof.Gen.KDIdeal
public import proofs.«01_k».proof.Proof.Gen.RDIdeal
public import proofs.«01_k».proof.Proof.Gen.Pre_finite_small
public import proofs.«01_k».proof.Proof.Gen.On_interior_and_corner_KDIdeal

@[expose] public section

set_option maxRecDepth 16384

noncomputable section

namespace Cert.KDIdeal.Lane

open Idealize.ShloMosaic Idealize.ShloMosaic.TcCoe Cert.KDIdeal Cert.KDIdeal.Gen Cert.KDIdeal.Step Cert.KDIdeal.Acc Cert.Rarity Cert.Stage2

/-! ### The counts of pixels -/

theorem NW_card : NW = ((Fintype.card Px : ℝ) : EReal) := by
  simp [Ideal.ofBits, Ideal.ieee, -EReal.coe_mul]; norm_num

theorem inner_card : (Finset.univ.filter fun i : Fin 64 => ¬ (i.val = 0 ∨ i.val = 63)).card = 62 := by decide +kernel

theorem border_card : (Finset.univ.filter fun p : Px => p.1.val = 0 ∨ p.1.val = 63 ∨ p.2.val = 0 ∨ p.2.val = 63).card = 252 := by
  have e : (Finset.univ.filter fun p : Px => p.1.val = 0 ∨ p.1.val = 63 ∨ p.2.val = 0 ∨ p.2.val = 63)
      = ((Finset.univ.filter fun i : Fin 64 => ¬ (i.val = 0 ∨ i.val = 63)) ×ˢ (Finset.univ.filter fun i : Fin 64 => ¬ (i.val = 0 ∨ i.val = 63)))ᶜ := by
    ext p
    simp only [Finset.mem_filter, Finset.mem_univ, true_and, Finset.mem_compl, Finset.mem_product]
    tauto
  rw [e, Finset.card_compl, Finset.card_product, inner_card]
  simp

theorem brd_card (g : Fin 384) : cnt (Cert.RDIdeal.Map.brd g) = if g.val = 0 then 0 else Ideal.ofBits .f32 0x437C0000#32 := by
  split_ifs with h
  · unfold cnt
    exact Finset.sum_eq_zero fun p _ => if_neg fun hb => hb.1 h
  · have e : cnt (Cert.RDIdeal.Map.brd g) = cnt fun p : Px => p.1.val = 0 ∨ p.1.val = 63 ∨ p.2.val = 0 ∨ p.2.val = 63 :=
      cnt_congr fun p => ⟨fun hb => hb.2, fun hb => ⟨h, hb⟩⟩
    rw [e, cnt_card, border_card]
    simp [Ideal.ofBits, Ideal.ieee, -EReal.coe_mul]; norm_num

/-- What the kernel adds for channel `g` of the arguments at a pixel. -/
def part (f : Fin 384 → Px → EReal) (p : Px) (g : Fin 384) : EReal :=
  piece (if g.val = 0 then 0 else Ideal.ofBits .f32 0x437C0000#32) (bordered (f g) 0) p

/-- It is the reference's map there, off the pixels that the reference zeroes. -/
theorem part_eq (f : Fin 384 → Px → EReal) (hf : ∀ g p, ∃ r : ℝ, f g p = (r : EReal)) (p : Px) (g : Fin 384) (hp : ¬ Cert.RDIdeal.Map.brd g p) :
    part f p g = out NW (Cert.RDIdeal.Map.brd g) (rb1 (bordered (f g) 0)) (rb2 (bordered (f g) 0)) p := by
  have hX : ∀ q, ∃ r : ℝ, bordered (f g) 0 q = (r : EReal) := fun q => by
    unfold bordered
    split_ifs
    · exact ⟨0, rfl⟩
    · exact hf g q
  unfold part piece
  rw [← brd_card, NW_card]
  exact chan_eq hX (Cert.RDIdeal.Map.brd g) (fun q hq => by unfold bordered; rw [if_pos hq.2]) hp

/-! ### The kernel's two results -/

variable (m : (ℓ : Loc nD τ sig) → Buf (Elt Ideal) ℓ) (c : Dev nD)

/-- The arguments' channels. -/
def chans (g : Fin 384) (p : Px) : EReal := (m ((c.tc : Thread nD τ).loc main_arg0) : FVec Ideal S384x64x64 .f32) (ix3 g p.1 p.2)

theorem lt_three (t : Fin cfg0.N) : t.val < 3 := Nat.lt_of_lt_of_eq t.isLt N_0

theorem iblk_at (t : Fin cfg0.N) (g : Fin 128) (p : Px) : lane (iblk m c 0 t : Vec Ideal S128x64x64 .f32) g p = chans m c ⟨128 * t.val + g.val, by have := lt_three t; omega⟩ p := by
  have hi : win0_0.index t 0 = t.val ∧ win0_0.index t 1 = 0 ∧ win0_0.index t 2 = 0 := by
    rcases fin_N0 t with rfl | rfl | rfl <;> decide
  unfold lane chans iblk
  rw [View.read_apply]
  show V m c main_arg0 _ = m (c.tc.loc main_arg0) _
  unfold V
  congr 1
  funext a
  apply Fin.ext
  match a with
  | ⟨0, _⟩ => show win0_0.index t 0 * 128 + 1 * g.val = 128 * t.val + g.val; rw [hi.1]; omega
  | ⟨1, _⟩ => show win0_0.index t 1 * 64 + 1 * p.1.val = p.1.val; rw [hi.2.1]; omega
  | ⟨2, _⟩ => show win0_0.index t 2 * 64 + 1 * p.2.val = p.2.val; rw [hi.2.2]; omega

theorem blkAt_eq (t : Fin cfg0.N) (i j : Fin 64) : blkAt m c t (ix2 i j)
    = ∑ g : Fin 128, part (chans m c) (i, j) ⟨128 * t.val + g.val, by have := lt_three t; omega⟩ := by
  unfold blkAt
  rw [coord_val, blk_eq]
  refine Finset.sum_congr rfl fun g _ => ?_
  have ht := lt_three t
  rw [zeroed _ g t.val (by omega)]
  unfold part
  rw [show lane (iblk m c 0 t : Vec Ideal S128x64x64 .f32) g = chans m c ⟨128 * t.val + g.val, by omega⟩ from funext fun p => iblk_at m c t g p]
  congr 1
  have hc : (g.val = 0 ∧ t.val = 0) ↔ 128 * t.val + g.val = 0 := by omega
  exact if_congr hc rfl rfl

theorem add_at (y z : FVec Ideal S64x64 .f32) (i j : Fin 64) : k0_pay1 (F := Ideal) y z (ix2 i j) = z (ix2 i j) + y (ix2 i j) := by
  pointwise [k0_pay1]

theorem acc_eq (i j : Fin 64) : ∀ (n : ℕ) (h : n < cfg0.N), acc m c n h (ix2 i j)
    = ∑ t : Fin (n + 1), blkAt m c ⟨t.val, Nat.lt_of_le_of_lt (Nat.le_of_lt_succ t.isLt) h⟩ (ix2 i j)
  | 0, h => by simp [acc]
  | n + 1, h => by
    rw [Fin.sum_univ_castSucc, acc, add_at, acc_eq i j n]
    rfl

/-- The first result is the sum of the channels' maps. -/
theorem sums_eq (i j : Fin 64) : sums m c (ix2 i j) = ∑ g : Fin 384, part (chans m c) (i, j) g := by
  refine (acc_eq m c i j 2 (Nat.lt_of_lt_of_eq (by omega : 2 < 3) N_0.symm)).trans ?_
  rw [← Fintype.sum_equiv (finProdFinEquiv : Fin 3 × Fin 128 ≃ Fin 384) (fun q => part (chans m c) (i, j) ⟨128 * q.1.val + q.2.val, by omega⟩) _
    (fun q => congrArg _ (Fin.ext (by show 128 * q.1.val + q.2.val = q.2.val + 128 * q.1.val; omega))), Fintype.sum_prod_type]
  exact Finset.sum_congr rfl fun t _ => blkAt_eq m c _ i j

/-- The second result is the first channel's map at the corner. -/
theorem corner_eq : corner m c (ix2 0 0) = part (chans m c) (0, 0) 0 := by
  unfold corner
  rw [coord_val]
  refine (edge_eq (iblk m c 0 t0_0) _).trans ?_
  rw [show (0 : Fin 128) = ⟨0, by omega⟩ from rfl]
  rw [zeroed _ _ t0_0.val (by decide)]
  unfold part
  rw [show lane (iblk m c 0 t0_0 : Vec Ideal S128x64x64 .f32) ⟨0, by omega⟩ = chans m c 0 from funext fun p => iblk_at m c t0_0 ⟨0, by omega⟩ p]
  rfl

end Cert.KDIdeal.Lane

namespace Cert.Proof

open Idealize.ShloMosaic Idealize.ShloMosaic.TcCoe Idealize.ShloMosaic.StableHlo Idealize.SL.Sem Cert Cert.Rarity Cert.Stage2
open Cert.KDIdeal.Lane (Px NW chans part)

/-- A finite input is a real number. -/
theorem real_KD (v : FVec Ideal Cert.Pre_finite_small.S384x64x64 .f32) (hv : (Cert.Pre_finite_small.fn (F := Ideal) v) = fun _ => 1#1) (k : Cert.Pre_finite_small.S384x64x64.Idx) :
    ∃ r : ℝ, v k = (r : EReal) := by
  have h : Ideal.cmp .olt (max (v k) (-(v k))) (Ideal.ofBits .f32 0x7F800000#32) = 1#1 := congrFun hv k
  rw [w_top] at h
  have h' : max (v k) (-(v k)) < ⊤ := by
    by_contra hn
    simp [Ideal.cmp, hn] at h
  refine real_of (fun hb => ?_) fun ht => ?_
  · rw [hb] at h'; simp at h'
  · rw [ht] at h'; simp at h'

/-- The claim's mask selects the pixels off the border. -/
theorem mask_KD (v : FVec Ideal Cert.On_interior_and_corner_KDIdeal.S384x64x64 .f32) (i j : Fin 64)
    (h : (Cert.On_interior_and_corner_KDIdeal.fn (F := Ideal) v).1 (ix2 i j) = 1#1) : ¬ (i.val = 0 ∨ i.val = 63 ∨ j.val = 0 ∨ j.val = 63) := by
  have h' : IntOp.andi (IntOp.andi (IntOp.andi (IntOp.cmpi .sgt (BitVec.ofNat 32 i.val) 0#32) (IntOp.cmpi .slt (BitVec.ofNat 32 i.val) 63#32))
    (IntOp.cmpi .sgt (BitVec.ofNat 32 j.val) 0#32)) (IntOp.cmpi .slt (BitVec.ofNat 32 j.val) 63#32) = 1#1 := h
  have e := interior_word 64 (by norm_num) (by norm_num) i j 1 0
  intro hb
  rw [if_pos hb] at e
  have e' : Scalar.select (1#1) (1 : EReal) 0 = 0 := by rw [← h']; exact e
  simp [Scalar.select] at e'

theorem algebraic_KD : algebraic_KDIdeal_RDIdeal_on_interior_and_corner_KDIdeal_pre_finite_small (hKDIdeal := Cert.KDIdeal.Gen.facts) (hRDIdeal := Cert.RDIdeal.Gen.facts)
    (hPre_finite_small := Cert.Pre_finite_small.Gen.facts) (hOn_interior_and_corner_KDIdeal := Cert.On_interior_and_corner_KDIdeal.Gen.facts) := by
  intro m g m' g' hp hm
  refine ⟨fun c => Cert.KDIdeal.Acc.sums m c, fun c => Cert.KDIdeal.Acc.corner m c,
    (θ_run Cert.KDIdeal.defs _ _).mono (fun r h c => ⟨fun i _ => congrFun (h c).1 i, fun i _ => congrFun (h c).2.1 i, (h c).2.2⟩) (Cert.KDIdeal.Acc.run m g), ?_⟩
  refine (θ_run Cert.RDIdeal.defs _ _).mono (fun r h c => ?_) (Cert.RDIdeal.Map.run' m' g')
  obtain ⟨h0, h1, hr⟩ := h c
  have hf : ∀ k p, ∃ r : ℝ, chans m c k p = (r : EReal) := fun k p => real_KD _ (hp c) _
  have e : ∀ k, Cert.RDIdeal.Map.lane (Cert.RDIdeal.Map.harg (launchContents m' c)) k = chans m c k := fun k => funext fun p => congrFun (hm c) (ix3 k p.1 p.2)
  have hall : ∀ i j, Cert.RDIdeal.Map.hall (Cert.RDIdeal.Map.hchn (launchContents m' c)) (ix2 i j)
      = ∑ k : Fin 384, out NW (Cert.RDIdeal.Map.brd k) (rb1 (bordered (chans m c k) 0)) (rb2 (bordered (chans m c k) 0)) (i, j) := fun i j => by
    rw [Cert.RDIdeal.Map.hall_eq _ (fun k p => by rw [e k]; exact hf k p)]
    exact Finset.sum_congr rfl fun k _ => by unfold Cert.RDIdeal.Map.XX; rw [e k]
  refine ⟨fun y hy => ?_, fun y _ => ?_, hr⟩
  · obtain ⟨i, j, rfl⟩ : ∃ i j, y = ix2 i j := ⟨y 0, y 1, by funext a; fin_cases a <;> rfl⟩
    have hb := mask_KD _ i j hy
    rw [h0]
    refine (hall i j).trans (Eq.trans ?_ (Cert.KDIdeal.Lane.sums_eq m c i j).symm)
    exact Finset.sum_congr rfl fun k _ => (Cert.KDIdeal.Lane.part_eq _ hf (i, j) k fun hk => hb hk.2).symm
  · have hy : y = ix2 0 0 := by
      funext a; fin_cases a
      · exact Subsingleton.elim (α := Fin 1) _ _
      · exact Subsingleton.elim (α := Fin 1) _ _
    rw [hy, h1]
    refine Eq.trans (?_ : _ = Cert.RDIdeal.Map.hall (Cert.RDIdeal.Map.hchn (launchContents m' c)) (ix2 0 0)) ?_
    · unfold extractStridedSlice; congr 1; funext a; fin_cases a <;> rfl
    refine (hall 0 0).trans (Eq.trans ?_ (Cert.KDIdeal.Lane.corner_eq m c).symm)
    rw [Finset.sum_eq_single (0 : Fin 384)]
    · exact (Cert.KDIdeal.Lane.part_eq _ hf (0, 0) 0 fun hk => hk.1 rfl).symm
    · intro k _ hk
      exact out_border (B := Cert.RDIdeal.Map.brd k) _ _ Cert.KDIdeal.Lane.NW_card ⟨fun h => hk (Fin.ext h), Or.inl rfl⟩
    · intro h; exact absurd (Finset.mem_univ _) h

end Cert.Proof

end
-- ==== Proof.MapsKernel.lean ====
/- The second stage's kernel over plain pairs of indices. -/
module

public import proofs.«01_k».proof.Proof.Maps
public import proofs.«01_k».proof.Proof.Gen.KBIdeal.Skeleton
public import Idealize.ShloMosaic.Lib.Pointwise

@[expose] public section

noncomputable section

namespace Cert.Stage2

open Idealize.ShloMosaic Cert.KBIdeal Cert.KBIdeal.Gen Cert.Rarity

/-- An array of two axes as a function of pairs. -/
abbrev pr {a b : Nat} (v : Vec Ideal ⟨2, ![a, b]⟩ .f32) (p : Fin a × Fin b) : EReal := v (ix2 p.1 p.2)

theorem k_norm256 (v : Vec Ideal S240x240 .f32) : pr (k0_pay29 (F := Ideal) v) = norm ((256 : ℝ) : EReal) (pr v) := by
  funext ⟨i, j⟩
  show k0_pay29 (F := Ideal) v (ix2 i j) = nrm (v (ix2 i j)) (lo (pr v)) (hi (pr v)) _
  unfold nrm lo hi pr
  pointwise [k0_pay29]
  simp only [w_top, w_bot, w_256]
  split_ifs with h
  · rfl
  · pointwise

theorem k_weigh (r : FVec Ideal S240x240 .f32) :
    pr (k0_pay9 (F := Ideal) r (shapeCast S1x240x240 r shapeCasts_S240x240_S1x240x240)) = weigh (pr r) := by
  funext ⟨i, j⟩
  show k0_pay9 (F := Ideal) r _ (ix2 i j) = nrm (r (ix2 i j)) (lo (pr r)) (hi (pr r)) 1 * contrast (pr r)
  unfold contrast nrm lo hi pr
  pointwise [k0_pay9]
  simp only [w_top, w_bot]
  congr 1
  split_ifs with h
  · rfl
  · pointwise

theorem k_add (x y : FVec Ideal S240x240 .f32) : pr (k0_pay21 (F := Ideal) x y) = fun p => pr x p + pr y p := rfl

/-! ### The four layers -/

theorem k_pre256 (v : Vec Ideal S256x256 .f32) (b : Vec Ideal S1x1 .f32) :
    pr (k0_pay4 (F := Ideal) v b) = norm 1 (bordered (pr v) (pr b (0, 0))) := by
  have e : ∀ p : Fin 256 × Fin 256, bordered (pr v) (pr b (0, 0)) p = Scalar.select (IntOp.andi (IntOp.andi (IntOp.andi
      (IntOp.cmpi .sgt (BitVec.ofNat 32 p.1.val) 0#32) (IntOp.cmpi .slt (BitVec.ofNat 32 p.1.val) 255#32))
      (IntOp.cmpi .sgt (BitVec.ofNat 32 p.2.val) 0#32)) (IntOp.cmpi .slt (BitVec.ofNat 32 p.2.val) 255#32)) (v (ix2 p.1 p.2)) (b (ix2 0 0)) :=
    fun p => (interior_word 256 (by norm_num) (by norm_num) p.1 p.2 _ _).symm
  funext ⟨i, j⟩
  unfold norm
  simp only [funext e]
  show k0_pay4 (F := Ideal) v b (ix2 i j) = _
  unfold nrm lo hi
  pointwise [k0_pay4]
  simp only [w_top, w_bot]
  split_ifs with h
  · rfl
  · pointwise

theorem k_res256 (v : FVec Ideal S256x256 .f32) (at' : FVec Ideal S256x240 .f32) (a : FVec Ideal S240x256 .f32) :
    pr (matmul dot_S240x256_S256x240_S240x240_1_0_0_1_n_n (some .fp32) a
      (matmul dot_S256x256_S256x240_S256x240_1_0_0_1_n_n (some .fp32) v at' (constant (F := Ideal) S256x240 .f32 0x00000000#32))
      (constant (F := Ideal) S240x240 .f32 0x00000000#32)) = mm (pr a) (mm (pr v) (pr at')) := by
  funext ⟨i, j⟩
  unfold mm pr
  pointwise

theorem k_layer0 (v : Vec Ideal S256x256 .f32) (b : Vec Ideal S1x1 .f32) (at' : Vec Ideal S256x240 .f32) (a : Vec Ideal S240x256 .f32) :
    pr (k0_pay5 (F := Ideal) (k0_pay4 v b) at' (constant S256x240 .f32 0x00000000#32) a)
      = layer (pr v) (pr b (0, 0)) (pr a) (pr at') := by
  refine (k_weigh (matmul dot_S240x256_S256x240_S240x240_1_0_0_1_n_n (some .fp32) a
      (matmul dot_S256x256_S256x240_S256x240_1_0_0_1_n_n (some .fp32) (k0_pay4 v b) at' (constant (F := Ideal) S256x240 .f32 0x00000000#32))
      (constant (F := Ideal) S240x240 .f32 0x00000000#32))).trans ?_
  unfold layer
  rw [k_res256, k_pre256]

theorem k_layer1 (v : Vec Ideal S256x256 .f32) (b : Vec Ideal S1x1 .f32) (at' : Vec Ideal S256x240 .f32) (a : Vec Ideal S240x256 .f32) :
    pr (k0_pay9 (F := Ideal)
      (k0_pay7 v (iota .tc S256x256 32 [0] iota_S256x256_d0_w32) (iota .tc S256x256 32 [1] iota_S256x256_d1_w32) k0_pay6 b at' a)
      (k0_pay8 v (iota .tc S256x256 32 [0] iota_S256x256_d0_w32) (iota .tc S256x256 32 [1] iota_S256x256_d1_w32) k0_pay6 b at' a))
      = layer (pr v) (pr b (0, 0)) (pr a) (pr at') := k_layer0 v b at' a

theorem k_pre128 (v : Vec Ideal S128x128 .f32) (b : Vec Ideal S1x1 .f32) (at' : Vec Ideal S128x240 .f32) (a : Vec Ideal S240x128 .f32) :
    pr (k0_pay11 (F := Ideal) v (iota .tc S128x128 32 [1] iota_S128x128_d1_w32) k0_pay10 b at' a)
      = mm (pr a) (mm (norm 1 (bordered (pr v) (pr b (0, 0)))) (pr at')) := by
  have e : ∀ p : Fin 128 × Fin 128, bordered (pr v) (pr b (0, 0)) p = Scalar.select (IntOp.andi (IntOp.andi (IntOp.andi
      (IntOp.cmpi .sgt (BitVec.ofNat 32 p.1.val) 0#32) (IntOp.cmpi .slt (BitVec.ofNat 32 p.1.val) 127#32))
      (IntOp.cmpi .sgt (BitVec.ofNat 32 p.2.val) 0#32)) (IntOp.cmpi .slt (BitVec.ofNat 32 p.2.val) 127#32)) (v (ix2 p.1 p.2)) (b (ix2 0 0)) :=
    fun p => (interior_word 128 (by norm_num) (by norm_num) p.1 p.2 _ _).symm
  funext ⟨i, j⟩
  unfold mm norm
  simp only [funext e]
  show k0_pay11 (F := Ideal) v _ _ b at' a (ix2 i j) = _
  unfold nrm lo hi
  pointwise [k0_pay11, k0_pay10]
  simp only [w_top, w_bot]
  split_ifs with h
  · rfl
  · pointwise

theorem k_layer2 (v : Vec Ideal S128x128 .f32) (b : Vec Ideal S1x1 .f32) (at' : Vec Ideal S128x240 .f32) (a : Vec Ideal S240x128 .f32) :
    pr (k0_pay14 (F := Ideal) (k0_pay11 v (iota .tc S128x128 32 [1] iota_S128x128_d1_w32) k0_pay10 b at' a)
      (k0_pay12 v (iota .tc S128x128 32 [1] iota_S128x128_d1_w32) k0_pay10 b at' a)
      (k0_pay13 v (iota .tc S128x128 32 [1] iota_S128x128_d1_w32) k0_pay10 b at' a))
      = layer (pr v) (pr b (0, 0)) (pr a) (pr at') := by
  refine (k_weigh (k0_pay11 (F := Ideal) v (iota .tc S128x128 32 [1] iota_S128x128_d1_w32) k0_pay10 b at' a)).trans ?_
  unfold layer
  rw [k_pre128]

theorem k_pre64 (v : Vec Ideal S64x64 .f32) (b : Vec Ideal S1x1 .f32) (at' : Vec Ideal S64x240 .f32) (a : Vec Ideal S240x64 .f32) :
    pr (k0_pay17 (F := Ideal) v k0_pay15 (k0_pay16 b) at' a)
      = mm (pr a) (mm (norm 1 (bordered (pr v) (pr b (0, 0)))) (pr at')) := by
  have e : ∀ p : Fin 64 × Fin 64, bordered (pr v) (pr b (0, 0)) p = Scalar.select (IntOp.andi (IntOp.andi (IntOp.andi
      (IntOp.cmpi .sgt (BitVec.ofNat 32 p.1.val) 0#32) (IntOp.cmpi .slt (BitVec.ofNat 32 p.1.val) 63#32))
      (IntOp.cmpi .sgt (BitVec.ofNat 32 p.2.val) 0#32)) (IntOp.cmpi .slt (BitVec.ofNat 32 p.2.val) 63#32)) (v (ix2 p.1 p.2)) (b (ix2 0 0)) :=
    fun p => (interior_word 64 (by norm_num) (by norm_num) p.1 p.2 _ _).symm
  funext ⟨i, j⟩
  unfold mm norm
  simp only [funext e]
  show k0_pay17 (F := Ideal) v _ _ at' a (ix2 i j) = _
  unfold nrm lo hi
  pointwise [k0_pay17, k0_pay15, k0_pay16]
  simp only [w_top, w_bot]
  split_ifs with h
  · rfl
  · pointwise

theorem k_layer3 (v : Vec Ideal S64x64 .f32) (b : Vec Ideal S1x1 .f32) (at' : Vec Ideal S64x240 .f32) (a : Vec Ideal S240x64 .f32) :
    pr (k0_pay20 (F := Ideal) (k0_pay17 v k0_pay15 (k0_pay16 b) at' a) (k0_pay18 v k0_pay15 (k0_pay16 b) at' a)
      (k0_pay19 v k0_pay15 (k0_pay16 b) at' a))
      = layer (pr v) (pr b (0, 0)) (pr a) (pr at') := by
  refine (k_weigh (k0_pay17 (F := Ideal) v k0_pay15 (k0_pay16 b) at' a)).trans ?_
  unfold layer
  rw [k_pre64]

end Cert.Stage2

end
-- ==== Proof.MapsRef.lean ====
/- The second stage's reference over plain pairs of indices. -/
module

public import proofs.«01_k».proof.Proof.MapsKernel
public import proofs.«01_k».proof.Proof.Gen.RBIdeal.Run

@[expose] public section

noncomputable section

namespace Cert.Stage2.Host

open Idealize.ShloMosaic Cert.RBIdeal Cert.RBIdeal.Gen Cert.RBIdeal.Value Cert.Rarity Cert.Stage2

theorem sub_at {s : Shape} (a b : FVec Ideal s .f32) (i : s.Idx) : subf a b i = a i - b i := rfl

theorem mul_at {s : Shape} (a b : FVec Ideal s .f32) (i : s.Idx) : mulf a b i = a i * b i := rfl

def least_256 (v : FVec Ideal S256x256 .f32) : FVec Ideal S1x1 .f32 :=
  broadcastInDim S1x1 ![] bcast_S_S1x1 (Host.reduce FloatOps.minimumf v (constant S_ .f32 0x7F800000#32) reducesTo_S256x256_S_d0_1 h_S_)

def most_256 (v : FVec Ideal S256x256 .f32) : FVec Ideal S1x1 .f32 :=
  broadcastInDim S1x1 ![] bcast_S_S1x1 (Host.reduce FloatOps.maximumf v (constant S_ .f32 0xFF800000#32) reducesTo_S256x256_S_d0_1 h_S_)

theorem least_256_eq (v : FVec Ideal S256x256 .f32) : least_256 v (ix2 0 0) = lo (pr v) := by
  unfold lo pr
  pointwise [least_256]
  simp only [w_top]

theorem most_256_eq (v : FVec Ideal S256x256 .f32) : most_256 v (ix2 0 0) = hi (pr v) := by
  unfold hi pr
  pointwise [most_256]
  simp only [w_bot]

def least_128 (v : FVec Ideal S128x128 .f32) : FVec Ideal S1x1 .f32 :=
  broadcastInDim S1x1 ![] bcast_S_S1x1 (Host.reduce FloatOps.minimumf v (constant S_ .f32 0x7F800000#32) reducesTo_S128x128_S_d0_1 h_S_)

def most_128 (v : FVec Ideal S128x128 .f32) : FVec Ideal S1x1 .f32 :=
  broadcastInDim S1x1 ![] bcast_S_S1x1 (Host.reduce FloatOps.maximumf v (constant S_ .f32 0xFF800000#32) reducesTo_S128x128_S_d0_1 h_S_)

theorem least_128_eq (v : FVec Ideal S128x128 .f32) : least_128 v (ix2 0 0) = lo (pr v) := by
  unfold lo pr
  pointwise [least_128]
  simp only [w_top]

theorem most_128_eq (v : FVec Ideal S128x128 .f32) : most_128 v (ix2 0 0) = hi (pr v) := by
  unfold hi pr
  pointwise [most_128]
  simp only [w_bot]

def least_64 (v : FVec Ideal S64x64 .f32) : FVec Ideal S1x1 .f32 :=
  broadcastInDim S1x1 ![] bcast_S_S1x1 (Host.reduce FloatOps.minimumf v (constant S_ .f32 0x7F800000#32) reducesTo_S64x64_S_d0_1 h_S_)

def most_64 (v : FVec Ideal S64x64 .f32) : FVec Ideal S1x1 .f32 :=
  broadcastInDim S1x1 ![] bcast_S_S1x1 (Host.reduce FloatOps.maximumf v (constant S_ .f32 0xFF800000#32) reducesTo_S64x64_S_d0_1 h_S_)

theorem least_64_eq (v : FVec Ideal S64x64 .f32) : least_64 v (ix2 0 0) = lo (pr v) := by
  unfold lo pr
  pointwise [least_64]
  simp only [w_top]

theorem most_64_eq (v : FVec Ideal S64x64 .f32) : most_64 v (ix2 0 0) = hi (pr v) := by
  unfold hi pr
  pointwise [most_64]
  simp only [w_bot]

def least_240 (v : FVec Ideal S240x240 .f32) : FVec Ideal S1x1 .f32 :=
  broadcastInDim S1x1 ![] bcast_S_S1x1 (Host.reduce FloatOps.minimumf v (constant S_ .f32 0x7F800000#32) reducesTo_S240x240_S_d0_1 h_S_)

def most_240 (v : FVec Ideal S240x240 .f32) : FVec Ideal S1x1 .f32 :=
  broadcastInDim S1x1 ![] bcast_S_S1x1 (Host.reduce FloatOps.maximumf v (constant S_ .f32 0xFF800000#32) reducesTo_S240x240_S_d0_1 h_S_)

theorem least_240_eq (v : FVec Ideal S240x240 .f32) : least_240 v (ix2 0 0) = lo (pr v) := by
  unfold lo pr
  pointwise [least_240]
  simp only [w_top]

theorem most_240_eq (v : FVec Ideal S240x240 .f32) : most_240 v (ix2 0 0) = hi (pr v) := by
  unfold hi pr
  pointwise [most_240]
  simp only [w_bot]

def h1_256' (v : FVec Ideal S256x256 .f32) (mn den : FVec Ideal S1x1 .f32) : FVec Ideal S256x256 .f32 :=
  (select (broadcastInDim S256x256 ![0, 1] bcast_S1x1_S256x256_0_1 (cmpf .oeq den (broadcastInDim S1x1 ![] bcast_S_S1x1 (constant S_ .f32 0x00000000#32))))
      (broadcastInDim S256x256 ![] bcast_S_S256x256 (constant S_ .f32 0x00000000#32))
      (addf (mulf (Host.divf (subf v (broadcastInDim S256x256 ![0, 1] bcast_S1x1_S256x256_0_1 mn))
        (broadcastInDim S256x256 ![0, 1] bcast_S1x1_S256x256_0_1 (select (cmpf .oeq den (broadcastInDim S1x1 ![] bcast_S_S1x1 (constant S_ .f32 0x00000000#32)))
          (broadcastInDim S1x1 ![] bcast_S_S1x1 (constant S_ .f32 0x3F800000#32)) den)))
        (broadcastInDim S256x256 ![] bcast_S_S256x256 (constant S_ .f32 0x3F800000#32))) (broadcastInDim S256x256 ![] bcast_S_S256x256 (constant S_ .f32 0x00000000#32))))

def h1_256 (v : FVec Ideal S256x256 .f32) : FVec Ideal S256x256 .f32 := h1_256' v (least_256 v) (subf (most_256 v) (least_256 v))

theorem h1_256'_eq (v : FVec Ideal S256x256 .f32) (mn den : FVec Ideal S1x1 .f32) (i j : Fin 256) : h1_256' v mn den (ix2 i j)
    = Scalar.select (Ideal.cmp .oeq (den (ix2 0 0)) (Ideal.ofBits .f32 0x00000000#32)) (Ideal.ofBits .f32 0x00000000#32)
      (Ideal.div (v (ix2 i j) - mn (ix2 0 0)) (Scalar.select (Ideal.cmp .oeq (den (ix2 0 0)) (Ideal.ofBits .f32 0x00000000#32))
        (Ideal.ofBits .f32 0x3F800000#32) (den (ix2 0 0))) * (Ideal.ofBits .f32 0x3F800000#32) + Ideal.ofBits .f32 0x00000000#32) := by
  pointwise [h1_256']

theorem h1_256_eq (v : FVec Ideal S256x256 .f32) : pr (h1_256 v) = norm 1 (pr v) := by
  funext ⟨i, j⟩
  have e := h1_256'_eq v (least_256 v) (subf (most_256 v) (least_256 v)) i j
  rw [sub_at, least_256_eq, most_256_eq] at e
  refine (e.trans (rnrm_eq (v (ix2 i j)) (lo (pr v)) (hi (pr v)) (Ideal.ofBits .f32 0x3F800000#32))).trans ?_
  rw [w_one]
  rfl

def h1_128' (v : FVec Ideal S128x128 .f32) (mn den : FVec Ideal S1x1 .f32) : FVec Ideal S128x128 .f32 :=
  (select (broadcastInDim S128x128 ![0, 1] bcast_S1x1_S128x128_0_1 (cmpf .oeq den (broadcastInDim S1x1 ![] bcast_S_S1x1 (constant S_ .f32 0x00000000#32))))
      (broadcastInDim S128x128 ![] bcast_S_S128x128 (constant S_ .f32 0x00000000#32))
      (addf (mulf (Host.divf (subf v (broadcastInDim S128x128 ![0, 1] bcast_S1x1_S128x128_0_1 mn))
        (broadcastInDim S128x128 ![0, 1] bcast_S1x1_S128x128_0_1 (select (cmpf .oeq den (broadcastInDim S1x1 ![] bcast_S_S1x1 (constant S_ .f32 0x00000000#32)))
          (broadcastInDim S1x1 ![] bcast_S_S1x1 (constant S_ .f32 0x3F800000#32)) den)))
        (broadcastInDim S128x128 ![] bcast_S_S128x128 (constant S_ .f32 0x3F800000#32))) (broadcastInDim S128x128 ![] bcast_S_S128x128 (constant S_ .f32 0x00000000#32))))

def h1_128 (v : FVec Ideal S128x128 .f32) : FVec Ideal S128x128 .f32 := h1_128' v (least_128 v) (subf (most_128 v) (least_128 v))

theorem h1_128'_eq (v : FVec Ideal S128x128 .f32) (mn den : FVec Ideal S1x1 .f32) (i j : Fin 128) : h1_128' v mn den (ix2 i j)
    = Scalar.select (Ideal.cmp .oeq (den (ix2 0 0)) (Ideal.ofBits .f32 0x00000000#32)) (Ideal.ofBits .f32 0x00000000#32)
      (Ideal.div (v (ix2 i j) - mn (ix2 0 0)) (Scalar.select (Ideal.cmp .oeq (den (ix2 0 0)) (Ideal.ofBits .f32 0x00000000#32))
        (Ideal.ofBits .f32 0x3F800000#32) (den (ix2 0 0))) * (Ideal.ofBits .f32 0x3F800000#32) + Ideal.ofBits .f32 0x00000000#32) := by
  pointwise [h1_128']

theorem h1_128_eq (v : FVec Ideal S128x128 .f32) : pr (h1_128 v) = norm 1 (pr v) := by
  funext ⟨i, j⟩
  have e := h1_128'_eq v (least_128 v) (subf (most_128 v) (least_128 v)) i j
  rw [sub_at, least_128_eq, most_128_eq] at e
  refine (e.trans (rnrm_eq (v (ix2 i j)) (lo (pr v)) (hi (pr v)) (Ideal.ofBits .f32 0x3F800000#32))).trans ?_
  rw [w_one]
  rfl

def h1_64' (v : FVec Ideal S64x64 .f32) (mn den : FVec Ideal S1x1 .f32) : FVec Ideal S64x64 .f32 :=
  (select (broadcastInDim S64x64 ![0, 1] bcast_S1x1_S64x64_0_1 (cmpf .oeq den (broadcastInDim S1x1 ![] bcast_S_S1x1 (constant S_ .f32 0x00000000#32))))
      (broadcastInDim S64x64 ![] bcast_S_S64x64 (constant S_ .f32 0x00000000#32))
      (addf (mulf (Host.divf (subf v (broadcastInDim S64x64 ![0, 1] bcast_S1x1_S64x64_0_1 mn))
        (broadcastInDim S64x64 ![0, 1] bcast_S1x1_S64x64_0_1 (select (cmpf .oeq den (broadcastInDim S1x1 ![] bcast_S_S1x1 (constant S_ .f32 0x00000000#32)))
          (broadcastInDim S1x1 ![] bcast_S_S1x1 (constant S_ .f32 0x3F800000#32)) den)))
        (broadcastInDim S64x64 ![] bcast_S_S64x64 (constant S_ .f32 0x3F800000#32))) (broadcastInDim S64x64 ![] bcast_S_S64x64 (constant S_ .f32 0x00000000#32))))

def h1_64 (v : FVec Ideal S64x64 .f32) : FVec Ideal S64x64 .f32 := h1_64' v (least_64 v) (subf (most_64 v) (least_64 v))

theorem h1_64'_eq (v : FVec Ideal S64x64 .f32) (mn den : FVec Ideal S1x1 .f32) (i j : Fin 64) : h1_64' v mn den (ix2 i j)
    = Scalar.select (Ideal.cmp .oeq (den (ix2 0 0)) (Ideal.ofBits .f32 0x00000000#32)) (Ideal.ofBits .f32 0x00000000#32)
      (Ideal.div (v (ix2 i j) - mn (ix2 0 0)) (Scalar.select (Ideal.cmp .oeq (den (ix2 0 0)) (Ideal.ofBits .f32 0x00000000#32))
        (Ideal.ofBits .f32 0x3F800000#32) (den (ix2 0 0))) * (Ideal.ofBits .f32 0x3F800000#32) + Ideal.ofBits .f32 0x00000000#32) := by
  pointwise [h1_64']

theorem h1_64_eq (v : FVec Ideal S64x64 .f32) : pr (h1_64 v) = norm 1 (pr v) := by
  funext ⟨i, j⟩
  have e := h1_64'_eq v (least_64 v) (subf (most_64 v) (least_64 v)) i j
  rw [sub_at, least_64_eq, most_64_eq] at e
  refine (e.trans (rnrm_eq (v (ix2 i j)) (lo (pr v)) (hi (pr v)) (Ideal.ofBits .f32 0x3F800000#32))).trans ?_
  rw [w_one]
  rfl

def h1_240' (v : FVec Ideal S240x240 .f32) (mn den : FVec Ideal S1x1 .f32) : FVec Ideal S240x240 .f32 :=
  (select (broadcastInDim S240x240 ![0, 1] bcast_S1x1_S240x240_0_1 (cmpf .oeq den (broadcastInDim S1x1 ![] bcast_S_S1x1 (constant S_ .f32 0x00000000#32))))
      (broadcastInDim S240x240 ![] bcast_S_S240x240 (constant S_ .f32 0x00000000#32))
      (addf (mulf (Host.divf (subf v (broadcastInDim S240x240 ![0, 1] bcast_S1x1_S240x240_0_1 mn))
        (broadcastInDim S240x240 ![0, 1] bcast_S1x1_S240x240_0_1 (select (cmpf .oeq den (broadcastInDim S1x1 ![] bcast_S_S1x1 (constant S_ .f32 0x00000000#32)))
          (broadcastInDim S1x1 ![] bcast_S_S1x1 (constant S_ .f32 0x3F800000#32)) den)))
        (broadcastInDim S240x240 ![] bcast_S_S240x240 (constant S_ .f32 0x3F800000#32))) (broadcastInDim S240x240 ![] bcast_S_S240x240 (constant S_ .f32 0x00000000#32))))

def h1_240 (v : FVec Ideal S240x240 .f32) : FVec Ideal S240x240 .f32 := h1_240' v (least_240 v) (subf (most_240 v) (least_240 v))

theorem h1_240'_eq (v : FVec Ideal S240x240 .f32) (mn den : FVec Ideal S1x1 .f32) (i j : Fin 240) : h1_240' v mn den (ix2 i j)
    = Scalar.select (Ideal.cmp .oeq (den (ix2 0 0)) (Ideal.ofBits .f32 0x00000000#32)) (Ideal.ofBits .f32 0x00000000#32)
      (Ideal.div (v (ix2 i j) - mn (ix2 0 0)) (Scalar.select (Ideal.cmp .oeq (den (ix2 0 0)) (Ideal.ofBits .f32 0x00000000#32))
        (Ideal.ofBits .f32 0x3F800000#32) (den (ix2 0 0))) * (Ideal.ofBits .f32 0x3F800000#32) + Ideal.ofBits .f32 0x00000000#32) := by
  pointwise [h1_240']

theorem h1_240_eq (v : FVec Ideal S240x240 .f32) : pr (h1_240 v) = norm 1 (pr v) := by
  funext ⟨i, j⟩
  have e := h1_240'_eq v (least_240 v) (subf (most_240 v) (least_240 v)) i j
  rw [sub_at, least_240_eq, most_240_eq] at e
  refine (e.trans (rnrm_eq (v (ix2 i j)) (lo (pr v)) (hi (pr v)) (Ideal.ofBits .f32 0x3F800000#32))).trans ?_
  rw [w_one]
  rfl

def h256_240' (v : FVec Ideal S240x240 .f32) (mn den : FVec Ideal S1x1 .f32) : FVec Ideal S240x240 .f32 :=
  (select (broadcastInDim S240x240 ![0, 1] bcast_S1x1_S240x240_0_1 (cmpf .oeq den (broadcastInDim S1x1 ![] bcast_S_S1x1 (constant S_ .f32 0x00000000#32))))
      (broadcastInDim S240x240 ![] bcast_S_S240x240 (constant S_ .f32 0x00000000#32))
      (addf (mulf (Host.divf (subf v (broadcastInDim S240x240 ![0, 1] bcast_S1x1_S240x240_0_1 mn))
        (broadcastInDim S240x240 ![0, 1] bcast_S1x1_S240x240_0_1 (select (cmpf .oeq den (broadcastInDim S1x1 ![] bcast_S_S1x1 (constant S_ .f32 0x00000000#32)))
          (broadcastInDim S1x1 ![] bcast_S_S1x1 (constant S_ .f32 0x3F800000#32)) den)))
        (broadcastInDim S240x240 ![] bcast_S_S240x240 (constant S_ .f32 0x43800000#32))) (broadcastInDim S240x240 ![] bcast_S_S240x240 (constant S_ .f32 0x00000000#32))))

def h256_240 (v : FVec Ideal S240x240 .f32) : FVec Ideal S240x240 .f32 := h256_240' v (least_240 v) (subf (most_240 v) (least_240 v))

theorem h256_240'_eq (v : FVec Ideal S240x240 .f32) (mn den : FVec Ideal S1x1 .f32) (i j : Fin 240) : h256_240' v mn den (ix2 i j)
    = Scalar.select (Ideal.cmp .oeq (den (ix2 0 0)) (Ideal.ofBits .f32 0x00000000#32)) (Ideal.ofBits .f32 0x00000000#32)
      (Ideal.div (v (ix2 i j) - mn (ix2 0 0)) (Scalar.select (Ideal.cmp .oeq (den (ix2 0 0)) (Ideal.ofBits .f32 0x00000000#32))
        (Ideal.ofBits .f32 0x3F800000#32) (den (ix2 0 0))) * (Ideal.ofBits .f32 0x43800000#32) + Ideal.ofBits .f32 0x00000000#32) := by
  pointwise [h256_240']

theorem h256_240_eq (v : FVec Ideal S240x240 .f32) : pr (h256_240 v) = norm ((256 : ℝ) : EReal) (pr v) := by
  funext ⟨i, j⟩
  have e := h256_240'_eq v (least_240 v) (subf (most_240 v) (least_240 v)) i j
  rw [sub_at, least_240_eq, most_240_eq] at e
  refine (e.trans (rnrm_eq (v (ix2 i j)) (lo (pr v)) (hi (pr v)) (Ideal.ofBits .f32 0x43800000#32))).trans ?_
  rw [w_256]
  rfl

def hb_256 (m : FVec Ideal S256x256 .f32) (b : FVec Ideal S1x1 .f32) : FVec Ideal S256x256 .f32 :=
  select (ori (ori (ori (cmpi .eq (iotaInDim S256x256 32 0) (broadcastInDim S256x256 ![] bcast_S_S256x256 (constantI S_ 32 0#32)))
    (cmpi .eq (iotaInDim S256x256 32 0) (broadcastInDim S256x256 ![] bcast_S_S256x256 (constantI S_ 32 255#32))))
    (cmpi .eq (iotaInDim S256x256 32 1) (broadcastInDim S256x256 ![] bcast_S_S256x256 (constantI S_ 32 0#32))))
    (cmpi .eq (iotaInDim S256x256 32 1) (broadcastInDim S256x256 ![] bcast_S_S256x256 (constantI S_ 32 255#32))))
    (broadcastInDim S256x256 ![0, 1] bcast_S1x1_S256x256_0_1 b) m

theorem hb_256_eq (m : FVec Ideal S256x256 .f32) (b : FVec Ideal S1x1 .f32) : pr (hb_256 m b) = bordered (pr m) (pr b (0, 0)) := by
  funext ⟨i, j⟩
  refine Eq.trans ?_ (border_word 256 (by norm_num) (by norm_num) i j (m (ix2 i j)) (b (ix2 0 0)))
  show hb_256 m b (ix2 i j) = _
  pointwise [hb_256]

def hm_256 (a : FVec Ideal S240x256 .f32) (v : FVec Ideal S256x256 .f32) (t : FVec Ideal S256x240 .f32) : FVec Ideal S240x240 .f32 :=
  Host.dotGeneral dot_S240x256_S256x240_S240x240_1_0_0_1_n_n none a (Host.dotGeneral dot_S256x256_S256x240_S256x240_1_0_0_1_n_n none v t)

theorem hm_256_eq (a : FVec Ideal S240x256 .f32) (v : FVec Ideal S256x256 .f32) (t : FVec Ideal S256x240 .f32) :
    pr (hm_256 a v t) = mm (pr a) (mm (pr v) (pr t)) := by
  funext ⟨i, j⟩
  show hm_256 a v t (ix2 i j) = _
  unfold mm pr
  pointwise [hm_256]

def hb_128 (m : FVec Ideal S128x128 .f32) (b : FVec Ideal S1x1 .f32) : FVec Ideal S128x128 .f32 :=
  select (ori (ori (ori (cmpi .eq (iotaInDim S128x128 32 0) (broadcastInDim S128x128 ![] bcast_S_S128x128 (constantI S_ 32 0#32)))
    (cmpi .eq (iotaInDim S128x128 32 0) (broadcastInDim S128x128 ![] bcast_S_S128x128 (constantI S_ 32 127#32))))
    (cmpi .eq (iotaInDim S128x128 32 1) (broadcastInDim S128x128 ![] bcast_S_S128x128 (constantI S_ 32 0#32))))
    (cmpi .eq (iotaInDim S128x128 32 1) (broadcastInDim S128x128 ![] bcast_S_S128x128 (constantI S_ 32 127#32))))
    (broadcastInDim S128x128 ![0, 1] bcast_S1x1_S128x128_0_1 b) m

theorem hb_128_eq (m : FVec Ideal S128x128 .f32) (b : FVec Ideal S1x1 .f32) : pr (hb_128 m b) = bordered (pr m) (pr b (0, 0)) := by
  funext ⟨i, j⟩
  refine Eq.trans ?_ (border_word 128 (by norm_num) (by norm_num) i j (m (ix2 i j)) (b (ix2 0 0)))
  show hb_128 m b (ix2 i j) = _
  pointwise [hb_128]

def hm_128 (a : FVec Ideal S240x128 .f32) (v : FVec Ideal S128x128 .f32) (t : FVec Ideal S128x240 .f32) : FVec Ideal S240x240 .f32 :=
  Host.dotGeneral dot_S240x128_S128x240_S240x240_1_0_0_1_n_n none a (Host.dotGeneral dot_S128x128_S128x240_S128x240_1_0_0_1_n_n none v t)

theorem hm_128_eq (a : FVec Ideal S240x128 .f32) (v : FVec Ideal S128x128 .f32) (t : FVec Ideal S128x240 .f32) :
    pr (hm_128 a v t) = mm (pr a) (mm (pr v) (pr t)) := by
  funext ⟨i, j⟩
  show hm_128 a v t (ix2 i j) = _
  unfold mm pr
  pointwise [hm_128]

def hb_64 (m : FVec Ideal S64x64 .f32) (b : FVec Ideal S1x1 .f32) : FVec Ideal S64x64 .f32 :=
  select (ori (ori (ori (cmpi .eq (iotaInDim S64x64 32 0) (broadcastInDim S64x64 ![] bcast_S_S64x64 (constantI S_ 32 0#32)))
    (cmpi .eq (iotaInDim S64x64 32 0) (broadcastInDim S64x64 ![] bcast_S_S64x64 (constantI S_ 32 63#32))))
    (cmpi .eq (iotaInDim S64x64 32 1) (broadcastInDim S64x64 ![] bcast_S_S64x64 (constantI S_ 32 0#32))))
    (cmpi .eq (iotaInDim S64x64 32 1) (broadcastInDim S64x64 ![] bcast_S_S64x64 (constantI S_ 32 63#32))))
    (broadcastInDim S64x64 ![0, 1] bcast_S1x1_S64x64_0_1 b) m

theorem hb_64_eq (m : FVec Ideal S64x64 .f32) (b : FVec Ideal S1x1 .f32) : pr (hb_64 m b) = bordered (pr m) (pr b (0, 0)) := by
  funext ⟨i, j⟩
  refine Eq.trans ?_ (border_word 64 (by norm_num) (by norm_num) i j (m (ix2 i j)) (b (ix2 0 0)))
  show hb_64 m b (ix2 i j) = _
  pointwise [hb_64]

def hm_64 (a : FVec Ideal S240x64 .f32) (v : FVec Ideal S64x64 .f32) (t : FVec Ideal S64x240 .f32) : FVec Ideal S240x240 .f32 :=
  Host.dotGeneral dot_S240x64_S64x240_S240x240_1_0_0_1_n_n none a (Host.dotGeneral dot_S64x64_S64x240_S64x240_1_0_0_1_n_n none v t)

theorem hm_64_eq (a : FVec Ideal S240x64 .f32) (v : FVec Ideal S64x64 .f32) (t : FVec Ideal S64x240 .f32) :
    pr (hm_64 a v t) = mm (pr a) (mm (pr v) (pr t)) := by
  funext ⟨i, j⟩
  show hm_64 a v t (ix2 i j) = _
  unfold mm pr
  pointwise [hm_64]

def whole (v : FVec Ideal S240x240 .f32) : FVec Ideal S1x1 .f32 :=
  broadcastInDim S1x1 ![] bcast_S_S1x1 (Host.reduceAdd v (constant S_ .f32 0x00000000#32) reducesTo_S240x240_S_d0_1 h_S_)

def gap' (mx sm : FVec Ideal S1x1 .f32) : FVec Ideal S1x1 .f32 :=
  subf mx (Host.divf sm (broadcastInDim S1x1 ![] bcast_S_S1x1 (constant S_ .f32 0x47610000#32)))

def hc' (g : FVec Ideal S1x1 .f32) : FVec Ideal S240x240 .f32 :=
  broadcastInDim S240x240 ![0, 1] bcast_S1x1_S240x240_0_1 (mulf g g)

def hc (v : FVec Ideal S240x240 .f32) : FVec Ideal S240x240 .f32 := hc' (gap' (most_240 v) (whole v))

theorem whole_eq (v : FVec Ideal S240x240 .f32) : whole v (ix2 0 0) = ∑ i, ∑ j, pr v (i, j) := by
  unfold pr
  pointwise [whole]

theorem gap'_eq (mx sm : FVec Ideal S1x1 .f32) : gap' mx sm (ix2 0 0) = mx (ix2 0 0) - Ideal.div (sm (ix2 0 0)) (Ideal.ofBits .f32 0x47610000#32) := by
  pointwise [gap']

theorem hc'_eq (g : FVec Ideal S1x1 .f32) (i j : Fin 240) : hc' g (ix2 i j) = g (ix2 0 0) * g (ix2 0 0) := by
  pointwise [hc']

theorem hc_eq (v : FVec Ideal S240x240 .f32) (p : Fin 240 × Fin 240) : pr (hc v) p = contrast (pr v) := by
  have e := hc'_eq (gap' (most_240 v) (whole v)) p.1 p.2
  rw [gap'_eq, whole_eq, most_240_eq] at e
  exact e

theorem at_mul (a b : FVec Ideal S240x240 .f32) : pr (mulf a b) = fun p => pr a p * pr b p := rfl

theorem weigh_eq (v : FVec Ideal S240x240 .f32) : pr (mulf (h1_240 v) (hc v)) = weigh (pr v) := by
  rw [at_mul]
  funext p
  rw [h1_240_eq, hc_eq, weigh]

theorem res0_eq (V0 : Valuation τ sig (Elt Ideal)) : res_main_v35 V0 = hm_256 (V0 (Proc.devRef .tc main_arg8)) (h1_256 (hb_256 (V0 (Proc.devRef .tc main_arg0)) (V0 (Proc.devRef .tc main_arg1)))) (V0 (Proc.devRef .tc main_arg9)) := rfl

theorem lay0_eq (V0 : Valuation τ sig (Elt Ideal)) : pr (mulf (h1_240 (res_main_v35 V0)) (hc (res_main_v35 V0)))
    = layer (pr (V0 (Proc.devRef .tc main_arg0))) (pr (V0 (Proc.devRef .tc main_arg1)) (0, 0)) (pr (V0 (Proc.devRef .tc main_arg8))) (pr (V0 (Proc.devRef .tc main_arg9))) := by
  rw [weigh_eq, res0_eq, hm_256_eq, h1_256_eq, hb_256_eq]
  rfl

theorem res1_eq (V0 : Valuation τ sig (Elt Ideal)) : res_main_v71 V0 = hm_256 (V0 (Proc.devRef .tc main_arg8)) (h1_256 (hb_256 (V0 (Proc.devRef .tc main_arg2)) (V0 (Proc.devRef .tc main_arg3)))) (V0 (Proc.devRef .tc main_arg9)) := rfl

theorem lay1_eq (V0 : Valuation τ sig (Elt Ideal)) : pr (mulf (h1_240 (res_main_v71 V0)) (hc (res_main_v71 V0)))
    = layer (pr (V0 (Proc.devRef .tc main_arg2))) (pr (V0 (Proc.devRef .tc main_arg3)) (0, 0)) (pr (V0 (Proc.devRef .tc main_arg8))) (pr (V0 (Proc.devRef .tc main_arg9))) := by
  rw [weigh_eq, res1_eq, hm_256_eq, h1_256_eq, hb_256_eq]
  rfl

theorem res2_eq (V0 : Valuation τ sig (Elt Ideal)) : res_main_v107 V0 = hm_128 (V0 (Proc.devRef .tc main_arg10)) (h1_128 (hb_128 (V0 (Proc.devRef .tc main_arg4)) (V0 (Proc.devRef .tc main_arg5)))) (V0 (Proc.devRef .tc main_arg11)) := rfl

theorem lay2_eq (V0 : Valuation τ sig (Elt Ideal)) : pr (mulf (h1_240 (res_main_v107 V0)) (hc (res_main_v107 V0)))
    = layer (pr (V0 (Proc.devRef .tc main_arg4))) (pr (V0 (Proc.devRef .tc main_arg5)) (0, 0)) (pr (V0 (Proc.devRef .tc main_arg10))) (pr (V0 (Proc.devRef .tc main_arg11))) := by
  rw [weigh_eq, res2_eq, hm_128_eq, h1_128_eq, hb_128_eq]
  rfl

theorem res3_eq (V0 : Valuation τ sig (Elt Ideal)) : res_main_v143 V0 = hm_64 (V0 (Proc.devRef .tc main_arg12)) (h1_64 (hb_64 (V0 (Proc.devRef .tc main_arg6)) (V0 (Proc.devRef .tc main_arg7)))) (V0 (Proc.devRef .tc main_arg13)) := rfl

theorem lay3_eq (V0 : Valuation τ sig (Elt Ideal)) : pr (mulf (h1_240 (res_main_v143 V0)) (hc (res_main_v143 V0)))
    = layer (pr (V0 (Proc.devRef .tc main_arg6))) (pr (V0 (Proc.devRef .tc main_arg7)) (0, 0)) (pr (V0 (Proc.devRef .tc main_arg12))) (pr (V0 (Proc.devRef .tc main_arg13))) := by
  rw [weigh_eq, res3_eq, hm_64_eq, h1_64_eq, hb_64_eq]
  rfl

/-- The three planes, one array of three axes. -/
def planes (x y z : FVec Ideal S240x240 .f32) : FVec Ideal S3x240x240 .f32 :=
  concatenate S3x240x240 0 [⟨S1x240x240, (broadcastInDim S1x240x240 ![1, 2] bcast_S240x240_S1x240x240_1_2 x : (⟨S1x240x240, .f32⟩ : BufTy).Contents (Elt Ideal))⟩,
    ⟨S1x240x240, (broadcastInDim S1x240x240 ![1, 2] bcast_S240x240_S1x240x240_1_2 y : (⟨S1x240x240, .f32⟩ : BufTy).Contents (Elt Ideal))⟩,
    ⟨S1x240x240, (broadcastInDim S1x240x240 ![1, 2] bcast_S240x240_S1x240x240_1_2 z : (⟨S1x240x240, .f32⟩ : BufTy).Contents (Elt Ideal))⟩]
    concatenates_S1x240x240_S1x240x240_S1x240x240_S3x240x240_d0

theorem planes0 (x y z : FVec Ideal S240x240 .f32) (i j : Fin 240) : planes x y z (ix3 0 i j) = x (ix2 i j) := by
  pointwise [planes]

theorem planes1 (x y z : FVec Ideal S240x240 .f32) (i j : Fin 240) : planes x y z (ix3 1 i j) = y (ix2 i j) := by
  pointwise [planes]

theorem planes2 (x y z : FVec Ideal S240x240 .f32) (i j : Fin 240) : planes x y z (ix3 2 i j) = z (ix2 i j) := by
  pointwise [planes]

theorem total (x y z : FVec Ideal S240x240 .f32) (i j : Fin 240) :
    Host.reduceAdd (planes x y z) (constant S_ .f32 0x00000000#32) reducesTo_S3x240x240_S240x240_d0 h_S_ (ix2 i j)
      = x (ix2 i j) + y (ix2 i j) + z (ix2 i j) := by
  rw [← planes0 x y z, ← planes1 x y z i j, ← planes2 x y z i j]
  generalize planes x y z = w
  pointwise
  exact Fin.sum_univ_three _

end Cert.Stage2.Host

end
-- ==== Proof.MapsValue.lean ====
/- The second stage's kernel: its two arrays over plain pairs of indices. -/
module

public import proofs.«01_k».proof.Proof.MapsKernel
public import proofs.«01_k».proof.Proof.Gen.KBIdeal.Value
public import Idealize.ShloMosaic.Lib.Pipeline.ValueKit

@[expose] public section

noncomputable section

namespace Cert.Stage2

open Idealize.ShloMosaic Cert.KBIdeal Cert.KBIdeal.Gen Cert.KBIdeal.Value Cert.Rarity

/-! ### The three planes and their total, of the four layers -/

section Planes

variable (a b c d : FVec Ideal S240x240 .f32)

theorem add_at (a b : FVec Ideal S240x240 .f32) : pr (addf a b) = fun p => pr a p + pr b p := rfl

theorem zero_at : pr (k0_pay22 (F := Ideal)) = fun _ => 0 := by
  funext ⟨i, j⟩
  show k0_pay22 (F := Ideal) (ix2 i j) = 0
  pointwise [k0_pay22]

theorem total_shape : k0_pay3 (F := Ideal) (k0_pay31 c (k0_pay22 (F := Ideal)) (k0_pay25 a b)
    (Scalar.cmpf .oeq (k0_pay24 a b) (Scalar.ofBits .f32 0x00000000#32)) (k0_pay26 (F := Ideal))) (k0_pay33 d) (k0_pay34 d)
    = addf (addf (addf (k0_pay22 (F := Ideal)) (k0_pay29 (k0_pay21 a b))) (k0_pay29 c)) (k0_pay29 d) := rfl

theorem total_eq : pr (k0_pay3 (F := Ideal) (k0_pay31 c (k0_pay22 (F := Ideal)) (k0_pay25 a b)
    (Scalar.cmpf .oeq (k0_pay24 a b) (Scalar.ofBits .f32 0x00000000#32)) (k0_pay26 (F := Ideal))) (k0_pay33 d) (k0_pay34 d))
    = fun p => norm ((256 : ℝ) : EReal) (fun q => pr a q + pr b q) p + norm ((256 : ℝ) : EReal) (pr c) p + norm ((256 : ℝ) : EReal) (pr d) p := by
  rw [total_shape, add_at, add_at, add_at, zero_at, k_norm256, k_norm256, k_norm256, k_add]
  funext p
  show (0 : EReal) + _ + _ + _ = _
  rw [zero_add]

theorem lift_at (v : FVec Ideal S240x240 .f32) (i j : Fin 240) :
    shapeCast S1x240x240 v shapeCasts_S240x240_S1x240x240 (ix3 0 i j) = v (ix2 i j) := by
  pointwise

theorem first_shape : k0_pay28 (F := Ideal) (k0_pay25 a b)
    (Scalar.cmpf .oeq (k0_pay24 a b) (Scalar.ofBits .f32 0x00000000#32)) (k0_pay26 (F := Ideal))
    = shapeCast S1x240x240 (k0_pay29 (k0_pay21 a b)) shapeCasts_S240x240_S1x240x240 := rfl

theorem last_shape : k0_pay2 (F := Ideal) (k0_pay33 d) (k0_pay34 d)
    = shapeCast S1x240x240 (k0_pay29 d) shapeCasts_S240x240_S1x240x240 := rfl

theorem mid_shape : k0_pay30 (F := Ideal) c = shapeCast S1x240x240 (k0_pay29 c) shapeCasts_S240x240_S1x240x240 := rfl

theorem emb0 (i j : Fin 240) : r0_10.emb (ix3 0 i j) = (ix3 0 i j : S3x240x240.Idx) := by
  funext q; refine Fin.ext ((ValueKit.rect_emb_unit_val _ _ _ _ q).trans ?_); fin_cases q <;> simp [ix3]
theorem emb1 (i j : Fin 240) : r0_11.emb (ix3 0 i j) = (ix3 1 i j : S3x240x240.Idx) := by
  funext q; refine Fin.ext ((ValueKit.rect_emb_unit_val _ _ _ _ q).trans ?_); fin_cases q <;> simp [ix3]
theorem emb2 (i j : Fin 240) : r0_12.emb (ix3 0 i j) = (ix3 2 i j : S3x240x240.Idx) := by
  funext q; refine Fin.ext ((ValueKit.rect_emb_unit_val _ _ _ _ q).trans ?_); fin_cases q <;> simp [ix3]

theorem off11 (k : Fin 3) (h : k.val ≠ 1) (i j : Fin 240) : (ix3 k i j : S3x240x240.Idx) ∉ r0_11.set := fun m => by
  have m := (Rect.mem_set_unit.1 m) 0
  have : 1 ≤ k.val ∧ k.val < 1 + 1 := m
  omega
theorem off12 (k : Fin 3) (h : k.val ≠ 2) (i j : Fin 240) : (ix3 k i j : S3x240x240.Idx) ∉ r0_12.set := fun m => by
  have m := (Rect.mem_set_unit.1 m) 0
  have : 2 ≤ k.val ∧ k.val < 2 + 1 := m
  omega

variable (w0 w1 w2 : S1x240x240.Idx → Elt Ideal .f32)

theorem canon2 (i j : Fin 240) : View.canon (Val := Elt Ideal) (s := S3x240x240) (e := .f32) [⟨r0_12, w2⟩, ⟨r0_11, w1⟩, ⟨r0_10, w0⟩] (ix3 2 i j) = w2 (ix3 0 i j) := by
  rw [← emb2]; exact View.canon_cons_emb (Val := Elt Ideal) (e := .f32) r0_12 w2 _ (ix3 0 i j)
theorem canon1 (i j : Fin 240) : View.canon (Val := Elt Ideal) (s := S3x240x240) (e := .f32) [⟨r0_12, w2⟩, ⟨r0_11, w1⟩, ⟨r0_10, w0⟩] (ix3 1 i j) = w1 (ix3 0 i j) := by
  refine (View.canon_cons_of_not_mem (Val := Elt Ideal) (s := S3x240x240) (e := .f32) (⟨r0_12, w2⟩ : View.Piece (Elt Ideal) S3x240x240 .f32) [⟨r0_11, w1⟩, ⟨r0_10, w0⟩] (off12 1 (by decide) i j)).trans ?_
  rw [← emb1]; exact View.canon_cons_emb (Val := Elt Ideal) (e := .f32) r0_11 w1 _ (ix3 0 i j)
theorem canon0 (i j : Fin 240) : View.canon (Val := Elt Ideal) (s := S3x240x240) (e := .f32) [⟨r0_12, w2⟩, ⟨r0_11, w1⟩, ⟨r0_10, w0⟩] (ix3 0 i j) = w0 (ix3 0 i j) := by
  refine (View.canon_cons_of_not_mem (Val := Elt Ideal) (s := S3x240x240) (e := .f32) (⟨r0_12, w2⟩ : View.Piece (Elt Ideal) S3x240x240 .f32) [⟨r0_11, w1⟩, ⟨r0_10, w0⟩] (off12 0 (by decide) i j)).trans ?_
  refine (View.canon_cons_of_not_mem (Val := Elt Ideal) (s := S3x240x240) (e := .f32) (⟨r0_11, w1⟩ : View.Piece (Elt Ideal) S3x240x240 .f32) [⟨r0_10, w0⟩] (off11 0 (by decide) i j)).trans ?_
  rw [← emb0]
  exact View.canon_cons_emb (Val := Elt Ideal) (e := .f32) r0_10 w0 _ (ix3 0 i j)

end Planes

variable (x0 : Vec Ideal S256x256 .f32) (x1 : Vec Ideal S1x1 .f32) (x2 : Vec Ideal S256x256 .f32) (x3 : Vec Ideal S1x1 .f32)
  (x4 : Vec Ideal S128x128 .f32) (x5 : Vec Ideal S1x1 .f32) (x6 : Vec Ideal S64x64 .f32) (x7 : Vec Ideal S1x1 .f32)
  (x8 : Vec Ideal S240x256 .f32) (x9 : Vec Ideal S256x240 .f32) (x10 : Vec Ideal S240x128 .f32) (x11 : Vec Ideal S128x240 .f32)
  (x12 : Vec Ideal S240x64 .f32) (x13 : Vec Ideal S64x240 .f32)

theorem z2 : (![0, 0] : Fin 2 → Nat) = fun _ => 0 := funext fun a => by fin_cases a <;> rfl

theorem layer0_at : pr (k0_pay37 (F := Ideal) x0 x1 x2 x3 x4 x5 x6 x7 x8 x9 x10 x11 x12 x13) = layer (pr x0) (pr x1 (0, 0)) (pr x8) (pr x9) := by
  refine (k_layer0 (View.ld x0 r0_0) (View.ld x1 r0_1) (View.ld x9 r0_2) (View.ld x8 r0_3)).trans ?_
  rw [View.ld_unit_zero z2, View.ld_unit_zero z2, View.ld_unit_zero z2, View.ld_unit_zero z2]

theorem layer1_at : pr (k0_pay40 (F := Ideal) x0 x1 x2 x3 x4 x5 x6 x7 x8 x9 x10 x11 x12 x13) = layer (pr x2) (pr x3 (0, 0)) (pr x8) (pr x9) := by
  refine (k_layer1 (View.ld x2 r0_0) (View.ld x3 r0_1) (View.ld x9 r0_2) (View.ld x8 r0_3)).trans ?_
  rw [View.ld_unit_zero z2, View.ld_unit_zero z2, View.ld_unit_zero z2, View.ld_unit_zero z2]

theorem layer2_at : pr (k0_pay42 (F := Ideal) x0 x1 x2 x3 x4 x5 x6 x7 x8 x9 x10 x11 x12 x13) = layer (pr x4) (pr x5 (0, 0)) (pr x10) (pr x11) := by
  refine (k_layer2 (View.ld x4 r0_4) (View.ld x5 r0_1) (View.ld x11 r0_5) (View.ld x10 r0_6)).trans ?_
  rw [View.ld_unit_zero z2, View.ld_unit_zero z2, View.ld_unit_zero z2, View.ld_unit_zero z2]

theorem layer3_at : pr (k0_pay44 (F := Ideal) x0 x1 x2 x3 x4 x5 x6 x7 x8 x9 x10 x11 x12 x13) = layer (pr x6) (pr x7 (0, 0)) (pr x12) (pr x13) := by
  refine (k_layer3 (View.ld x6 r0_7) (View.ld x7 r0_1) (View.ld x13 r0_8) (View.ld x12 r0_9)).trans ?_
  rw [View.ld_unit_zero z2, View.ld_unit_zero z2, View.ld_unit_zero z2, View.ld_unit_zero z2]

/-- The first plane: the two largest maps' layers, added and rescaled; the second and the third: one layer each. -/
def plane0 : Fin 240 × Fin 240 → EReal := norm ((256 : ℝ) : EReal) fun q => (layer (pr x0) (pr x1 (0, 0)) (pr x8) (pr x9)) q
  + (layer (pr x2) (pr x3 (0, 0)) (pr x8) (pr x9)) q
def plane1 : Fin 240 × Fin 240 → EReal := norm ((256 : ℝ) : EReal) (layer (pr x4) (pr x5 (0, 0)) (pr x10) (pr x11))
def plane2 : Fin 240 × Fin 240 → EReal := norm ((256 : ℝ) : EReal) (layer (pr x6) (pr x7 (0, 0)) (pr x12) (pr x13))

theorem G14_at : pr (G14 (F := Ideal) x0 x1 x2 x3 x4 x5 x6 x7 x8 x9 x10 x11 x12 x13)
    = fun p => plane0 x0 x1 x2 x3 x8 x9 p + plane1 x4 x5 x10 x11 p + plane2 x6 x7 x12 x13 p := by
  refine (total_eq (k0_pay37 (F := Ideal) x0 x1 x2 x3 x4 x5 x6 x7 x8 x9 x10 x11 x12 x13) (k0_pay40 (F := Ideal) x0 x1 x2 x3 x4 x5 x6 x7 x8 x9 x10 x11 x12 x13)
    (k0_pay42 (F := Ideal) x0 x1 x2 x3 x4 x5 x6 x7 x8 x9 x10 x11 x12 x13) (k0_pay44 (F := Ideal) x0 x1 x2 x3 x4 x5 x6 x7 x8 x9 x10 x11 x12 x13)).trans ?_
  rw [layer0_at, layer1_at, layer2_at, layer3_at]
  rfl

theorem G15_at0 (i j : Fin 240) : G15 (F := Ideal) x0 x1 x2 x3 x4 x5 x6 x7 x8 x9 x10 x11 x12 x13 (ix3 0 i j) = plane0 x0 x1 x2 x3 x8 x9 (i, j) := by
  refine (canon0 _ _ _ i j).trans ((congrFun (first_shape (k0_pay37 (F := Ideal) x0 x1 x2 x3 x4 x5 x6 x7 x8 x9 x10 x11 x12 x13) (k0_pay40 (F := Ideal) x0 x1 x2 x3 x4 x5 x6 x7 x8 x9 x10 x11 x12 x13)) (ix3 0 i j)).trans ?_)
  rw [lift_at]
  have e := congrFun (k_norm256 (k0_pay21 (k0_pay37 (F := Ideal) x0 x1 x2 x3 x4 x5 x6 x7 x8 x9 x10 x11 x12 x13) (k0_pay40 (F := Ideal) x0 x1 x2 x3 x4 x5 x6 x7 x8 x9 x10 x11 x12 x13))) (i, j)
  rw [k_add, layer0_at, layer1_at] at e
  exact e

theorem G15_at1 (i j : Fin 240) : G15 (F := Ideal) x0 x1 x2 x3 x4 x5 x6 x7 x8 x9 x10 x11 x12 x13 (ix3 1 i j) = plane1 x4 x5 x10 x11 (i, j) := by
  refine (canon1 _ _ _ i j).trans ((congrFun (mid_shape (k0_pay42 (F := Ideal) x0 x1 x2 x3 x4 x5 x6 x7 x8 x9 x10 x11 x12 x13)) (ix3 0 i j)).trans ?_)
  rw [lift_at]
  have e := congrFun (k_norm256 (k0_pay42 (F := Ideal) x0 x1 x2 x3 x4 x5 x6 x7 x8 x9 x10 x11 x12 x13)) (i, j)
  rw [layer2_at] at e
  exact e

theorem G15_at2 (i j : Fin 240) : G15 (F := Ideal) x0 x1 x2 x3 x4 x5 x6 x7 x8 x9 x10 x11 x12 x13 (ix3 2 i j) = plane2 x6 x7 x12 x13 (i, j) := by
  refine (canon2 _ _ _ i j).trans ((congrFun (last_shape (k0_pay44 (F := Ideal) x0 x1 x2 x3 x4 x5 x6 x7 x8 x9 x10 x11 x12 x13)) (ix3 0 i j)).trans ?_)
  rw [lift_at]
  have e := congrFun (k_norm256 (k0_pay44 (F := Ideal) x0 x1 x2 x3 x4 x5 x6 x7 x8 x9 x10 x11 x12 x13)) (i, j)
  rw [layer3_at] at e
  exact e

end Cert.Stage2

end
-- ==== Proof.MapsClaim.lean ====
/- The second stage: kernel and reference leave the same two arrays. -/
module

public import proofs.«01_k».proof.Proof.MapsRef
public import proofs.«01_k».proof.Proof.MapsValue
public import proofs.«01_k».proof.Defs
public import proofs.«01_k».proof.Proof.Gen.KBIdeal
public import proofs.«01_k».proof.Proof.Gen.RBIdeal

@[expose] public section

noncomputable section

namespace Cert.Stage2.Host

open Idealize.ShloMosaic Idealize.ShloMosaic.TcCoe Idealize.ShloMosaic.StableHlo Idealize.SL.Sem Cert.RBIdeal Cert.RBIdeal.Gen Cert.RBIdeal.Value Cert.Rarity Cert.Stage2

variable (V0 : Valuation τ sig (Elt Ideal))

theorem zeros : pr ((broadcastInDim S240x240 ![] bcast_S_S240x240 (constant S_ .f32 0x00000000#32)) : FVec Ideal S240x240 .f32) = fun _ => 0 := by
  funext ⟨i, j⟩
  show ((broadcastInDim S240x240 ![] bcast_S_S240x240 (constant S_ .f32 0x00000000#32)) : FVec Ideal S240x240 .f32) (ix2 i j) = 0
  pointwise

theorem add_at (a b : FVec Ideal S240x240 .f32) : pr (addf a b) = fun p => pr a p + pr b p := rfl

theorem fused0 : res_main_v206 V0 = addf (addf (broadcastInDim S240x240 ![] bcast_S_S240x240 (constant S_ .f32 0x00000000#32)) (mulf (h1_240 (res_main_v35 V0)) (hc (res_main_v35 V0)))) (mulf (h1_240 (res_main_v71 V0)) (hc (res_main_v71 V0))) := rfl
theorem fused1 : res_main_v258 V0 = addf (broadcastInDim S240x240 ![] bcast_S_S240x240 (constant S_ .f32 0x00000000#32)) (mulf (h1_240 (res_main_v107 V0)) (hc (res_main_v107 V0))) := rfl
theorem fused2 : res_main_v310 V0 = addf (broadcastInDim S240x240 ![] bcast_S_S240x240 (constant S_ .f32 0x00000000#32)) (mulf (h1_240 (res_main_v143 V0)) (hc (res_main_v143 V0))) := rfl

theorem first (i j : Fin 240) : h256_240 (res_main_v206 V0) (ix2 i j) = (plane0 (V0 (Proc.devRef .tc main_arg0)) (V0 (Proc.devRef .tc main_arg1)) (V0 (Proc.devRef .tc main_arg2)) (V0 (Proc.devRef .tc main_arg3)) (V0 (Proc.devRef .tc main_arg8)) (V0 (Proc.devRef .tc main_arg9))) (i, j) := by
  have e := congrFun (h256_240_eq (res_main_v206 V0)) (i, j)
  rw [fused0, add_at, add_at, zeros, lay0_eq, lay1_eq] at e
  simp only [zero_add] at e
  rw [← fused0] at e
  exact e

theorem second (i j : Fin 240) : h256_240 (res_main_v258 V0) (ix2 i j) = (plane1 (V0 (Proc.devRef .tc main_arg4)) (V0 (Proc.devRef .tc main_arg5)) (V0 (Proc.devRef .tc main_arg10)) (V0 (Proc.devRef .tc main_arg11))) (i, j) := by
  have e := congrFun (h256_240_eq (res_main_v258 V0)) (i, j)
  rw [fused1, add_at, zeros, lay2_eq] at e
  simp only [zero_add] at e
  rw [← fused1] at e
  exact e

theorem third (i j : Fin 240) : h256_240 (res_main_v310 V0) (ix2 i j) = (plane2 (V0 (Proc.devRef .tc main_arg6)) (V0 (Proc.devRef .tc main_arg7)) (V0 (Proc.devRef .tc main_arg12)) (V0 (Proc.devRef .tc main_arg13))) (i, j) := by
  have e := congrFun (h256_240_eq (res_main_v310 V0)) (i, j)
  rw [fused2, add_at, zeros, lay3_eq] at e
  simp only [zero_add] at e
  rw [← fused2] at e
  exact e

/-- The reference's stack of planes. -/
abbrev stack : FVec Ideal S3x240x240 .f32 :=
  planes (h256_240 (res_main_v206 V0)) (h256_240 (res_main_v258 V0)) (h256_240 (res_main_v310 V0))

theorem stack_eq : stack V0 = Cert.KBIdeal.Value.G15 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  funext y
  obtain ⟨k, i, j, rfl⟩ : ∃ k i j, y = ix3 k i j := ⟨y 0, y 1, y 2, by funext a; fin_cases a <;> rfl⟩
  fin_cases k
  · exact (planes0 _ _ _ i j).trans ((first V0 i j).trans (G15_at0 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) i j).symm)
  · exact (planes1 _ _ _ i j).trans ((second V0 i j).trans (G15_at1 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) i j).symm)
  · exact (planes2 _ _ _ i j).trans ((third V0 i j).trans (G15_at2 (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) i j).symm)

theorem total_eq : Host.reduceAdd (stack V0) (constant S_ .f32 0x00000000#32) reducesTo_S3x240x240_S240x240_d0 h_S_
    = Cert.KBIdeal.Value.G14 (F := Ideal) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  funext y
  obtain ⟨i, j, rfl⟩ : ∃ i j, y = ix2 i j := ⟨y 0, y 1, by funext a; fin_cases a <;> rfl⟩
  refine (total _ _ _ i j).trans ?_
  rw [first, second, third]
  exact (congrFun (G14_at (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13))) (i, j)).symm

end Cert.Stage2.Host

namespace Cert.Proof

open Idealize.ShloMosaic Idealize.ShloMosaic.TcCoe Idealize.ShloMosaic.StableHlo Idealize.SL.Sem Cert

theorem algebraic_KB : algebraic_KBIdeal_RBIdeal (hKBIdeal := Cert.KBIdeal.Gen.facts) (hRBIdeal := Cert.RBIdeal.Gen.facts) := by
  intro m g m' g' _ hm
  refine ⟨fun c => Cert.KBIdeal.Value.G14 (F := Ideal) (m ((c.tc : Thread Cert.KBIdeal.nD Cert.KBIdeal.τ).loc Cert.KBIdeal.main_arg0)) (m ((c.tc : Thread Cert.KBIdeal.nD Cert.KBIdeal.τ).loc Cert.KBIdeal.main_arg1)) (m ((c.tc : Thread Cert.KBIdeal.nD Cert.KBIdeal.τ).loc Cert.KBIdeal.main_arg2)) (m ((c.tc : Thread Cert.KBIdeal.nD Cert.KBIdeal.τ).loc Cert.KBIdeal.main_arg3)) (m ((c.tc : Thread Cert.KBIdeal.nD Cert.KBIdeal.τ).loc Cert.KBIdeal.main_arg4)) (m ((c.tc : Thread Cert.KBIdeal.nD Cert.KBIdeal.τ).loc Cert.KBIdeal.main_arg5)) (m ((c.tc : Thread Cert.KBIdeal.nD Cert.KBIdeal.τ).loc Cert.KBIdeal.main_arg6)) (m ((c.tc : Thread Cert.KBIdeal.nD Cert.KBIdeal.τ).loc Cert.KBIdeal.main_arg7)) (m ((c.tc : Thread Cert.KBIdeal.nD Cert.KBIdeal.τ).loc Cert.KBIdeal.main_arg8)) (m ((c.tc : Thread Cert.KBIdeal.nD Cert.KBIdeal.τ).loc Cert.KBIdeal.main_arg9)) (m ((c.tc : Thread Cert.KBIdeal.nD Cert.KBIdeal.τ).loc Cert.KBIdeal.main_arg10)) (m ((c.tc : Thread Cert.KBIdeal.nD Cert.KBIdeal.τ).loc Cert.KBIdeal.main_arg11)) (m ((c.tc : Thread Cert.KBIdeal.nD Cert.KBIdeal.τ).loc Cert.KBIdeal.main_arg12)) (m ((c.tc : Thread Cert.KBIdeal.nD Cert.KBIdeal.τ).loc Cert.KBIdeal.main_arg13)),
    fun c => Cert.KBIdeal.Value.G15 (F := Ideal) (m ((c.tc : Thread Cert.KBIdeal.nD Cert.KBIdeal.τ).loc Cert.KBIdeal.main_arg0)) (m ((c.tc : Thread Cert.KBIdeal.nD Cert.KBIdeal.τ).loc Cert.KBIdeal.main_arg1)) (m ((c.tc : Thread Cert.KBIdeal.nD Cert.KBIdeal.τ).loc Cert.KBIdeal.main_arg2)) (m ((c.tc : Thread Cert.KBIdeal.nD Cert.KBIdeal.τ).loc Cert.KBIdeal.main_arg3)) (m ((c.tc : Thread Cert.KBIdeal.nD Cert.KBIdeal.τ).loc Cert.KBIdeal.main_arg4)) (m ((c.tc : Thread Cert.KBIdeal.nD Cert.KBIdeal.τ).loc Cert.KBIdeal.main_arg5)) (m ((c.tc : Thread Cert.KBIdeal.nD Cert.KBIdeal.τ).loc Cert.KBIdeal.main_arg6)) (m ((c.tc : Thread Cert.KBIdeal.nD Cert.KBIdeal.τ).loc Cert.KBIdeal.main_arg7)) (m ((c.tc : Thread Cert.KBIdeal.nD Cert.KBIdeal.τ).loc Cert.KBIdeal.main_arg8)) (m ((c.tc : Thread Cert.KBIdeal.nD Cert.KBIdeal.τ).loc Cert.KBIdeal.main_arg9)) (m ((c.tc : Thread Cert.KBIdeal.nD Cert.KBIdeal.τ).loc Cert.KBIdeal.main_arg10)) (m ((c.tc : Thread Cert.KBIdeal.nD Cert.KBIdeal.τ).loc Cert.KBIdeal.main_arg11)) (m ((c.tc : Thread Cert.KBIdeal.nD Cert.KBIdeal.τ).loc Cert.KBIdeal.main_arg12)) (m ((c.tc : Thread Cert.KBIdeal.nD Cert.KBIdeal.τ).loc Cert.KBIdeal.main_arg13)), Cert.KBIdeal.Value.run m g, ?_⟩
  refine (θ_run Cert.RBIdeal.defs _ _).mono (fun r h c => ?_) (Cert.RBIdeal.Value.run (F := Ideal) m' g')
  obtain ⟨h0, h1, hr⟩ := h c
  obtain ⟨e0, e1, e2, e3, e4, e5, e6, e7, e8, e9, e10, e11, e12, e13⟩ := hm c
  refine ⟨h0.trans ((Cert.Stage2.Host.total_eq (launchContents m' c)).trans ?_), h1.trans ((Cert.Stage2.Host.stack_eq (launchContents m' c)).trans ?_), hr⟩
  · rw [show launchContents m' c (Proc.devRef .tc Cert.RBIdeal.main_arg0) = _ from e0, show launchContents m' c (Proc.devRef .tc Cert.RBIdeal.main_arg1) = _ from e1, show launchContents m' c (Proc.devRef .tc Cert.RBIdeal.main_arg2) = _ from e2, show launchContents m' c (Proc.devRef .tc Cert.RBIdeal.main_arg3) = _ from e3, show launchContents m' c (Proc.devRef .tc Cert.RBIdeal.main_arg4) = _ from e4, show launchContents m' c (Proc.devRef .tc Cert.RBIdeal.main_arg5) = _ from e5, show launchContents m' c (Proc.devRef .tc Cert.RBIdeal.main_arg6) = _ from e6, show launchContents m' c (Proc.devRef .tc Cert.RBIdeal.main_arg7) = _ from e7, show launchContents m' c (Proc.devRef .tc Cert.RBIdeal.main_arg8) = _ from e8, show launchContents m' c (Proc.devRef .tc Cert.RBIdeal.main_arg9) = _ from e9, show launchContents m' c (Proc.devRef .tc Cert.RBIdeal.main_arg10) = _ from e10, show launchContents m' c (Proc.devRef .tc Cert.RBIdeal.main_arg11) = _ from e11, show launchContents m' c (Proc.devRef .tc Cert.RBIdeal.main_arg12) = _ from e12, show launchContents m' c (Proc.devRef .tc Cert.RBIdeal.main_arg13) = _ from e13]
  · rw [show launchContents m' c (Proc.devRef .tc Cert.RBIdeal.main_arg0) = _ from e0, show launchContents m' c (Proc.devRef .tc Cert.RBIdeal.main_arg1) = _ from e1, show launchContents m' c (Proc.devRef .tc Cert.RBIdeal.main_arg2) = _ from e2, show launchContents m' c (Proc.devRef .tc Cert.RBIdeal.main_arg3) = _ from e3, show launchContents m' c (Proc.devRef .tc Cert.RBIdeal.main_arg4) = _ from e4, show launchContents m' c (Proc.devRef .tc Cert.RBIdeal.main_arg5) = _ from e5, show launchContents m' c (Proc.devRef .tc Cert.RBIdeal.main_arg6) = _ from e6, show launchContents m' c (Proc.devRef .tc Cert.RBIdeal.main_arg7) = _ from e7, show launchContents m' c (Proc.devRef .tc Cert.RBIdeal.main_arg8) = _ from e8, show launchContents m' c (Proc.devRef .tc Cert.RBIdeal.main_arg9) = _ from e9, show launchContents m' c (Proc.devRef .tc Cert.RBIdeal.main_arg10) = _ from e10, show launchContents m' c (Proc.devRef .tc Cert.RBIdeal.main_arg11) = _ from e11, show launchContents m' c (Proc.devRef .tc Cert.RBIdeal.main_arg12) = _ from e12, show launchContents m' c (Proc.devRef .tc Cert.RBIdeal.main_arg13) = _ from e13]

end Cert.Proof

end
-- ==== Proof.lean ====
module

public import proofs.«01_k».proof.Defs
public import proofs.«01_k».proof.Proof.AccKA
public import proofs.«01_k».proof.Proof.AccKAIdeal
public import proofs.«01_k».proof.Proof.AccKC
public import proofs.«01_k».proof.Proof.AccKCIdeal
public import proofs.«01_k».proof.Proof.AccKD
public import proofs.«01_k».proof.Proof.AccKDIdeal
public import proofs.«01_k».proof.Proof.Gen.KB
public import proofs.«01_k».proof.Proof.Gen.KB.Frame
public import proofs.«01_k».proof.Proof.Gen.KBIdeal
public import proofs.«01_k».proof.Proof.Gen.KBIdeal.Frame
public import proofs.«01_k».proof.Proof.Gen.RBIdeal
public import proofs.«01_k».proof.Proof.Gen.RBIdeal.Run
public import proofs.«01_k».proof.Proof.LayerKAIdeal
public import proofs.«01_k».proof.Proof.LayerKCIdeal
public import proofs.«01_k».proof.Proof.LayerKDIdeal
public import proofs.«01_k».proof.Proof.MapsClaim
public import Idealize.ShloMosaic.Lib.Quiescent

@[expose] public section

noncomputable section

namespace Cert.Proof

open Idealize.ShloMosaic Idealize.SL.Sem

/-- The fusing reference ends with its arguments unchanged; it declares no semaphore. -/
theorem frame_RB : Cert.quiescent_RBIdeal := fun m ρ _ =>
  (θ_run Cert.RBIdeal.defs _ _).mono (fun r h => ⟨fun c => (h c).2.2, sem_eq_zero_of_no_sems (by decide) r.2⟩)
    (Cert.RBIdeal.Value.run (F := Ideal) m ρ)

/-! The layer's reference, at each shape, ends with its argument unchanged; it declares no semaphore. -/

theorem frame_RA : Cert.quiescent_RAIdeal := fun m ρ _ =>
  (θ_run Cert.RAIdeal.defs _ _).mono (fun r h => ⟨fun c => (h c).2.2, sem_eq_zero_of_no_sems (by decide) r.2⟩)
    (Cert.RAIdeal.Value.run (F := Ideal) m ρ)

theorem frame_RC : Cert.quiescent_RCIdeal := fun m ρ _ =>
  (θ_run Cert.RCIdeal.defs _ _).mono (fun r h => ⟨fun c => (h c).2.2, sem_eq_zero_of_no_sems (by decide) r.2⟩)
    (Cert.RCIdeal.Value.run (F := Ideal) m ρ)

theorem frame_RD : Cert.quiescent_RDIdeal := fun m ρ _ =>
  (θ_run Cert.RDIdeal.defs _ _).mono (fun r h => ⟨fun c => (h c).2.2, sem_eq_zero_of_no_sems (by decide) r.2⟩)
    (Cert.RDIdeal.Value.run (F := Ideal) m ρ)

/-! The idealizations' named constants: each is what its word rounds. -/

theorem preserves_KA : Cert.preserves_KA_KAIdeal := ⟨IdealRules.named_const.statement Cert.KAIdeal.κ "sixth_1" .f32 0x3E2AAAAB#32 _ rfl,
  IdealRules.named_const.statement Cert.KAIdeal.κ "sixth_2" .f32 0x3EAAAAAB#32 _ rfl,
  IdealRules.named_const.statement Cert.KAIdeal.κ "sixth_4" .f32 0x3F2AAAAB#32 _ rfl,
  IdealRules.named_const.statement Cert.KAIdeal.κ "sixth_5" .f32 0x3F555555#32 _ rfl,
  IdealRules.named_const.statement Cert.KAIdeal.κ "pick_2" .f32 0x3AAAAAAB#32 _ rfl,
  IdealRules.named_const.statement Cert.KAIdeal.κ "pick_4" .f32 0x3B2AAAAB#32 _ rfl,
  IdealRules.named_const.statement Cert.KAIdeal.κ "pick_5" .f32 0x3B555555#32 _ rfl⟩

theorem preserves_KC : Cert.preserves_KC_KCIdeal := ⟨IdealRules.named_const.statement Cert.KCIdeal.κ "sixth_1" .f32 0x3E2AAAAB#32 _ rfl,
  IdealRules.named_const.statement Cert.KCIdeal.κ "sixth_2" .f32 0x3EAAAAAB#32 _ rfl,
  IdealRules.named_const.statement Cert.KCIdeal.κ "sixth_4" .f32 0x3F2AAAAB#32 _ rfl,
  IdealRules.named_const.statement Cert.KCIdeal.κ "sixth_5" .f32 0x3F555555#32 _ rfl,
  IdealRules.named_const.statement Cert.KCIdeal.κ "pick_2" .f32 0x3AAAAAAB#32 _ rfl,
  IdealRules.named_const.statement Cert.KCIdeal.κ "pick_4" .f32 0x3B2AAAAB#32 _ rfl,
  IdealRules.named_const.statement Cert.KCIdeal.κ "pick_5" .f32 0x3B555555#32 _ rfl⟩

theorem preserves_KD : Cert.preserves_KD_KDIdeal := ⟨IdealRules.named_const.statement Cert.KDIdeal.κ "sixth_1" .f32 0x3E2AAAAB#32 _ rfl,
  IdealRules.named_const.statement Cert.KDIdeal.κ "sixth_2" .f32 0x3EAAAAAB#32 _ rfl,
  IdealRules.named_const.statement Cert.KDIdeal.κ "sixth_4" .f32 0x3F2AAAAB#32 _ rfl,
  IdealRules.named_const.statement Cert.KDIdeal.κ "sixth_5" .f32 0x3F555555#32 _ rfl,
  IdealRules.named_const.statement Cert.KDIdeal.κ "pick_2" .f32 0x3AAAAAAB#32 _ rfl,
  IdealRules.named_const.statement Cert.KDIdeal.κ "pick_4" .f32 0x3B2AAAAB#32 _ rfl,
  IdealRules.named_const.statement Cert.KDIdeal.κ "pick_5" .f32 0x3B555555#32 _ rfl⟩

theorem claim : Cert.Claim := ⟨Cert.KA.Gen.facts, Cert.KAIdeal.Gen.facts, Cert.RAIdeal.Gen.facts, Cert.KC.Gen.facts, Cert.KCIdeal.Gen.facts, Cert.RCIdeal.Gen.facts, Cert.KD.Gen.facts, Cert.KDIdeal.Gen.facts, Cert.RDIdeal.Gen.facts, Cert.KB.Gen.facts, Cert.KBIdeal.Gen.facts, Cert.RBIdeal.Gen.facts, Cert.Pre_finite.Gen.facts, Cert.Pre_finite_mid.Gen.facts, Cert.Pre_finite_small.Gen.facts,
  Cert.On_interior_and_corner_KAIdeal.Gen.facts, Cert.On_interior_and_corner_KCIdeal.Gen.facts, Cert.On_interior_and_corner_KDIdeal.Gen.facts,
  fun m ρ _ => Cert.KA.Acc.frame m ρ, fun m ρ _ => Cert.KAIdeal.Acc.frame m ρ, fun m ρ _ => Cert.KAIdeal.Acc.frame m ρ, frame_RA, fun m ρ _ => frame_RA m ρ trivial, fun m ρ _ => Cert.KC.Acc.frame m ρ, fun m ρ _ => Cert.KCIdeal.Acc.frame m ρ, fun m ρ _ => Cert.KCIdeal.Acc.frame m ρ, frame_RC, fun m ρ _ => frame_RC m ρ trivial, fun m ρ _ => Cert.KD.Acc.frame m ρ, fun m ρ _ => Cert.KDIdeal.Acc.frame m ρ, fun m ρ _ => Cert.KDIdeal.Acc.frame m ρ, frame_RD, fun m ρ _ => frame_RD m ρ trivial,
  fun m ρ _ => Cert.KB.Gen.frame m ρ, fun m ρ _ => Cert.KBIdeal.Gen.frame m ρ, frame_RB,
  preserves_KA, algebraic_KA, preserves_KC, algebraic_KC, preserves_KD, algebraic_KD, trivial, algebraic_KB⟩

end Cert.Proof

end
